-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12)) (v1 : (c : Dev Cert.Kernel2Ideal.nD) → Buf (Elt Ideal) ((c.tc : Thread Cert.Kernel2Ideal.nD Cert.Kernel2Ideal.τ).loc Cert.Kernel2Ideal.main_v11_0)) (v2 : (c : Dev Cert.Kernel2Ideal.nD) → Buf (Elt Ideal) ((c.tc : Thread Cert.Kernel2Ideal.nD Cert.Kernel2Ideal.τ).loc Cert.Kernel2Ideal.main_v11_2)) (v3 : (c : Dev Cert.Kernel2Ideal.nD) → Buf (Elt Ideal) ((c.tc : Thread Cert.Kernel2Ideal.nD Cert.Kernel2Ideal.τ).loc Cert.Kernel2Ideal.main_v9)) (v4 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_v11_0) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_v9) = v3 c
          ∧ r.2.mem ((c.tc : Thread Cert.Kernel2Ideal.nD Cert.Kernel2Ideal.τ).loc Cert.Kernel2Ideal.main_v8) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_v60) = v2 c
          ∧ r.2.mem ((c.tc : Thread Cert.Reference2Ideal.nD Cert.Reference2Ideal.τ).loc Cert.Reference2Ideal.main_v63) = v3 c
          ∧ r.2.mem ((c.tc : Thread Cert.Reference2Ideal.nD Cert.Reference2Ideal.τ).loc Cert.Reference2Ideal.main_v64) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7)) (v1 : (c : Dev Cert.Kernel3Ideal.nD) → Buf (Elt Ideal) ((c.tc : Thread Cert.Kernel3Ideal.nD Cert.Kernel3Ideal.τ).loc Cert.Kernel3Ideal.main_v12_0)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v12_2)) (v4 : (c : Dev Cert.Kernel3Ideal.nD) → Buf (Elt Ideal) ((c.tc : Thread Cert.Kernel3Ideal.nD Cert.Kernel3Ideal.τ).loc Cert.Kernel3Ideal.main_v9)) (v5 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_v12_0) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v12_2) = v3 c
          ∧ r.2.mem ((c.tc : Thread Cert.Kernel3Ideal.nD Cert.Kernel3Ideal.τ).loc Cert.Kernel3Ideal.main_v9) = v4 c
          ∧ r.2.mem ((c.tc : Thread Cert.Kernel3Ideal.nD Cert.Kernel3Ideal.τ).loc Cert.Kernel3Ideal.main_v10) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_v74) = v1 c
          ∧ r.2.mem ((c.tc : Thread Cert.Reference3Ideal.nD Cert.Reference3Ideal.τ).loc Cert.Reference3Ideal.main_v96) = v2 c
          ∧ r.2.mem ((c.tc : Thread Cert.Reference3Ideal.nD Cert.Reference3Ideal.τ).loc Cert.Reference3Ideal.main_v75) = v3 c
          ∧ r.2.mem ((c.tc : Thread Cert.Reference3Ideal.nD Cert.Reference3Ideal.τ).loc Cert.Reference3Ideal.main_v101) = v4 c
          ∧ r.2.mem ((c.tc : Thread Cert.Reference3Ideal.nD Cert.Reference3Ideal.τ).loc Cert.Reference3Ideal.main_v102) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)) (v1 : (c : Dev Cert.Kernel4Ideal.nD) → Buf (Elt Ideal) ((c.tc : Thread Cert.Kernel4Ideal.nD Cert.Kernel4Ideal.τ).loc Cert.Kernel4Ideal.main_v5)) (v2 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_v5) = v1 c
          ∧ r.2.mem ((c.tc : Thread Cert.Kernel4Ideal.nD Cert.Kernel4Ideal.τ).loc Cert.Kernel4Ideal.main_v6) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3)) (v1 : (c : Dev Cert.Kernel5Ideal.nD) → Buf (Elt Ideal) ((c.tc : Thread Cert.Kernel5Ideal.nD Cert.Kernel5Ideal.τ).loc Cert.Kernel5Ideal.main_v6_0)) (v2 : (c : Dev Cert.Kernel5Ideal.nD) → Buf (Elt Ideal) ((c.tc : Thread Cert.Kernel5Ideal.nD Cert.Kernel5Ideal.τ).loc Cert.Kernel5Ideal.main_v6_1)) (v3 : (c : Dev Cert.Kernel5Ideal.nD) → Buf (Elt Ideal) ((c.tc : Thread Cert.Kernel5Ideal.nD Cert.Kernel5Ideal.τ).loc Cert.Kernel5Ideal.main_v6_2)) (v4 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_v6_0) = v1 c
          ∧ r.2.mem ((c.tc : Thread Cert.Kernel5Ideal.nD Cert.Kernel5Ideal.τ).loc Cert.Kernel5Ideal.main_v6_1) = v2 c
          ∧ r.2.mem ((c.tc : Thread Cert.Kernel5Ideal.nD Cert.Kernel5Ideal.τ).loc Cert.Kernel5Ideal.main_v6_2) = v3 c
          ∧ r.2.mem ((c.tc : Thread Cert.Kernel5Ideal.nD Cert.Kernel5Ideal.τ).loc Cert.Kernel5Ideal.main_v5) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_v59) = v1 c
          ∧ r.2.mem ((c.tc : Thread Cert.Reference5Ideal.nD Cert.Reference5Ideal.τ).loc Cert.Reference5Ideal.main_v35) = v2 c
          ∧ r.2.mem ((c.tc : Thread Cert.Reference5Ideal.nD Cert.Reference5Ideal.τ).loc Cert.Reference5Ideal.main_v32) = v3 c
          ∧ r.2.mem ((c.tc : Thread Cert.Reference5Ideal.nD Cert.Reference5Ideal.τ).loc Cert.Reference5Ideal.main_v60) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts) (hPre_finite_ffn : Cert.Pre_finite_ffn.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_ffn.lean ====
abbrev S2048x2048 : Shape := ⟨2, ![2048, 2048]⟩
abbrev S1x2048 : Shape := ⟨2, ![1, 2048]⟩
abbrev S2048x11264 : Shape := ⟨2, ![2048, 11264]⟩
abbrev S5632x2048 : Shape := ⟨2, ![5632, 2048]⟩
abbrev S_ : Shape := ⟨0, ![]⟩

class Facts : Prop where
  bcast_S_S1x2048 : S_.BroadcastsInDim S1x2048 (![] : Fin 0 → Fin S1x2048.rank)
  bcast_S_S2048x11264 : S_.BroadcastsInDim S2048x11264 (![] : Fin 0 → Fin S2048x11264.rank)
  bcast_S_S5632x2048 : S_.BroadcastsInDim S5632x2048 (![] : Fin 0 → Fin S5632x2048.rank)
  bcast_S_S2048x2048 : S_.BroadcastsInDim S2048x2048 (![] : Fin 0 → Fin S2048x2048.rank)

variable [Facts]

def fn {F : FTy → Type} [FloatOps F] (main_arg0 : FVec F S2048x2048 .f32) (main_arg1 : FVec F S1x2048 .f32) (main_arg2 : FVec F S2048x11264 .f32) (main_arg3 : FVec F S5632x2048 .f32) (main_arg4 : FVec F S2048x2048 .f32) : IVec S1x2048 1 × IVec S2048x11264 1 × IVec S5632x2048 1 × IVec S2048x2048 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S2048x11264 .f32 := Host.absf main_arg2
  let main_cst_0 : FVec F S_ .f32 := constant S_ .f32 0x7F800000#32
  let main_v4 : FVec F S2048x11264 .f32 := broadcastInDim S2048x11264 ![] bcast_S_S2048x11264 main_cst_0
  let main_v5 : IVec S2048x11264 1 := cmpf .olt main_v3 main_v4
  let main_v6 : FVec F S5632x2048 .f32 := Host.absf main_arg3
  let main_cst_1 : FVec F S_ .f32 := constant S_ .f32 0x7F800000#32
  let main_v7 : FVec F S5632x2048 .f32 := broadcastInDim S5632x2048 ![] bcast_S_S5632x2048 main_cst_1
  let main_v8 : IVec S5632x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  (main_v2, main_v5, main_v8, main_v11)
-- ==== Pre_finite_qk.lean ====
abbrev S2048x16x192 : Shape := ⟨3, ![2048, 16, 192]⟩
abbrev S2048x16x128 : Shape := ⟨3, ![2048, 16, 128]⟩
abbrev S_ : Shape := ⟨0, ![]⟩

class Facts : Prop where
  bcast_S_S2048x16x192 : S_.BroadcastsInDim S2048x16x192 (![] : Fin 0 → Fin S2048x16x192.rank)

variable [Facts]

def fn {F : FTy → Type} [FloatOps F] (main_arg0 : FVec F S2048x16x192 .f32) (main_arg1 : FVec F S2048x16x192 .f32) (main_arg2 : FVec F S2048x16x128 .f32) (main_arg3 : FVec F S2048x16x128 .f32) : IVec S2048x16x192 1 × IVec S2048x16x192 1 :=
  let main_v0 : FVec F S2048x16x192 .f32 := Host.absf main_arg0
  let main_cst : FVec F S_ .f32 := constant S_ .f32 0x7F800000#32
  let main_v1 : FVec F S2048x16x192 .f32 := broadcastInDim S2048x16x192 ![] bcast_S_S2048x16x192 main_cst
  let main_v2 : IVec S2048x16x192 1 := cmpf .olt main_v0 main_v1
  let main_v3 : FVec F S2048x16x192 .f32 := Host.absf main_arg1
  let main_cst_0 : FVec F S_ .f32 := constant S_ .f32 0x7F800000#32
  let main_v4 : FVec F S2048x16x192 .f32 := broadcastInDim S2048x16x192 ![] bcast_S_S2048x16x192 main_cst_0
  let main_v5 : IVec S2048x16x192 1 := cmpf .olt main_v3 main_v4
  (main_v2, main_v5)
-- ==== Kernel.lean ====
abbrev S2048x16x192 : Shape := ⟨3, ![2048, 16, 192]⟩
abbrev S2048x16x128 : Shape := ⟨3, ![2048, 16, 128]⟩
abbrev S16x2048x192 : Shape := ⟨3, ![16, 2048, 192]⟩
abbrev S_ : Shape := ⟨0, ![]⟩
abbrev S16x2048x256 : Shape := ⟨3, ![16, 2048, 256]⟩
abbrev S16x2048x128 : Shape := ⟨3, ![16, 2048, 128]⟩
abbrev S2048x2048 : Shape := ⟨2, ![2048, 2048]⟩
abbrev S1x512x256 : Shape := ⟨3, ![1, 512, 256]⟩
abbrev S1x2048x256 : Shape := ⟨3, ![1, 2048, 256]⟩
abbrev S1x2048x128 : Shape := ⟨3, ![1, 2048, 128]⟩
abbrev S512x128 : Shape := ⟨2, ![512, 128]⟩
abbrev S2048x256 : Shape := ⟨2, ![2048, 256]⟩
abbrev S2048x128 : Shape := ⟨2, ![2048, 128]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩
abbrev S1x1024x256 : Shape := ⟨3, ![1, 1024, 256]⟩
abbrev S1024x256 : Shape := ⟨2, ![1024, 256]⟩
abbrev S512x1024 : Shape := ⟨2, ![512, 1024]⟩
abbrev S1x1024x128 : Shape := ⟨3, ![1, 1024, 128]⟩
abbrev S1024x128 : Shape := ⟨2, ![1024, 128]⟩
abbrev S1x1536x256 : Shape := ⟨3, ![1, 1536, 256]⟩
abbrev S1536x256 : Shape := ⟨2, ![1536, 256]⟩
abbrev S512x1536 : Shape := ⟨2, ![512, 1536]⟩
abbrev S1x1536x128 : Shape := ⟨3, ![1, 1536, 128]⟩
abbrev S1536x128 : Shape := ⟨2, ![1536, 128]⟩
abbrev S512x2048 : Shape := ⟨2, ![512, 2048]⟩

abbrev nBuf : Space → Nat
  | .hbm => 21
  | .vmem => 14
  | .smem => 0
  | _ => 0

abbrev bufTy : (tb : Table) → Fin (tcTables nBuf tb) → BufTy
  | .hbm, ⟨0, _⟩ => ⟨S2048x16x192, .f32⟩
  | .hbm, ⟨1, _⟩ => ⟨S2048x16x192, .f32⟩
  | .hbm, ⟨2, _⟩ => ⟨S2048x16x128, .f32⟩
  | .hbm, ⟨3, _⟩ => ⟨S2048x16x128, .f32⟩
  | .hbm, ⟨4, _⟩ => ⟨S16x2048x192, .f32⟩
  | .hbm, ⟨5, _⟩ => ⟨S_, .i32⟩
  | .hbm, ⟨6, _⟩ => ⟨S_, .f32⟩
  | .hbm, ⟨7, _⟩ => ⟨S16x2048x256, .f32⟩
  | .hbm, ⟨8, _⟩ => ⟨S16x2048x256, .bf16⟩
  | .hbm, ⟨9, _⟩ => ⟨S16x2048x192, .f32⟩
  | .hbm, ⟨10, _⟩ => ⟨S_, .i32⟩
  | .hbm, ⟨11, _⟩ => ⟨S_, .f32⟩
  | .hbm, ⟨12, _⟩ => ⟨S16x2048x256, .f32⟩
  | .hbm, ⟨13, _⟩ => ⟨S16x2048x256, .bf16⟩
  | .hbm, ⟨14, _⟩ => ⟨S16x2048x128, .f32⟩
  | .hbm, ⟨15, _⟩ => ⟨S16x2048x128, .bf16⟩
  | .hbm, ⟨16, _⟩ => ⟨S2048x2048, .f32⟩
  | .hbm, ⟨17, _⟩ => ⟨S2048x2048, .bf16⟩
  | .hbm, ⟨18, _⟩ => ⟨S16x2048x256, .f32⟩
  | .hbm, ⟨19, _⟩ => ⟨S16x2048x256, .f32⟩
  | .hbm, ⟨20, _⟩ => ⟨S16x2048x128, .f32⟩
  | .local _ .vmem, ⟨0, _⟩ => ⟨S1x512x256, .bf16⟩
  | .local _ .vmem, ⟨1, _⟩ => ⟨S1x512x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S512x128, .bf16⟩
  | .local _ .vmem, ⟨7, _⟩ => ⟨S512x128, .bf16⟩
  | .local _ .vmem, ⟨8, _⟩ => ⟨S1x512x256, .f32⟩
  | .local _ .vmem, ⟨9, _⟩ => ⟨S1x512x256, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x128, .f32⟩
  | .local _ .vmem, ⟨13, _⟩ => ⟨S1x2048x128, .f32⟩
  | _, _ => ⟨S2048x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2048x16x192 : Shape := ⟨3, ![2048, 16, 192]⟩
abbrev S2048x16x128 : Shape := ⟨3, ![2048, 16, 128]⟩
abbrev S16x2048x2048 : Shape := ⟨3, ![16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x2048 : Shape := ⟨2, ![16, 2048]⟩
abbrev S16x2048x1 : Shape := ⟨3, ![16, 2048, 1]⟩
abbrev S16x128x2048 : Shape := ⟨3, ![16, 128, 2048]⟩
abbrev S16x2048x192 : Shape := ⟨3, ![16, 2048, 192]⟩
abbrev S16x2048x256 : Shape := ⟨3, ![16, 2048, 256]⟩
abbrev S16x2048x128 : Shape := ⟨3, ![16, 2048, 128]⟩

abbrev nBuf : Space → Nat
  | .hbm => 99
  | .vmem => 0
  | .smem => 0
  | _ => 0

abbrev bufTy : (tb : Table) → Fin (tcTables nBuf tb) → BufTy
  | .hbm, ⟨0, _⟩ => ⟨S2048x16x192, .f32⟩
  | .hbm, ⟨1, _⟩ => ⟨S2048x16x192, .f32⟩
  | .hbm, ⟨2, _⟩ => ⟨S2048x16x128, .f32⟩
  | .hbm, ⟨3, _⟩ => ⟨S2048x16x128, .f32⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S2048, .i32⟩
  | .hbm, ⟨9, _⟩ => ⟨S2048x1, .i32⟩
  | .hbm, ⟨10, _⟩ => ⟨S2048, .i32⟩
  | .hbm, ⟨11, _⟩ => ⟨S1x2048, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S_, .f32⟩
  | .hbm, ⟨16, _⟩ => ⟨S_, .f32⟩
  | .hbm, ⟨17, _⟩ => ⟨S16x2048x2048, .i1⟩
  | .hbm, ⟨18, _⟩ => ⟨S16x2048x2048, .f32⟩
  | .hbm, ⟨19, _⟩ => ⟨S16x2048x2048, .f32⟩
  | .hbm, ⟨20, _⟩ => ⟨S_, .f32⟩
  | .hbm, ⟨21, _⟩ => ⟨S16x2048x2048, .f32⟩
  | .hbm, ⟨22, _⟩ => ⟨S_, .f32⟩
  | .hbm, ⟨23, _⟩ => ⟨S16x2048, .f32⟩
  | .hbm, ⟨24, _⟩ => ⟨S16x2048x1, .f32⟩
  | .hbm, ⟨25, _⟩ => ⟨S16x2048x2048, .f32⟩
  | .hbm, ⟨26, _⟩ => ⟨S16x2048x2048, .i1⟩
  | .hbm, ⟨27, _⟩ => ⟨S16x2048x2048, .f32⟩
  | .hbm, ⟨28, _⟩ => ⟨S_, .f32⟩
  | .hbm, ⟨29, _⟩ => ⟨S16x2048, .f32⟩
  | .hbm, ⟨30, _⟩ => ⟨S_, .f32⟩
  | .hbm, ⟨31, _⟩ => ⟨S16x2048, .f32⟩
  | .hbm, ⟨32, _⟩ => ⟨S16x2048, .f32⟩
  | .hbm, ⟨33, _⟩ => ⟨S_, .f32⟩
  | .hbm, ⟨34, _⟩ => ⟨S16x2048, .f32⟩
  | .hbm, ⟨35, _⟩ => ⟨S16x2048, .i1⟩
  | .hbm, ⟨36, _⟩ => ⟨S_, .f32⟩
  | .hbm, ⟨37, _⟩ => ⟨S16x2048, .f32⟩
  | .hbm, ⟨38, _⟩ => ⟨S16x2048, .i1⟩
  | .hbm, ⟨39, _⟩ => ⟨S_, .f32⟩
  | .hbm, ⟨40, _⟩ => ⟨S16x2048, .f32⟩
  | .hbm, ⟨41, _⟩ => ⟨S_, .f32⟩
  | .hbm, ⟨42, _⟩ => ⟨S16x2048, .f32⟩
  | .hbm, ⟨43, _⟩ => ⟨S_, .f32⟩
  | .hbm, ⟨44, _⟩ => ⟨S16x2048, .f32⟩
  | .hbm, ⟨45, _⟩ => ⟨S16x2048, .f32⟩
  | .hbm, ⟨46, _⟩ => ⟨S16x2048, .f32⟩
  | .hbm, ⟨47, _⟩ => ⟨S16x2048x1, .f32⟩
  | .hbm, ⟨48, _⟩ => ⟨S16x2048x2048, .f32⟩
  | .hbm, ⟨49, _⟩ => ⟨S16x2048x2048, .f32⟩
  | .hbm, ⟨50, _⟩ => ⟨S16x2048x2048, .f32⟩
  | .hbm, ⟨51, _⟩ => ⟨S_, .f32⟩
  | .hbm, ⟨52, _⟩ => ⟨S16x2048, .f32⟩
  | .hbm, ⟨53, _⟩ => ⟨S16x2048x1, .f32⟩
  | .hbm, ⟨54, _⟩ => ⟨S16x2048x2048, .f32⟩
  | .hbm, ⟨55, _⟩ => ⟨S16x2048x2048, .f32⟩
  | .hbm, ⟨56, _⟩ => ⟨S16x2048x1, .f32⟩
  | .hbm, ⟨57, _⟩ => ⟨S_, .f32⟩
  | .hbm, ⟨58, _⟩ => ⟨S16x2048x1, .f32⟩
  | .hbm, ⟨59, _⟩ => ⟨S16x2048x1, .f32⟩
  | .hbm, ⟨60, _⟩ => ⟨S16x128x2048, .f32⟩
  | .hbm, ⟨61, _⟩ => ⟨S2048x16x128, .f32⟩
  | .hbm, ⟨62, _⟩ => ⟨S16x128x2048, .f32⟩
  | .hbm, ⟨63, _⟩ => ⟨S16x2048x2048, .f32⟩
  | .hbm, ⟨64, _⟩ => ⟨S16x128x2048, .f32⟩
  | .hbm, ⟨65, _⟩ => ⟨S2048x16x128, .f32⟩
  | .hbm, ⟨66, _⟩ => ⟨S16x2048x2048, .f32⟩
  | .hbm, ⟨67, _⟩ => ⟨S16x2048x2048, .f32⟩
  | .hbm, ⟨68, _⟩ => ⟨S16x2048x2048, .f32⟩
  | .hbm, ⟨69, _⟩ => ⟨S_, .f32⟩
  | .hbm, ⟨70, _⟩ => ⟨S16x2048, .f32⟩
  | .hbm, ⟨71, _⟩ => ⟨S16x2048x1, .f32⟩
  | .hbm, ⟨72, _⟩ => ⟨S16x2048x1, .f32⟩
  | .hbm, ⟨73, _⟩ => ⟨S16x2048x2048, .f32⟩
  | .hbm, ⟨74, _⟩ => ⟨S16x2048x2048, .f32⟩
  | .hbm, ⟨75, _⟩ => ⟨S_, .f32⟩
  | .hbm, ⟨76, _⟩ => ⟨S16x2048, .f32⟩
  | .hbm, ⟨77, _⟩ => ⟨S16x2048x2048, .f32⟩
  | .hbm, ⟨78, _⟩ => ⟨S16x2048x2048, .f32⟩
  | .hbm, ⟨79, _⟩ => ⟨S16x2048x2048, .f32⟩
  | .hbm, ⟨80, _⟩ => ⟨S_, .f32⟩
  | .hbm, ⟨81, _⟩ => ⟨S16x2048x2048, .f32⟩
  | .hbm, ⟨82, _⟩ => ⟨S16x2048x2048, .f32⟩
  | .hbm, ⟨83, _⟩ => ⟨S_, .f32⟩
  | .hbm, ⟨84, _⟩ => ⟨S16x2048x2048, .f32⟩
  | .hbm, ⟨85, _⟩ => ⟨S16x2048x2048, .f32⟩
  | .hbm, ⟨86, _⟩ => ⟨S16x2048x192, .f32⟩
  | .hbm, ⟨87, _⟩ => ⟨S2048x16x192, .f32⟩
  | .hbm, ⟨88, _⟩ => ⟨S16x2048x192, .f32⟩
  | .hbm, ⟨89, _⟩ => ⟨S2048x16x192, .f32⟩
  | .hbm, ⟨90, _⟩ => ⟨S16x2048x192, .f32⟩
  | .hbm, ⟨91, _⟩ => ⟨S_, .i32⟩
  | .hbm, ⟨92, _⟩ => ⟨S_, .f32⟩
  | .hbm, ⟨93, _⟩ => ⟨S16x2048x256, .f32⟩
  | .hbm, ⟨94, _⟩ => ⟨S16x2048x192, .f32⟩
  | .hbm, ⟨95, _⟩ => ⟨S_, .i32⟩
  | .hbm, ⟨96, _⟩ => ⟨S_, .f32⟩
  | .hbm, ⟨97, _⟩ => ⟨S16x2048x256, .f32⟩
  | .hbm, ⟨98, _⟩ => ⟨S16x2048x128, .f32⟩
  | _, _ => ⟨S2048x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_call3_v0 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]
-- ==== Kernel2.lean ====
abbrev S2048x2048 : Shape := ⟨2, ![2048, 2048]⟩
abbrev S1x2048 : Shape := ⟨2, ![1, 2048]⟩
abbrev S2048x11264 : Shape := ⟨2, ![2048, 11264]⟩
abbrev S5632x2048 : Shape := ⟨2, ![5632, 2048]⟩
abbrev S2048x8x1408 : Shape := ⟨3, ![2048, 8, 1408]⟩
abbrev S8x2048x1408 : Shape := ⟨3, ![8, 2048, 1408]⟩
abbrev S512x2048 : Shape := ⟨2, ![512, 2048]⟩
abbrev S512 : Shape := ⟨1, ![512]⟩
abbrev S512x1 : Shape := ⟨2, ![512, 1]⟩
abbrev S2x2048x5632 : Shape := ⟨3, ![2, 2048, 5632]⟩
abbrev S2048x5632 : Shape := ⟨2, ![2048, 5632]⟩
abbrev S256x2048 : Shape := ⟨2, ![256, 2048]⟩
abbrev S1x2048x1408 : Shape := ⟨3, ![1, 2048, 1408]⟩
abbrev S2x256x1408 : Shape := ⟨3, ![2, 256, 1408]⟩
abbrev S256x1408 : Shape := ⟨2, ![256, 1408]⟩
abbrev S2048x1408 : Shape := ⟨2, ![2048, 1408]⟩
abbrev S1x256x1408 : Shape := ⟨3, ![1, 256, 1408]⟩
abbrev S1408x2048 : Shape := ⟨2, ![1408, 2048]⟩
abbrev S2x512x1408 : Shape := ⟨3, ![2, 512, 1408]⟩
abbrev S512x1408 : Shape := ⟨2, ![512, 1408]⟩
abbrev S1x512x1408 : Shape := ⟨3, ![1, 512, 1408]⟩
abbrev S2048x512 : Shape := ⟨2, ![2048, 512]⟩
abbrev S1x1024x1408 : Shape := ⟨3, ![1, 1024, 1408]⟩
abbrev S1024x1024 : Shape := ⟨2, ![1024, 1024]⟩
abbrev S1024x1408 : Shape := ⟨2, ![1024, 1408]⟩
abbrev S256 : Shape := ⟨1, ![256]⟩
abbrev S256x1 : Shape := ⟨2, ![256, 1]⟩
abbrev S2048 : Shape := ⟨1, ![2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 21
  | .vmem => 65
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x11264, .f32⟩
  | .hbm, ⟨3, _⟩ => ⟨S5632x2048, .f32⟩
  | .hbm, ⟨4, _⟩ => ⟨S2048x2048, .f32⟩
  | .hbm, ⟨5, _⟩ => ⟨S2048x8x1408, .f32⟩
  | .hbm, ⟨6, _⟩ => ⟨S8x2048x1408, .f32⟩
  | .hbm, ⟨7, _⟩ => ⟨S8x2048x1408, .bf16⟩
  | .hbm, ⟨8, _⟩ => ⟨S2048x2048, .bf16⟩
  | .hbm, ⟨9, _⟩ => ⟨S2x2048x5632, .bf16⟩
  | .hbm, ⟨10, _⟩ => ⟨S2048x5632, .bf16⟩
  | .hbm, ⟨11, _⟩ => ⟨S5632x2048, .bf16⟩
  | .hbm, ⟨12, _⟩ => ⟨S2048x2048, .bf16⟩
  | .hbm, ⟨13, _⟩ => ⟨S2x2048x5632, .bf16⟩
  | .hbm, ⟨14, _⟩ => ⟨S5632x2048, .bf16⟩
  | .hbm, ⟨15, _⟩ => ⟨S8x2048x1408, .bf16⟩
  | .hbm, ⟨16, _⟩ => ⟨S2048x2048, .f32⟩
  | .hbm, ⟨17, _⟩ => ⟨S2048x2048, .f32⟩
  | .hbm, ⟨18, _⟩ => ⟨S2048x2048, .bf16⟩
  | .hbm, ⟨19, _⟩ => ⟨S1x2048, .f32⟩
  | .hbm, ⟨20, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S256x2048, .bf16⟩
  | .local _ .vmem, ⟨6, _⟩ => ⟨S256x2048, .bf16⟩
  | .local _ .vmem, ⟨7, _⟩ => ⟨S1x2048x1408, .bf16⟩
  | .local _ .vmem, ⟨8, _⟩ => ⟨S1x2048x1408, .bf16⟩
  | .local _ .vmem, ⟨9, _⟩ => ⟨S1x2048x1408, .bf16⟩
  | .local _ .vmem, ⟨10, _⟩ => ⟨S1x2048x1408, .bf16⟩
  | .local _ .vmem, ⟨11, _⟩ => ⟨S2x256x1408, .bf16⟩
  | .local _ .vmem, ⟨12, _⟩ => ⟨S2x256x1408, .bf16⟩
  | .local _ .vmem, ⟨13, _⟩ => ⟨S256x1408, .bf16⟩
  | .local _ .vmem, ⟨14, _⟩ => ⟨S256x1408, .bf16⟩
  | .local _ .vmem, ⟨15, _⟩ => ⟨S512x2048, .bf16⟩
  | .local _ .vmem, ⟨16, _⟩ => ⟨S512x2048, .bf16⟩
  | .local _ .vmem, ⟨17, _⟩ => ⟨S1408x2048, .bf16⟩
  | .local _ .vmem, ⟨18, _⟩ => ⟨S1408x2048, .bf16⟩
  | .local _ .vmem, ⟨19, _⟩ => ⟨S2x512x1408, .bf16⟩
  | .local _ .vmem, ⟨20, _⟩ => ⟨S2x512x1408, .bf16⟩
  | .local _ .vmem, ⟨21, _⟩ => ⟨S2x512x1408, .bf16⟩
  | .local _ .vmem, ⟨22, _⟩ => ⟨S2x512x1408, .bf16⟩
  | .local _ .vmem, ⟨23, _⟩ => ⟨S2048x512, .bf16⟩
  | .local _ .vmem, ⟨24, _⟩ => ⟨S2048x512, .bf16⟩
  | .local _ .vmem, ⟨25, _⟩ => ⟨S2048x2048, .bf16⟩
  | .local _ .vmem, ⟨26, _⟩ => ⟨S512x2048, .bf16⟩
  | .local _ .vmem, ⟨27, _⟩ => ⟨S512x2048, .bf16⟩
  | .local _ .vmem, ⟨28, _⟩ => ⟨S2048x512, .bf16⟩
  | .local _ .vmem, ⟨29, _⟩ => ⟨S2048x512, .bf16⟩
  | .local _ .vmem, ⟨30, _⟩ => ⟨S1x2048x1408, .bf16⟩
  | .local _ .vmem, ⟨31, _⟩ => ⟨S1x2048x1408, .bf16⟩
  | .local _ .vmem, ⟨32, _⟩ => ⟨S1x512x1408, .bf16⟩
  | .local _ .vmem, ⟨33, _⟩ => ⟨S1x512x1408, .bf16⟩
  | .local _ .vmem, ⟨34, _⟩ => ⟨S1x1024x1408, .bf16⟩
  | .local _ .vmem, ⟨35, _⟩ => ⟨S1x1024x1408, .bf16⟩
  | .local _ .vmem, ⟨36, _⟩ => ⟨S1x1024x1408, .bf16⟩
  | .local _ .vmem, ⟨37, _⟩ => ⟨S1x1024x1408, .bf16⟩
  | .local _ .vmem, ⟨38, _⟩ => ⟨S1x1024x1408, .bf16⟩
  | .local _ .vmem, ⟨39, _⟩ => ⟨S1x1024x1408, .bf16⟩
  | .local _ .vmem, ⟨40, _⟩ => ⟨S1x1024x1408, .bf16⟩
  | .local _ .vmem, ⟨41, _⟩ => ⟨S1x1024x1408, .bf16⟩
  | .local _ .vmem, ⟨42, _⟩ => ⟨S1024x1024, .f32⟩
  | .local _ .vmem, ⟨43, _⟩ => ⟨S1024x1024, .f32⟩
  | .local _ .vmem, ⟨44, _⟩ => ⟨S1024x1024, .f32⟩
  | .local _ .vmem, ⟨45, _⟩ => ⟨S256x2048, .f32⟩
  | .local _ .vmem, ⟨46, _⟩ => ⟨S256x2048, .f32⟩
  | .local _ .vmem, ⟨47, _⟩ => ⟨S256x2048, .f32⟩
  | .local _ .vmem, ⟨48, _⟩ => ⟨S256x2048, .f32⟩
  | .local _ .vmem, ⟨49, _⟩ => ⟨S256x2048, .f32⟩
  | .local _ .vmem, ⟨50, _⟩ => ⟨S256x2048, .f32⟩
  | .local _ .vmem, ⟨51, _⟩ => ⟨S1x2048, .f32⟩
  | .local _ .vmem, ⟨52, _⟩ => ⟨S256x2048, .f32⟩
  | .local _ .vmem, ⟨53, _⟩ => ⟨S256x2048, .f32⟩
  | .local _ .vmem, ⟨54, _⟩ => ⟨S256x2048, .bf16⟩
  | .local _ .vmem, ⟨55, _⟩ => ⟨S256x2048, .bf16⟩
  | .local _ .vmem, ⟨56, _⟩ => ⟨S1x2048, .f32⟩
  | .local _ .vmem, ⟨57, _⟩ => ⟨S1024x5632, .bf16⟩
  | .local _ .vmem, ⟨58, _⟩ => ⟨S1024x5632, .bf16⟩
  | .local _ .vmem, ⟨59, _⟩ => ⟨S5632x512, .bf16⟩
  | .local _ .vmem, ⟨60, _⟩ => ⟨S5632x512, .bf16⟩
  | .local _ .vmem, ⟨61, _⟩ => ⟨S1024x512, .f32⟩
  | .local _ .vmem, ⟨62, _⟩ => ⟨S1024x512, .f32⟩
  | .local _ .vmem, ⟨63, _⟩ => ⟨S1024x512, .f32⟩
  | .local _ .vmem, ⟨64, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc5_stg4_0 : Ref sig .tc := ⟨.vmem, 42, rfl⟩
abbrev cc5_stg4_1 : Ref sig .tc := ⟨.vmem, 43, rfl⟩
abbrev cc5_scratch0 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg4_1 : Ref sig .tc := ⟨.vmem, 53, rfl⟩
abbrev cc6_stg5_0 : Ref sig .tc := ⟨.vmem, 54, rfl⟩
abbrev cc6_stg5_1 : Ref sig .tc := ⟨.vmem, 55, rfl⟩
abbrev cc6_stg6_0 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg2_1 : Ref sig .tc := ⟨.vmem, 62, rfl⟩
abbrev cc7_stg3_0 : Ref sig .tc := ⟨.vmem, 63, rfl⟩
abbrev cc7_stg3_1 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41
abbrev cc5_sem4_0 : DmaSem sig := 42
abbrev cc5_sem4_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc6_sem3_0 : DmaSem sig := 50
abbrev cc6_sem4_0 : DmaSem sig := 51
abbrev cc6_sem4_1 : DmaSem sig := 52
abbrev cc6_sem5_0 : DmaSem sig := 53
abbrev cc6_sem5_1 : DmaSem sig := 54
abbrev cc6_sem6_0 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem2_1 : DmaSem sig := 61
abbrev cc7_sem3_0 : DmaSem sig := 62
abbrev cc7_sem3_1 : DmaSem sig := 63

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  let c0_i32_0 : BitVec 32 := 0#32
  ![v0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S2x256x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S256x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![4, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S1408x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S2x512x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2x512x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![11, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![8, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage4_0 : Fin 2 → Memref sig .tc .vmem S2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 2 → Memref sig .tc .vmem S1x2048x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1x512x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 2, 4], ![false, false, false]⟩

def k5_cond3 (i : grid5.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_15 : BitVec 32 := 0#32
  let v19 : BitVec 1 := Scalar.cmpi .ne v18 c0_i32_15
  v19

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc5_transform_3 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  ![v0.toNat, arg1.toNat, c0_i32.toNat]

def cc5_transform_4 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1x1024x1408 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1x1024x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S1x1024x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, true]

abbrev stage5_3 : Fin 2 → Memref sig .tc .vmem S1x1024x1408 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true, true]

abbrev stage5_4 : Fin 2 → Memref sig .tc .vmem S1024x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true, false]

abbrev grid6 : Pipeline.Grid := ⟨1, ![8], ![false]⟩

def k6_cond1 (i : grid6.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_18 : BitVec 32 := 0#32
  let v44 : BitVec 1 := Scalar.cmpi .ne v43 c0_i32_18
  v44

def k6_cond2 (i : grid6.Coords) : BitVec 1 :=
  let arg0 : BitVec 32 := BitVec.ofNat 32 (i 0).val
  let c0_i32_19 : BitVec 32 := 0#32
  let v45 : BitVec 1 := Scalar.cmpi .sgt arg0 c0_i32_19
  let v46 : BitVec 32 := Scalar.extui v45
  let c0_i32_20 : BitVec 32 := 0#32
  let v47 : BitVec 1 := Scalar.cmpi .ne v46 c0_i32_20
  v47

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S256x2048 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x2048 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x2048 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S256x2048 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S256x2048 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x2048 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨3, ![2, 4, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x5632 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S5632x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1024x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]
-- ==== Reference2Ideal.lean ====
abbrev S2048x2048 : Shape := ⟨2, ![2048, 2048]⟩
abbrev S1x2048 : Shape := ⟨2, ![1, 2048]⟩
abbrev S2048x11264 : Shape := ⟨2, ![2048, 11264]⟩
abbrev S5632x2048 : Shape := ⟨2, ![5632, 2048]⟩
abbrev S2048 : Shape := ⟨1, ![2048]⟩
abbrev S_ : Shape := ⟨0, ![]⟩
abbrev S2048x1 : Shape := ⟨2, ![2048, 1]⟩
abbrev S2048x5632 : Shape := ⟨2, ![2048, 5632]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 96
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x11264, .f32⟩
  | .hbm, ⟨3, _⟩ => ⟨S5632x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x11264, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S_, .f32⟩
  | .hbm, ⟨32, _⟩ => ⟨S2048x5632, .f32⟩
  | .hbm, ⟨33, _⟩ => ⟨S2048x5632, .f32⟩
  | .hbm, ⟨34, _⟩ => ⟨S_, .f32⟩
  | .hbm, ⟨35, _⟩ => ⟨S2048x5632, .f32⟩
  | .hbm, ⟨36, _⟩ => ⟨S2048x5632, .f32⟩
  | .hbm, ⟨37, _⟩ => ⟨S_, .f32⟩
  | .hbm, ⟨38, _⟩ => ⟨S2048x5632, .f32⟩
  | .hbm, ⟨39, _⟩ => ⟨S2048x5632, .f32⟩
  | .hbm, ⟨40, _⟩ => ⟨S2048x5632, .f32⟩
  | .hbm, ⟨41, _⟩ => ⟨S2048x5632, .f32⟩
  | .hbm, ⟨42, _⟩ => ⟨S2048x5632, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S2048x5632, .f32⟩
  | .hbm, ⟨53, _⟩ => ⟨S5632x2048, .f32⟩
  | .hbm, ⟨54, _⟩ => ⟨S2048x5632, .f32⟩
  | .hbm, ⟨55, _⟩ => ⟨S2048x5632, .f32⟩
  | .hbm, ⟨56, _⟩ => ⟨S2048x5632, .f32⟩
  | .hbm, ⟨57, _⟩ => ⟨S2048x5632, .f32⟩
  | .hbm, ⟨58, _⟩ => ⟨S2048x5632, .f32⟩
  | .hbm, ⟨59, _⟩ => ⟨S2048x5632, .f32⟩
  | .hbm, ⟨60, _⟩ => ⟨S2048x5632, .f32⟩
  | .hbm, ⟨61, _⟩ => ⟨S2048x11264, .f32⟩
  | .hbm, ⟨62, _⟩ => ⟨S11264x2048, .f32⟩
  | .hbm, ⟨63, _⟩ => ⟨S2048x11264, .f32⟩
  | .hbm, ⟨64, _⟩ => ⟨S2048x2048, .f32⟩
  | .hbm, ⟨65, _⟩ => ⟨S2048x2048, .f32⟩
  | .hbm, ⟨66, _⟩ => ⟨S_, .f32⟩
  | .hbm, ⟨67, _⟩ => ⟨S2048, .f32⟩
  | .hbm, ⟨68, _⟩ => ⟨S1x2048, .f32⟩
  | .hbm, ⟨69, _⟩ => ⟨S2048x2048, .f32⟩
  | .hbm, ⟨70, _⟩ => ⟨S2048x2048, .f32⟩
  | .hbm, ⟨71, _⟩ => ⟨S_, .f32⟩
  | .hbm, ⟨72, _⟩ => ⟨S2048, .f32⟩
  | .hbm, ⟨73, _⟩ => ⟨S2048x2048, .f32⟩
  | .hbm, ⟨74, _⟩ => ⟨S_, .f32⟩
  | .hbm, ⟨75, _⟩ => ⟨S2048, .f32⟩
  | .hbm, ⟨76, _⟩ => ⟨S2048x1, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S1x2048, .f32⟩
  | .hbm, ⟨92, _⟩ => ⟨S2048x8x1408, .f32⟩
  | .hbm, ⟨93, _⟩ => ⟨S8x2048x1408, .f32⟩
  | .hbm, ⟨94, _⟩ => ⟨S8x2048x1408, .bf16⟩
  | .hbm, ⟨95, _⟩ => ⟨S5632x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]
-- ==== Kernel3.lean ====
abbrev S2048x2048 : Shape := ⟨2, ![2048, 2048]⟩
abbrev S2048x256 : Shape := ⟨2, ![2048, 256]⟩
abbrev S256x2048 : Shape := ⟨2, ![256, 2048]⟩
abbrev S1x2048 : Shape := ⟨2, ![1, 2048]⟩
abbrev S256x8x256 : Shape := ⟨3, ![256, 8, 256]⟩
abbrev S8x256x256 : Shape := ⟨3, ![8, 256, 256]⟩
abbrev S1x256x256 : Shape := ⟨3, ![1, 256, 256]⟩
abbrev S256x256 : Shape := ⟨2, ![256, 256]⟩
abbrev S512x2048 : Shape := ⟨2, ![512, 2048]⟩
abbrev S512 : Shape := ⟨1, ![512]⟩
abbrev S512x1 : Shape := ⟨2, ![512, 1]⟩
abbrev S1024x2048 : Shape := ⟨2, ![1024, 2048]⟩
abbrev S2048x1024 : Shape := ⟨2, ![2048, 1024]⟩
abbrev S1024x1024 : Shape := ⟨2, ![1024, 1024]⟩
abbrev S256 : Shape := ⟨1, ![256]⟩
abbrev S256x1 : Shape := ⟨2, ![256, 1]⟩
abbrev S2048 : Shape := ⟨1, ![2048]⟩
abbrev S2048x512 : Shape := ⟨2, ![2048, 512]⟩

abbrev nBuf : Space → Nat
  | .hbm => 24
  | .vmem => 65
  | .smem => 0
  | _ => 0

abbrev bufTy : (tb : Table) → Fin (tcTables nBuf tb) → BufTy
  | .hbm, ⟨0, _⟩ => ⟨S2048x2048, .f32⟩
  | .hbm, ⟨1, _⟩ => ⟨S2048x256, .f32⟩
  | .hbm, ⟨2, _⟩ => ⟨S256x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S256x8x256, .f32⟩
  | .hbm, ⟨8, _⟩ => ⟨S8x256x256, .f32⟩
  | .hbm, ⟨9, _⟩ => ⟨S8x256x256, .bf16⟩
  | .hbm, ⟨10, _⟩ => ⟨S2048x2048, .bf16⟩
  | .hbm, ⟨11, _⟩ => ⟨S2048x2048, .f32⟩
  | .hbm, ⟨12, _⟩ => ⟨S2048x2048, .bf16⟩
  | .hbm, ⟨13, _⟩ => ⟨S2048x2048, .f32⟩
  | .hbm, ⟨14, _⟩ => ⟨S2048x2048, .f32⟩
  | .hbm, ⟨15, _⟩ => ⟨S2048x2048, .bf16⟩
  | .hbm, ⟨16, _⟩ => ⟨S2048x2048, .bf16⟩
  | .hbm, ⟨17, _⟩ => ⟨S1x2048, .f32⟩
  | .hbm, ⟨18, _⟩ => ⟨S8x256x256, .bf16⟩
  | .hbm, ⟨19, _⟩ => ⟨S2048x2048, .bf16⟩
  | .hbm, ⟨20, _⟩ => ⟨S2048x2048, .f32⟩
  | .hbm, ⟨21, _⟩ => ⟨S2048x2048, .f32⟩
  | .hbm, ⟨22, _⟩ => ⟨S2048x2048, .bf16⟩
  | .hbm, ⟨23, _⟩ => ⟨S1x2048, .f32⟩
  | .local _ .vmem, ⟨0, _⟩ => ⟨S2048x256, .f32⟩
  | .local _ .vmem, ⟨1, _⟩ => ⟨S1x256x256, .bf16⟩
  | .local _ .vmem, ⟨2, _⟩ => ⟨S1x256x256, .bf16⟩
  | .local _ .vmem, ⟨3, _⟩ => ⟨S2048x256, .f32⟩
  | .local _ .vmem, ⟨4, _⟩ => ⟨S2048x256, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .bf16⟩
  | .local _ .vmem, ⟨9, _⟩ => ⟨S512x2048, .bf16⟩
  | .local _ .vmem, ⟨10, _⟩ => ⟨S1024x2048, .bf16⟩
  | .local _ .vmem, ⟨11, _⟩ => ⟨S1024x2048, .bf16⟩
  | .local _ .vmem, ⟨12, _⟩ => ⟨S2048x1024, .bf16⟩
  | .local _ .vmem, ⟨13, _⟩ => ⟨S2048x1024, .bf16⟩
  | .local _ .vmem, ⟨14, _⟩ => ⟨S1024x1024, .f32⟩
  | .local _ .vmem, ⟨15, _⟩ => ⟨S1024x1024, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S1x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | .local _ .vmem, ⟨31, _⟩ => ⟨S1x2048, .f32⟩
  | .local _ .vmem, ⟨32, _⟩ => ⟨S256x2048, .bf16⟩
  | .local _ .vmem, ⟨33, _⟩ => ⟨S256x2048, .bf16⟩
  | .local _ .vmem, ⟨34, _⟩ => ⟨S256x2048, .bf16⟩
  | .local _ .vmem, ⟨35, _⟩ => ⟨S256x2048, .bf16⟩
  | .local _ .vmem, ⟨36, _⟩ => ⟨S1x2048, .f32⟩
  | .local _ .vmem, ⟨37, _⟩ => ⟨S2048x256, .f32⟩
  | .local _ .vmem, ⟨38, _⟩ => ⟨S2048x256, .bf16⟩
  | .local _ .vmem, ⟨39, _⟩ => ⟨S2048x256, .bf16⟩
  | .local _ .vmem, ⟨40, _⟩ => ⟨S1x256x256, .bf16⟩
  | .local _ .vmem, ⟨41, _⟩ => ⟨S1x256x256, .bf16⟩
  | .local _ .vmem, ⟨42, _⟩ => ⟨S2048x512, .bf16⟩
  | .local _ .vmem, ⟨43, _⟩ => ⟨S2048x512, .bf16⟩
  | .local _ .vmem, ⟨44, _⟩ => ⟨S2048x2048, .bf16⟩
  | .local _ .vmem, ⟨45, _⟩ => ⟨S512x2048, .bf16⟩
  | .local _ .vmem, ⟨46, _⟩ => ⟨S512x2048, .bf16⟩
  | .local _ .vmem, ⟨47, _⟩ => ⟨S1024x2048, .bf16⟩
  | .local _ .vmem, ⟨48, _⟩ => ⟨S1024x2048, .bf16⟩
  | .local _ .vmem, ⟨49, _⟩ => ⟨S1024x2048, .bf16⟩
  | .local _ .vmem, ⟨50, _⟩ => ⟨S1024x2048, .bf16⟩
  | .local _ .vmem, ⟨51, _⟩ => ⟨S1024x1024, .f32⟩
  | .local _ .vmem, ⟨52, _⟩ => ⟨S1024x1024, .f32⟩
  | .local _ .vmem, ⟨53, _⟩ => ⟨S256x2048, .f32⟩
  | .local _ .vmem, ⟨54, _⟩ => ⟨S256x2048, .f32⟩
  | .local _ .vmem, ⟨55, _⟩ => ⟨S256x2048, .f32⟩
  | .local _ .vmem, ⟨56, _⟩ => ⟨S256x2048, .f32⟩
  | .local _ .vmem, ⟨57, _⟩ => ⟨S256x2048, .f32⟩
  | .local _ .vmem, ⟨58, _⟩ => ⟨S256x2048, .f32⟩
  | .local _ .vmem, ⟨59, _⟩ => ⟨S1x2048, .f32⟩
  | .local _ .vmem, ⟨60, _⟩ => ⟨S256x2048, .f32⟩
  | .local _ .vmem, ⟨61, _⟩ => ⟨S256x2048, .f32⟩
  | .local _ .vmem, ⟨62, _⟩ => ⟨S256x2048, .bf16⟩
  | .local _ .vmem, ⟨63, _⟩ => ⟨S256x2048, .bf16⟩
  | .local _ .vmem, ⟨64, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg4_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc4_stg5_0 : Ref sig .tc := ⟨.vmem, 34, rfl⟩
abbrev cc4_stg5_1 : Ref sig .tc := ⟨.vmem, 35, rfl⟩
abbrev cc4_stg6_0 : Ref sig .tc := ⟨.vmem, 36, rfl⟩
abbrev cc5_stg0_0 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg1_1 : Ref sig .tc := ⟨.vmem, 56, rfl⟩
abbrev cc8_stg2_0 : Ref sig .tc := ⟨.vmem, 57, rfl⟩
abbrev cc8_stg2_1 : Ref sig .tc := ⟨.vmem, 58, rfl⟩
abbrev cc8_stg3_0 : Ref sig .tc := ⟨.vmem, 59, rfl⟩
abbrev cc8_stg4_0 : Ref sig .tc := ⟨.vmem, 60, rfl⟩
abbrev cc8_stg4_1 : Ref sig .tc := ⟨.vmem, 61, rfl⟩
abbrev cc8_stg5_0 : Ref sig .tc := ⟨.vmem, 62, rfl⟩
abbrev cc8_stg5_1 : Ref sig .tc := ⟨.vmem, 63, rfl⟩
abbrev cc8_stg6_0 : Ref sig .tc := ⟨.vmem, 64, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem4_0 : DmaSem sig := 23
abbrev cc3_sem4_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem4_0 : DmaSem sig := 32
abbrev cc4_sem4_1 : DmaSem sig := 33
abbrev cc4_sem5_0 : DmaSem sig := 34
abbrev cc4_sem5_1 : DmaSem sig := 35
abbrev cc4_sem6_0 : DmaSem sig := 36
abbrev cc5_sem0_0 : DmaSem sig := 37
abbrev cc5_sem1_0 : DmaSem sig := 38
abbrev cc5_sem1_1 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc8_sem0_0 : DmaSem sig := 53
abbrev cc8_sem0_1 : DmaSem sig := 54
abbrev cc8_sem1_0 : DmaSem sig := 55
abbrev cc8_sem1_1 : DmaSem sig := 56
abbrev cc8_sem2_0 : DmaSem sig := 57
abbrev cc8_sem2_1 : DmaSem sig := 58
abbrev cc8_sem3_0 : DmaSem sig := 59
abbrev cc8_sem4_0 : DmaSem sig := 60
abbrev cc8_sem4_1 : DmaSem sig := 61
abbrev cc8_sem5_0 : DmaSem sig := 62
abbrev cc8_sem5_1 : DmaSem sig := 63
abbrev cc8_sem6_0 : DmaSem sig := 64

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![8], ![false]⟩

def k4_cond1 (i : grid4.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_19 : BitVec 32 := 0#32
  let v54 : BitVec 1 := Scalar.cmpi .ne v53 c0_i32_19
  v54

def k4_cond2 (i : grid4.Coords) : BitVec 1 :=
  let arg0 : BitVec 32 := BitVec.ofNat 32 (i 0).val
  let c0_i32_20 : BitVec 32 := 0#32
  let v55 : BitVec 1 := Scalar.cmpi .sgt arg0 c0_i32_20
  let v56 : BitVec 32 := Scalar.extui v55
  let c0_i32_21 : BitVec 32 := 0#32
  let v57 : BitVec 1 := Scalar.cmpi .ne v56 c0_i32_21
  v57

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x2048 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S256x2048 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x2048 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x2048 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨3, ![8, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage5_0 : Fin 1 → Memref sig .tc .vmem S2048x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, true, true]

abbrev stage5_1 : Fin 2 → Memref sig .tc .vmem S2048x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S1x256x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S2048x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S2048x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S512x2048 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![2, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨1, ![8], ![false]⟩

def k8_cond1 (i : grid8.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_18 : BitVec 32 := 0#32
  let v44 : BitVec 1 := Scalar.cmpi .ne v43 c0_i32_18
  v44

def k8_cond2 (i : grid8.Coords) : BitVec 1 :=
  let arg0 : BitVec 32 := BitVec.ofNat 32 (i 0).val
  let c0_i32_19 : BitVec 32 := 0#32
  let v45 : BitVec 1 := Scalar.cmpi .sgt arg0 c0_i32_19
  let v46 : BitVec 32 := Scalar.extui v45
  let c0_i32_20 : BitVec 32 := 0#32
  let v47 : BitVec 1 := Scalar.cmpi .ne v46 c0_i32_20
  v47

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S256x2048 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S256x2048 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S256x2048 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x2048 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S256x2048 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S256x2048 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x2048 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]
-- ==== Reference3Ideal.lean ====
abbrev S2048x2048 : Shape := ⟨2, ![2048, 2048]⟩
abbrev S2048x256 : Shape := ⟨2, ![2048, 256]⟩
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S256x8x256 : Shape := ⟨3, ![256, 8, 256]⟩
abbrev S8x256x256 : Shape := ⟨3, ![8, 256, 256]⟩

abbrev nBuf : Space → Nat
  | .hbm => 131
  | .vmem => 0
  | .smem => 0
  | _ => 0

abbrev hbmTy0_0 (i : Nat) : BufTy := match i % 128 with
  | 0 => ⟨S2048x2048, .f32⟩
  | 1 => ⟨S2048x256, .f32⟩
  | 2 => ⟨S256x2048, .f32⟩
  | 3 => ⟨S1x2048, .f32⟩
  | 4 => ⟨S1x2048, .f32⟩
  | 5 => ⟨S2048x2048, .f32⟩
  | 6 => ⟨S2048x2048, .f32⟩
  | 7 => ⟨S2048x2048, .f32⟩
  | 8 => ⟨S2048, .f32⟩
  | 9 => ⟨S2048x2048, .f32⟩
  | 10 => ⟨S_, .f32⟩
  | 11 => ⟨S2048, .f32⟩
  | 12 => ⟨S2048x1, .f32⟩
  | 13 => ⟨S_, .f32⟩
  | 14 => ⟨S2048x1, .f32⟩
  | 15 => ⟨S2048x1, .f32⟩
  | 16 => ⟨S_, .f32⟩
  | 17 => ⟨S2048x1, .f32⟩
  | 18 => ⟨S2048x1, .f32⟩
  | 19 => ⟨S2048x1, .f32⟩
  | 20 => ⟨S2048x1, .f32⟩
  | 21 => ⟨S_, .f32⟩
  | 22 => ⟨S2048x1, .f32⟩
  | 23 => ⟨S2048x1, .f32⟩
  | 24 => ⟨S2048x2048, .f32⟩
  | 25 => ⟨S2048x2048, .f32⟩
  | 26 => ⟨S1x2048, .f32⟩
  | 27 => ⟨S2048x2048, .f32⟩
  | 28 => ⟨S2048x2048, .f32⟩
  | 29 => ⟨S2048, .f32⟩
  | 30 => ⟨S2048x2048, .f32⟩
  | 31 => ⟨S_, .f32⟩
  | 32 => ⟨S2048, .f32⟩
  | 33 => ⟨S2048x1, .f32⟩
  | 34 => ⟨S_, .f32⟩
  | 35 => ⟨S2048x1, .f32⟩
  | 36 => ⟨S2048x1, .f32⟩
  | 37 => ⟨S_, .f32⟩
  | 38 => ⟨S2048x1, .f32⟩
  | 39 => ⟨S2048x1, .f32⟩
  | 40 => ⟨S2048x1, .f32⟩
  | 41 => ⟨S2048x1, .f32⟩
  | 42 => ⟨S_, .f32⟩
  | 43 => ⟨S2048x1, .f32⟩
  | 44 => ⟨S2048x1, .f32⟩
  | 45 => ⟨S2048x2048, .f32⟩
  | 46 => ⟨S2048x2048, .f32⟩
  | 47 => ⟨S1x2048, .f32⟩
  | 48 => ⟨S2048x2048, .f32⟩
  | 49 => ⟨S2048x2048, .f32⟩
  | 50 => ⟨S2048x2048, .f32⟩
  | 51 => ⟨S2048x2048, .f32⟩
  | 52 => ⟨S2048x2048, .f32⟩
  | 53 => ⟨S_, .f32⟩
  | 54 => ⟨S2048x2048, .f32⟩
  | 55 => ⟨S2048x2048, .f32⟩
  | 56 => ⟨S_, .f32⟩
  | 57 => ⟨S2048x2048, .f32⟩
  | 58 => ⟨S2048x2048, .f32⟩
  | 59 => ⟨S_, .f32⟩
  | 60 => ⟨S2048x2048, .f32⟩
  | 61 => ⟨S2048x2048, .f32⟩
  | 62 => ⟨S2048x2048, .f32⟩
  | 63 => ⟨S2048x2048, .f32⟩
  | 64 => ⟨S2048x2048, .f32⟩
  | 65 => ⟨S2048x2048, .f32⟩
  | 66 => ⟨S2048x2048, .f32⟩
  | 67 => ⟨S2048x2048, .f32⟩
  | 68 => ⟨S2048x2048, .f32⟩
  | 69 => ⟨S2048x2048, .f32⟩
  | 70 => ⟨S2048x2048, .f32⟩
  | 71 => ⟨S2048x2048, .f32⟩
  | 72 => ⟨S2048x2048, .f32⟩
  | 73 => ⟨S_, .f32⟩
  | 74 => ⟨S2048, .f32⟩
  | 75 => ⟨S1x2048, .f32⟩
  | 76 => ⟨S2048x2048, .f32⟩
  | 77 => ⟨S2048x2048, .f32⟩
  | 78 => ⟨S_, .f32⟩
  | 79 => ⟨S2048, .f32⟩
  | 80 => ⟨S2048x2048, .f32⟩
  | 81 => ⟨S_, .f32⟩
  | 82 => ⟨S2048, .f32⟩
  | 83 => ⟨S2048x1, .f32⟩
  | 84 => ⟨S2048x2048, .f32⟩
  | 85 => ⟨S2048x2048, .f32⟩
  | 86 => ⟨S2048x2048, .f32⟩
  | 87 => ⟨S2048x1, .f32⟩
  | 88 => ⟨S_, .f32⟩
  | 89 => ⟨S2048x1, .f32⟩
  | 90 => ⟨S2048x1, .f32⟩
  | 91 => ⟨S_, .f32⟩
  | 92 => ⟨S2048, .f32⟩
  | 93 => ⟨S2048x2048, .f32⟩
  | 94 => ⟨S2048x2048, .f32⟩
  | 95 => ⟨S2048x2048, .f32⟩
  | 96 => ⟨S2048x2048, .f32⟩
  | 97 => ⟨S2048x2048, .f32⟩
  | 98 => ⟨S1x2048, .f32⟩
  | 99 => ⟨S2048x2048, .f32⟩
  | 100 => ⟨S_, .f32⟩
  | 101 => ⟨S2048, .f32⟩
  | 102 => ⟨S1x2048, .f32⟩
  | 103 => ⟨S2048x2048, .f32⟩
  | 104 => ⟨S2048x2048, .f32⟩
  | 105 => ⟨S_, .f32⟩
  | 106 => ⟨S2048, .f32⟩
  | 107 => ⟨S2048x2048, .f32⟩
  | 108 => ⟨S_, .f32⟩
  | 109 => ⟨S2048, .f32⟩
  | 110 => ⟨S2048x1, .f32⟩
  | 111 => ⟨S2048x2048, .f32⟩
  | 112 => ⟨S2048x2048, .f32⟩
  | 113 => ⟨S2048x1, .f32⟩
  | 114 => ⟨S_, .f32⟩
  | 115 => ⟨S2048x1, .f32⟩
  | 116 => ⟨S2048x1, .f32⟩
  | 117 => ⟨S_, .f32⟩
  | 118 => ⟨S2048, .f32⟩
  | 119 => ⟨S2048x2048, .f32⟩
  | 120 => ⟨S2048x2048, .f32⟩
  | 121 => ⟨S2048x2048, .f32⟩
  | 122 => ⟨S2048x2048, .f32⟩
  | 123 => ⟨S2048x2048, .f32⟩
  | 124 => ⟨S1x2048, .f32⟩
  | 125 => ⟨S2048x256, .f32⟩
  | 126 => ⟨S256x2048, .f32⟩
  | 127 => ⟨S256x8x256, .f32⟩
  | _ => ⟨S2048x2048, .f32⟩

abbrev hbmTy0_1 (i : Nat) : BufTy := match i % 128 with
  | 0 => ⟨S8x256x256, .f32⟩
  | 1 => ⟨S8x256x256, .bf16⟩
  | 2 => ⟨S2048x2048, .bf16⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_15 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_16 : Ref sig .tc := ⟨.hbm, 105, rfl⟩
abbrev main_v81 : Ref sig .tc := ⟨.hbm, 106, rfl⟩
abbrev main_v82 : Ref sig .tc := ⟨.hbm, 107, rfl⟩
abbrev main_cst_17 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_18 : Ref sig .tc := ⟨.hbm, 114, rfl⟩
abbrev main_v88 : Ref sig .tc := ⟨.hbm, 115, rfl⟩
abbrev main_v89 : Ref sig .tc := ⟨.hbm, 116, rfl⟩
abbrev main_cst_19 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩

abbrev nD : Nat := 1
abbrev τ : Topo := Topo.v7x

variable {F : FTy → Type} [FloatOps F]
-- ==== Kernel4.lean ====
abbrev S2048x2048 : Shape := ⟨2, ![2048, 2048]⟩
abbrev S2048x16x128 : Shape := ⟨3, ![2048, 16, 128]⟩
abbrev S1024x2048 : Shape := ⟨2, ![1024, 2048]⟩
abbrev S2048x1024 : Shape := ⟨2, ![2048, 1024]⟩
abbrev S1024x1024 : Shape := ⟨2, ![1024, 1024]⟩
abbrev S2048x512 : Shape := ⟨2, ![2048, 512]⟩
abbrev S512x2048 : Shape := ⟨2, ![512, 2048]⟩

abbrev nBuf : Space → Nat
  | .hbm => 11
  | .vmem => 19
  | .smem => 0
  | _ => 0

abbrev bufTy : (tb : Table) → Fin (tcTables nBuf tb) → BufTy
  | .hbm, ⟨0, _⟩ => ⟨S2048x2048, .f32⟩
  | .hbm, ⟨1, _⟩ => ⟨S2048x16x128, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .f32⟩
  | .hbm, ⟨9, _⟩ => ⟨S2048x2048, .bf16⟩
  | .hbm, ⟨10, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1024, .bf16⟩
  | .local _ .vmem, ⟨13, _⟩ => ⟨S1024x1024, .bf16⟩
  | .local _ .vmem, ⟨14, _⟩ => ⟨S2048x512, .bf16⟩
  | .local _ .vmem, ⟨15, _⟩ => ⟨S2048x512, .bf16⟩
  | .local _ .vmem, ⟨16, _⟩ => ⟨S2048x2048, .bf16⟩
  | .local _ .vmem, ⟨17, _⟩ => ⟨S512x2048, .bf16⟩
  | .local _ .vmem, ⟨18, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference4Ideal.lean ====
abbrev S2048x2048 : Shape := ⟨2, ![2048, 2048]⟩
abbrev S2048x16x128 : Shape := ⟨3, ![2048, 16, 128]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x16x128, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x16x128, .f32⟩
  | .hbm, ⟨12, _⟩ => ⟨S2048x2048, .f32⟩
  | .hbm, ⟨13, _⟩ => ⟨S2048x2048, .bf16⟩
  | .hbm, ⟨14, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S1024x2048 : Shape := ⟨2, ![1024, 2048]⟩
abbrev S2048x1024 : Shape := ⟨2, ![2048, 1024]⟩
abbrev S1024x1024 : Shape := ⟨2, ![1024, 1024]⟩
abbrev S2048x512 : Shape := ⟨2, ![2048, 512]⟩
abbrev S512x2048 : Shape := ⟨2, ![512, 2048]⟩
abbrev S2048 : Shape := ⟨1, ![2048]⟩

abbrev nBuf : Space → Nat
  | .hbm => 15
  | .vmem => 35
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .f32⟩
  | .hbm, ⟨10, _⟩ => ⟨S2048x2048, .f32⟩
  | .hbm, ⟨11, _⟩ => ⟨S2048x2048, .bf16⟩
  | .hbm, ⟨12, _⟩ => ⟨S2048x2048, .f32⟩
  | .hbm, ⟨13, _⟩ => ⟨S1x2048, .f32⟩
  | .hbm, ⟨14, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .bf16⟩
  | .local _ .vmem, ⟨5, _⟩ => ⟨S256x2048, .bf16⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1024x1024, .f32⟩
  | .local _ .vmem, ⟨19, _⟩ => ⟨S1024x1024, .f32⟩
  | .local _ .vmem, ⟨20, _⟩ => ⟨S2048x512, .bf16⟩
  | .local _ .vmem, ⟨21, _⟩ => ⟨S2048x512, .bf16⟩
  | .local _ .vmem, ⟨22, _⟩ => ⟨S2048x2048, .bf16⟩
  | .local _ .vmem, ⟨23, _⟩ => ⟨S512x2048, .bf16⟩
  | .local _ .vmem, ⟨24, _⟩ => ⟨S512x2048, .bf16⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S1x2048, .f32⟩
  | .local _ .vmem, ⟨30, _⟩ => ⟨S1x2048, .f32⟩
  | .local _ .vmem, ⟨31, _⟩ => ⟨S256x2048, .f32⟩
  | .local _ .vmem, ⟨32, _⟩ => ⟨S256x2048, .f32⟩
  | .local _ .vmem, ⟨33, _⟩ => ⟨S1x2048, .f32⟩
  | .local _ .vmem, ⟨34, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg4_1 : Ref sig .tc := ⟨.vmem, 32, rfl⟩
abbrev cc4_stg5_0 : Ref sig .tc := ⟨.vmem, 33, rfl⟩
abbrev cc4_stg6_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem4_0 : DmaSem sig := 31
abbrev cc4_sem4_1 : DmaSem sig := 32
abbrev cc4_sem5_0 : DmaSem sig := 33
abbrev cc4_sem6_0 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![8], ![false]⟩

def k4_cond1 (i : grid4.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_24 : BitVec 32 := 0#32
  let v71 : BitVec 1 := Scalar.cmpi .ne v70 c0_i32_24
  v71

def k4_cond2 (i : grid4.Coords) : BitVec 1 :=
  let arg0 : BitVec 32 := BitVec.ofNat 32 (i 0).val
  let c0_i32_25 : BitVec 32 := 0#32
  let v72 : BitVec 1 := Scalar.cmpi .sgt arg0 c0_i32_25
  let v73 : BitVec 32 := Scalar.extui v72
  let c0_i32_26 : BitVec 32 := 0#32
  let v74 : BitVec 1 := Scalar.cmpi .ne v73 c0_i32_26
  v74

def k4_cond3 (i : grid4.Coords) : BitVec 1 :=
  let arg0 : BitVec 32 := BitVec.ofNat 32 (i 0).val
  let c0_i32_27 : BitVec 32 := 0#32
  let v75 : BitVec 1 := Scalar.cmpi .eq arg0 c0_i32_27
  let v76 : BitVec 32 := Scalar.extui v75
  let c0_i32_28 : BitVec 32 := 0#32
  let v77 : BitVec 1 := Scalar.cmpi .ne v76 c0_i32_28
  v77

def k4_cond4 (i : grid4.Coords) : BitVec 1 :=
  let arg0 : BitVec 32 := BitVec.ofNat 32 (i 0).val
  let c0_i32_29 : BitVec 32 := 0#32
  let v78 : BitVec 1 := Scalar.cmpi .sgt arg0 c0_i32_29
  let v79 : BitVec 32 := Scalar.extui v78
  let c0_i32_30 : BitVec 32 := 0#32
  let v80 : BitVec 1 := Scalar.cmpi .ne v79 c0_i32_30
  v80

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x2048 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S256x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x2048 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x2048 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]
-- ==== Reference5Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 96
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S2048x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x2048, .f32⟩
  | .hbm, ⟨72, _⟩ => ⟨S2048x2048, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S_, .f32⟩
  | .hbm, ⟨78, _⟩ => ⟨S2048, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S_, .f32⟩
  | .hbm, ⟨86, _⟩ => ⟨S2048, .f32⟩
  | .hbm, ⟨87, _⟩ => ⟨S2048x1, .f32⟩
  | .hbm, ⟨88, _⟩ => ⟨S_, .f32⟩
  | .hbm, ⟨89, _⟩ => ⟨S2048x1, .f32⟩
  | .hbm, ⟨90, _⟩ => ⟨S2048x1, .f32⟩
  | .hbm, ⟨91, _⟩ => ⟨S_, .f32⟩
  | .hbm, ⟨92, _⟩ => ⟨S2048, .f32⟩
  | .hbm, ⟨93, _⟩ => ⟨S2048x2048, .f32⟩
  | .hbm, ⟨94, _⟩ => ⟨S2048x2048, .f32⟩
  | .hbm, ⟨95, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v23_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v23_1 : Ref sig .tc := ⟨.hbm, 46, rfl⟩
abbrev main_v23_0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_cst_11 : Ref sig .tc := ⟨.hbm, 88, rfl⟩
abbrev main_v55 : Ref sig .tc := ⟨.hbm, 89, rfl⟩
abbrev main_v56 : Ref sig .tc := ⟨.hbm, 90, rfl⟩
abbrev main_cst_12 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩

abbrev nD : Nat := 1
abbrev τ : Topo := Topo.v7x

variable {F : FTy → Type} [FloatOps F]
-- ==== Proof.Spec.lean ====
/-
  What one grid point of the idealized kernel leaves in its three output buffers, as functions of the blocks it reads:
  four cases, one per query block, which differ only in the length of the prefix of keys they read.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.Value
public import Idealize.ShloMosaic.Lib.VecWindow
public import Idealize.ShloMosaic.Lib.Tactic
public import Idealize.ShloMosaic.Lib.WordCmp

@[expose] public section

noncomputable section

namespace Cert.KernelIdeal.Hand

open Idealize.ShloMosaic Idealize.ShloMosaic.TcCoe Idealize.SL.Sem
open Cert.KernelIdeal Cert.KernelIdeal.Gen

variable {F : FTy → Type} [FloatOps F]

section Loads
variable {s : Shape} {e : EltTy}

/-- A load of a window of a whole buffer that holds `x` reads that window of `x`. -/
theorem ldw (a : Memref sig .tc .vmem s e) (h : a.IsWhole) (x : s.Idx → Elt F e) (off size : Fin s.rank → ℕ) (inb : ∀ a, off a + size a ≤ s.size a) :
    a.view.readAt (Elt F) (Rect.unit off size inb).toLoadRect (h.unread x) = VecWindow.window x off size inb := by
  rw [View.readAt_unit a.view _ inb rfl inb, h.read_unread]
/-- A load of a whole buffer that holds `x` reads `x`. -/
theorem ldf (a : Memref sig .tc .vmem s e) (h : a.IsWhole) (x : s.Idx → Elt F e) (off : Fin s.rank → ℕ) (inb : ∀ a, off a + s.size a ≤ s.size a) :
    a.view.readAt (Elt F) (Rect.unit off s.size inb).toLoadRect (h.unread x) = x := by
  rw [View.readAt_full, h.read_unread]
/-- One store of a window into a whole buffer that holds `X` leaves `X` with the payload over that window. -/
theorem stw (a : Memref sig .tc .vmem s e) (h : a.IsWhole) (X : s.Idx → Elt F e) (off size : Fin s.rank → ℕ) (inb : ∀ a, off a + size a ≤ s.size a)
    (w : (Rect.unit off size inb).shape.Idx → Elt F e) :
    a.view.read (Elt F) (a.view.writes (Elt F) (h.unread X) [⟨Rect.unit off size inb, w⟩]) = VecWindow.put X off size w := by
  rw [View.read_writes_cons_put a.view _ inb w [] rfl, View.writes_nil, h.read_unread]
/-- A store of a window after one of a whole buffer leaves the whole store's payload with the later payload over that window. -/
theorem stw_full (a : Memref sig .tc .vmem s e) (f : a.view.ty.Contents (Elt F)) (X : s.Idx → Elt F e) (off off' size : Fin s.rank → ℕ) (inb : ∀ a, off a + size a ≤ s.size a)
    (inb' : ∀ a, off' a + s.size a ≤ s.size a) (w : (Rect.unit off size inb).shape.Idx → Elt F e) :
    a.view.read (Elt F) (a.view.writes (Elt F) f [⟨Rect.unit off size inb, w⟩, ⟨Rect.unit off' s.size inb', X⟩]) = VecWindow.put X off size w := by
  rw [View.read_writes_cons_put a.view _ inb w _ rfl, View.read_writes_full]
/-- A load of a window after a store of the whole buffer reads that window of the payload. -/
theorem ldw_full (a : Memref sig .tc .vmem s e) (X : s.Idx → Elt F e) (off off' size : Fin s.rank → ℕ) (inb : ∀ a, off a + size a ≤ s.size a)
    (inb' : ∀ a, off' a + s.size a ≤ s.size a) :
    a.view.readCov [(⟨Rect.unit off' s.size inb', X⟩ : View.Piece (Elt F) s e)] (Rect.unit off size inb).toLoadRect = VecWindow.window X off size inb := by
  show a.view.readAt (Elt F) (Rect.unit off size inb).toLoadRect (a.view.writes (Elt F) a.view.junk _) = _
  rw [View.readAt_unit a.view _ inb rfl inb, View.read_writes_full]

end Loads

/-- The block of query gradients the first query block leaves. -/
def dqA (x0 : Vec F S1x512x256 .bf16) (x1 : Vec F S1x2048x256 .bf16) (x2 : Vec F S1x2048x128 .bf16) (x3 : Vec F S512x128 .bf16) : Vec F S1x512x256 .f32 :=
  let k := VecWindow.window x1 ![0, 0, 0] S1x512x256.size inb_S1x2048x256_S1x512x256_0_0_0
  let v := VecWindow.window x2 ![0, 0, 0] S1x512x128.size inb_S1x2048x128_S1x512x128_0_0_0
  k0_pay4 (k0_pay16 k) (k0_pay17 x3) (k0_pay18 x0 k) (k0_pay20 v)
/-- The key gradients the first query block leaves over `X`. -/
def dkA (x0 : Vec F S1x512x256 .bf16) (x1 : Vec F S1x2048x256 .bf16) (x2 : Vec F S1x2048x128 .bf16) (x3 : Vec F S512x128 .bf16) (X : Vec F S1x2048x256 .f32) : Vec F S1x2048x256 .f32 :=
  let k := VecWindow.window x1 ![0, 0, 0] S1x512x256.size inb_S1x2048x256_S1x512x256_0_0_0
  let v := VecWindow.window x2 ![0, 0, 0] S1x512x128.size inb_S1x2048x128_S1x512x128_0_0_0
  VecWindow.put X ![0, 0, 0] S1x512x256.size (k0_pay5 (k0_pay15 x0) (k0_pay17 x3) (k0_pay18 x0 k) (k0_pay20 v)
    (VecWindow.window X ![0, 0, 0] S1x512x256.size inb_S1x2048x256_S1x512x256_0_0_0))
/-- The value gradients the first query block leaves over `X`. -/
def dvA (x0 : Vec F S1x512x256 .bf16) (x1 : Vec F S1x2048x256 .bf16) (x3 : Vec F S512x128 .bf16) (X : Vec F S1x2048x128 .f32) : Vec F S1x2048x128 .f32 :=
  VecWindow.put X ![0, 0, 0] S1x512x128.size (k0_pay19 x0 (VecWindow.window x1 ![0, 0, 0] S1x512x256.size inb_S1x2048x256_S1x512x256_0_0_0) x3
    (VecWindow.window X ![0, 0, 0] S1x512x128.size inb_S1x2048x128_S1x512x128_0_0_0))

/-- The block of query gradients the second query block leaves. -/
def dqB (x0 : Vec F S1x512x256 .bf16) (x1 : Vec F S1x2048x256 .bf16) (x2 : Vec F S1x2048x128 .bf16) (x3 : Vec F S512x128 .bf16) : Vec F S1x512x256 .f32 :=
  let k := VecWindow.window x1 ![0, 0, 0] S1x1024x256.size inb_S1x2048x256_S1x1024x256_0_0_0
  let v := VecWindow.window x2 ![0, 0, 0] S1x1024x128.size inb_S1x2048x128_S1x1024x128_0_0_0
  k0_pay7 (k0_pay22 k) (k0_pay23 x3) (k0_pay24 x0 k) (k0_pay26 v)
/-- The key gradients the second query block leaves over `X`. -/
def dkB (x0 : Vec F S1x512x256 .bf16) (x1 : Vec F S1x2048x256 .bf16) (x2 : Vec F S1x2048x128 .bf16) (x3 : Vec F S512x128 .bf16) (X : Vec F S1x2048x256 .f32) : Vec F S1x2048x256 .f32 :=
  let k := VecWindow.window x1 ![0, 0, 0] S1x1024x256.size inb_S1x2048x256_S1x1024x256_0_0_0
  let v := VecWindow.window x2 ![0, 0, 0] S1x1024x128.size inb_S1x2048x128_S1x1024x128_0_0_0
  VecWindow.put X ![0, 0, 0] S1x1024x256.size (k0_pay8 (k0_pay21 x0) (k0_pay23 x3) (k0_pay24 x0 k) (k0_pay26 v)
    (VecWindow.window X ![0, 0, 0] S1x1024x256.size inb_S1x2048x256_S1x1024x256_0_0_0))
/-- The value gradients the second query block leaves over `X`. -/
def dvB (x0 : Vec F S1x512x256 .bf16) (x1 : Vec F S1x2048x256 .bf16) (x3 : Vec F S512x128 .bf16) (X : Vec F S1x2048x128 .f32) : Vec F S1x2048x128 .f32 :=
  VecWindow.put X ![0, 0, 0] S1x1024x128.size (k0_pay25 x0 (VecWindow.window x1 ![0, 0, 0] S1x1024x256.size inb_S1x2048x256_S1x1024x256_0_0_0) x3
    (VecWindow.window X ![0, 0, 0] S1x1024x128.size inb_S1x2048x128_S1x1024x128_0_0_0))

/-- The block of query gradients the third query block leaves. -/
def dqC (x0 : Vec F S1x512x256 .bf16) (x1 : Vec F S1x2048x256 .bf16) (x2 : Vec F S1x2048x128 .bf16) (x3 : Vec F S512x128 .bf16) : Vec F S1x512x256 .f32 :=
  let k := VecWindow.window x1 ![0, 0, 0] S1x1536x256.size inb_S1x2048x256_S1x1536x256_0_0_0
  let v := VecWindow.window x2 ![0, 0, 0] S1x1536x128.size inb_S1x2048x128_S1x1536x128_0_0_0
  k0_pay10 (k0_pay28 k) (k0_pay29 x3) (k0_pay30 x0 k) (k0_pay32 v)
/-- The key gradients the third query block leaves over `X`. -/
def dkC (x0 : Vec F S1x512x256 .bf16) (x1 : Vec F S1x2048x256 .bf16) (x2 : Vec F S1x2048x128 .bf16) (x3 : Vec F S512x128 .bf16) (X : Vec F S1x2048x256 .f32) : Vec F S1x2048x256 .f32 :=
  let k := VecWindow.window x1 ![0, 0, 0] S1x1536x256.size inb_S1x2048x256_S1x1536x256_0_0_0
  let v := VecWindow.window x2 ![0, 0, 0] S1x1536x128.size inb_S1x2048x128_S1x1536x128_0_0_0
  VecWindow.put X ![0, 0, 0] S1x1536x256.size (k0_pay11 (k0_pay27 x0) (k0_pay29 x3) (k0_pay30 x0 k) (k0_pay32 v)
    (VecWindow.window X ![0, 0, 0] S1x1536x256.size inb_S1x2048x256_S1x1536x256_0_0_0))
/-- The value gradients the third query block leaves over `X`. -/
def dvC (x0 : Vec F S1x512x256 .bf16) (x1 : Vec F S1x2048x256 .bf16) (x3 : Vec F S512x128 .bf16) (X : Vec F S1x2048x128 .f32) : Vec F S1x2048x128 .f32 :=
  VecWindow.put X ![0, 0, 0] S1x1536x128.size (k0_pay31 x0 (VecWindow.window x1 ![0, 0, 0] S1x1536x256.size inb_S1x2048x256_S1x1536x256_0_0_0) x3
    (VecWindow.window X ![0, 0, 0] S1x1536x128.size inb_S1x2048x128_S1x1536x128_0_0_0))

/-- The block of query gradients the fourth query block leaves. -/
def dqD (x0 : Vec F S1x512x256 .bf16) (x1 : Vec F S1x2048x256 .bf16) (x2 : Vec F S1x2048x128 .bf16) (x3 : Vec F S512x128 .bf16) : Vec F S1x512x256 .f32 :=
  k0_pay13 (k0_pay34 x1) (k0_pay35 x3) (k0_pay36 x0 x1) (k0_pay38 x2)
/-- The key gradients the fourth query block leaves over `X`. -/
def dkD (x0 : Vec F S1x512x256 .bf16) (x1 : Vec F S1x2048x256 .bf16) (x2 : Vec F S1x2048x128 .bf16) (x3 : Vec F S512x128 .bf16) (X : Vec F S1x2048x256 .f32) : Vec F S1x2048x256 .f32 :=
  k0_pay14 (k0_pay33 x0) (k0_pay35 x3) (k0_pay36 x0 x1) (k0_pay38 x2) X
/-- The value gradients the fourth query block leaves over `X`. -/
def dvD (x0 : Vec F S1x512x256 .bf16) (x1 : Vec F S1x2048x256 .bf16) (x3 : Vec F S512x128 .bf16) (X : Vec F S1x2048x128 .f32) : Vec F S1x2048x128 .f32 :=
  k0_pay37 x0 x1 x3 X

/-- What point `n` (its query block `n % 4`) leaves in the block of query gradients. -/
def stepDq (n : ℕ) (x0 : Vec F S1x512x256 .bf16) (x1 : Vec F S1x2048x256 .bf16) (x2 : Vec F S1x2048x128 .bf16) (x3 : Vec F S512x128 .bf16) : Vec F S1x512x256 .f32 :=
  if n % 4 = 0 then dqA x0 x1 x2 x3 else if n % 4 = 1 then dqB x0 x1 x2 x3 else if n % 4 = 2 then dqC x0 x1 x2 x3 else dqD x0 x1 x2 x3
/-- What point `n` leaves in the block of key gradients that held `X`; a head's first point starts from zero. -/
def stepDk (n : ℕ) (x0 : Vec F S1x512x256 .bf16) (x1 : Vec F S1x2048x256 .bf16) (x2 : Vec F S1x2048x128 .bf16) (x3 : Vec F S512x128 .bf16) (X : Vec F S1x2048x256 .f32) : Vec F S1x2048x256 .f32 :=
  if n % 4 = 0 then dkA x0 x1 x2 x3 k0_pay1 else if n % 4 = 1 then dkB x0 x1 x2 x3 X else if n % 4 = 2 then dkC x0 x1 x2 x3 X else dkD x0 x1 x2 x3 X
/-- What point `n` leaves in the block of value gradients that held `X`; a head's first point starts from zero. -/
def stepDv (n : ℕ) (x0 : Vec F S1x512x256 .bf16) (x1 : Vec F S1x2048x256 .bf16) (x3 : Vec F S512x128 .bf16) (X : Vec F S1x2048x128 .f32) : Vec F S1x2048x128 .f32 :=
  if n % 4 = 0 then dvA x0 x1 x3 k0_pay2 else if n % 4 = 1 then dvB x0 x1 x3 X else if n % 4 = 2 then dvC x0 x1 x3 X else dvD x0 x1 x3 X

end Cert.KernelIdeal.Hand

end
-- ==== Proof.RunA.lean ====
/-
  The body's run in one of its four cases: from the four input blocks and what the three output buffers hold, to what
  `Spec` says they hold afterwards.
-/
module

public import proofs.«01_k».proof.Proof.Spec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run where the query block is number 0. -/
theorem runA (c : Dev nD) (i : grid0.Coords)
    (arg2 : Memref sig .tc .vmem S1x512x256 .bf16) (harg2 : arg2.IsWhole) (arg3 : Memref sig .tc .vmem S1x2048x256 .bf16) (harg3 : arg3.IsWhole)
    (arg4 : Memref sig .tc .vmem S1x2048x128 .bf16) (harg4 : arg4.IsWhole) (arg5 : Memref sig .tc .vmem S512x128 .bf16) (harg5 : arg5.IsWhole)
    (arg6 : Memref sig .tc .vmem S1x512x256 .f32) (harg6 : arg6.IsWhole) (arg7 : Memref sig .tc .vmem S1x2048x256 .f32) (harg7 : arg7.IsWhole)
    (arg8 : Memref sig .tc .vmem S1x2048x128 .f32) (harg8 : arg8.IsWhole)
    (hc0 : (k0_cond1 i = 1#1)) (hc1 : (k0_cond2 i = 1#1)) (hc2 : ¬(k0_cond3 i = 1#1)) (hc3 : ¬(k0_cond4 i = 1#1)) (hc4 : ¬(k0_cond5 i = 1#1))
    (x0 : Vec F S1x512x256 .bf16) (x1 : Vec F S1x2048x256 .bf16) (x2 : Vec F S1x2048x128 .bf16) (x3 : Vec F S512x128 .bf16)
    (X5 : Vec F S1x2048x256 .f32) (X6 : Vec F S1x2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare X5 ∗ owns (c : Thread nD τ) arg8 fullShare X6
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (dqA x0 x1 x2 x3) ∗ owns (c : Thread nD τ) arg7 fullShare (dkA x0 x1 x2 x3 k0_pay1) ∗ owns (c : Thread nD τ) arg8 fullShare (dvA x0 x1 x3 k0_pay2)) -∗ K ⟨⟩))
      ⊢ wp frame (wpE (defs₀ (F := F)) Variants.none c none) E (cc0_mla_dattn i arg2 harg2 arg3 harg3 arg4 harg4 arg5 harg5 arg6 harg6 arg7 harg7 arg8 harg8) K := by
  simp only [cc0_mla_dattn_eq_skeleton]; unfold cc0_mla_dattn_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full arg6.view _ _ _ _).trans ?_
    exact (congr (congr (congr (congrArg k0_pay4 (congrArg k0_pay16 (ldw arg3 harg3 x1 ![0, 0, 0] S1x512x256.size inb_S1x2048x256_S1x512x256_0_0_0))) (congrArg k0_pay17 (ldf arg5 harg5 x3 ![0, 0] inb_S512x128_S512x128_0_0)))
      (congr (congrArg k0_pay18 (ldf arg2 harg2 x0 ![0, 0, 0] inb_S1x512x256_S1x512x256_0_0_0)) (ldw arg3 harg3 x1 ![0, 0, 0] S1x512x256.size inb_S1x2048x256_S1x512x256_0_0_0))) (congrArg k0_pay20 (ldw arg4 harg4 x2 ![0, 0, 0] S1x512x128.size inb_S1x2048x128_S1x512x128_0_0_0)) :)
  isplitl [H5]
  · iexists _; isplitr; swap; · iexact H5
    ipureintro
    refine (stw_full arg7 _ _ _ _ _ _ _ _).trans ?_
    exact congrArg (VecWindow.put k0_pay1 ![0, 0, 0] S1x512x256.size) ((congr (congr (congr (congr (congrArg k0_pay5 (congrArg k0_pay15 (ldf arg2 harg2 x0 ![0, 0, 0] inb_S1x512x256_S1x512x256_0_0_0))) (congrArg k0_pay17 (ldf arg5 harg5 x3 ![0, 0] inb_S512x128_S512x128_0_0)))
      (congr (congrArg k0_pay18 (ldf arg2 harg2 x0 ![0, 0, 0] inb_S1x512x256_S1x512x256_0_0_0)) (ldw arg3 harg3 x1 ![0, 0, 0] S1x512x256.size inb_S1x2048x256_S1x512x256_0_0_0))) (congrArg k0_pay20 (ldw arg4 harg4 x2 ![0, 0, 0] S1x512x128.size inb_S1x2048x128_S1x512x128_0_0_0))) (ldw_full arg7 k0_pay1 ![0, 0, 0] ![0, 0, 0] S1x512x256.size inb_S1x2048x256_S1x512x256_0_0_0 inb_S1x2048x256_S1x2048x256_0_0_0) :))
  iexists _; isplitr; swap; · iexact H6
  ipureintro
  refine (stw_full arg8 _ _ _ _ _ _ _ _).trans ?_
  exact congrArg (VecWindow.put k0_pay2 ![0, 0, 0] S1x512x128.size) ((congr (congr (congr (congrArg k0_pay19 (ldf arg2 harg2 x0 ![0, 0, 0] inb_S1x512x256_S1x512x256_0_0_0)) (ldw arg3 harg3 x1 ![0, 0, 0] S1x512x256.size inb_S1x2048x256_S1x512x256_0_0_0)) (ldf arg5 harg5 x3 ![0, 0] inb_S512x128_S512x128_0_0)) (ldw_full arg8 k0_pay2 ![0, 0, 0] ![0, 0, 0] S1x512x128.size inb_S1x2048x128_S1x512x128_0_0_0 inb_S1x2048x128_S1x2048x128_0_0_0) :))

end Cert.KernelIdeal.Hand

end
-- ==== Proof.RunB.lean ====
/-
  The body's run in one of its four cases: from the four input blocks and what the three output buffers hold, to what
  `Spec` says they hold afterwards.
-/
module

public import proofs.«01_k».proof.Proof.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run where the query block is number 1. -/
theorem runB (c : Dev nD) (i : grid0.Coords)
    (arg2 : Memref sig .tc .vmem S1x512x256 .bf16) (harg2 : arg2.IsWhole) (arg3 : Memref sig .tc .vmem S1x2048x256 .bf16) (harg3 : arg3.IsWhole)
    (arg4 : Memref sig .tc .vmem S1x2048x128 .bf16) (harg4 : arg4.IsWhole) (arg5 : Memref sig .tc .vmem S512x128 .bf16) (harg5 : arg5.IsWhole)
    (arg6 : Memref sig .tc .vmem S1x512x256 .f32) (harg6 : arg6.IsWhole) (arg7 : Memref sig .tc .vmem S1x2048x256 .f32) (harg7 : arg7.IsWhole)
    (arg8 : Memref sig .tc .vmem S1x2048x128 .f32) (harg8 : arg8.IsWhole)
    (hc0 : ¬(k0_cond1 i = 1#1)) (hc1 : ¬(k0_cond2 i = 1#1)) (hc2 : (k0_cond3 i = 1#1)) (hc3 : ¬(k0_cond4 i = 1#1)) (hc4 : ¬(k0_cond5 i = 1#1))
    (x0 : Vec F S1x512x256 .bf16) (x1 : Vec F S1x2048x256 .bf16) (x2 : Vec F S1x2048x128 .bf16) (x3 : Vec F S512x128 .bf16)
    (X5 : Vec F S1x2048x256 .f32) (X6 : Vec F S1x2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare X5 ∗ owns (c : Thread nD τ) arg8 fullShare X6
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (dqB x0 x1 x2 x3) ∗ owns (c : Thread nD τ) arg7 fullShare (dkB x0 x1 x2 x3 X5) ∗ owns (c : Thread nD τ) arg8 fullShare (dvB x0 x1 x3 X6)) -∗ K ⟨⟩))
      ⊢ wp frame (wpE (defs₀ (F := F)) Variants.none c none) E (cc0_mla_dattn i arg2 harg2 arg3 harg3 arg4 harg4 arg5 harg5 arg6 harg6 arg7 harg7 arg8 harg8) K := by
  simp only [cc0_mla_dattn_eq_skeleton]; unfold cc0_mla_dattn_skel
  simp only [k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full arg6.view _ _ _ _).trans ?_
    exact (congr (congr (congr (congrArg k0_pay7 (congrArg k0_pay22 (ldw arg3 harg3 x1 ![0, 0, 0] S1x1024x256.size inb_S1x2048x256_S1x1024x256_0_0_0))) (congrArg k0_pay23 (ldf arg5 harg5 x3 ![0, 0] inb_S512x128_S512x128_0_0)))
      (congr (congrArg k0_pay24 (ldf arg2 harg2 x0 ![0, 0, 0] inb_S1x512x256_S1x512x256_0_0_0)) (ldw arg3 harg3 x1 ![0, 0, 0] S1x1024x256.size inb_S1x2048x256_S1x1024x256_0_0_0))) (congrArg k0_pay26 (ldw arg4 harg4 x2 ![0, 0, 0] S1x1024x128.size inb_S1x2048x128_S1x1024x128_0_0_0)) :)
  isplitl [H5]
  · iexists _; isplitr; swap; · iexact H5
    ipureintro
    refine (stw arg7 harg7 X5 _ _ _ _).trans ?_
    exact congrArg (VecWindow.put X5 ![0, 0, 0] S1x1024x256.size) ((congr (congr (congr (congr (congrArg k0_pay8 (congrArg k0_pay21 (ldf arg2 harg2 x0 ![0, 0, 0] inb_S1x512x256_S1x512x256_0_0_0))) (congrArg k0_pay23 (ldf arg5 harg5 x3 ![0, 0] inb_S512x128_S512x128_0_0)))
      (congr (congrArg k0_pay24 (ldf arg2 harg2 x0 ![0, 0, 0] inb_S1x512x256_S1x512x256_0_0_0)) (ldw arg3 harg3 x1 ![0, 0, 0] S1x1024x256.size inb_S1x2048x256_S1x1024x256_0_0_0))) (congrArg k0_pay26 (ldw arg4 harg4 x2 ![0, 0, 0] S1x1024x128.size inb_S1x2048x128_S1x1024x128_0_0_0))) (ldw arg7 harg7 X5 ![0, 0, 0] S1x1024x256.size inb_S1x2048x256_S1x1024x256_0_0_0) :))
  iexists _; isplitr; swap; · iexact H6
  ipureintro
  refine (stw arg8 harg8 X6 _ _ _ _).trans ?_
  exact congrArg (VecWindow.put X6 ![0, 0, 0] S1x1024x128.size) ((congr (congr (congr (congrArg k0_pay25 (ldf arg2 harg2 x0 ![0, 0, 0] inb_S1x512x256_S1x512x256_0_0_0)) (ldw arg3 harg3 x1 ![0, 0, 0] S1x1024x256.size inb_S1x2048x256_S1x1024x256_0_0_0)) (ldf arg5 harg5 x3 ![0, 0] inb_S512x128_S512x128_0_0)) (ldw arg8 harg8 X6 ![0, 0, 0] S1x1024x128.size inb_S1x2048x128_S1x1024x128_0_0_0) :))

end Cert.KernelIdeal.Hand

end
-- ==== Proof.RunC.lean ====
/-
  The body's run in one of its four cases: from the four input blocks and what the three output buffers hold, to what
  `Spec` says they hold afterwards.
-/
module

public import proofs.«01_k».proof.Proof.RunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run where the query block is number 2. -/
theorem runC (c : Dev nD) (i : grid0.Coords)
    (arg2 : Memref sig .tc .vmem S1x512x256 .bf16) (harg2 : arg2.IsWhole) (arg3 : Memref sig .tc .vmem S1x2048x256 .bf16) (harg3 : arg3.IsWhole)
    (arg4 : Memref sig .tc .vmem S1x2048x128 .bf16) (harg4 : arg4.IsWhole) (arg5 : Memref sig .tc .vmem S512x128 .bf16) (harg5 : arg5.IsWhole)
    (arg6 : Memref sig .tc .vmem S1x512x256 .f32) (harg6 : arg6.IsWhole) (arg7 : Memref sig .tc .vmem S1x2048x256 .f32) (harg7 : arg7.IsWhole)
    (arg8 : Memref sig .tc .vmem S1x2048x128 .f32) (harg8 : arg8.IsWhole)
    (hc0 : ¬(k0_cond1 i = 1#1)) (hc1 : ¬(k0_cond2 i = 1#1)) (hc2 : ¬(k0_cond3 i = 1#1)) (hc3 : (k0_cond4 i = 1#1)) (hc4 : ¬(k0_cond5 i = 1#1))
    (x0 : Vec F S1x512x256 .bf16) (x1 : Vec F S1x2048x256 .bf16) (x2 : Vec F S1x2048x128 .bf16) (x3 : Vec F S512x128 .bf16)
    (X5 : Vec F S1x2048x256 .f32) (X6 : Vec F S1x2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare X5 ∗ owns (c : Thread nD τ) arg8 fullShare X6
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (dqC x0 x1 x2 x3) ∗ owns (c : Thread nD τ) arg7 fullShare (dkC x0 x1 x2 x3 X5) ∗ owns (c : Thread nD τ) arg8 fullShare (dvC x0 x1 x3 X6)) -∗ K ⟨⟩))
      ⊢ wp frame (wpE (defs₀ (F := F)) Variants.none c none) E (cc0_mla_dattn i arg2 harg2 arg3 harg3 arg4 harg4 arg5 harg5 arg6 harg6 arg7 harg7 arg8 harg8) K := by
  simp only [cc0_mla_dattn_eq_skeleton]; unfold cc0_mla_dattn_skel
  simp only [k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full arg6.view _ _ _ _).trans ?_
    exact (congr (congr (congr (congrArg k0_pay10 (congrArg k0_pay28 (ldw arg3 harg3 x1 ![0, 0, 0] S1x1536x256.size inb_S1x2048x256_S1x1536x256_0_0_0))) (congrArg k0_pay29 (ldf arg5 harg5 x3 ![0, 0] inb_S512x128_S512x128_0_0)))
      (congr (congrArg k0_pay30 (ldf arg2 harg2 x0 ![0, 0, 0] inb_S1x512x256_S1x512x256_0_0_0)) (ldw arg3 harg3 x1 ![0, 0, 0] S1x1536x256.size inb_S1x2048x256_S1x1536x256_0_0_0))) (congrArg k0_pay32 (ldw arg4 harg4 x2 ![0, 0, 0] S1x1536x128.size inb_S1x2048x128_S1x1536x128_0_0_0)) :)
  isplitl [H5]
  · iexists _; isplitr; swap; · iexact H5
    ipureintro
    refine (stw arg7 harg7 X5 _ _ _ _).trans ?_
    exact congrArg (VecWindow.put X5 ![0, 0, 0] S1x1536x256.size) ((congr (congr (congr (congr (congrArg k0_pay11 (congrArg k0_pay27 (ldf arg2 harg2 x0 ![0, 0, 0] inb_S1x512x256_S1x512x256_0_0_0))) (congrArg k0_pay29 (ldf arg5 harg5 x3 ![0, 0] inb_S512x128_S512x128_0_0)))
      (congr (congrArg k0_pay30 (ldf arg2 harg2 x0 ![0, 0, 0] inb_S1x512x256_S1x512x256_0_0_0)) (ldw arg3 harg3 x1 ![0, 0, 0] S1x1536x256.size inb_S1x2048x256_S1x1536x256_0_0_0))) (congrArg k0_pay32 (ldw arg4 harg4 x2 ![0, 0, 0] S1x1536x128.size inb_S1x2048x128_S1x1536x128_0_0_0))) (ldw arg7 harg7 X5 ![0, 0, 0] S1x1536x256.size inb_S1x2048x256_S1x1536x256_0_0_0) :))
  iexists _; isplitr; swap; · iexact H6
  ipureintro
  refine (stw arg8 harg8 X6 _ _ _ _).trans ?_
  exact congrArg (VecWindow.put X6 ![0, 0, 0] S1x1536x128.size) ((congr (congr (congr (congrArg k0_pay31 (ldf arg2 harg2 x0 ![0, 0, 0] inb_S1x512x256_S1x512x256_0_0_0)) (ldw arg3 harg3 x1 ![0, 0, 0] S1x1536x256.size inb_S1x2048x256_S1x1536x256_0_0_0)) (ldf arg5 harg5 x3 ![0, 0] inb_S512x128_S512x128_0_0)) (ldw arg8 harg8 X6 ![0, 0, 0] S1x1536x128.size inb_S1x2048x128_S1x1536x128_0_0_0) :))

end Cert.KernelIdeal.Hand

end
-- ==== Proof.RunD.lean ====
/-
  The body's run in one of its four cases: from the four input blocks and what the three output buffers hold, to what
  `Spec` says they hold afterwards.
-/
module

public import proofs.«01_k».proof.Proof.RunC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's run where the query block is number 3. -/
theorem runD (c : Dev nD) (i : grid0.Coords)
    (arg2 : Memref sig .tc .vmem S1x512x256 .bf16) (harg2 : arg2.IsWhole) (arg3 : Memref sig .tc .vmem S1x2048x256 .bf16) (harg3 : arg3.IsWhole)
    (arg4 : Memref sig .tc .vmem S1x2048x128 .bf16) (harg4 : arg4.IsWhole) (arg5 : Memref sig .tc .vmem S512x128 .bf16) (harg5 : arg5.IsWhole)
    (arg6 : Memref sig .tc .vmem S1x512x256 .f32) (harg6 : arg6.IsWhole) (arg7 : Memref sig .tc .vmem S1x2048x256 .f32) (harg7 : arg7.IsWhole)
    (arg8 : Memref sig .tc .vmem S1x2048x128 .f32) (harg8 : arg8.IsWhole)
    (hc0 : ¬(k0_cond1 i = 1#1)) (hc1 : ¬(k0_cond2 i = 1#1)) (hc2 : ¬(k0_cond3 i = 1#1)) (hc3 : ¬(k0_cond4 i = 1#1)) (hc4 : (k0_cond5 i = 1#1))
    (x0 : Vec F S1x512x256 .bf16) (x1 : Vec F S1x2048x256 .bf16) (x2 : Vec F S1x2048x128 .bf16) (x3 : Vec F S512x128 .bf16)
    (X5 : Vec F S1x2048x256 .f32) (X6 : Vec F S1x2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare X5 ∗ owns (c : Thread nD τ) arg8 fullShare X6
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (dqD x0 x1 x2 x3) ∗ owns (c : Thread nD τ) arg7 fullShare (dkD x0 x1 x2 x3 X5) ∗ owns (c : Thread nD τ) arg8 fullShare (dvD x0 x1 x3 X6)) -∗ K ⟨⟩))
      ⊢ wp frame (wpE (defs₀ (F := F)) Variants.none c none) E (cc0_mla_dattn i arg2 harg2 arg3 harg3 arg4 harg4 arg5 harg5 arg6 harg6 arg7 harg7 arg8 harg8) K := by
  simp only [cc0_mla_dattn_eq_skeleton]; unfold cc0_mla_dattn_skel
  simp only [k0_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hf6
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full arg6.view _ _ _ _).trans ?_
    exact (congr (congr (congr (congrArg k0_pay13 (congrArg k0_pay34 (ldf arg3 harg3 x1 ![0, 0, 0] inb_S1x2048x256_S1x2048x256_0_0_0))) (congrArg k0_pay35 (ldf arg5 harg5 x3 ![0, 0] inb_S512x128_S512x128_0_0)))
      (congr (congrArg k0_pay36 (ldf arg2 harg2 x0 ![0, 0, 0] inb_S1x512x256_S1x512x256_0_0_0)) (ldf arg3 harg3 x1 ![0, 0, 0] inb_S1x2048x256_S1x2048x256_0_0_0))) (congrArg k0_pay38 (ldf arg4 harg4 x2 ![0, 0, 0] inb_S1x2048x128_S1x2048x128_0_0_0)) :)
  isplitl [H5]
  · iexists _; isplitr; swap; · iexact H5
    ipureintro
    refine (View.read_writes_full arg7.view _ _ _ _).trans ?_
    exact ((congr (congr (congr (congr (congrArg k0_pay14 (congrArg k0_pay33 (ldf arg2 harg2 x0 ![0, 0, 0] inb_S1x512x256_S1x512x256_0_0_0))) (congrArg k0_pay35 (ldf arg5 harg5 x3 ![0, 0] inb_S512x128_S512x128_0_0)))
      (congr (congrArg k0_pay36 (ldf arg2 harg2 x0 ![0, 0, 0] inb_S1x512x256_S1x512x256_0_0_0)) (ldf arg3 harg3 x1 ![0, 0, 0] inb_S1x2048x256_S1x2048x256_0_0_0))) (congrArg k0_pay38 (ldf arg4 harg4 x2 ![0, 0, 0] inb_S1x2048x128_S1x2048x128_0_0_0))) (ldf arg7 harg7 X5 ![0, 0, 0] inb_S1x2048x256_S1x2048x256_0_0_0) :))
  iexists _; isplitr; swap; · iexact H6
  ipureintro
  refine (View.read_writes_full arg8.view _ _ _ _).trans ?_
  exact ((congr (congr (congr (congrArg k0_pay37 (ldf arg2 harg2 x0 ![0, 0, 0] inb_S1x512x256_S1x512x256_0_0_0)) (ldf arg3 harg3 x1 ![0, 0, 0] inb_S1x2048x256_S1x2048x256_0_0_0)) (ldf arg5 harg5 x3 ![0, 0] inb_S512x128_S512x128_0_0)) (ldf arg8 harg8 X6 ![0, 0, 0] inb_S1x2048x128_S1x2048x128_0_0_0) :))

end Cert.KernelIdeal.Hand

end
-- ==== Proof.Body.lean ====
/-
  The run of the whole idealized call: what each grid point leaves in the staging buffers (the blocks of query gradients;
  the key and value gradients of a head summed over its four query blocks), the body's triple at every point, the launch.
-/
module

public import proofs.«01_k».proof.Proof.RunD
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the points -/

/-- The two conditions of a head's first query block, and the one of each later block, in the coordinates. -/
theorem cond1_iff (i : grid0.Coords) : k0_cond1 i = 1#1 ↔ (i 1).val = 0 := by
  have h : (i 1).val < 4 := (i 1).isLt
  simp only [k0_cond1]; word_cmp
theorem cond2_iff (i : grid0.Coords) : k0_cond2 i = 1#1 ↔ (i 1).val = 0 := by
  have h : (i 1).val < 4 := (i 1).isLt
  simp only [k0_cond2]; word_cmp
theorem cond3_iff (i : grid0.Coords) : k0_cond3 i = 1#1 ↔ (i 1).val = 1 := by
  have h : (i 1).val < 4 := (i 1).isLt
  simp only [k0_cond3]; word_cmp
theorem cond4_iff (i : grid0.Coords) : k0_cond4 i = 1#1 ↔ (i 1).val = 2 := by
  have h : (i 1).val < 4 := (i 1).isLt
  simp only [k0_cond4]; word_cmp
theorem cond5_iff (i : grid0.Coords) : k0_cond5 i = 1#1 ↔ (i 1).val = 3 := by
  have h : (i 1).val < 4 := (i 1).isLt
  simp only [k0_cond5]; word_cmp

/-- The second grid coordinate of point `t` is `t % 4`. -/
theorem coord1 (t : Fin cfg0.N) : (grid0.coords t 1).val = t.val % 4 := by
  have e : (grid0.coords t 1).val = t.val / 1 % 4 := Pipeline.Grid.coords_val t 1 (by decide) rfl
  rw [e, Nat.div_one]
/-- The first grid coordinate of point `t` is `t / 4`. -/
theorem coord0 (t : Fin cfg0.N) : (grid0.coords t 0).val = t.val / 4 := by
  have ht : t.val < 64 := Nat.lt_of_lt_of_eq t.isLt N_0
  have e : (grid0.coords t 0).val = t.val / 4 % 16 := Pipeline.Grid.coords_val t 0 (by decide) rfl
  rw [e]; omega

/-- One of the four cases holds at every point, so no window is ever idle. -/
theorem live (w : Fin cfg0.W) (i : grid0.Coords) : cfg0.idle w i = false := by
  have h4 : (i 1).val < 4 := (i 1).isLt
  have hc : k0_cond2 i = 1#1 ∨ k0_cond3 i = 1#1 ∨ k0_cond4 i = 1#1 ∨ k0_cond5 i = 1#1 := by
    rw [cond2_iff, cond3_iff, cond4_iff, cond5_iff]; omega
  have h4' : (!(k0_cond2 i == 1#1) && !(k0_cond3 i == 1#1) && !(k0_cond4 i == 1#1) && !(k0_cond5 i == 1#1)) = false := by
    rcases hc with h | h | h | h <;> rw [h] <;> simp
  have h5' : (!(k0_cond1 i == 1#1) && !(k0_cond2 i == 1#1) && !(k0_cond3 i == 1#1) && !(k0_cond4 i == 1#1) && !(k0_cond5 i == 1#1)) = false := by
    rcases hc with h | h | h | h <;> rw [h] <;> simp
  match w with
  | ⟨0, _⟩ => rfl
  | ⟨1, _⟩ => rfl
  | ⟨2, _⟩ => rfl
  | ⟨3, _⟩ => rfl
  | ⟨4, _⟩ => exact h4'
  | ⟨5, _⟩ => exact h5'
  | ⟨6, _⟩ => exact h5'

/-! ## The blocks and the state after each point -/

/-- The block of queries of point `t`, its head's keys and values, its block of incoming gradients. -/
abbrev bQ (c : Dev nD) (t : Fin cfg0.N) : Vec F S1x512x256 .bf16 := iblk m c 0 t
abbrev bK (c : Dev nD) (t : Fin cfg0.N) : Vec F S1x2048x256 .bf16 := iblk m c 1 t
abbrev bV (c : Dev nD) (t : Fin cfg0.N) : Vec F S1x2048x128 .bf16 := iblk m c 2 t
abbrev bO (c : Dev nD) (t : Fin cfg0.N) : Vec F S512x128 .bf16 := iblk m c 3 t

/-- What point `t` leaves in the block of query gradients. -/
def outDq (c : Dev nD) (t : Fin cfg0.N) : Vec F S1x512x256 .f32 := stepDq t.val (bQ m c t) (bK m c t) (bV m c t) (bO m c t)

/-- The key gradients after the points up to number `n`: what the steps leave, one after the other. -/
def accDk (c : Dev nD) : (n : ℕ) → n < cfg0.N → Vec F S1x2048x256 .f32
  | 0, h => stepDk 0 (bQ m c ⟨0, h⟩) (bK m c ⟨0, h⟩) (bV m c ⟨0, h⟩) (bO m c ⟨0, h⟩) k0_pay1
  | n + 1, h => stepDk (n + 1) (bQ m c ⟨n + 1, h⟩) (bK m c ⟨n + 1, h⟩) (bV m c ⟨n + 1, h⟩) (bO m c ⟨n + 1, h⟩) (accDk c n (Nat.lt_of_succ_lt h))
/-- The value gradients after the points up to number `n`. -/
def accDv (c : Dev nD) : (n : ℕ) → n < cfg0.N → Vec F S1x2048x128 .f32
  | 0, h => stepDv 0 (bQ m c ⟨0, h⟩) (bK m c ⟨0, h⟩) (bO m c ⟨0, h⟩) k0_pay2
  | n + 1, h => stepDv (n + 1) (bQ m c ⟨n + 1, h⟩) (bK m c ⟨n + 1, h⟩) (bO m c ⟨n + 1, h⟩) (accDv c n (Nat.lt_of_succ_lt h))

/-- At a head's first point the key gradients start from zero. -/
theorem accDk_first (c : Dev nD) (n : ℕ) (h : n < cfg0.N) (h0 : n % 4 = 0) :
    accDk m c n h = dkA (bQ m c ⟨n, h⟩) (bK m c ⟨n, h⟩) (bV m c ⟨n, h⟩) (bO m c ⟨n, h⟩) k0_pay1 := by
  cases n with
  | zero => rw [accDk, stepDk, if_pos h0]
  | succ n => rw [accDk, stepDk, if_pos h0]
/-- At a later point they are the step of what the point before left. -/
theorem accDk_later (c : Dev nD) (n : ℕ) (h : n < cfg0.N) (h0 : n % 4 ≠ 0) :
    accDk m c n h = stepDk n (bQ m c ⟨n, h⟩) (bK m c ⟨n, h⟩) (bV m c ⟨n, h⟩) (bO m c ⟨n, h⟩) (accDk m c (n - 1) (Nat.lt_of_le_of_lt (Nat.sub_le _ _) h)) := by
  cases n with
  | zero => exact absurd rfl h0
  | succ n => rfl
/-- At a head's first point the value gradients start from zero. -/
theorem accDv_first (c : Dev nD) (n : ℕ) (h : n < cfg0.N) (h0 : n % 4 = 0) :
    accDv m c n h = dvA (bQ m c ⟨n, h⟩) (bK m c ⟨n, h⟩) (bO m c ⟨n, h⟩) k0_pay2 := by
  cases n with
  | zero => rw [accDv, stepDv, if_pos h0]
  | succ n => rw [accDv, stepDv, if_pos h0]
/-- At a later point they are the step of what the point before left. -/
theorem accDv_later (c : Dev nD) (n : ℕ) (h : n < cfg0.N) (h0 : n % 4 ≠ 0) :
    accDv m c n h = stepDv n (bQ m c ⟨n, h⟩) (bK m c ⟨n, h⟩) (bO m c ⟨n, h⟩) (accDv m c (n - 1) (Nat.lt_of_le_of_lt (Nat.sub_le _ _) h)) := by
  cases n with
  | zero => exact absurd rfl h0
  | succ n => rfl

/-! ## The pipeline's proof data -/

/-- The arrays as the region finds them; after the body the inputs' buffers at their blocks and the outputs' at the state
    above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outDq m c t
    | ⟨5, _⟩ => accDk m c t.val t.isLt
    | ⟨6, _⟩ => accDv m c t.val t.isLt
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- What the body leaves in each window's buffer. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outDq m c t := by dsimp only [dats]
theorem after5 (c : Dev nD) (t : Fin cfg0.N) : (dats m 0 c).after 5 t = accDk m c t.val t.isLt := by dsimp only [dats]
theorem after6 (c : Dev nD) (t : Fin cfg0.N) : (dats m 0 c).after 6 t = accDv m c t.val t.isLt := by dsimp only [dats]

/-- Each input's buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The key gradients' buffer holds, at a later point of a head, what the point before left. -/
theorem before5 (c : Dev nD) (t : Fin cfg0.N) (h0 : t.val % 4 ≠ 0) (d) :
    (dats m 0 c).before 5 t d = accDk m c (t.val - 1) (Nat.lt_of_le_of_lt (Nat.sub_le _ _) t.isLt) :=
  ((dats m 0 c).before_out_kept 5 rfl t (fun h => h0 (by rw [h]))
    (Bool.eq_false_iff.mpr fun hf => by have := (flush0_5 _).mp hf; simp only at this; omega) (live 5) (fun _ _ => rfl) d).trans (after5 m c _)
/-- The value gradients' buffer likewise. -/
theorem before6 (c : Dev nD) (t : Fin cfg0.N) (h0 : t.val % 4 ≠ 0) (d) :
    (dats m 0 c).before 6 t d = accDv m c (t.val - 1) (Nat.lt_of_le_of_lt (Nat.sub_le _ _) t.isLt) :=
  ((dats m 0 c).before_out_kept 6 rfl t (fun h => h0 (by rw [h]))
    (Bool.eq_false_iff.mpr fun hf => by have := (flush0_6 _).mp hf; simp only at this; omega) (live 6) (fun _ _ => rfl) d).trans (after6 m c _)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- A window is handed back at what the proof data says. -/
theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w (cfg0.grid.coords t)]

set_option maxHeartbeats 1600000 in
/-- The body at a point of query block number 0. -/
theorem soundA (c : Dev nD) (t : Fin cfg0.N) (hk : t.val % 4 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl]
  rw [leaves_eq, leaves_eq, leaves_eq, leaves_eq, leaves_eq, leaves_eq, leaves_eq, after0, after1, after2, after3, after4, after5, after6]
  have e4 : outDq m c t = dqA (bQ m c t) (bK m c t) (bV m c t) (bO m c t) := by rw [outDq, stepDq, if_pos hk]
  rw [e4]
  rw [accDk_first m c t.val t.isLt hk]
  rw [accDv_first m c t.val t.isLt hk]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (runA c (grid0.coords t) _ _ _ _ _ _ _ _ _ _ _ _ _ _ ((cond1_iff _).mpr ((coord1 t).trans hk)) ((cond2_iff _).mpr ((coord1 t).trans hk)) (fun h => absurd (((coord1 t).symm.trans ((cond3_iff _).mp h)).symm.trans hk) (by decide)) (fun h => absurd (((coord1 t).symm.trans ((cond4_iff _).mp h)).symm.trans hk) (by decide)) (fun h => absurd (((coord1 t).symm.trans ((cond5_iff _).mp h)).symm.trans hk) (by decide)) (bQ m c t) (bK m c t) (bV m c t) (bO m c t) _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
/-- The body at a point of query block number 1. -/
theorem soundB (c : Dev nD) (t : Fin cfg0.N) (hk : t.val % 4 = 1) :
    bodyPre m c t ⊢ wp frame (wpE (defs₀ (F := F)) Variants.none c none) Set.univ (bodyAt0 t) (fun _ => bodyPost m c t) := by
  unfold bodyPre bodyPost bodyAt0
  simp only [before0, before1, before2, before3]
  have h0 : t.val % 4 ≠ 0 := by omega
  simp only [before5 m c t h0, before6 m c t h0]
  rw [show (dats m 0 c).Φ t.succ = (dats m 0 c).Φ t.castSucc from rfl,
    show (dats m 0 c).owesAt () t.succ = (dats m 0 c).owesAt () t.castSucc from rfl]
  rw [leaves_eq, leaves_eq, leaves_eq, leaves_eq, leaves_eq, leaves_eq, leaves_eq, after0, after1, after2, after3, after4, after5, after6]
  have e4 : outDq m c t = dqB (bQ m c t) (bK m c t) (bV m c t) (bO m c t) := by rw [outDq, stepDq, if_neg (by omega : ¬ t.val % 4 = 0), if_pos hk]
  rw [e4]
  rw [accDk_later m c t.val t.isLt h0, stepDk, if_neg (by omega : ¬ t.val % 4 = 0), if_pos hk]
  rw [accDv_later m c t.val t.isLt h0, stepDv, if_neg (by omega : ¬ t.val % 4 = 0), if_pos hk]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (runB c (grid0.coords t) _ _ _ _ _ _ _ _ _ _ _ _ _ _ (fun h => absurd (((coord1 t).symm.trans ((cond1_iff _).mp h)).symm.trans hk) (by decide)) (fun h => absurd (((coord1 t).symm.trans ((cond2_iff _).mp h)).symm.trans hk) (by decide)) ((cond3_iff _).mpr ((coord1 t).trans hk)) (fun h => absurd (((coord1 t).symm.trans ((cond4_iff _).mp h)).symm.trans hk) (by decide)) (fun h => absurd (((coord1 t).symm.trans ((cond5_iff _).mp h)).symm.trans hk) (by decide)) (bQ m c t) (bK m c t) (bV m c t) (bO m c t) _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
/-- The body at a point of query block number 2. -/
theorem soundC (c : Dev nD) (t : Fin cfg0.N) (hk : t.val % 4 = 2) :
    bodyPre m c t ⊢ wp frame (wpE (defs₀ (F := F)) Variants.none c none) Set.univ (bodyAt0 t) (fun _ => bodyPost m c t) := by
  unfold bodyPre bodyPost bodyAt0
  simp only [before0, before1, before2, before3]
  have h0 : t.val % 4 ≠ 0 := by omega
  simp only [before5 m c t h0, before6 m c t h0]
  rw [show (dats m 0 c).Φ t.succ = (dats m 0 c).Φ t.castSucc from rfl,
    show (dats m 0 c).owesAt () t.succ = (dats m 0 c).owesAt () t.castSucc from rfl]
  rw [leaves_eq, leaves_eq, leaves_eq, leaves_eq, leaves_eq, leaves_eq, leaves_eq, after0, after1, after2, after3, after4, after5, after6]
  have e4 : outDq m c t = dqC (bQ m c t) (bK m c t) (bV m c t) (bO m c t) := by rw [outDq, stepDq, if_neg (by omega : ¬ t.val % 4 = 0), if_neg (by omega : ¬ t.val % 4 = 1), if_pos hk]
  rw [e4]
  rw [accDk_later m c t.val t.isLt h0, stepDk, if_neg (by omega : ¬ t.val % 4 = 0), if_neg (by omega : ¬ t.val % 4 = 1), if_pos hk]
  rw [accDv_later m c t.val t.isLt h0, stepDv, if_neg (by omega : ¬ t.val % 4 = 0), if_neg (by omega : ¬ t.val % 4 = 1), if_pos hk]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (runC c (grid0.coords t) _ _ _ _ _ _ _ _ _ _ _ _ _ _ (fun h => absurd (((coord1 t).symm.trans ((cond1_iff _).mp h)).symm.trans hk) (by decide)) (fun h => absurd (((coord1 t).symm.trans ((cond2_iff _).mp h)).symm.trans hk) (by decide)) (fun h => absurd (((coord1 t).symm.trans ((cond3_iff _).mp h)).symm.trans hk) (by decide)) ((cond4_iff _).mpr ((coord1 t).trans hk)) (fun h => absurd (((coord1 t).symm.trans ((cond5_iff _).mp h)).symm.trans hk) (by decide)) (bQ m c t) (bK m c t) (bV m c t) (bO m c t) _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
/-- The body at a point of query block number 3. -/
theorem soundD (c : Dev nD) (t : Fin cfg0.N) (hk : t.val % 4 = 3) :
    bodyPre m c t ⊢ wp frame (wpE (defs₀ (F := F)) Variants.none c none) Set.univ (bodyAt0 t) (fun _ => bodyPost m c t) := by
  unfold bodyPre bodyPost bodyAt0
  simp only [before0, before1, before2, before3]
  have h0 : t.val % 4 ≠ 0 := by omega
  simp only [before5 m c t h0, before6 m c t h0]
  rw [show (dats m 0 c).Φ t.succ = (dats m 0 c).Φ t.castSucc from rfl,
    show (dats m 0 c).owesAt () t.succ = (dats m 0 c).owesAt () t.castSucc from rfl]
  rw [leaves_eq, leaves_eq, leaves_eq, leaves_eq, leaves_eq, leaves_eq, leaves_eq, after0, after1, after2, after3, after4, after5, after6]
  have e4 : outDq m c t = dqD (bQ m c t) (bK m c t) (bV m c t) (bO m c t) := by rw [outDq, stepDq, if_neg (by omega : ¬ t.val % 4 = 0), if_neg (by omega : ¬ t.val % 4 = 1), if_neg (by omega : ¬ t.val % 4 = 2)]
  rw [e4]
  rw [accDk_later m c t.val t.isLt h0, stepDk, if_neg (by omega : ¬ t.val % 4 = 0), if_neg (by omega : ¬ t.val % 4 = 1), if_neg (by omega : ¬ t.val % 4 = 2)]
  rw [accDv_later m c t.val t.isLt h0, stepDv, if_neg (by omega : ¬ t.val % 4 = 0), if_neg (by omega : ¬ t.val % 4 = 1), if_neg (by omega : ¬ t.val % 4 = 2)]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (runD c (grid0.coords t) _ _ _ _ _ _ _ _ _ _ _ _ _ _ (fun h => absurd (((coord1 t).symm.trans ((cond1_iff _).mp h)).symm.trans hk) (by decide)) (fun h => absurd (((coord1 t).symm.trans ((cond2_iff _).mp h)).symm.trans hk) (by decide)) (fun h => absurd (((coord1 t).symm.trans ((cond3_iff _).mp h)).symm.trans hk) (by decide)) (fun h => absurd (((coord1 t).symm.trans ((cond4_iff _).mp h)).symm.trans hk) (by decide)) ((cond5_iff _).mpr ((coord1 t).trans hk)) (bQ m c t) (bK m c t) (bV m c t) (bO m c t) _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  have h : t.val % 4 = 0 ∨ t.val % 4 = 1 ∨ t.val % 4 = 2 ∨ t.val % 4 = 3 := by omega
  rcases h with h | h | h | h
  · exact soundA m c t h
  · exact soundB m c t h
  · exact soundC m c t h
  · exact soundD m c t h

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every fair run of the whole call ends with every array at what the proof data says and every counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Math.lean ====
/-
  Causal softmax and its gradient over the extended reals, one row at a time: a row of scores `s`, its query position `i`.
  A row of real scores has a real positive normaliser; positions after `i` get weight zero, so a row may be cut after any
  prefix that holds position `i`; and the two spellings of the score gradient (`p (dp - ∑ p dp)` of a kernel that keeps the
  weights, and the quotient rule of an automatic derivative) agree.
-/
module

public import Idealize.ShloMosaic.PureOps.Ideal
public import Idealize.ShloMosaic.Lib.Pointwise
public import Mathlib.Data.EReal.Inv

@[expose] public section

noncomputable section

namespace Cert.Attn

open Idealize.ShloMosaic

/-- A row of scores with the positions after `i` at minus infinity. -/
def msk {N : ℕ} (s : Fin N → EReal) (i : ℕ) (j : Fin N) : EReal := if j.val ≤ i then s j else ⊥
/-- The row's maximum. -/
def mx {N : ℕ} (s : Fin N → EReal) (i : ℕ) : EReal := Finset.univ.fold max ⊥ (msk s i)
/-- The unnormalised weights. -/
def ex {N : ℕ} (s : Fin N → EReal) (i : ℕ) (j : Fin N) : EReal := Ideal.exp (msk s i j - mx s i)
/-- The weights. -/
def pr {N : ℕ} (s : Fin N → EReal) (i : ℕ) (j : Fin N) : EReal := Ideal.div (ex s i j) (∑ j, ex s i j)
/-- The gradient of the scores, scaled by `c`: `dp` the gradients of the weights. -/
def dsf {N : ℕ} (s : Fin N → EReal) (i : ℕ) (dp : Fin N → EReal) (c : EReal) (j : Fin N) : EReal :=
  pr s i j * (dp j - ∑ j', pr s i j' * dp j') * c

/-- Every score of the row is a real number. -/
def RealRow {N : ℕ} (s : Fin N → EReal) : Prop := ∀ j, ∃ r : ℝ, s j = (r : EReal)

theorem mx_eq_sup {N : ℕ} (s : Fin N → EReal) (i : ℕ) : mx s i = Finset.univ.sup (msk s i) := rfl

/-- A row of real scores: real weights, zero after `i`, and a positive real normaliser. -/
theorem row_real {N : ℕ} (s : Fin N → EReal) (hs : RealRow s) (i : ℕ) (hi : i < N) :
    ∃ (e : Fin N → ℝ) (σ : ℝ), 0 < σ ∧ (∀ j, 0 ≤ e j) ∧ (∀ j, ex s i j = (e j : EReal)) ∧ (∀ j, ¬ j.val ≤ i → e j = 0) ∧ ∑ j, ex s i j = (σ : EReal) := by
  obtain ⟨M, hM⟩ : ∃ M : ℝ, mx s i = (M : EReal) := by
    have h1 : mx s i ≠ ⊥ := by
      obtain ⟨r, hr⟩ := hs ⟨i, hi⟩
      have h : msk s i ⟨i, hi⟩ ≤ mx s i := by rw [mx_eq_sup]; exact Finset.le_sup (Finset.mem_univ _)
      rw [msk, if_pos (le_refl i), hr] at h
      intro hb
      rw [hb, le_bot_iff] at h
      exact EReal.coe_ne_bot r h
    have h2 : mx s i ≠ ⊤ := by
      rw [mx_eq_sup]
      refine ne_of_lt ((Finset.sup_lt_iff bot_lt_top).mpr fun j _ => ?_)
      unfold msk
      split
      · obtain ⟨r, hr⟩ := hs j
        rw [hr]; exact EReal.coe_lt_top r
      · exact bot_lt_top
    exact ⟨(mx s i).toReal, (EReal.coe_toReal h2 h1).symm⟩
  have he : ∀ j, ∃ r : ℝ, 0 ≤ r ∧ ex s i j = (r : EReal) ∧ (¬ j.val ≤ i → r = 0) ∧ (j.val ≤ i → 0 < r) := by
    intro j
    unfold ex msk
    rw [hM]
    by_cases h : j.val ≤ i
    · obtain ⟨r, hr⟩ := hs j
      rw [if_pos h, hr, ← EReal.coe_sub]
      exact ⟨Real.exp (r - M), (Real.exp_pos _).le, rfl, fun h' => absurd h h', fun _ => Real.exp_pos _⟩
    · rw [if_neg h]
      refine ⟨0, le_refl _, ?_, fun _ => rfl, fun h' => absurd h' h⟩
      rw [EReal.bot_sub]; rfl
  choose e he0 he1 he2 he3 using he
  refine ⟨e, ∑ j, e j, ?_, he0, he1, he2, ?_⟩
  · exact Finset.sum_pos' (fun j _ => he0 j) ⟨⟨i, hi⟩, Finset.mem_univ _, he3 ⟨i, hi⟩ (le_refl _)⟩
  · rw [Finset.sum_congr rfl fun j _ => he1 j]
    exact (map_sum (⟨⟨(fun r : ℝ => (r : EReal)), rfl⟩, fun a b => EReal.coe_add a b⟩ : ℝ →+ EReal) e Finset.univ).symm

/-- Division by a positive real is multiplication by its inverse. -/
theorem div_coe (x : EReal) (σ : ℝ) (h : 0 < σ) : Ideal.div x (σ : EReal) = x * ((σ⁻¹ : ℝ) : EReal) := by
  have h0 : (σ : EReal) ≠ 0 := by rw [Ne, EReal.coe_eq_zero]; exact h.ne'
  rw [Ideal.div, if_neg h0, EReal.coe_inv]

/-- Positions after `i` get weight zero. -/
theorem pr_zero {N : ℕ} (s : Fin N → EReal) (hs : RealRow s) (i : ℕ) (hi : i < N) (j : Fin N) (h : ¬ j.val ≤ i) : pr s i j = 0 := by
  obtain ⟨e, σ, hσ, h0, h1, h2, h3⟩ := row_real s hs i hi
  rw [pr, h3, h1, h2 j h, div_coe _ σ hσ, EReal.coe_zero, zero_mul]

/-- and so have a score gradient of zero. -/
theorem dsf_zero {N : ℕ} (s : Fin N → EReal) (hs : RealRow s) (i : ℕ) (hi : i < N) (dp : Fin N → EReal) (c : EReal) (j : Fin N) (h : ¬ j.val ≤ i) :
    dsf s i dp c j = 0 := by
  rw [dsf, pr_zero s hs i hi j h, zero_mul, zero_mul]

/-- A sum whose terms from position `L` on are zero is the sum over the first `L`. -/
theorem sum_trunc {N L : ℕ} (hL : L ≤ N) (f : Fin N → EReal) (h : ∀ j : Fin N, L ≤ j.val → f j = 0) :
    ∑ j : Fin L, f (Fin.castLE hL j) = ∑ j, f j := by
  obtain ⟨k, rfl⟩ := Nat.exists_eq_add_of_le hL
  rw [Fin.sum_univ_add]
  rw [Finset.sum_eq_zero (s := Finset.univ) (f := fun j : Fin k => f (Fin.natAdd L j)) (fun j _ => h _ (by simp)), add_zero]
  rfl

/-- The maximum of a row cut after a prefix holding `i`. -/
theorem mx_trunc {N L : ℕ} (hL : L ≤ N) (s : Fin N → EReal) (i : ℕ) (hi : i < L) : mx (fun j : Fin L => s (Fin.castLE hL j)) i = mx s i := by
  rw [mx_eq_sup, mx_eq_sup]
  apply le_antisymm
  · refine Finset.sup_le fun j _ => ?_
    exact (Finset.le_sup (f := msk s i) (Finset.mem_univ (Fin.castLE hL j)))
  · refine Finset.sup_le fun j _ => ?_
    by_cases h : j.val < L
    · exact Finset.le_sup (f := msk (fun j : Fin L => s (Fin.castLE hL j)) i) (Finset.mem_univ (⟨j.val, h⟩ : Fin L))
    · rw [msk, if_neg (by omega)]; exact bot_le

theorem ex_trunc {N L : ℕ} (hL : L ≤ N) (s : Fin N → EReal) (i : ℕ) (hi : i < L) (j : Fin L) :
    ex (fun j : Fin L => s (Fin.castLE hL j)) i j = ex s i (Fin.castLE hL j) := by
  unfold ex; rw [mx_trunc hL s i hi]; rfl

/-- The weights of a row cut after a prefix holding `i`. -/
theorem pr_trunc {N L : ℕ} (hL : L ≤ N) (s : Fin N → EReal) (hs : RealRow s) (i : ℕ) (hi : i < L) (j : Fin L) :
    pr (fun j : Fin L => s (Fin.castLE hL j)) i j = pr s i (Fin.castLE hL j) := by
  unfold pr
  rw [ex_trunc hL s i hi, Finset.sum_congr rfl fun j _ => ex_trunc hL s i hi j, sum_trunc hL (ex s i)]
  intro j hj
  obtain ⟨e, σ, hσ, h0, h1, h2, h3⟩ := row_real s hs i (by omega)
  rw [h1, h2 j (by omega), EReal.coe_zero]

/-- The score gradient of a row cut after a prefix holding `i`. -/
theorem dsf_trunc {N L : ℕ} (hL : L ≤ N) (s : Fin N → EReal) (hs : RealRow s) (i : ℕ) (hi : i < L) (dp : Fin N → EReal) (c : EReal) (j : Fin L) :
    dsf (fun j : Fin L => s (Fin.castLE hL j)) i (fun j => dp (Fin.castLE hL j)) c j = dsf s i dp c (Fin.castLE hL j) := by
  unfold dsf
  rw [pr_trunc hL s hs i hi, Finset.sum_congr rfl fun j _ => by rw [pr_trunc hL s hs i hi j], sum_trunc hL (fun j => pr s i j * dp j)]
  intro j hj
  rw [pr_zero s hs i (by omega) j (by omega), zero_mul]

/-- A nonnegative real factor moves into a sum. -/
theorem mul_sum_coe {N : ℕ} (a : ℝ) (ha : 0 ≤ a) (f : Fin N → EReal) : (a : EReal) * ∑ j, f j = ∑ j, (a : EReal) * f j := by
  induction (Finset.univ : Finset (Fin N)) using Finset.cons_induction with
  | empty => simp
  | cons j t hj ih =>
    rw [Finset.sum_cons, Finset.sum_cons, EReal.left_distrib_of_nonneg_of_ne_top (EReal.coe_nonneg.mpr ha) (EReal.coe_ne_top a), ih]

/-- The two spellings of the score gradient. -/
theorem dsf_quot {N : ℕ} (s : Fin N → EReal) (hs : RealRow s) (i : ℕ) (hi : i < N) (dp : Fin N → EReal) (c : EReal) (j : Fin N) :
    dsf s i dp c j = (if j.val ≤ i then (Ideal.div (dp j) (∑ j, ex s i j) + -(∑ j', dp j' * Ideal.div 1 ((∑ j, ex s i j) * ∑ j, ex s i j) * ex s i j')) * ex s i j else 0) * c := by
  by_cases h : j.val ≤ i
  · rw [if_pos h, dsf]
    obtain ⟨e, σ, hσ, h0, h1, h2, h3⟩ := row_real s hs i hi
    have hp : ∀ j, pr s i j = ((σ⁻¹ : ℝ) : EReal) * (e j : EReal) := fun j => by rw [pr, h3, h1, div_coe _ σ hσ, mul_comm]
    have hσ' : (0 : ℝ) ≤ σ⁻¹ := (inv_pos.mpr hσ).le
    rw [h3, ← EReal.coe_mul, div_coe _ σ hσ, div_coe _ (σ * σ) (mul_pos hσ hσ), one_mul, h1]
    have hT : ∑ j', dp j' * (((σ * σ)⁻¹ : ℝ) : EReal) * ex s i j' = ((σ⁻¹ : ℝ) : EReal) * ∑ j', pr s i j' * dp j' := by
      rw [mul_sum_coe _ hσ']
      refine Finset.sum_congr rfl fun j' _ => ?_
      rw [hp, h1, mul_inv, EReal.coe_mul]
      ac_rfl
    rw [hT, hp, mul_comm (dp j), ← mul_neg, ← EReal.left_distrib_of_nonneg_of_ne_top (EReal.coe_nonneg.mpr hσ') (EReal.coe_ne_top _), ← sub_eq_add_neg]
    congr 1
    ac_rfl
  · rw [if_neg h, dsf_zero s hs i hi dp c j h, zero_mul]

end Cert.Attn

end
-- ==== Proof.Blocks.lean ====
/-
  The blocks one grid point of the idealized kernel leaves, entry by entry, over the extended reals: with the scores of a query
  row real, the key prefix a query block reads may be replaced by all 2048 keys, so the four cases read alike.
-/
module

public import proofs.«01_k».proof.Proof.Spec
public import proofs.«01_k».proof.Proof.Math
public import Idealize.ShloMosaic.Lib.Pointwise

@[expose] public section

set_option maxRecDepth 16384

noncomputable section

namespace Cert.KernelIdeal.Hand

open Idealize.ShloMosaic Idealize.ShloMosaic.TcCoe Idealize.SL.Sem Idealize.ShloMosaic.Pointwise
open Cert.KernelIdeal Cert.KernelIdeal.Gen Cert.Attn

/-- The scale of the scores, the number nearest to `192 ^ (-1/2)`. -/
def sc : EReal := Ideal.ofBits FTy.f32 1033096506#32
theorem ninf : Ideal.ofBits FTy.f32 4286578688#32 = ⊥ := by
  simp [Ideal.ofBits, Ideal.ieee]
theorem sc_real : ∃ r : ℝ, sc = (r : EReal) := by
  unfold sc
  show ∃ r : ℝ, Ideal.ieee 8 23 (1033096506#32) = (r : EReal)
  unfold Ideal.ieee
  dsimp only
  rw [if_neg (by decide), if_neg (by decide)]
  exact ⟨_, rfl⟩

/-- The causal mask: the comparison of the positions' words is the comparison of the positions. -/
theorem sel (b c a : ℕ) (hb : b < 2048) (hc : c < 2048) (ha : a < 2048) (x y : EReal) :
    Scalar.select (IntOp.cmpi CmpIPredicate.sle (BitVec.ofNat 32 b) (IntOp.addi (BitVec.ofNat 32 c) (BitVec.ofNat 32 a))) x y = if b ≤ c + a then x else y := by
  have h : (BitVec.ofNat 32 b).sle (BitVec.ofNat 32 c + BitVec.ofNat 32 a) = decide (b ≤ c + a) := by
    have e1 : (BitVec.ofNat 32 b).toInt = b := by rw [BitVec.toInt_eq_toNat_of_lt] <;> simp [BitVec.toNat_ofNat] <;> omega
    have e2 : (BitVec.ofNat 32 c + BitVec.ofNat 32 a).toInt = ((c + a : ℕ) : ℤ) := by
      rw [BitVec.toInt_eq_toNat_of_lt] <;> simp [BitVec.toNat_ofNat, BitVec.toNat_add] <;> omega
    unfold BitVec.sle
    rw [e1, e2]
    congr 1
    exact propext (by omega)
  show (if IntOp.cmpi CmpIPredicate.sle (BitVec.ofNat 32 b) (IntOp.addi (BitVec.ofNat 32 c) (BitVec.ofNat 32 a)) = 1#1 then x else y) = _
  show (if BitVec.ofBool ((BitVec.ofNat 32 b).sle (BitVec.ofNat 32 c + BitVec.ofNat 32 a)) = 1#1 then x else y) = _
  rw [h]
  by_cases hh : b ≤ c + a
  · rw [if_pos hh, decide_eq_true hh]; rfl
  · rw [if_neg hh, decide_eq_false hh]; rfl

variable (x0 : Vec Ideal S1x512x256 .bf16) (x1 : Vec Ideal S1x2048x256 .bf16) (x2 : Vec Ideal S1x2048x128 .bf16) (x3 : Vec Ideal S512x128 .bf16)

/-- The scores of row `r` of a query block. -/
def sB (r : Fin 512) (j : Fin 2048) : EReal := (∑ x : Fin 256, (x0 (ix3 0 r x) * x1 (ix3 0 j x) : EReal)) * sc
/-- The gradients of that row's weights. -/
def dpB (r : Fin 512) (j : Fin 2048) : EReal := ∑ x : Fin 128, (x3 (ix2 r x) * x2 (ix3 0 j x) : EReal)
/-- That row's weights, the block starting at position `512 * n`. -/
def wP (n : ℕ) (r : Fin 512) (j : Fin 2048) : EReal := pr (sB x0 x1 r) (512 * n + r.val) j
/-- The gradients of that row's scores. -/
def wG (n : ℕ) (r : Fin 512) (j : Fin 2048) : EReal := dsf (sB x0 x1 r) (512 * n + r.val) (dpB x2 x3 r) sc j

/-- The weights the first query block computes over its prefix of 512 keys. -/
theorem pA (k : Vec Ideal S1x512x256 .bf16) (hk : ∀ j x, k (ix3 0 j x) = x1 (ix3 0 (Fin.castLE (by omega : 512 ≤ 2048) j) x)) (a : Fin 512) (b : Fin 512) (i : ℕ) (hi : 512 * 0 + a.val = i) :
    k0_pay18 x0 k (ix2 a b) = pr (fun j : Fin 512 => sB x0 x1 a (Fin.castLE (by omega) j)) i b := by
  unfold k0_pay18 k0_pay15 k0_pay16
  pointwise
  simp only [hk, ninf]
  simp only [fun (b : Fin 512) (x y : EReal) => sel b.val (512 * 0) a.val (by omega) (by omega) (by omega) x y, hi]
  rfl

theorem dsA (k : Vec Ideal S1x512x256 .bf16) (hk : ∀ j x, k (ix3 0 j x) = x1 (ix3 0 (Fin.castLE (by omega : 512 ≤ 2048) j) x)) (v : Vec Ideal S1x512x128 .bf16) (hv : ∀ j x, v (ix3 0 j x) = x2 (ix3 0 (Fin.castLE (by omega : 512 ≤ 2048) j) x)) (a : Fin 512) (b : Fin 512) (i : ℕ) (hi : 512 * 0 + a.val = i) :
    k0_pay3 (k0_pay17 x3) (k0_pay18 x0 k) (k0_pay20 v) (ix2 a b) = dsf (fun j : Fin 512 => sB x0 x1 a (Fin.castLE (by omega) j)) i (fun j : Fin 512 => dpB x2 x3 a (Fin.castLE (by omega) j)) sc b := by
  unfold k0_pay3 k0_pay17 k0_pay20
  pointwise
  simp only [fun b => pA x0 x1 k hk a b i hi, hv]
  rfl

theorem winA256 {e : EltTy} (x : Vec Ideal S1x2048x256 e) (j : Fin 512) (d : Fin 256) :
    (VecWindow.window x ![0, 0, 0] S1x512x256.size inb_S1x2048x256_S1x512x256_0_0_0 : Vec Ideal S1x512x256 e) (ix3 0 j d) = x (ix3 0 (Fin.castLE (by omega : 512 ≤ 2048) j) d) := by
  refine congrArg x (funext fun a => ?_)
  fin_cases a
  · rfl
  · exact Fin.ext (show 0 + 1 * j.val = j.val by omega)
  · exact Fin.ext (show 0 + 1 * d.val = d.val by omega)
theorem winA128 {e : EltTy} (x : Vec Ideal S1x2048x128 e) (j : Fin 512) (d : Fin 128) :
    (VecWindow.window x ![0, 0, 0] S1x512x128.size inb_S1x2048x128_S1x512x128_0_0_0 : Vec Ideal S1x512x128 e) (ix3 0 j d) = x (ix3 0 (Fin.castLE (by omega : 512 ≤ 2048) j) d) := by
  refine congrArg x (funext fun a => ?_)
  fin_cases a
  · rfl
  · exact Fin.ext (show 0 + 1 * j.val = j.val by omega)
  · exact Fin.ext (show 0 + 1 * d.val = d.val by omega)
theorem putA256 (X : Vec Ideal S1x2048x256 .f32) (w : Vec Ideal S1x512x256 .f32) (j : Fin 2048) (d : Fin 256) :
    VecWindow.put X ![0, 0, 0] S1x512x256.size w (ix3 0 j d) = if h : j.val < 512 then w (ix3 0 ⟨j.val, h⟩ d) else X (ix3 0 j d) := by
  unfold VecWindow.put
  by_cases h : j.val < 512
  · rw [dif_pos h, dif_pos (fun a => by
      fin_cases a
      · exact ⟨Nat.le_refl 0, Nat.zero_lt_one⟩
      · exact ⟨Nat.zero_le _, show j.val < 0 + 512 by omega⟩
      · exact ⟨Nat.zero_le _, show d.val < 0 + 256 by omega⟩)]
    refine congrArg w (funext fun a => ?_)
    fin_cases a <;> rfl
  · rw [dif_neg h, dif_neg (fun hh => h (by have := (hh 1).2; simpa using this))]
theorem putA128 (X : Vec Ideal S1x2048x128 .f32) (w : Vec Ideal S1x512x128 .f32) (j : Fin 2048) (d : Fin 128) :
    VecWindow.put X ![0, 0, 0] S1x512x128.size w (ix3 0 j d) = if h : j.val < 512 then w (ix3 0 ⟨j.val, h⟩ d) else X (ix3 0 j d) := by
  unfold VecWindow.put
  by_cases h : j.val < 512
  · rw [dif_pos h, dif_pos (fun a => by
      fin_cases a
      · exact ⟨Nat.le_refl 0, Nat.zero_lt_one⟩
      · exact ⟨Nat.zero_le _, show j.val < 0 + 512 by omega⟩
      · exact ⟨Nat.zero_le _, show d.val < 0 + 128 by omega⟩)]
    refine congrArg w (funext fun a => ?_)
    fin_cases a <;> rfl
  · rw [dif_neg h, dif_neg (fun hh => h (by have := (hh 1).2; simpa using this))]
/-- The first query block's query gradients. -/
theorem dqA_at (hs : ∀ a, RealRow (sB x0 x1 a)) (a : Fin 512) (d : Fin 256) :
    dqA x0 x1 x2 x3 (ix3 0 a d) = ∑ j : Fin 2048, (wG x0 x1 x2 x3 0 a j * x1 (ix3 0 j d) : EReal) := by
  have e : ∀ (k : Vec Ideal S1x512x256 .bf16) (hk : ∀ j x, k (ix3 0 j x) = x1 (ix3 0 (Fin.castLE (by omega : 512 ≤ 2048) j) x)) (v : Vec Ideal S1x512x128 .bf16) (hv : ∀ j x, v (ix3 0 j x) = x2 (ix3 0 (Fin.castLE (by omega : 512 ≤ 2048) j) x)), k0_pay4 (k0_pay16 k) (k0_pay17 x3) (k0_pay18 x0 k) (k0_pay20 v) (ix3 0 a d)
      = ∑ j : Fin 512, ((wG x0 x1 x2 x3 0 a (Fin.castLE (by omega : 512 ≤ 2048) j) * x1 (ix3 0 (Fin.castLE (by omega : 512 ≤ 2048) j) d) : EReal)) := by
    intro k hk v hv
    unfold k0_pay4 k0_pay16
    pointwise
    refine Finset.sum_congr rfl fun j _ => ?_
    rw [dsA x0 x1 x2 x3 k hk v hv _ _ _ rfl, dsf_trunc (by omega : 512 ≤ 2048) (sB x0 x1 a) (hs a) (512 * 0 + a.val) (by omega), hk]
    rfl
  refine (e (VecWindow.window x1 ![0, 0, 0] S1x512x256.size inb_S1x2048x256_S1x512x256_0_0_0) (winA256 x1) (VecWindow.window x2 ![0, 0, 0] S1x512x128.size inb_S1x2048x128_S1x512x128_0_0_0) (winA128 x2)).trans ?_
  refine sum_trunc (by omega : 512 ≤ 2048) (fun j => (wG x0 x1 x2 x3 0 a j * x1 (ix3 0 j d) : EReal)) fun j hj => ?_
  show wG x0 x1 x2 x3 0 a j * _ = _
  rw [wG, dsf_zero _ (hs a) _ (by omega) _ _ _ (by omega), zero_mul]

/-- What the first query block adds to the key gradients. -/
theorem dkA_at (hs : ∀ a, RealRow (sB x0 x1 a)) (X : Vec Ideal S1x2048x256 .f32) (j : Fin 2048) (d : Fin 256) :
    dkA x0 x1 x2 x3 X (ix3 0 j d) = X (ix3 0 j d) + ∑ r : Fin 512, (wG x0 x1 x2 x3 0 r j * x0 (ix3 0 r d) : EReal) := by
  have e : ∀ (k : Vec Ideal S1x512x256 .bf16) (hk : ∀ j x, k (ix3 0 j x) = x1 (ix3 0 (Fin.castLE (by omega : 512 ≤ 2048) j) x)) (v : Vec Ideal S1x512x128 .bf16) (hv : ∀ j x, v (ix3 0 j x) = x2 (ix3 0 (Fin.castLE (by omega : 512 ≤ 2048) j) x)) (Y : Vec Ideal S1x512x256 .f32) (j : Fin 512), k0_pay5 (k0_pay15 x0) (k0_pay17 x3) (k0_pay18 x0 k) (k0_pay20 v) Y (ix3 0 j d)
      = Y (ix3 0 j d) + ∑ r : Fin 512, ((wG x0 x1 x2 x3 0 r (Fin.castLE (by omega : 512 ≤ 2048) j) * x0 (ix3 0 r d) : EReal)) := by
    intro k hk v hv Y j
    unfold k0_pay5 k0_pay15
    pointwise
    refine congrArg _ (Finset.sum_congr rfl fun r _ => ?_)
    rw [dsA x0 x1 x2 x3 k hk v hv _ _ _ rfl, dsf_trunc (by omega : 512 ≤ 2048) (sB x0 x1 r) (hs r) (512 * 0 + r.val) (by omega)]
    rfl
  unfold dkA
  rw [putA256]
  by_cases h : j.val < 512
  · rw [dif_pos h]
    refine (e (VecWindow.window x1 ![0, 0, 0] S1x512x256.size inb_S1x2048x256_S1x512x256_0_0_0) (winA256 x1) (VecWindow.window x2 ![0, 0, 0] S1x512x128.size inb_S1x2048x128_S1x512x128_0_0_0) (winA128 x2) _ ⟨j.val, h⟩).trans ?_
    rw [winA256]
    rfl
  · rw [dif_neg h, Finset.sum_eq_zero, add_zero]
    intro r _
    show wG x0 x1 x2 x3 0 r j * _ = _
    rw [wG, dsf_zero _ (hs r) _ (by omega) _ _ _ (by omega), zero_mul]

/-- What the first query block adds to the value gradients. -/
theorem dvA_at (hs : ∀ a, RealRow (sB x0 x1 a)) (X : Vec Ideal S1x2048x128 .f32) (j : Fin 2048) (d : Fin 128) :
    dvA x0 x1 x3 X (ix3 0 j d) = X (ix3 0 j d) + ∑ r : Fin 512, (wP x0 x1 0 r j * x3 (ix2 r d) : EReal) := by
  have e : ∀ (k : Vec Ideal S1x512x256 .bf16) (hk : ∀ j x, k (ix3 0 j x) = x1 (ix3 0 (Fin.castLE (by omega : 512 ≤ 2048) j) x)) (Y : Vec Ideal S1x512x128 .f32) (j : Fin 512), k0_pay19 x0 k x3 Y (ix3 0 j d)
      = Y (ix3 0 j d) + ∑ r : Fin 512, ((wP x0 x1 0 r (Fin.castLE (by omega : 512 ≤ 2048) j) * x3 (ix2 r d) : EReal)) := by
    intro k hk Y j
    unfold k0_pay19 k0_pay17
    pointwise
    refine congrArg _ (Finset.sum_congr rfl fun r _ => ?_)
    rw [pA x0 x1 k hk _ _ _ rfl, pr_trunc (by omega : 512 ≤ 2048) (sB x0 x1 r) (hs r) (512 * 0 + r.val) (by omega)]
    rfl
  unfold dvA
  rw [putA128]
  by_cases h : j.val < 512
  · rw [dif_pos h]
    refine (e (VecWindow.window x1 ![0, 0, 0] S1x512x256.size inb_S1x2048x256_S1x512x256_0_0_0) (winA256 x1) _ ⟨j.val, h⟩).trans ?_
    rw [winA128]
    rfl
  · rw [dif_neg h, Finset.sum_eq_zero, add_zero]
    intro r _
    show wP x0 x1 0 r j * _ = _
    rw [wP, pr_zero _ (hs r) _ (by omega) _ (by omega), zero_mul]

/-- The weights the second query block computes over its prefix of 1024 keys. -/
theorem pB (k : Vec Ideal S1x1024x256 .bf16) (hk : ∀ j x, k (ix3 0 j x) = x1 (ix3 0 (Fin.castLE (by omega : 1024 ≤ 2048) j) x)) (a : Fin 512) (b : Fin 1024) (i : ℕ) (hi : 512 * 1 + a.val = i) :
    k0_pay24 x0 k (ix2 a b) = pr (fun j : Fin 1024 => sB x0 x1 a (Fin.castLE (by omega) j)) i b := by
  unfold k0_pay24 k0_pay21 k0_pay22
  pointwise
  simp only [hk, ninf]
  simp only [fun (b : Fin 1024) (x y : EReal) => sel b.val (512 * 1) a.val (by omega) (by omega) (by omega) x y, hi]
  rfl

theorem dsB (k : Vec Ideal S1x1024x256 .bf16) (hk : ∀ j x, k (ix3 0 j x) = x1 (ix3 0 (Fin.castLE (by omega : 1024 ≤ 2048) j) x)) (v : Vec Ideal S1x1024x128 .bf16) (hv : ∀ j x, v (ix3 0 j x) = x2 (ix3 0 (Fin.castLE (by omega : 1024 ≤ 2048) j) x)) (a : Fin 512) (b : Fin 1024) (i : ℕ) (hi : 512 * 1 + a.val = i) :
    k0_pay6 (k0_pay23 x3) (k0_pay24 x0 k) (k0_pay26 v) (ix2 a b) = dsf (fun j : Fin 1024 => sB x0 x1 a (Fin.castLE (by omega) j)) i (fun j : Fin 1024 => dpB x2 x3 a (Fin.castLE (by omega) j)) sc b := by
  unfold k0_pay6 k0_pay23 k0_pay26
  pointwise
  simp only [fun b => pB x0 x1 k hk a b i hi, hv]
  rfl

theorem winB256 {e : EltTy} (x : Vec Ideal S1x2048x256 e) (j : Fin 1024) (d : Fin 256) :
    (VecWindow.window x ![0, 0, 0] S1x1024x256.size inb_S1x2048x256_S1x1024x256_0_0_0 : Vec Ideal S1x1024x256 e) (ix3 0 j d) = x (ix3 0 (Fin.castLE (by omega : 1024 ≤ 2048) j) d) := by
  refine congrArg x (funext fun a => ?_)
  fin_cases a
  · rfl
  · exact Fin.ext (show 0 + 1 * j.val = j.val by omega)
  · exact Fin.ext (show 0 + 1 * d.val = d.val by omega)
theorem winB128 {e : EltTy} (x : Vec Ideal S1x2048x128 e) (j : Fin 1024) (d : Fin 128) :
    (VecWindow.window x ![0, 0, 0] S1x1024x128.size inb_S1x2048x128_S1x1024x128_0_0_0 : Vec Ideal S1x1024x128 e) (ix3 0 j d) = x (ix3 0 (Fin.castLE (by omega : 1024 ≤ 2048) j) d) := by
  refine congrArg x (funext fun a => ?_)
  fin_cases a
  · rfl
  · exact Fin.ext (show 0 + 1 * j.val = j.val by omega)
  · exact Fin.ext (show 0 + 1 * d.val = d.val by omega)
theorem putB256 (X : Vec Ideal S1x2048x256 .f32) (w : Vec Ideal S1x1024x256 .f32) (j : Fin 2048) (d : Fin 256) :
    VecWindow.put X ![0, 0, 0] S1x1024x256.size w (ix3 0 j d) = if h : j.val < 1024 then w (ix3 0 ⟨j.val, h⟩ d) else X (ix3 0 j d) := by
  unfold VecWindow.put
  by_cases h : j.val < 1024
  · rw [dif_pos h, dif_pos (fun a => by
      fin_cases a
      · exact ⟨Nat.le_refl 0, Nat.zero_lt_one⟩
      · exact ⟨Nat.zero_le _, show j.val < 0 + 1024 by omega⟩
      · exact ⟨Nat.zero_le _, show d.val < 0 + 256 by omega⟩)]
    refine congrArg w (funext fun a => ?_)
    fin_cases a <;> rfl
  · rw [dif_neg h, dif_neg (fun hh => h (by have := (hh 1).2; simpa using this))]
theorem putB128 (X : Vec Ideal S1x2048x128 .f32) (w : Vec Ideal S1x1024x128 .f32) (j : Fin 2048) (d : Fin 128) :
    VecWindow.put X ![0, 0, 0] S1x1024x128.size w (ix3 0 j d) = if h : j.val < 1024 then w (ix3 0 ⟨j.val, h⟩ d) else X (ix3 0 j d) := by
  unfold VecWindow.put
  by_cases h : j.val < 1024
  · rw [dif_pos h, dif_pos (fun a => by
      fin_cases a
      · exact ⟨Nat.le_refl 0, Nat.zero_lt_one⟩
      · exact ⟨Nat.zero_le _, show j.val < 0 + 1024 by omega⟩
      · exact ⟨Nat.zero_le _, show d.val < 0 + 128 by omega⟩)]
    refine congrArg w (funext fun a => ?_)
    fin_cases a <;> rfl
  · rw [dif_neg h, dif_neg (fun hh => h (by have := (hh 1).2; simpa using this))]
/-- The second query block's query gradients. -/
theorem dqB_at (hs : ∀ a, RealRow (sB x0 x1 a)) (a : Fin 512) (d : Fin 256) :
    dqB x0 x1 x2 x3 (ix3 0 a d) = ∑ j : Fin 2048, (wG x0 x1 x2 x3 1 a j * x1 (ix3 0 j d) : EReal) := by
  have e : ∀ (k : Vec Ideal S1x1024x256 .bf16) (hk : ∀ j x, k (ix3 0 j x) = x1 (ix3 0 (Fin.castLE (by omega : 1024 ≤ 2048) j) x)) (v : Vec Ideal S1x1024x128 .bf16) (hv : ∀ j x, v (ix3 0 j x) = x2 (ix3 0 (Fin.castLE (by omega : 1024 ≤ 2048) j) x)), k0_pay7 (k0_pay22 k) (k0_pay23 x3) (k0_pay24 x0 k) (k0_pay26 v) (ix3 0 a d)
      = ∑ j : Fin 1024, ((wG x0 x1 x2 x3 1 a (Fin.castLE (by omega : 1024 ≤ 2048) j) * x1 (ix3 0 (Fin.castLE (by omega : 1024 ≤ 2048) j) d) : EReal)) := by
    intro k hk v hv
    unfold k0_pay7 k0_pay22
    pointwise
    refine Finset.sum_congr rfl fun j _ => ?_
    rw [dsB x0 x1 x2 x3 k hk v hv _ _ _ rfl, dsf_trunc (by omega : 1024 ≤ 2048) (sB x0 x1 a) (hs a) (512 * 1 + a.val) (by omega), hk]
    rfl
  refine (e (VecWindow.window x1 ![0, 0, 0] S1x1024x256.size inb_S1x2048x256_S1x1024x256_0_0_0) (winB256 x1) (VecWindow.window x2 ![0, 0, 0] S1x1024x128.size inb_S1x2048x128_S1x1024x128_0_0_0) (winB128 x2)).trans ?_
  refine sum_trunc (by omega : 1024 ≤ 2048) (fun j => (wG x0 x1 x2 x3 1 a j * x1 (ix3 0 j d) : EReal)) fun j hj => ?_
  show wG x0 x1 x2 x3 1 a j * _ = _
  rw [wG, dsf_zero _ (hs a) _ (by omega) _ _ _ (by omega), zero_mul]

/-- What the second query block adds to the key gradients. -/
theorem dkB_at (hs : ∀ a, RealRow (sB x0 x1 a)) (X : Vec Ideal S1x2048x256 .f32) (j : Fin 2048) (d : Fin 256) :
    dkB x0 x1 x2 x3 X (ix3 0 j d) = X (ix3 0 j d) + ∑ r : Fin 512, (wG x0 x1 x2 x3 1 r j * x0 (ix3 0 r d) : EReal) := by
  have e : ∀ (k : Vec Ideal S1x1024x256 .bf16) (hk : ∀ j x, k (ix3 0 j x) = x1 (ix3 0 (Fin.castLE (by omega : 1024 ≤ 2048) j) x)) (v : Vec Ideal S1x1024x128 .bf16) (hv : ∀ j x, v (ix3 0 j x) = x2 (ix3 0 (Fin.castLE (by omega : 1024 ≤ 2048) j) x)) (Y : Vec Ideal S1x1024x256 .f32) (j : Fin 1024), k0_pay8 (k0_pay21 x0) (k0_pay23 x3) (k0_pay24 x0 k) (k0_pay26 v) Y (ix3 0 j d)
      = Y (ix3 0 j d) + ∑ r : Fin 512, ((wG x0 x1 x2 x3 1 r (Fin.castLE (by omega : 1024 ≤ 2048) j) * x0 (ix3 0 r d) : EReal)) := by
    intro k hk v hv Y j
    unfold k0_pay8 k0_pay21
    pointwise
    refine congrArg _ (Finset.sum_congr rfl fun r _ => ?_)
    rw [dsB x0 x1 x2 x3 k hk v hv _ _ _ rfl, dsf_trunc (by omega : 1024 ≤ 2048) (sB x0 x1 r) (hs r) (512 * 1 + r.val) (by omega)]
    rfl
  unfold dkB
  rw [putB256]
  by_cases h : j.val < 1024
  · rw [dif_pos h]
    refine (e (VecWindow.window x1 ![0, 0, 0] S1x1024x256.size inb_S1x2048x256_S1x1024x256_0_0_0) (winB256 x1) (VecWindow.window x2 ![0, 0, 0] S1x1024x128.size inb_S1x2048x128_S1x1024x128_0_0_0) (winB128 x2) _ ⟨j.val, h⟩).trans ?_
    rw [winB256]
    rfl
  · rw [dif_neg h, Finset.sum_eq_zero, add_zero]
    intro r _
    show wG x0 x1 x2 x3 1 r j * _ = _
    rw [wG, dsf_zero _ (hs r) _ (by omega) _ _ _ (by omega), zero_mul]

/-- What the second query block adds to the value gradients. -/
theorem dvB_at (hs : ∀ a, RealRow (sB x0 x1 a)) (X : Vec Ideal S1x2048x128 .f32) (j : Fin 2048) (d : Fin 128) :
    dvB x0 x1 x3 X (ix3 0 j d) = X (ix3 0 j d) + ∑ r : Fin 512, (wP x0 x1 1 r j * x3 (ix2 r d) : EReal) := by
  have e : ∀ (k : Vec Ideal S1x1024x256 .bf16) (hk : ∀ j x, k (ix3 0 j x) = x1 (ix3 0 (Fin.castLE (by omega : 1024 ≤ 2048) j) x)) (Y : Vec Ideal S1x1024x128 .f32) (j : Fin 1024), k0_pay25 x0 k x3 Y (ix3 0 j d)
      = Y (ix3 0 j d) + ∑ r : Fin 512, ((wP x0 x1 1 r (Fin.castLE (by omega : 1024 ≤ 2048) j) * x3 (ix2 r d) : EReal)) := by
    intro k hk Y j
    unfold k0_pay25 k0_pay23
    pointwise
    refine congrArg _ (Finset.sum_congr rfl fun r _ => ?_)
    rw [pB x0 x1 k hk _ _ _ rfl, pr_trunc (by omega : 1024 ≤ 2048) (sB x0 x1 r) (hs r) (512 * 1 + r.val) (by omega)]
    rfl
  unfold dvB
  rw [putB128]
  by_cases h : j.val < 1024
  · rw [dif_pos h]
    refine (e (VecWindow.window x1 ![0, 0, 0] S1x1024x256.size inb_S1x2048x256_S1x1024x256_0_0_0) (winB256 x1) _ ⟨j.val, h⟩).trans ?_
    rw [winB128]
    rfl
  · rw [dif_neg h, Finset.sum_eq_zero, add_zero]
    intro r _
    show wP x0 x1 1 r j * _ = _
    rw [wP, pr_zero _ (hs r) _ (by omega) _ (by omega), zero_mul]

/-- The weights the third query block computes over its prefix of 1536 keys. -/
theorem pC (k : Vec Ideal S1x1536x256 .bf16) (hk : ∀ j x, k (ix3 0 j x) = x1 (ix3 0 (Fin.castLE (by omega : 1536 ≤ 2048) j) x)) (a : Fin 512) (b : Fin 1536) (i : ℕ) (hi : 512 * 2 + a.val = i) :
    k0_pay30 x0 k (ix2 a b) = pr (fun j : Fin 1536 => sB x0 x1 a (Fin.castLE (by omega) j)) i b := by
  unfold k0_pay30 k0_pay27 k0_pay28
  pointwise
  simp only [hk, ninf]
  simp only [fun (b : Fin 1536) (x y : EReal) => sel b.val (512 * 2) a.val (by omega) (by omega) (by omega) x y, hi]
  rfl

theorem dsC (k : Vec Ideal S1x1536x256 .bf16) (hk : ∀ j x, k (ix3 0 j x) = x1 (ix3 0 (Fin.castLE (by omega : 1536 ≤ 2048) j) x)) (v : Vec Ideal S1x1536x128 .bf16) (hv : ∀ j x, v (ix3 0 j x) = x2 (ix3 0 (Fin.castLE (by omega : 1536 ≤ 2048) j) x)) (a : Fin 512) (b : Fin 1536) (i : ℕ) (hi : 512 * 2 + a.val = i) :
    k0_pay9 (k0_pay29 x3) (k0_pay30 x0 k) (k0_pay32 v) (ix2 a b) = dsf (fun j : Fin 1536 => sB x0 x1 a (Fin.castLE (by omega) j)) i (fun j : Fin 1536 => dpB x2 x3 a (Fin.castLE (by omega) j)) sc b := by
  unfold k0_pay9 k0_pay29 k0_pay32
  pointwise
  simp only [fun b => pC x0 x1 k hk a b i hi, hv]
  rfl

theorem winC256 {e : EltTy} (x : Vec Ideal S1x2048x256 e) (j : Fin 1536) (d : Fin 256) :
    (VecWindow.window x ![0, 0, 0] S1x1536x256.size inb_S1x2048x256_S1x1536x256_0_0_0 : Vec Ideal S1x1536x256 e) (ix3 0 j d) = x (ix3 0 (Fin.castLE (by omega : 1536 ≤ 2048) j) d) := by
  refine congrArg x (funext fun a => ?_)
  fin_cases a
  · rfl
  · exact Fin.ext (show 0 + 1 * j.val = j.val by omega)
  · exact Fin.ext (show 0 + 1 * d.val = d.val by omega)
theorem winC128 {e : EltTy} (x : Vec Ideal S1x2048x128 e) (j : Fin 1536) (d : Fin 128) :
    (VecWindow.window x ![0, 0, 0] S1x1536x128.size inb_S1x2048x128_S1x1536x128_0_0_0 : Vec Ideal S1x1536x128 e) (ix3 0 j d) = x (ix3 0 (Fin.castLE (by omega : 1536 ≤ 2048) j) d) := by
  refine congrArg x (funext fun a => ?_)
  fin_cases a
  · rfl
  · exact Fin.ext (show 0 + 1 * j.val = j.val by omega)
  · exact Fin.ext (show 0 + 1 * d.val = d.val by omega)
theorem putC256 (X : Vec Ideal S1x2048x256 .f32) (w : Vec Ideal S1x1536x256 .f32) (j : Fin 2048) (d : Fin 256) :
    VecWindow.put X ![0, 0, 0] S1x1536x256.size w (ix3 0 j d) = if h : j.val < 1536 then w (ix3 0 ⟨j.val, h⟩ d) else X (ix3 0 j d) := by
  unfold VecWindow.put
  by_cases h : j.val < 1536
  · rw [dif_pos h, dif_pos (fun a => by
      fin_cases a
      · exact ⟨Nat.le_refl 0, Nat.zero_lt_one⟩
      · exact ⟨Nat.zero_le _, show j.val < 0 + 1536 by omega⟩
      · exact ⟨Nat.zero_le _, show d.val < 0 + 256 by omega⟩)]
    refine congrArg w (funext fun a => ?_)
    fin_cases a <;> rfl
  · rw [dif_neg h, dif_neg (fun hh => h (by have := (hh 1).2; simpa using this))]
theorem putC128 (X : Vec Ideal S1x2048x128 .f32) (w : Vec Ideal S1x1536x128 .f32) (j : Fin 2048) (d : Fin 128) :
    VecWindow.put X ![0, 0, 0] S1x1536x128.size w (ix3 0 j d) = if h : j.val < 1536 then w (ix3 0 ⟨j.val, h⟩ d) else X (ix3 0 j d) := by
  unfold VecWindow.put
  by_cases h : j.val < 1536
  · rw [dif_pos h, dif_pos (fun a => by
      fin_cases a
      · exact ⟨Nat.le_refl 0, Nat.zero_lt_one⟩
      · exact ⟨Nat.zero_le _, show j.val < 0 + 1536 by omega⟩
      · exact ⟨Nat.zero_le _, show d.val < 0 + 128 by omega⟩)]
    refine congrArg w (funext fun a => ?_)
    fin_cases a <;> rfl
  · rw [dif_neg h, dif_neg (fun hh => h (by have := (hh 1).2; simpa using this))]
/-- The third query block's query gradients. -/
theorem dqC_at (hs : ∀ a, RealRow (sB x0 x1 a)) (a : Fin 512) (d : Fin 256) :
    dqC x0 x1 x2 x3 (ix3 0 a d) = ∑ j : Fin 2048, (wG x0 x1 x2 x3 2 a j * x1 (ix3 0 j d) : EReal) := by
  have e : ∀ (k : Vec Ideal S1x1536x256 .bf16) (hk : ∀ j x, k (ix3 0 j x) = x1 (ix3 0 (Fin.castLE (by omega : 1536 ≤ 2048) j) x)) (v : Vec Ideal S1x1536x128 .bf16) (hv : ∀ j x, v (ix3 0 j x) = x2 (ix3 0 (Fin.castLE (by omega : 1536 ≤ 2048) j) x)), k0_pay10 (k0_pay28 k) (k0_pay29 x3) (k0_pay30 x0 k) (k0_pay32 v) (ix3 0 a d)
      = ∑ j : Fin 1536, ((wG x0 x1 x2 x3 2 a (Fin.castLE (by omega : 1536 ≤ 2048) j) * x1 (ix3 0 (Fin.castLE (by omega : 1536 ≤ 2048) j) d) : EReal)) := by
    intro k hk v hv
    unfold k0_pay10 k0_pay28
    pointwise
    refine Finset.sum_congr rfl fun j _ => ?_
    rw [dsC x0 x1 x2 x3 k hk v hv _ _ _ rfl, dsf_trunc (by omega : 1536 ≤ 2048) (sB x0 x1 a) (hs a) (512 * 2 + a.val) (by omega), hk]
    rfl
  refine (e (VecWindow.window x1 ![0, 0, 0] S1x1536x256.size inb_S1x2048x256_S1x1536x256_0_0_0) (winC256 x1) (VecWindow.window x2 ![0, 0, 0] S1x1536x128.size inb_S1x2048x128_S1x1536x128_0_0_0) (winC128 x2)).trans ?_
  refine sum_trunc (by omega : 1536 ≤ 2048) (fun j => (wG x0 x1 x2 x3 2 a j * x1 (ix3 0 j d) : EReal)) fun j hj => ?_
  show wG x0 x1 x2 x3 2 a j * _ = _
  rw [wG, dsf_zero _ (hs a) _ (by omega) _ _ _ (by omega), zero_mul]

/-- What the third query block adds to the key gradients. -/
theorem dkC_at (hs : ∀ a, RealRow (sB x0 x1 a)) (X : Vec Ideal S1x2048x256 .f32) (j : Fin 2048) (d : Fin 256) :
    dkC x0 x1 x2 x3 X (ix3 0 j d) = X (ix3 0 j d) + ∑ r : Fin 512, (wG x0 x1 x2 x3 2 r j * x0 (ix3 0 r d) : EReal) := by
  have e : ∀ (k : Vec Ideal S1x1536x256 .bf16) (hk : ∀ j x, k (ix3 0 j x) = x1 (ix3 0 (Fin.castLE (by omega : 1536 ≤ 2048) j) x)) (v : Vec Ideal S1x1536x128 .bf16) (hv : ∀ j x, v (ix3 0 j x) = x2 (ix3 0 (Fin.castLE (by omega : 1536 ≤ 2048) j) x)) (Y : Vec Ideal S1x1536x256 .f32) (j : Fin 1536), k0_pay11 (k0_pay27 x0) (k0_pay29 x3) (k0_pay30 x0 k) (k0_pay32 v) Y (ix3 0 j d)
      = Y (ix3 0 j d) + ∑ r : Fin 512, ((wG x0 x1 x2 x3 2 r (Fin.castLE (by omega : 1536 ≤ 2048) j) * x0 (ix3 0 r d) : EReal)) := by
    intro k hk v hv Y j
    unfold k0_pay11 k0_pay27
    pointwise
    refine congrArg _ (Finset.sum_congr rfl fun r _ => ?_)
    rw [dsC x0 x1 x2 x3 k hk v hv _ _ _ rfl, dsf_trunc (by omega : 1536 ≤ 2048) (sB x0 x1 r) (hs r) (512 * 2 + r.val) (by omega)]
    rfl
  unfold dkC
  rw [putC256]
  by_cases h : j.val < 1536
  · rw [dif_pos h]
    refine (e (VecWindow.window x1 ![0, 0, 0] S1x1536x256.size inb_S1x2048x256_S1x1536x256_0_0_0) (winC256 x1) (VecWindow.window x2 ![0, 0, 0] S1x1536x128.size inb_S1x2048x128_S1x1536x128_0_0_0) (winC128 x2) _ ⟨j.val, h⟩).trans ?_
    rw [winC256]
    rfl
  · rw [dif_neg h, Finset.sum_eq_zero, add_zero]
    intro r _
    show wG x0 x1 x2 x3 2 r j * _ = _
    rw [wG, dsf_zero _ (hs r) _ (by omega) _ _ _ (by omega), zero_mul]

/-- What the third query block adds to the value gradients. -/
theorem dvC_at (hs : ∀ a, RealRow (sB x0 x1 a)) (X : Vec Ideal S1x2048x128 .f32) (j : Fin 2048) (d : Fin 128) :
    dvC x0 x1 x3 X (ix3 0 j d) = X (ix3 0 j d) + ∑ r : Fin 512, (wP x0 x1 2 r j * x3 (ix2 r d) : EReal) := by
  have e : ∀ (k : Vec Ideal S1x1536x256 .bf16) (hk : ∀ j x, k (ix3 0 j x) = x1 (ix3 0 (Fin.castLE (by omega : 1536 ≤ 2048) j) x)) (Y : Vec Ideal S1x1536x128 .f32) (j : Fin 1536), k0_pay31 x0 k x3 Y (ix3 0 j d)
      = Y (ix3 0 j d) + ∑ r : Fin 512, ((wP x0 x1 2 r (Fin.castLE (by omega : 1536 ≤ 2048) j) * x3 (ix2 r d) : EReal)) := by
    intro k hk Y j
    unfold k0_pay31 k0_pay29
    pointwise
    refine congrArg _ (Finset.sum_congr rfl fun r _ => ?_)
    rw [pC x0 x1 k hk _ _ _ rfl, pr_trunc (by omega : 1536 ≤ 2048) (sB x0 x1 r) (hs r) (512 * 2 + r.val) (by omega)]
    rfl
  unfold dvC
  rw [putC128]
  by_cases h : j.val < 1536
  · rw [dif_pos h]
    refine (e (VecWindow.window x1 ![0, 0, 0] S1x1536x256.size inb_S1x2048x256_S1x1536x256_0_0_0) (winC256 x1) _ ⟨j.val, h⟩).trans ?_
    rw [winC128]
    rfl
  · rw [dif_neg h, Finset.sum_eq_zero, add_zero]
    intro r _
    show wP x0 x1 2 r j * _ = _
    rw [wP, pr_zero _ (hs r) _ (by omega) _ (by omega), zero_mul]

/-- The weights the fourth query block computes over its prefix of 2048 keys. -/
theorem pD (k : Vec Ideal S1x2048x256 .bf16) (hk : ∀ j x, k (ix3 0 j x) = x1 (ix3 0 (Fin.castLE (by omega : 2048 ≤ 2048) j) x)) (a : Fin 512) (b : Fin 2048) (i : ℕ) (hi : 512 * 3 + a.val = i) :
    k0_pay36 x0 k (ix2 a b) = pr (fun j : Fin 2048 => sB x0 x1 a (Fin.castLE (by omega) j)) i b := by
  unfold k0_pay36 k0_pay33 k0_pay34
  pointwise
  simp only [hk, ninf]
  simp only [fun (b : Fin 2048) (x y : EReal) => sel b.val (512 * 3) a.val (by omega) (by omega) (by omega) x y, hi]
  rfl

theorem dsD (k : Vec Ideal S1x2048x256 .bf16) (hk : ∀ j x, k (ix3 0 j x) = x1 (ix3 0 (Fin.castLE (by omega : 2048 ≤ 2048) j) x)) (v : Vec Ideal S1x2048x128 .bf16) (hv : ∀ j x, v (ix3 0 j x) = x2 (ix3 0 (Fin.castLE (by omega : 2048 ≤ 2048) j) x)) (a : Fin 512) (b : Fin 2048) (i : ℕ) (hi : 512 * 3 + a.val = i) :
    k0_pay12 (k0_pay35 x3) (k0_pay36 x0 k) (k0_pay38 v) (ix2 a b) = dsf (fun j : Fin 2048 => sB x0 x1 a (Fin.castLE (by omega) j)) i (fun j : Fin 2048 => dpB x2 x3 a (Fin.castLE (by omega) j)) sc b := by
  unfold k0_pay12 k0_pay35 k0_pay38
  pointwise
  simp only [fun b => pD x0 x1 k hk a b i hi, hv]
  rfl

/-- The fourth query block's query gradients. -/
theorem dqD_at (hs : ∀ a, RealRow (sB x0 x1 a)) (a : Fin 512) (d : Fin 256) :
    dqD x0 x1 x2 x3 (ix3 0 a d) = ∑ j : Fin 2048, (wG x0 x1 x2 x3 3 a j * x1 (ix3 0 j d) : EReal) := by
  have e : ∀ (k : Vec Ideal S1x2048x256 .bf16) (hk : ∀ j x, k (ix3 0 j x) = x1 (ix3 0 (Fin.castLE (by omega : 2048 ≤ 2048) j) x)) (v : Vec Ideal S1x2048x128 .bf16) (hv : ∀ j x, v (ix3 0 j x) = x2 (ix3 0 (Fin.castLE (by omega : 2048 ≤ 2048) j) x)), k0_pay13 (k0_pay34 k) (k0_pay35 x3) (k0_pay36 x0 k) (k0_pay38 v) (ix3 0 a d)
      = ∑ j : Fin 2048, ((wG x0 x1 x2 x3 3 a (Fin.castLE (by omega : 2048 ≤ 2048) j) * x1 (ix3 0 (Fin.castLE (by omega : 2048 ≤ 2048) j) d) : EReal)) := by
    intro k hk v hv
    unfold k0_pay13 k0_pay34
    pointwise
    refine Finset.sum_congr rfl fun j _ => ?_
    rw [dsD x0 x1 x2 x3 k hk v hv _ _ _ rfl, dsf_trunc (by omega : 2048 ≤ 2048) (sB x0 x1 a) (hs a) (512 * 3 + a.val) (by omega), hk]
    rfl
  refine (e x1 (fun j x => rfl) x2 (fun j x => rfl)).trans ?_
  refine sum_trunc (by omega : 2048 ≤ 2048) (fun j => (wG x0 x1 x2 x3 3 a j * x1 (ix3 0 j d) : EReal)) fun j hj => ?_
  show wG x0 x1 x2 x3 3 a j * _ = _
  rw [wG, dsf_zero _ (hs a) _ (by omega) _ _ _ (by omega), zero_mul]

/-- What the fourth query block adds to the key gradients. -/
theorem dkD_at (hs : ∀ a, RealRow (sB x0 x1 a)) (X : Vec Ideal S1x2048x256 .f32) (j : Fin 2048) (d : Fin 256) :
    dkD x0 x1 x2 x3 X (ix3 0 j d) = X (ix3 0 j d) + ∑ r : Fin 512, (wG x0 x1 x2 x3 3 r j * x0 (ix3 0 r d) : EReal) := by
  have e : ∀ (k : Vec Ideal S1x2048x256 .bf16) (hk : ∀ j x, k (ix3 0 j x) = x1 (ix3 0 (Fin.castLE (by omega : 2048 ≤ 2048) j) x)) (v : Vec Ideal S1x2048x128 .bf16) (hv : ∀ j x, v (ix3 0 j x) = x2 (ix3 0 (Fin.castLE (by omega : 2048 ≤ 2048) j) x)) (Y : Vec Ideal S1x2048x256 .f32) (j : Fin 2048), k0_pay14 (k0_pay33 x0) (k0_pay35 x3) (k0_pay36 x0 k) (k0_pay38 v) Y (ix3 0 j d)
      = Y (ix3 0 j d) + ∑ r : Fin 512, ((wG x0 x1 x2 x3 3 r (Fin.castLE (by omega : 2048 ≤ 2048) j) * x0 (ix3 0 r d) : EReal)) := by
    intro k hk v hv Y j
    unfold k0_pay14 k0_pay33
    pointwise
    refine congrArg _ (Finset.sum_congr rfl fun r _ => ?_)
    rw [dsD x0 x1 x2 x3 k hk v hv _ _ _ rfl, dsf_trunc (by omega : 2048 ≤ 2048) (sB x0 x1 r) (hs r) (512 * 3 + r.val) (by omega)]
    rfl
  exact e x1 (fun j x => rfl) x2 (fun j x => rfl) X j

/-- What the fourth query block adds to the value gradients. -/
theorem dvD_at (hs : ∀ a, RealRow (sB x0 x1 a)) (X : Vec Ideal S1x2048x128 .f32) (j : Fin 2048) (d : Fin 128) :
    dvD x0 x1 x3 X (ix3 0 j d) = X (ix3 0 j d) + ∑ r : Fin 512, (wP x0 x1 3 r j * x3 (ix2 r d) : EReal) := by
  have e : ∀ (k : Vec Ideal S1x2048x256 .bf16) (hk : ∀ j x, k (ix3 0 j x) = x1 (ix3 0 (Fin.castLE (by omega : 2048 ≤ 2048) j) x)) (Y : Vec Ideal S1x2048x128 .f32) (j : Fin 2048), k0_pay37 x0 k x3 Y (ix3 0 j d)
      = Y (ix3 0 j d) + ∑ r : Fin 512, ((wP x0 x1 3 r (Fin.castLE (by omega : 2048 ≤ 2048) j) * x3 (ix2 r d) : EReal)) := by
    intro k hk Y j
    unfold k0_pay37 k0_pay35
    pointwise
    refine congrArg _ (Finset.sum_congr rfl fun r _ => ?_)
    rw [pD x0 x1 k hk _ _ _ rfl, pr_trunc (by omega : 2048 ≤ 2048) (sB x0 x1 r) (hs r) (512 * 3 + r.val) (by omega)]
    rfl
  exact e x1 (fun j x => rfl) X j

theorem zero_dk (i : S1x2048x256.Idx) : (k0_pay1 (F := Ideal)) i = 0 := by
  rw [eq_ix3 i]; unfold k0_pay1; pointwise
theorem zero_dv (i : S1x2048x128.Idx) : (k0_pay2 (F := Ideal)) i = 0 := by
  rw [eq_ix3 i]; unfold k0_pay2; pointwise

/-- A grid point's query gradients. -/
theorem stepDq_at (n : ℕ) (hs : ∀ a, RealRow (sB x0 x1 a)) (a : Fin 512) (d : Fin 256) :
    stepDq n x0 x1 x2 x3 (ix3 0 a d) = ∑ j : Fin 2048, (wG x0 x1 x2 x3 (n % 4) a j * x1 (ix3 0 j d) : EReal) := by
  unfold stepDq
  split_ifs with h0 h1 h2
  · rw [h0]; exact dqA_at x0 x1 x2 x3 hs a d
  · rw [h1]; exact dqB_at x0 x1 x2 x3 hs a d
  · rw [h2]; exact dqC_at x0 x1 x2 x3 hs a d
  · rw [show n % 4 = 3 by omega]; exact dqD_at x0 x1 x2 x3 hs a d
/-- What a grid point adds to the key gradients: a head's first point starts from zero. -/
theorem stepDk_at (n : ℕ) (hs : ∀ a, RealRow (sB x0 x1 a)) (X : Vec Ideal S1x2048x256 .f32) (j : Fin 2048) (d : Fin 256) :
    stepDk n x0 x1 x2 x3 X (ix3 0 j d) = (if n % 4 = 0 then 0 else (X (ix3 0 j d) : EReal)) + ∑ r : Fin 512, (wG x0 x1 x2 x3 (n % 4) r j * x0 (ix3 0 r d) : EReal) := by
  unfold stepDk
  split_ifs with h0 h1 h2
  · rw [h0]; refine (dkA_at x0 x1 x2 x3 hs _ j d).trans ?_; rw [zero_dk]
  · rw [h1]; exact dkB_at x0 x1 x2 x3 hs X j d
  · rw [h2]; exact dkC_at x0 x1 x2 x3 hs X j d
  · rw [show n % 4 = 3 by omega]; exact dkD_at x0 x1 x2 x3 hs X j d
/-- What a grid point adds to the value gradients. -/
theorem stepDv_at (n : ℕ) (hs : ∀ a, RealRow (sB x0 x1 a)) (X : Vec Ideal S1x2048x128 .f32) (j : Fin 2048) (d : Fin 128) :
    stepDv n x0 x1 x3 X (ix3 0 j d) = (if n % 4 = 0 then 0 else (X (ix3 0 j d) : EReal)) + ∑ r : Fin 512, (wP x0 x1 (n % 4) r j * x3 (ix2 r d) : EReal) := by
  unfold stepDv
  split_ifs with h0 h1 h2
  · rw [h0]; refine (dvA_at x0 x1 x3 hs _ j d).trans ?_; rw [zero_dv]
  · rw [h1]; exact dvB_at x0 x1 x3 hs X j d
  · rw [h2]; exact dvC_at x0 x1 x3 hs X j d
  · rw [show n % 4 = 3 by omega]; exact dvD_at x0 x1 x3 hs X j d

end Cert.KernelIdeal.Hand

end
-- ==== Proof.Target.lean ====
/-
  The gradients of causal attention of 16 heads as plain sums over the extended reals: what both programs are shown to return.
-/
module

public import proofs.«01_k».proof.Proof.Blocks

@[expose] public section

noncomputable section

namespace Cert.Attn

open Idealize.ShloMosaic Idealize.ShloMosaic.Pointwise Cert.KernelIdeal.Hand

variable (q k : (⟨3, ![2048, 16, 192]⟩ : Shape).Idx → EReal) (v o : (⟨3, ![2048, 16, 128]⟩ : Shape).Idx → EReal)

/-- Head `h`'s vector at position `i`, padded with zeros to 256 columns. -/
def padded (h : Fin 16) (i : Fin 2048) (x : Fin 256) : EReal := if hx : x.val < 192 then q (ix3 i h ⟨x.val, hx⟩) else 0
/-- The scaled score of query `i` and key `j`. -/
def score (h : Fin 16) (i j : Fin 2048) : EReal := (∑ x : Fin 192, q (ix3 i h x) * k (ix3 j h x)) * sc
/-- The weight of key `j` for query `i`. -/
def wgt (h : Fin 16) (i j : Fin 2048) : EReal := pr (score q k h i) i.val j
/-- The gradient of that weight. -/
def dwgt (h : Fin 16) (i j : Fin 2048) : EReal := ∑ x : Fin 128, o (ix3 i h x) * v (ix3 j h x)
/-- The gradient of the unscaled score. -/
def dscore (h : Fin 16) (i j : Fin 2048) : EReal := dsf (score q k h i) i.val (dwgt v o h i) sc j
/-- The gradient of the queries, head by head, padded. -/
def gradQ (h : Fin 16) (i : Fin 2048) (d : Fin 256) : EReal := ∑ j : Fin 2048, dscore q k v o h i j * padded k h j d
/-- The gradient of the keys. -/
def gradK (h : Fin 16) (j : Fin 2048) (d : Fin 256) : EReal := ∑ i : Fin 2048, dscore q k v o h i j * padded q h i d
/-- The gradient of the values. -/
def gradV (h : Fin 16) (j : Fin 2048) (d : Fin 128) : EReal := ∑ i : Fin 2048, wgt q k h i j * o (ix3 i h d)

/-- Every entry is a real number. -/
def AllReal {s : Shape} (x : s.Idx → EReal) : Prop := ∀ i, ∃ r : ℝ, x i = (r : EReal)

/-- A finite sum of real numbers is a real number. -/
theorem sum_real {N : ℕ} (f : Fin N → EReal) (h : ∀ j, ∃ r : ℝ, f j = (r : EReal)) : ∃ r : ℝ, ∑ j, f j = (r : EReal) := by
  choose g hg using h
  refine ⟨∑ j, g j, ?_⟩
  rw [Finset.sum_congr rfl fun j _ => hg j]
  exact (map_sum (⟨⟨(fun r : ℝ => (r : EReal)), rfl⟩, fun a b => EReal.coe_add a b⟩ : ℝ →+ EReal) g Finset.univ).symm
/-- and so is a product of two. -/
theorem mul_real {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

/-- Real queries and keys have real scores. -/
theorem score_real (hq : AllReal q) (hk : AllReal k) (h : Fin 16) (i : Fin 2048) : RealRow (score q k h i) := fun _ =>
  mul_real (sum_real _ fun _ => mul_real (hq _) (hk _)) sc_real

/-- The padding adds nothing to a score. -/
theorem sum_padded (h : Fin 16) (i j : Fin 2048) :
    ∑ x : Fin 256, padded q h i x * padded k h j x = ∑ x : Fin 192, q (ix3 i h x) * k (ix3 j h x) := by
  rw [← sum_trunc (by omega : 192 ≤ 256) (fun x => padded q h i x * padded k h j x)]
  · refine Finset.sum_congr rfl fun x _ => ?_
    have e : ∀ (y : (⟨3, ![2048, 16, 192]⟩ : Shape).Idx → EReal) (i : Fin 2048), padded y h i (Fin.castLE (by omega : 192 ≤ 256) x) = y (ix3 i h x) := fun y i =>
      dif_pos x.isLt
    show padded q h i _ * padded k h j _ = _
    rw [e, e]
  · intro x hx
    unfold padded
    rw [dif_neg (by omega), zero_mul]

end Cert.Attn

end
-- ==== Proof.Arrays.lean ====
/-
  The three result arrays of the idealized kernel: what its blocks leave, put together over the grid, is the attention's
  gradients as plain sums.
-/
module

public import proofs.«01_k».proof.Proof.Body
public import proofs.«01_k».proof.Proof.Target
public import Idealize.ShloMosaic.Lib.StableHlo.Run

@[expose] public section

set_option maxRecDepth 16384

noncomputable section

namespace Cert.KernelIdeal.Hand

open Idealize.ShloMosaic Idealize.ShloMosaic.TcCoe Idealize.SL.Sem Idealize.ShloMosaic.Pointwise Idealize.ShloMosaic.Pipeline
open Cert.KernelIdeal Cert.KernelIdeal.Gen Cert.Attn

variable (m : (ℓ : Loc nD τ sig) → Buf (Elt Ideal) ℓ) (c : Dev nD)

/-- The four arguments at launch. -/
abbrev aQ : (⟨3, ![2048, 16, 192]⟩ : Shape).Idx → EReal := m (c.tc.loc main_arg0)
abbrev aK : (⟨3, ![2048, 16, 192]⟩ : Shape).Idx → EReal := m (c.tc.loc main_arg1)
abbrev aV : (⟨3, ![2048, 16, 128]⟩ : Shape).Idx → EReal := m (c.tc.loc main_arg2)
abbrev aO : (⟨3, ![2048, 16, 128]⟩ : Shape).Idx → EReal := m (c.tc.loc main_arg3)

/-! ## The arrays the call reads -/

/-- A head-major padded array at an entry. -/
theorem pad_at (x : Vec Ideal S2048x16x192 .f32) (h : Fin 16) (i : Fin 2048) (d : Fin 256) :
    pad S16x2048x256 ![0, 0, 0] ![0, 0, 64] ![0, 0, 0] (transpose S16x2048x192 [1, 0, 2] x transposes_S2048x16x192_S16x2048x192_1_0_2)
      (sitofp (F := Ideal) .f32 (constantI S_ 32 0#32)) pads_S16x2048x192_S16x2048x256_000_000_0640 h_S_ (ix3 h i d) = padded x h i d := by
  unfold padded
  pointwise
  have e : (FloatOps.sitofp (F := Ideal) FTy.f32 (0#32) : EReal) = 0 := by
    show (((0#32 : BitVec 32).toInt : ℝ) : EReal) = 0
    simp
  rw [e]

theorem V2_at (h : Fin 16) (i : Fin 2048) (d : Fin 256) : (V m c main_v2 : Vec Ideal S16x2048x256 .bf16) (ix3 h i d) = padded (aQ m c) h i d := by
  refine Eq.trans ?_ (pad_at (m (c.tc.loc main_arg0)) h i d)
  unfold V; dsimp only [List.flatten_cons, List.flatten_nil, List.cons_append, List.nil_append, List.append_nil]
  after_results
  rfl
theorem V5_at (h : Fin 16) (i : Fin 2048) (d : Fin 256) : (V m c main_v5 : Vec Ideal S16x2048x256 .bf16) (ix3 h i d) = padded (aK m c) h i d := by
  refine Eq.trans ?_ (pad_at (m (c.tc.loc main_arg1)) h i d)
  unfold V; dsimp only [List.flatten_cons, List.flatten_nil, List.cons_append, List.nil_append, List.append_nil]
  after_results
  rfl
theorem V7_at (h : Fin 16) (i : Fin 2048) (d : Fin 128) : (V m c main_v7 : Vec Ideal S16x2048x128 .bf16) (ix3 h i d) = aV m c (ix3 i h d) := by
  unfold V; dsimp only [List.flatten_cons, List.flatten_nil, List.cons_append, List.nil_append, List.append_nil]
  after_results
  pointwise
theorem V9_at (i : Fin 2048) (h : Fin 16) (d : Fin 128) (e : Fin 2048) (he : e.val = h.val * 128 + d.val) :
    (V m c main_v9 : Vec Ideal S2048x2048 .bf16) (ix2 i e) = aO m c (ix3 i h d) := by
  unfold V; dsimp only [List.flatten_cons, List.flatten_nil, List.cons_append, List.nil_append, List.append_nil]
  after_results
  pointwise
  refine congrArg (aO m c) ?_
  rw [ix3_inj]
  refine ⟨rfl, Fin.ext ?_, Fin.ext ?_⟩
  · show e.val / 128 = h.val; omega
  · show e.val % 128 = d.val; omega

/-! ## The blocks of a grid point -/

theorem one3 {n1 n2 : ℕ} (y : (⟨3, ![1, n1, n2]⟩ : Shape).Idx) : y = ix3 (0 : Fin 1) (y 1) (y 2) := by
  funext a
  fin_cases a
  · exact Fin.ext (show (y 0).val = 0 by have : (y 0).val < 1 := (y 0).isLt; omega)
  · rfl
  · rfl

/-- The head of a grid point, and a position of its query block. -/
abbrev hd (t : Fin cfg0.N) : Fin 16 := ⟨t.val / 4, by have : t.val < 64 := Nat.lt_of_lt_of_eq t.isLt N_0; omega⟩
abbrev ps (n : ℕ) (r : Fin 512) : Fin 2048 := ⟨512 * (n % 4) + r.val, by omega⟩

theorem word (n : ℕ) (h : n < 64) : (BitVec.ofNat 32 n).toNat = n := by rw [BitVec.toNat_ofNat]; omega
theorem w0 (t : Fin cfg0.N) : (BitVec.ofNat 32 (grid0.coords t 0).val).toNat = t.val / 4 := by
  have : t.val < 64 := Nat.lt_of_lt_of_eq t.isLt N_0
  rw [coord0, word _ (by omega)]
theorem w1 (t : Fin cfg0.N) : (BitVec.ofNat 32 (grid0.coords t 1).val).toNat = t.val % 4 := by
  have : t.val < 64 := Nat.lt_of_lt_of_eq t.isLt N_0
  rw [coord1, word _ (by omega)]

theorem bQ_at (t : Fin cfg0.N) (r : Fin 512) (d : Fin 256) : bQ m c t (ix3 0 r d) = padded (aQ m c) (hd t) (ps t.val r) d := by
  refine Eq.trans (congrArg (V m c main_v2) (funext fun a => ?_)) (V2_at m c (hd t) (ps t.val r) d)
  fin_cases a
  · exact Fin.ext (show (BitVec.ofNat 32 (grid0.coords t 0).val).toNat * 1 + 1 * 0 = t.val / 4 by rw [w0]; omega)
  · exact Fin.ext (show (BitVec.ofNat 32 (grid0.coords t 1).val).toNat * 512 + 1 * r.val = 512 * (t.val % 4) + r.val by rw [w1]; omega)
  · exact Fin.ext (show 0 * 256 + 1 * d.val = d.val by omega)
theorem bK_at (t : Fin cfg0.N) (j : Fin 2048) (d : Fin 256) : bK m c t (ix3 0 j d) = padded (aK m c) (hd t) j d := by
  refine Eq.trans (congrArg (V m c main_v5) (funext fun a => ?_)) (V5_at m c (hd t) j d)
  fin_cases a
  · exact Fin.ext (show (BitVec.ofNat 32 (grid0.coords t 0).val).toNat * 1 + 1 * 0 = t.val / 4 by rw [w0]; omega)
  · exact Fin.ext (show 0 * 2048 + 1 * j.val = j.val by omega)
  · exact Fin.ext (show 0 * 256 + 1 * d.val = d.val by omega)
theorem bV_at (t : Fin cfg0.N) (j : Fin 2048) (d : Fin 128) : bV m c t (ix3 0 j d) = aV m c (ix3 j (hd t) d) := by
  refine Eq.trans (congrArg (V m c main_v7) (funext fun a => ?_)) (V7_at m c (hd t) j d)
  fin_cases a
  · exact Fin.ext (show (BitVec.ofNat 32 (grid0.coords t 0).val).toNat * 1 + 1 * 0 = t.val / 4 by rw [w0]; omega)
  · exact Fin.ext (show 0 * 2048 + 1 * j.val = j.val by omega)
  · exact Fin.ext (show 0 * 128 + 1 * d.val = d.val by omega)
theorem bO_at (t : Fin cfg0.N) (r : Fin 512) (d : Fin 128) : bO m c t (ix2 r d) = aO m c (ix3 (ps t.val r) (hd t) d) := by
  have : t.val < 64 := Nat.lt_of_lt_of_eq t.isLt N_0
  refine Eq.trans (congrArg (V m c main_v9) (funext fun a => ?_))
    (V9_at m c (ps t.val r) (hd t) d ⟨(hd t).val * 128 + d.val, by have := (hd t).isLt; omega⟩ rfl)
  fin_cases a
  · exact Fin.ext (show (BitVec.ofNat 32 (grid0.coords t 1).val).toNat * 512 + 1 * r.val = 512 * (t.val % 4) + r.val by rw [w1]; omega)
  · exact Fin.ext (show (BitVec.ofNat 32 (grid0.coords t 0).val).toNat * 128 + 1 * d.val = t.val / 4 * 128 + d.val by rw [w0]; omega)

theorem sB_at (t : Fin cfg0.N) (r : Fin 512) : sB (bQ m c t) (bK m c t) r = score (aQ m c) (aK m c) (hd t) (ps t.val r) := by
  funext j
  unfold sB score
  rw [← sum_padded]
  refine congrArg (· * sc) (Finset.sum_congr rfl fun x _ => ?_)
  rw [bQ_at, bK_at]
theorem dpB_at (t : Fin cfg0.N) (r : Fin 512) : dpB (bV m c t) (bO m c t) r = dwgt (aV m c) (aO m c) (hd t) (ps t.val r) := by
  funext j
  unfold dpB dwgt
  refine Finset.sum_congr rfl fun x _ => ?_
  rw [bV_at, bO_at]
theorem wG_at (t : Fin cfg0.N) (r : Fin 512) (j : Fin 2048) :
    wG (bQ m c t) (bK m c t) (bV m c t) (bO m c t) (t.val % 4) r j = dscore (aQ m c) (aK m c) (aV m c) (aO m c) (hd t) (ps t.val r) j := by
  unfold wG dscore
  rw [sB_at, dpB_at]
theorem wP_at (t : Fin cfg0.N) (r : Fin 512) (j : Fin 2048) :
    wP (bQ m c t) (bK m c t) (t.val % 4) r j = wgt (aQ m c) (aK m c) (hd t) (ps t.val r) j := by
  unfold wP wgt
  rw [sB_at]

section Real
variable (hq : AllReal (aQ m c)) (hk : AllReal (aK m c))
include hq hk

theorem rows (t : Fin cfg0.N) (a : Fin 512) : RealRow (sB (bQ m c t) (bK m c t) a) := by
  rw [sB_at]; exact score_real _ _ hq hk _ _

/-- A grid point's block of query gradients. -/
theorem outDq_at (t : Fin cfg0.N) (r : Fin 512) (d : Fin 256) :
    outDq m c t (ix3 0 r d) = gradQ (aQ m c) (aK m c) (aV m c) (aO m c) (hd t) (ps t.val r) d := by
  unfold outDq gradQ
  rw [stepDq_at _ _ _ _ _ (rows m c hq hk t)]
  refine Finset.sum_congr rfl fun j _ => ?_
  rw [wG_at, bK_at]

/-- What the points of a head up to `n` have added to the key gradients, a point at a time. -/
theorem accDk_at (n : ℕ) (h : n < cfg0.N) (j : Fin 2048) (d : Fin 256) :
    (accDk m c n h (ix3 0 j d) : EReal) = (if n % 4 = 0 then 0 else (accDk m c (n - 1) (Nat.lt_of_le_of_lt (Nat.sub_le _ _) h) (ix3 0 j d) : EReal))
      + ∑ r : Fin 512, dscore (aQ m c) (aK m c) (aV m c) (aO m c) (hd ⟨n, h⟩) (ps n r) j * padded (aQ m c) (hd ⟨n, h⟩) (ps n r) d := by
  have e : ∀ X : Vec Ideal S1x2048x256 .f32, (stepDk n (bQ m c ⟨n, h⟩) (bK m c ⟨n, h⟩) (bV m c ⟨n, h⟩) (bO m c ⟨n, h⟩) X (ix3 0 j d) : EReal)
      = (if n % 4 = 0 then 0 else (X (ix3 0 j d) : EReal))
        + ∑ r : Fin 512, dscore (aQ m c) (aK m c) (aV m c) (aO m c) (hd ⟨n, h⟩) (ps n r) j * padded (aQ m c) (hd ⟨n, h⟩) (ps n r) d := fun X => by
    rw [stepDk_at _ _ _ _ _ (rows m c hq hk ⟨n, h⟩)]
    refine congrArg _ (Finset.sum_congr rfl fun r _ => ?_)
    rw [wG_at m c ⟨n, h⟩, bQ_at]
  cases n with
  | zero => exact e _
  | succ n => exact e _
theorem accDv_at (n : ℕ) (h : n < cfg0.N) (j : Fin 2048) (d : Fin 128) :
    (accDv m c n h (ix3 0 j d) : EReal) = (if n % 4 = 0 then 0 else (accDv m c (n - 1) (Nat.lt_of_le_of_lt (Nat.sub_le _ _) h) (ix3 0 j d) : EReal))
      + ∑ r : Fin 512, wgt (aQ m c) (aK m c) (hd ⟨n, h⟩) (ps n r) j * aO m c (ix3 (ps n r) (hd ⟨n, h⟩) d) := by
  have e : ∀ X : Vec Ideal S1x2048x128 .f32, (stepDv n (bQ m c ⟨n, h⟩) (bK m c ⟨n, h⟩) (bO m c ⟨n, h⟩) X (ix3 0 j d) : EReal)
      = (if n % 4 = 0 then 0 else (X (ix3 0 j d) : EReal))
        + ∑ r : Fin 512, wgt (aQ m c) (aK m c) (hd ⟨n, h⟩) (ps n r) j * aO m c (ix3 (ps n r) (hd ⟨n, h⟩) d) := fun X => by
    rw [stepDv_at _ _ _ _ (rows m c hq hk ⟨n, h⟩)]
    refine congrArg _ (Finset.sum_congr rfl fun r _ => ?_)
    rw [wP_at m c ⟨n, h⟩, bO_at]
  cases n with
  | zero => exact e _
  | succ n => exact e _

omit hq hk in
/-- Four blocks of 512 positions are the 2048 positions. -/
theorem four (f : Fin 2048 → EReal) (n : ℕ) (hn : n % 4 = 3) :
    0 + (∑ r, f (ps (n - 1 - 1 - 1) r)) + (∑ r, f (ps (n - 1 - 1) r)) + (∑ r, f (ps (n - 1) r)) + (∑ r, f (ps n r)) = ∑ i, f i := by
  rw [Fin.sum_univ_tiles 4 512 (by norm_num) f, Fin.sum_univ_four, zero_add]
  have e : ∀ (a : ℕ) (b : Fin 4) (hb : a % 4 = b.val), ∑ r, f (ps a r) = ∑ t : Fin 512, f ⟨b.val * 512 + t.val, by omega⟩ := fun a b hb =>
    Finset.sum_congr rfl fun r _ => congrArg f (Fin.ext (show 512 * (a % 4) + r.val = b.val * 512 + r.val by rw [hb]; omega))
  rw [e (n - 1 - 1 - 1) 0 (by show _ = 0; omega), e (n - 1 - 1) 1 (by show _ = 1; omega), e (n - 1) 2 (by show _ = 2; omega), e n 3 (by show _ = 3; omega)]

/-- The key gradients after a head's last point. -/
theorem accDk_last (n : ℕ) (h : n < cfg0.N) (hn : n % 4 = 3) (j : Fin 2048) (d : Fin 256) :
    (accDk m c n h (ix3 0 j d) : EReal) = gradK (aQ m c) (aK m c) (aV m c) (aO m c) (hd ⟨n, h⟩) j d := by
  unfold gradK
  rw [accDk_at m c hq hk n, if_neg (by omega), accDk_at m c hq hk (n - 1), if_neg (by omega), accDk_at m c hq hk (n - 1 - 1), if_neg (by omega),
    accDk_at m c hq hk (n - 1 - 1 - 1), if_pos (by omega)]
  have e : ∀ a (ha : a < cfg0.N), a / 4 = n / 4 → hd ⟨a, ha⟩ = hd ⟨n, h⟩ := fun a ha hh => Fin.ext hh
  rw [e (n - 1) _ (by omega), e (n - 1 - 1) _ (by omega), e (n - 1 - 1 - 1) _ (by omega)]
  exact four (fun i => dscore (aQ m c) (aK m c) (aV m c) (aO m c) (hd ⟨n, h⟩) i j * padded (aQ m c) (hd ⟨n, h⟩) i d) n hn
/-- The value gradients after a head's last point. -/
theorem accDv_last (n : ℕ) (h : n < cfg0.N) (hn : n % 4 = 3) (j : Fin 2048) (d : Fin 128) :
    (accDv m c n h (ix3 0 j d) : EReal) = gradV (aQ m c) (aK m c) (aO m c) (hd ⟨n, h⟩) j d := by
  unfold gradV
  rw [accDv_at m c hq hk n, if_neg (by omega), accDv_at m c hq hk (n - 1), if_neg (by omega), accDv_at m c hq hk (n - 1 - 1), if_neg (by omega),
    accDv_at m c hq hk (n - 1 - 1 - 1), if_pos (by omega)]
  have e : ∀ a (ha : a < cfg0.N), a / 4 = n / 4 → hd ⟨a, ha⟩ = hd ⟨n, h⟩ := fun a ha hh => Fin.ext hh
  rw [e (n - 1) _ (by omega), e (n - 1 - 1) _ (by omega), e (n - 1 - 1 - 1) _ (by omega)]
  exact four (fun i => wgt (aQ m c) (aK m c) (hd ⟨n, h⟩) i j * aO m c (ix3 i (hd ⟨n, h⟩) d)) n hn

/-! ## The result arrays -/

omit hq hk in
/-- A point of head `h`. -/
theorem pt (h : Fin 16) (b : Fin 4) : 4 * h.val + b.val < cfg0.N := by have : cfg0.N = 64 := N_0; omega

theorem final4 : ((dats m 0 c).arrAt 4 cfg0.N : Vec Ideal S16x2048x256 .f32)
    = fun i => gradQ (aQ m c) (aK m c) (aV m c) (aO m c) (i 0) (i 1) (i 2) := by
  refine (dats m 0 c).arrAt_eq_of_cover 4 _ (fun t _ => ?_) (fun (i : S16x2048x256.Idx) => ?_)
  · show (cfg0.win 4).cut (grid0.coords t) ((dats m 0 c).after 4 t) = _
    rw [after4]
    funext y
    rw [View.read_apply]
    have e := one3 (n1 := 512) (n2 := 256) y
    refine Eq.trans ((congrArg (outDq m c t) e).trans (outDq_at m c hq hk t (y 1) (y 2))) ?_
    show _ = gradQ _ _ _ _ _ _ _
    have h0 : (y 0).val = 0 := by have : (y 0).val < 1 := (y 0).isLt; omega
    congr 1
    · exact Fin.ext (show t.val / 4 = (BitVec.ofNat 32 (grid0.coords t 0).val).toNat * 1 + 1 * (y 0).val by rw [w0]; omega)
    · exact Fin.ext (show 512 * (t.val % 4) + (y 1).val = (BitVec.ofNat 32 (grid0.coords t 1).val).toNat * 512 + 1 * (y 1).val by rw [w1]; omega)
    · exact Fin.ext (show (y 2).val = 0 * 256 + 1 * (y 2).val by omega)
  · have i0 : (i 0).val < 16 := (i 0).isLt
    have i1 : (i 1).val < 2048 := (i 1).isLt
    have i2 : (i 2).val < 256 := (i 2).isLt
    let t : Fin cfg0.N := ⟨4 * (i 0).val + (i 1).val / 512, pt ⟨(i 0).val, i0⟩ ⟨(i 1).val / 512, by omega⟩⟩
    have ht : t.val = 4 * (i 0).val + (i 1).val / 512 := rfl
    refine ⟨t, flush0_4 _, ?_⟩
    show i ∈ ((View.whole main_v10_0).slice (win0_4.rect t)).set
    rw [View.set_slice_whole, Rect.mem_set_unit]
    intro a
    fin_cases a
    · show (BitVec.ofNat 32 (grid0.coords t 0).val).toNat * 1 ≤ (i 0).val ∧ (i 0).val < (BitVec.ofNat 32 (grid0.coords t 0).val).toNat * 1 + 1
      rw [w0]; omega
    · show (BitVec.ofNat 32 (grid0.coords t 1).val).toNat * 512 ≤ (i 1).val ∧ (i 1).val < (BitVec.ofNat 32 (grid0.coords t 1).val).toNat * 512 + 512
      rw [w1]; omega
    · show 0 * 256 ≤ (i 2).val ∧ (i 2).val < 0 * 256 + 256
      omega

theorem final5 : ((dats m 0 c).arrAt 5 cfg0.N : Vec Ideal S16x2048x256 .f32)
    = fun i => gradK (aQ m c) (aK m c) (aV m c) (aO m c) (i 0) (i 1) (i 2) := by
  refine (dats m 0 c).arrAt_eq_of_cover 5 _ (fun t hf => ?_) (fun (i : S16x2048x256.Idx) => ?_)
  · show (cfg0.win 5).cut (grid0.coords t) ((dats m 0 c).after 5 t) = _
    rw [after5]
    funext y
    rw [View.read_apply]
    have e := one3 (n1 := 2048) (n2 := 256) y
    refine Eq.trans ((congrArg (accDk m c t.val t.isLt) e).trans (accDk_last m c hq hk t.val t.isLt ((flush0_5 t).mp hf) (y 1) (y 2))) ?_
    show _ = gradK _ _ _ _ _ _ _
    have h0 : (y 0).val = 0 := by have : (y 0).val < 1 := (y 0).isLt; omega
    congr 1
    · exact Fin.ext (show t.val / 4 = (BitVec.ofNat 32 (grid0.coords t 0).val).toNat * 1 + 1 * (y 0).val by rw [w0]; omega)
    · exact Fin.ext (show (y 1).val = 0 * 2048 + 1 * (y 1).val by omega)
    · exact Fin.ext (show (y 2).val = 0 * 256 + 1 * (y 2).val by omega)
  · have i0 : (i 0).val < 16 := (i 0).isLt
    have i1 : (i 1).val < 2048 := (i 1).isLt
    have i2 : (i 2).val < 256 := (i 2).isLt
    let t : Fin cfg0.N := ⟨4 * (i 0).val + 3, pt ⟨(i 0).val, i0⟩ 3⟩
    have ht : t.val = 4 * (i 0).val + 3 := rfl
    refine ⟨t, (flush0_5 t).mpr (by omega), ?_⟩
    show i ∈ ((View.whole main_v10_1).slice (win0_5.rect t)).set
    rw [View.set_slice_whole, Rect.mem_set_unit]
    intro a
    fin_cases a
    · show (BitVec.ofNat 32 (grid0.coords t 0).val).toNat * 1 ≤ (i 0).val ∧ (i 0).val < (BitVec.ofNat 32 (grid0.coords t 0).val).toNat * 1 + 1
      rw [w0]; omega
    · show 0 * 2048 ≤ (i 1).val ∧ (i 1).val < 0 * 2048 + 2048
      omega
    · show 0 * 256 ≤ (i 2).val ∧ (i 2).val < 0 * 256 + 256
      omega

theorem final6 : ((dats m 0 c).arrAt 6 cfg0.N : Vec Ideal S16x2048x128 .f32)
    = fun i => gradV (aQ m c) (aK m c) (aO m c) (i 0) (i 1) (i 2) := by
  refine (dats m 0 c).arrAt_eq_of_cover 6 _ (fun t hf => ?_) (fun (i : S16x2048x128.Idx) => ?_)
  · show (cfg0.win 6).cut (grid0.coords t) ((dats m 0 c).after 6 t) = _
    rw [after6]
    funext y
    rw [View.read_apply]
    have e := one3 (n1 := 2048) (n2 := 128) y
    refine Eq.trans ((congrArg (accDv m c t.val t.isLt) e).trans (accDv_last m c hq hk t.val t.isLt ((flush0_6 t).mp hf) (y 1) (y 2))) ?_
    show _ = gradV _ _ _ _ _ _
    have h0 : (y 0).val = 0 := by have : (y 0).val < 1 := (y 0).isLt; omega
    congr 1
    · exact Fin.ext (show t.val / 4 = (BitVec.ofNat 32 (grid0.coords t 0).val).toNat * 1 + 1 * (y 0).val by rw [w0]; omega)
    · exact Fin.ext (show (y 1).val = 0 * 2048 + 1 * (y 1).val by omega)
    · exact Fin.ext (show (y 2).val = 0 * 128 + 1 * (y 2).val by omega)
  · have i0 : (i 0).val < 16 := (i 0).isLt
    have i1 : (i 1).val < 2048 := (i 1).isLt
    have i2 : (i 2).val < 128 := (i 2).isLt
    let t : Fin cfg0.N := ⟨4 * (i 0).val + 3, pt ⟨(i 0).val, i0⟩ 3⟩
    have ht : t.val = 4 * (i 0).val + 3 := rfl
    refine ⟨t, (flush0_6 t).mpr (by omega), ?_⟩
    show i ∈ ((View.whole main_v10_2).slice (win0_6.rect t)).set
    rw [View.set_slice_whole, Rect.mem_set_unit]
    intro a
    fin_cases a
    · show (BitVec.ofNat 32 (grid0.coords t 0).val).toNat * 1 ≤ (i 0).val ∧ (i 0).val < (BitVec.ofNat 32 (grid0.coords t 0).val).toNat * 1 + 1
      rw [w0]; omega
    · show 0 * 2048 ≤ (i 1).val ∧ (i 1).val < 0 * 2048 + 2048
      omega
    · show 0 * 128 ≤ (i 2).val ∧ (i 2).val < 0 * 128 + 128
      omega

end Real

end Cert.KernelIdeal.Hand

end
-- ==== Proof.Ref.lean ====
/-
  The reference program's three results, entry by entry: the attention's gradients as plain sums.
-/
module

public import proofs.«01_k».proof.Proof.Target
public import proofs.«01_k».proof.Proof.Gen.ReferenceIdeal.Run
public import proofs.«01_k».proof.Proof.Gen.ReferenceIdeal.Read

@[expose] public section

set_option maxRecDepth 16384

noncomputable section

namespace Cert.ReferenceIdeal.Hand

open Idealize.ShloMosaic Idealize.ShloMosaic.TcCoe Idealize.SL.Sem Idealize.ShloMosaic.Pointwise
open Cert.ReferenceIdeal Cert.ReferenceIdeal.Gen Cert.ReferenceIdeal.Read Cert.Attn Cert.KernelIdeal.Hand

variable (q k : Vec Ideal S2048x16x192 .f32) (v o : Vec Ideal S2048x16x128 .f32)

theorem v2_at (h : Fin 16) (i j : Fin 2048) : val_main_v2 (F := Ideal) q k (ix3 h i j) = score q k h i j := by
  unfold val_main_v2 val_main_v0 val_main_v1 val_main_cst
  pointwise
  rfl
theorem mask_at (h : Fin 16) (i j : Fin 2048) (x y : EReal) :
    Scalar.select (val_main_v10_1 (F := Ideal) (ix3 h i j)) x y = if j.val ≤ i.val then x else y := by
  unfold val_main_v10_1 val_main_v9 val_main_v7 val_main_v8 val_main_v6 val_main_v4 val_main_v5 val_main_v3
  pointwise
  have e := sel j.val 0 i.val (by omega) (by omega) (by omega) x y
  rw [show IntOp.addi (BitVec.ofNat 32 0) (BitVec.ofNat 32 i.val) = BitVec.ofNat 32 i.val from BitVec.zero_add _, Nat.zero_add] at e
  exact e
theorem v10_at (h : Fin 16) (i j : Fin 2048) : val_main_v10_0 (F := Ideal) q k (ix3 h i j) = msk (score q k h i) i.val j := by
  unfold val_main_v10_0 val_main_call0_v2 val_main_call0_v0 val_main_cst_0
  pointwise
  rw [mask_at, v2_at]
  show (if j.val ≤ i.val then score q k h i j else Ideal.ofBits FTy.f32 4286578688#32) = _
  rw [ninf]
  rfl
/-- A maximum over the last axis at an entry. -/
theorem rowmax_at (y : FVec Ideal S16x2048x2048 .f32) (c : FVec Ideal S_ .f32) (h : Fin 16) (i : Fin 2048) :
    Host.reduce FloatOps.maximumf y c reducesTo_S16x2048x2048_S16x2048_d2 h_S_ (ix2 h i)
      = Finset.univ.fold max (c (Shape.Idx.first h_S_)) fun j : Fin 2048 => y (ix3 h i j) := by
  simp only [pointwise]
theorem v11_at (h : Fin 16) (i : Fin 2048) : val_main_v11 (F := Ideal) q k (ix2 h i) = mx (score q k h i) i.val := by
  refine (rowmax_at (val_main_v10_0 (F := Ideal) q k) (val_main_cst_1 (F := Ideal)) h i).trans ?_
  rw [val_main_cst_1_apply, show (FloatOps.ofBits (F := Ideal) FTy.f32 0xFF800000#32 : EReal) = ⊥ from ninf]
  exact congrArg (fun f => Finset.univ.fold max ⊥ f) (funext fun j => v10_at q k h i j)
theorem v18_at (h : Fin 16) (i : Fin 2048) : val_main_v18 (F := Ideal) q k (ix2 h i) = mx (score q k h i) i.val := by
  rw [val_main_v18_apply, v11_at, val_main_v17_apply, val_main_cst_3_apply]
  show max (Ideal.ofBits FTy.f32 4286578688#32) _ = _
  rw [ninf]
  exact max_eq_right bot_le
theorem v31_at (h : Fin 16) (i j : Fin 2048) : val_main_v31 (F := Ideal) q k (ix3 h i j) = ex (score q k h i) i.val j := by
  unfold val_main_v31 val_main_v30 val_main_v29 val_main_v28
  pointwise
  rw [v10_at, v18_at]
  rfl
theorem v32_at (h : Fin 16) (i : Fin 2048) : val_main_v32 (F := Ideal) q k (ix2 h i) = ∑ j, ex (score q k h i) i.val j := by
  unfold val_main_v32 val_main_cst_9
  pointwise
  simp only [v31_at]
theorem v35_at (h : Fin 16) (i j : Fin 2048) : val_main_v35 (F := Ideal) q k (ix3 h i j) = wgt q k h i j := by
  unfold val_main_v35 val_main_v34 val_main_v33
  pointwise
  rw [v31_at, v32_at]
  rfl
theorem v42_at (h : Fin 16) (i j : Fin 2048) : val_main_v42 (F := Ideal) v o (ix3 h i j) = dwgt v o h i j := by
  unfold val_main_v42 val_main_v41
  pointwise
  rfl
theorem v53_at (h : Fin 16) (i : Fin 2048) : val_main_v53 (F := Ideal) q k v o (ix2 h i)
    = -(∑ j', dwgt v o h i j' * Ideal.div 1 ((∑ j, ex (score q k h i) i.val j) * ∑ j, ex (score q k h i) i.val j) * ex (score q k h i) i.val j') := by
  unfold val_main_v53 val_main_cst_12 val_main_v50 val_main_v49 val_main_v48 val_main_cst_11 val_main_v47 val_main_v46 val_main_v45 val_main_v38 val_main_v37 val_main_cst_10 val_main_v36 val_main_v33
  pointwise
  simp only [v31_at, v32_at, v42_at]
  rw [Fin.sum_univ_one]
theorem v59_at (hq : AllReal q) (hk : AllReal k) (h : Fin 16) (i j : Fin 2048) : val_main_v59 (F := Ideal) q k v o (ix3 h i j) = dscore q k v o h i j := by
  unfold dscore
  rw [dsf_quot _ (score_real q k hq hk h i) _ i.isLt]
  unfold val_main_v59 val_main_v58 val_main_cst_13 val_main_v57 val_main_call1_v0 val_main_call1_cst val_main_v56 val_main_v55 val_main_v54 val_main_v52 val_main_v51 val_main_v33
  pointwise
  simp only [v31_at, v32_at, v42_at, v53_at, mask_at]
  split_ifs
  · rfl
  · rw [zero_mul]
theorem v65_at (hq : AllReal q) (hk : AllReal k) (h : Fin 16) (i : Fin 2048) (d : Fin 256) :
    val_main_v65 (F := Ideal) q k v o (ix3 h i d) = gradQ q k v o h i d := by
  unfold val_main_v65 val_main_v64 val_main_v63 val_main_v62 val_main_call2_v0 val_main_c
  pointwise
  have z : (FloatOps.sitofp (F := Ideal) FTy.f32 (0#32) : EReal) = 0 := by
    show (((0#32 : BitVec 32).toInt : ℝ) : EReal) = 0
    simp
  unfold gradQ padded
  by_cases hd : d.val < 192
  · rw [dif_pos hd]
    refine Finset.sum_congr rfl fun x _ => ?_
    rw [v59_at q k v o hq hk, dif_pos hd]
  · rw [dif_neg hd, z]
    refine (Finset.sum_eq_zero fun x _ => ?_).symm
    rw [dif_neg hd, mul_zero]
theorem v67_at (hq : AllReal q) (hk : AllReal k) (h : Fin 16) (i : Fin 2048) (d : Fin 256) :
    val_main_v67 (F := Ideal) q k v o (ix3 h i d) = gradK q k v o h i d := by
  unfold val_main_v67 val_main_v66 val_main_v61 val_main_v60 val_main_call3_v0 val_main_c_14
  pointwise
  have z : (FloatOps.sitofp (F := Ideal) FTy.f32 (0#32) : EReal) = 0 := by
    show (((0#32 : BitVec 32).toInt : ℝ) : EReal) = 0
    simp
  unfold gradK padded
  by_cases hd : d.val < 192
  · rw [dif_pos hd]
    refine Finset.sum_congr rfl fun x _ => ?_
    rw [v59_at q k v o hq hk, dif_pos hd]
  · rw [dif_neg hd, z]
    refine (Finset.sum_eq_zero fun x _ => ?_).symm
    rw [dif_neg hd, mul_zero]
theorem v68_at (h : Fin 16) (j : Fin 2048) (d : Fin 128) : val_main_v68 (F := Ideal) q k o (ix3 h j d) = gradV q k o h j d := by
  unfold val_main_v68 val_main_v44 val_main_v43 val_main_v41
  pointwise
  unfold gradV
  refine Finset.sum_congr rfl fun x _ => ?_
  rw [v35_at, mul_comm]

end Cert.ReferenceIdeal.Hand

end
-- ==== Proof.FfnSpec.lean ====
/-
  The output and the gradients of the gated feed-forward block as plain sums over the extended reals: what both programs are shown to return.
-/
module

public import Idealize.ShloMosaic.Lib.Pointwise
public import proofs.«01_k».proof.Proof.Math

@[expose] public section

noncomputable section

namespace Cert.Ffn

open Idealize.ShloMosaic Idealize.ShloMosaic.Pointwise

/-- The constants of the two programs. -/
def inv2048 : EReal := Ideal.ofBits .f32 0x3A000000#32
def epsN : EReal := Ideal.ofBits .f32 0x358637BD#32
def half : EReal := Ideal.ofBits .f32 0x3F000000#32
def mhalf : EReal := Ideal.ofBits .f32 0xBF000000#32
def one : EReal := Ideal.ofBits .f32 0x3F800000#32

/-- The mean square of a row, with epsilon. -/
def msq (row : Fin 2048 → EReal) : EReal := (∑ d, row d * row d) * inv2048 + epsN
/-- The reciprocal root of it. -/
def rrt (row : Fin 2048 → EReal) : EReal := Ideal.rsqrt (msq row)
/-- The gate's value and its derivative. -/
def silu (g : EReal) : EReal := g * Ideal.logistic g
def dsilu (g : EReal) : EReal := Ideal.logistic g * (one + g * (one - Ideal.logistic g))
/-- The gradient that reaches a row through its norm: `q` the gradient of the scaled row. -/
def thru (row q : Fin 2048 → EReal) : EReal := (∑ d, row d * q d) * (mhalf * Ideal.div (rrt row) (msq row)) * inv2048

variable (h : (⟨2, ![2048, 2048]⟩ : Shape).Idx → EReal) (gain : (⟨2, ![1, 2048]⟩ : Shape).Idx → EReal)
  (wi : (⟨2, ![2048, 11264]⟩ : Shape).Idx → EReal) (wo : (⟨2, ![5632, 2048]⟩ : Shape).Idx → EReal)
  (dh : (⟨2, ![2048, 2048]⟩ : Shape).Idx → EReal)

abbrev hrow (i : Fin 2048) (d : Fin 2048) : EReal := h (ix2 i d)
/-- The normalised block input. -/
def hn (i d : Fin 2048) : EReal := h (ix2 i d) * rrt (hrow h i) * gain (ix2 0 d)
/-- The first product: its columns below 5632 are the gates, the others what they gate. -/
def pre (i : Fin 2048) (n : Fin 11264) : EReal := ∑ d, hn h gain i d * wi (ix2 d n)
def lo (f : Fin 5632) : Fin 11264 := ⟨f.val, by omega⟩
def hi (f : Fin 5632) : Fin 11264 := ⟨5632 + f.val, by omega⟩
def gate (i : Fin 2048) (f : Fin 5632) : EReal := pre h gain wi i (lo f)
def up (i : Fin 2048) (f : Fin 5632) : EReal := pre h gain wi i (hi f)
def act (i : Fin 2048) (f : Fin 5632) : EReal := silu (gate h gain wi i f) * up h gain wi i f
/-- The block's output. -/
def outH (i d : Fin 2048) : EReal := h (ix2 i d) + (∑ f, act h gain wi i f * wo (ix2 f d)) * half
/-- The derivatives of the activation along its two factors. -/
def slope0 (i : Fin 2048) (f : Fin 5632) : EReal := up h gain wi i f * dsilu (gate h gain wi i f)
def slope1 (i : Fin 2048) (f : Fin 5632) : EReal := silu (gate h gain wi i f)
/-- The activation's gradient. -/
def dact (i : Fin 2048) (f : Fin 5632) : EReal := half * ∑ d, dh (ix2 i d) * wo (ix2 f d)
def dgate (i : Fin 2048) (f : Fin 5632) : EReal := dact wo dh i f * slope0 h gain wi i f
def dup (i : Fin 2048) (f : Fin 5632) : EReal := dact wo dh i f * slope1 h gain wi i f
/-- The first product's gradient. -/
def dpre (i : Fin 2048) (n : Fin 11264) : EReal :=
  if hh : n.val < 5632 then dgate h gain wi wo dh i ⟨n.val, hh⟩ else dup h gain wi wo dh i ⟨n.val - 5632, by omega⟩
/-- The gradient of the second product's weights. -/
def gradWo (f : Fin 5632) (d : Fin 2048) : EReal := (∑ t, act h gain wi t f * dh (ix2 t d)) * half
/-- The gradient of the first product's weights. -/
def gradWi (d : Fin 2048) (n : Fin 11264) : EReal := ∑ t, hn h gain t d * dpre h gain wi wo dh t n
/-- The gradient of the normalised input. -/
def dhn (i d : Fin 2048) : EReal := ∑ n, dpre h gain wi wo dh i n * wi (ix2 d n)
/-- and of what the gain scales. -/
def dsc (i d : Fin 2048) : EReal := dhn h gain wi wo dh i d * gain (ix2 0 d)
/-- The gradient of the block's input. -/
def gradH (i d : Fin 2048) : EReal :=
  dsc h gain wi wo dh i d * rrt (hrow h i) + h (ix2 i d) * thru (hrow h i) (dsc h gain wi wo dh i)
    + thru (hrow h i) (dsc h gain wi wo dh i) * h (ix2 i d) + dh (ix2 i d)
/-- The gradient of the gain. -/
def gradGain (d : Fin 2048) : EReal := ∑ t, h (ix2 t d) * rrt (hrow h t) * dhn h gain wi wo dh t d

end Cert.Ffn

end
-- ==== Proof.Common.lean ====
/-
  What the calls of every program share: reads of whole buffers, a body's obligation from its run, and a call as a
  segment of the program between two valuations of the program's arrays.
-/
module

public import Idealize.ShloMosaic.Lib.VecWindow
public import Idealize.ShloMosaic.Lib.Pointwise
public import Idealize.ShloMosaic.Lib.Tactic
public import Idealize.ShloMosaic.Lib.Pipeline.FrameBody
public import Idealize.ShloMosaic.Lib.Pipeline.RegionsLoop
public import Idealize.ShloMosaic.Lib.Pipeline.RegionArrays

@[expose] public section

set_option maxRecDepth 16384

noncomputable section

namespace Cert.Calls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Window BodyObligation BodyObligationLoose RegionSeg)

variable {nD : ℕ} {τ : Topo} {sig : RefSig} {Λ₀ : Labels} {F : FTy → Type} [FloatOps F] {U : Type} [URA U]

local notation "𝕄" => MT nD τ sig Unit (Elt F) ℕ U ℕ

/-- Reading all of a buffer that holds `x` gives `x`. -/
theorem ld_all {s : Shape} {e : EltTy} (a : Memref sig .tc .vmem s e) (h : a.IsWhole) (x : s.Idx → Elt F e) (off : Fin s.rank → ℕ)
    (inb : ∀ a, off a + s.size a ≤ s.size a) :
    a.view.readAt (Elt F) (Rect.unit off s.size inb).toLoadRect (h.unread x) = x :=
  (View.readAt_full a.view _ inb).trans (h.read_unread x)

theorem pair {A B A' B' : sProp 𝕄} (h : A ⊢ A') (k : B ⊢ B') : iprop(A ∗ B) ⊢ iprop(A' ∗ B') := BIClass.sep_mono h k

section Owned

variable {s : Shape} {e : EltTy} {c : Thread nD τ} {a : Memref sig c.2.kind .vmem s e}

/-- An input buffer is given to the body at what it is found to hold. -/
theorem got {ι : Type} {f : ι → s.Idx → Elt F e} {x : s.Idx → Elt F e} (h : ∀ d, f d = x) :
    iprop(∃ d, owns c a fullShare (f d)) ⊢ (owns c a fullShare x : sProp 𝕄) := by
  iintro ⟨%d, H⟩; rw [h]; iexact H

/-- An output buffer is given to the body at anything. -/
theorem anything {ι : Type} {f : ι → s.Idx → Elt F e} :
    iprop(∃ d, owns c a fullShare (f d)) ⊢ (iprop(∃ d, owns c a fullShare d) : sProp 𝕄) := by
  iintro ⟨%d, H⟩; iexists _; iexact H

/-- A buffer is handed back at what the proof data say. -/
theorem back {x y : s.Idx → Elt F e} (h : y = x) : (owns c a fullShare x : sProp 𝕄) ⊢ owns c a fullShare y := by rw [h]

/-- A buffer that was only read is still held at what it was found to hold. -/
theorem whole (h : a.IsWhole) (x : s.Idx → Elt F e) :
    (a.view.loc c ↦[a.view.set]{fullShare} h.unread x) ⊢ (iprop(∃ f, ⌜a.view.read (Elt F) f = x⌝ ∗ (a.view.loc c ↦[a.view.set]{fullShare} f)) : sProp 𝕄) := by
  iintro H; iexists _; isplitr; · ipureintro; exact h.read_unread _
  iexact H

/-- The same, of a buffer whose obligation is stated by what its window does. -/
theorem handed {L : sProp 𝕄} {x y : s.Idx → Elt F e} (h : L = owns c a fullShare y) (k : y = x) : (owns c a fullShare x : sProp 𝕄) ⊢ L := by rw [h, k]

end Owned

variable {cfg : Cfg sig Λ₀} {c : Dev nD} (D : Dat τ (Elt F) Unit ℕ U ℕ cfg c)

/-- An input's buffer holds its block at every point. -/
theorem found (w : Fin cfg.W) (hw : (cfg.win w).isOut = false) (hlive : ∀ i, cfg.idle w i = false)
    (hclip : ∀ t t' : Fin cfg.N, (cfg.win w).index t = (cfg.win w).index t' →
      (cfg.win w).clip (cfg.grid.coords t) = (cfg.win w).clip (cfg.grid.coords t'))
    (hkeep : ∀ t, (cfg.win w).cut (cfg.grid.coords t) (D.after w t) = D.blockOf w t)
    (hfull : ∀ t d, D.fetched w t d = D.after w t) {t : Fin cfg.N} {x} (hx : D.after w t = x) (d) : D.before w t d = x :=
  (D.before_in_eq_fetched w hw hlive hclip hkeep t d).trans ((hfull t d).trans hx)

/-- The obligation of a body at a point, from its run: what the body is given, what it hands back, and nothing changed between. -/
theorem obligation {defs₀ : Defs nD τ sig (Elt F) Λ₀} {t : Fin cfg.N} {I O B L : sProp 𝕄}
    {body : Prog (TpuEff nD τ sig (Elt F) Λ₀ .tc) PUnit}
    (hrun : ∀ K : PUnit → sProp 𝕄, iprop(I ∗ (O -∗ K ⟨⟩)) ⊢ wp frame (wpE defs₀ Variants.none c none) Set.univ body K)
    (hI : B ⊢ I) (hO : O ⊢ L) (hΦ : D.Φ t.succ = D.Φ t.castSucc) (ho : D.owesAt () t.succ = D.owesAt () t.castSucc) :
    iprop(D.Φ t.castSucc ∗ D.owesAt () t.castSucc ∗ B) ⊢
      wp frame (wpE defs₀ Variants.none c none) Set.univ body fun _ => iprop(D.Φ t.succ ∗ D.owesAt () t.succ ∗ L) := by
  rw [hΦ, ho]
  refine BIBase.Entails.trans ?_ (hrun _)
  iintro ⟨HΦ, Ho, HB⟩
  ihave HI := hI $$ HB
  isplitl [HI]; · iexact HI
  iintro HO
  ihave HL := hO $$ HO
  isplitl [HΦ]; · iexact HΦ
  isplitl [Ho]; · iexact Ho
  iexact HL

section Segment

/-- The launch and the sections after it have no levels and no obligations. -/
abbrev noCells : GSem nD τ sig → Finset Unit := fun _ => ∅
abbrev noLevel : GSem nD τ sig → Unit → ℕ := fun _ _ => 0

variable {n : ℕ} {cfgs : Fin n → Cfg sig Λ₀} {defs₀ : Defs nD τ sig (Elt F) Λ₀}
  (pdats : (p : Fin n) → (c : Dev nD) → Dat τ (Elt F) Unit ℕ U ℕ (cfgs p) c)

abbrev asPre (cfgs : Fin n → Cfg sig Λ₀) : (p : Fin n) → PCfg sig Λ₀ (Elt F) := fun p => (cfgs p).toPCfg
abbrev asAdm (cfgs : Fin n → Cfg sig Λ₀) : (p : Fin n) → (asPre (F := F) cfgs p).Adm := fun p => (cfgs p).toPCfg_adm

/-- A core owes nothing. -/
abbrev clear (c : Dev nD) : sProp 𝕄 := iprop(∃ W, owes (c : Thread nD τ) (0 : CellTallies nD τ sig Unit) W)

/-- Call `p` as a segment of the program: entered with every array of the core at `W c`, left with every array at `W' c`,
    where `W'` has the call's arrays as its proof data leave them and the others as `W` has them. -/
def call (p : Fin n) (hw : Pipeline.WinFacts₀ (cfgs p).spec) (hsh : Pipeline.SharedIn (cfgs p).spec)
    (hpos : ∀ w, 0 < ((cfgs p).spec w).block.numel) (harr : ∀ w, ((cfgs p).spec w).arr.IsWhole)
    (hst : ∀ w (s : Fin ((cfgs p).spec w).nbuf), (((cfgs p).spec w).stage s).IsWhole)
    (hbody : ∀ c, BodyObligationLoose (pdats p c) defs₀ Variants.none () Set.univ)
    (howed : ∀ c t, (pdats p c).owed t = 0) (hrec : ∀ c t, (pdats p c).recorded t = Set.univ)
    (hq : ∀ c w, ((cfgs p).spec w).isOut = false → (pdats p c).q w = Pipeline.shareOf (cfgs p).spec w)
    (hin : ∀ c, (Pipeline.scopedRest (cfgs p).spec c : sProp 𝕄) ⊢ (pdats p c).Φ 0)
    (hout : ∀ c, (pdats p c).Φ (Fin.last _) ⊢ (Pipeline.scopedRest (cfgs p).spec c : sProp 𝕄))
    (W W' : Dev nD → Valuation τ sig (Elt F))
    (hA : ∀ c w, (pdats p c).A w = W c (Pipeline.arrRef (cfgs p).spec w))
    (hF : ∀ c w, (pdats p c).arrAt w (cfgs p).N = W' c (Pipeline.arrRef (cfgs p).spec w))
    (hrest : ∀ c (b : Ref sig .tc), b ∉ Finset.univ.image (Pipeline.arrRef (cfgs p).spec) → W' c b = W c b) :
    RegionSeg (asPre cfgs) (asAdm cfgs) pdats () defs₀ Variants.none noCells noLevel p where
  win := hw
  block_pos := hpos
  stage_whole := hst
  K := PEmpty
  osem k := k.elim
  ho := Pipeline.OwnSemFacts.none _
  hbody := hbody
  hwaits c := Pipeline.hwaits_of_owed_zero (asPre cfgs) (asAdm cfgs) pdats () noCells noLevel p howed c
  pre c := iprop(StableHlo.held (c : Thread nD τ) (Pipeline.ucRefs τ sig) (W c) ∗ clear c)
  post c := iprop(StableHlo.held (c : Thread nD τ) (Pipeline.ucRefs τ sig) (W' c) ∗ clear c)
  X _ := BI.emp
  Y _ := BI.emp
  Z c := Pipeline.unscopedRest (cfgs p).spec c fun b => W c b
  hentry c := by
    rw [Pipeline.ownSems0_none, Pipeline.prefHeld_of_none _ rfl, ← Pipeline.unscopedBufs_held (Ix := Unit) (Name := ℕ) (U := U) (Lvl := ℕ) c (W c)]
    iintro ⟨⟨Hu, HO⟩, -, -⟩
    ihave Hs := (Pipeline.arrays_of_unscopedBufs_shared (asPre cfgs) (asAdm cfgs) pdats hw hsh harr c (hq c) (fun b => W c b) (hA c)) $$ Hu
    icases Hs with ⟨Ha, Hz⟩
    imodintro
    isplitl [Ha]; · iexact Ha
    isplitr; · iempintro
    isplitl [HO]
    · unfold Dat.owesAt Pipeline.owesWithin Dat.bound
      rw [howed c 0, hrec c]
      icases HO with ⟨%X, HO⟩; iexists X; isplitr; · ipureintro; exact fun _ _ => Or.inl trivial
      iexact HO
    isplitr; · iempintro
    iexact Hz
  hin c := (show _ ⊢ (Pipeline.scopedRest (cfgs p).spec c : sProp 𝕄) from by iintro ⟨-, -, Hr⟩; iexact Hr).trans (hin c)
  hout c := (hout c).trans (by
    rw [Pipeline.ownSems0_none]
    iintro Hr
    isplitr; · iempintro
    isplitr; · iempintro
    iexact Hr)
  hexit c := by
    rw [← Pipeline.unscopedBufs_held (Ix := Unit) (Name := ℕ) (U := U) (Lvl := ℕ) c (W' c)]
    iintro ⟨Ha, HO, -, Hz⟩
    ihave Hu := (Pipeline.unscopedBufs_of_arrays_shared (asPre cfgs) (asAdm cfgs) hw hsh harr c pdats (hq c) (fun b => W c b) (fun b => W' c b) _ (hF c) (hrest c)) $$ [Ha Hz]
    · isplitl [Ha]; · iexact Ha
      iexact Hz
    imodintro
    isplitl [Hu]; · iexact Hu
    unfold Dat.owesAt Pipeline.owesWithin
    rw [howed c (Fin.last _)]
    icases HO with ⟨%X, -, HO⟩; iexists X; iexact HO

end Segment

end Cert.Calls

end
-- ==== Proof.FfnBase.lean ====
/-
  What the seven calls of the feed-forward gradient rest on: reads and writes of parts of buffers.
-/
module

public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Regions
public import proofs.«01_k».proof.Proof.Common

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Kernel2Ideal Cert.Kernel2Ideal.Gen

variable {F : FTy → Type} [FloatOps F]

local notation "𝕄" => MT nD τ sig Unit (Elt F) ℕ (UR sig nD τ) ℕ

section Loads

variable {s : Shape} {e : EltTy}

/-- Reading a part of a buffer that holds `x` gives that part of `x`. -/
theorem ld_part (a : Memref sig .tc .vmem s e) (h : a.IsWhole) (x : s.Idx → Elt F e) (off size : Fin s.rank → ℕ) (inb : ∀ a, off a + size a ≤ s.size a) :
    a.view.readAt (Elt F) (Rect.unit off size inb).toLoadRect (h.unread x) = VecWindow.window x off size inb :=
  (View.readAt_unit a.view _ inb rfl inb).trans (by rw [h.read_unread])

/-- Two planes put one over the other. -/
def both {α : Type} {n k : ℕ} (p q : (⟨3, ![1, n, k]⟩ : Shape).Idx → α) : (⟨3, ![2, n, k]⟩ : Shape).Idx → α :=
  fun y => if (y 0).val = 0 then p (ix3 0 (y 1) (y 2)) else q (ix3 0 (y 1) (y 2))
/-- Two stores that fill the two planes of a buffer leave the two planes, whatever it held. -/
theorem rw_both {n k : ℕ} (a : Memref sig .tc .vmem (⟨3, ![2, n, k]⟩ : Shape) e) (f : a.view.ty.Contents (Elt F))
    (i0 : ∀ x, (![0, 0, 0] : Fin 3 → ℕ) x + (⟨3, ![1, n, k]⟩ : Shape).size x ≤ (⟨3, ![2, n, k]⟩ : Shape).size x)
    (i1 : ∀ x, (![1, 0, 0] : Fin 3 → ℕ) x + (⟨3, ![1, n, k]⟩ : Shape).size x ≤ (⟨3, ![2, n, k]⟩ : Shape).size x)
    (p q : (⟨3, ![1, n, k]⟩ : Shape).Idx → Elt F e) :
    a.view.read (Elt F) (a.view.writes (Elt F) f [⟨Rect.unit (s := ⟨3, ![2, n, k]⟩) ![1, 0, 0] (⟨3, ![1, n, k]⟩ : Shape).size i1, q⟩,
      ⟨Rect.unit (s := ⟨3, ![2, n, k]⟩) ![0, 0, 0] (⟨3, ![1, n, k]⟩ : Shape).size i0, p⟩]) = both p q := by
  rw [View.read_writes_cons_put a.view _ i1 q _ rfl, View.read_writes_cons_put a.view _ i0 p [] rfl]
  funext y
  have h0 : (y 0).val < 2 := (y 0).isLt
  have h1 : (y 1).val < n := (y 1).isLt
  have h2 : (y 2).val < k := (y 2).isLt
  unfold both VecWindow.put
  by_cases h : (y 0).val = 0
  · rw [dif_neg (fun hh => by have := (hh 0).1; simp at this; omega), dif_pos (by
      intro b; fin_cases b
      · exact ⟨Nat.zero_le _, by simp [h]⟩
      · exact ⟨Nat.zero_le _, by simpa using h1⟩
      · exact ⟨Nat.zero_le _, by simpa using h2⟩), if_pos h]
    refine congrArg p (funext fun b => ?_)
    fin_cases b
    · exact Fin.ext (show (y 0).val - 0 = 0 by omega)
    · rfl
    · rfl
  · rw [dif_pos (by
      intro b; fin_cases b
      · exact ⟨by simp; omega, by simp; omega⟩
      · exact ⟨Nat.zero_le _, by simpa using h1⟩
      · exact ⟨Nat.zero_le _, by simpa using h2⟩), if_neg h]
    refine congrArg q (funext fun b => ?_)
    fin_cases b
    · exact Fin.ext (show (y 0).val - 1 = 0 by omega)
    · rfl
    · rfl

end Loads

end Cert.Kernel2Ideal.Hand

end
-- ==== Proof.Ffn0.lean ====
/-
  Call 0 of the feed-forward gradient, the normalisation of the block's input: its body's run, its proof data, its triple at every point.
-/
module

public import proofs.«01_k».proof.Proof.FfnBase

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel2Ideal Cert.Kernel2Ideal.Gen

variable {F : FTy → Type} [FloatOps F]

local notation "𝕄" => MT nD τ sig Unit (Elt F) ℕ (UR sig nD τ) ℕ

/-- What the body leaves in its output number 0, from its input blocks. -/
def res0_0 (x0 : Vec F S512x2048 .f32) (x1 : Vec F S1x2048 .f32) : Vec F S512x2048 .bf16 := k0_pay1 x0 x1

set_option maxHeartbeats 2000000 in
/-- The body's run. -/
theorem run0 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S512x2048 .bf16) (harg3 : arg3.IsWhole)
    (x0 : Vec F S512x2048 .f32) (x1 : Vec F S1x2048 .f32) (E : Set ℕ) (K : PUnit → sProp 𝕄) :
    iprop((owns (c : Thread nD τ) arg1 fullShare x0 ∗ owns (c : Thread nD τ) arg2 fullShare x1 ∗ (∃ d, owns (c : Thread nD τ) arg3 fullShare d))
        ∗ (iprop(owns (c : Thread nD τ) arg1 fullShare x0 ∗ owns (c : Thread nD τ) arg2 fullShare x1 ∗ owns (c : Thread nD τ) arg3 fullShare (res0_0 x0 x1)) -∗ K ⟨⟩))
      ⊢ wp frame (wpE (defs₀ (F := F)) Variants.none c none) E (cc0_ffn_norm i arg1 harg1 arg2 harg2 arg3 harg3) K := by
  simp only [cc0_ffn_norm_eq_skeleton]; unfold cc0_ffn_norm_skel
  unfold owns
  iintro ⟨⟨⟨%f0, %hf0, H0⟩, ⟨%f1, %hf1, H1⟩, ⟨%d2, %f2, -, H2⟩⟩, Hk⟩
  obtain rfl := harg1.eq_unread hf0; obtain rfl := harg2.eq_unread hf1
  sl_exec
  sl_step
  iapply Hk
  isplitl [H0]
  · iapply (whole harg1 _); iexact H0
  isplitl [H1]
  · iapply (whole harg2 _); iexact H1
  iexists _; isplitr; swap; · iexact H2
  ipureintro
  exact (View.read_writes_full arg3.view _ _ _ _).trans (congr (congrArg k0_pay1 (ld_all arg1 harg1 x0 ![0, 0] inb_S512x2048_S512x2048_0_0)) (ld_all arg2 harg2 x1 ![0, 0] inb_S1x2048_S1x2048_0_0))

variable (W : Dev nD → Valuation τ sig (Elt F))

/-- The block of input `w` at point `t`. -/
def in0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))
abbrev in0_0 (c : Dev nD) (t : Fin cfg0.N) : Vec F S512x2048 .f32 := in0 W c 0 t
abbrev in0_1 (c : Dev nD) (t : Fin cfg0.N) : Vec F S1x2048 .f32 := in0 W c 1 t

/-- The call's proof data: entered with its arrays at `W c`, each point leaves the inputs at their blocks and the outputs at the body's results. -/
def dat0 (c : Dev nD) : Dat τ (Elt F) Unit ℕ (UR sig nD τ) ℕ cfg0 c where
  A w := W c (Pipeline.arrRef spec0 w)
  after w t := match w with
    | ⟨0, _⟩ => in0 W c 0 t
    | ⟨1, _⟩ => in0 W c 1 t
    | ⟨2, _⟩ => res0_0 (in0_0 W c t) (in0_1 W c t)
  Φ _ := Pipeline.scopedRest spec0 c
  q w := Pipeline.shareOf spec0 w
  owed _ := 0

theorem A0 (c : Dev nD) (w : Fin cfg0.W) : (dat0 W c).A w = W c (Pipeline.arrRef spec0 w) := by dsimp only [dat0]
theorem left0_0 (c : Dev nD) (t : Fin cfg0.N) : (dat0 W c).after 0 t = in0 W c 0 t := by dsimp only [dat0]
theorem left0_1 (c : Dev nD) (t : Fin cfg0.N) : (dat0 W c).after 1 t = in0 W c 1 t := by dsimp only [dat0]
theorem left0_2 (c : Dev nD) (t : Fin cfg0.N) : (dat0 W c).after 2 t = res0_0 (in0_0 W c t) (in0_1 W c t) := by dsimp only [dat0]
set_option maxHeartbeats 1600000 in
/-- The library's body obligation. -/
theorem obl0 (c : Dev nD) : BodyObligation (dat0 (F := F) W c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact obligation (dat0 W c) (run0 c (grid0.coords t) _ _ _ _ _ _ (in0_0 W c t) (in0_1 W c t) Set.univ)
    (pair (got (found (dat0 W c) 0 rfl (fun _ => rfl) (fun _ _ _ => rfl) (left0_0 W c) (fun t _ => (left0_0 W c t).symm) (left0_0 W c t))) (pair (got (found (dat0 W c) 1 rfl (fun _ => rfl) (fun _ _ _ => rfl) (left0_1 W c) (fun t _ => (left0_1 W c t).symm) (left0_1 W c t))) anything))
    (pair (back (left0_0 W c t)) (pair (back (left0_1 W c t)) (back (left0_2 W c t)))) rfl rfl

end Cert.Kernel2Ideal.Hand

end
-- ==== Proof.Ffn1.lean ====
/-
  Call 1 of the feed-forward gradient, the first product, the gate and what its derivative needs: its body's run, its proof data, its triple at every point.
-/
module

public import proofs.«01_k».proof.Proof.FfnBase

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel2Ideal Cert.Kernel2Ideal.Gen

variable {F : FTy → Type} [FloatOps F]

local notation "𝕄" => MT nD τ sig Unit (Elt F) ℕ (UR sig nD τ) ℕ

/-- What the body leaves in its output number 0, from its input blocks. -/
def res1_0 (x0 : Vec F S256x2048 .bf16) (x1 : Vec F S1x2048x1408 .bf16) (x2 : Vec F S1x2048x1408 .bf16) : Vec F S2x256x1408 .bf16 := both (n := 256) (k := 1408) (k1_pay6 x0 x1 x2) (k1_pay7 x0 x1)

/-- What the body leaves in its output number 1, from its input blocks. -/
def res1_1 (x0 : Vec F S256x2048 .bf16) (x1 : Vec F S1x2048x1408 .bf16) (x2 : Vec F S1x2048x1408 .bf16) : Vec F S256x1408 .bf16 := k1_pay8 x0 x1 x2

set_option maxHeartbeats 2000000 in
/-- The body's run. -/
theorem run1 (c : Dev nD) (i : grid1.Coords) (arg3 : Memref sig .tc .vmem S256x2048 .bf16) (harg3 : arg3.IsWhole) (arg4 : Memref sig .tc .vmem S1x2048x1408 .bf16) (harg4 : arg4.IsWhole) (arg5 : Memref sig .tc .vmem S1x2048x1408 .bf16) (harg5 : arg5.IsWhole) (arg6 : Memref sig .tc .vmem S2x256x1408 .bf16) (harg6 : arg6.IsWhole) (arg7 : Memref sig .tc .vmem S256x1408 .bf16) (harg7 : arg7.IsWhole)
    (x0 : Vec F S256x2048 .bf16) (x1 : Vec F S1x2048x1408 .bf16) (x2 : Vec F S1x2048x1408 .bf16) (E : Set ℕ) (K : PUnit → sProp 𝕄) :
    iprop((owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d))
        ∗ (iprop(owns (c : Thread nD τ) arg3 fullShare x0 ∗ owns (c : Thread nD τ) arg4 fullShare x1 ∗ owns (c : Thread nD τ) arg5 fullShare x2 ∗ owns (c : Thread nD τ) arg6 fullShare (res1_0 x0 x1 x2) ∗ owns (c : Thread nD τ) arg7 fullShare (res1_1 x0 x1 x2)) -∗ K ⟨⟩))
      ⊢ wp frame (wpE (defs₀ (F := F)) Variants.none c none) E (cc1_ffn_in i arg3 harg3 arg4 harg4 arg5 harg5 arg6 harg6 arg7 harg7) K := by
  simp only [cc1_ffn_in_eq_skeleton]; unfold cc1_ffn_in_skel
  unfold owns
  iintro ⟨⟨⟨%f0, %hf0, H0⟩, ⟨%f1, %hf1, H1⟩, ⟨%f2, %hf2, H2⟩, ⟨%d3, %f3, -, H3⟩, ⟨%d4, %f4, -, H4⟩⟩, Hk⟩
  obtain rfl := harg3.eq_unread hf0; obtain rfl := harg4.eq_unread hf1; obtain rfl := harg5.eq_unread hf2
  sl_exec
  sl_step
  iapply Hk
  isplitl [H0]
  · iapply (whole harg3 _); iexact H0
  isplitl [H1]
  · iapply (whole harg4 _); iexact H1
  isplitl [H2]
  · iapply (whole harg5 _); iexact H2
  isplitl [H3]
  · iexists _; isplitr; swap; · iexact H3
    ipureintro
    exact (rw_both arg6 _ _ _ _ _).trans (congr (congrArg both (congr (congr (congrArg k1_pay6 (ld_all arg3 harg3 x0 ![0, 0] inb_S256x2048_S256x2048_0_0)) (ld_all arg4 harg4 x1 ![0, 0, 0] inb_S1x2048x1408_S1x2048x1408_0_0_0)) (ld_all arg5 harg5 x2 ![0, 0, 0] inb_S1x2048x1408_S1x2048x1408_0_0_0))) (congr (congrArg k1_pay7 (ld_all arg3 harg3 x0 ![0, 0] inb_S256x2048_S256x2048_0_0)) (ld_all arg4 harg4 x1 ![0, 0, 0] inb_S1x2048x1408_S1x2048x1408_0_0_0)))
  iexists _; isplitr; swap; · iexact H4
  ipureintro
  exact (View.read_writes_full arg7.view _ _ _ _).trans (congr (congr (congrArg k1_pay8 (ld_all arg3 harg3 x0 ![0, 0] inb_S256x2048_S256x2048_0_0)) (ld_all arg4 harg4 x1 ![0, 0, 0] inb_S1x2048x1408_S1x2048x1408_0_0_0)) (ld_all arg5 harg5 x2 ![0, 0, 0] inb_S1x2048x1408_S1x2048x1408_0_0_0))

variable (W : Dev nD → Valuation τ sig (Elt F))

/-- The block of input `w` at point `t`. -/
def in1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))
abbrev in1_0 (c : Dev nD) (t : Fin cfg1.N) : Vec F S256x2048 .bf16 := in1 W c 0 t
abbrev in1_1 (c : Dev nD) (t : Fin cfg1.N) : Vec F S1x2048x1408 .bf16 := in1 W c 1 t
abbrev in1_2 (c : Dev nD) (t : Fin cfg1.N) : Vec F S1x2048x1408 .bf16 := in1 W c 2 t

/-- The call's proof data: entered with its arrays at `W c`, each point leaves the inputs at their blocks and the outputs at the body's results. -/
def dat1 (c : Dev nD) : Dat τ (Elt F) Unit ℕ (UR sig nD τ) ℕ cfg1 c where
  A w := W c (Pipeline.arrRef spec1 w)
  after w t := match w with
    | ⟨0, _⟩ => in1 W c 0 t
    | ⟨1, _⟩ => in1 W c 1 t
    | ⟨2, _⟩ => in1 W c 2 t
    | ⟨3, _⟩ => res1_0 (in1_0 W c t) (in1_1 W c t) (in1_2 W c t)
    | ⟨4, _⟩ => res1_1 (in1_0 W c t) (in1_1 W c t) (in1_2 W c t)
  Φ _ := Pipeline.scopedRest spec1 c
  q w := Pipeline.shareOf spec1 w
  owed _ := 0

theorem A1 (c : Dev nD) (w : Fin cfg1.W) : (dat1 W c).A w = W c (Pipeline.arrRef spec1 w) := by dsimp only [dat1]
theorem left1_0 (c : Dev nD) (t : Fin cfg1.N) : (dat1 W c).after 0 t = in1 W c 0 t := by dsimp only [dat1]
theorem left1_1 (c : Dev nD) (t : Fin cfg1.N) : (dat1 W c).after 1 t = in1 W c 1 t := by dsimp only [dat1]
theorem left1_2 (c : Dev nD) (t : Fin cfg1.N) : (dat1 W c).after 2 t = in1 W c 2 t := by dsimp only [dat1]
theorem left1_3 (c : Dev nD) (t : Fin cfg1.N) : (dat1 W c).after 3 t = res1_0 (in1_0 W c t) (in1_1 W c t) (in1_2 W c t) := by dsimp only [dat1]
theorem left1_4 (c : Dev nD) (t : Fin cfg1.N) : (dat1 W c).after 4 t = res1_1 (in1_0 W c t) (in1_1 W c t) (in1_2 W c t) := by dsimp only [dat1]
set_option maxHeartbeats 1600000 in
/-- The library's body obligation. -/
theorem obl1 (c : Dev nD) : BodyObligation (dat1 (F := F) W c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact obligation (dat1 W c) (run1 c (grid1.coords t) _ _ _ _ _ _ _ _ _ _ (in1_0 W c t) (in1_1 W c t) (in1_2 W c t) Set.univ)
    (pair (got (found (dat1 W c) 0 rfl (fun _ => rfl) (fun _ _ _ => rfl) (left1_0 W c) (fun t _ => (left1_0 W c t).symm) (left1_0 W c t))) (pair (got (found (dat1 W c) 1 rfl (fun _ => rfl) (fun _ _ _ => rfl) (left1_1 W c) (fun t _ => (left1_1 W c t).symm) (left1_1 W c t))) (pair (got (found (dat1 W c) 2 rfl (fun _ => rfl) (fun _ _ _ => rfl) (left1_2 W c) (fun t _ => (left1_2 W c t).symm) (left1_2 W c t))) (pair anything anything))))
    (pair (back (left1_0 W c t)) (pair (back (left1_1 W c t)) (pair (back (left1_2 W c t)) (pair (back (left1_3 W c t)) (back (left1_4 W c t)))))) rfl rfl

end Cert.Kernel2Ideal.Hand

end
-- ==== Proof.Ffn2.lean ====
/-
  Call 2 of the feed-forward gradient, the gradients of the gate and of the value before the gate: its body's run, its proof data, its triple at every point.
-/
module

public import proofs.«01_k».proof.Proof.FfnBase

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel2Ideal Cert.Kernel2Ideal.Gen

variable {F : FTy → Type} [FloatOps F]

local notation "𝕄" => MT nD τ sig Unit (Elt F) ℕ (UR sig nD τ) ℕ

/-- What the body leaves in its output number 0, from its input blocks. -/
def res2_0 (x0 : Vec F S512x2048 .bf16) (x1 : Vec F S1408x2048 .bf16) (x2 : Vec F S2x512x1408 .bf16) : Vec F S2x512x1408 .bf16 := both (n := 512) (k := 1408) (k2_pay2 x0 x1 (VecWindow.window x2 ![0, 0, 0] S1x512x1408.size inb_S2x512x1408_S1x512x1408_0_0_0)) (k2_pay3 x0 x1 (VecWindow.window x2 ![1, 0, 0] S1x512x1408.size inb_S2x512x1408_S1x512x1408_1_0_0))

set_option maxHeartbeats 2000000 in
/-- The body's run. -/
theorem run2 (c : Dev nD) (i : grid2.Coords) (arg3 : Memref sig .tc .vmem S512x2048 .bf16) (harg3 : arg3.IsWhole) (arg4 : Memref sig .tc .vmem S1408x2048 .bf16) (harg4 : arg4.IsWhole) (arg5 : Memref sig .tc .vmem S2x512x1408 .bf16) (harg5 : arg5.IsWhole) (arg6 : Memref sig .tc .vmem S2x512x1408 .bf16) (harg6 : arg6.IsWhole)
    (x0 : Vec F S512x2048 .bf16) (x1 : Vec F S1408x2048 .bf16) (x2 : Vec F S2x512x1408 .bf16) (E : Set ℕ) (K : PUnit → sProp 𝕄) :
    iprop((owns (c : Thread nD τ) arg3 fullShare x0 ∗ owns (c : Thread nD τ) arg4 fullShare x1 ∗ owns (c : Thread nD τ) arg5 fullShare x2 ∗ (∃ d, owns (c : Thread nD τ) arg6 fullShare d))
        ∗ (iprop(owns (c : Thread nD τ) arg3 fullShare x0 ∗ owns (c : Thread nD τ) arg4 fullShare x1 ∗ owns (c : Thread nD τ) arg5 fullShare x2 ∗ owns (c : Thread nD τ) arg6 fullShare (res2_0 x0 x1 x2)) -∗ K ⟨⟩))
      ⊢ wp frame (wpE (defs₀ (F := F)) Variants.none c none) E (cc2_ffn_dact i arg3 harg3 arg4 harg4 arg5 harg5 arg6 harg6) K := by
  simp only [cc2_ffn_dact_eq_skeleton]; unfold cc2_ffn_dact_skel
  unfold owns
  iintro ⟨⟨⟨%f0, %hf0, H0⟩, ⟨%f1, %hf1, H1⟩, ⟨%f2, %hf2, H2⟩, ⟨%d3, %f3, -, H3⟩⟩, Hk⟩
  obtain rfl := harg3.eq_unread hf0; obtain rfl := harg4.eq_unread hf1; obtain rfl := harg5.eq_unread hf2
  sl_exec
  sl_step
  iapply Hk
  isplitl [H0]
  · iapply (whole harg3 _); iexact H0
  isplitl [H1]
  · iapply (whole harg4 _); iexact H1
  isplitl [H2]
  · iapply (whole harg5 _); iexact H2
  iexists _; isplitr; swap; · iexact H3
  ipureintro
  exact (rw_both arg6 _ _ _ _ _).trans (congr (congrArg both (congr (congr (congrArg k2_pay2 (ld_all arg3 harg3 x0 ![0, 0] inb_S512x2048_S512x2048_0_0)) (ld_all arg4 harg4 x1 ![0, 0] inb_S1408x2048_S1408x2048_0_0)) (ld_part arg5 harg5 x2 ![0, 0, 0] S1x512x1408.size inb_S2x512x1408_S1x512x1408_0_0_0))) (congr (congr (congrArg k2_pay3 (ld_all arg3 harg3 x0 ![0, 0] inb_S512x2048_S512x2048_0_0)) (ld_all arg4 harg4 x1 ![0, 0] inb_S1408x2048_S1408x2048_0_0)) (ld_part arg5 harg5 x2 ![1, 0, 0] S1x512x1408.size inb_S2x512x1408_S1x512x1408_1_0_0)))

variable (W : Dev nD → Valuation τ sig (Elt F))

/-- The block of input `w` at point `t`. -/
def in2 (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))
abbrev in2_0 (c : Dev nD) (t : Fin cfg2.N) : Vec F S512x2048 .bf16 := in2 W c 0 t
abbrev in2_1 (c : Dev nD) (t : Fin cfg2.N) : Vec F S1408x2048 .bf16 := in2 W c 1 t
abbrev in2_2 (c : Dev nD) (t : Fin cfg2.N) : Vec F S2x512x1408 .bf16 := in2 W c 2 t

/-- The call's proof data: entered with its arrays at `W c`, each point leaves the inputs at their blocks and the outputs at the body's results. -/
def dat2 (c : Dev nD) : Dat τ (Elt F) Unit ℕ (UR sig nD τ) ℕ cfg2 c where
  A w := W c (Pipeline.arrRef spec2 w)
  after w t := match w with
    | ⟨0, _⟩ => in2 W c 0 t
    | ⟨1, _⟩ => in2 W c 1 t
    | ⟨2, _⟩ => in2 W c 2 t
    | ⟨3, _⟩ => res2_0 (in2_0 W c t) (in2_1 W c t) (in2_2 W c t)
  Φ _ := Pipeline.scopedRest spec2 c
  q w := Pipeline.shareOf spec2 w
  owed _ := 0

theorem A2 (c : Dev nD) (w : Fin cfg2.W) : (dat2 W c).A w = W c (Pipeline.arrRef spec2 w) := by dsimp only [dat2]
theorem left2_0 (c : Dev nD) (t : Fin cfg2.N) : (dat2 W c).after 0 t = in2 W c 0 t := by dsimp only [dat2]
theorem left2_1 (c : Dev nD) (t : Fin cfg2.N) : (dat2 W c).after 1 t = in2 W c 1 t := by dsimp only [dat2]
theorem left2_2 (c : Dev nD) (t : Fin cfg2.N) : (dat2 W c).after 2 t = in2 W c 2 t := by dsimp only [dat2]
theorem left2_3 (c : Dev nD) (t : Fin cfg2.N) : (dat2 W c).after 3 t = res2_0 (in2_0 W c t) (in2_1 W c t) (in2_2 W c t) := by dsimp only [dat2]
set_option maxHeartbeats 1600000 in
/-- The library's body obligation. -/
theorem obl2 (c : Dev nD) : BodyObligation (dat2 (F := F) W c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  exact obligation (dat2 W c) (run2 c (grid2.coords t) _ _ _ _ _ _ _ _ (in2_0 W c t) (in2_1 W c t) (in2_2 W c t) Set.univ)
    (pair (got (found (dat2 W c) 0 rfl (fun _ => rfl) (fun _ _ _ => rfl) (left2_0 W c) (fun t _ => (left2_0 W c t).symm) (left2_0 W c t))) (pair (got (found (dat2 W c) 1 rfl (fun _ => rfl) (fun _ _ _ => rfl) (left2_1 W c) (fun t _ => (left2_1 W c t).symm) (left2_1 W c t))) (pair (got (found (dat2 W c) 2 rfl (fun _ => rfl) (fun _ _ _ => rfl) (left2_2 W c) (fun t _ => (left2_2 W c t).symm) (left2_2 W c t))) anything)))
    (pair (back (left2_0 W c t)) (pair (back (left2_1 W c t)) (pair (back (left2_2 W c t)) (back (left2_3 W c t))))) rfl rfl

end Cert.Kernel2Ideal.Hand

end
-- ==== Proof.Ffn3.lean ====
/-
  Call 3 of the feed-forward gradient, the gradient of the second weight: its body's run, its proof data, its triple at every point.
-/
module

public import proofs.«01_k».proof.Proof.FfnBase

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel2Ideal Cert.Kernel2Ideal.Gen

variable {F : FTy → Type} [FloatOps F]

local notation "𝕄" => MT nD τ sig Unit (Elt F) ℕ (UR sig nD τ) ℕ

/-- What the body leaves in its output number 0, from its input blocks. -/
def res3_0 (x0 : Vec F S2048x512 .bf16) (x1 : Vec F S2048x2048 .bf16) : Vec F S512x2048 .bf16 := k3_pay1 x0 x1

set_option maxHeartbeats 2000000 in
/-- The body's run. -/
theorem run3 (c : Dev nD) (i : grid3.Coords) (arg3 : Memref sig .tc .vmem S2048x512 .bf16) (harg3 : arg3.IsWhole) (arg4 : Memref sig .tc .vmem S2048x2048 .bf16) (harg4 : arg4.IsWhole) (arg5 : Memref sig .tc .vmem S512x2048 .bf16) (harg5 : arg5.IsWhole)
    (x0 : Vec F S2048x512 .bf16) (x1 : Vec F S2048x2048 .bf16) (E : Set ℕ) (K : PUnit → sProp 𝕄) :
    iprop((owns (c : Thread nD τ) arg3 fullShare x0 ∗ owns (c : Thread nD τ) arg4 fullShare x1 ∗ (∃ d, owns (c : Thread nD τ) arg5 fullShare d))
        ∗ (iprop(owns (c : Thread nD τ) arg3 fullShare x0 ∗ owns (c : Thread nD τ) arg4 fullShare x1 ∗ owns (c : Thread nD τ) arg5 fullShare (res3_0 x0 x1)) -∗ K ⟨⟩))
      ⊢ wp frame (wpE (defs₀ (F := F)) Variants.none c none) E (cc3_ffn_dwout i arg3 harg3 arg4 harg4 arg5 harg5) K := by
  simp only [cc3_ffn_dwout_eq_skeleton]; unfold cc3_ffn_dwout_skel
  unfold owns
  iintro ⟨⟨⟨%f0, %hf0, H0⟩, ⟨%f1, %hf1, H1⟩, ⟨%d2, %f2, -, H2⟩⟩, Hk⟩
  obtain rfl := harg3.eq_unread hf0; obtain rfl := harg4.eq_unread hf1
  sl_exec
  sl_step
  iapply Hk
  isplitl [H0]
  · iapply (whole harg3 _); iexact H0
  isplitl [H1]
  · iapply (whole harg4 _); iexact H1
  iexists _; isplitr; swap; · iexact H2
  ipureintro
  exact (View.read_writes_full arg5.view _ _ _ _).trans (congr (congrArg k3_pay1 (ld_all arg3 harg3 x0 ![0, 0] inb_S2048x512_S2048x512_0_0)) (ld_all arg4 harg4 x1 ![0, 0] inb_S2048x2048_S2048x2048_0_0))

variable (W : Dev nD → Valuation τ sig (Elt F))

/-- The block of input `w` at point `t`. -/
def in3 (c : Dev nD) (w : Fin cfg3.W) (t : Fin cfg3.N) : ((cfg3.win w).xblock (cfg3.grid.coords t)).Idx → Elt F (cfg3.win w).elt :=
  ((cfg3.win w).blk t).view.read (Elt F) (W c (Pipeline.arrRef spec3 w))
abbrev in3_0 (c : Dev nD) (t : Fin cfg3.N) : Vec F S2048x512 .bf16 := in3 W c 0 t
abbrev in3_1 (c : Dev nD) (t : Fin cfg3.N) : Vec F S2048x2048 .bf16 := in3 W c 1 t

/-- The call's proof data: entered with its arrays at `W c`, each point leaves the inputs at their blocks and the outputs at the body's results. -/
def dat3 (c : Dev nD) : Dat τ (Elt F) Unit ℕ (UR sig nD τ) ℕ cfg3 c where
  A w := W c (Pipeline.arrRef spec3 w)
  after w t := match w with
    | ⟨0, _⟩ => in3 W c 0 t
    | ⟨1, _⟩ => in3 W c 1 t
    | ⟨2, _⟩ => res3_0 (in3_0 W c t) (in3_1 W c t)
  Φ _ := Pipeline.scopedRest spec3 c
  q w := Pipeline.shareOf spec3 w
  owed _ := 0

theorem A3 (c : Dev nD) (w : Fin cfg3.W) : (dat3 W c).A w = W c (Pipeline.arrRef spec3 w) := by dsimp only [dat3]
theorem left3_0 (c : Dev nD) (t : Fin cfg3.N) : (dat3 W c).after 0 t = in3 W c 0 t := by dsimp only [dat3]
theorem left3_1 (c : Dev nD) (t : Fin cfg3.N) : (dat3 W c).after 1 t = in3 W c 1 t := by dsimp only [dat3]
theorem left3_2 (c : Dev nD) (t : Fin cfg3.N) : (dat3 W c).after 2 t = res3_0 (in3_0 W c t) (in3_1 W c t) := by dsimp only [dat3]
set_option maxHeartbeats 1600000 in
/-- The library's body obligation. -/
theorem obl3 (c : Dev nD) : BodyObligation (dat3 (F := F) W c) (defs₀ (F := F)) Variants.none () Set.univ := fun t => by
  rw [bigSep_W3, bigSep_W3, show defs₀ (F := F) .tc cfg3.body (cfg3.bodyArgs t (cfg3.slots t)) = bodyAt3 t from by unfold defs₀; rw [Defs.onTc_tc]]
  exact obligation (dat3 W c) (run3 c (grid3.coords t) _ _ _ _ _ _ (in3_0 W c t) (in3_1 W c t) Set.univ)
    (pair (got (found (dat3 W c) 0 rfl (fun _ => rfl) (fun _ _ _ => rfl) (left3_0 W c) (fun t _ => (left3_0 W c t).symm) (left3_0 W c t))) (pair (got (found (dat3 W c) 1 rfl (fun _ => rfl) (fun _ _ _ => rfl) (left3_1 W c) (fun t _ => (left3_1 W c t).symm) (left3_1 W c t))) anything))
    (pair (back (left3_0 W c t)) (pair (back (left3_1 W c t)) (back (left3_2 W c t)))) rfl rfl

end Cert.Kernel2Ideal.Hand

end
-- ==== Proof.Ffn4.lean ====
/-
  Call 4 of the feed-forward gradient, the gradient of the first weight: its body's run, its proof data, its triple at every point.
-/
module

public import proofs.«01_k».proof.Proof.FfnBase

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel2Ideal Cert.Kernel2Ideal.Gen

variable {F : FTy → Type} [FloatOps F]

local notation "𝕄" => MT nD τ sig Unit (Elt F) ℕ (UR sig nD τ) ℕ

/-- What the body leaves in its output number 0, from its input blocks. -/
def res4_0 (x0 : Vec F S2048x512 .bf16) (x1 : Vec F S1x2048x1408 .bf16) : Vec F S1x512x1408 .bf16 := k4_pay1 x0 x1

set_option maxHeartbeats 2000000 in
/-- The body's run. -/
theorem run4 (c : Dev nD) (i : grid4.Coords) (arg3 : Memref sig .tc .vmem S2048x512 .bf16) (harg3 : arg3.IsWhole) (arg4 : Memref sig .tc .vmem S1x2048x1408 .bf16) (harg4 : arg4.IsWhole) (arg5 : Memref sig .tc .vmem S1x512x1408 .bf16) (harg5 : arg5.IsWhole)
    (x0 : Vec F S2048x512 .bf16) (x1 : Vec F S1x2048x1408 .bf16) (E : Set ℕ) (K : PUnit → sProp 𝕄) :
    iprop((owns (c : Thread nD τ) arg3 fullShare x0 ∗ owns (c : Thread nD τ) arg4 fullShare x1 ∗ (∃ d, owns (c : Thread nD τ) arg5 fullShare d))
        ∗ (iprop(owns (c : Thread nD τ) arg3 fullShare x0 ∗ owns (c : Thread nD τ) arg4 fullShare x1 ∗ owns (c : Thread nD τ) arg5 fullShare (res4_0 x0 x1)) -∗ K ⟨⟩))
      ⊢ wp frame (wpE (defs₀ (F := F)) Variants.none c none) E (cc4_ffn_dwin i arg3 harg3 arg4 harg4 arg5 harg5) K := by
  simp only [cc4_ffn_dwin_eq_skeleton]; unfold cc4_ffn_dwin_skel
  unfold owns
  iintro ⟨⟨⟨%f0, %hf0, H0⟩, ⟨%f1, %hf1, H1⟩, ⟨%d2, %f2, -, H2⟩⟩, Hk⟩
  obtain rfl := harg3.eq_unread hf0; obtain rfl := harg4.eq_unread hf1
  sl_exec
  sl_step
  iapply Hk
  isplitl [H0]
  · iapply (whole harg3 _); iexact H0
  isplitl [H1]
  · iapply (whole harg4 _); iexact H1
  iexists _; isplitr; swap; · iexact H2
  ipureintro
  exact (View.read_writes_full arg5.view _ _ _ _).trans (congr (congrArg k4_pay1 (ld_all arg3 harg3 x0 ![0, 0] inb_S2048x512_S2048x512_0_0)) (ld_all arg4 harg4 x1 ![0, 0, 0] inb_S1x2048x1408_S1x2048x1408_0_0_0))

variable (W : Dev nD → Valuation τ sig (Elt F))

/-- The block of input `w` at point `t`. -/
def in4 (c : Dev nD) (w : Fin cfg4.W) (t : Fin cfg4.N) : ((cfg4.win w).xblock (cfg4.grid.coords t)).Idx → Elt F (cfg4.win w).elt :=
  ((cfg4.win w).blk t).view.read (Elt F) (W c (Pipeline.arrRef spec4 w))
abbrev in4_0 (c : Dev nD) (t : Fin cfg4.N) : Vec F S2048x512 .bf16 := in4 W c 0 t
abbrev in4_1 (c : Dev nD) (t : Fin cfg4.N) : Vec F S1x2048x1408 .bf16 := in4 W c 1 t

/-- The call's proof data: entered with its arrays at `W c`, each point leaves the inputs at their blocks and the outputs at the body's results. -/
def dat4 (c : Dev nD) : Dat τ (Elt F) Unit ℕ (UR sig nD τ) ℕ cfg4 c where
  A w := W c (Pipeline.arrRef spec4 w)
  after w t := match w with
    | ⟨0, _⟩ => in4 W c 0 t
    | ⟨1, _⟩ => in4 W c 1 t
    | ⟨2, _⟩ => res4_0 (in4_0 W c t) (in4_1 W c t)
  Φ _ := Pipeline.scopedRest spec4 c
  q w := Pipeline.shareOf spec4 w
  owed _ := 0

theorem A4 (c : Dev nD) (w : Fin cfg4.W) : (dat4 W c).A w = W c (Pipeline.arrRef spec4 w) := by dsimp only [dat4]
theorem left4_0 (c : Dev nD) (t : Fin cfg4.N) : (dat4 W c).after 0 t = in4 W c 0 t := by dsimp only [dat4]
theorem left4_1 (c : Dev nD) (t : Fin cfg4.N) : (dat4 W c).after 1 t = in4 W c 1 t := by dsimp only [dat4]
theorem left4_2 (c : Dev nD) (t : Fin cfg4.N) : (dat4 W c).after 2 t = res4_0 (in4_0 W c t) (in4_1 W c t) := by dsimp only [dat4]
set_option maxHeartbeats 1600000 in
/-- The library's body obligation. -/
theorem obl4 (c : Dev nD) : BodyObligation (dat4 (F := F) W c) (defs₀ (F := F)) Variants.none () Set.univ := fun t => by
  rw [bigSep_W4, bigSep_W4, show defs₀ (F := F) .tc cfg4.body (cfg4.bodyArgs t (cfg4.slots t)) = bodyAt4 t from by unfold defs₀; rw [Defs.onTc_tc]]
  exact obligation (dat4 W c) (run4 c (grid4.coords t) _ _ _ _ _ _ (in4_0 W c t) (in4_1 W c t) Set.univ)
    (pair (got (found (dat4 W c) 0 rfl (fun _ => rfl) (fun _ _ _ => rfl) (left4_0 W c) (fun t _ => (left4_0 W c t).symm) (left4_0 W c t))) (pair (got (found (dat4 W c) 1 rfl (fun _ => rfl) (fun _ _ _ => rfl) (left4_1 W c) (fun t _ => (left4_1 W c t).symm) (left4_1 W c t))) anything))
    (pair (back (left4_0 W c t)) (pair (back (left4_1 W c t)) (back (left4_2 W c t)))) rfl rfl

end Cert.Kernel2Ideal.Hand

end
-- ==== Proof.Ffn5.lean ====
/-
  Call 5 of the feed-forward gradient, the gradient of the normalised input: a scratch buffer sums the products over the
  four pairs of column blocks, and the last of them writes it out.
-/
module

public import Idealize.ShloMosaic.Lib.WordCmp
public import proofs.«01_k».proof.Proof.FfnBase

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel2Ideal Cert.Kernel2Ideal.Gen

variable {F : FTy → Type} [FloatOps F]

local notation "𝕄" => MT nD τ sig Unit (Elt F) ℕ (UR sig nD τ) ℕ

theorem last5_iff (i : grid5.Coords) : k5_cond3 i = 1#1 ↔ (i 2).val = 3 := by
  have h : (i 2).val < 4 := (i 2).isLt
  simp only [k5_cond3]; word_cmp
/-- The two conditions the body tests besides, on its third coordinate. -/
def start5 (i : grid5.Coords) : BitVec 1 := Scalar.cmpi .ne (Scalar.extui (Scalar.cmpi .eq (BitVec.ofNat 32 (i 2).val) 0#32) : BitVec 32) 0#32
def goOn5 (i : grid5.Coords) : BitVec 1 := Scalar.cmpi .ne (Scalar.extui (Scalar.cmpi .sgt (BitVec.ofNat 32 (i 2).val) 0#32) : BitVec 32) 0#32
theorem start5_iff (i : grid5.Coords) : start5 i = 1#1 ↔ (i 2).val = 0 := by
  have h : (i 2).val < 4 := (i 2).isLt
  simp only [start5]; word_cmp
theorem goOn5_iff (i : grid5.Coords) : goOn5 i = 1#1 ↔ (i 2).val ≠ 0 := by
  have h : (i 2).val < 4 := (i 2).isLt
  simp only [goOn5]; word_cmp
theorem coord5 (t : Fin cfg5.N) : (grid5.coords t 2).val = t.val % 4 := by
  have e : (grid5.coords t 2).val = t.val / 1 % 4 := Pipeline.Grid.coords_val t 2 (by decide) rfl
  rw [e, Nat.div_one]

set_option maxHeartbeats 2000000 in
/-- The body's run at the first of the four pairs of column blocks. -/
theorem run5First (c : Dev nD) (i : grid5.Coords)
    (arg3 : Memref sig .tc .vmem S1x1024x1408 .bf16) (harg3 : arg3.IsWhole)
    (arg4 : Memref sig .tc .vmem S1x1024x1408 .bf16) (harg4 : arg4.IsWhole)
    (arg5 : Memref sig .tc .vmem S1x1024x1408 .bf16) (harg5 : arg5.IsWhole)
    (arg6 : Memref sig .tc .vmem S1x1024x1408 .bf16) (harg6 : arg6.IsWhole)
    (arg7 : Memref sig .tc .vmem S1024x1024 .f32) (harg7 : arg7.IsWhole)
    (arg8 : Memref sig .tc .vmem S1024x1024 .f32) (harg8 : arg8.IsWhole)
    (hc1 : start5 i = 1#1) (hc2 : ¬ goOn5 i = 1#1) (hc3 : ¬ k5_cond3 i = 1#1)
    (x0 x1 x2 x3 : Vec F S1x1024x1408 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg8 fullShare (k5_pay2 x0 x2 x1 x3)) -∗ K ⟨⟩))
      ⊢ wp frame (wpE (defs₀ (F := F)) Variants.none c none) E (cc5_ffn_dhn i arg3 harg3 arg4 harg4 arg5 harg5 arg6 harg6 arg7 harg7 arg8 harg8) K := by
  simp only [cc5_ffn_dhn_eq_skeleton]; unfold cc5_ffn_dhn_skel
  unfold start5 at hc1; unfold goOn5 at hc2
  unfold owns
  iintro ⟨⟨%f0, %hf0, H0⟩, ⟨%f1, %hf1, H1⟩, ⟨%f2, %hf2, H2⟩, ⟨%f3, %hf3, H3⟩, ⟨%d5, %f5, -, H5⟩, Hk⟩
  obtain rfl := harg3.eq_unread hf0; obtain rfl := harg4.eq_unread hf1; obtain rfl := harg5.eq_unread hf2; obtain rfl := harg6.eq_unread hf3
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr; swap; · iexact H5
  ipureintro
  exact (View.read_writes_full arg8.view _ _ _ _).trans (congr (congr (congr (congrArg k5_pay2 (ld_all arg3 harg3 x0 ![0, 0, 0] inb_S1x1024x1408_S1x1024x1408_0_0_0)) (ld_all arg5 harg5 x2 ![0, 0, 0] inb_S1x1024x1408_S1x1024x1408_0_0_0)) (ld_all arg4 harg4 x1 ![0, 0, 0] inb_S1x1024x1408_S1x1024x1408_0_0_0)) (ld_all arg6 harg6 x3 ![0, 0, 0] inb_S1x1024x1408_S1x1024x1408_0_0_0) :)

set_option maxHeartbeats 2000000 in
/-- The body's run at the second and third of the four pairs of column blocks. -/
theorem run5Mid (c : Dev nD) (i : grid5.Coords)
    (arg3 : Memref sig .tc .vmem S1x1024x1408 .bf16) (harg3 : arg3.IsWhole)
    (arg4 : Memref sig .tc .vmem S1x1024x1408 .bf16) (harg4 : arg4.IsWhole)
    (arg5 : Memref sig .tc .vmem S1x1024x1408 .bf16) (harg5 : arg5.IsWhole)
    (arg6 : Memref sig .tc .vmem S1x1024x1408 .bf16) (harg6 : arg6.IsWhole)
    (arg7 : Memref sig .tc .vmem S1024x1024 .f32) (harg7 : arg7.IsWhole)
    (arg8 : Memref sig .tc .vmem S1024x1024 .f32) (harg8 : arg8.IsWhole)
    (hc1 : ¬ start5 i = 1#1) (hc2 : goOn5 i = 1#1) (hc3 : ¬ k5_cond3 i = 1#1)
    (x0 x1 x2 x3 : Vec F S1x1024x1408 .bf16) (X : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg8 fullShare X
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg8 fullShare (k5_pay3 x0 x2 x1 x3 X)) -∗ K ⟨⟩))
      ⊢ wp frame (wpE (defs₀ (F := F)) Variants.none c none) E (cc5_ffn_dhn i arg3 harg3 arg4 harg4 arg5 harg5 arg6 harg6 arg7 harg7 arg8 harg8) K := by
  simp only [cc5_ffn_dhn_eq_skeleton]; unfold cc5_ffn_dhn_skel
  unfold start5 at hc1; unfold goOn5 at hc2
  unfold owns
  iintro ⟨⟨%f0, %hf0, H0⟩, ⟨%f1, %hf1, H1⟩, ⟨%f2, %hf2, H2⟩, ⟨%f3, %hf3, H3⟩, ⟨%f5, %hf5, H5⟩, Hk⟩
  obtain rfl := harg3.eq_unread hf0; obtain rfl := harg4.eq_unread hf1; obtain rfl := harg5.eq_unread hf2; obtain rfl := harg6.eq_unread hf3
  obtain rfl := harg8.eq_unread hf5
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr; swap; · iexact H5
  ipureintro
  exact (View.read_writes_full arg8.view _ _ _ _).trans (congr (congr (congr (congr (congrArg k5_pay3 (ld_all arg3 harg3 x0 ![0, 0, 0] inb_S1x1024x1408_S1x1024x1408_0_0_0)) (ld_all arg5 harg5 x2 ![0, 0, 0] inb_S1x1024x1408_S1x1024x1408_0_0_0)) (ld_all arg4 harg4 x1 ![0, 0, 0] inb_S1x1024x1408_S1x1024x1408_0_0_0)) (ld_all arg6 harg6 x3 ![0, 0, 0] inb_S1x1024x1408_S1x1024x1408_0_0_0)) (ld_all arg8 harg8 X ![0, 0] inb_S1024x1024_S1024x1024_0_0) :)

set_option maxHeartbeats 2000000 in
/-- The body's run at the last of the four pairs of column blocks. -/
theorem run5Last (c : Dev nD) (i : grid5.Coords)
    (arg3 : Memref sig .tc .vmem S1x1024x1408 .bf16) (harg3 : arg3.IsWhole)
    (arg4 : Memref sig .tc .vmem S1x1024x1408 .bf16) (harg4 : arg4.IsWhole)
    (arg5 : Memref sig .tc .vmem S1x1024x1408 .bf16) (harg5 : arg5.IsWhole)
    (arg6 : Memref sig .tc .vmem S1x1024x1408 .bf16) (harg6 : arg6.IsWhole)
    (arg7 : Memref sig .tc .vmem S1024x1024 .f32) (harg7 : arg7.IsWhole)
    (arg8 : Memref sig .tc .vmem S1024x1024 .f32) (harg8 : arg8.IsWhole)
    (hc1 : ¬ start5 i = 1#1) (hc2 : goOn5 i = 1#1) (hc3 : k5_cond3 i = 1#1)
    (x0 x1 x2 x3 : Vec F S1x1024x1408 .bf16) (X : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ owns (c : Thread nD τ) arg8 fullShare X
        ∗ (iprop(owns (c : Thread nD τ) arg3 fullShare x0 ∗ owns (c : Thread nD τ) arg4 fullShare x1 ∗ owns (c : Thread nD τ) arg5 fullShare x2 ∗ owns (c : Thread nD τ) arg6 fullShare x3
          ∗ owns (c : Thread nD τ) arg7 fullShare (k5_pay3 x0 x2 x1 x3 X) ∗ owns (c : Thread nD τ) arg8 fullShare (k5_pay3 x0 x2 x1 x3 X)) -∗ K ⟨⟩))
      ⊢ wp frame (wpE (defs₀ (F := F)) Variants.none c none) E (cc5_ffn_dhn i arg3 harg3 arg4 harg4 arg5 harg5 arg6 harg6 arg7 harg7 arg8 harg8) K := by
  simp only [cc5_ffn_dhn_eq_skeleton]; unfold cc5_ffn_dhn_skel
  unfold start5 at hc1; unfold goOn5 at hc2
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg3.eq_unread hf0; obtain rfl := harg4.eq_unread hf1; obtain rfl := harg5.eq_unread hf2; obtain rfl := harg6.eq_unread hf3
  obtain rfl := harg8.eq_unread hf5
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    refine (View.read_writes_full arg7.view _ _ _ _).trans ?_
    refine (View.readAt_full arg8.view _ _).trans ?_
    exact (View.read_writes_full arg8.view _ _ _ _).trans (congr (congr (congr (congr (congrArg k5_pay3 (ld_all arg3 harg3 x0 ![0, 0, 0] inb_S1x1024x1408_S1x1024x1408_0_0_0)) (ld_all arg5 harg5 x2 ![0, 0, 0] inb_S1x1024x1408_S1x1024x1408_0_0_0)) (ld_all arg4 harg4 x1 ![0, 0, 0] inb_S1x1024x1408_S1x1024x1408_0_0_0)) (ld_all arg6 harg6 x3 ![0, 0, 0] inb_S1x1024x1408_S1x1024x1408_0_0_0)) (ld_all arg8 harg8 X ![0, 0] inb_S1024x1024_S1024x1024_0_0) :)
  iexists _; isplitr; swap; · iexact H5
  ipureintro
  exact (View.read_writes_full arg8.view _ _ _ _).trans (congr (congr (congr (congr (congrArg k5_pay3 (ld_all arg3 harg3 x0 ![0, 0, 0] inb_S1x1024x1408_S1x1024x1408_0_0_0)) (ld_all arg5 harg5 x2 ![0, 0, 0] inb_S1x1024x1408_S1x1024x1408_0_0_0)) (ld_all arg4 harg4 x1 ![0, 0, 0] inb_S1x1024x1408_S1x1024x1408_0_0_0)) (ld_all arg6 harg6 x3 ![0, 0, 0] inb_S1x1024x1408_S1x1024x1408_0_0_0)) (ld_all arg8 harg8 X ![0, 0] inb_S1024x1024_S1024x1024_0_0) :)

variable (W : Dev nD → Valuation τ sig (Elt F))

/-- The block of input `w` at point `t`. -/
def in5 (c : Dev nD) (w : Fin cfg5.W) (t : Fin cfg5.N) : ((cfg5.win w).xblock (cfg5.grid.coords t)).Idx → Elt F (cfg5.win w).elt :=
  ((cfg5.win w).blk t).view.read (Elt F) (W c (Pipeline.arrRef spec5 w))
abbrev in5_0 (c : Dev nD) (t : Fin cfg5.N) : Vec F S1x1024x1408 .bf16 := in5 W c 0 t
abbrev in5_1 (c : Dev nD) (t : Fin cfg5.N) : Vec F S1x1024x1408 .bf16 := in5 W c 1 t
abbrev in5_2 (c : Dev nD) (t : Fin cfg5.N) : Vec F S1x1024x1408 .bf16 := in5 W c 2 t
abbrev in5_3 (c : Dev nD) (t : Fin cfg5.N) : Vec F S1x1024x1408 .bf16 := in5 W c 3 t

/-- The sum in the scratch buffer after point `n`: it starts anew at each first of four points. -/
def sum5 (c : Dev nD) : (n : ℕ) → n < cfg5.N → Vec F S1024x1024 .f32
  | 0, h => k5_pay2 (in5_0 W c ⟨0, h⟩) (in5_2 W c ⟨0, h⟩) (in5_1 W c ⟨0, h⟩) (in5_3 W c ⟨0, h⟩)
  | n + 1, h =>
    if (n + 1) % 4 = 0 then k5_pay2 (in5_0 W c ⟨n + 1, h⟩) (in5_2 W c ⟨n + 1, h⟩) (in5_1 W c ⟨n + 1, h⟩) (in5_3 W c ⟨n + 1, h⟩)
    else k5_pay3 (in5_0 W c ⟨n + 1, h⟩) (in5_2 W c ⟨n + 1, h⟩) (in5_1 W c ⟨n + 1, h⟩) (in5_3 W c ⟨n + 1, h⟩) (sum5 c n (Nat.lt_of_succ_lt h))
theorem sum5_first (c : Dev nD) (t : Fin cfg5.N) (h : t.val % 4 = 0) :
    sum5 W c t.val t.isLt = k5_pay2 (in5_0 W c t) (in5_2 W c t) (in5_1 W c t) (in5_3 W c t) := by
  obtain ⟨n, hn⟩ := t
  cases n with
  | zero => rfl
  | succ n => exact if_pos h
theorem sum5_later (c : Dev nD) (t : Fin cfg5.N) (h : t.val % 4 ≠ 0) :
    sum5 W c t.val t.isLt = k5_pay3 (in5_0 W c t) (in5_2 W c t) (in5_1 W c t) (in5_3 W c t) (sum5 W c (t.val - 1) (Nat.lt_of_le_of_lt (Nat.sub_le _ _) t.isLt)) := by
  obtain ⟨n, hn⟩ := t
  cases n with
  | zero => exact absurd rfl h
  | succ n => exact if_neg h

/-- The scratch buffer before point `n`: inside a run of four points it holds the sum so far. -/
def scr5 (c : Dev nD) (n : ℕ) : sProp 𝕄 :=
  iprop(∃ X : Vec F S1024x1024 .f32, ⌜∀ h : n - 1 < cfg5.N, n % 4 ≠ 0 → X = sum5 W c (n - 1) h⌝
    ∗ owns (c : Thread nD τ) (Memref.whole cc5_scratch0) fullShare X)

/-- The call's proof data: entered with its arrays at `W c`; each point leaves the inputs at their blocks; the output is written at each last of four points. -/
def dat5 (c : Dev nD) : Dat τ (Elt F) Unit ℕ (UR sig nD τ) ℕ cfg5 c where
  A w := W c (Pipeline.arrRef spec5 w)
  after w t := match w with
    | ⟨0, _⟩ => in5 W c 0 t
    | ⟨1, _⟩ => in5 W c 1 t
    | ⟨2, _⟩ => in5 W c 2 t
    | ⟨3, _⟩ => in5 W c 3 t
    | ⟨4, _⟩ => sum5 W c t.val t.isLt
  Φ n := iprop(scr5 W c n.val ∗ Pipeline.scopedRestBut spec5 c [cc5_scratch0])
  q w := Pipeline.shareOf spec5 w
  owed _ := 0

theorem A5 (c : Dev nD) (w : Fin cfg5.W) : (dat5 W c).A w = W c (Pipeline.arrRef spec5 w) := by dsimp only [dat5]
theorem left5_0 (c : Dev nD) (t : Fin cfg5.N) : (dat5 W c).after 0 t = in5 W c 0 t := by dsimp only [dat5]
theorem left5_1 (c : Dev nD) (t : Fin cfg5.N) : (dat5 W c).after 1 t = in5 W c 1 t := by dsimp only [dat5]
theorem left5_2 (c : Dev nD) (t : Fin cfg5.N) : (dat5 W c).after 2 t = in5 W c 2 t := by dsimp only [dat5]
theorem left5_3 (c : Dev nD) (t : Fin cfg5.N) : (dat5 W c).after 3 t = in5 W c 3 t := by dsimp only [dat5]
theorem left5_4 (c : Dev nD) (t : Fin cfg5.N) : (dat5 W c).after 4 t = sum5 W c t.val t.isLt := by dsimp only [dat5]
/-- The inputs' buffers hold their blocks at every point. -/
theorem found5_0 (c : Dev nD) (t : Fin cfg5.N) (d) : (dat5 W c).before 0 t d = in5 W c 0 t :=
  ((dat5 W c).before_in_eq_fetched 0 rfl (fun _ => rfl) (fun _ _ _ => rfl) (fun t => by rw [left5_0]; unfold Dat.blockOf in5; rw [A5]; try rfl) t d).trans
    (by unfold Dat.fetched Dat.blockOf in5; rw [A5]; try rfl)
theorem found5_1 (c : Dev nD) (t : Fin cfg5.N) (d) : (dat5 W c).before 1 t d = in5 W c 1 t :=
  ((dat5 W c).before_in_eq_fetched 1 rfl (fun _ => rfl) (fun _ _ _ => rfl) (fun t => by rw [left5_1]; unfold Dat.blockOf in5; rw [A5]; try rfl) t d).trans
    (by unfold Dat.fetched Dat.blockOf in5; rw [A5]; try rfl)
theorem found5_2 (c : Dev nD) (t : Fin cfg5.N) (d) : (dat5 W c).before 2 t d = in5 W c 2 t :=
  ((dat5 W c).before_in_eq_fetched 2 rfl (fun _ => rfl) (fun _ _ _ => rfl) (fun t => by rw [left5_2]; unfold Dat.blockOf in5; rw [A5]; try rfl) t d).trans
    (by unfold Dat.fetched Dat.blockOf in5; rw [A5]; try rfl)
theorem found5_3 (c : Dev nD) (t : Fin cfg5.N) (d) : (dat5 W c).before 3 t d = in5 W c 3 t :=
  ((dat5 W c).before_in_eq_fetched 3 rfl (fun _ => rfl) (fun _ _ _ => rfl) (fun t => by rw [left5_3]; unfold Dat.blockOf in5; rw [A5]; try rfl) t d).trans
    (by unfold Dat.fetched Dat.blockOf in5; rw [A5]; try rfl)

theorem state5 (c : Dev nD) (n) : (dat5 W c).Φ n = iprop(scr5 W c n.val ∗ Pipeline.scopedRestBut spec5 c [cc5_scratch0]) := by dsimp only [dat5]
/-- The call is entered and left with its scratch buffer at anything. -/
theorem enter5 (c : Dev nD) : (Pipeline.scopedRest spec5 c : sProp 𝕄) ⊢ (dat5 W c).Φ 0 := by
  rw [state5, scopedRest5_split]
  unfold scr5
  simp only [owns_whole]
  iintro ⟨⟨%f, Hf⟩, Hr⟩
  isplitl [Hf]
  · iexists f
    isplitr; · ipureintro; exact fun _ h => absurd rfl h
    iexact Hf
  iexact Hr
theorem leave5 (c : Dev nD) : (dat5 W c).Φ (Fin.last _) ⊢ (Pipeline.scopedRest spec5 c : sProp 𝕄) := by
  rw [state5, scopedRest5_split]
  unfold scr5
  simp only [owns_whole]
  iintro ⟨⟨%f, -, Hf⟩, Hr⟩
  isplitl [Hf]
  · iexists f
    iexact Hf
  iexact Hr

/-- What the body is called with at point `t`, and what it hands back. -/
def pre5 (c : Dev nD) (t : Fin cfg5.N) : sProp 𝕄 :=
  iprop((dat5 W c).Φ t.castSucc ∗ (dat5 W c).owesAt () t.castSucc
    ∗ (∃ d, owns (c : Thread nD τ) (st5_0 t) fullShare ((dat5 W c).before 0 t d))
    ∗ (∃ d, owns (c : Thread nD τ) (st5_1 t) fullShare ((dat5 W c).before 1 t d))
    ∗ (∃ d, owns (c : Thread nD τ) (st5_2 t) fullShare ((dat5 W c).before 2 t d))
    ∗ (∃ d, owns (c : Thread nD τ) (st5_3 t) fullShare ((dat5 W c).before 3 t d))
    ∗ (∃ d, owns (c : Thread nD τ) (st5_4 t) fullShare ((dat5 W c).before 4 t d)))
def post5 (c : Dev nD) (t : Fin cfg5.N) : sProp 𝕄 :=
  iprop((dat5 W c).Φ t.succ ∗ (dat5 W c).owesAt () t.succ ∗ (dat5 W c).leavesExact 0 t ∗ (dat5 W c).leavesExact 1 t ∗ (dat5 W c).leavesExact 2 t ∗ (dat5 W c).leavesExact 3 t ∗ (dat5 W c).leavesExact 4 t)

theorem live5 (w : Fin cfg5.W) (t : Fin cfg5.N) (h : w = 4 → t.val % 4 = 3) : cfg5.idle w (cfg5.grid.coords t) = false := by
  match w, h with
  | ⟨0, _⟩, _ => rfl
  | ⟨1, _⟩, _ => rfl
  | ⟨2, _⟩, _ => rfl
  | ⟨3, _⟩, _ => rfl
  | ⟨4, _⟩, h =>
    have e : k5_cond3 (grid5.coords t) = 1#1 := (last5_iff _).mpr ((coord5 t).trans (h rfl))
    exact (by rw [e]; rfl : (!(k5_cond3 (grid5.coords t) == 1#1)) = false)
theorem hands5 (c : Dev nD) (w : Fin cfg5.W) (t : Fin cfg5.N) (h : w = 4 → t.val % 4 = 3) :
    (dat5 W c).leavesExact w t = owns (c : Thread nD τ) ((cfg5.win w).stage (cfg5.slots t w)) fullShare ((dat5 W c).after w t) := by
  unfold Dat.leavesExact; rw [live5 w t h]
/-- Before the last of four points the output's buffer is handed back as it was found. -/
theorem keeps5 (c : Dev nD) (t : Fin cfg5.N) (h : t.val % 4 ≠ 3) :
    (dat5 W c).leavesExact 4 t = iprop(∃ d, owns (c : Thread nD τ) ((cfg5.win 4).stage (cfg5.slots t 4)) fullShare ((dat5 W c).before 4 t d)) := by
  refine (dat5 W c).leavesExact_idle 4 t ?_ (Bool.eq_false_iff.mpr fun hf => h ((flush5_4 t).mp hf))
  have e : ¬ k5_cond3 (grid5.coords t) = 1#1 := fun hh => h ((coord5 t).symm.trans ((last5_iff _).mp hh))
  exact (by rw [beq_eq_false_iff_ne.mpr e]; rfl : (!(k5_cond3 (grid5.coords t) == 1#1)) = true)

set_option maxHeartbeats 1600000 in
/-- The body at the first of four points. -/
theorem sound5First (c : Dev nD) (t : Fin cfg5.N) (hk : t.val % 4 = 0) :
    pre5 W c t ⊢ wp frame (wpE (defs₀ (F := F)) Variants.none c none) Set.univ (bodyAt5 t) (fun _ => post5 W c t) := by
  have hl : t.val % 4 ≠ 3 := by omega
  unfold pre5 post5 bodyAt5
  simp only [found5_0, found5_1, found5_2, found5_3]
  rw [state5, state5, show (dat5 W c).owesAt () t.succ = (dat5 W c).owesAt () t.castSucc from rfl]
  rw [hands5 W c 0 t (fun h => absurd h (by decide)), hands5 W c 1 t (fun h => absurd h (by decide)), hands5 W c 2 t (fun h => absurd h (by decide)), hands5 W c 3 t (fun h => absurd h (by decide)), keeps5 W c t hl, left5_0, left5_1, left5_2, left5_3]
  unfold scr5
  iintro ⟨⟨⟨%X, %hX, HX⟩, HΦ⟩, Ho, ⟨%d0, H0⟩, ⟨%d1, H1⟩, ⟨%d2, H2⟩, ⟨%d3, H3⟩, ⟨%d4, H4⟩⟩
  iapply (run5First c (grid5.coords t) _ _ _ _ _ _ _ _ (st5_4 t) (hstage5_4 ((cfg5.slots t 4).cast nbuf5_4)) _ _ ((start5_iff _).mpr ((coord5 t).trans hk)) (fun h => (goOn5_iff _).mp h ((coord5 t).trans hk)) (fun h => hl ((coord5 t).symm.trans ((last5_iff _).mp h))) (in5_0 W c t) (in5_1 W c t) (in5_2 W c t) (in5_3 W c t) Set.univ _)
  isplitl [H0]; · iexact H0
  isplitl [H1]; · iexact H1
  isplitl [H2]; · iexact H2
  isplitl [H3]; · iexact H3
  isplitl [HX]; · iexists _; iexact HX
  iintro ⟨H0, H1, H2, H3, HX⟩
  isplitl [HX HΦ]
  · isplitl [HX]
    · iexists _; isplitr; swap; · iexact HX
      ipureintro
      intro h h4
      exact (sum5_first W c t hk).symm
    iexact HΦ
  isplitl [Ho]; · iexact Ho
  isplitl [H0]; · iexact H0
  isplitl [H1]; · iexact H1
  isplitl [H2]; · iexact H2
  isplitl [H3]; · iexact H3
  iexists _; iexact H4

set_option maxHeartbeats 1600000 in
/-- The body at the second and the third of four points. -/
theorem sound5Mid (c : Dev nD) (t : Fin cfg5.N) (hk : t.val % 4 ≠ 0) (hl : t.val % 4 ≠ 3) :
    pre5 W c t ⊢ wp frame (wpE (defs₀ (F := F)) Variants.none c none) Set.univ (bodyAt5 t) (fun _ => post5 W c t) := by
  unfold pre5 post5 bodyAt5
  simp only [found5_0, found5_1, found5_2, found5_3]
  rw [state5, state5, show (dat5 W c).owesAt () t.succ = (dat5 W c).owesAt () t.castSucc from rfl]
  rw [hands5 W c 0 t (fun h => absurd h (by decide)), hands5 W c 1 t (fun h => absurd h (by decide)), hands5 W c 2 t (fun h => absurd h (by decide)), hands5 W c 3 t (fun h => absurd h (by decide)), keeps5 W c t hl, left5_0, left5_1, left5_2, left5_3]
  unfold scr5
  iintro ⟨⟨⟨%X, %hX, HX⟩, HΦ⟩, Ho, ⟨%d0, H0⟩, ⟨%d1, H1⟩, ⟨%d2, H2⟩, ⟨%d3, H3⟩, ⟨%d4, H4⟩⟩
  have hX' := hX (Nat.lt_of_le_of_lt (Nat.sub_le _ _) t.isLt) hk
  subst hX'
  iapply (run5Mid c (grid5.coords t) _ _ _ _ _ _ _ _ (st5_4 t) (hstage5_4 ((cfg5.slots t 4).cast nbuf5_4)) _ _ (fun h => hk ((coord5 t).symm.trans ((start5_iff _).mp h))) ((goOn5_iff _).mpr (fun h => hk ((coord5 t).symm.trans h))) (fun h => hl ((coord5 t).symm.trans ((last5_iff _).mp h))) (in5_0 W c t) (in5_1 W c t) (in5_2 W c t) (in5_3 W c t) _ Set.univ _)
  isplitl [H0]; · iexact H0
  isplitl [H1]; · iexact H1
  isplitl [H2]; · iexact H2
  isplitl [H3]; · iexact H3
  isplitl [HX]; · iexact HX
  iintro ⟨H0, H1, H2, H3, HX⟩
  isplitl [HX HΦ]
  · isplitl [HX]
    · iexists _; isplitr; swap; · iexact HX
      ipureintro
      intro h h4
      exact (sum5_later W c t hk).symm
    iexact HΦ
  isplitl [Ho]; · iexact Ho
  isplitl [H0]; · iexact H0
  isplitl [H1]; · iexact H1
  isplitl [H2]; · iexact H2
  isplitl [H3]; · iexact H3
  iexists _; iexact H4

set_option maxHeartbeats 1600000 in
/-- The body at the last of four points. -/
theorem sound5Last (c : Dev nD) (t : Fin cfg5.N) (hl : t.val % 4 = 3) :
    pre5 W c t ⊢ wp frame (wpE (defs₀ (F := F)) Variants.none c none) Set.univ (bodyAt5 t) (fun _ => post5 W c t) := by
  have hk : t.val % 4 ≠ 0 := by omega
  unfold pre5 post5 bodyAt5
  simp only [found5_0, found5_1, found5_2, found5_3]
  rw [state5, state5, show (dat5 W c).owesAt () t.succ = (dat5 W c).owesAt () t.castSucc from rfl]
  rw [hands5 W c 0 t (fun h => absurd h (by decide)), hands5 W c 1 t (fun h => absurd h (by decide)), hands5 W c 2 t (fun h => absurd h (by decide)), hands5 W c 3 t (fun h => absurd h (by decide)), hands5 W c 4 t (fun _ => hl), left5_0, left5_1, left5_2, left5_3, left5_4, sum5_later W c t hk]
  unfold scr5
  iintro ⟨⟨⟨%X, %hX, HX⟩, HΦ⟩, Ho, ⟨%d0, H0⟩, ⟨%d1, H1⟩, ⟨%d2, H2⟩, ⟨%d3, H3⟩, ⟨%d4, H4⟩⟩
  have hX' := hX (Nat.lt_of_le_of_lt (Nat.sub_le _ _) t.isLt) hk
  subst hX'
  iapply (run5Last c (grid5.coords t) _ _ _ _ _ _ _ _ _ _ _ _ (fun h => hk ((coord5 t).symm.trans ((start5_iff _).mp h))) ((goOn5_iff _).mpr (fun h => hk ((coord5 t).symm.trans h))) ((last5_iff _).mpr ((coord5 t).trans hl)) (in5_0 W c t) (in5_1 W c t) (in5_2 W c t) (in5_3 W c t) _ Set.univ _)
  isplitl [H0]; · iexact H0
  isplitl [H1]; · iexact H1
  isplitl [H2]; · iexact H2
  isplitl [H3]; · iexact H3
  isplitl [H4]; · iexists _; iexact H4
  isplitl [HX]; · iexact HX
  iintro ⟨H0, H1, H2, H3, H4, HX⟩
  isplitl [HX HΦ]
  · isplitl [HX]
    · iexists _; isplitr; swap; · iexact HX
      ipureintro
      intro h h4
      exact (sum5_later W c t hk).symm
    iexact HΦ
  isplitl [Ho]; · iexact Ho
  isplitl [H0]; · iexact H0
  isplitl [H1]; · iexact H1
  isplitl [H2]; · iexact H2
  isplitl [H3]; · iexact H3
  iexact H4

theorem row5 (t : Fin cfg5.N) : defs₀ (F := F) .tc cfg5.body (cfg5.bodyArgs t (cfg5.slots t)) = bodyAt5 t := by
  unfold defs₀; rw [Defs.onTc_tc]

/-- The library's body obligation. -/
theorem obl5 (c : Dev nD) : BodyObligation (dat5 (F := F) W c) (defs₀ (F := F)) Variants.none () Set.univ := fun t => by
  rw [bigSep_W5, bigSep_W5, row5]
  by_cases hk : t.val % 4 = 0
  · exact triple_restated (sound5First W c t hk) rfl .rfl fun _ => .rfl
  by_cases hl : t.val % 4 = 3
  · exact triple_restated (sound5Last W c t hl) rfl .rfl fun _ => .rfl
  · exact triple_restated (sound5Mid W c t hk hl) rfl .rfl fun _ => .rfl

end Cert.Kernel2Ideal.Hand

end
-- ==== Proof.Ffn6.lean ====
/-
  Call 6 of the feed-forward gradient, the gradient of the normalisation: the blocks of the input's gradient, and the
  gain's gradient summed over the eight blocks of rows.
-/
module

public import Idealize.ShloMosaic.Lib.WordCmp
public import proofs.«01_k».proof.Proof.FfnBase

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel2Ideal Cert.Kernel2Ideal.Gen

variable {F : FTy → Type} [FloatOps F]

local notation "𝕄" => MT nD τ sig Unit (Elt F) ℕ (UR sig nD τ) ℕ

/-- The input's gradient in a block of rows, from its blocks of the input, of the gradient of the normalised input and of the residual's gradient, and the gain. -/
def res6_0 (x0 : Vec F S256x2048 .f32) (x1 : Vec F S256x2048 .f32) (x2 : Vec F S256x2048 .f32) (x3 : Vec F S1x2048 .f32) : Vec F S256x2048 .f32 := k6_pay7 x0 x3 x1 x2
/-- The same cast to bf16. -/
def res6_1 (x0 : Vec F S256x2048 .f32) (x1 : Vec F S256x2048 .f32) (x2 : Vec F S256x2048 .f32) (x3 : Vec F S1x2048 .f32) : Vec F S256x2048 .bf16 := k6_pay1 (k6_pay7 x0 x3 x1 x2)

set_option maxHeartbeats 2000000 in
/-- The body's run at the first block of rows. -/
theorem run6First (c : Dev nD) (i : grid6.Coords)
    (arg1 : Memref sig .tc .vmem S256x2048 .f32) (harg1 : arg1.IsWhole)
    (arg2 : Memref sig .tc .vmem S256x2048 .f32) (harg2 : arg2.IsWhole)
    (arg3 : Memref sig .tc .vmem S256x2048 .f32) (harg3 : arg3.IsWhole)
    (arg4 : Memref sig .tc .vmem S1x2048 .f32) (harg4 : arg4.IsWhole)
    (arg5 : Memref sig .tc .vmem S256x2048 .f32) (harg5 : arg5.IsWhole)
    (arg6 : Memref sig .tc .vmem S256x2048 .bf16) (harg6 : arg6.IsWhole)
    (arg7 : Memref sig .tc .vmem S1x2048 .f32) (harg7 : arg7.IsWhole)
    (hc1 : k6_cond1 i = 1#1) (hc2 : ¬ k6_cond2 i = 1#1)
    (x0 : Vec F S256x2048 .f32) (x1 : Vec F S256x2048 .f32) (x2 : Vec F S256x2048 .f32) (x3 : Vec F S1x2048 .f32) (E : Set ℕ) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d))
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (res6_0 x0 x1 x2 x3) ∗ owns (c : Thread nD τ) arg6 fullShare (res6_1 x0 x1 x2 x3) ∗ owns (c : Thread nD τ) arg7 fullShare (k6_pay6 x0 x1)) -∗ K ⟨⟩))
      ⊢ wp frame (wpE (defs₀ (F := F)) Variants.none c none) E (cc6_ffn_dnorm i arg1 harg1 arg2 harg2 arg3 harg3 arg4 harg4 arg5 harg5 arg6 harg6 arg7 harg7) K := by
  simp only [cc6_ffn_dnorm_eq_skeleton]; unfold cc6_ffn_dnorm_skel
  simp only [k6_part1_eq_skeleton]; unfold k6_part1_skel
  unfold owns
  iintro ⟨⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩⟩, Hk⟩
  obtain rfl := harg1.eq_unread hf0; obtain rfl := harg2.eq_unread hf1; obtain rfl := harg3.eq_unread hf2; obtain rfl := harg4.eq_unread hf3
  sl_exec (disch := first | sl_exact hc1 | sl_exact hc2)
  sl_step
  iapply Hk
  isplitl [H0]
  · iapply (whole harg1 _); iexact H0
  isplitl [H1]
  · iapply (whole harg2 _); iexact H1
  isplitl [H2]
  · iapply (whole harg3 _); iexact H2
  isplitl [H3]
  · iapply (whole harg4 _); iexact H3
  isplitl [H4]
  · iexists _; isplitr; swap; · iexact H4
    ipureintro
    exact (View.read_writes_full arg5.view _ _ _ _).trans (congr (congr (congr (congrArg k6_pay7 (ld_all arg1 harg1 x0 ![0, 0] inb_S256x2048_S256x2048_0_0)) (ld_all arg4 harg4 x3 ![0, 0] inb_S1x2048_S1x2048_0_0)) (ld_all arg2 harg2 x1 ![0, 0] inb_S256x2048_S256x2048_0_0)) (ld_all arg3 harg3 x2 ![0, 0] inb_S256x2048_S256x2048_0_0))
  isplitl [H5]
  · iexists _; isplitr; swap; · iexact H5
    ipureintro
    exact (View.read_writes_full arg6.view _ _ _ _).trans (congrArg k6_pay1 (congr (congr (congr (congrArg k6_pay7 (ld_all arg1 harg1 x0 ![0, 0] inb_S256x2048_S256x2048_0_0)) (ld_all arg4 harg4 x3 ![0, 0] inb_S1x2048_S1x2048_0_0)) (ld_all arg2 harg2 x1 ![0, 0] inb_S256x2048_S256x2048_0_0)) (ld_all arg3 harg3 x2 ![0, 0] inb_S256x2048_S256x2048_0_0)))
  iexists _; isplitr; swap; · iexact H6
  ipureintro
  exact (View.read_writes_full arg7.view _ _ _ _).trans (congr (congrArg k6_pay6 (ld_all arg1 harg1 x0 ![0, 0] inb_S256x2048_S256x2048_0_0)) (ld_all arg2 harg2 x1 ![0, 0] inb_S256x2048_S256x2048_0_0))

set_option maxHeartbeats 2000000 in
/-- The body's run at a later block of rows. -/
theorem run6Later (c : Dev nD) (i : grid6.Coords)
    (arg1 : Memref sig .tc .vmem S256x2048 .f32) (harg1 : arg1.IsWhole)
    (arg2 : Memref sig .tc .vmem S256x2048 .f32) (harg2 : arg2.IsWhole)
    (arg3 : Memref sig .tc .vmem S256x2048 .f32) (harg3 : arg3.IsWhole)
    (arg4 : Memref sig .tc .vmem S1x2048 .f32) (harg4 : arg4.IsWhole)
    (arg5 : Memref sig .tc .vmem S256x2048 .f32) (harg5 : arg5.IsWhole)
    (arg6 : Memref sig .tc .vmem S256x2048 .bf16) (harg6 : arg6.IsWhole)
    (arg7 : Memref sig .tc .vmem S1x2048 .f32) (harg7 : arg7.IsWhole)
    (hc1 : ¬ k6_cond1 i = 1#1) (hc2 : k6_cond2 i = 1#1)
    (x0 : Vec F S256x2048 .f32) (x1 : Vec F S256x2048 .f32) (x2 : Vec F S256x2048 .f32) (x3 : Vec F S1x2048 .f32) (X : Vec F S1x2048 .f32) (E : Set ℕ) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ owns (c : Thread nD τ) arg7 fullShare X)
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (res6_0 x0 x1 x2 x3) ∗ owns (c : Thread nD τ) arg6 fullShare (res6_1 x0 x1 x2 x3) ∗ owns (c : Thread nD τ) arg7 fullShare (k6_pay2 (k6_pay6 x0 x1) X)) -∗ K ⟨⟩))
      ⊢ wp frame (wpE (defs₀ (F := F)) Variants.none c none) E (cc6_ffn_dnorm i arg1 harg1 arg2 harg2 arg3 harg3 arg4 harg4 arg5 harg5 arg6 harg6 arg7 harg7) K := by
  simp only [cc6_ffn_dnorm_eq_skeleton]; unfold cc6_ffn_dnorm_skel
  simp only [k6_part1_eq_skeleton]; unfold k6_part1_skel
  unfold owns
  iintro ⟨⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩⟩, Hk⟩
  obtain rfl := harg1.eq_unread hf0; obtain rfl := harg2.eq_unread hf1; obtain rfl := harg3.eq_unread hf2; obtain rfl := harg4.eq_unread hf3
  obtain rfl := harg7.eq_unread hf6
  sl_exec (disch := first | sl_exact hc1 | sl_exact hc2)
  sl_step
  iapply Hk
  isplitl [H0]
  · iapply (whole harg1 _); iexact H0
  isplitl [H1]
  · iapply (whole harg2 _); iexact H1
  isplitl [H2]
  · iapply (whole harg3 _); iexact H2
  isplitl [H3]
  · iapply (whole harg4 _); iexact H3
  isplitl [H4]
  · iexists _; isplitr; swap; · iexact H4
    ipureintro
    exact (View.read_writes_full arg5.view _ _ _ _).trans (congr (congr (congr (congrArg k6_pay7 (ld_all arg1 harg1 x0 ![0, 0] inb_S256x2048_S256x2048_0_0)) (ld_all arg4 harg4 x3 ![0, 0] inb_S1x2048_S1x2048_0_0)) (ld_all arg2 harg2 x1 ![0, 0] inb_S256x2048_S256x2048_0_0)) (ld_all arg3 harg3 x2 ![0, 0] inb_S256x2048_S256x2048_0_0))
  isplitl [H5]
  · iexists _; isplitr; swap; · iexact H5
    ipureintro
    exact (View.read_writes_full arg6.view _ _ _ _).trans (congrArg k6_pay1 (congr (congr (congr (congrArg k6_pay7 (ld_all arg1 harg1 x0 ![0, 0] inb_S256x2048_S256x2048_0_0)) (ld_all arg4 harg4 x3 ![0, 0] inb_S1x2048_S1x2048_0_0)) (ld_all arg2 harg2 x1 ![0, 0] inb_S256x2048_S256x2048_0_0)) (ld_all arg3 harg3 x2 ![0, 0] inb_S256x2048_S256x2048_0_0)))
  iexists _; isplitr; swap; · iexact H6
  ipureintro
  exact (View.read_writes_full arg7.view _ _ _ _).trans (congr (congrArg k6_pay2 (congr (congrArg k6_pay6 (ld_all arg1 harg1 x0 ![0, 0] inb_S256x2048_S256x2048_0_0)) (ld_all arg2 harg2 x1 ![0, 0] inb_S256x2048_S256x2048_0_0))) (ld_all arg7 harg7 X ![0, 0] inb_S1x2048_S1x2048_0_0))

theorem first6_iff (i : grid6.Coords) : k6_cond1 i = 1#1 ↔ (i 0).val = 0 := by
  have h : (i 0).val < 8 := (i 0).isLt
  simp only [k6_cond1]; word_cmp
theorem later6_iff (i : grid6.Coords) : k6_cond2 i = 1#1 ↔ (i 0).val ≠ 0 := by
  have h : (i 0).val < 8 := (i 0).isLt
  simp only [k6_cond2]; word_cmp
theorem coord6 (t : Fin cfg6.N) : (grid6.coords t 0).val = t.val := by
  have ht : t.val < 8 := Nat.lt_of_lt_of_eq t.isLt N_6
  have e : (grid6.coords t 0).val = t.val / 1 % 8 := Pipeline.Grid.coords_val t 0 (by decide) rfl
  rw [e]; omega
/-- The gain's gradient is stored at every point, so no window is ever idle. -/
theorem live6 (w : Fin cfg6.W) (i : grid6.Coords) : cfg6.idle w i = false := by
  have h6 : (!(k6_cond1 i == 1#1) && !(k6_cond2 i == 1#1)) = false := by
    by_cases h : (i 0).val = 0
    · rw [(first6_iff i).mpr h]; simp
    · rw [(later6_iff i).mpr h]; simp
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => exact h6

variable (W : Dev nD → Valuation τ sig (Elt F))

/-- The block of input `w` at point `t`. -/
def in6 (c : Dev nD) (w : Fin cfg6.W) (t : Fin cfg6.N) : ((cfg6.win w).xblock (cfg6.grid.coords t)).Idx → Elt F (cfg6.win w).elt :=
  ((cfg6.win w).blk t).view.read (Elt F) (W c (Pipeline.arrRef spec6 w))
abbrev in6_0 (c : Dev nD) (t : Fin cfg6.N) : Vec F S256x2048 .f32 := in6 W c 0 t
abbrev in6_1 (c : Dev nD) (t : Fin cfg6.N) : Vec F S256x2048 .f32 := in6 W c 1 t
abbrev in6_2 (c : Dev nD) (t : Fin cfg6.N) : Vec F S256x2048 .f32 := in6 W c 2 t
abbrev in6_3 (c : Dev nD) (t : Fin cfg6.N) : Vec F S1x2048 .f32 := in6 W c 3 t

/-- The gain's gradient after the blocks up to number `n`. -/
def sum6 (c : Dev nD) : (n : ℕ) → n < cfg6.N → Vec F S1x2048 .f32
  | 0, h => k6_pay6 (in6_0 W c ⟨0, h⟩) (in6_1 W c ⟨0, h⟩)
  | n + 1, h => k6_pay2 (k6_pay6 (in6_0 W c ⟨n + 1, h⟩) (in6_1 W c ⟨n + 1, h⟩)) (sum6 c n (Nat.lt_of_succ_lt h))
theorem sum6_first (c : Dev nD) (t : Fin cfg6.N) (h : t.val = 0) : sum6 W c t.val t.isLt = k6_pay6 (in6_0 W c t) (in6_1 W c t) := by
  obtain ⟨n, hn⟩ := t
  cases n with
  | zero => rfl
  | succ n => exact absurd h (Nat.succ_ne_zero n)
theorem sum6_later (c : Dev nD) (t : Fin cfg6.N) (h : t.val ≠ 0) :
    sum6 W c t.val t.isLt = k6_pay2 (k6_pay6 (in6_0 W c t) (in6_1 W c t)) (sum6 W c (t.val - 1) (Nat.lt_of_le_of_lt (Nat.sub_le _ _) t.isLt)) := by
  obtain ⟨n, hn⟩ := t
  cases n with
  | zero => exact absurd rfl h
  | succ n => rfl

/-- The call's proof data: entered with its arrays at `W c`; each point leaves the inputs at their blocks, the two blocks of the input's gradient, and the gain's gradient summed so far. -/
def dat6 (c : Dev nD) : Dat τ (Elt F) Unit ℕ (UR sig nD τ) ℕ cfg6 c where
  A w := W c (Pipeline.arrRef spec6 w)
  after w t := match w with
    | ⟨0, _⟩ => in6 W c 0 t
    | ⟨1, _⟩ => in6 W c 1 t
    | ⟨2, _⟩ => in6 W c 2 t
    | ⟨3, _⟩ => in6 W c 3 t
    | ⟨4, _⟩ => res6_0 (in6_0 W c t) (in6_1 W c t) (in6_2 W c t) (in6_3 W c t)
    | ⟨5, _⟩ => res6_1 (in6_0 W c t) (in6_1 W c t) (in6_2 W c t) (in6_3 W c t)
    | ⟨6, _⟩ => sum6 W c t.val t.isLt
  Φ _ := Pipeline.scopedRest spec6 c
  q w := Pipeline.shareOf spec6 w
  owed _ := 0

theorem A6 (c : Dev nD) (w : Fin cfg6.W) : (dat6 W c).A w = W c (Pipeline.arrRef spec6 w) := by dsimp only [dat6]
theorem left6_0 (c : Dev nD) (t : Fin cfg6.N) : (dat6 W c).after 0 t = in6 W c 0 t := by dsimp only [dat6]
theorem left6_1 (c : Dev nD) (t : Fin cfg6.N) : (dat6 W c).after 1 t = in6 W c 1 t := by dsimp only [dat6]
theorem left6_2 (c : Dev nD) (t : Fin cfg6.N) : (dat6 W c).after 2 t = in6 W c 2 t := by dsimp only [dat6]
theorem left6_3 (c : Dev nD) (t : Fin cfg6.N) : (dat6 W c).after 3 t = in6 W c 3 t := by dsimp only [dat6]
theorem left6_4 (c : Dev nD) (t : Fin cfg6.N) : (dat6 W c).after 4 t = res6_0 (in6_0 W c t) (in6_1 W c t) (in6_2 W c t) (in6_3 W c t) := by dsimp only [dat6]
theorem left6_5 (c : Dev nD) (t : Fin cfg6.N) : (dat6 W c).after 5 t = res6_1 (in6_0 W c t) (in6_1 W c t) (in6_2 W c t) (in6_3 W c t) := by dsimp only [dat6]
theorem left6_6 (c : Dev nD) (t : Fin cfg6.N) : (dat6 W c).after 6 t = sum6 W c t.val t.isLt := by dsimp only [dat6]
/-- The inputs' buffers hold their blocks at every point. -/
theorem found6_0 (c : Dev nD) (t : Fin cfg6.N) (d) : (dat6 W c).before 0 t d = in6 W c 0 t :=
  found (dat6 W c) 0 rfl (fun _ => rfl) (fun _ _ _ => rfl) (left6_0 W c) (fun t _ => (left6_0 W c t).symm) (left6_0 W c t) d
theorem found6_1 (c : Dev nD) (t : Fin cfg6.N) (d) : (dat6 W c).before 1 t d = in6 W c 1 t :=
  found (dat6 W c) 1 rfl (fun _ => rfl) (fun _ _ _ => rfl) (left6_1 W c) (fun t _ => (left6_1 W c t).symm) (left6_1 W c t) d
theorem found6_2 (c : Dev nD) (t : Fin cfg6.N) (d) : (dat6 W c).before 2 t d = in6 W c 2 t :=
  found (dat6 W c) 2 rfl (fun _ => rfl) (fun _ _ _ => rfl) (left6_2 W c) (fun t _ => (left6_2 W c t).symm) (left6_2 W c t) d
theorem found6_3 (c : Dev nD) (t : Fin cfg6.N) (d) : (dat6 W c).before 3 t d = in6 W c 3 t :=
  found (dat6 W c) 3 rfl (fun _ => rfl) (fun _ _ _ => rfl) (left6_3 W c) (fun t _ => (left6_3 W c t).symm) (left6_3 W c t) d
/-- The gain's gradient's buffer holds, at a later point, what the point before left. -/
theorem found6_6 (c : Dev nD) (t : Fin cfg6.N) (h0 : t.val ≠ 0) (d) :
    (dat6 W c).before 6 t d = sum6 W c (t.val - 1) (Nat.lt_of_le_of_lt (Nat.sub_le _ _) t.isLt) :=
  ((dat6 W c).before_out_kept 6 rfl t h0
    (Bool.eq_false_iff.mpr fun hf => by
      have := (flush6_6 _).mp hf
      have ht : t.val < 8 := Nat.lt_of_lt_of_eq t.isLt N_6
      simp only at this; omega) (live6 6) (fun _ _ => rfl) d).trans (left6_6 W c _)

theorem hands6 (c : Dev nD) (w : Fin cfg6.W) (t : Fin cfg6.N) :
    (dat6 W c).leavesExact w t = owns (c : Thread nD τ) ((cfg6.win w).stage (cfg6.slots t w)) fullShare ((dat6 W c).after w t) := by
  unfold Dat.leavesExact; rw [live6 w (cfg6.grid.coords t)]

set_option maxHeartbeats 1600000 in
/-- The library's body obligation. -/
theorem obl6 (c : Dev nD) : BodyObligation (dat6 (F := F) W c) (defs₀ (F := F)) Variants.none () Set.univ := fun t => by
  rw [bigSep_W6, bigSep_W6, show defs₀ (F := F) .tc cfg6.body (cfg6.bodyArgs t (cfg6.slots t)) = bodyAt6 t from by unfold defs₀; rw [Defs.onTc_tc]]
  by_cases hk : t.val = 0
  · exact obligation (dat6 W c) (run6First c (grid6.coords t) _ _ _ _ _ _ _ _ _ _ _ _ _ _ ((first6_iff _).mpr ((coord6 t).trans hk)) (fun h => (later6_iff _).mp h ((coord6 t).trans hk)) (in6_0 W c t) (in6_1 W c t) (in6_2 W c t) (in6_3 W c t) Set.univ)
      (pair (got (found6_0 W c t)) (pair (got (found6_1 W c t)) (pair (got (found6_2 W c t)) (pair (got (found6_3 W c t)) (pair anything (pair anything anything))))))
      (pair (handed (hands6 W c 0 t) (left6_0 W c t)) (pair (handed (hands6 W c 1 t) (left6_1 W c t)) (pair (handed (hands6 W c 2 t) (left6_2 W c t)) (pair (handed (hands6 W c 3 t) (left6_3 W c t)) (pair (handed (hands6 W c 4 t) (left6_4 W c t)) (pair (handed (hands6 W c 5 t) (left6_5 W c t)) (handed (hands6 W c 6 t) ((left6_6 W c t).trans (sum6_first W c t hk))))))))) rfl rfl
  · exact obligation (dat6 W c) (run6Later c (grid6.coords t) _ _ _ _ _ _ _ _ _ _ _ _ _ _ (fun h => hk ((coord6 t).symm.trans ((first6_iff _).mp h))) ((later6_iff _).mpr (fun h => hk ((coord6 t).symm.trans h))) (in6_0 W c t) (in6_1 W c t) (in6_2 W c t) (in6_3 W c t) _ Set.univ)
      (pair (got (found6_0 W c t)) (pair (got (found6_1 W c t)) (pair (got (found6_2 W c t)) (pair (got (found6_3 W c t)) (pair anything (pair anything (got (found6_6 W c t hk))))))))
      (pair (handed (hands6 W c 0 t) (left6_0 W c t)) (pair (handed (hands6 W c 1 t) (left6_1 W c t)) (pair (handed (hands6 W c 2 t) (left6_2 W c t)) (pair (handed (hands6 W c 3 t) (left6_3 W c t)) (pair (handed (hands6 W c 4 t) (left6_4 W c t)) (pair (handed (hands6 W c 5 t) (left6_5 W c t)) (handed (hands6 W c 6 t) ((left6_6 W c t).trans (sum6_later W c t hk))))))))) rfl rfl

end Cert.Kernel2Ideal.Hand

end
-- ==== Proof.Ffn7.lean ====
/-
  Call 7 of the feed-forward gradient, the second product of the forward pass and the sum with the block's input: its body's run, its proof data, its triple at every point.
-/
module

public import proofs.«01_k».proof.Proof.FfnBase

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel2Ideal Cert.Kernel2Ideal.Gen

variable {F : FTy → Type} [FloatOps F]

local notation "𝕄" => MT nD τ sig Unit (Elt F) ℕ (UR sig nD τ) ℕ

/-- What the body leaves in its output number 0, from its input blocks. -/
def res7_0 (x0 : Vec F S1024x5632 .bf16) (x1 : Vec F S5632x512 .bf16) (x2 : Vec F S1024x512 .f32) : Vec F S1024x512 .f32 := k7_pay1 x0 x1 x2

set_option maxHeartbeats 2000000 in
/-- The body's run. -/
theorem run7 (c : Dev nD) (i : grid7.Coords) (arg3 : Memref sig .tc .vmem S1024x5632 .bf16) (harg3 : arg3.IsWhole) (arg4 : Memref sig .tc .vmem S5632x512 .bf16) (harg4 : arg4.IsWhole) (arg5 : Memref sig .tc .vmem S1024x512 .f32) (harg5 : arg5.IsWhole) (arg6 : Memref sig .tc .vmem S1024x512 .f32) (harg6 : arg6.IsWhole)
    (x0 : Vec F S1024x5632 .bf16) (x1 : Vec F S5632x512 .bf16) (x2 : Vec F S1024x512 .f32) (E : Set ℕ) (K : PUnit → sProp 𝕄) :
    iprop((owns (c : Thread nD τ) arg3 fullShare x0 ∗ owns (c : Thread nD τ) arg4 fullShare x1 ∗ owns (c : Thread nD τ) arg5 fullShare x2 ∗ (∃ d, owns (c : Thread nD τ) arg6 fullShare d))
        ∗ (iprop(owns (c : Thread nD τ) arg3 fullShare x0 ∗ owns (c : Thread nD τ) arg4 fullShare x1 ∗ owns (c : Thread nD τ) arg5 fullShare x2 ∗ owns (c : Thread nD τ) arg6 fullShare (res7_0 x0 x1 x2)) -∗ K ⟨⟩))
      ⊢ wp frame (wpE (defs₀ (F := F)) Variants.none c none) E (cc7_ffn_out i arg3 harg3 arg4 harg4 arg5 harg5 arg6 harg6) K := by
  simp only [cc7_ffn_out_eq_skeleton]; unfold cc7_ffn_out_skel
  unfold owns
  iintro ⟨⟨⟨%f0, %hf0, H0⟩, ⟨%f1, %hf1, H1⟩, ⟨%f2, %hf2, H2⟩, ⟨%d3, %f3, -, H3⟩⟩, Hk⟩
  obtain rfl := harg3.eq_unread hf0; obtain rfl := harg4.eq_unread hf1; obtain rfl := harg5.eq_unread hf2
  sl_exec
  sl_step
  iapply Hk
  isplitl [H0]
  · iapply (whole harg3 _); iexact H0
  isplitl [H1]
  · iapply (whole harg4 _); iexact H1
  isplitl [H2]
  · iapply (whole harg5 _); iexact H2
  iexists _; isplitr; swap; · iexact H3
  ipureintro
  exact (View.read_writes_full arg6.view _ _ _ _).trans (congr (congr (congrArg k7_pay1 (ld_all arg3 harg3 x0 ![0, 0] inb_S1024x5632_S1024x5632_0_0)) (ld_all arg4 harg4 x1 ![0, 0] inb_S5632x512_S5632x512_0_0)) (ld_all arg5 harg5 x2 ![0, 0] inb_S1024x512_S1024x512_0_0))

variable (W : Dev nD → Valuation τ sig (Elt F))

/-- The block of input `w` at point `t`. -/
def in7 (c : Dev nD) (w : Fin cfg7.W) (t : Fin cfg7.N) : ((cfg7.win w).xblock (cfg7.grid.coords t)).Idx → Elt F (cfg7.win w).elt :=
  ((cfg7.win w).blk t).view.read (Elt F) (W c (Pipeline.arrRef spec7 w))
abbrev in7_0 (c : Dev nD) (t : Fin cfg7.N) : Vec F S1024x5632 .bf16 := in7 W c 0 t
abbrev in7_1 (c : Dev nD) (t : Fin cfg7.N) : Vec F S5632x512 .bf16 := in7 W c 1 t
abbrev in7_2 (c : Dev nD) (t : Fin cfg7.N) : Vec F S1024x512 .f32 := in7 W c 2 t

/-- The call's proof data: entered with its arrays at `W c`, each point leaves the inputs at their blocks and the outputs at the body's results. -/
def dat7 (c : Dev nD) : Dat τ (Elt F) Unit ℕ (UR sig nD τ) ℕ cfg7 c where
  A w := W c (Pipeline.arrRef spec7 w)
  after w t := match w with
    | ⟨0, _⟩ => in7 W c 0 t
    | ⟨1, _⟩ => in7 W c 1 t
    | ⟨2, _⟩ => in7 W c 2 t
    | ⟨3, _⟩ => res7_0 (in7_0 W c t) (in7_1 W c t) (in7_2 W c t)
  Φ _ := Pipeline.scopedRest spec7 c
  q w := Pipeline.shareOf spec7 w
  owed _ := 0

theorem A7 (c : Dev nD) (w : Fin cfg7.W) : (dat7 W c).A w = W c (Pipeline.arrRef spec7 w) := by dsimp only [dat7]
theorem left7_0 (c : Dev nD) (t : Fin cfg7.N) : (dat7 W c).after 0 t = in7 W c 0 t := by dsimp only [dat7]
theorem left7_1 (c : Dev nD) (t : Fin cfg7.N) : (dat7 W c).after 1 t = in7 W c 1 t := by dsimp only [dat7]
theorem left7_2 (c : Dev nD) (t : Fin cfg7.N) : (dat7 W c).after 2 t = in7 W c 2 t := by dsimp only [dat7]
theorem left7_3 (c : Dev nD) (t : Fin cfg7.N) : (dat7 W c).after 3 t = res7_0 (in7_0 W c t) (in7_1 W c t) (in7_2 W c t) := by dsimp only [dat7]
set_option maxHeartbeats 1600000 in
/-- The library's body obligation. -/
theorem obl7 (c : Dev nD) : BodyObligation (dat7 (F := F) W c) (defs₀ (F := F)) Variants.none () Set.univ := fun t => by
  rw [bigSep_W7, bigSep_W7, show defs₀ (F := F) .tc cfg7.body (cfg7.bodyArgs t (cfg7.slots t)) = bodyAt7 t from by unfold defs₀; rw [Defs.onTc_tc]]
  exact obligation (dat7 W c) (run7 c (grid7.coords t) _ _ _ _ _ _ _ _ (in7_0 W c t) (in7_1 W c t) (in7_2 W c t) Set.univ)
    (pair (got (found (dat7 W c) 0 rfl (fun _ => rfl) (fun _ _ _ => rfl) (left7_0 W c) (fun t _ => (left7_0 W c t).symm) (left7_0 W c t))) (pair (got (found (dat7 W c) 1 rfl (fun _ => rfl) (fun _ _ _ => rfl) (left7_1 W c) (fun t _ => (left7_1 W c t).symm) (left7_1 W c t))) (pair (got (found (dat7 W c) 2 rfl (fun _ => rfl) (fun _ _ _ => rfl) (left7_2 W c) (fun t _ => (left7_2 W c t).symm) (left7_2 W c t))) anything)))
    (pair (back (left7_0 W c t)) (pair (back (left7_1 W c t)) (pair (back (left7_2 W c t)) (back (left7_3 W c t))))) rfl rfl

end Cert.Kernel2Ideal.Hand

end
-- ==== Proof.Segs.lean ====
/-
  What the runs of every program of several calls share: a valuation with a call's results in place, a call as a segment
  given the list of its results, and the launch of a list of segments.
-/
module

public import proofs.«01_k».proof.Proof.Common

@[expose] public section

set_option maxRecDepth 16384

noncomputable section

namespace Cert.Calls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Window BodyObligation BodyObligationLoose RegionSeg)

variable {nD : ℕ} {τ : Topo} {sig : RefSig} {Λ₀ : Labels} {F : FTy → Type} [FloatOps F]

local notation "𝕄" => MT nD τ sig Unit (Elt F) ℕ (UR sig nD τ) ℕ

section Lookup

variable {W : Valuation τ sig (Elt F)} {b b' b'' r : Ref sig .tc}

/-- A valuation with one, two or three arrays replaced, read at another array. -/
theorem of1 {x} (h : r ∉ [b]) : (Function.update W (b : DevRef τ sig) x : Valuation τ sig (Elt F)) r = W r :=
  Function.update_of_ne (StableHlo.devRef_ne_of_ne fun e => h (by simp [e])) _ _
theorem of2 {x y} (h : r ∉ [b, b']) : (Function.update (Function.update W (b : DevRef τ sig) x) (b' : DevRef τ sig) y : Valuation τ sig (Elt F)) r = W r :=
  (of1 fun e => h (by simp_all)).trans (of1 fun e => h (by simp_all))
theorem of3 {x y z} (h : r ∉ [b, b', b'']) :
    (Function.update (Function.update (Function.update W (b : DevRef τ sig) x) (b' : DevRef τ sig) y) (b'' : DevRef τ sig) z : Valuation τ sig (Elt F)) r = W r :=
  (of1 fun e => h (by simp_all)).trans (of2 fun e => h (by simp_all))

end Lookup

variable {n : ℕ} {cfgs : Fin n → Cfg sig Λ₀} {defs₀ : Defs nD τ sig (Elt F) Λ₀}
  (pdats : (p : Fin n) → (c : Dev nD) → Dat τ (Elt F) Unit ℕ (UR sig nD τ) ℕ (cfgs p) c)

/-- An array that a call only reads is left as it was entered. -/
theorem left {cfg : Cfg sig Λ₀} {c : Dev nD} (D : Dat τ (Elt F) Unit ℕ (UR sig nD τ) ℕ cfg c) {W W' : Valuation τ sig (Elt F)} (w : Fin cfg.W)
    (hw : (cfg.spec w).isOut = false) (hA : D.A w = W (Pipeline.arrRef cfg.spec w)) (h : W' (Pipeline.arrRef cfg.spec w) = W (Pipeline.arrRef cfg.spec w)) :
    D.arrAt w cfg.N = W' (Pipeline.arrRef cfg.spec w) :=
  (D.arrAt_in w hw _).trans (hA.trans h.symm)

/-- Array `b` of core `c` is as launched. -/
abbrev Same (m : (ℓ : Loc nD τ sig) → Buf (Elt F) ℓ) (c : Dev nD) (s : MemSt nD τ sig (Elt F)) (b : Ref sig .tc) : Prop :=
  s.mem ((c.tc : Thread nD τ).loc b) = m ((c.tc : Thread nD τ).loc b)

/-- Call `p` as a segment, its results being the arrays `outs`. -/
def segment (p : Fin n) (hw : Pipeline.WinFacts₀ (cfgs p).spec) (hsh : Pipeline.SharedIn (cfgs p).spec)
    (hpos : ∀ w, 0 < ((cfgs p).spec w).block.numel) (harr : ∀ w, ((cfgs p).spec w).arr.IsWhole)
    (hst : ∀ w (s : Fin ((cfgs p).spec w).nbuf), (((cfgs p).spec w).stage s).IsWhole)
    (hbody : ∀ c, BodyObligation (pdats p c) defs₀ Variants.none () Set.univ)
    {W W' : Dev nD → Valuation τ sig (Elt F)}
    (hA : ∀ c w, (pdats p c).A w = W c (Pipeline.arrRef (cfgs p).spec w))
    (hF : ∀ c w, (pdats p c).arrAt w (cfgs p).N = W' c (Pipeline.arrRef (cfgs p).spec w))
    {outs : List (Ref sig .tc)} (hof : ∀ c r, r ∉ outs → W' c r = W c r) (houts : ∀ b ∈ outs, b ∈ Finset.univ.image (Pipeline.arrRef (cfgs p).spec))
    (hin : ∀ c, (Pipeline.scopedRest (cfgs p).spec c : sProp 𝕄) ⊢ (pdats p c).Φ 0 := by exact fun _ => .rfl)
    (hout : ∀ c, (pdats p c).Φ (Fin.last _) ⊢ (Pipeline.scopedRest (cfgs p).spec c : sProp 𝕄) := by exact fun _ => .rfl)
    (howed : ∀ c t, (pdats p c).owed t = 0 := by exact fun _ _ => rfl) (hrec : ∀ c t, (pdats p c).recorded t = Set.univ := by exact fun _ _ => rfl)
    (hq : ∀ c w, ((cfgs p).spec w).isOut = false → (pdats p c).q w = Pipeline.shareOf (cfgs p).spec w := by exact fun _ _ _ => rfl) :
    RegionSeg (asPre cfgs) (asAdm cfgs) pdats () defs₀ Variants.none noCells noLevel p :=
  call pdats p hw hsh hpos harr hst (fun c => (hbody c).loose) howed hrec hq hin hout W W' hA hF fun c b hb => hof c b fun h => hb (houts b h)

set_option backward.isDefEq.respectTransparency.types false in
/-- A program of host operations and calls, launched with its arrays at `m`: where the items lead from these contents to `Wn`, every run
    ends with whatever follows from the arrays being at `Wn`, and with every counter at zero. -/
theorem launched (m : (ℓ : Loc nD τ sig) → Buf (Elt F) ℓ) (ρ : Dev nD → PrngReg)
    (hinj : Function.Injective (Pipeline.cellOf (nD := nD) (τ := τ) cfgs))
    (main : Dev nD → Prog (TpuEff nD τ sig (Elt F) (Pipeline.Sig Λ₀ (Fin n) fun p => (asPre (F := F) cfgs p).Adm) .tc) PUnit)
    (items : Dev nD → List (Pipeline.Seg (asPre cfgs) (asAdm cfgs) pdats () defs₀ Variants.none noCells noLevel))
    (hmain : ∀ c, main c = Pipeline.chain ((items c).map Pipeline.Seg.prog))
    (hnd : ∀ c, (Pipeline.Seg.pipes (items c)).Nodup)
    (Wn : Dev nD → Valuation τ sig (Elt F))
    (hch : ∀ c, Pipeline.Seg.ChainsAt c (fun c => iprop(StableHlo.held (c : Thread nD τ) (Pipeline.ucRefs τ sig) (fun b => m (c, b)) ∗ clear c)) (items c)
      fun c => iprop(StableHlo.held (c : Thread nD τ) (Pipeline.ucRefs τ sig) (Wn c) ∗ clear c))
    (hno : ∀ sm : SemLoc sig, sm.isScoped .tc = true)
    {E : Dev nD → MemSt nD τ sig (Elt F) → Prop}
    (hE : ∀ c s, (∀ b : Ref sig .tc, b.isScoped = false → s.mem ((c.tc : Thread nD τ).loc b) = Wn c b) → E c s) :
    θ_run (Pipeline.defs (asPre cfgs) defs₀) (onTc (τ := τ) main) ⟨m, fun _ => 0, ρ⟩ (fun r => (∀ c : Dev nD, E c r.2) ∧ r.2.sem = fun _ => 0) := by
  refine Pipeline.θ_run_regions_kit_dev_sems (asPre cfgs) (asAdm cfgs) pdats () hinj emb₁ defs₀ Variants.none noCells noLevel m ρ main
    items (fun c Q => by rw [hmain c, Pipeline.Seg.run_eq_chain]) hnd 0 (fun _ _ => rfl)
    (fun _ => iprop(emp)) (initOf (Pipeline.cells cfgs hinj) (Pipeline.launchToks cfgs hinj))
    (by
      iintro Hu
      imodintro
      isplitl [Hu]
      · iapply (show (ownU _ : sProp 𝕄) ⊢ BI.own (emb₁ (initOf (Pipeline.cells cfgs hinj) (Pipeline.launchToks cfgs hinj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ clear c))
    (Tₙ := fun c => StableHlo.held (c : Thread nD τ) (Pipeline.ucRefs τ sig) (Wn c))
    (hch := hch)
    (hinit := ?_) (QY := E)
    (hfin := fun c s' => ?_) (hQ := fun _ h hz => ⟨h, funext fun g => hz g (.inr (hno g.2))⟩)
  · refine Pipeline.initEach noCells noLevel fun c => ?_
    rw [← Pipeline.unscopedBufs_held (Ix := Unit) (Name := ℕ) (U := UR sig nD τ) (Lvl := ℕ) c (fun b => m (c, b))]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (Wn c) s') $$ [Hh HSI]
    · isplitl [Hh] <;> iassumption
    icases Hr with ⟨%h, HSI⟩
    imodintro
    isplitr
    · ipureintro
      exact hE c s'.mem fun b hb => h (Proc.devRef .tc b) (Finset.mem_filter.mpr ⟨StableHlo.devRef_mem_tcRefs _, by simpa using hb⟩)
    · iexact HSI

end Cert.Calls

end
-- ==== Proof.FfnRun.lean ====
/-
  The run of the whole feed-forward gradient: the contents of the program's arrays between its calls, each call as a
  segment between them, the launch; what the run leaves in the arguments and the results.
-/
module

public import proofs.«01_k».proof.Proof.Ffn0
public import proofs.«01_k».proof.Proof.Ffn1
public import proofs.«01_k».proof.Proof.Ffn2
public import proofs.«01_k».proof.Proof.Ffn3
public import proofs.«01_k».proof.Proof.Ffn4
public import proofs.«01_k».proof.Proof.Ffn5
public import proofs.«01_k».proof.Proof.Ffn6
public import proofs.«01_k».proof.Proof.Ffn7
public import proofs.«01_k».proof.Proof.Segs

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays between the items -/

/-- At launch, and after the host operations before the first call. -/
def W0 (c : Dev nD) : Valuation τ sig (Elt F) := fun b => m (c, b)
def W1 (c : Dev nD) : Valuation τ sig (Elt F) := StableHlo.after hostOps0 (W0 m c)
theorem W1_of (c : Dev nD) (r : Ref sig .tc) (h : r ∉ hostOps0_W) : W1 m c r = W0 m c r :=
  StableHlo.after_of_writes_sub hostOps0 _ hostOps0_writes h

/-- After call 0. -/
def W2 (c : Dev nD) : Valuation τ sig (Elt F) := Function.update (W1 m c) main_v3 ((dat0 (W1 m) c).arrAt 2 cfg0.N)
theorem W2_of (c : Dev nD) (r : Ref sig .tc) (h : r ∉ [main_v3]) : W2 m c r = W1 m c r := of1 h
theorem W2_v3 (c : Dev nD) : W2 m c main_v3 = (dat0 (W1 m) c).arrAt 2 cfg0.N := Function.update_self _ _ _

/-- After call 1. -/
def W3 (c : Dev nD) : Valuation τ sig (Elt F) := Function.update (Function.update (W2 m c) main_v4_0 ((dat1 (W2 m) c).arrAt 3 cfg1.N)) main_v4_1 ((dat1 (W2 m) c).arrAt 4 cfg1.N)
theorem W3_of (c : Dev nD) (r : Ref sig .tc) (h : r ∉ [main_v4_0, main_v4_1]) : W3 m c r = W2 m c r := of2 h
theorem W3_v4_0 (c : Dev nD) : W3 m c main_v4_0 = (dat1 (W2 m) c).arrAt 3 cfg1.N := (of1 (by decide)).trans (Function.update_self _ _ _)
theorem W3_v4_1 (c : Dev nD) : W3 m c main_v4_1 = (dat1 (W2 m) c).arrAt 4 cfg1.N := Function.update_self _ _ _

/-- After the host operations between the second call and the third. -/
def W4 (c : Dev nD) : Valuation τ sig (Elt F) := StableHlo.after hostOps2 (W3 m c)
theorem W4_of (c : Dev nD) (r : Ref sig .tc) (h : r ∉ hostOps2_W) : W4 m c r = W3 m c r :=
  StableHlo.after_of_writes_sub hostOps2 _ hostOps2_writes h

/-- After call 2. -/
def W5 (c : Dev nD) : Valuation τ sig (Elt F) := Function.update (W4 m c) main_v7 ((dat2 (W4 m) c).arrAt 3 cfg2.N)
theorem W5_of (c : Dev nD) (r : Ref sig .tc) (h : r ∉ [main_v7]) : W5 m c r = W4 m c r := of1 h
theorem W5_v7 (c : Dev nD) : W5 m c main_v7 = (dat2 (W4 m) c).arrAt 3 cfg2.N := Function.update_self _ _ _

/-- After call 3. -/
def W6 (c : Dev nD) : Valuation τ sig (Elt F) := Function.update (W5 m c) main_v8 ((dat3 (W5 m) c).arrAt 2 cfg3.N)
theorem W6_of (c : Dev nD) (r : Ref sig .tc) (h : r ∉ [main_v8]) : W6 m c r = W5 m c r := of1 h
theorem W6_v8 (c : Dev nD) : W6 m c main_v8 = (dat3 (W5 m) c).arrAt 2 cfg3.N := Function.update_self _ _ _

/-- After call 4. -/
def W7 (c : Dev nD) : Valuation τ sig (Elt F) := Function.update (W6 m c) main_v9 ((dat4 (W6 m) c).arrAt 2 cfg4.N)
theorem W7_of (c : Dev nD) (r : Ref sig .tc) (h : r ∉ [main_v9]) : W7 m c r = W6 m c r := of1 h
theorem W7_v9 (c : Dev nD) : W7 m c main_v9 = (dat4 (W6 m) c).arrAt 2 cfg4.N := Function.update_self _ _ _

/-- After call 5. -/
def W8 (c : Dev nD) : Valuation τ sig (Elt F) := Function.update (W7 m c) main_v10 ((dat5 (W7 m) c).arrAt 4 cfg5.N)
theorem W8_of (c : Dev nD) (r : Ref sig .tc) (h : r ∉ [main_v10]) : W8 m c r = W7 m c r := of1 h
theorem W8_v10 (c : Dev nD) : W8 m c main_v10 = (dat5 (W7 m) c).arrAt 4 cfg5.N := Function.update_self _ _ _

/-- After call 6. -/
def W9 (c : Dev nD) : Valuation τ sig (Elt F) := Function.update (Function.update (Function.update (W8 m c) main_v11_0 ((dat6 (W8 m) c).arrAt 4 cfg6.N)) main_v11_1 ((dat6 (W8 m) c).arrAt 5 cfg6.N)) main_v11_2 ((dat6 (W8 m) c).arrAt 6 cfg6.N)
theorem W9_of (c : Dev nD) (r : Ref sig .tc) (h : r ∉ [main_v11_0, main_v11_1, main_v11_2]) : W9 m c r = W8 m c r := of3 h
theorem W9_v11_0 (c : Dev nD) : W9 m c main_v11_0 = (dat6 (W8 m) c).arrAt 4 cfg6.N := (of2 (by decide)).trans (Function.update_self _ _ _)
theorem W9_v11_1 (c : Dev nD) : W9 m c main_v11_1 = (dat6 (W8 m) c).arrAt 5 cfg6.N := (of1 (by decide)).trans (Function.update_self _ _ _)
theorem W9_v11_2 (c : Dev nD) : W9 m c main_v11_2 = (dat6 (W8 m) c).arrAt 6 cfg6.N := Function.update_self _ _ _

/-- After call 7. -/
def W10 (c : Dev nD) : Valuation τ sig (Elt F) := Function.update (W9 m c) main_v12 ((dat7 (W9 m) c).arrAt 3 cfg7.N)
theorem W10_of (c : Dev nD) (r : Ref sig .tc) (h : r ∉ [main_v12]) : W10 m c r = W9 m c r := of1 h
theorem W10_v12 (c : Dev nD) : W10 m c main_v12 = (dat7 (W9 m) c).arrAt 3 cfg7.N := Function.update_self _ _ _

/-! ## The calls as segments -/

/-- The calls' proof data, each entered with its arrays as the items before it leave them. -/
def pd (p : Fin 8) (c : Dev nD) : Dat τ (Elt F) Unit ℕ (UR sig nD τ) ℕ (cfgs p) c :=
  match p with
  | 0 => dat0 (W1 m) c
  | 1 => dat1 (W2 m) c
  | 2 => dat2 (W4 m) c
  | 3 => dat3 (W5 m) c
  | 4 => dat4 (W6 m) c
  | 5 => dat5 (W7 m) c
  | 6 => dat6 (W8 m) c
  | 7 => dat7 (W9 m) c

theorem end0 (c : Dev nD) (w : Fin cfg0.W) : (dat0 (W1 m) c).arrAt w cfg0.N = W2 m c (Pipeline.arrRef spec0 w) :=
  match w with
  | ⟨0, _⟩ => left _ 0 rfl (A0 (W1 m) c 0) (W2_of m c _ (by decide))
  | ⟨1, _⟩ => left _ 1 rfl (A0 (W1 m) c 1) (W2_of m c _ (by decide))
  | ⟨2, _⟩ => (W2_v3 m c).symm
def seg0 (m : (ℓ : Loc nD τ sig) → Buf (Elt F) ℓ) : RegionSeg (pcfgs (F := F)) adm (pd m) () defs₀ Variants.none noCells noLevel 0 :=
  segment (pd m) 0 launch0.win.to₀ (Pipeline.SharedIn.of_injective winFacts0.arr_inj) block_pos0 arr_whole0 stage_whole0
    (obl0 (W1 m)) (A0 (W1 m)) (end0 m) (W2_of m) (by decide)

theorem end1 (c : Dev nD) (w : Fin cfg1.W) : (dat1 (W2 m) c).arrAt w cfg1.N = W3 m c (Pipeline.arrRef spec1 w) :=
  match w with
  | ⟨0, _⟩ => left _ 0 rfl (A1 (W2 m) c 0) (W3_of m c _ (by decide))
  | ⟨1, _⟩ => left _ 1 rfl (A1 (W2 m) c 1) (W3_of m c _ (by decide))
  | ⟨2, _⟩ => left _ 2 rfl (A1 (W2 m) c 2) (W3_of m c _ (by decide))
  | ⟨3, _⟩ => (W3_v4_0 m c).symm
  | ⟨4, _⟩ => (W3_v4_1 m c).symm
def seg1 (m : (ℓ : Loc nD τ sig) → Buf (Elt F) ℓ) : RegionSeg (pcfgs (F := F)) adm (pd m) () defs₀ Variants.none noCells noLevel 1 :=
  segment (pd m) 1 winFacts₀1 sharedIn1 block_pos1 arr_whole1 stage_whole1
    (obl1 (W2 m)) (A1 (W2 m)) (end1 m) (W3_of m) (by decide)

theorem end2 (c : Dev nD) (w : Fin cfg2.W) : (dat2 (W4 m) c).arrAt w cfg2.N = W5 m c (Pipeline.arrRef spec2 w) :=
  match w with
  | ⟨0, _⟩ => left _ 0 rfl (A2 (W4 m) c 0) (W5_of m c _ (by decide))
  | ⟨1, _⟩ => left _ 1 rfl (A2 (W4 m) c 1) (W5_of m c _ (by decide))
  | ⟨2, _⟩ => left _ 2 rfl (A2 (W4 m) c 2) (W5_of m c _ (by decide))
  | ⟨3, _⟩ => (W5_v7 m c).symm
def seg2 (m : (ℓ : Loc nD τ sig) → Buf (Elt F) ℓ) : RegionSeg (pcfgs (F := F)) adm (pd m) () defs₀ Variants.none noCells noLevel 2 :=
  segment (pd m) 2 launch2.win.to₀ (Pipeline.SharedIn.of_injective winFacts2.arr_inj) block_pos2 arr_whole2 stage_whole2
    (obl2 (W4 m)) (A2 (W4 m)) (end2 m) (W5_of m) (by decide)

theorem end3 (c : Dev nD) (w : Fin cfg3.W) : (dat3 (W5 m) c).arrAt w cfg3.N = W6 m c (Pipeline.arrRef spec3 w) :=
  match w with
  | ⟨0, _⟩ => left _ 0 rfl (A3 (W5 m) c 0) (W6_of m c _ (by decide))
  | ⟨1, _⟩ => left _ 1 rfl (A3 (W5 m) c 1) (W6_of m c _ (by decide))
  | ⟨2, _⟩ => (W6_v8 m c).symm
def seg3 (m : (ℓ : Loc nD τ sig) → Buf (Elt F) ℓ) : RegionSeg (pcfgs (F := F)) adm (pd m) () defs₀ Variants.none noCells noLevel 3 :=
  segment (pd m) 3 launch3.win.to₀ (Pipeline.SharedIn.of_injective winFacts3.arr_inj) block_pos3 arr_whole3 stage_whole3
    (obl3 (W5 m)) (A3 (W5 m)) (end3 m) (W6_of m) (by decide)

theorem end4 (c : Dev nD) (w : Fin cfg4.W) : (dat4 (W6 m) c).arrAt w cfg4.N = W7 m c (Pipeline.arrRef spec4 w) :=
  match w with
  | ⟨0, _⟩ => left _ 0 rfl (A4 (W6 m) c 0) (W7_of m c _ (by decide))
  | ⟨1, _⟩ => left _ 1 rfl (A4 (W6 m) c 1) (W7_of m c _ (by decide))
  | ⟨2, _⟩ => (W7_v9 m c).symm
def seg4 (m : (ℓ : Loc nD τ sig) → Buf (Elt F) ℓ) : RegionSeg (pcfgs (F := F)) adm (pd m) () defs₀ Variants.none noCells noLevel 4 :=
  segment (pd m) 4 launch4.win.to₀ (Pipeline.SharedIn.of_injective winFacts4.arr_inj) block_pos4 arr_whole4 stage_whole4
    (obl4 (W6 m)) (A4 (W6 m)) (end4 m) (W7_of m) (by decide)

theorem end5 (c : Dev nD) (w : Fin cfg5.W) : (dat5 (W7 m) c).arrAt w cfg5.N = W8 m c (Pipeline.arrRef spec5 w) :=
  match w with
  | ⟨0, _⟩ => left _ 0 rfl (A5 (W7 m) c 0) (W8_of m c _ (by decide))
  | ⟨1, _⟩ => left _ 1 rfl (A5 (W7 m) c 1) (W8_of m c _ (by decide))
  | ⟨2, _⟩ => left _ 2 rfl (A5 (W7 m) c 2) (W8_of m c _ (by decide))
  | ⟨3, _⟩ => left _ 3 rfl (A5 (W7 m) c 3) (W8_of m c _ (by decide))
  | ⟨4, _⟩ => (W8_v10 m c).symm
def seg5 (m : (ℓ : Loc nD τ sig) → Buf (Elt F) ℓ) : RegionSeg (pcfgs (F := F)) adm (pd m) () defs₀ Variants.none noCells noLevel 5 :=
  segment (pd m) 5 winFacts₀5 sharedIn5 block_pos5 arr_whole5 stage_whole5
    (obl5 (W7 m)) (A5 (W7 m)) (end5 m) (W8_of m) (by decide) (enter5 (W7 m)) (leave5 (W7 m))

theorem end6 (c : Dev nD) (w : Fin cfg6.W) : (dat6 (W8 m) c).arrAt w cfg6.N = W9 m c (Pipeline.arrRef spec6 w) :=
  match w with
  | ⟨0, _⟩ => left _ 0 rfl (A6 (W8 m) c 0) (W9_of m c _ (by decide))
  | ⟨1, _⟩ => left _ 1 rfl (A6 (W8 m) c 1) (W9_of m c _ (by decide))
  | ⟨2, _⟩ => left _ 2 rfl (A6 (W8 m) c 2) (W9_of m c _ (by decide))
  | ⟨3, _⟩ => left _ 3 rfl (A6 (W8 m) c 3) (W9_of m c _ (by decide))
  | ⟨4, _⟩ => (W9_v11_0 m c).symm
  | ⟨5, _⟩ => (W9_v11_1 m c).symm
  | ⟨6, _⟩ => (W9_v11_2 m c).symm
def seg6 (m : (ℓ : Loc nD τ sig) → Buf (Elt F) ℓ) : RegionSeg (pcfgs (F := F)) adm (pd m) () defs₀ Variants.none noCells noLevel 6 :=
  segment (pd m) 6 launch6.win.to₀ (Pipeline.SharedIn.of_injective winFacts6.arr_inj) block_pos6 arr_whole6 stage_whole6
    (obl6 (W8 m)) (A6 (W8 m)) (end6 m) (W9_of m) (by decide)

theorem end7 (c : Dev nD) (w : Fin cfg7.W) : (dat7 (W9 m) c).arrAt w cfg7.N = W10 m c (Pipeline.arrRef spec7 w) :=
  match w with
  | ⟨0, _⟩ => left _ 0 rfl (A7 (W9 m) c 0) (W10_of m c _ (by decide))
  | ⟨1, _⟩ => left _ 1 rfl (A7 (W9 m) c 1) (W10_of m c _ (by decide))
  | ⟨2, _⟩ => left _ 2 rfl (A7 (W9 m) c 2) (W10_of m c _ (by decide))
  | ⟨3, _⟩ => (W10_v12 m c).symm
def seg7 (m : (ℓ : Loc nD τ sig) → Buf (Elt F) ℓ) : RegionSeg (pcfgs (F := F)) adm (pd m) () defs₀ Variants.none noCells noLevel 7 :=
  segment (pd m) 7 launch7.win.to₀ (Pipeline.SharedIn.of_injective winFacts7.arr_inj) block_pos7 arr_whole7 stage_whole7
    (obl7 (W9 m)) (A7 (W9 m)) (end7 m) (W10_of m) (by decide)

/-- The two stretches of host operations. -/
def host0 : Pipeline.HostSeg (Ix := Unit) (Name := ℕ) (U := UR sig nD τ) (Lvl := ℕ) (pcfgs (F := F)) defs₀ Variants.none noCells noLevel :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) clear
def host2 : Pipeline.HostSeg (Ix := Unit) (Name := ℕ) (U := UR sig nD τ) (Lvl := ℕ) (pcfgs (F := F)) defs₀ Variants.none noCells noLevel :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) clear

/-- The program's items. -/
abbrev items (_ : Dev nD) : List (Pipeline.Seg (pcfgs (F := F)) adm (pd m) () defs₀ Variants.none noCells noLevel) :=
  [.host (host0 m), .region (seg0 m), .region (seg1 m), .host (host2 m), .region (seg2 m), .region (seg3 m), .region (seg4 m), .region (seg5 m), .region (seg6 m), .region (seg7 m)]

/-- An array that no item writes is at the end as at launch. -/
theorem kept (c : Dev nD) (r : Ref sig .tc) (h : r ∉ hostOps0_W ∧ r ∉ [main_v3] ∧ r ∉ [main_v4_0, main_v4_1] ∧ r ∉ hostOps2_W ∧ r ∉ [main_v7] ∧ r ∉ [main_v8] ∧ r ∉ [main_v9] ∧ r ∉ [main_v10] ∧ r ∉ [main_v11_0, main_v11_1, main_v11_2] ∧ r ∉ [main_v12]) : W10 m c r = m (c, r) :=
  (W10_of m c r h.2.2.2.2.2.2.2.2.2).trans <| (W9_of m c r h.2.2.2.2.2.2.2.2.1).trans <| (W8_of m c r h.2.2.2.2.2.2.2.1).trans <| (W7_of m c r h.2.2.2.2.2.2.1).trans <| (W6_of m c r h.2.2.2.2.2.1).trans <| (W5_of m c r h.2.2.2.2.1).trans <| (W4_of m c r h.2.2.2.1).trans <| (W3_of m c r h.2.2.1).trans <| (W2_of m c r h.2.1).trans <| W1_of m c r h.1

/-- The arguments on core `c` are as launched. -/
def Kept (m : (ℓ : Loc nD τ sig) → Buf (Elt F) ℓ) (c : Dev nD) (s : MemSt nD τ sig (Elt F)) : Prop :=
  Same m c s main_arg0 ∧ Same m c s main_arg1 ∧ Same m c s main_arg2 ∧ Same m c s main_arg3 ∧ Same m c s main_arg4

/-- What a run ends with on core `c`: the arguments as launched, the five results as the calls leave them. -/
def Ends (m : (ℓ : Loc nD τ sig) → Buf (Elt F) ℓ) (c : Dev nD) (s : MemSt nD τ sig (Elt F)) : Prop :=
  Kept m c s
  ∧ s.mem ((c.tc : Thread nD τ).loc main_v12) = (dat7 (W9 m) c).arrAt 3 cfg7.N
  ∧ s.mem ((c.tc : Thread nD τ).loc main_v11_0) = (dat6 (W8 m) c).arrAt 4 cfg6.N
  ∧ s.mem ((c.tc : Thread nD τ).loc main_v11_2) = (dat6 (W8 m) c).arrAt 6 cfg6.N
  ∧ s.mem ((c.tc : Thread nD τ).loc main_v9) = (dat4 (W6 m) c).arrAt 2 cfg4.N
  ∧ s.mem ((c.tc : Thread nD τ).loc main_v8) = (dat3 (W5 m) c).arrAt 2 cfg3.N

set_option backward.isDefEq.respectTransparency.types false in
/-- Every run from zero counters terminates and ends so, with every counter at zero. -/
theorem run_ffn : θ_run defs (onTc (τ := τ) (main (F := F))) ⟨m, fun _ => 0, ρ⟩ (fun r => (∀ c : Dev nD, Ends m c r.2) ∧ r.2.sem = fun _ => 0) :=
  launched (pd m) m ρ cellOf_inj main (items m) main_chain
    (fun c => by simp only [items, Pipeline.Seg.pipes_host, Pipeline.Seg.pipes_region, Pipeline.Seg.pipes_nil]; decide)
    (W10 m) (fun c => ⟨.rfl, .rfl, .rfl, .rfl, .rfl, .rfl, .rfl, .rfl, .rfl, .rfl, .rfl⟩) regions_no_unscoped fun c s rd =>
    have k := fun (b : Ref sig .tc) hb h => (rd b hb).trans (kept m c b h)
    ⟨⟨k _ rfl (by decide), k _ rfl (by decide), k _ rfl (by decide), k _ rfl (by decide), k _ rfl (by decide)⟩,
      (rd main_v12 rfl).trans <| W10_v12 m c,
      (rd main_v11_0 rfl).trans <| (W10_of m c _ (by decide)).trans <| W9_v11_0 m c,
      (rd main_v11_2 rfl).trans <| (W10_of m c _ (by decide)).trans <| W9_v11_2 m c,
      (rd main_v9 rfl).trans <| (W10_of m c _ (by decide)).trans <| (W9_of m c _ (by decide)).trans <| (W8_of m c _ (by decide)).trans <| W7_v9 m c,
      (rd main_v8 rfl).trans <| (W10_of m c _ (by decide)).trans <| (W9_of m c _ (by decide)).trans <| (W8_of m c _ (by decide)).trans <| (W7_of m c _ (by decide)).trans <| W6_v8 m c⟩

end Cert.Kernel2Ideal.Hand

end
-- ==== Proof.FfnPay.lean ====
/-
  The bodies of the feed-forward calls, entry by entry: what each leaves in its output blocks from its input blocks.
-/
module

public import proofs.«01_k».proof.Proof.FfnSpec
public import proofs.«01_k».proof.Proof.FfnRun

@[expose] public section

set_option maxRecDepth 16384

noncomputable section

namespace Cert.Kernel2Ideal.Hand

open Idealize.ShloMosaic Idealize.ShloMosaic.TcCoe Idealize.SL.Sem Idealize.ShloMosaic.Pointwise
open Cert.Kernel2Ideal Cert.Kernel2Ideal.Gen Cert.Ffn

theorem pay0_at (x0 : Vec Ideal S512x2048 .f32) (x1 : Vec Ideal S1x2048 .f32) (a : Fin 512) (b : Fin 2048) :
    (res0_0 x0 x1 (ix2 a b) : EReal) = x0 (ix2 a b) * rrt (fun d => x0 (ix2 a d)) * x1 (ix2 0 b) := by
  unfold res0_0 k0_pay1 rrt msq inv2048 epsN
  pointwise

section One
variable (x0 : Vec Ideal S256x2048 .bf16) (x1 x2 : Vec Ideal S1x2048x1408 .bf16) (a : Fin 256) (b : Fin 1408)
/-- A row of the first call's left block times a column of a weight block. -/
def rc (x1 : Vec Ideal S1x2048x1408 .bf16) : EReal := ∑ d : Fin 2048, (x0 (ix2 a d) * x1 (ix3 0 d b) : EReal)
theorem g_at : (k1_pay2 x0 x1 (ix2 a b) : EReal) = rc x0 a b x1 := by
  unfold k1_pay2 k1_pay1 rc
  pointwise
theorem u_at : (k1_pay3 x0 x2 (ix2 a b) : EReal) = rc x0 a b x2 := by
  unfold k1_pay3 k1_pay1 rc
  pointwise
theorem pay1a_at : (k1_pay6 x0 x1 x2 (ix3 0 a b) : EReal) = rc x0 a b x2 * dsilu (rc x0 a b x1) := by
  unfold k1_pay6 k1_pay4 dsilu one
  pointwise
  simp only [g_at, u_at]
theorem pay1b_at : (k1_pay7 x0 x1 (ix3 0 a b) : EReal) = silu (rc x0 a b x1) := by
  unfold k1_pay7 k1_pay5 k1_pay4 silu
  pointwise
  simp only [g_at]
theorem pay1c_at : (k1_pay8 x0 x1 x2 (ix2 a b) : EReal) = silu (rc x0 a b x1) * rc x0 a b x2 := by
  unfold k1_pay8 k1_pay5 k1_pay4 silu
  pointwise
  simp only [g_at, u_at]
end One

section Two
variable (x0 : Vec Ideal S512x2048 .bf16) (x1 : Vec Ideal S1408x2048 .bf16) (x2 : Vec Ideal S1x512x1408 .bf16) (a : Fin 512) (b : Fin 1408)
theorem pay2a_at : (k2_pay2 x0 x1 x2 (ix3 0 a b) : EReal) = half * (∑ d : Fin 2048, (x0 (ix2 a d) * x1 (ix2 b d) : EReal)) * x2 (ix3 0 a b) := by
  unfold k2_pay2 k2_pay1 half
  pointwise
theorem pay2b_at : (k2_pay3 x0 x1 x2 (ix3 0 a b) : EReal) = half * (∑ d : Fin 2048, (x0 (ix2 a d) * x1 (ix2 b d) : EReal)) * x2 (ix3 0 a b) := by
  unfold k2_pay3 k2_pay1 half
  pointwise
end Two

theorem pay3_at (x0 : Vec Ideal S2048x512 .bf16) (x1 : Vec Ideal S2048x2048 .bf16) (a : Fin 512) (b : Fin 2048) :
    (res3_0 x0 x1 (ix2 a b) : EReal) = (∑ t : Fin 2048, (x0 (ix2 t a) * x1 (ix2 t b) : EReal)) * half := by
  unfold res3_0 k3_pay1 half
  pointwise
theorem pay7_at (x0 : Vec Ideal S1024x5632 .bf16) (x1 : Vec Ideal S5632x512 .bf16) (x2 : Vec Ideal S1024x512 .f32) (a : Fin 1024) (b : Fin 512) :
    (res7_0 x0 x1 x2 (ix2 a b) : EReal) = x2 (ix2 a b) + (∑ f : Fin 5632, (x0 (ix2 a f) * x1 (ix2 f b) : EReal)) * half := by
  unfold res7_0 k7_pay1 half
  pointwise
theorem pay4_at (x0 : Vec Ideal S2048x512 .bf16) (x1 : Vec Ideal S1x2048x1408 .bf16) (a : Fin 512) (b : Fin 1408) :
    (res4_0 x0 x1 (ix3 0 a b) : EReal) = ∑ t : Fin 2048, (x0 (ix2 t a) * x1 (ix3 0 t b) : EReal) := by
  unfold res4_0 k4_pay1
  pointwise

section Five
variable (x0 x1 x2 x3 : Vec Ideal S1x1024x1408 .bf16) (X : Vec Ideal S1024x1024 .f32) (a b : Fin 1024)
/-- What a point of the input gradient's call adds. -/
def add5 : EReal := (∑ f : Fin 1408, (x0 (ix3 0 a f) * x2 (ix3 0 b f) : EReal)) + ∑ f : Fin 1408, (x1 (ix3 0 a f) * x3 (ix3 0 b f) : EReal)
theorem pay5a_at : (k5_pay2 x0 x2 x1 x3 (ix2 a b) : EReal) = add5 x0 x1 x2 x3 a b := by
  unfold k5_pay2 k5_pay1 add5
  pointwise
theorem pay5b_at : (k5_pay3 x0 x2 x1 x3 X (ix2 a b) : EReal) = X (ix2 a b) + add5 x0 x1 x2 x3 a b := by
  unfold k5_pay3 k5_pay1 add5
  pointwise
end Five

section Six
variable (x0 x1 x2 : Vec Ideal S256x2048 .f32) (x3 : Vec Ideal S1x2048 .f32) (a : Fin 256) (b : Fin 2048)
theorem ms_at : (k6_pay3 x0 (ix2 a 0) : EReal) = msq (fun d => x0 (ix2 a d)) := by
  unfold k6_pay3 msq inv2048 epsN
  pointwise
theorem rs_at : (k6_pay4 x0 (ix2 a 0) : EReal) = rrt (fun d => x0 (ix2 a d)) := by
  unfold k6_pay4 rrt
  pointwise
  rw [ms_at]
theorem pay6a_at : (res6_0 x0 x1 x2 x3 (ix2 a b) : EReal) =
    x1 (ix2 a b) * x3 (ix2 0 b) * rrt (fun d => x0 (ix2 a d)) + x0 (ix2 a b) * thru (fun d => x0 (ix2 a d)) (fun d => x1 (ix2 a d) * x3 (ix2 0 d))
      + thru (fun d => x0 (ix2 a d)) (fun d => x1 (ix2 a d) * x3 (ix2 0 d)) * x0 (ix2 a b) + x2 (ix2 a b) := by
  unfold res6_0 k6_pay7 k6_pay5 thru mhalf inv2048
  pointwise
  simp only [ms_at, rs_at, Fin.sum_univ_one]
theorem pay6b_at : (k6_pay6 x0 x1 (ix2 0 b) : EReal) = ∑ t : Fin 256, (x0 (ix2 t b) * rrt (fun d => x0 (ix2 t d)) * x1 (ix2 t b) : EReal) := by
  unfold k6_pay6 k6_pay5
  pointwise
  simp only [rs_at]
theorem pay6c_at (X Y : Vec Ideal S1x2048 .f32) : (k6_pay2 X Y (ix2 0 b) : EReal) = Y (ix2 0 b) + X (ix2 0 b) := by
  unfold k6_pay2
  pointwise
end Six

end Cert.Kernel2Ideal.Hand

end
-- ==== Proof.FfnArr.lean ====
/-
  The blocks of the feed-forward calls at every grid point, entry by entry, and each output array as what its blocks leave.
-/
module

public import proofs.«01_k».proof.Proof.FfnPay
public import Idealize.ShloMosaic.Lib.Pipeline.ValueKit.Geometry

@[expose] public section

set_option maxRecDepth 16384
set_option maxHeartbeats 1000000

noncomputable section

namespace Cert.Kernel2Ideal.Hand

open Idealize.ShloMosaic Idealize.ShloMosaic.TcCoe Idealize.SL.Sem Idealize.ShloMosaic.Pointwise Idealize.ShloMosaic.Pipeline
open Cert.Kernel2Ideal Cert.Kernel2Ideal.Gen Cert.Ffn

variable (W : Dev nD → Valuation τ sig (Elt Ideal)) (c : Dev nD)

theorem only3 {n1 n2 : ℕ} (y : (⟨3, ![1, n1, n2]⟩ : Shape).Idx) : y = ix3 (0 : Fin 1) (y 1) (y 2) := by
  funext a
  fin_cases a
  · exact Fin.ext (show (y 0).val = 0 by have : (y 0).val < 1 := (y 0).isLt; omega)
  · rfl
  · rfl
theorem only2 {n1 : ℕ} (y : (⟨2, ![1, n1]⟩ : Shape).Idx) : y = ix2 (0 : Fin 1) (y 1) := by
  funext a
  fin_cases a
  · exact Fin.ext (show (y 0).val = 0 by have : (y 0).val < 1 := (y 0).isLt; omega)
  · rfl

theorem at0_0 : ∀ t : Fin cfg0.N, win0_0.index t = ![t.val, 0] := by decide +kernel
theorem blk0_0 (t : Fin cfg0.N) (a : Fin 512) (b : Fin 2048) (i : Fin 2048) (j : Fin 2048) (hi : i.val = t.val * 512 + a.val) (hj : j.val = b.val) : in0_0 W c t (ix2 a b) = W c main_arg0 (ix2 i j) :=
  congrArg (W c main_arg0) (by blk_ext [at0_0, hi, hj])

theorem at0_1 : ∀ t : Fin cfg0.N, win0_1.index t = ![0, 0] := by decide +kernel
theorem blk0_1 (t : Fin cfg0.N) (b : Fin 2048) (i : Fin 1) (j : Fin 2048) (hi : i.val = 0) (hj : j.val = b.val) : in0_1 W c t (ix2 0 b) = W c main_arg1 (ix2 i j) :=
  congrArg (W c main_arg1) (by blk_ext [at0_1, hi, hj])

theorem at0_2 : ∀ t : Fin cfg0.N, win0_2.index t = ![t.val, 0] := by decide +kernel
theorem out0_2 (V : S2048x2048.Idx → EReal)
    (hV : ∀ (t : Fin cfg0.N), ∀ (a : Fin 512) (b : Fin 2048) (i : Fin 2048) (j : Fin 2048), i.val = t.val * 512 + a.val → j.val = b.val → (res0_0 (in0_0 W c t) (in0_1 W c t) (ix2 a b) : EReal) = V (ix2 i j)) :
    ((dat0 W c).arrAt 2 cfg0.N : Vec Ideal S2048x2048 .bf16) = V := by
  refine (dat0 W c).arrAt_eq_of_covers 2 _ (by decide +kernel) fun t hf y => ?_
  rw [left0_2]
  have hN : t.val < 4 := Nat.lt_of_lt_of_eq t.isLt N_0
  blk_simp
  idx_bounds y
  exact (congrArg (res0_0 (in0_0 W c t) (in0_1 W c t)) (eq_ix2 (n0 := 512) (n1 := 2048) y)).trans ((hV t (y 0) (y 1) ⟨t.val * 512 + (y 0).val, by omega⟩ ⟨(y 1).val, by omega⟩ rfl rfl).trans (congrArg V (by blk_ext [at0_2])))

theorem at1_0 : ∀ t : Fin cfg1.N, win1_0.index t = ![t.val % 8, 0] := by decide +kernel
theorem blk1_0 (t : Fin cfg1.N) (a : Fin 256) (b : Fin 2048) (i : Fin 2048) (j : Fin 2048) (hi : i.val = t.val % 8 * 256 + a.val) (hj : j.val = b.val) : in1_0 W c t (ix2 a b) = W c main_v3 (ix2 i j) :=
  congrArg (W c main_v3) (by blk_ext [at1_0, hi, hj])

theorem at1_1 : ∀ t : Fin cfg1.N, win1_1.index t = ![t.val / 8, 0, 0] := by decide +kernel
theorem blk1_1 (t : Fin cfg1.N) (b : Fin 2048) (d : Fin 1408) (i : Fin 8) (j : Fin 2048) (k : Fin 1408) (hi : i.val = t.val / 8) (hj : j.val = b.val) (hk : k.val = d.val) : in1_1 W c t (ix3 0 b d) = W c main_v2 (ix3 i j k) :=
  congrArg (W c main_v2) (by blk_ext [at1_1, hi, hj, hk])

theorem at1_2 : ∀ t : Fin cfg1.N, win1_2.index t = ![(t.val / 8 + 4), 0, 0] := by decide +kernel
theorem blk1_2 (t : Fin cfg1.N) (b : Fin 2048) (d : Fin 1408) (i : Fin 8) (j : Fin 2048) (k : Fin 1408) (hi : i.val = (t.val / 8 + 4)) (hj : j.val = b.val) (hk : k.val = d.val) : in1_2 W c t (ix3 0 b d) = W c main_v2 (ix3 i j k) :=
  congrArg (W c main_v2) (by blk_ext [at1_2, hi, hj, hk])

theorem at1_3 : ∀ t : Fin cfg1.N, win1_3.index t = ![0, t.val % 8, t.val / 8] := by decide +kernel
theorem out1_3 (V : S2x2048x5632.Idx → EReal)
    (hV : ∀ (t : Fin cfg1.N), ∀ (a : Fin 2) (b : Fin 256) (d : Fin 1408) (i : Fin 2) (j : Fin 2048) (k : Fin 5632), i.val = a.val → j.val = t.val % 8 * 256 + b.val → k.val = t.val / 8 * 1408 + d.val → (res1_0 (in1_0 W c t) (in1_1 W c t) (in1_2 W c t) (ix3 a b d) : EReal) = V (ix3 i j k)) :
    ((dat1 W c).arrAt 3 cfg1.N : Vec Ideal S2x2048x5632 .bf16) = V := by
  refine (dat1 W c).arrAt_eq_of_covers 3 _ (by decide +kernel) fun t hf y => ?_
  rw [left1_3]
  have hN : t.val < 32 := Nat.lt_of_lt_of_eq t.isLt N_1
  blk_simp
  idx_bounds y
  exact (congrArg (res1_0 (in1_0 W c t) (in1_1 W c t) (in1_2 W c t)) (eq_ix3 (n0 := 2) (n1 := 256) (n2 := 1408) y)).trans ((hV t (y 0) (y 1) (y 2) ⟨(y 0).val, by omega⟩ ⟨t.val % 8 * 256 + (y 1).val, by omega⟩ ⟨t.val / 8 * 1408 + (y 2).val, by omega⟩ rfl rfl rfl).trans (congrArg V (by blk_ext [at1_3])))

theorem at1_4 : ∀ t : Fin cfg1.N, win1_4.index t = ![t.val % 8, t.val / 8] := by decide +kernel
theorem out1_4 (V : S2048x5632.Idx → EReal)
    (hV : ∀ (t : Fin cfg1.N), ∀ (a : Fin 256) (b : Fin 1408) (i : Fin 2048) (j : Fin 5632), i.val = t.val % 8 * 256 + a.val → j.val = t.val / 8 * 1408 + b.val → (res1_1 (in1_0 W c t) (in1_1 W c t) (in1_2 W c t) (ix2 a b) : EReal) = V (ix2 i j)) :
    ((dat1 W c).arrAt 4 cfg1.N : Vec Ideal S2048x5632 .bf16) = V := by
  refine (dat1 W c).arrAt_eq_of_covers 4 _ (by decide +kernel) fun t hf y => ?_
  rw [left1_4]
  have hN : t.val < 32 := Nat.lt_of_lt_of_eq t.isLt N_1
  blk_simp
  idx_bounds y
  exact (congrArg (res1_1 (in1_0 W c t) (in1_1 W c t) (in1_2 W c t)) (eq_ix2 (n0 := 256) (n1 := 1408) y)).trans ((hV t (y 0) (y 1) ⟨t.val % 8 * 256 + (y 0).val, by omega⟩ ⟨t.val / 8 * 1408 + (y 1).val, by omega⟩ rfl rfl).trans (congrArg V (by blk_ext [at1_4])))

theorem at2_0 : ∀ t : Fin cfg2.N, win2_0.index t = ![t.val % 4, 0] := by decide +kernel
theorem blk2_0 (t : Fin cfg2.N) (a : Fin 512) (b : Fin 2048) (i : Fin 2048) (j : Fin 2048) (hi : i.val = t.val % 4 * 512 + a.val) (hj : j.val = b.val) : in2_0 W c t (ix2 a b) = W c main_v6 (ix2 i j) :=
  congrArg (W c main_v6) (by blk_ext [at2_0, hi, hj])

theorem at2_1 : ∀ t : Fin cfg2.N, win2_1.index t = ![t.val / 4, 0] := by decide +kernel
theorem blk2_1 (t : Fin cfg2.N) (a : Fin 1408) (b : Fin 2048) (i : Fin 5632) (j : Fin 2048) (hi : i.val = t.val / 4 * 1408 + a.val) (hj : j.val = b.val) : in2_1 W c t (ix2 a b) = W c main_v5 (ix2 i j) :=
  congrArg (W c main_v5) (by blk_ext [at2_1, hi, hj])

theorem at2_2 : ∀ t : Fin cfg2.N, win2_2.index t = ![0, t.val % 4, t.val / 4] := by decide +kernel
theorem blk2_2 (t : Fin cfg2.N) (a : Fin 2) (b : Fin 512) (d : Fin 1408) (i : Fin 2) (j : Fin 2048) (k : Fin 5632) (hi : i.val = a.val) (hj : j.val = t.val % 4 * 512 + b.val) (hk : k.val = t.val / 4 * 1408 + d.val) : in2_2 W c t (ix3 a b d) = W c main_v4_0 (ix3 i j k) :=
  congrArg (W c main_v4_0) (by blk_ext [at2_2, hi, hj, hk])

theorem at2_3 : ∀ t : Fin cfg2.N, win2_3.index t = ![0, t.val % 4, t.val / 4] := by decide +kernel
theorem out2_3 (V : S2x2048x5632.Idx → EReal)
    (hV : ∀ (t : Fin cfg2.N), ∀ (a : Fin 2) (b : Fin 512) (d : Fin 1408) (i : Fin 2) (j : Fin 2048) (k : Fin 5632), i.val = a.val → j.val = t.val % 4 * 512 + b.val → k.val = t.val / 4 * 1408 + d.val → (res2_0 (in2_0 W c t) (in2_1 W c t) (in2_2 W c t) (ix3 a b d) : EReal) = V (ix3 i j k)) :
    ((dat2 W c).arrAt 3 cfg2.N : Vec Ideal S2x2048x5632 .bf16) = V := by
  refine (dat2 W c).arrAt_eq_of_covers 3 _ (by decide +kernel) fun t hf y => ?_
  rw [left2_3]
  have hN : t.val < 16 := Nat.lt_of_lt_of_eq t.isLt N_2
  blk_simp
  idx_bounds y
  exact (congrArg (res2_0 (in2_0 W c t) (in2_1 W c t) (in2_2 W c t)) (eq_ix3 (n0 := 2) (n1 := 512) (n2 := 1408) y)).trans ((hV t (y 0) (y 1) (y 2) ⟨(y 0).val, by omega⟩ ⟨t.val % 4 * 512 + (y 1).val, by omega⟩ ⟨t.val / 4 * 1408 + (y 2).val, by omega⟩ rfl rfl rfl).trans (congrArg V (by blk_ext [at2_3])))

theorem at3_0 : ∀ t : Fin cfg3.N, win3_0.index t = ![0, t.val] := by decide +kernel
theorem blk3_0 (t : Fin cfg3.N) (a : Fin 2048) (b : Fin 512) (i : Fin 2048) (j : Fin 5632) (hi : i.val = a.val) (hj : j.val = t.val * 512 + b.val) : in3_0 W c t (ix2 a b) = W c main_v4_1 (ix2 i j) :=
  congrArg (W c main_v4_1) (by blk_ext [at3_0, hi, hj])

theorem at3_1 : ∀ t : Fin cfg3.N, win3_1.index t = ![0, 0] := by decide +kernel
theorem blk3_1 (t : Fin cfg3.N) (a : Fin 2048) (b : Fin 2048) (i : Fin 2048) (j : Fin 2048) (hi : i.val = a.val) (hj : j.val = b.val) : in3_1 W c t (ix2 a b) = W c main_v6 (ix2 i j) :=
  congrArg (W c main_v6) (by blk_ext [at3_1, hi, hj])

theorem at3_2 : ∀ t : Fin cfg3.N, win3_2.index t = ![t.val, 0] := by decide +kernel
theorem out3_2 (V : S5632x2048.Idx → EReal)
    (hV : ∀ (t : Fin cfg3.N), ∀ (a : Fin 512) (b : Fin 2048) (i : Fin 5632) (j : Fin 2048), i.val = t.val * 512 + a.val → j.val = b.val → (res3_0 (in3_0 W c t) (in3_1 W c t) (ix2 a b) : EReal) = V (ix2 i j)) :
    ((dat3 W c).arrAt 2 cfg3.N : Vec Ideal S5632x2048 .bf16) = V := by
  refine (dat3 W c).arrAt_eq_of_covers 2 _ (by decide +kernel) fun t hf y => ?_
  rw [left3_2]
  have hN : t.val < 11 := Nat.lt_of_lt_of_eq t.isLt N_3
  blk_simp
  idx_bounds y
  exact (congrArg (res3_0 (in3_0 W c t) (in3_1 W c t)) (eq_ix2 (n0 := 512) (n1 := 2048) y)).trans ((hV t (y 0) (y 1) ⟨t.val * 512 + (y 0).val, by omega⟩ ⟨(y 1).val, by omega⟩ rfl rfl).trans (congrArg V (by blk_ext [at3_2])))

theorem at4_0 : ∀ t : Fin cfg4.N, win4_0.index t = ![0, t.val % 4] := by decide +kernel
theorem blk4_0 (t : Fin cfg4.N) (a : Fin 2048) (b : Fin 512) (i : Fin 2048) (j : Fin 2048) (hi : i.val = a.val) (hj : j.val = t.val % 4 * 512 + b.val) : in4_0 W c t (ix2 a b) = W c main_v3 (ix2 i j) :=
  congrArg (W c main_v3) (by blk_ext [at4_0, hi, hj])

theorem at4_1 : ∀ t : Fin cfg4.N, win4_1.index t = ![t.val / 16, 0, t.val / 4 % 4] := by decide +kernel
theorem blk4_1 (t : Fin cfg4.N) (b : Fin 2048) (d : Fin 1408) (i : Fin 2) (j : Fin 2048) (k : Fin 5632) (hi : i.val = t.val / 16) (hj : j.val = b.val) (hk : k.val = t.val / 4 % 4 * 1408 + d.val) : in4_1 W c t (ix3 0 b d) = W c main_v7 (ix3 i j k) :=
  congrArg (W c main_v7) (by blk_ext [at4_1, hi, hj, hk])

theorem at4_2 : ∀ t : Fin cfg4.N, win4_2.index t = ![t.val / 4, t.val % 4, 0] := by decide +kernel
theorem out4_2 (V : S8x2048x1408.Idx → EReal)
    (hV : ∀ (t : Fin cfg4.N), ∀ (b : Fin 512) (d : Fin 1408) (i : Fin 8) (j : Fin 2048) (k : Fin 1408), i.val = t.val / 4 → j.val = t.val % 4 * 512 + b.val → k.val = d.val → (res4_0 (in4_0 W c t) (in4_1 W c t) (ix3 0 b d) : EReal) = V (ix3 i j k)) :
    ((dat4 W c).arrAt 2 cfg4.N : Vec Ideal S8x2048x1408 .bf16) = V := by
  refine (dat4 W c).arrAt_eq_of_covers 2 _ (by decide +kernel) fun t hf y => ?_
  rw [left4_2]
  have hN : t.val < 32 := Nat.lt_of_lt_of_eq t.isLt N_4
  blk_simp
  idx_bounds y
  exact (congrArg (res4_0 (in4_0 W c t) (in4_1 W c t)) (only3 (n1 := 512) (n2 := 1408) y)).trans ((hV t (y 1) (y 2) ⟨t.val / 4, by omega⟩ ⟨t.val % 4 * 512 + (y 1).val, by omega⟩ ⟨(y 2).val, by omega⟩ rfl rfl rfl).trans (congrArg V (by blk_ext [at4_2])))

theorem at5_0 : ∀ t : Fin cfg5.N, win5_0.index t = ![0, t.val / 8, t.val % 4] := by decide +kernel
theorem blk5_0 (t : Fin cfg5.N) (b : Fin 1024) (d : Fin 1408) (i : Fin 2) (j : Fin 2048) (k : Fin 5632) (hi : i.val = 0) (hj : j.val = t.val / 8 * 1024 + b.val) (hk : k.val = t.val % 4 * 1408 + d.val) : in5_0 W c t (ix3 0 b d) = W c main_v7 (ix3 i j k) :=
  congrArg (W c main_v7) (by blk_ext [at5_0, hi, hj, hk])

theorem at5_1 : ∀ t : Fin cfg5.N, win5_1.index t = ![1, t.val / 8, t.val % 4] := by decide +kernel
theorem blk5_1 (t : Fin cfg5.N) (b : Fin 1024) (d : Fin 1408) (i : Fin 2) (j : Fin 2048) (k : Fin 5632) (hi : i.val = 1) (hj : j.val = t.val / 8 * 1024 + b.val) (hk : k.val = t.val % 4 * 1408 + d.val) : in5_1 W c t (ix3 0 b d) = W c main_v7 (ix3 i j k) :=
  congrArg (W c main_v7) (by blk_ext [at5_1, hi, hj, hk])

theorem at5_2 : ∀ t : Fin cfg5.N, win5_2.index t = ![t.val % 4, t.val / 4 % 2, 0] := by decide +kernel
theorem blk5_2 (t : Fin cfg5.N) (b : Fin 1024) (d : Fin 1408) (i : Fin 8) (j : Fin 2048) (k : Fin 1408) (hi : i.val = t.val % 4) (hj : j.val = t.val / 4 % 2 * 1024 + b.val) (hk : k.val = d.val) : in5_2 W c t (ix3 0 b d) = W c main_v2 (ix3 i j k) :=
  congrArg (W c main_v2) (by blk_ext [at5_2, hi, hj, hk])

theorem at5_3 : ∀ t : Fin cfg5.N, win5_3.index t = ![(t.val % 4 + 4), t.val / 4 % 2, 0] := by decide +kernel
theorem blk5_3 (t : Fin cfg5.N) (b : Fin 1024) (d : Fin 1408) (i : Fin 8) (j : Fin 2048) (k : Fin 1408) (hi : i.val = (t.val % 4 + 4)) (hj : j.val = t.val / 4 % 2 * 1024 + b.val) (hk : k.val = d.val) : in5_3 W c t (ix3 0 b d) = W c main_v2 (ix3 i j k) :=
  congrArg (W c main_v2) (by blk_ext [at5_3, hi, hj, hk])

theorem at5_4 : ∀ t : Fin cfg5.N, win5_4.index t = ![t.val / 8, t.val / 4 % 2] := by decide +kernel
theorem out5_4 (V : S2048x2048.Idx → EReal)
    (hV : ∀ (t : Fin cfg5.N), t.val % 4 = 3 → ∀ (a : Fin 1024) (b : Fin 1024) (i : Fin 2048) (j : Fin 2048), i.val = t.val / 8 * 1024 + a.val → j.val = t.val / 4 % 2 * 1024 + b.val → (sum5 W c t.val t.isLt (ix2 a b) : EReal) = V (ix2 i j)) :
    ((dat5 W c).arrAt 4 cfg5.N : Vec Ideal S2048x2048 .f32) = V := by
  refine (dat5 W c).arrAt_eq_of_covers 4 _ (by decide +kernel) fun t hf y => ?_
  rw [left5_4]
  have hN : t.val < 16 := Nat.lt_of_lt_of_eq t.isLt N_5
  blk_simp
  idx_bounds y
  exact (congrArg (sum5 W c t.val t.isLt) (eq_ix2 (n0 := 1024) (n1 := 1024) y)).trans ((hV t ((flush5_4 t).mp hf) (y 0) (y 1) ⟨t.val / 8 * 1024 + (y 0).val, by omega⟩ ⟨t.val / 4 % 2 * 1024 + (y 1).val, by omega⟩ rfl rfl).trans (congrArg V (by blk_ext [at5_4])))

theorem at6_0 : ∀ t : Fin cfg6.N, win6_0.index t = ![t.val, 0] := by decide +kernel
theorem blk6_0 (t : Fin cfg6.N) (a : Fin 256) (b : Fin 2048) (i : Fin 2048) (j : Fin 2048) (hi : i.val = t.val * 256 + a.val) (hj : j.val = b.val) : in6_0 W c t (ix2 a b) = W c main_arg0 (ix2 i j) :=
  congrArg (W c main_arg0) (by blk_ext [at6_0, hi, hj])

theorem at6_1 : ∀ t : Fin cfg6.N, win6_1.index t = ![t.val, 0] := by decide +kernel
theorem blk6_1 (t : Fin cfg6.N) (a : Fin 256) (b : Fin 2048) (i : Fin 2048) (j : Fin 2048) (hi : i.val = t.val * 256 + a.val) (hj : j.val = b.val) : in6_1 W c t (ix2 a b) = W c main_v10 (ix2 i j) :=
  congrArg (W c main_v10) (by blk_ext [at6_1, hi, hj])

theorem at6_2 : ∀ t : Fin cfg6.N, win6_2.index t = ![t.val, 0] := by decide +kernel
theorem blk6_2 (t : Fin cfg6.N) (a : Fin 256) (b : Fin 2048) (i : Fin 2048) (j : Fin 2048) (hi : i.val = t.val * 256 + a.val) (hj : j.val = b.val) : in6_2 W c t (ix2 a b) = W c main_arg4 (ix2 i j) :=
  congrArg (W c main_arg4) (by blk_ext [at6_2, hi, hj])

theorem at6_3 : ∀ t : Fin cfg6.N, win6_3.index t = ![0, 0] := by decide +kernel
theorem blk6_3 (t : Fin cfg6.N) (b : Fin 2048) (i : Fin 1) (j : Fin 2048) (hi : i.val = 0) (hj : j.val = b.val) : in6_3 W c t (ix2 0 b) = W c main_arg1 (ix2 i j) :=
  congrArg (W c main_arg1) (by blk_ext [at6_3, hi, hj])

theorem at6_4 : ∀ t : Fin cfg6.N, win6_4.index t = ![t.val, 0] := by decide +kernel
theorem out6_4 (V : S2048x2048.Idx → EReal)
    (hV : ∀ (t : Fin cfg6.N), ∀ (a : Fin 256) (b : Fin 2048) (i : Fin 2048) (j : Fin 2048), i.val = t.val * 256 + a.val → j.val = b.val → (res6_0 (in6_0 W c t) (in6_1 W c t) (in6_2 W c t) (in6_3 W c t) (ix2 a b) : EReal) = V (ix2 i j)) :
    ((dat6 W c).arrAt 4 cfg6.N : Vec Ideal S2048x2048 .f32) = V := by
  refine (dat6 W c).arrAt_eq_of_covers 4 _ (by decide +kernel) fun t hf y => ?_
  rw [left6_4]
  have hN : t.val < 8 := Nat.lt_of_lt_of_eq t.isLt N_6
  blk_simp
  idx_bounds y
  exact (congrArg (res6_0 (in6_0 W c t) (in6_1 W c t) (in6_2 W c t) (in6_3 W c t)) (eq_ix2 (n0 := 256) (n1 := 2048) y)).trans ((hV t (y 0) (y 1) ⟨t.val * 256 + (y 0).val, by omega⟩ ⟨(y 1).val, by omega⟩ rfl rfl).trans (congrArg V (by blk_ext [at6_4])))

theorem at6_6 : ∀ t : Fin cfg6.N, win6_6.index t = ![0, 0] := by decide +kernel
theorem out6_6 (V : S1x2048.Idx → EReal)
    (hV : ∀ (t : Fin cfg6.N), t.val % 8 = 7 → ∀ (b : Fin 2048) (i : Fin 1) (j : Fin 2048), i.val = 0 → j.val = b.val → (sum6 W c t.val t.isLt (ix2 0 b) : EReal) = V (ix2 i j)) :
    ((dat6 W c).arrAt 6 cfg6.N : Vec Ideal S1x2048 .f32) = V := by
  refine (dat6 W c).arrAt_eq_of_covers 6 _ (by decide +kernel) fun t hf y => ?_
  rw [left6_6]
  have hN : t.val < 8 := Nat.lt_of_lt_of_eq t.isLt N_6
  blk_simp
  idx_bounds y
  exact (congrArg (sum6 W c t.val t.isLt) (only2 (n1 := 2048) y)).trans ((hV t ((flush6_6 t).mp hf) (y 1) ⟨0, by omega⟩ ⟨(y 1).val, by omega⟩ rfl rfl).trans (congrArg V (by blk_ext [at6_6])))

theorem at7_0 : ∀ t : Fin cfg7.N, win7_0.index t = ![t.val / 4, 0] := by decide +kernel
theorem blk7_0 (t : Fin cfg7.N) (a : Fin 1024) (b : Fin 5632) (i : Fin 2048) (j : Fin 5632) (hi : i.val = t.val / 4 * 1024 + a.val) (hj : j.val = b.val) : in7_0 W c t (ix2 a b) = W c main_v4_1 (ix2 i j) :=
  congrArg (W c main_v4_1) (by blk_ext [at7_0, hi, hj])

theorem at7_1 : ∀ t : Fin cfg7.N, win7_1.index t = ![0, t.val % 4] := by decide +kernel
theorem blk7_1 (t : Fin cfg7.N) (a : Fin 5632) (b : Fin 512) (i : Fin 5632) (j : Fin 2048) (hi : i.val = a.val) (hj : j.val = t.val % 4 * 512 + b.val) : in7_1 W c t (ix2 a b) = W c main_v5 (ix2 i j) :=
  congrArg (W c main_v5) (by blk_ext [at7_1, hi, hj])

theorem at7_2 : ∀ t : Fin cfg7.N, win7_2.index t = ![t.val / 4, t.val % 4] := by decide +kernel
theorem blk7_2 (t : Fin cfg7.N) (a : Fin 1024) (b : Fin 512) (i : Fin 2048) (j : Fin 2048) (hi : i.val = t.val / 4 * 1024 + a.val) (hj : j.val = t.val % 4 * 512 + b.val) : in7_2 W c t (ix2 a b) = W c main_arg0 (ix2 i j) :=
  congrArg (W c main_arg0) (by blk_ext [at7_2, hi, hj])

theorem at7_3 : ∀ t : Fin cfg7.N, win7_3.index t = ![t.val / 4, t.val % 4] := by decide +kernel
theorem out7_3 (V : S2048x2048.Idx → EReal)
    (hV : ∀ (t : Fin cfg7.N), ∀ (a : Fin 1024) (b : Fin 512) (i : Fin 2048) (j : Fin 2048), i.val = t.val / 4 * 1024 + a.val → j.val = t.val % 4 * 512 + b.val → (res7_0 (in7_0 W c t) (in7_1 W c t) (in7_2 W c t) (ix2 a b) : EReal) = V (ix2 i j)) :
    ((dat7 W c).arrAt 3 cfg7.N : Vec Ideal S2048x2048 .f32) = V := by
  refine (dat7 W c).arrAt_eq_of_covers 3 _ (by decide +kernel) fun t hf y => ?_
  rw [left7_3]
  have hN : t.val < 8 := Nat.lt_of_lt_of_eq t.isLt N_7
  blk_simp
  idx_bounds y
  exact (congrArg (res7_0 (in7_0 W c t) (in7_1 W c t) (in7_2 W c t)) (eq_ix2 (n0 := 1024) (n1 := 512) y)).trans ((hV t (y 0) (y 1) ⟨t.val / 4 * 1024 + (y 0).val, by omega⟩ ⟨t.val % 4 * 512 + (y 1).val, by omega⟩ rfl rfl).trans (congrArg V (by blk_ext [at7_3])))

end Cert.Kernel2Ideal.Hand

end
-- ==== Proof.FfnVal.lean ====
/-
  The arrays of the feed-forward gradient, call by call: each is the plain sum it is named after.
-/
module

public import proofs.«01_k».proof.Proof.FfnArr
public import Idealize.ShloMosaic.Lib.StableHlo.Run

@[expose] public section

set_option maxRecDepth 16384

noncomputable section

namespace Cert.Kernel2Ideal.Hand

open Idealize.ShloMosaic Idealize.ShloMosaic.TcCoe Idealize.SL.Sem Idealize.ShloMosaic.Pointwise Idealize.ShloMosaic.Pipeline
open Cert.Kernel2Ideal Cert.Kernel2Ideal.Gen Cert.Ffn

variable (m : (ℓ : Loc nD τ sig) → Buf (Elt Ideal) ℓ) (c : Dev nD)

/-- The five arguments at launch. -/
abbrev aH : (⟨2, ![2048, 2048]⟩ : Shape).Idx → EReal := m (c.tc.loc main_arg0)
abbrev aG : (⟨2, ![1, 2048]⟩ : Shape).Idx → EReal := m (c.tc.loc main_arg1)
abbrev aI : (⟨2, ![2048, 11264]⟩ : Shape).Idx → EReal := m (c.tc.loc main_arg2)
abbrev aO : (⟨2, ![5632, 2048]⟩ : Shape).Idx → EReal := m (c.tc.loc main_arg3)
abbrev aD : (⟨2, ![2048, 2048]⟩ : Shape).Idx → EReal := m (c.tc.loc main_arg4)

/-- Column `f` of block `j` of the first weights. -/
def col (j : Fin 8) (f : Fin 1408) : Fin 11264 := ⟨1408 * j.val + f.val, by omega⟩

/-! ## The arrays the host prepares -/

theorem v2_at (j : Fin 8) (d : Fin 2048) (f : Fin 1408) : (W1 m c main_v2 : Vec Ideal S8x2048x1408 .bf16) (ix3 j d f) = aI m c (ix2 d (col j f)) := by
  unfold W1
  after_results
  pointwise
  refine congrArg (aI m c) ?_
  rw [ix2_inj]
  refine ⟨rfl, Fin.ext ?_⟩
  show j.val * 1408 + f.val = 1408 * j.val + f.val
  omega
theorem v5_at (f : Fin 5632) (d : Fin 2048) : (W4 m c main_v5 : Vec Ideal S5632x2048 .bf16) (ix2 f d) = aO m c (ix2 f d) := by
  unfold W4
  after_results
  pointwise
  rfl
theorem v6_at (i d : Fin 2048) : (W4 m c main_v6 : Vec Ideal S2048x2048 .bf16) (ix2 i d) = aD m c (ix2 i d) := by
  unfold W4
  after_results
  pointwise
  rfl

/-! ## Where the arrays come from -/

theorem W_arg0 : (W1 m c main_arg0 : S2048x2048.Idx → EReal) = aH m c := W1_of m c _ (by decide)
theorem W_arg1 : (W1 m c main_arg1 : S1x2048.Idx → EReal) = aG m c := W1_of m c _ (by decide)
theorem W2_v2 : W2 m c main_v2 = W1 m c main_v2 := W2_of m c _ (by decide)
theorem W4_v4_0 : W4 m c main_v4_0 = W3 m c main_v4_0 := W4_of m c _ (by decide)
theorem W5_v4_1 : W5 m c main_v4_1 = W3 m c main_v4_1 := (W5_of m c _ (by decide)).trans (W4_of m c _ (by decide))
theorem W5_v6 : W5 m c main_v6 = W4 m c main_v6 := W5_of m c _ (by decide)
theorem W6_v3 : W6 m c main_v3 = W2 m c main_v3 :=
  (W6_of m c _ (by decide)).trans <| (W5_of m c _ (by decide)).trans <| (W4_of m c _ (by decide)).trans (W3_of m c _ (by decide))
theorem W6_v7 : W6 m c main_v7 = W5 m c main_v7 := W6_of m c _ (by decide)
theorem W7_v7 : W7 m c main_v7 = W5 m c main_v7 := (W7_of m c _ (by decide)).trans (W6_v7 m c)
theorem W7_v2 : W7 m c main_v2 = W1 m c main_v2 :=
  (W7_of m c _ (by decide)).trans <| (W6_of m c _ (by decide)).trans <| (W5_of m c _ (by decide)).trans <| (W4_of m c _ (by decide)).trans <| (W3_of m c _ (by decide)).trans (W2_v2 m c)
theorem W8_arg (r : Ref sig .tc) (h : r = main_arg0 ∨ r = main_arg1 ∨ r = main_arg4) : W8 m c r = m (c, r) := by
  rcases h with rfl | rfl | rfl <;>
  exact (W9_of m c _ (by decide)).symm.trans ((W10_of m c _ (by decide)).symm.trans (kept m c _ (by decide)))

/-! ## The forward calls -/

theorem v3_at (i d : Fin 2048) : (W2 m c main_v3 : Vec Ideal S2048x2048 .bf16) (ix2 i d) = hn (aH m c) (aG m c) i d := by
  refine congrFun ((W2_v3 m c).trans (out0_2 (W1 m) c (fun x => hn (aH m c) (aG m c) (x 0) (x 1)) (fun t a b i j hi hj => ?_))) (ix2 i d)
  obtain rfl : j = b := Fin.ext hj
  have e0 : ∀ d, (in0_0 (W1 m) c t (ix2 a d) : EReal) = aH m c (ix2 i d) := fun d => (blk0_0 (W1 m) c t a d i d hi rfl).trans (congrFun (W_arg0 m c) _)
  have e1 : (in0_1 (W1 m) c t (ix2 0 j) : EReal) = aG m c (ix2 0 j) := (blk0_1 (W1 m) c t j 0 j rfl rfl).trans (congrFun (W_arg1 m c) _)
  refine (pay0_at _ _ a j).trans ?_
  simp only [e0, e1]
  rfl

/-- A row of the normalised input times a column of a weight block. -/
theorem rc1_at (t : Fin cfg1.N) (a : Fin 256) (b : Fin 1408) (i : Fin 2048) (hi : i.val = t.val % 8 * 256 + a.val) (x : Vec Ideal S1x2048x1408 .bf16) (q : Fin 8)
    (hx : ∀ d, (x (ix3 0 d b) : EReal) = aI m c (ix2 d (col q b))) :
    rc (in1_0 (W2 m) c t) a b x = pre (aH m c) (aG m c) (aI m c) i (col q b) := by
  unfold rc pre
  refine Finset.sum_congr rfl fun d _ => ?_
  rw [hx d]
  refine congrArg (· * aI m c (ix2 d (col q b))) ?_
  exact (blk1_0 (W2 m) c t a d i d hi rfl).trans (v3_at m c i d)
theorem lt1 (t : Fin cfg1.N) : t.val < 32 := Nat.lt_of_lt_of_eq t.isLt N_1
theorem gate1_at (t : Fin cfg1.N) (a : Fin 256) (b : Fin 1408) (i : Fin 2048) (hi : i.val = t.val % 8 * 256 + a.val) (f : Fin 5632) (hf : f.val = t.val / 8 * 1408 + b.val) :
    rc (in1_0 (W2 m) c t) a b (in1_1 (W2 m) c t) = gate (aH m c) (aG m c) (aI m c) i f := by
  have ht := lt1 t
  rw [rc1_at m c t a b i hi _ ⟨t.val / 8, by omega⟩ (fun d => (blk1_1 (W2 m) c t d b ⟨t.val / 8, by omega⟩ d b rfl rfl rfl).trans ((congrFun (W2_v2 m c) _).trans (v2_at m c _ d b)))]
  exact congrArg (pre _ _ _ i) (Fin.ext (show 1408 * (t.val / 8) + b.val = f.val by omega))
theorem up1_at (t : Fin cfg1.N) (a : Fin 256) (b : Fin 1408) (i : Fin 2048) (hi : i.val = t.val % 8 * 256 + a.val) (f : Fin 5632) (hf : f.val = t.val / 8 * 1408 + b.val) :
    rc (in1_0 (W2 m) c t) a b (in1_2 (W2 m) c t) = up (aH m c) (aG m c) (aI m c) i f := by
  have ht := lt1 t
  rw [rc1_at m c t a b i hi _ ⟨t.val / 8 + 4, by omega⟩ (fun d => (blk1_2 (W2 m) c t d b ⟨t.val / 8 + 4, by omega⟩ d b rfl rfl rfl).trans ((congrFun (W2_v2 m c) _).trans (v2_at m c _ d b)))]
  exact congrArg (pre _ _ _ i) (Fin.ext (show 1408 * (t.val / 8 + 4) + b.val = 5632 + f.val by omega))

theorem v4_at (p : Fin 2) (i : Fin 2048) (f : Fin 5632) : (W3 m c main_v4_0 : Vec Ideal S2x2048x5632 .bf16) (ix3 p i f)
    = if p.val = 0 then slope0 (aH m c) (aG m c) (aI m c) i f else slope1 (aH m c) (aG m c) (aI m c) i f := by
  refine congrFun ((W3_v4_0 m c).trans (out1_3 (W2 m) c (fun x => if (x 0).val = 0 then slope0 (aH m c) (aG m c) (aI m c) (x 1) (x 2) else slope1 (aH m c) (aG m c) (aI m c) (x 1) (x 2)) (fun t a b d i j k hi hj hk => ?_))) (ix3 p i f)
  obtain rfl : i = a := Fin.ext hi
  show _ = if i.val = 0 then _ else _
  unfold res1_0 both
  show (if i.val = 0 then _ else _) = _
  by_cases h : i.val = 0
  · rw [if_pos h, if_pos h]
    refine (pay1a_at _ _ _ b d).trans ?_
    rw [gate1_at m c t b d j hj k hk, up1_at m c t b d j hj k hk]
    rfl
  · rw [if_neg h, if_neg h]
    refine (pay1b_at _ _ b d).trans ?_
    rw [gate1_at m c t b d j hj k hk]
    rfl
theorem v4b_at (i : Fin 2048) (f : Fin 5632) : (W3 m c main_v4_1 : Vec Ideal S2048x5632 .bf16) (ix2 i f) = act (aH m c) (aG m c) (aI m c) i f := by
  refine congrFun ((W3_v4_1 m c).trans (out1_4 (W2 m) c (fun x => act (aH m c) (aG m c) (aI m c) (x 0) (x 1)) (fun t a b i j hi hj => ?_))) (ix2 i f)
  show _ = act _ _ _ i j
  unfold res1_1
  refine (pay1c_at _ _ _ a b).trans ?_
  rw [gate1_at m c t a b i hi j hj, up1_at m c t a b i hi j hj]
  rfl

/-! ## The backward calls -/

theorem lt2 (t : Fin cfg2.N) : t.val < 16 := Nat.lt_of_lt_of_eq t.isLt N_2
theorem dact2_at (t : Fin cfg2.N) (b : Fin 512) (d : Fin 1408) (j : Fin 2048) (hj : j.val = t.val % 4 * 512 + b.val) (k : Fin 5632) (hk : k.val = t.val / 4 * 1408 + d.val) :
    half * (∑ e : Fin 2048, ((in2_0 (W4 m) c t) (ix2 b e) * (in2_1 (W4 m) c t) (ix2 d e) : EReal)) = dact (aO m c) (aD m c) j k := by
  unfold dact
  refine congrArg (half * ·) (Finset.sum_congr rfl fun e _ => congrArg₂ (· * ·) ?_ ?_)
  · exact (blk2_0 (W4 m) c t b e j e hj rfl).trans (v6_at m c j e)
  · exact (blk2_1 (W4 m) c t d e k e hk rfl).trans (v5_at m c k e)
theorem v7_at (p : Fin 2) (i : Fin 2048) (f : Fin 5632) : (W5 m c main_v7 : Vec Ideal S2x2048x5632 .bf16) (ix3 p i f)
    = if p.val = 0 then dgate (aH m c) (aG m c) (aI m c) (aO m c) (aD m c) i f else dup (aH m c) (aG m c) (aI m c) (aO m c) (aD m c) i f := by
  refine congrFun ((W5_v7 m c).trans (out2_3 (W4 m) c (fun x => if (x 0).val = 0 then dgate (aH m c) (aG m c) (aI m c) (aO m c) (aD m c) (x 1) (x 2) else dup (aH m c) (aG m c) (aI m c) (aO m c) (aD m c) (x 1) (x 2)) (fun t a b d i j k hi hj hk => ?_))) (ix3 p i f)
  obtain rfl : i = a := Fin.ext hi
  show _ = if i.val = 0 then _ else _
  have e : ∀ q : Fin 2, (in2_2 (W4 m) c t (ix3 q b d) : EReal) = if q.val = 0 then slope0 (aH m c) (aG m c) (aI m c) j k else slope1 (aH m c) (aG m c) (aI m c) j k := fun q =>
    (blk2_2 (W4 m) c t q b d q j k rfl hj hk).trans ((congrFun (W4_v4_0 m c) _).trans (v4_at m c q j k))
  unfold res2_0 both
  show (if i.val = 0 then _ else _) = _
  by_cases h : i.val = 0
  · rw [if_pos h, if_pos h]
    refine (pay2a_at _ _ _ b d).trans ?_
    rw [dact2_at m c t b d j hj k hk]
    refine congrArg (dact (aO m c) (aD m c) j k * ·) (Eq.trans ?_ (e 0))
    refine congrArg (in2_2 (W4 m) c t) (funext fun x => ?_)
    fin_cases x
    · rfl
    · exact Fin.ext (show 0 + 1 * b.val = b.val by omega)
    · exact Fin.ext (show 0 + 1 * d.val = d.val by omega)
  · rw [if_neg h, if_neg h]
    refine (pay2b_at _ _ _ b d).trans ?_
    rw [dact2_at m c t b d j hj k hk]
    refine congrArg (dact (aO m c) (aD m c) j k * ·) (Eq.trans ?_ (e 1))
    refine congrArg (in2_2 (W4 m) c t) (funext fun x => ?_)
    fin_cases x
    · rfl
    · exact Fin.ext (show 0 + 1 * b.val = b.val by omega)
    · exact Fin.ext (show 0 + 1 * d.val = d.val by omega)

/-- The gradient of the second product's weights. -/
theorem v8_eq : ((dat3 (W5 m) c).arrAt 2 cfg3.N : Vec Ideal S5632x2048 .bf16) = fun x => gradWo (aH m c) (aG m c) (aI m c) (aD m c) (x 0) (x 1) := by
  refine out3_2 (W5 m) c _ fun t a b i j hi hj => ?_
  obtain rfl : j = b := Fin.ext hj
  show _ = gradWo _ _ _ _ i j
  refine (pay3_at _ _ a j).trans ?_
  unfold gradWo
  refine congrArg (· * half) (Finset.sum_congr rfl fun e _ => congrArg₂ (· * ·) ?_ ?_)
  · exact (blk3_0 (W5 m) c t e a e i rfl hi).trans ((congrFun (W5_v4_1 m c) _).trans (v4b_at m c e i))
  · exact (blk3_1 (W5 m) c t e j e j rfl rfl).trans ((congrFun (W5_v6 m c) _).trans (v6_at m c e j))

/-- Where plane `p` and column `k` of the gated product's gradient lie among all columns. -/
theorem dpre_at (i : Fin 2048) (p : Fin 2) (k : Fin 5632) (n : Fin 11264) (h : n.val = 5632 * p.val + k.val) :
    (W5 m c main_v7 : Vec Ideal S2x2048x5632 .bf16) (ix3 p i k) = dpre (aH m c) (aG m c) (aI m c) (aO m c) (aD m c) i n := by
  rw [v7_at]
  unfold dpre
  by_cases hp : p.val = 0
  · rw [if_pos hp, dif_pos (by omega)]
    exact congrArg _ (Fin.ext (by simp only; omega))
  · rw [if_neg hp, dif_neg (by omega)]
    exact congrArg _ (Fin.ext (by simp only; omega))

theorem lt4 (t : Fin cfg4.N) : t.val < 32 := Nat.lt_of_lt_of_eq t.isLt N_4
/-- The gradient of the first product's weights, in blocks of columns. -/
theorem v9_eq : ((dat4 (W6 m) c).arrAt 2 cfg4.N : Vec Ideal S8x2048x1408 .bf16) = fun x => gradWi (aH m c) (aG m c) (aI m c) (aO m c) (aD m c) (x 1) (col (x 0) (x 2)) := by
  refine out4_2 (W6 m) c _ fun t b d i j k hi hj hk => ?_
  obtain rfl : k = d := Fin.ext hk
  show _ = gradWi _ _ _ _ _ j (col i k)
  have ht := lt4 t
  refine (pay4_at _ _ b k).trans ?_
  unfold gradWi
  refine Finset.sum_congr rfl fun e _ => congrArg₂ (· * ·) ?_ ?_
  · exact (blk4_0 (W6 m) c t e b e j rfl hj).trans ((congrFun (W6_v3 m c) _).trans (v3_at m c e j))
  · refine (blk4_1 (W6 m) c t e k ⟨t.val / 16, by omega⟩ e ⟨t.val / 4 % 4 * 1408 + k.val, by omega⟩ rfl rfl rfl).trans ((congrFun (W6_v7 m c) _).trans (dpre_at m c e _ _ (col i k) ?_))
    show 1408 * i.val + k.val = 5632 * (t.val / 16) + (t.val / 4 % 4 * 1408 + k.val)
    omega

/-! The gradient of the normalised input: eight blocks of columns, two at a grid point. -/

/-- What block `q` of the columns adds to an entry. -/
def part (i d : Fin 2048) (q : Fin 8) : EReal := ∑ f : Fin 1408, dpre (aH m c) (aG m c) (aI m c) (aO m c) (aD m c) i (col q f) * aI m c (ix2 d (col q f))
theorem parts (i d : Fin 2048) : ∑ q, part m c i d q = dhn (aH m c) (aG m c) (aI m c) (aO m c) (aD m c) i d := by
  unfold dhn part
  rw [Fin.sum_univ_tiles 8 1408 (by norm_num : 8 * 1408 = 11264)]
  refine Finset.sum_congr rfl fun q _ => Finset.sum_congr rfl fun f _ => ?_
  have e : ∀ h, (⟨q.val * 1408 + f.val, h⟩ : Fin 11264) = col q f := fun h => Fin.ext (by show q.val * 1408 + f.val = 1408 * q.val + f.val; omega)
  rw [e]
theorem lt5 (t : Fin cfg5.N) : t.val < 16 := Nat.lt_of_lt_of_eq t.isLt N_5
theorem add5_at (t : Fin cfg5.N) (a b : Fin 1024) (i d : Fin 2048) (hi : i.val = t.val / 8 * 1024 + a.val) (hd : d.val = t.val / 4 % 2 * 1024 + b.val)
    (q q' : Fin 8) (hq : q.val = t.val % 4) (hq' : q'.val = t.val % 4 + 4) :
    add5 (in5_0 (W7 m) c t) (in5_1 (W7 m) c t) (in5_2 (W7 m) c t) (in5_3 (W7 m) c t) a b = part m c i d q + part m c i d q' := by
  have ht := lt5 t
  unfold add5 part
  refine congrArg₂ (· + ·) (Finset.sum_congr rfl fun f _ => congrArg₂ (· * ·) ?_ ?_) (Finset.sum_congr rfl fun f _ => congrArg₂ (· * ·) ?_ ?_)
  · refine (blk5_0 (W7 m) c t a f 0 i ⟨t.val % 4 * 1408 + f.val, by omega⟩ rfl hi rfl).trans ((congrFun (W7_v7 m c) _).trans (dpre_at m c i _ _ (col q f) ?_))
    show 1408 * q.val + f.val = 5632 * 0 + (t.val % 4 * 1408 + f.val)
    omega
  · exact (blk5_2 (W7 m) c t b f q d f hq hd rfl).trans ((congrFun (W7_v2 m c) _).trans (v2_at m c q d f))
  · refine (blk5_1 (W7 m) c t a f 1 i ⟨t.val % 4 * 1408 + f.val, by omega⟩ rfl hi rfl).trans ((congrFun (W7_v7 m c) _).trans (dpre_at m c i _ _ (col q' f) ?_))
    show 1408 * q'.val + f.val = 5632 * 1 + (t.val % 4 * 1408 + f.val)
    omega
  · exact (blk5_3 (W7 m) c t b f q' d f hq' hd rfl).trans ((congrFun (W7_v2 m c) _).trans (v2_at m c q' d f))
theorem sum5_at (t : Fin cfg5.N) (a b : Fin 1024) (i d : Fin 2048) (hi : i.val = t.val / 8 * 1024 + a.val) (hd : d.val = t.val / 4 % 2 * 1024 + b.val)
    (q q' : Fin 8) (hq : q.val = t.val % 4) (hq' : q'.val = t.val % 4 + 4) :
    (sum5 (W7 m) c t.val t.isLt (ix2 a b) : EReal)
      = (if t.val % 4 = 0 then 0 else (sum5 (W7 m) c (t.val - 1) (Nat.lt_of_le_of_lt (Nat.sub_le _ _) t.isLt) (ix2 a b) : EReal)) + (part m c i d q + part m c i d q') := by
  rw [← add5_at m c t a b i d hi hd q q' hq hq']
  by_cases h : t.val % 4 = 0
  · rw [if_pos h, zero_add, sum5_first (W7 m) c t h]
    exact pay5a_at _ _ _ _ a b
  · rw [if_neg h, sum5_later (W7 m) c t h]
    exact pay5b_at _ _ _ _ _ a b
theorem v10_at (i d : Fin 2048) : (W8 m c main_v10 : Vec Ideal S2048x2048 .f32) (ix2 i d) = dhn (aH m c) (aG m c) (aI m c) (aO m c) (aD m c) i d := by
  refine congrFun ((W8_v10 m c).trans (out5_4 (W7 m) c (fun x => dhn (aH m c) (aG m c) (aI m c) (aO m c) (aD m c) (x 0) (x 1)) (fun t hf a b i d hi hd => ?_))) (ix2 i d)
  show _ = dhn _ _ _ _ _ i d
  have ht := lt5 t
  rw [← parts, Fin.sum_univ_eight]
  have s3 := sum5_at m c t a b i d hi hd 3 7 (by show 3 = _; omega) (by show 7 = _; omega)
  have s2 := sum5_at m c ⟨t.val - 1, Nat.lt_of_le_of_lt (Nat.sub_le _ _) t.isLt⟩ a b i d (by simp only; omega) (by simp only; omega) 2 6 (by show 2 = (t.val - 1) % 4; omega) (by show 6 = (t.val - 1) % 4 + 4; omega)
  have s1 := sum5_at m c ⟨t.val - 1 - 1, by omega⟩ a b i d (by simp only; omega) (by simp only; omega) 1 5 (by show 1 = (t.val - 1 - 1) % 4; omega) (by show 5 = (t.val - 1 - 1) % 4 + 4; omega)
  have s0 := sum5_at m c ⟨t.val - 1 - 1 - 1, by omega⟩ a b i d (by simp only; omega) (by simp only; omega) 0 4 (by show 0 = (t.val - 1 - 1 - 1) % 4; omega) (by show 4 = (t.val - 1 - 1 - 1) % 4 + 4; omega)
  rw [if_neg (by omega)] at s3
  rw [if_neg (by simp only; omega)] at s2 s1
  rw [if_pos (by simp only; omega)] at s0
  rw [s3, s2, s1, s0]
  abel

/-! The last two calls: the block's output; the input's gradient and the gain's. -/

theorem W9_v4_1 : W9 m c main_v4_1 = W3 m c main_v4_1 :=
  (W9_of m c _ (by decide)).trans <| (W8_of m c _ (by decide)).trans <| (W7_of m c _ (by decide)).trans <| (W6_of m c _ (by decide)).trans (W5_v4_1 m c)
theorem W9_v5 : W9 m c main_v5 = W4 m c main_v5 :=
  (W9_of m c _ (by decide)).trans <| (W8_of m c _ (by decide)).trans <| (W7_of m c _ (by decide)).trans <| (W6_of m c _ (by decide)).trans (W5_of m c _ (by decide))
/-- The block's output. -/
theorem v12_eq : ((dat7 (W9 m) c).arrAt 3 cfg7.N : Vec Ideal S2048x2048 .f32) = fun x => outH (aH m c) (aG m c) (aI m c) (aO m c) (x 0) (x 1) := by
  refine out7_3 (W9 m) c _ fun t a b i j hi hj => ?_
  show _ = outH _ _ _ _ i j
  refine (pay7_at _ _ _ a b).trans ?_
  unfold outH
  refine congrArg₂ (· + ·) ?_ (congrArg (· * half) (Finset.sum_congr rfl fun e _ => congrArg₂ (· * ·) ?_ ?_))
  · exact (blk7_2 (W9 m) c t a b i j hi hj).trans (congrFun ((W10_of m c _ (by decide)).symm.trans (kept m c main_arg0 (by decide))) _)
  · exact (blk7_0 (W9 m) c t a e i e hi rfl).trans ((congrFun (W9_v4_1 m c) _).trans (v4b_at m c i e))
  · exact (blk7_1 (W9 m) c t e b e j rfl hj).trans ((congrFun (W9_v5 m c) _).trans (v5_at m c e j))

theorem lt6 (t : Fin cfg6.N) : t.val < 8 := Nat.lt_of_lt_of_eq t.isLt N_6
section Last
variable (t : Fin cfg6.N) (a : Fin 256) (i : Fin 2048) (hi : i.val = t.val * 256 + a.val) (d : Fin 2048)
include hi
theorem in60_at : (in6_0 (W8 m) c t (ix2 a d) : EReal) = aH m c (ix2 i d) :=
  (blk6_0 (W8 m) c t a d i d hi rfl).trans (congrFun (W8_arg m c main_arg0 (Or.inl rfl)) _)
theorem in61_at : (in6_1 (W8 m) c t (ix2 a d) : EReal) = dhn (aH m c) (aG m c) (aI m c) (aO m c) (aD m c) i d :=
  (blk6_1 (W8 m) c t a d i d hi rfl).trans (v10_at m c i d)
theorem in62_at : (in6_2 (W8 m) c t (ix2 a d) : EReal) = aD m c (ix2 i d) :=
  (blk6_2 (W8 m) c t a d i d hi rfl).trans (congrFun (W8_arg m c main_arg4 (Or.inr (Or.inr rfl))) _)
omit hi in
theorem in63_at : (in6_3 (W8 m) c t (ix2 0 d) : EReal) = aG m c (ix2 0 d) :=
  (blk6_3 (W8 m) c t d 0 d rfl rfl).trans (congrFun (W8_arg m c main_arg1 (Or.inr (Or.inl rfl))) _)
end Last

/-- The gradient of the block's input. -/
theorem v110_eq : ((dat6 (W8 m) c).arrAt 4 cfg6.N : Vec Ideal S2048x2048 .f32) = fun x => gradH (aH m c) (aG m c) (aI m c) (aO m c) (aD m c) (x 0) (x 1) := by
  refine out6_4 (W8 m) c _ fun t a b i j hi hj => ?_
  obtain rfl : j = b := Fin.ext hj
  show _ = gradH _ _ _ _ _ i j
  refine (pay6a_at _ _ _ _ a j).trans ?_
  simp only [in60_at m c t a i hi, in61_at m c t a i hi, in62_at m c t a i hi, in63_at m c t]
  rfl

/-- A row tile's share of the gain's gradient. -/
def tile6 (d : Fin 2048) (k : ℕ) : EReal := if hk : k < cfg6.N then (k6_pay6 (in6_0 (W8 m) c ⟨k, hk⟩) (in6_1 (W8 m) c ⟨k, hk⟩) (ix2 0 d) : EReal) else 0
theorem sum6_at (d : Fin 2048) : ∀ (n : ℕ) (h : n < cfg6.N), (sum6 (W8 m) c n h (ix2 0 d) : EReal) = ∑ k ∈ Finset.range (n + 1), tile6 m c d k := by
  intro n
  induction n with
  | zero =>
    intro h
    rw [Finset.sum_range_one]
    unfold tile6
    rw [dif_pos h]
    exact congrFun (sum6_first (W8 m) c ⟨0, h⟩ rfl) _
  | succ n ih =>
    intro h
    rw [Finset.sum_range_succ, ← ih (Nat.lt_of_succ_lt h)]
    unfold tile6
    rw [dif_pos h]
    exact (congrFun (sum6_later (W8 m) c ⟨n + 1, h⟩ (Nat.succ_ne_zero n)) _).trans (pay6c_at d _ _)
/-- The gradient of the gain. -/
theorem v112_eq : ((dat6 (W8 m) c).arrAt 6 cfg6.N : Vec Ideal S1x2048 .f32) = fun x => gradGain (aH m c) (aG m c) (aI m c) (aO m c) (aD m c) (x 1) := by
  refine out6_6 (W8 m) c _ fun t hf b i j hi hj => ?_
  obtain rfl : j = b := Fin.ext hj
  show _ = gradGain _ _ _ _ _ j
  have ht := lt6 t
  refine (sum6_at m c j t.val t.isLt).trans ?_
  rw [show t.val + 1 = 8 by omega, Finset.sum_range]
  unfold gradGain
  rw [Fin.sum_univ_tiles 8 256 (by norm_num : 8 * 256 = 2048)]
  refine Finset.sum_congr rfl fun k _ => ?_
  unfold tile6
  have hk : k.val < cfg6.N := Nat.lt_of_lt_of_eq k.isLt N_6.symm
  rw [dif_pos hk]
  refine (pay6b_at _ _ j).trans (Finset.sum_congr rfl fun e _ => ?_)
  simp only [in60_at m c ⟨k.val, hk⟩ e ⟨k.val * 256 + e.val, by omega⟩ rfl, in61_at m c ⟨k.val, hk⟩ e ⟨k.val * 256 + e.val, by omega⟩ rfl]

end Cert.Kernel2Ideal.Hand

end
-- ==== Proof.FfnRef.lean ====
/-
  The second reference program's four results, entry by entry: the feed-forward block's gradients as plain sums.
  With real gain, weights and cotangent the two spellings of the gate's gradient agree; the block's input may hold anything.
-/
module

public import proofs.«01_k».proof.Proof.FfnSpec
public import proofs.«01_k».proof.Proof.Target
public import proofs.«01_k».proof.Proof.Gen.Reference2Ideal.Run
public import proofs.«01_k».proof.Proof.Gen.Reference2Ideal.Read

@[expose] public section

set_option maxRecDepth 16384

noncomputable section

namespace Cert.Ffn

open Idealize.ShloMosaic Idealize.ShloMosaic.Pointwise Cert.Attn

theorem one_eq : Ideal.ofBits .f32 0x3F800000#32 = ((1 : ℝ) : EReal) := by
  show Ideal.ieee 8 23 (0x3F800000#32) = _
  unfold Ideal.ieee
  dsimp only
  rw [if_neg (by decide), if_neg (by decide), if_neg (by decide)]
  norm_num [Nat.shiftRight_eq_div_pow]
theorem n2048_eq : Ideal.ofBits .f32 0x45000000#32 = ((2048 : ℝ) : EReal) := by
  show Ideal.ieee 8 23 (0x45000000#32) = _
  unfold Ideal.ieee
  dsimp only
  rw [if_neg (by decide), if_neg (by decide), if_neg (by decide)]
  norm_num [Nat.shiftRight_eq_div_pow]
theorem inv2048_eq : inv2048 = (((2048 : ℝ)⁻¹ : ℝ) : EReal) := by
  show Ideal.ieee 8 23 (0x3A000000#32) = _
  unfold Ideal.ieee
  dsimp only
  rw [if_neg (by decide), if_neg (by decide), if_neg (by decide)]
  norm_num [Nat.shiftRight_eq_div_pow]
theorem half_eq : half = (((2 : ℝ)⁻¹ : ℝ) : EReal) := by
  show Ideal.ieee 8 23 (0x3F000000#32) = _
  unfold Ideal.ieee
  dsimp only
  rw [if_neg (by decide), if_neg (by decide), if_neg (by decide)]
  norm_num [Nat.shiftRight_eq_div_pow]
theorem epsN_pos : ∃ e : ℝ, 0 < e ∧ epsN = (e : EReal) := by
  show ∃ e : ℝ, 0 < e ∧ Ideal.ieee 8 23 (0x358637BD#32) = _
  unfold Ideal.ieee
  dsimp only
  rw [if_neg (by decide), if_neg (by decide)]
  rw [if_neg (by decide)]
  refine ⟨_, ?_, rfl⟩
  norm_num [Nat.shiftRight_eq_div_pow]

theorem div2048 (x : EReal) : Ideal.div x (Ideal.ofBits .f32 0x45000000#32) = x * inv2048 := by
  rw [n2048_eq, div_coe x 2048 (by norm_num), inv2048_eq]

/-- A square is at least zero. -/
theorem sq_nonneg' (x : EReal) : 0 ≤ x * x := by
  rcases le_total 0 x with h | h
  · exact mul_nonneg h h
  · rw [← neg_mul_neg]
    have h' : 0 ≤ -x := EReal.neg_nonneg.mpr h
    exact mul_nonneg h' h'

/-- An entry of a row times the row's reciprocal root is a real number, whatever the row holds. -/
theorem scaled_real (row : Fin 2048 → EReal) (d : Fin 2048) : ∃ r : ℝ, row d * rrt row = (r : EReal) := by
  obtain ⟨e, he, hE⟩ := epsN_pos
  have hS : 0 ≤ ∑ d, row d * row d := Finset.sum_nonneg fun d _ => sq_nonneg' (row d)
  have hd : row d * row d ≤ ∑ d, row d * row d := Finset.single_le_sum (f := fun d => row d * row d) (fun d _ => sq_nonneg' (row d)) (Finset.mem_univ d)
  unfold rrt msq
  rw [hE, inv2048_eq]
  by_cases ht : ∑ d, row d * row d = ⊤
  · rw [ht, EReal.top_mul_coe_of_pos (by norm_num), EReal.top_add_coe]
    exact ⟨0, by show row d * 0 = _; rw [mul_zero]; rfl⟩
  · obtain ⟨s, hs⟩ : ∃ s : ℝ, ∑ d, row d * row d = (s : EReal) :=
      ⟨_, (EReal.coe_toReal ht (fun hb => by rw [hb] at hS; exact absurd hS (by simp))).symm⟩
    have hs0 : 0 ≤ s := by rw [hs] at hS; exact EReal.coe_nonneg.mp hS
    rw [hs] at hd ⊢
    obtain ⟨x, hx⟩ : ∃ x : ℝ, row d = (x : EReal) := by
      refine ⟨_, (EReal.coe_toReal (x := row d) ?_ ?_).symm⟩
      · intro h; rw [h, EReal.top_mul_top] at hd; exact absurd hd (by simp)
      · intro h; rw [h, EReal.bot_mul_bot] at hd; exact absurd hd (by simp)
    rw [← EReal.coe_mul, ← EReal.coe_add, hx]
    have hp : 0 < s * 2048⁻¹ + e := by positivity
    refine ⟨x * (Real.sqrt (s * 2048⁻¹ + e))⁻¹, ?_⟩
    rw [EReal.coe_mul]
    refine congrArg _ ?_
    show (if s * 2048⁻¹ + e < 0 then (⊥ : EReal) else if s * 2048⁻¹ + e = 0 then ⊤ else _) = _
    rw [if_neg (not_lt.mpr hp.le), if_neg hp.ne']

theorem logistic_real (g : ℝ) : ∃ r : ℝ, Ideal.logistic (g : EReal) = (r : EReal) := by
  refine ⟨(1 + Real.exp (-g))⁻¹, ?_⟩
  have h : 0 < 1 + Real.exp (-g) := by positivity
  show Ideal.div 1 (1 + Ideal.exp (-(g : EReal))) = _
  rw [show Ideal.exp (-(g : EReal)) = ((Real.exp (-g) : ℝ) : EReal) from by rw [← EReal.coe_neg]; rfl,
    ← EReal.coe_one, ← EReal.coe_add, div_coe _ _ h, EReal.coe_one, one_mul]

section
variable (h : (⟨2, ![2048, 2048]⟩ : Shape).Idx → EReal) (gain : (⟨2, ![1, 2048]⟩ : Shape).Idx → EReal)
  (wi : (⟨2, ![2048, 11264]⟩ : Shape).Idx → EReal) (wo : (⟨2, ![5632, 2048]⟩ : Shape).Idx → EReal)
  (dh : (⟨2, ![2048, 2048]⟩ : Shape).Idx → EReal)

theorem hn_real (hg : AllReal gain) (i d : Fin 2048) : ∃ r : ℝ, hn h gain i d = (r : EReal) := mul_real (scaled_real (hrow h i) d) (hg _)
theorem pre_real (hg : AllReal gain) (hw : AllReal wi) (i : Fin 2048) (n : Fin 11264) : ∃ r : ℝ, pre h gain wi i n = (r : EReal) :=
  sum_real _ fun d => mul_real (hn_real h gain hg i d) (hw _)
theorem dact_real (hw : AllReal wo) (hd : AllReal dh) (i : Fin 2048) (f : Fin 5632) : ∃ r : ℝ, dact wo dh i f = (r : EReal) :=
  mul_real ⟨_, half_eq⟩ (sum_real _ fun d => mul_real (hd _) (hw _))

/-- The two spellings of the gate's gradient. -/
theorem dgate_eq (hg : AllReal gain) (hwi : AllReal wi) (hwo : AllReal wo) (hd : AllReal dh) (i : Fin 2048) (f : Fin 5632) :
    dact wo dh i f * up h gain wi i f * Ideal.logistic (gate h gain wi i f)
      + gate h gain wi i f * (dact wo dh i f * up h gain wi i f) * (Ideal.logistic (gate h gain wi i f) * (one - Ideal.logistic (gate h gain wi i f)))
      = dgate h gain wi wo dh i f := by
  obtain ⟨a, ha⟩ := dact_real wo dh hwo hd i f
  obtain ⟨u, hu⟩ : ∃ r : ℝ, up h gain wi i f = (r : EReal) := pre_real h gain wi hg hwi i _
  obtain ⟨g, hgg⟩ : ∃ r : ℝ, gate h gain wi i f = (r : EReal) := pre_real h gain wi hg hwi i _
  unfold dgate slope0 dsilu
  rw [ha, hu, hgg]
  obtain ⟨s, hs⟩ := logistic_real g
  rw [hs, show one = ((1 : ℝ) : EReal) from one_eq]
  simp only [← EReal.coe_mul, ← EReal.coe_add, ← EReal.coe_sub]
  exact congrArg _ (by ring)
end

end Cert.Ffn

namespace Cert.Reference2Ideal.Hand

open Idealize.ShloMosaic Idealize.ShloMosaic.TcCoe Idealize.SL.Sem Idealize.ShloMosaic.Pointwise
open Cert.Reference2Ideal Cert.Reference2Ideal.Gen Cert.Reference2Ideal.Read Cert.Attn Cert.Ffn

variable (h : Vec Ideal S2048x2048 .f32) (gain : Vec Ideal S1x2048 .f32) (wi : Vec Ideal S2048x11264 .f32)
  (wo : Vec Ideal S5632x2048 .f32) (dh : Vec Ideal S2048x2048 .f32)

theorem v7_at (i : Fin 2048) : val_main_v7 (F := Ideal) h (ix2 i 0) = msq (hrow h i) := by
  unfold val_main_v7 val_main_v6 val_main_cst_1 val_main_v5 val_main_v4 val_main_cst_0 val_main_v3 val_main_v2 val_main_v1 val_main_cst
  pointwise
  rw [div2048]
  rfl
theorem v8_at (i : Fin 2048) : val_main_v8 (F := Ideal) h (ix2 i 0) = rrt (hrow h i) := by
  unfold val_main_v8
  pointwise
  rw [v7_at]
  rfl
theorem v11_at (i : Fin 2048) : val_main_v11 (F := Ideal) h (ix2 i 0) = mhalf * Ideal.div (rrt (hrow h i)) (msq (hrow h i)) := by
  unfold val_main_v11 val_main_v10 val_main_cst_2 val_main_v9
  pointwise
  rw [v7_at, v8_at]
  rfl
theorem v13_at (i d : Fin 2048) : val_main_v13 (F := Ideal) h (ix2 i d) = h (ix2 i d) * rrt (hrow h i) := by
  unfold val_main_v13 val_main_v12
  pointwise
  rw [v8_at]
theorem v16_at (i d : Fin 2048) : val_main_v16 (F := Ideal) h gain (ix2 i d) = hn h gain i d := by
  unfold val_main_v16 val_main_v15 val_main_v14 val_main_v0
  pointwise
  rw [v13_at]
  rfl
theorem v17_at (i : Fin 2048) (n : Fin 11264) : val_main_v17 (F := Ideal) h gain wi (ix2 i n) = pre h gain wi i n := by
  unfold val_main_v17
  pointwise
  simp only [v16_at]
  rfl
theorem v18_at (i : Fin 2048) (f : Fin 5632) : val_main_v18 (F := Ideal) h gain wi (ix2 i f) = gate h gain wi i f := by
  rw [val_main_v18_apply]
  exact (congrArg _ (eq_ix2 (n0 := 2048) (n1 := 11264) _)).trans (v17_at h gain wi i (lo f))
theorem v19_at (i : Fin 2048) (f : Fin 5632) : val_main_v19 (F := Ideal) h gain wi (ix2 i f) = up h gain wi i f := by
  rw [val_main_v19_apply]
  exact (congrArg _ (eq_ix2 (n0 := 2048) (n1 := 11264) _)).trans (v17_at h gain wi i (hi f))
theorem v20_2_at (i : Fin 2048) (f : Fin 5632) : val_main_v20_2 (F := Ideal) h gain wi (ix2 i f) = Ideal.logistic (gate h gain wi i f) := by
  unfold val_main_v20_2 val_main_call0_v4 val_main_call0_cst_0 val_main_call0_v3 val_main_call0_v2 val_main_call0_cst val_main_call0_v1 val_main_call0_v0
  pointwise
  rw [v18_at]
  rfl
theorem v20_1_at (i : Fin 2048) (f : Fin 5632) : val_main_v20_1 (F := Ideal) h gain wi (ix2 i f)
    = Ideal.logistic (gate h gain wi i f) * (one - Ideal.logistic (gate h gain wi i f)) := by
  unfold val_main_v20_1 val_main_call0_v7 val_main_call0_v6 val_main_call0_cst_1
  pointwise
  rw [v20_2_at, show one = 1 from one_eq]
theorem v20_0_at (i : Fin 2048) (f : Fin 5632) : val_main_v20_0 (F := Ideal) h gain wi (ix2 i f) = slope1 h gain wi i f := by
  unfold val_main_v20_0
  pointwise
  rw [v18_at, v20_2_at]
  rfl
theorem v21_at (i : Fin 2048) (f : Fin 5632) : val_main_v21 (F := Ideal) h gain wi (ix2 i f) = act h gain wi i f := by
  unfold val_main_v21
  pointwise
  rw [v20_0_at, v19_at]
  rfl
theorem v25_at (i d : Fin 2048) : val_main_v25 (F := Ideal) h gain wi wo (ix2 i d) = outH h gain wi wo i d := by
  unfold val_main_v25 val_main_v24 val_main_v23 val_main_cst_3 val_main_v22
  pointwise
  simp only [v21_at]
  unfold outH
  rw [mul_comm]
  rfl
theorem v28_at (i d : Fin 2048) : val_main_v28 (F := Ideal) dh (ix2 i d) = half * dh (ix2 i d) := by
  unfold val_main_v28 val_main_v27 val_main_cst_4 val_main_v26
  pointwise
  rfl
theorem v64_at (f : Fin 5632) (d : Fin 2048) : val_main_v64 (F := Ideal) h gain wi dh (ix2 f d) = gradWo h gain wi dh f d := by
  unfold val_main_v64 val_main_v30 val_main_v29
  pointwise
  simp only [v28_at, v21_at]
  unfold gradWo
  rw [mul_comm, half_eq, mul_sum_coe _ (by positivity)]
  exact Finset.sum_congr rfl fun t _ => by rw [mul_assoc, mul_comm (dh _)]
theorem v31_at (i : Fin 2048) (f : Fin 5632) : val_main_v31 (F := Ideal) wo dh (ix2 i f) = dact wo dh i f := by
  unfold val_main_v31
  pointwise
  simp only [v28_at]
  unfold dact
  rw [half_eq, mul_sum_coe _ (by positivity)]
  exact Finset.sum_congr rfl fun t _ => by rw [mul_assoc]
theorem v32_at (i : Fin 2048) (f : Fin 5632) : val_main_v32 (F := Ideal) h gain wi wo dh (ix2 i f) = dup h gain wi wo dh i f := by
  unfold val_main_v32
  pointwise
  rw [v20_0_at, v31_at, mul_comm]
  rfl

variable (hg : AllReal gain) (hwi : AllReal wi) (hwo : AllReal wo) (hd : AllReal dh)
include hg hwi hwo hd

theorem v34_at (i : Fin 2048) (f : Fin 5632) : val_main_v34 (F := Ideal) h gain wi wo dh (ix2 i f) = dgate h gain wi wo dh i f := by
  unfold val_main_v34 val_main_call1_v2 val_main_call1_v1 val_main_call1_v0 val_main_v33
  pointwise
  rw [v18_at, v19_at, v20_2_at, v20_1_at, v31_at]
  exact dgate_eq h gain wi wo dh hg hwi hwo hd i f
theorem v35_at (i : Fin 2048) (n : Fin 11264) : val_main_v35 (F := Ideal) h gain wi wo dh (ix2 i n) = dpre h gain wi wo dh i n := by
  unfold val_main_v35
  pointwise
  unfold dpre
  by_cases hn : n.val < 5632
  · simp only [hn, dite_true]
    exact v34_at h gain wi wo dh hg hwi hwo hd i _
  · simp only [hn, dite_false]
    exact v32_at h gain wi wo dh i _
theorem v38_at (i d : Fin 2048) : val_main_v38 (F := Ideal) h gain wi wo dh (ix2 i d) = dhn h gain wi wo dh i d := by
  unfold val_main_v38
  pointwise
  simp only [v35_at h gain wi wo dh hg hwi hwo hd]
  rfl
theorem v63_at (j : Fin 8) (d : Fin 2048) (f : Fin 1408) : val_main_v63 (F := Ideal) h gain wi wo dh (ix3 j d f)
    = gradWi h gain wi wo dh d ⟨j.val * 1408 + f.val, by omega⟩ := by
  unfold val_main_v63 val_main_v62 val_main_v61 val_main_v37 val_main_v36
  pointwise
  simp only [v35_at h gain wi wo dh hg hwi hwo hd, v16_at]
  unfold gradWi
  exact Finset.sum_congr rfl fun t _ => by rw [mul_comm]
theorem v60_at (d : Fin 2048) : val_main_v60 (F := Ideal) h gain wi wo dh (ix2 0 d) = gradGain h gain wi wo dh d := by
  unfold val_main_v60 val_main_v44 val_main_cst_6 val_main_v41 val_main_v40 val_main_cst_5 val_main_v39
  pointwise
  simp only [v38_at h gain wi wo dh hg hwi hwo hd, v13_at]
  rw [Fin.sum_univ_one]
  rfl
theorem v43_at (i d : Fin 2048) : val_main_v43 (F := Ideal) h gain wi wo dh (ix2 i d) = dsc h gain wi wo dh i d := by
  unfold val_main_v43 val_main_v42 val_main_v14 val_main_v0
  pointwise
  rw [v38_at h gain wi wo dh hg hwi hwo hd]
  rfl
theorem v55_at (i d : Fin 2048) : val_main_v55 (F := Ideal) h gain wi wo dh (ix2 i d) = thru (hrow h i) (dsc h gain wi wo dh i) := by
  unfold val_main_v55 val_main_v54 val_main_cst_9 val_main_v53 val_main_v52 val_main_cst_8 val_main_v51 val_main_v47 val_main_v46 val_main_cst_7 val_main_v45
  pointwise
  rw [Fin.sum_univ_one]
  simp only [v43_at h gain wi wo dh hg hwi hwo hd, v11_at, div2048]
  rfl
theorem v59_at (i d : Fin 2048) : val_main_v59 (F := Ideal) h gain wi wo dh (ix2 i d) = gradH h gain wi wo dh i d := by
  unfold val_main_v59 val_main_v58 val_main_v57 val_main_v56 val_main_v50 val_main_v49 val_main_v48
  pointwise
  rw [v43_at h gain wi wo dh hg hwi hwo hd, v55_at h gain wi wo dh hg hwi hwo hd, v8_at]
  unfold gradH
  ac_rfl

end Cert.Reference2Ideal.Hand

end
-- ==== Proof.FfnSame.lean ====
/-
  The feed-forward calls over the machine's floats and over the extended reals: one table of bodies.
-/
module

public import proofs.«01_k».proof.Proof.Gen.Kernel2
public import proofs.«01_k».proof.Proof.Gen.Kernel2Ideal
public import Idealize.ShloMosaic.PureOps.BitExact

@[expose] public section

set_option maxRecDepth 16384

noncomputable section

namespace Cert.Proof

open Idealize.ShloMosaic Idealize.SL.Sem

set_option maxHeartbeats 4000000 in
/-- The feed-forward calls' bodies are the same text in the two programs. -/
theorem bodies2_eq : (Cert.Kernel2.defs₀ (F := Bits)) = Cert.Kernel2Ideal.defs₀ (F := Bits) := by
  unfold Cert.Kernel2.defs₀ Cert.Kernel2Ideal.defs₀
  refine congrArg Defs.onTc ?_
  funext l a
  match l, a with
  | 0, (t, s) => rfl
  | 1, (t, s) => rfl
  | 2, (t, s) => rfl
  | 3, (t, s) => rfl
  | 4, (t, s) => rfl
  | 5, (t, s) => rfl
  | 6, (t, s) => rfl
  | 7, (t, s) => rfl

set_option maxHeartbeats 16000000 in
/-- So are their tables of bodies. -/
theorem defs2_eq : (Cert.Kernel2.defs (F := Bits)) = Cert.Kernel2Ideal.defs (F := Bits) := by
  unfold Cert.Kernel2.defs Cert.Kernel2Ideal.defs
  rw [bodies2_eq]; rfl

end Cert.Proof

end
-- ==== Proof.PleSpec.lean ====
/-
  The gated per-layer embedding and its gradients as plain sums over the extended reals: what both programs are shown to
  return. The row's norm is the feed-forward block's.
-/
module

public import proofs.«01_k».proof.Proof.FfnSpec

@[expose] public section

noncomputable section

namespace Cert.Ple

open Idealize.ShloMosaic Idealize.ShloMosaic.Pointwise Cert.Ffn

/-- The gradient of a row from the gradient `q` of the row scaled by its norm. -/
def back (row q : Fin 2048 → EReal) (d : Fin 2048) : EReal := q d * rrt row + row d * thru row q + thru row q * row d

variable (h : (⟨2, ![2048, 2048]⟩ : Shape).Idx → EReal) (p : (⟨2, ![2048, 256]⟩ : Shape).Idx → EReal)
  (wp : (⟨2, ![256, 2048]⟩ : Shape).Idx → EReal) (pn gn : (⟨2, ![1, 2048]⟩ : Shape).Idx → EReal)
  (wg dh : (⟨2, ![2048, 2048]⟩ : Shape).Idx → EReal)

/-- The projected per-layer input, and its normalisation. -/
def e (i d : Fin 2048) : EReal := ∑ k : Fin 256, p (ix2 i k) * wp (ix2 k d)
def eh (i d : Fin 2048) : EReal := e p wp i d * rrt (e p wp i) * pn (ix2 0 d)
/-- The gate before and after the logistic function. -/
def gr (i d : Fin 2048) : EReal := ∑ c, hn h gn i c * wg (ix2 c d)
def sg (i d : Fin 2048) : EReal := Ideal.logistic (gr h gn wg i d)
/-- The block's output. -/
def out (i d : Fin 2048) : EReal := h (ix2 i d) + eh p wp pn i d * sg h gn wg i d
/-- The gradients of the normalised projection and of the gate. -/
def q (i d : Fin 2048) : EReal := dh (ix2 i d) * sg h gn wg i d
def dgate (i d : Fin 2048) : EReal := eh p wp pn i d * dh (ix2 i d) * (sg h gn wg i d * (one - sg h gn wg i d))
/-- The gradient of the projection's gain. -/
def gradPn (d : Fin 2048) : EReal := ∑ t, e p wp t d * rrt (e p wp t) * q h gn wg dh t d
/-- The gradient of the projection. -/
def de (i d : Fin 2048) : EReal := back (e p wp i) (fun d => q h gn wg dh i d * pn (ix2 0 d)) d
/-- The gradients of the two weights. -/
def gradWp (k : Fin 256) (d : Fin 2048) : EReal := ∑ t, p (ix2 t k) * de h p wp pn gn wg dh t d
def gradWg (c d : Fin 2048) : EReal := ∑ t, hn h gn t c * dgate h p wp pn gn wg dh t d
/-- The gradient of the normalised hidden state. -/
def dhn (i c : Fin 2048) : EReal := ∑ d, dgate h p wp pn gn wg dh i d * wg (ix2 c d)
/-- The gradients of the hidden state and of its gain. -/
def gradH (i c : Fin 2048) : EReal := back (hrow h i) (fun c => dhn h p wp pn gn wg dh i c * gn (ix2 0 c)) c + dh (ix2 i c)
def gradGn (c : Fin 2048) : EReal := ∑ t, h (ix2 t c) * rrt (hrow h t) * dhn h p wp pn gn wg dh t c

end Cert.Ple

end
-- ==== Proof.PleBase.lean ====
/-
  What the nine calls of the per-layer embedding rest on.
-/
module

public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Regions
public import proofs.«01_k».proof.Proof.Common

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Kernel3Ideal Cert.Kernel3Ideal.Gen

variable {F : FTy → Type} [FloatOps F]

local notation "𝕄" => MT nD τ sig Unit (Elt F) ℕ (UR sig nD τ) ℕ

end Cert.Kernel3Ideal.Hand

end
-- ==== Proof.Ple0.lean ====
/-
  Call 0 of the per-layer embedding, the projection of the per-layer input: its body's run, its proof data, its triple at every point.
-/
module

public import proofs.«01_k».proof.Proof.PleBase

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel3Ideal Cert.Kernel3Ideal.Gen

variable {F : FTy → Type} [FloatOps F]

local notation "𝕄" => MT nD τ sig Unit (Elt F) ℕ (UR sig nD τ) ℕ

/-- What the body leaves in its output number 0, from its input blocks. -/
def res0_0 (x0 : Vec F S2048x256 .f32) (x1 : Vec F S1x256x256 .bf16) : Vec F S2048x256 .f32 := k0_pay1 x0 x1

set_option maxHeartbeats 2000000 in
/-- The body's run. -/
theorem run0 (c : Dev nD) (i : grid0.Coords) (arg3 : Memref sig .tc .vmem S2048x256 .f32) (harg3 : arg3.IsWhole) (arg4 : Memref sig .tc .vmem S1x256x256 .bf16) (harg4 : arg4.IsWhole) (arg5 : Memref sig .tc .vmem S2048x256 .f32) (harg5 : arg5.IsWhole)
    (x0 : Vec F S2048x256 .f32) (x1 : Vec F S1x256x256 .bf16) (E : Set ℕ) (K : PUnit → sProp 𝕄) :
    iprop((owns (c : Thread nD τ) arg3 fullShare x0 ∗ owns (c : Thread nD τ) arg4 fullShare x1 ∗ (∃ d, owns (c : Thread nD τ) arg5 fullShare d))
        ∗ (iprop(owns (c : Thread nD τ) arg3 fullShare x0 ∗ owns (c : Thread nD τ) arg4 fullShare x1 ∗ owns (c : Thread nD τ) arg5 fullShare (res0_0 x0 x1)) -∗ K ⟨⟩))
      ⊢ wp frame (wpE (defs₀ (F := F)) Variants.none c none) E (cc0_ple_proj i arg3 harg3 arg4 harg4 arg5 harg5) K := by
  simp only [cc0_ple_proj_eq_skeleton]; unfold cc0_ple_proj_skel
  unfold owns
  iintro ⟨⟨⟨%f0, %hf0, H0⟩, ⟨%f1, %hf1, H1⟩, ⟨%d2, %f2, -, H2⟩⟩, Hk⟩
  obtain rfl := harg3.eq_unread hf0; obtain rfl := harg4.eq_unread hf1
  sl_exec
  sl_step
  iapply Hk
  isplitl [H0]
  · iapply (whole harg3 _); iexact H0
  isplitl [H1]
  · iapply (whole harg4 _); iexact H1
  iexists _; isplitr; swap; · iexact H2
  ipureintro
  exact (View.read_writes_full arg5.view _ _ _ _).trans (congr (congrArg k0_pay1 (ld_all arg3 harg3 x0 ![0, 0] inb_S2048x256_S2048x256_0_0)) (ld_all arg4 harg4 x1 ![0, 0, 0] inb_S1x256x256_S1x256x256_0_0_0))

variable (W : Dev nD → Valuation τ sig (Elt F))

/-- The block of input `w` at point `t`. -/
def in0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))
abbrev in0_0 (c : Dev nD) (t : Fin cfg0.N) : Vec F S2048x256 .f32 := in0 W c 0 t
abbrev in0_1 (c : Dev nD) (t : Fin cfg0.N) : Vec F S1x256x256 .bf16 := in0 W c 1 t

/-- The call's proof data: entered with its arrays at `W c`, each point leaves the inputs at their blocks and the outputs at the body's results. -/
def dat0 (c : Dev nD) : Dat τ (Elt F) Unit ℕ (UR sig nD τ) ℕ cfg0 c where
  A w := W c (Pipeline.arrRef spec0 w)
  after w t := match w with
    | ⟨0, _⟩ => in0 W c 0 t
    | ⟨1, _⟩ => in0 W c 1 t
    | ⟨2, _⟩ => res0_0 (in0_0 W c t) (in0_1 W c t)
  Φ _ := Pipeline.scopedRest spec0 c
  q w := Pipeline.shareOf spec0 w
  owed _ := 0

theorem A0 (c : Dev nD) (w : Fin cfg0.W) : (dat0 W c).A w = W c (Pipeline.arrRef spec0 w) := by dsimp only [dat0]
theorem left0_0 (c : Dev nD) (t : Fin cfg0.N) : (dat0 W c).after 0 t = in0 W c 0 t := by dsimp only [dat0]
theorem left0_1 (c : Dev nD) (t : Fin cfg0.N) : (dat0 W c).after 1 t = in0 W c 1 t := by dsimp only [dat0]
theorem left0_2 (c : Dev nD) (t : Fin cfg0.N) : (dat0 W c).after 2 t = res0_0 (in0_0 W c t) (in0_1 W c t) := by dsimp only [dat0]
set_option maxHeartbeats 1600000 in
/-- The library's body obligation. -/
theorem obl0 (c : Dev nD) : BodyObligation (dat0 (F := F) W c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact obligation (dat0 W c) (run0 c (grid0.coords t) _ _ _ _ _ _ (in0_0 W c t) (in0_1 W c t) Set.univ)
    (pair (got (found (dat0 W c) 0 rfl (fun _ => rfl) (fun _ _ _ => rfl) (left0_0 W c) (fun t _ => (left0_0 W c t).symm) (left0_0 W c t))) (pair (got (found (dat0 W c) 1 rfl (fun _ => rfl) (fun _ _ _ => rfl) (left0_1 W c) (fun t _ => (left0_1 W c t).symm) (left0_1 W c t))) anything))
    (pair (back (left0_0 W c t)) (pair (back (left0_1 W c t)) (back (left0_2 W c t)))) rfl rfl

end Cert.Kernel3Ideal.Hand

end
-- ==== Proof.Ple1.lean ====
/-
  Call 1 of the per-layer embedding, the normalisation of the hidden state: its body's run, its proof data, its triple at every point.
-/
module

public import proofs.«01_k».proof.Proof.PleBase

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel3Ideal Cert.Kernel3Ideal.Gen

variable {F : FTy → Type} [FloatOps F]

local notation "𝕄" => MT nD τ sig Unit (Elt F) ℕ (UR sig nD τ) ℕ

/-- What the body leaves in its output number 0, from its input blocks. -/
def res1_0 (x0 : Vec F S512x2048 .f32) (x1 : Vec F S1x2048 .f32) : Vec F S512x2048 .bf16 := k1_pay1 x0 x1

set_option maxHeartbeats 2000000 in
/-- The body's run. -/
theorem run1 (c : Dev nD) (i : grid1.Coords) (arg1 : Memref sig .tc .vmem S512x2048 .f32) (harg1 : arg1.IsWhole) (arg2 : Memref sig .tc .vmem S1x2048 .f32) (harg2 : arg2.IsWhole) (arg3 : Memref sig .tc .vmem S512x2048 .bf16) (harg3 : arg3.IsWhole)
    (x0 : Vec F S512x2048 .f32) (x1 : Vec F S1x2048 .f32) (E : Set ℕ) (K : PUnit → sProp 𝕄) :
    iprop((owns (c : Thread nD τ) arg1 fullShare x0 ∗ owns (c : Thread nD τ) arg2 fullShare x1 ∗ (∃ d, owns (c : Thread nD τ) arg3 fullShare d))
        ∗ (iprop(owns (c : Thread nD τ) arg1 fullShare x0 ∗ owns (c : Thread nD τ) arg2 fullShare x1 ∗ owns (c : Thread nD τ) arg3 fullShare (res1_0 x0 x1)) -∗ K ⟨⟩))
      ⊢ wp frame (wpE (defs₀ (F := F)) Variants.none c none) E (cc1_ple_norm i arg1 harg1 arg2 harg2 arg3 harg3) K := by
  simp only [cc1_ple_norm_eq_skeleton]; unfold cc1_ple_norm_skel
  unfold owns
  iintro ⟨⟨⟨%f0, %hf0, H0⟩, ⟨%f1, %hf1, H1⟩, ⟨%d2, %f2, -, H2⟩⟩, Hk⟩
  obtain rfl := harg1.eq_unread hf0; obtain rfl := harg2.eq_unread hf1
  sl_exec
  sl_step
  iapply Hk
  isplitl [H0]
  · iapply (whole harg1 _); iexact H0
  isplitl [H1]
  · iapply (whole harg2 _); iexact H1
  iexists _; isplitr; swap; · iexact H2
  ipureintro
  exact (View.read_writes_full arg3.view _ _ _ _).trans (congr (congrArg k1_pay1 (ld_all arg1 harg1 x0 ![0, 0] inb_S512x2048_S512x2048_0_0)) (ld_all arg2 harg2 x1 ![0, 0] inb_S1x2048_S1x2048_0_0))

variable (W : Dev nD → Valuation τ sig (Elt F))

/-- The block of input `w` at point `t`. -/
def in1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))
abbrev in1_0 (c : Dev nD) (t : Fin cfg1.N) : Vec F S512x2048 .f32 := in1 W c 0 t
abbrev in1_1 (c : Dev nD) (t : Fin cfg1.N) : Vec F S1x2048 .f32 := in1 W c 1 t

/-- The call's proof data: entered with its arrays at `W c`, each point leaves the inputs at their blocks and the outputs at the body's results. -/
def dat1 (c : Dev nD) : Dat τ (Elt F) Unit ℕ (UR sig nD τ) ℕ cfg1 c where
  A w := W c (Pipeline.arrRef spec1 w)
  after w t := match w with
    | ⟨0, _⟩ => in1 W c 0 t
    | ⟨1, _⟩ => in1 W c 1 t
    | ⟨2, _⟩ => res1_0 (in1_0 W c t) (in1_1 W c t)
  Φ _ := Pipeline.scopedRest spec1 c
  q w := Pipeline.shareOf spec1 w
  owed _ := 0

theorem A1 (c : Dev nD) (w : Fin cfg1.W) : (dat1 W c).A w = W c (Pipeline.arrRef spec1 w) := by dsimp only [dat1]
theorem left1_0 (c : Dev nD) (t : Fin cfg1.N) : (dat1 W c).after 0 t = in1 W c 0 t := by dsimp only [dat1]
theorem left1_1 (c : Dev nD) (t : Fin cfg1.N) : (dat1 W c).after 1 t = in1 W c 1 t := by dsimp only [dat1]
theorem left1_2 (c : Dev nD) (t : Fin cfg1.N) : (dat1 W c).after 2 t = res1_0 (in1_0 W c t) (in1_1 W c t) := by dsimp only [dat1]
set_option maxHeartbeats 1600000 in
/-- The library's body obligation. -/
theorem obl1 (c : Dev nD) : BodyObligation (dat1 (F := F) W c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact obligation (dat1 W c) (run1 c (grid1.coords t) _ _ _ _ _ _ (in1_0 W c t) (in1_1 W c t) Set.univ)
    (pair (got (found (dat1 W c) 0 rfl (fun _ => rfl) (fun _ _ _ => rfl) (left1_0 W c) (fun t _ => (left1_0 W c t).symm) (left1_0 W c t))) (pair (got (found (dat1 W c) 1 rfl (fun _ => rfl) (fun _ _ _ => rfl) (left1_1 W c) (fun t _ => (left1_1 W c t).symm) (left1_1 W c t))) anything))
    (pair (back (left1_0 W c t)) (pair (back (left1_1 W c t)) (back (left1_2 W c t)))) rfl rfl

end Cert.Kernel3Ideal.Hand

end
-- ==== Proof.Ple2.lean ====
/-
  Call 2 of the per-layer embedding, the product of the gate: its body's run, its proof data, its triple at every point.
-/
module

public import proofs.«01_k».proof.Proof.PleBase

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel3Ideal Cert.Kernel3Ideal.Gen

variable {F : FTy → Type} [FloatOps F]

local notation "𝕄" => MT nD τ sig Unit (Elt F) ℕ (UR sig nD τ) ℕ

/-- What the body leaves in its output number 0, from its input blocks. -/
def res2_0 (x0 : Vec F S1024x2048 .bf16) (x1 : Vec F S2048x1024 .bf16) : Vec F S1024x1024 .f32 := k2_pay1 x0 x1

set_option maxHeartbeats 2000000 in
/-- The body's run. -/
theorem run2 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole)
    (x0 : Vec F S1024x2048 .bf16) (x1 : Vec F S2048x1024 .bf16) (E : Set ℕ) (K : PUnit → sProp 𝕄) :
    iprop((owns (c : Thread nD τ) arg3 fullShare x0 ∗ owns (c : Thread nD τ) arg4 fullShare x1 ∗ (∃ d, owns (c : Thread nD τ) arg5 fullShare d))
        ∗ (iprop(owns (c : Thread nD τ) arg3 fullShare x0 ∗ owns (c : Thread nD τ) arg4 fullShare x1 ∗ owns (c : Thread nD τ) arg5 fullShare (res2_0 x0 x1)) -∗ K ⟨⟩))
      ⊢ wp frame (wpE (defs₀ (F := F)) Variants.none c none) E (cc2_ple_gate i arg3 harg3 arg4 harg4 arg5 harg5) K := by
  simp only [cc2_ple_gate_eq_skeleton]; unfold cc2_ple_gate_skel
  unfold owns
  iintro ⟨⟨⟨%f0, %hf0, H0⟩, ⟨%f1, %hf1, H1⟩, ⟨%d2, %f2, -, H2⟩⟩, Hk⟩
  obtain rfl := harg3.eq_unread hf0; obtain rfl := harg4.eq_unread hf1
  sl_exec
  sl_step
  iapply Hk
  isplitl [H0]
  · iapply (whole harg3 _); iexact H0
  isplitl [H1]
  · iapply (whole harg4 _); iexact H1
  iexists _; isplitr; swap; · iexact H2
  ipureintro
  exact (View.read_writes_full arg5.view _ _ _ _).trans (congr (congrArg k2_pay1 (ld_all arg3 harg3 x0 ![0, 0] inb_S1024x2048_S1024x2048_0_0)) (ld_all arg4 harg4 x1 ![0, 0] inb_S2048x1024_S2048x1024_0_0))

variable (W : Dev nD → Valuation τ sig (Elt F))

/-- The block of input `w` at point `t`. -/
def in2 (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))
abbrev in2_0 (c : Dev nD) (t : Fin cfg2.N) : Vec F S1024x2048 .bf16 := in2 W c 0 t
abbrev in2_1 (c : Dev nD) (t : Fin cfg2.N) : Vec F S2048x1024 .bf16 := in2 W c 1 t

/-- The call's proof data: entered with its arrays at `W c`, each point leaves the inputs at their blocks and the outputs at the body's results. -/
def dat2 (c : Dev nD) : Dat τ (Elt F) Unit ℕ (UR sig nD τ) ℕ cfg2 c where
  A w := W c (Pipeline.arrRef spec2 w)
  after w t := match w with
    | ⟨0, _⟩ => in2 W c 0 t
    | ⟨1, _⟩ => in2 W c 1 t
    | ⟨2, _⟩ => res2_0 (in2_0 W c t) (in2_1 W c t)
  Φ _ := Pipeline.scopedRest spec2 c
  q w := Pipeline.shareOf spec2 w
  owed _ := 0

theorem A2 (c : Dev nD) (w : Fin cfg2.W) : (dat2 W c).A w = W c (Pipeline.arrRef spec2 w) := by dsimp only [dat2]
theorem left2_0 (c : Dev nD) (t : Fin cfg2.N) : (dat2 W c).after 0 t = in2 W c 0 t := by dsimp only [dat2]
theorem left2_1 (c : Dev nD) (t : Fin cfg2.N) : (dat2 W c).after 1 t = in2 W c 1 t := by dsimp only [dat2]
theorem left2_2 (c : Dev nD) (t : Fin cfg2.N) : (dat2 W c).after 2 t = res2_0 (in2_0 W c t) (in2_1 W c t) := by dsimp only [dat2]
set_option maxHeartbeats 1600000 in
/-- The library's body obligation. -/
theorem obl2 (c : Dev nD) : BodyObligation (dat2 (F := F) W c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  exact obligation (dat2 W c) (run2 c (grid2.coords t) _ _ _ _ _ _ (in2_0 W c t) (in2_1 W c t) Set.univ)
    (pair (got (found (dat2 W c) 0 rfl (fun _ => rfl) (fun _ _ _ => rfl) (left2_0 W c) (fun t _ => (left2_0 W c t).symm) (left2_0 W c t))) (pair (got (found (dat2 W c) 1 rfl (fun _ => rfl) (fun _ _ _ => rfl) (left2_1 W c) (fun t _ => (left2_1 W c t).symm) (left2_1 W c t))) anything))
    (pair (back (left2_0 W c t)) (pair (back (left2_1 W c t)) (back (left2_2 W c t)))) rfl rfl

end Cert.Kernel3Ideal.Hand

end
-- ==== Proof.Ple3.lean ====
/-
  Call 3 of the per-layer embedding, the gated sum: its body's run, its proof data, its triple at every point.
-/
module

public import proofs.«01_k».proof.Proof.PleBase

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel3Ideal Cert.Kernel3Ideal.Gen

variable {F : FTy → Type} [FloatOps F]

local notation "𝕄" => MT nD τ sig Unit (Elt F) ℕ (UR sig nD τ) ℕ

/-- What the body leaves in its output number 0, from its input blocks. -/
def res3_0 (x0 : Vec F S256x2048 .f32) (x1 : Vec F S256x2048 .f32) (x2 : Vec F S256x2048 .f32) (x3 : Vec F S1x2048 .f32) : Vec F S256x2048 .f32 := k3_pay1 x1 x3 x0 x2

set_option maxHeartbeats 2000000 in
/-- The body's run. -/
theorem run3 (c : Dev nD) (i : grid3.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole)
    (x0 : Vec F S256x2048 .f32) (x1 : Vec F S256x2048 .f32) (x2 : Vec F S256x2048 .f32) (x3 : Vec F S1x2048 .f32) (E : Set ℕ) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d))
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (res3_0 x0 x1 x2 x3)) -∗ K ⟨⟩))
      ⊢ wp frame (wpE (defs₀ (F := F)) Variants.none c none) E (cc3_ple_mix i arg1 harg1 arg2 harg2 arg3 harg3 arg4 harg4 arg5 harg5) K := by
  simp only [cc3_ple_mix_eq_skeleton]; unfold cc3_ple_mix_skel
  unfold owns
  iintro ⟨⟨⟨%f0, %hf0, H0⟩, ⟨%f1, %hf1, H1⟩, ⟨%f2, %hf2, H2⟩, ⟨%f3, %hf3, H3⟩, ⟨%d4, %f4, -, H4⟩⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iapply (whole harg1 _); iexact H0
  isplitl [H1]
  · iapply (whole harg2 _); iexact H1
  isplitl [H2]
  · iapply (whole harg3 _); iexact H2
  isplitl [H3]
  · iapply (whole harg4 _); iexact H3
  iexists _; isplitr; swap; · iexact H4
  ipureintro
  exact (View.read_writes_full arg5.view _ _ _ _).trans (congr (congr (congr (congrArg k3_pay1 (ld_all arg2 harg2 x1 ![0, 0] inb_S256x2048_S256x2048_0_0)) (ld_all arg4 harg4 x3 ![0, 0] inb_S1x2048_S1x2048_0_0)) (ld_all arg1 harg1 x0 ![0, 0] inb_S256x2048_S256x2048_0_0)) (ld_all arg3 harg3 x2 ![0, 0] inb_S256x2048_S256x2048_0_0))

variable (W : Dev nD → Valuation τ sig (Elt F))

/-- The block of input `w` at point `t`. -/
def in3 (c : Dev nD) (w : Fin cfg3.W) (t : Fin cfg3.N) : ((cfg3.win w).xblock (cfg3.grid.coords t)).Idx → Elt F (cfg3.win w).elt :=
  ((cfg3.win w).blk t).view.read (Elt F) (W c (Pipeline.arrRef spec3 w))
abbrev in3_0 (c : Dev nD) (t : Fin cfg3.N) : Vec F S256x2048 .f32 := in3 W c 0 t
abbrev in3_1 (c : Dev nD) (t : Fin cfg3.N) : Vec F S256x2048 .f32 := in3 W c 1 t
abbrev in3_2 (c : Dev nD) (t : Fin cfg3.N) : Vec F S256x2048 .f32 := in3 W c 2 t
abbrev in3_3 (c : Dev nD) (t : Fin cfg3.N) : Vec F S1x2048 .f32 := in3 W c 3 t

/-- The call's proof data: entered with its arrays at `W c`, each point leaves the inputs at their blocks and the outputs at the body's results. -/
def dat3 (c : Dev nD) : Dat τ (Elt F) Unit ℕ (UR sig nD τ) ℕ cfg3 c where
  A w := W c (Pipeline.arrRef spec3 w)
  after w t := match w with
    | ⟨0, _⟩ => in3 W c 0 t
    | ⟨1, _⟩ => in3 W c 1 t
    | ⟨2, _⟩ => in3 W c 2 t
    | ⟨3, _⟩ => in3 W c 3 t
    | ⟨4, _⟩ => res3_0 (in3_0 W c t) (in3_1 W c t) (in3_2 W c t) (in3_3 W c t)
  Φ _ := Pipeline.scopedRest spec3 c
  q w := Pipeline.shareOf spec3 w
  owed _ := 0

theorem A3 (c : Dev nD) (w : Fin cfg3.W) : (dat3 W c).A w = W c (Pipeline.arrRef spec3 w) := by dsimp only [dat3]
theorem left3_0 (c : Dev nD) (t : Fin cfg3.N) : (dat3 W c).after 0 t = in3 W c 0 t := by dsimp only [dat3]
theorem left3_1 (c : Dev nD) (t : Fin cfg3.N) : (dat3 W c).after 1 t = in3 W c 1 t := by dsimp only [dat3]
theorem left3_2 (c : Dev nD) (t : Fin cfg3.N) : (dat3 W c).after 2 t = in3 W c 2 t := by dsimp only [dat3]
theorem left3_3 (c : Dev nD) (t : Fin cfg3.N) : (dat3 W c).after 3 t = in3 W c 3 t := by dsimp only [dat3]
theorem left3_4 (c : Dev nD) (t : Fin cfg3.N) : (dat3 W c).after 4 t = res3_0 (in3_0 W c t) (in3_1 W c t) (in3_2 W c t) (in3_3 W c t) := by dsimp only [dat3]
set_option maxHeartbeats 1600000 in
/-- The library's body obligation. -/
theorem obl3 (c : Dev nD) : BodyObligation (dat3 (F := F) W c) (defs₀ (F := F)) Variants.none () Set.univ := fun t => by
  rw [bigSep_W3, bigSep_W3, show defs₀ (F := F) .tc cfg3.body (cfg3.bodyArgs t (cfg3.slots t)) = bodyAt3 t from by unfold defs₀; rw [Defs.onTc_tc]]
  exact obligation (dat3 W c) (run3 c (grid3.coords t) _ _ _ _ _ _ _ _ _ _ (in3_0 W c t) (in3_1 W c t) (in3_2 W c t) (in3_3 W c t) Set.univ)
    (pair (got (found (dat3 W c) 0 rfl (fun _ => rfl) (fun _ _ _ => rfl) (left3_0 W c) (fun t _ => (left3_0 W c t).symm) (left3_0 W c t))) (pair (got (found (dat3 W c) 1 rfl (fun _ => rfl) (fun _ _ _ => rfl) (left3_1 W c) (fun t _ => (left3_1 W c t).symm) (left3_1 W c t))) (pair (got (found (dat3 W c) 2 rfl (fun _ => rfl) (fun _ _ _ => rfl) (left3_2 W c) (fun t _ => (left3_2 W c t).symm) (left3_2 W c t))) (pair (got (found (dat3 W c) 3 rfl (fun _ => rfl) (fun _ _ _ => rfl) (left3_3 W c) (fun t _ => (left3_3 W c t).symm) (left3_3 W c t))) anything))))
    (pair (back (left3_0 W c t)) (pair (back (left3_1 W c t)) (pair (back (left3_2 W c t)) (pair (back (left3_3 W c t)) (back (left3_4 W c t)))))) rfl rfl

end Cert.Kernel3Ideal.Hand

end
-- ==== Proof.Ple4.lean ====
/-
  Call 4 of the per-layer embedding, the gradients of the projected input and of the gate, and the gain's gradient summed over the eight blocks of rows.
-/
module

public import Idealize.ShloMosaic.Lib.WordCmp
public import proofs.«01_k».proof.Proof.PleBase

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel3Ideal Cert.Kernel3Ideal.Gen

variable {F : FTy → Type} [FloatOps F]

local notation "𝕄" => MT nD τ sig Unit (Elt F) ℕ (UR sig nD τ) ℕ

/-- The first output's block, from the blocks of the inputs. -/
def res4_0 (x0 : Vec F S256x2048 .f32) (x1 : Vec F S256x2048 .f32) (x2 : Vec F S256x2048 .f32) (x3 : Vec F S1x2048 .f32) : Vec F S256x2048 .bf16 := k4_pay1 (k4_pay4 x0) (k4_pay13 x0 x1 x3 x2) (k4_pay14 x0 x1 x3 x2)
/-- The second output's block. -/
def res4_1 (x0 : Vec F S256x2048 .f32) (x1 : Vec F S256x2048 .f32) (x2 : Vec F S256x2048 .f32) (x3 : Vec F S1x2048 .f32) : Vec F S256x2048 .bf16 := k4_pay2 (k4_pay10 x0 x1 x3 x2)
/-- What a block of rows adds to the gain's gradient. -/
def step4 (x0 : Vec F S256x2048 .f32) (x1 : Vec F S256x2048 .f32) (x2 : Vec F S256x2048 .f32) (x3 : Vec F S1x2048 .f32) : Vec F S1x2048 .f32 := k4_pay11 x0 x1 x2

set_option maxHeartbeats 2000000 in
/-- The body's run at the first block of rows. -/
theorem run4First (c : Dev nD) (i : grid4.Coords)
    (arg1 : Memref sig .tc .vmem S256x2048 .f32) (harg1 : arg1.IsWhole)
    (arg2 : Memref sig .tc .vmem S256x2048 .f32) (harg2 : arg2.IsWhole)
    (arg3 : Memref sig .tc .vmem S256x2048 .f32) (harg3 : arg3.IsWhole)
    (arg4 : Memref sig .tc .vmem S1x2048 .f32) (harg4 : arg4.IsWhole)
    (arg5 : Memref sig .tc .vmem S256x2048 .bf16) (harg5 : arg5.IsWhole)
    (arg6 : Memref sig .tc .vmem S256x2048 .bf16) (harg6 : arg6.IsWhole)
    (arg7 : Memref sig .tc .vmem S1x2048 .f32) (harg7 : arg7.IsWhole)
    (hc1 : k4_cond1 i = 1#1) (hc2 : ¬ k4_cond2 i = 1#1)
    (x0 : Vec F S256x2048 .f32) (x1 : Vec F S256x2048 .f32) (x2 : Vec F S256x2048 .f32) (x3 : Vec F S1x2048 .f32) (E : Set ℕ) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d))
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (res4_0 x0 x1 x2 x3) ∗ owns (c : Thread nD τ) arg6 fullShare (res4_1 x0 x1 x2 x3) ∗ owns (c : Thread nD τ) arg7 fullShare (step4 x0 x1 x2 x3)) -∗ K ⟨⟩))
      ⊢ wp frame (wpE (defs₀ (F := F)) Variants.none c none) E (cc4_ple_dmix i arg1 harg1 arg2 harg2 arg3 harg3 arg4 harg4 arg5 harg5 arg6 harg6 arg7 harg7) K := by
  simp only [cc4_ple_dmix_eq_skeleton]; unfold cc4_ple_dmix_skel
  simp only [k4_part1_eq_skeleton]; unfold k4_part1_skel
  unfold owns
  iintro ⟨⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩⟩, Hk⟩
  obtain rfl := harg1.eq_unread hf0; obtain rfl := harg2.eq_unread hf1; obtain rfl := harg3.eq_unread hf2; obtain rfl := harg4.eq_unread hf3
  sl_exec (disch := first | sl_exact hc1 | sl_exact hc2)
  sl_step
  iapply Hk
  isplitl [H0]
  · iapply (whole harg1 _); iexact H0
  isplitl [H1]
  · iapply (whole harg2 _); iexact H1
  isplitl [H2]
  · iapply (whole harg3 _); iexact H2
  isplitl [H3]
  · iapply (whole harg4 _); iexact H3
  isplitl [H4]
  · iexists _; isplitr; swap; · iexact H4
    ipureintro
    have e := congr (congr (congr (congrArg res4_0 (ld_all arg1 harg1 x0 ![0, 0] inb_S256x2048_S256x2048_0_0)) (ld_all arg2 harg2 x1 ![0, 0] inb_S256x2048_S256x2048_0_0)) (ld_all arg3 harg3 x2 ![0, 0] inb_S256x2048_S256x2048_0_0)) (ld_all arg4 harg4 x3 ![0, 0] inb_S1x2048_S1x2048_0_0)
    exact (View.read_writes_full arg5.view _ _ _ _).trans e
  isplitl [H5]
  · iexists _; isplitr; swap; · iexact H5
    ipureintro
    have e := congr (congr (congr (congrArg res4_1 (ld_all arg1 harg1 x0 ![0, 0] inb_S256x2048_S256x2048_0_0)) (ld_all arg2 harg2 x1 ![0, 0] inb_S256x2048_S256x2048_0_0)) (ld_all arg3 harg3 x2 ![0, 0] inb_S256x2048_S256x2048_0_0)) (ld_all arg4 harg4 x3 ![0, 0] inb_S1x2048_S1x2048_0_0)
    exact (View.read_writes_full arg6.view _ _ _ _).trans e
  iexists _; isplitr; swap; · iexact H6
  ipureintro
  have e := congr (congr (congr (congrArg step4 (ld_all arg1 harg1 x0 ![0, 0] inb_S256x2048_S256x2048_0_0)) (ld_all arg2 harg2 x1 ![0, 0] inb_S256x2048_S256x2048_0_0)) (ld_all arg3 harg3 x2 ![0, 0] inb_S256x2048_S256x2048_0_0)) (ld_all arg4 harg4 x3 ![0, 0] inb_S1x2048_S1x2048_0_0)
  exact (View.read_writes_full arg7.view _ _ _ _).trans e

set_option maxHeartbeats 2000000 in
/-- The body's run at a later block of rows. -/
theorem run4Later (c : Dev nD) (i : grid4.Coords)
    (arg1 : Memref sig .tc .vmem S256x2048 .f32) (harg1 : arg1.IsWhole)
    (arg2 : Memref sig .tc .vmem S256x2048 .f32) (harg2 : arg2.IsWhole)
    (arg3 : Memref sig .tc .vmem S256x2048 .f32) (harg3 : arg3.IsWhole)
    (arg4 : Memref sig .tc .vmem S1x2048 .f32) (harg4 : arg4.IsWhole)
    (arg5 : Memref sig .tc .vmem S256x2048 .bf16) (harg5 : arg5.IsWhole)
    (arg6 : Memref sig .tc .vmem S256x2048 .bf16) (harg6 : arg6.IsWhole)
    (arg7 : Memref sig .tc .vmem S1x2048 .f32) (harg7 : arg7.IsWhole)
    (hc1 : ¬ k4_cond1 i = 1#1) (hc2 : k4_cond2 i = 1#1)
    (x0 : Vec F S256x2048 .f32) (x1 : Vec F S256x2048 .f32) (x2 : Vec F S256x2048 .f32) (x3 : Vec F S1x2048 .f32) (X : Vec F S1x2048 .f32) (E : Set ℕ) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ owns (c : Thread nD τ) arg7 fullShare X)
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (res4_0 x0 x1 x2 x3) ∗ owns (c : Thread nD τ) arg6 fullShare (res4_1 x0 x1 x2 x3) ∗ owns (c : Thread nD τ) arg7 fullShare (k4_pay3 (step4 x0 x1 x2 x3) X)) -∗ K ⟨⟩))
      ⊢ wp frame (wpE (defs₀ (F := F)) Variants.none c none) E (cc4_ple_dmix i arg1 harg1 arg2 harg2 arg3 harg3 arg4 harg4 arg5 harg5 arg6 harg6 arg7 harg7) K := by
  simp only [cc4_ple_dmix_eq_skeleton]; unfold cc4_ple_dmix_skel
  simp only [k4_part1_eq_skeleton]; unfold k4_part1_skel
  unfold owns
  iintro ⟨⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩⟩, Hk⟩
  obtain rfl := harg1.eq_unread hf0; obtain rfl := harg2.eq_unread hf1; obtain rfl := harg3.eq_unread hf2; obtain rfl := harg4.eq_unread hf3
  obtain rfl := harg7.eq_unread hf6
  sl_exec (disch := first | sl_exact hc1 | sl_exact hc2)
  sl_step
  iapply Hk
  isplitl [H0]
  · iapply (whole harg1 _); iexact H0
  isplitl [H1]
  · iapply (whole harg2 _); iexact H1
  isplitl [H2]
  · iapply (whole harg3 _); iexact H2
  isplitl [H3]
  · iapply (whole harg4 _); iexact H3
  isplitl [H4]
  · iexists _; isplitr; swap; · iexact H4
    ipureintro
    have e := congr (congr (congr (congrArg res4_0 (ld_all arg1 harg1 x0 ![0, 0] inb_S256x2048_S256x2048_0_0)) (ld_all arg2 harg2 x1 ![0, 0] inb_S256x2048_S256x2048_0_0)) (ld_all arg3 harg3 x2 ![0, 0] inb_S256x2048_S256x2048_0_0)) (ld_all arg4 harg4 x3 ![0, 0] inb_S1x2048_S1x2048_0_0)
    exact (View.read_writes_full arg5.view _ _ _ _).trans e
  isplitl [H5]
  · iexists _; isplitr; swap; · iexact H5
    ipureintro
    have e := congr (congr (congr (congrArg res4_1 (ld_all arg1 harg1 x0 ![0, 0] inb_S256x2048_S256x2048_0_0)) (ld_all arg2 harg2 x1 ![0, 0] inb_S256x2048_S256x2048_0_0)) (ld_all arg3 harg3 x2 ![0, 0] inb_S256x2048_S256x2048_0_0)) (ld_all arg4 harg4 x3 ![0, 0] inb_S1x2048_S1x2048_0_0)
    exact (View.read_writes_full arg6.view _ _ _ _).trans e
  iexists _; isplitr; swap; · iexact H6
  ipureintro
  have e := congr (congrArg k4_pay3 (congr (congr (congr (congrArg step4 (ld_all arg1 harg1 x0 ![0, 0] inb_S256x2048_S256x2048_0_0)) (ld_all arg2 harg2 x1 ![0, 0] inb_S256x2048_S256x2048_0_0)) (ld_all arg3 harg3 x2 ![0, 0] inb_S256x2048_S256x2048_0_0)) (ld_all arg4 harg4 x3 ![0, 0] inb_S1x2048_S1x2048_0_0))) (ld_all arg7 harg7 X ![0, 0] inb_S1x2048_S1x2048_0_0)
  exact (View.read_writes_full arg7.view _ _ _ _).trans e

theorem first4_iff (i : grid4.Coords) : k4_cond1 i = 1#1 ↔ (i 0).val = 0 := by
  have h : (i 0).val < 8 := (i 0).isLt
  simp only [k4_cond1]; word_cmp
theorem later4_iff (i : grid4.Coords) : k4_cond2 i = 1#1 ↔ (i 0).val ≠ 0 := by
  have h : (i 0).val < 8 := (i 0).isLt
  simp only [k4_cond2]; word_cmp
theorem coord4 (t : Fin cfg4.N) : (grid4.coords t 0).val = t.val := by
  have ht : t.val < 8 := Nat.lt_of_lt_of_eq t.isLt N_4
  have e : (grid4.coords t 0).val = t.val / 1 % 8 := Pipeline.Grid.coords_val t 0 (by decide) rfl
  rw [e]; omega
/-- The gain's gradient is stored at every point, so no window is ever idle. -/
theorem live4 (w : Fin cfg4.W) (i : grid4.Coords) : cfg4.idle w i = false := by
  have h6 : (!(k4_cond1 i == 1#1) && !(k4_cond2 i == 1#1)) = false := by
    by_cases h : (i 0).val = 0
    · rw [(first4_iff i).mpr h]; simp
    · rw [(later4_iff i).mpr h]; simp
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => exact h6

variable (W : Dev nD → Valuation τ sig (Elt F))

/-- The block of input `w` at point `t`. -/
def in4 (c : Dev nD) (w : Fin cfg4.W) (t : Fin cfg4.N) : ((cfg4.win w).xblock (cfg4.grid.coords t)).Idx → Elt F (cfg4.win w).elt :=
  ((cfg4.win w).blk t).view.read (Elt F) (W c (Pipeline.arrRef spec4 w))
abbrev in4_0 (c : Dev nD) (t : Fin cfg4.N) : Vec F S256x2048 .f32 := in4 W c 0 t
abbrev in4_1 (c : Dev nD) (t : Fin cfg4.N) : Vec F S256x2048 .f32 := in4 W c 1 t
abbrev in4_2 (c : Dev nD) (t : Fin cfg4.N) : Vec F S256x2048 .f32 := in4 W c 2 t
abbrev in4_3 (c : Dev nD) (t : Fin cfg4.N) : Vec F S1x2048 .f32 := in4 W c 3 t

/-- The gain's gradient after the blocks up to number `n`. -/
def sum4 (c : Dev nD) : (n : ℕ) → n < cfg4.N → Vec F S1x2048 .f32
  | 0, h => step4 (in4_0 W c ⟨0, h⟩) (in4_1 W c ⟨0, h⟩) (in4_2 W c ⟨0, h⟩) (in4_3 W c ⟨0, h⟩)
  | n + 1, h => k4_pay3 (step4 (in4_0 W c ⟨n + 1, h⟩) (in4_1 W c ⟨n + 1, h⟩) (in4_2 W c ⟨n + 1, h⟩) (in4_3 W c ⟨n + 1, h⟩)) (sum4 c n (Nat.lt_of_succ_lt h))
theorem sum4_first (c : Dev nD) (t : Fin cfg4.N) (h : t.val = 0) : sum4 W c t.val t.isLt = step4 (in4_0 W c t) (in4_1 W c t) (in4_2 W c t) (in4_3 W c t) := by
  obtain ⟨n, hn⟩ := t
  cases n with
  | zero => rfl
  | succ n => exact absurd h (Nat.succ_ne_zero n)
theorem sum4_later (c : Dev nD) (t : Fin cfg4.N) (h : t.val ≠ 0) :
    sum4 W c t.val t.isLt = k4_pay3 (step4 (in4_0 W c t) (in4_1 W c t) (in4_2 W c t) (in4_3 W c t)) (sum4 W c (t.val - 1) (Nat.lt_of_le_of_lt (Nat.sub_le _ _) t.isLt)) := by
  obtain ⟨n, hn⟩ := t
  cases n with
  | zero => exact absurd rfl h
  | succ n => rfl

/-- The call's proof data: entered with its arrays at `W c`; each point leaves the inputs at their blocks, the two blocks of the input's gradient, and the gain's gradient summed so far. -/
def dat4 (c : Dev nD) : Dat τ (Elt F) Unit ℕ (UR sig nD τ) ℕ cfg4 c where
  A w := W c (Pipeline.arrRef spec4 w)
  after w t := match w with
    | ⟨0, _⟩ => in4 W c 0 t
    | ⟨1, _⟩ => in4 W c 1 t
    | ⟨2, _⟩ => in4 W c 2 t
    | ⟨3, _⟩ => in4 W c 3 t
    | ⟨4, _⟩ => res4_0 (in4_0 W c t) (in4_1 W c t) (in4_2 W c t) (in4_3 W c t)
    | ⟨5, _⟩ => res4_1 (in4_0 W c t) (in4_1 W c t) (in4_2 W c t) (in4_3 W c t)
    | ⟨6, _⟩ => sum4 W c t.val t.isLt
  Φ _ := Pipeline.scopedRest spec4 c
  q w := Pipeline.shareOf spec4 w
  owed _ := 0

theorem A4 (c : Dev nD) (w : Fin cfg4.W) : (dat4 W c).A w = W c (Pipeline.arrRef spec4 w) := by dsimp only [dat4]
theorem left4_0 (c : Dev nD) (t : Fin cfg4.N) : (dat4 W c).after 0 t = in4 W c 0 t := by dsimp only [dat4]
theorem left4_1 (c : Dev nD) (t : Fin cfg4.N) : (dat4 W c).after 1 t = in4 W c 1 t := by dsimp only [dat4]
theorem left4_2 (c : Dev nD) (t : Fin cfg4.N) : (dat4 W c).after 2 t = in4 W c 2 t := by dsimp only [dat4]
theorem left4_3 (c : Dev nD) (t : Fin cfg4.N) : (dat4 W c).after 3 t = in4 W c 3 t := by dsimp only [dat4]
theorem left4_4 (c : Dev nD) (t : Fin cfg4.N) : (dat4 W c).after 4 t = res4_0 (in4_0 W c t) (in4_1 W c t) (in4_2 W c t) (in4_3 W c t) := by dsimp only [dat4]
theorem left4_5 (c : Dev nD) (t : Fin cfg4.N) : (dat4 W c).after 5 t = res4_1 (in4_0 W c t) (in4_1 W c t) (in4_2 W c t) (in4_3 W c t) := by dsimp only [dat4]
theorem left4_6 (c : Dev nD) (t : Fin cfg4.N) : (dat4 W c).after 6 t = sum4 W c t.val t.isLt := by dsimp only [dat4]
/-- The inputs' buffers hold their blocks at every point. -/
theorem found4_0 (c : Dev nD) (t : Fin cfg4.N) (d) : (dat4 W c).before 0 t d = in4 W c 0 t :=
  found (dat4 W c) 0 rfl (fun _ => rfl) (fun _ _ _ => rfl) (left4_0 W c) (fun t _ => (left4_0 W c t).symm) (left4_0 W c t) d
theorem found4_1 (c : Dev nD) (t : Fin cfg4.N) (d) : (dat4 W c).before 1 t d = in4 W c 1 t :=
  found (dat4 W c) 1 rfl (fun _ => rfl) (fun _ _ _ => rfl) (left4_1 W c) (fun t _ => (left4_1 W c t).symm) (left4_1 W c t) d
theorem found4_2 (c : Dev nD) (t : Fin cfg4.N) (d) : (dat4 W c).before 2 t d = in4 W c 2 t :=
  found (dat4 W c) 2 rfl (fun _ => rfl) (fun _ _ _ => rfl) (left4_2 W c) (fun t _ => (left4_2 W c t).symm) (left4_2 W c t) d
theorem found4_3 (c : Dev nD) (t : Fin cfg4.N) (d) : (dat4 W c).before 3 t d = in4 W c 3 t :=
  found (dat4 W c) 3 rfl (fun _ => rfl) (fun _ _ _ => rfl) (left4_3 W c) (fun t _ => (left4_3 W c t).symm) (left4_3 W c t) d
/-- The gain's gradient's buffer holds, at a later point, what the point before left. -/
theorem found4_6 (c : Dev nD) (t : Fin cfg4.N) (h0 : t.val ≠ 0) (d) :
    (dat4 W c).before 6 t d = sum4 W c (t.val - 1) (Nat.lt_of_le_of_lt (Nat.sub_le _ _) t.isLt) :=
  ((dat4 W c).before_out_kept 6 rfl t h0
    (Bool.eq_false_iff.mpr fun hf => by
      have := (flush4_6 _).mp hf
      have ht : t.val < 8 := Nat.lt_of_lt_of_eq t.isLt N_4
      simp only at this; omega) (live4 6) (fun _ _ => rfl) d).trans (left4_6 W c _)

theorem hands4 (c : Dev nD) (w : Fin cfg4.W) (t : Fin cfg4.N) :
    (dat4 W c).leavesExact w t = owns (c : Thread nD τ) ((cfg4.win w).stage (cfg4.slots t w)) fullShare ((dat4 W c).after w t) := by
  unfold Dat.leavesExact; rw [live4 w (cfg4.grid.coords t)]

set_option maxHeartbeats 1600000 in
/-- The library's body obligation. -/
theorem obl4 (c : Dev nD) : BodyObligation (dat4 (F := F) W c) (defs₀ (F := F)) Variants.none () Set.univ := fun t => by
  rw [bigSep_W4, bigSep_W4, show defs₀ (F := F) .tc cfg4.body (cfg4.bodyArgs t (cfg4.slots t)) = bodyAt4 t from by unfold defs₀; rw [Defs.onTc_tc]]
  by_cases hk : t.val = 0
  · exact obligation (dat4 W c) (run4First c (grid4.coords t) _ _ _ _ _ _ _ _ _ _ _ _ _ _ ((first4_iff _).mpr ((coord4 t).trans hk)) (fun h => (later4_iff _).mp h ((coord4 t).trans hk)) (in4_0 W c t) (in4_1 W c t) (in4_2 W c t) (in4_3 W c t) Set.univ)
      (pair (got (found4_0 W c t)) (pair (got (found4_1 W c t)) (pair (got (found4_2 W c t)) (pair (got (found4_3 W c t)) (pair anything (pair anything anything))))))
      (pair (handed (hands4 W c 0 t) (left4_0 W c t)) (pair (handed (hands4 W c 1 t) (left4_1 W c t)) (pair (handed (hands4 W c 2 t) (left4_2 W c t)) (pair (handed (hands4 W c 3 t) (left4_3 W c t)) (pair (handed (hands4 W c 4 t) (left4_4 W c t)) (pair (handed (hands4 W c 5 t) (left4_5 W c t)) (handed (hands4 W c 6 t) ((left4_6 W c t).trans (sum4_first W c t hk))))))))) rfl rfl
  · exact obligation (dat4 W c) (run4Later c (grid4.coords t) _ _ _ _ _ _ _ _ _ _ _ _ _ _ (fun h => hk ((coord4 t).symm.trans ((first4_iff _).mp h))) ((later4_iff _).mpr (fun h => hk ((coord4 t).symm.trans h))) (in4_0 W c t) (in4_1 W c t) (in4_2 W c t) (in4_3 W c t) _ Set.univ)
      (pair (got (found4_0 W c t)) (pair (got (found4_1 W c t)) (pair (got (found4_2 W c t)) (pair (got (found4_3 W c t)) (pair anything (pair anything (got (found4_6 W c t hk))))))))
      (pair (handed (hands4 W c 0 t) (left4_0 W c t)) (pair (handed (hands4 W c 1 t) (left4_1 W c t)) (pair (handed (hands4 W c 2 t) (left4_2 W c t)) (pair (handed (hands4 W c 3 t) (left4_3 W c t)) (pair (handed (hands4 W c 4 t) (left4_4 W c t)) (pair (handed (hands4 W c 5 t) (left4_5 W c t)) (handed (hands4 W c 6 t) ((left4_6 W c t).trans (sum4_later W c t hk))))))))) rfl rfl

end Cert.Kernel3Ideal.Hand

end
-- ==== Proof.Ple5.lean ====
/-
  Call 5 of the per-layer embedding, the gradient of the projection: its body's run, its proof data, its triple at every point.
-/
module

public import proofs.«01_k».proof.Proof.PleBase

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel3Ideal Cert.Kernel3Ideal.Gen

variable {F : FTy → Type} [FloatOps F]

local notation "𝕄" => MT nD τ sig Unit (Elt F) ℕ (UR sig nD τ) ℕ

/-- What the body leaves in its output number 0, from its input blocks. -/
def res5_0 (x0 : Vec F S2048x256 .f32) (x1 : Vec F S2048x256 .bf16) : Vec F S1x256x256 .bf16 := k5_pay1 x0 x1

set_option maxHeartbeats 2000000 in
/-- The body's run. -/
theorem run5 (c : Dev nD) (i : grid5.Coords) (arg3 : Memref sig .tc .vmem S2048x256 .f32) (harg3 : arg3.IsWhole) (arg4 : Memref sig .tc .vmem S2048x256 .bf16) (harg4 : arg4.IsWhole) (arg5 : Memref sig .tc .vmem S1x256x256 .bf16) (harg5 : arg5.IsWhole)
    (x0 : Vec F S2048x256 .f32) (x1 : Vec F S2048x256 .bf16) (E : Set ℕ) (K : PUnit → sProp 𝕄) :
    iprop((owns (c : Thread nD τ) arg3 fullShare x0 ∗ owns (c : Thread nD τ) arg4 fullShare x1 ∗ (∃ d, owns (c : Thread nD τ) arg5 fullShare d))
        ∗ (iprop(owns (c : Thread nD τ) arg3 fullShare x0 ∗ owns (c : Thread nD τ) arg4 fullShare x1 ∗ owns (c : Thread nD τ) arg5 fullShare (res5_0 x0 x1)) -∗ K ⟨⟩))
      ⊢ wp frame (wpE (defs₀ (F := F)) Variants.none c none) E (cc5_ple_dwproj i arg3 harg3 arg4 harg4 arg5 harg5) K := by
  simp only [cc5_ple_dwproj_eq_skeleton]; unfold cc5_ple_dwproj_skel
  unfold owns
  iintro ⟨⟨⟨%f0, %hf0, H0⟩, ⟨%f1, %hf1, H1⟩, ⟨%d2, %f2, -, H2⟩⟩, Hk⟩
  obtain rfl := harg3.eq_unread hf0; obtain rfl := harg4.eq_unread hf1
  sl_exec
  sl_step
  iapply Hk
  isplitl [H0]
  · iapply (whole harg3 _); iexact H0
  isplitl [H1]
  · iapply (whole harg4 _); iexact H1
  iexists _; isplitr; swap; · iexact H2
  ipureintro
  exact (View.read_writes_full arg5.view _ _ _ _).trans (congr (congrArg k5_pay1 (ld_all arg3 harg3 x0 ![0, 0] inb_S2048x256_S2048x256_0_0)) (ld_all arg4 harg4 x1 ![0, 0] inb_S2048x256_S2048x256_0_0))

variable (W : Dev nD → Valuation τ sig (Elt F))

/-- The block of input `w` at point `t`. -/
def in5 (c : Dev nD) (w : Fin cfg5.W) (t : Fin cfg5.N) : ((cfg5.win w).xblock (cfg5.grid.coords t)).Idx → Elt F (cfg5.win w).elt :=
  ((cfg5.win w).blk t).view.read (Elt F) (W c (Pipeline.arrRef spec5 w))
abbrev in5_0 (c : Dev nD) (t : Fin cfg5.N) : Vec F S2048x256 .f32 := in5 W c 0 t
abbrev in5_1 (c : Dev nD) (t : Fin cfg5.N) : Vec F S2048x256 .bf16 := in5 W c 1 t

/-- The call's proof data: entered with its arrays at `W c`, each point leaves the inputs at their blocks and the outputs at the body's results. -/
def dat5 (c : Dev nD) : Dat τ (Elt F) Unit ℕ (UR sig nD τ) ℕ cfg5 c where
  A w := W c (Pipeline.arrRef spec5 w)
  after w t := match w with
    | ⟨0, _⟩ => in5 W c 0 t
    | ⟨1, _⟩ => in5 W c 1 t
    | ⟨2, _⟩ => res5_0 (in5_0 W c t) (in5_1 W c t)
  Φ _ := Pipeline.scopedRest spec5 c
  q w := Pipeline.shareOf spec5 w
  owed _ := 0

theorem A5 (c : Dev nD) (w : Fin cfg5.W) : (dat5 W c).A w = W c (Pipeline.arrRef spec5 w) := by dsimp only [dat5]
theorem left5_0 (c : Dev nD) (t : Fin cfg5.N) : (dat5 W c).after 0 t = in5 W c 0 t := by dsimp only [dat5]
theorem left5_1 (c : Dev nD) (t : Fin cfg5.N) : (dat5 W c).after 1 t = in5 W c 1 t := by dsimp only [dat5]
theorem left5_2 (c : Dev nD) (t : Fin cfg5.N) : (dat5 W c).after 2 t = res5_0 (in5_0 W c t) (in5_1 W c t) := by dsimp only [dat5]
set_option maxHeartbeats 1600000 in
/-- The library's body obligation. -/
theorem obl5 (c : Dev nD) : BodyObligation (dat5 (F := F) W c) (defs₀ (F := F)) Variants.none () Set.univ := fun t => by
  rw [bigSep_W5, bigSep_W5, show defs₀ (F := F) .tc cfg5.body (cfg5.bodyArgs t (cfg5.slots t)) = bodyAt5 t from by unfold defs₀; rw [Defs.onTc_tc]]
  exact obligation (dat5 W c) (run5 c (grid5.coords t) _ _ _ _ _ _ (in5_0 W c t) (in5_1 W c t) Set.univ)
    (pair (got (found (dat5 W c) 0 rfl (fun _ => rfl) (fun _ _ _ => rfl) (left5_0 W c) (fun t _ => (left5_0 W c t).symm) (left5_0 W c t))) (pair (got (found (dat5 W c) 1 rfl (fun _ => rfl) (fun _ _ _ => rfl) (left5_1 W c) (fun t _ => (left5_1 W c t).symm) (left5_1 W c t))) anything))
    (pair (back (left5_0 W c t)) (pair (back (left5_1 W c t)) (back (left5_2 W c t)))) rfl rfl

end Cert.Kernel3Ideal.Hand

end
-- ==== Proof.Ple6.lean ====
/-
  Call 6 of the per-layer embedding, the gradient of the gate weight: its body's run, its proof data, its triple at every point.
-/
module

public import proofs.«01_k».proof.Proof.PleBase

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel3Ideal Cert.Kernel3Ideal.Gen

variable {F : FTy → Type} [FloatOps F]

local notation "𝕄" => MT nD τ sig Unit (Elt F) ℕ (UR sig nD τ) ℕ

/-- What the body leaves in its output number 0, from its input blocks. -/
def res6_0 (x0 : Vec F S2048x512 .bf16) (x1 : Vec F S2048x2048 .bf16) : Vec F S512x2048 .bf16 := k6_pay1 x0 x1

set_option maxHeartbeats 2000000 in
/-- The body's run. -/
theorem run6 (c : Dev nD) (i : grid6.Coords) (arg3 : Memref sig .tc .vmem S2048x512 .bf16) (harg3 : arg3.IsWhole) (arg4 : Memref sig .tc .vmem S2048x2048 .bf16) (harg4 : arg4.IsWhole) (arg5 : Memref sig .tc .vmem S512x2048 .bf16) (harg5 : arg5.IsWhole)
    (x0 : Vec F S2048x512 .bf16) (x1 : Vec F S2048x2048 .bf16) (E : Set ℕ) (K : PUnit → sProp 𝕄) :
    iprop((owns (c : Thread nD τ) arg3 fullShare x0 ∗ owns (c : Thread nD τ) arg4 fullShare x1 ∗ (∃ d, owns (c : Thread nD τ) arg5 fullShare d))
        ∗ (iprop(owns (c : Thread nD τ) arg3 fullShare x0 ∗ owns (c : Thread nD τ) arg4 fullShare x1 ∗ owns (c : Thread nD τ) arg5 fullShare (res6_0 x0 x1)) -∗ K ⟨⟩))
      ⊢ wp frame (wpE (defs₀ (F := F)) Variants.none c none) E (cc6_ple_dwgate i arg3 harg3 arg4 harg4 arg5 harg5) K := by
  simp only [cc6_ple_dwgate_eq_skeleton]; unfold cc6_ple_dwgate_skel
  unfold owns
  iintro ⟨⟨⟨%f0, %hf0, H0⟩, ⟨%f1, %hf1, H1⟩, ⟨%d2, %f2, -, H2⟩⟩, Hk⟩
  obtain rfl := harg3.eq_unread hf0; obtain rfl := harg4.eq_unread hf1
  sl_exec
  sl_step
  iapply Hk
  isplitl [H0]
  · iapply (whole harg3 _); iexact H0
  isplitl [H1]
  · iapply (whole harg4 _); iexact H1
  iexists _; isplitr; swap; · iexact H2
  ipureintro
  exact (View.read_writes_full arg5.view _ _ _ _).trans (congr (congrArg k6_pay1 (ld_all arg3 harg3 x0 ![0, 0] inb_S2048x512_S2048x512_0_0)) (ld_all arg4 harg4 x1 ![0, 0] inb_S2048x2048_S2048x2048_0_0))

variable (W : Dev nD → Valuation τ sig (Elt F))

/-- The block of input `w` at point `t`. -/
def in6 (c : Dev nD) (w : Fin cfg6.W) (t : Fin cfg6.N) : ((cfg6.win w).xblock (cfg6.grid.coords t)).Idx → Elt F (cfg6.win w).elt :=
  ((cfg6.win w).blk t).view.read (Elt F) (W c (Pipeline.arrRef spec6 w))
abbrev in6_0 (c : Dev nD) (t : Fin cfg6.N) : Vec F S2048x512 .bf16 := in6 W c 0 t
abbrev in6_1 (c : Dev nD) (t : Fin cfg6.N) : Vec F S2048x2048 .bf16 := in6 W c 1 t

/-- The call's proof data: entered with its arrays at `W c`, each point leaves the inputs at their blocks and the outputs at the body's results. -/
def dat6 (c : Dev nD) : Dat τ (Elt F) Unit ℕ (UR sig nD τ) ℕ cfg6 c where
  A w := W c (Pipeline.arrRef spec6 w)
  after w t := match w with
    | ⟨0, _⟩ => in6 W c 0 t
    | ⟨1, _⟩ => in6 W c 1 t
    | ⟨2, _⟩ => res6_0 (in6_0 W c t) (in6_1 W c t)
  Φ _ := Pipeline.scopedRest spec6 c
  q w := Pipeline.shareOf spec6 w
  owed _ := 0

theorem A6 (c : Dev nD) (w : Fin cfg6.W) : (dat6 W c).A w = W c (Pipeline.arrRef spec6 w) := by dsimp only [dat6]
theorem left6_0 (c : Dev nD) (t : Fin cfg6.N) : (dat6 W c).after 0 t = in6 W c 0 t := by dsimp only [dat6]
theorem left6_1 (c : Dev nD) (t : Fin cfg6.N) : (dat6 W c).after 1 t = in6 W c 1 t := by dsimp only [dat6]
theorem left6_2 (c : Dev nD) (t : Fin cfg6.N) : (dat6 W c).after 2 t = res6_0 (in6_0 W c t) (in6_1 W c t) := by dsimp only [dat6]
set_option maxHeartbeats 1600000 in
/-- The library's body obligation. -/
theorem obl6 (c : Dev nD) : BodyObligation (dat6 (F := F) W c) (defs₀ (F := F)) Variants.none () Set.univ := fun t => by
  rw [bigSep_W6, bigSep_W6, show defs₀ (F := F) .tc cfg6.body (cfg6.bodyArgs t (cfg6.slots t)) = bodyAt6 t from by unfold defs₀; rw [Defs.onTc_tc]]
  exact obligation (dat6 W c) (run6 c (grid6.coords t) _ _ _ _ _ _ (in6_0 W c t) (in6_1 W c t) Set.univ)
    (pair (got (found (dat6 W c) 0 rfl (fun _ => rfl) (fun _ _ _ => rfl) (left6_0 W c) (fun t _ => (left6_0 W c t).symm) (left6_0 W c t))) (pair (got (found (dat6 W c) 1 rfl (fun _ => rfl) (fun _ _ _ => rfl) (left6_1 W c) (fun t _ => (left6_1 W c t).symm) (left6_1 W c t))) anything))
    (pair (back (left6_0 W c t)) (pair (back (left6_1 W c t)) (back (left6_2 W c t)))) rfl rfl

end Cert.Kernel3Ideal.Hand

end
-- ==== Proof.Ple7.lean ====
/-
  Call 7 of the per-layer embedding, the gradient of the normalised hidden state: its body's run, its proof data, its triple at every point.
-/
module

public import proofs.«01_k».proof.Proof.PleBase

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel3Ideal Cert.Kernel3Ideal.Gen

variable {F : FTy → Type} [FloatOps F]

local notation "𝕄" => MT nD τ sig Unit (Elt F) ℕ (UR sig nD τ) ℕ

/-- What the body leaves in its output number 0, from its input blocks. -/
def res7_0 (x0 : Vec F S1024x2048 .bf16) (x1 : Vec F S1024x2048 .bf16) : Vec F S1024x1024 .f32 := k7_pay1 x0 x1

set_option maxHeartbeats 2000000 in
/-- The body's run. -/
theorem run7 (c : Dev nD) (i : grid7.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole)
    (x0 : Vec F S1024x2048 .bf16) (x1 : Vec F S1024x2048 .bf16) (E : Set ℕ) (K : PUnit → sProp 𝕄) :
    iprop((owns (c : Thread nD τ) arg3 fullShare x0 ∗ owns (c : Thread nD τ) arg4 fullShare x1 ∗ (∃ d, owns (c : Thread nD τ) arg5 fullShare d))
        ∗ (iprop(owns (c : Thread nD τ) arg3 fullShare x0 ∗ owns (c : Thread nD τ) arg4 fullShare x1 ∗ owns (c : Thread nD τ) arg5 fullShare (res7_0 x0 x1)) -∗ K ⟨⟩))
      ⊢ wp frame (wpE (defs₀ (F := F)) Variants.none c none) E (cc7_ple_dhn i arg3 harg3 arg4 harg4 arg5 harg5) K := by
  simp only [cc7_ple_dhn_eq_skeleton]; unfold cc7_ple_dhn_skel
  unfold owns
  iintro ⟨⟨⟨%f0, %hf0, H0⟩, ⟨%f1, %hf1, H1⟩, ⟨%d2, %f2, -, H2⟩⟩, Hk⟩
  obtain rfl := harg3.eq_unread hf0; obtain rfl := harg4.eq_unread hf1
  sl_exec
  sl_step
  iapply Hk
  isplitl [H0]
  · iapply (whole harg3 _); iexact H0
  isplitl [H1]
  · iapply (whole harg4 _); iexact H1
  iexists _; isplitr; swap; · iexact H2
  ipureintro
  exact (View.read_writes_full arg5.view _ _ _ _).trans (congr (congrArg k7_pay1 (ld_all arg3 harg3 x0 ![0, 0] inb_S1024x2048_S1024x2048_0_0)) (ld_all arg4 harg4 x1 ![0, 0] inb_S1024x2048_S1024x2048_0_0))

variable (W : Dev nD → Valuation τ sig (Elt F))

/-- The block of input `w` at point `t`. -/
def in7 (c : Dev nD) (w : Fin cfg7.W) (t : Fin cfg7.N) : ((cfg7.win w).xblock (cfg7.grid.coords t)).Idx → Elt F (cfg7.win w).elt :=
  ((cfg7.win w).blk t).view.read (Elt F) (W c (Pipeline.arrRef spec7 w))
abbrev in7_0 (c : Dev nD) (t : Fin cfg7.N) : Vec F S1024x2048 .bf16 := in7 W c 0 t
abbrev in7_1 (c : Dev nD) (t : Fin cfg7.N) : Vec F S1024x2048 .bf16 := in7 W c 1 t

/-- The call's proof data: entered with its arrays at `W c`, each point leaves the inputs at their blocks and the outputs at the body's results. -/
def dat7 (c : Dev nD) : Dat τ (Elt F) Unit ℕ (UR sig nD τ) ℕ cfg7 c where
  A w := W c (Pipeline.arrRef spec7 w)
  after w t := match w with
    | ⟨0, _⟩ => in7 W c 0 t
    | ⟨1, _⟩ => in7 W c 1 t
    | ⟨2, _⟩ => res7_0 (in7_0 W c t) (in7_1 W c t)
  Φ _ := Pipeline.scopedRest spec7 c
  q w := Pipeline.shareOf spec7 w
  owed _ := 0

theorem A7 (c : Dev nD) (w : Fin cfg7.W) : (dat7 W c).A w = W c (Pipeline.arrRef spec7 w) := by dsimp only [dat7]
theorem left7_0 (c : Dev nD) (t : Fin cfg7.N) : (dat7 W c).after 0 t = in7 W c 0 t := by dsimp only [dat7]
theorem left7_1 (c : Dev nD) (t : Fin cfg7.N) : (dat7 W c).after 1 t = in7 W c 1 t := by dsimp only [dat7]
theorem left7_2 (c : Dev nD) (t : Fin cfg7.N) : (dat7 W c).after 2 t = res7_0 (in7_0 W c t) (in7_1 W c t) := by dsimp only [dat7]
set_option maxHeartbeats 1600000 in
/-- The library's body obligation. -/
theorem obl7 (c : Dev nD) : BodyObligation (dat7 (F := F) W c) (defs₀ (F := F)) Variants.none () Set.univ := fun t => by
  rw [bigSep_W7, bigSep_W7, show defs₀ (F := F) .tc cfg7.body (cfg7.bodyArgs t (cfg7.slots t)) = bodyAt7 t from by unfold defs₀; rw [Defs.onTc_tc]]
  exact obligation (dat7 W c) (run7 c (grid7.coords t) _ _ _ _ _ _ (in7_0 W c t) (in7_1 W c t) Set.univ)
    (pair (got (found (dat7 W c) 0 rfl (fun _ => rfl) (fun _ _ _ => rfl) (left7_0 W c) (fun t _ => (left7_0 W c t).symm) (left7_0 W c t))) (pair (got (found (dat7 W c) 1 rfl (fun _ => rfl) (fun _ _ _ => rfl) (left7_1 W c) (fun t _ => (left7_1 W c t).symm) (left7_1 W c t))) anything))
    (pair (back (left7_0 W c t)) (pair (back (left7_1 W c t)) (back (left7_2 W c t)))) rfl rfl

end Cert.Kernel3Ideal.Hand

end
-- ==== Proof.Ple8.lean ====
/-
  Call 8 of the per-layer embedding, the gradient of the normalisation, and the gain's gradient summed over the eight blocks of rows.
-/
module

public import Idealize.ShloMosaic.Lib.WordCmp
public import proofs.«01_k».proof.Proof.PleBase

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel3Ideal Cert.Kernel3Ideal.Gen

variable {F : FTy → Type} [FloatOps F]

local notation "𝕄" => MT nD τ sig Unit (Elt F) ℕ (UR sig nD τ) ℕ

/-- The first output's block, from the blocks of the inputs. -/
def res8_0 (x0 : Vec F S256x2048 .f32) (x1 : Vec F S256x2048 .f32) (x2 : Vec F S256x2048 .f32) (x3 : Vec F S1x2048 .f32) : Vec F S256x2048 .f32 := k8_pay7 x0 x3 x1 x2
/-- The second output's block. -/
def res8_1 (x0 : Vec F S256x2048 .f32) (x1 : Vec F S256x2048 .f32) (x2 : Vec F S256x2048 .f32) (x3 : Vec F S1x2048 .f32) : Vec F S256x2048 .bf16 := k8_pay1 (k8_pay7 x0 x3 x1 x2)
/-- What a block of rows adds to the gain's gradient. -/
def step8 (x0 : Vec F S256x2048 .f32) (x1 : Vec F S256x2048 .f32) (x2 : Vec F S256x2048 .f32) (x3 : Vec F S1x2048 .f32) : Vec F S1x2048 .f32 := k8_pay6 x0 x1

set_option maxHeartbeats 2000000 in
/-- The body's run at the first block of rows. -/
theorem run8First (c : Dev nD) (i : grid8.Coords)
    (arg1 : Memref sig .tc .vmem S256x2048 .f32) (harg1 : arg1.IsWhole)
    (arg2 : Memref sig .tc .vmem S256x2048 .f32) (harg2 : arg2.IsWhole)
    (arg3 : Memref sig .tc .vmem S256x2048 .f32) (harg3 : arg3.IsWhole)
    (arg4 : Memref sig .tc .vmem S1x2048 .f32) (harg4 : arg4.IsWhole)
    (arg5 : Memref sig .tc .vmem S256x2048 .f32) (harg5 : arg5.IsWhole)
    (arg6 : Memref sig .tc .vmem S256x2048 .bf16) (harg6 : arg6.IsWhole)
    (arg7 : Memref sig .tc .vmem S1x2048 .f32) (harg7 : arg7.IsWhole)
    (hc1 : k8_cond1 i = 1#1) (hc2 : ¬ k8_cond2 i = 1#1)
    (x0 : Vec F S256x2048 .f32) (x1 : Vec F S256x2048 .f32) (x2 : Vec F S256x2048 .f32) (x3 : Vec F S1x2048 .f32) (E : Set ℕ) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d))
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (res8_0 x0 x1 x2 x3) ∗ owns (c : Thread nD τ) arg6 fullShare (res8_1 x0 x1 x2 x3) ∗ owns (c : Thread nD τ) arg7 fullShare (step8 x0 x1 x2 x3)) -∗ K ⟨⟩))
      ⊢ wp frame (wpE (defs₀ (F := F)) Variants.none c none) E (cc8_ple_dnorm i arg1 harg1 arg2 harg2 arg3 harg3 arg4 harg4 arg5 harg5 arg6 harg6 arg7 harg7) K := by
  simp only [cc8_ple_dnorm_eq_skeleton]; unfold cc8_ple_dnorm_skel
  simp only [k8_part1_eq_skeleton]; unfold k8_part1_skel
  unfold owns
  iintro ⟨⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩⟩, Hk⟩
  obtain rfl := harg1.eq_unread hf0; obtain rfl := harg2.eq_unread hf1; obtain rfl := harg3.eq_unread hf2; obtain rfl := harg4.eq_unread hf3
  sl_exec (disch := first | sl_exact hc1 | sl_exact hc2)
  sl_step
  iapply Hk
  isplitl [H0]
  · iapply (whole harg1 _); iexact H0
  isplitl [H1]
  · iapply (whole harg2 _); iexact H1
  isplitl [H2]
  · iapply (whole harg3 _); iexact H2
  isplitl [H3]
  · iapply (whole harg4 _); iexact H3
  isplitl [H4]
  · iexists _; isplitr; swap; · iexact H4
    ipureintro
    have e := congr (congr (congr (congrArg res8_0 (ld_all arg1 harg1 x0 ![0, 0] inb_S256x2048_S256x2048_0_0)) (ld_all arg2 harg2 x1 ![0, 0] inb_S256x2048_S256x2048_0_0)) (ld_all arg3 harg3 x2 ![0, 0] inb_S256x2048_S256x2048_0_0)) (ld_all arg4 harg4 x3 ![0, 0] inb_S1x2048_S1x2048_0_0)
    exact (View.read_writes_full arg5.view _ _ _ _).trans e
  isplitl [H5]
  · iexists _; isplitr; swap; · iexact H5
    ipureintro
    have e := congr (congr (congr (congrArg res8_1 (ld_all arg1 harg1 x0 ![0, 0] inb_S256x2048_S256x2048_0_0)) (ld_all arg2 harg2 x1 ![0, 0] inb_S256x2048_S256x2048_0_0)) (ld_all arg3 harg3 x2 ![0, 0] inb_S256x2048_S256x2048_0_0)) (ld_all arg4 harg4 x3 ![0, 0] inb_S1x2048_S1x2048_0_0)
    exact (View.read_writes_full arg6.view _ _ _ _).trans e
  iexists _; isplitr; swap; · iexact H6
  ipureintro
  have e := congr (congr (congr (congrArg step8 (ld_all arg1 harg1 x0 ![0, 0] inb_S256x2048_S256x2048_0_0)) (ld_all arg2 harg2 x1 ![0, 0] inb_S256x2048_S256x2048_0_0)) (ld_all arg3 harg3 x2 ![0, 0] inb_S256x2048_S256x2048_0_0)) (ld_all arg4 harg4 x3 ![0, 0] inb_S1x2048_S1x2048_0_0)
  exact (View.read_writes_full arg7.view _ _ _ _).trans e

set_option maxHeartbeats 2000000 in
/-- The body's run at a later block of rows. -/
theorem run8Later (c : Dev nD) (i : grid8.Coords)
    (arg1 : Memref sig .tc .vmem S256x2048 .f32) (harg1 : arg1.IsWhole)
    (arg2 : Memref sig .tc .vmem S256x2048 .f32) (harg2 : arg2.IsWhole)
    (arg3 : Memref sig .tc .vmem S256x2048 .f32) (harg3 : arg3.IsWhole)
    (arg4 : Memref sig .tc .vmem S1x2048 .f32) (harg4 : arg4.IsWhole)
    (arg5 : Memref sig .tc .vmem S256x2048 .f32) (harg5 : arg5.IsWhole)
    (arg6 : Memref sig .tc .vmem S256x2048 .bf16) (harg6 : arg6.IsWhole)
    (arg7 : Memref sig .tc .vmem S1x2048 .f32) (harg7 : arg7.IsWhole)
    (hc1 : ¬ k8_cond1 i = 1#1) (hc2 : k8_cond2 i = 1#1)
    (x0 : Vec F S256x2048 .f32) (x1 : Vec F S256x2048 .f32) (x2 : Vec F S256x2048 .f32) (x3 : Vec F S1x2048 .f32) (X : Vec F S1x2048 .f32) (E : Set ℕ) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ owns (c : Thread nD τ) arg7 fullShare X)
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (res8_0 x0 x1 x2 x3) ∗ owns (c : Thread nD τ) arg6 fullShare (res8_1 x0 x1 x2 x3) ∗ owns (c : Thread nD τ) arg7 fullShare (k8_pay2 (step8 x0 x1 x2 x3) X)) -∗ K ⟨⟩))
      ⊢ wp frame (wpE (defs₀ (F := F)) Variants.none c none) E (cc8_ple_dnorm i arg1 harg1 arg2 harg2 arg3 harg3 arg4 harg4 arg5 harg5 arg6 harg6 arg7 harg7) K := by
  simp only [cc8_ple_dnorm_eq_skeleton]; unfold cc8_ple_dnorm_skel
  simp only [k8_part1_eq_skeleton]; unfold k8_part1_skel
  unfold owns
  iintro ⟨⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩⟩, Hk⟩
  obtain rfl := harg1.eq_unread hf0; obtain rfl := harg2.eq_unread hf1; obtain rfl := harg3.eq_unread hf2; obtain rfl := harg4.eq_unread hf3
  obtain rfl := harg7.eq_unread hf6
  sl_exec (disch := first | sl_exact hc1 | sl_exact hc2)
  sl_step
  iapply Hk
  isplitl [H0]
  · iapply (whole harg1 _); iexact H0
  isplitl [H1]
  · iapply (whole harg2 _); iexact H1
  isplitl [H2]
  · iapply (whole harg3 _); iexact H2
  isplitl [H3]
  · iapply (whole harg4 _); iexact H3
  isplitl [H4]
  · iexists _; isplitr; swap; · iexact H4
    ipureintro
    have e := congr (congr (congr (congrArg res8_0 (ld_all arg1 harg1 x0 ![0, 0] inb_S256x2048_S256x2048_0_0)) (ld_all arg2 harg2 x1 ![0, 0] inb_S256x2048_S256x2048_0_0)) (ld_all arg3 harg3 x2 ![0, 0] inb_S256x2048_S256x2048_0_0)) (ld_all arg4 harg4 x3 ![0, 0] inb_S1x2048_S1x2048_0_0)
    exact (View.read_writes_full arg5.view _ _ _ _).trans e
  isplitl [H5]
  · iexists _; isplitr; swap; · iexact H5
    ipureintro
    have e := congr (congr (congr (congrArg res8_1 (ld_all arg1 harg1 x0 ![0, 0] inb_S256x2048_S256x2048_0_0)) (ld_all arg2 harg2 x1 ![0, 0] inb_S256x2048_S256x2048_0_0)) (ld_all arg3 harg3 x2 ![0, 0] inb_S256x2048_S256x2048_0_0)) (ld_all arg4 harg4 x3 ![0, 0] inb_S1x2048_S1x2048_0_0)
    exact (View.read_writes_full arg6.view _ _ _ _).trans e
  iexists _; isplitr; swap; · iexact H6
  ipureintro
  have e := congr (congrArg k8_pay2 (congr (congr (congr (congrArg step8 (ld_all arg1 harg1 x0 ![0, 0] inb_S256x2048_S256x2048_0_0)) (ld_all arg2 harg2 x1 ![0, 0] inb_S256x2048_S256x2048_0_0)) (ld_all arg3 harg3 x2 ![0, 0] inb_S256x2048_S256x2048_0_0)) (ld_all arg4 harg4 x3 ![0, 0] inb_S1x2048_S1x2048_0_0))) (ld_all arg7 harg7 X ![0, 0] inb_S1x2048_S1x2048_0_0)
  exact (View.read_writes_full arg7.view _ _ _ _).trans e

theorem first8_iff (i : grid8.Coords) : k8_cond1 i = 1#1 ↔ (i 0).val = 0 := by
  have h : (i 0).val < 8 := (i 0).isLt
  simp only [k8_cond1]; word_cmp
theorem later8_iff (i : grid8.Coords) : k8_cond2 i = 1#1 ↔ (i 0).val ≠ 0 := by
  have h : (i 0).val < 8 := (i 0).isLt
  simp only [k8_cond2]; word_cmp
theorem coord8 (t : Fin cfg8.N) : (grid8.coords t 0).val = t.val := by
  have ht : t.val < 8 := Nat.lt_of_lt_of_eq t.isLt N_8
  have e : (grid8.coords t 0).val = t.val / 1 % 8 := Pipeline.Grid.coords_val t 0 (by decide) rfl
  rw [e]; omega
/-- The gain's gradient is stored at every point, so no window is ever idle. -/
theorem live8 (w : Fin cfg8.W) (i : grid8.Coords) : cfg8.idle w i = false := by
  have h6 : (!(k8_cond1 i == 1#1) && !(k8_cond2 i == 1#1)) = false := by
    by_cases h : (i 0).val = 0
    · rw [(first8_iff i).mpr h]; simp
    · rw [(later8_iff i).mpr h]; simp
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => exact h6

variable (W : Dev nD → Valuation τ sig (Elt F))

/-- The block of input `w` at point `t`. -/
def in8 (c : Dev nD) (w : Fin cfg8.W) (t : Fin cfg8.N) : ((cfg8.win w).xblock (cfg8.grid.coords t)).Idx → Elt F (cfg8.win w).elt :=
  ((cfg8.win w).blk t).view.read (Elt F) (W c (Pipeline.arrRef spec8 w))
abbrev in8_0 (c : Dev nD) (t : Fin cfg8.N) : Vec F S256x2048 .f32 := in8 W c 0 t
abbrev in8_1 (c : Dev nD) (t : Fin cfg8.N) : Vec F S256x2048 .f32 := in8 W c 1 t
abbrev in8_2 (c : Dev nD) (t : Fin cfg8.N) : Vec F S256x2048 .f32 := in8 W c 2 t
abbrev in8_3 (c : Dev nD) (t : Fin cfg8.N) : Vec F S1x2048 .f32 := in8 W c 3 t

/-- The gain's gradient after the blocks up to number `n`. -/
def sum8 (c : Dev nD) : (n : ℕ) → n < cfg8.N → Vec F S1x2048 .f32
  | 0, h => step8 (in8_0 W c ⟨0, h⟩) (in8_1 W c ⟨0, h⟩) (in8_2 W c ⟨0, h⟩) (in8_3 W c ⟨0, h⟩)
  | n + 1, h => k8_pay2 (step8 (in8_0 W c ⟨n + 1, h⟩) (in8_1 W c ⟨n + 1, h⟩) (in8_2 W c ⟨n + 1, h⟩) (in8_3 W c ⟨n + 1, h⟩)) (sum8 c n (Nat.lt_of_succ_lt h))
theorem sum8_first (c : Dev nD) (t : Fin cfg8.N) (h : t.val = 0) : sum8 W c t.val t.isLt = step8 (in8_0 W c t) (in8_1 W c t) (in8_2 W c t) (in8_3 W c t) := by
  obtain ⟨n, hn⟩ := t
  cases n with
  | zero => rfl
  | succ n => exact absurd h (Nat.succ_ne_zero n)
theorem sum8_later (c : Dev nD) (t : Fin cfg8.N) (h : t.val ≠ 0) :
    sum8 W c t.val t.isLt = k8_pay2 (step8 (in8_0 W c t) (in8_1 W c t) (in8_2 W c t) (in8_3 W c t)) (sum8 W c (t.val - 1) (Nat.lt_of_le_of_lt (Nat.sub_le _ _) t.isLt)) := by
  obtain ⟨n, hn⟩ := t
  cases n with
  | zero => exact absurd rfl h
  | succ n => rfl

/-- The call's proof data: entered with its arrays at `W c`; each point leaves the inputs at their blocks, the two blocks of the input's gradient, and the gain's gradient summed so far. -/
def dat8 (c : Dev nD) : Dat τ (Elt F) Unit ℕ (UR sig nD τ) ℕ cfg8 c where
  A w := W c (Pipeline.arrRef spec8 w)
  after w t := match w with
    | ⟨0, _⟩ => in8 W c 0 t
    | ⟨1, _⟩ => in8 W c 1 t
    | ⟨2, _⟩ => in8 W c 2 t
    | ⟨3, _⟩ => in8 W c 3 t
    | ⟨4, _⟩ => res8_0 (in8_0 W c t) (in8_1 W c t) (in8_2 W c t) (in8_3 W c t)
    | ⟨5, _⟩ => res8_1 (in8_0 W c t) (in8_1 W c t) (in8_2 W c t) (in8_3 W c t)
    | ⟨6, _⟩ => sum8 W c t.val t.isLt
  Φ _ := Pipeline.scopedRest spec8 c
  q w := Pipeline.shareOf spec8 w
  owed _ := 0

theorem A8 (c : Dev nD) (w : Fin cfg8.W) : (dat8 W c).A w = W c (Pipeline.arrRef spec8 w) := by dsimp only [dat8]
theorem left8_0 (c : Dev nD) (t : Fin cfg8.N) : (dat8 W c).after 0 t = in8 W c 0 t := by dsimp only [dat8]
theorem left8_1 (c : Dev nD) (t : Fin cfg8.N) : (dat8 W c).after 1 t = in8 W c 1 t := by dsimp only [dat8]
theorem left8_2 (c : Dev nD) (t : Fin cfg8.N) : (dat8 W c).after 2 t = in8 W c 2 t := by dsimp only [dat8]
theorem left8_3 (c : Dev nD) (t : Fin cfg8.N) : (dat8 W c).after 3 t = in8 W c 3 t := by dsimp only [dat8]
theorem left8_4 (c : Dev nD) (t : Fin cfg8.N) : (dat8 W c).after 4 t = res8_0 (in8_0 W c t) (in8_1 W c t) (in8_2 W c t) (in8_3 W c t) := by dsimp only [dat8]
theorem left8_5 (c : Dev nD) (t : Fin cfg8.N) : (dat8 W c).after 5 t = res8_1 (in8_0 W c t) (in8_1 W c t) (in8_2 W c t) (in8_3 W c t) := by dsimp only [dat8]
theorem left8_6 (c : Dev nD) (t : Fin cfg8.N) : (dat8 W c).after 6 t = sum8 W c t.val t.isLt := by dsimp only [dat8]
/-- The inputs' buffers hold their blocks at every point. -/
theorem found8_0 (c : Dev nD) (t : Fin cfg8.N) (d) : (dat8 W c).before 0 t d = in8 W c 0 t :=
  found (dat8 W c) 0 rfl (fun _ => rfl) (fun _ _ _ => rfl) (left8_0 W c) (fun t _ => (left8_0 W c t).symm) (left8_0 W c t) d
theorem found8_1 (c : Dev nD) (t : Fin cfg8.N) (d) : (dat8 W c).before 1 t d = in8 W c 1 t :=
  found (dat8 W c) 1 rfl (fun _ => rfl) (fun _ _ _ => rfl) (left8_1 W c) (fun t _ => (left8_1 W c t).symm) (left8_1 W c t) d
theorem found8_2 (c : Dev nD) (t : Fin cfg8.N) (d) : (dat8 W c).before 2 t d = in8 W c 2 t :=
  found (dat8 W c) 2 rfl (fun _ => rfl) (fun _ _ _ => rfl) (left8_2 W c) (fun t _ => (left8_2 W c t).symm) (left8_2 W c t) d
theorem found8_3 (c : Dev nD) (t : Fin cfg8.N) (d) : (dat8 W c).before 3 t d = in8 W c 3 t :=
  found (dat8 W c) 3 rfl (fun _ => rfl) (fun _ _ _ => rfl) (left8_3 W c) (fun t _ => (left8_3 W c t).symm) (left8_3 W c t) d
/-- The gain's gradient's buffer holds, at a later point, what the point before left. -/
theorem found8_6 (c : Dev nD) (t : Fin cfg8.N) (h0 : t.val ≠ 0) (d) :
    (dat8 W c).before 6 t d = sum8 W c (t.val - 1) (Nat.lt_of_le_of_lt (Nat.sub_le _ _) t.isLt) :=
  ((dat8 W c).before_out_kept 6 rfl t h0
    (Bool.eq_false_iff.mpr fun hf => by
      have := (flush8_6 _).mp hf
      have ht : t.val < 8 := Nat.lt_of_lt_of_eq t.isLt N_8
      simp only at this; omega) (live8 6) (fun _ _ => rfl) d).trans (left8_6 W c _)

theorem hands8 (c : Dev nD) (w : Fin cfg8.W) (t : Fin cfg8.N) :
    (dat8 W c).leavesExact w t = owns (c : Thread nD τ) ((cfg8.win w).stage (cfg8.slots t w)) fullShare ((dat8 W c).after w t) := by
  unfold Dat.leavesExact; rw [live8 w (cfg8.grid.coords t)]

set_option maxHeartbeats 1600000 in
/-- The library's body obligation. -/
theorem obl8 (c : Dev nD) : BodyObligation (dat8 (F := F) W c) (defs₀ (F := F)) Variants.none () Set.univ := fun t => by
  rw [bigSep_W8, bigSep_W8, show defs₀ (F := F) .tc cfg8.body (cfg8.bodyArgs t (cfg8.slots t)) = bodyAt8 t from by unfold defs₀; rw [Defs.onTc_tc]]
  by_cases hk : t.val = 0
  · exact obligation (dat8 W c) (run8First c (grid8.coords t) _ _ _ _ _ _ _ _ _ _ _ _ _ _ ((first8_iff _).mpr ((coord8 t).trans hk)) (fun h => (later8_iff _).mp h ((coord8 t).trans hk)) (in8_0 W c t) (in8_1 W c t) (in8_2 W c t) (in8_3 W c t) Set.univ)
      (pair (got (found8_0 W c t)) (pair (got (found8_1 W c t)) (pair (got (found8_2 W c t)) (pair (got (found8_3 W c t)) (pair anything (pair anything anything))))))
      (pair (handed (hands8 W c 0 t) (left8_0 W c t)) (pair (handed (hands8 W c 1 t) (left8_1 W c t)) (pair (handed (hands8 W c 2 t) (left8_2 W c t)) (pair (handed (hands8 W c 3 t) (left8_3 W c t)) (pair (handed (hands8 W c 4 t) (left8_4 W c t)) (pair (handed (hands8 W c 5 t) (left8_5 W c t)) (handed (hands8 W c 6 t) ((left8_6 W c t).trans (sum8_first W c t hk))))))))) rfl rfl
  · exact obligation (dat8 W c) (run8Later c (grid8.coords t) _ _ _ _ _ _ _ _ _ _ _ _ _ _ (fun h => hk ((coord8 t).symm.trans ((first8_iff _).mp h))) ((later8_iff _).mpr (fun h => hk ((coord8 t).symm.trans h))) (in8_0 W c t) (in8_1 W c t) (in8_2 W c t) (in8_3 W c t) _ Set.univ)
      (pair (got (found8_0 W c t)) (pair (got (found8_1 W c t)) (pair (got (found8_2 W c t)) (pair (got (found8_3 W c t)) (pair anything (pair anything (got (found8_6 W c t hk))))))))
      (pair (handed (hands8 W c 0 t) (left8_0 W c t)) (pair (handed (hands8 W c 1 t) (left8_1 W c t)) (pair (handed (hands8 W c 2 t) (left8_2 W c t)) (pair (handed (hands8 W c 3 t) (left8_3 W c t)) (pair (handed (hands8 W c 4 t) (left8_4 W c t)) (pair (handed (hands8 W c 5 t) (left8_5 W c t)) (handed (hands8 W c 6 t) ((left8_6 W c t).trans (sum8_later W c t hk))))))))) rfl rfl

end Cert.Kernel3Ideal.Hand

end
-- ==== Proof.PleRun.lean ====
/-
  The run of the whole per-layer embedding: the contents of the program's arrays between its calls, each call as a
  segment between them, the launch; what the run leaves in the arguments and the results.
-/
module

public import proofs.«01_k».proof.Proof.Ple0
public import proofs.«01_k».proof.Proof.Ple1
public import proofs.«01_k».proof.Proof.Ple2
public import proofs.«01_k».proof.Proof.Ple3
public import proofs.«01_k».proof.Proof.Ple4
public import proofs.«01_k».proof.Proof.Ple5
public import proofs.«01_k».proof.Proof.Ple6
public import proofs.«01_k».proof.Proof.Ple7
public import proofs.«01_k».proof.Proof.Ple8
public import proofs.«01_k».proof.Proof.Segs

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays between the items -/

/-- At launch, and after the host operations before the first call. -/
def W0 (c : Dev nD) : Valuation τ sig (Elt F) := fun b => m (c, b)
def W1 (c : Dev nD) : Valuation τ sig (Elt F) := StableHlo.after hostOps0 (W0 m c)
theorem W1_of (c : Dev nD) (r : Ref sig .tc) (h : r ∉ hostOps0_W) : W1 m c r = W0 m c r :=
  StableHlo.after_of_writes_sub hostOps0 _ hostOps0_writes h

/-- After call 0. -/
def W2 (c : Dev nD) : Valuation τ sig (Elt F) := Function.update (W1 m c) main_v4 ((dat0 (W1 m) c).arrAt 2 cfg0.N)
theorem W2_of (c : Dev nD) (r : Ref sig .tc) (h : r ∉ [main_v4]) : W2 m c r = W1 m c r := of1 h
theorem W2_v4 (c : Dev nD) : W2 m c main_v4 = (dat0 (W1 m) c).arrAt 2 cfg0.N := Function.update_self _ _ _

/-- After call 1. -/
def W3 (c : Dev nD) : Valuation τ sig (Elt F) := Function.update (W2 m c) main_v5 ((dat1 (W2 m) c).arrAt 2 cfg1.N)
theorem W3_of (c : Dev nD) (r : Ref sig .tc) (h : r ∉ [main_v5]) : W3 m c r = W2 m c r := of1 h
theorem W3_v5 (c : Dev nD) : W3 m c main_v5 = (dat1 (W2 m) c).arrAt 2 cfg1.N := Function.update_self _ _ _

/-- After call 2. -/
def W4 (c : Dev nD) : Valuation τ sig (Elt F) := Function.update (W3 m c) main_v6 ((dat2 (W3 m) c).arrAt 2 cfg2.N)
theorem W4_of (c : Dev nD) (r : Ref sig .tc) (h : r ∉ [main_v6]) : W4 m c r = W3 m c r := of1 h
theorem W4_v6 (c : Dev nD) : W4 m c main_v6 = (dat2 (W3 m) c).arrAt 2 cfg2.N := Function.update_self _ _ _

/-- After call 3. -/
def W5 (c : Dev nD) : Valuation τ sig (Elt F) := Function.update (W4 m c) main_v7 ((dat3 (W4 m) c).arrAt 4 cfg3.N)
theorem W5_of (c : Dev nD) (r : Ref sig .tc) (h : r ∉ [main_v7]) : W5 m c r = W4 m c r := of1 h
theorem W5_v7 (c : Dev nD) : W5 m c main_v7 = (dat3 (W4 m) c).arrAt 4 cfg3.N := Function.update_self _ _ _

/-- After call 4. -/
def W6 (c : Dev nD) : Valuation τ sig (Elt F) := Function.update (Function.update (Function.update (W5 m c) main_v8_0 ((dat4 (W5 m) c).arrAt 4 cfg4.N)) main_v8_1 ((dat4 (W5 m) c).arrAt 5 cfg4.N)) main_v8_2 ((dat4 (W5 m) c).arrAt 6 cfg4.N)
theorem W6_of (c : Dev nD) (r : Ref sig .tc) (h : r ∉ [main_v8_0, main_v8_1, main_v8_2]) : W6 m c r = W5 m c r := of3 h
theorem W6_v8_0 (c : Dev nD) : W6 m c main_v8_0 = (dat4 (W5 m) c).arrAt 4 cfg4.N := (of2 (by decide)).trans (Function.update_self _ _ _)
theorem W6_v8_1 (c : Dev nD) : W6 m c main_v8_1 = (dat4 (W5 m) c).arrAt 5 cfg4.N := (of1 (by decide)).trans (Function.update_self _ _ _)
theorem W6_v8_2 (c : Dev nD) : W6 m c main_v8_2 = (dat4 (W5 m) c).arrAt 6 cfg4.N := Function.update_self _ _ _

/-- After call 5. -/
def W7 (c : Dev nD) : Valuation τ sig (Elt F) := Function.update (W6 m c) main_v9 ((dat5 (W6 m) c).arrAt 2 cfg5.N)
theorem W7_of (c : Dev nD) (r : Ref sig .tc) (h : r ∉ [main_v9]) : W7 m c r = W6 m c r := of1 h
theorem W7_v9 (c : Dev nD) : W7 m c main_v9 = (dat5 (W6 m) c).arrAt 2 cfg5.N := Function.update_self _ _ _

/-- After call 6. -/
def W8 (c : Dev nD) : Valuation τ sig (Elt F) := Function.update (W7 m c) main_v10 ((dat6 (W7 m) c).arrAt 2 cfg6.N)
theorem W8_of (c : Dev nD) (r : Ref sig .tc) (h : r ∉ [main_v10]) : W8 m c r = W7 m c r := of1 h
theorem W8_v10 (c : Dev nD) : W8 m c main_v10 = (dat6 (W7 m) c).arrAt 2 cfg6.N := Function.update_self _ _ _

/-- After call 7. -/
def W9 (c : Dev nD) : Valuation τ sig (Elt F) := Function.update (W8 m c) main_v11 ((dat7 (W8 m) c).arrAt 2 cfg7.N)
theorem W9_of (c : Dev nD) (r : Ref sig .tc) (h : r ∉ [main_v11]) : W9 m c r = W8 m c r := of1 h
theorem W9_v11 (c : Dev nD) : W9 m c main_v11 = (dat7 (W8 m) c).arrAt 2 cfg7.N := Function.update_self _ _ _

/-- After call 8. -/
def W10 (c : Dev nD) : Valuation τ sig (Elt F) := Function.update (Function.update (Function.update (W9 m c) main_v12_0 ((dat8 (W9 m) c).arrAt 4 cfg8.N)) main_v12_1 ((dat8 (W9 m) c).arrAt 5 cfg8.N)) main_v12_2 ((dat8 (W9 m) c).arrAt 6 cfg8.N)
theorem W10_of (c : Dev nD) (r : Ref sig .tc) (h : r ∉ [main_v12_0, main_v12_1, main_v12_2]) : W10 m c r = W9 m c r := of3 h
theorem W10_v12_0 (c : Dev nD) : W10 m c main_v12_0 = (dat8 (W9 m) c).arrAt 4 cfg8.N := (of2 (by decide)).trans (Function.update_self _ _ _)
theorem W10_v12_1 (c : Dev nD) : W10 m c main_v12_1 = (dat8 (W9 m) c).arrAt 5 cfg8.N := (of1 (by decide)).trans (Function.update_self _ _ _)
theorem W10_v12_2 (c : Dev nD) : W10 m c main_v12_2 = (dat8 (W9 m) c).arrAt 6 cfg8.N := Function.update_self _ _ _

/-! ## The calls as segments -/

/-- The calls' proof data, each entered with its arrays as the items before it leave them. -/
def pd (p : Fin 9) (c : Dev nD) : Dat τ (Elt F) Unit ℕ (UR sig nD τ) ℕ (cfgs p) c :=
  match p with
  | 0 => dat0 (W1 m) c
  | 1 => dat1 (W2 m) c
  | 2 => dat2 (W3 m) c
  | 3 => dat3 (W4 m) c
  | 4 => dat4 (W5 m) c
  | 5 => dat5 (W6 m) c
  | 6 => dat6 (W7 m) c
  | 7 => dat7 (W8 m) c
  | 8 => dat8 (W9 m) c

theorem end0 (c : Dev nD) (w : Fin cfg0.W) : (dat0 (W1 m) c).arrAt w cfg0.N = W2 m c (Pipeline.arrRef spec0 w) :=
  match w with
  | ⟨0, _⟩ => left _ 0 rfl (A0 (W1 m) c 0) (W2_of m c _ (by decide))
  | ⟨1, _⟩ => left _ 1 rfl (A0 (W1 m) c 1) (W2_of m c _ (by decide))
  | ⟨2, _⟩ => (W2_v4 m c).symm
def seg0 (m : (ℓ : Loc nD τ sig) → Buf (Elt F) ℓ) : RegionSeg (pcfgs (F := F)) adm (pd m) () defs₀ Variants.none noCells noLevel 0 :=
  segment (pd m) 0 launch0.win.to₀ (Pipeline.SharedIn.of_injective winFacts0.arr_inj) block_pos0 arr_whole0 stage_whole0
    (obl0 (W1 m)) (A0 (W1 m)) (end0 m) (W2_of m) (by decide)

theorem end1 (c : Dev nD) (w : Fin cfg1.W) : (dat1 (W2 m) c).arrAt w cfg1.N = W3 m c (Pipeline.arrRef spec1 w) :=
  match w with
  | ⟨0, _⟩ => left _ 0 rfl (A1 (W2 m) c 0) (W3_of m c _ (by decide))
  | ⟨1, _⟩ => left _ 1 rfl (A1 (W2 m) c 1) (W3_of m c _ (by decide))
  | ⟨2, _⟩ => (W3_v5 m c).symm
def seg1 (m : (ℓ : Loc nD τ sig) → Buf (Elt F) ℓ) : RegionSeg (pcfgs (F := F)) adm (pd m) () defs₀ Variants.none noCells noLevel 1 :=
  segment (pd m) 1 launch1.win.to₀ (Pipeline.SharedIn.of_injective winFacts1.arr_inj) block_pos1 arr_whole1 stage_whole1
    (obl1 (W2 m)) (A1 (W2 m)) (end1 m) (W3_of m) (by decide)

theorem end2 (c : Dev nD) (w : Fin cfg2.W) : (dat2 (W3 m) c).arrAt w cfg2.N = W4 m c (Pipeline.arrRef spec2 w) :=
  match w with
  | ⟨0, _⟩ => left _ 0 rfl (A2 (W3 m) c 0) (W4_of m c _ (by decide))
  | ⟨1, _⟩ => left _ 1 rfl (A2 (W3 m) c 1) (W4_of m c _ (by decide))
  | ⟨2, _⟩ => (W4_v6 m c).symm
def seg2 (m : (ℓ : Loc nD τ sig) → Buf (Elt F) ℓ) : RegionSeg (pcfgs (F := F)) adm (pd m) () defs₀ Variants.none noCells noLevel 2 :=
  segment (pd m) 2 launch2.win.to₀ (Pipeline.SharedIn.of_injective winFacts2.arr_inj) block_pos2 arr_whole2 stage_whole2
    (obl2 (W3 m)) (A2 (W3 m)) (end2 m) (W4_of m) (by decide)

theorem end3 (c : Dev nD) (w : Fin cfg3.W) : (dat3 (W4 m) c).arrAt w cfg3.N = W5 m c (Pipeline.arrRef spec3 w) :=
  match w with
  | ⟨0, _⟩ => left _ 0 rfl (A3 (W4 m) c 0) (W5_of m c _ (by decide))
  | ⟨1, _⟩ => left _ 1 rfl (A3 (W4 m) c 1) (W5_of m c _ (by decide))
  | ⟨2, _⟩ => left _ 2 rfl (A3 (W4 m) c 2) (W5_of m c _ (by decide))
  | ⟨3, _⟩ => left _ 3 rfl (A3 (W4 m) c 3) (W5_of m c _ (by decide))
  | ⟨4, _⟩ => (W5_v7 m c).symm
def seg3 (m : (ℓ : Loc nD τ sig) → Buf (Elt F) ℓ) : RegionSeg (pcfgs (F := F)) adm (pd m) () defs₀ Variants.none noCells noLevel 3 :=
  segment (pd m) 3 launch3.win.to₀ (Pipeline.SharedIn.of_injective winFacts3.arr_inj) block_pos3 arr_whole3 stage_whole3
    (obl3 (W4 m)) (A3 (W4 m)) (end3 m) (W5_of m) (by decide)

theorem end4 (c : Dev nD) (w : Fin cfg4.W) : (dat4 (W5 m) c).arrAt w cfg4.N = W6 m c (Pipeline.arrRef spec4 w) :=
  match w with
  | ⟨0, _⟩ => left _ 0 rfl (A4 (W5 m) c 0) (W6_of m c _ (by decide))
  | ⟨1, _⟩ => left _ 1 rfl (A4 (W5 m) c 1) (W6_of m c _ (by decide))
  | ⟨2, _⟩ => left _ 2 rfl (A4 (W5 m) c 2) (W6_of m c _ (by decide))
  | ⟨3, _⟩ => left _ 3 rfl (A4 (W5 m) c 3) (W6_of m c _ (by decide))
  | ⟨4, _⟩ => (W6_v8_0 m c).symm
  | ⟨5, _⟩ => (W6_v8_1 m c).symm
  | ⟨6, _⟩ => (W6_v8_2 m c).symm
def seg4 (m : (ℓ : Loc nD τ sig) → Buf (Elt F) ℓ) : RegionSeg (pcfgs (F := F)) adm (pd m) () defs₀ Variants.none noCells noLevel 4 :=
  segment (pd m) 4 launch4.win.to₀ (Pipeline.SharedIn.of_injective winFacts4.arr_inj) block_pos4 arr_whole4 stage_whole4
    (obl4 (W5 m)) (A4 (W5 m)) (end4 m) (W6_of m) (by decide)

theorem end5 (c : Dev nD) (w : Fin cfg5.W) : (dat5 (W6 m) c).arrAt w cfg5.N = W7 m c (Pipeline.arrRef spec5 w) :=
  match w with
  | ⟨0, _⟩ => left _ 0 rfl (A5 (W6 m) c 0) (W7_of m c _ (by decide))
  | ⟨1, _⟩ => left _ 1 rfl (A5 (W6 m) c 1) (W7_of m c _ (by decide))
  | ⟨2, _⟩ => (W7_v9 m c).symm
def seg5 (m : (ℓ : Loc nD τ sig) → Buf (Elt F) ℓ) : RegionSeg (pcfgs (F := F)) adm (pd m) () defs₀ Variants.none noCells noLevel 5 :=
  segment (pd m) 5 launch5.win.to₀ (Pipeline.SharedIn.of_injective winFacts5.arr_inj) block_pos5 arr_whole5 stage_whole5
    (obl5 (W6 m)) (A5 (W6 m)) (end5 m) (W7_of m) (by decide)

theorem end6 (c : Dev nD) (w : Fin cfg6.W) : (dat6 (W7 m) c).arrAt w cfg6.N = W8 m c (Pipeline.arrRef spec6 w) :=
  match w with
  | ⟨0, _⟩ => left _ 0 rfl (A6 (W7 m) c 0) (W8_of m c _ (by decide))
  | ⟨1, _⟩ => left _ 1 rfl (A6 (W7 m) c 1) (W8_of m c _ (by decide))
  | ⟨2, _⟩ => (W8_v10 m c).symm
def seg6 (m : (ℓ : Loc nD τ sig) → Buf (Elt F) ℓ) : RegionSeg (pcfgs (F := F)) adm (pd m) () defs₀ Variants.none noCells noLevel 6 :=
  segment (pd m) 6 launch6.win.to₀ (Pipeline.SharedIn.of_injective winFacts6.arr_inj) block_pos6 arr_whole6 stage_whole6
    (obl6 (W7 m)) (A6 (W7 m)) (end6 m) (W8_of m) (by decide)

theorem end7 (c : Dev nD) (w : Fin cfg7.W) : (dat7 (W8 m) c).arrAt w cfg7.N = W9 m c (Pipeline.arrRef spec7 w) :=
  match w with
  | ⟨0, _⟩ => left _ 0 rfl (A7 (W8 m) c 0) (W9_of m c _ (by decide))
  | ⟨1, _⟩ => left _ 1 rfl (A7 (W8 m) c 1) (W9_of m c _ (by decide))
  | ⟨2, _⟩ => (W9_v11 m c).symm
def seg7 (m : (ℓ : Loc nD τ sig) → Buf (Elt F) ℓ) : RegionSeg (pcfgs (F := F)) adm (pd m) () defs₀ Variants.none noCells noLevel 7 :=
  segment (pd m) 7 launch7.win.to₀ (Pipeline.SharedIn.of_injective winFacts7.arr_inj) block_pos7 arr_whole7 stage_whole7
    (obl7 (W8 m)) (A7 (W8 m)) (end7 m) (W9_of m) (by decide)

theorem end8 (c : Dev nD) (w : Fin cfg8.W) : (dat8 (W9 m) c).arrAt w cfg8.N = W10 m c (Pipeline.arrRef spec8 w) :=
  match w with
  | ⟨0, _⟩ => left _ 0 rfl (A8 (W9 m) c 0) (W10_of m c _ (by decide))
  | ⟨1, _⟩ => left _ 1 rfl (A8 (W9 m) c 1) (W10_of m c _ (by decide))
  | ⟨2, _⟩ => left _ 2 rfl (A8 (W9 m) c 2) (W10_of m c _ (by decide))
  | ⟨3, _⟩ => left _ 3 rfl (A8 (W9 m) c 3) (W10_of m c _ (by decide))
  | ⟨4, _⟩ => (W10_v12_0 m c).symm
  | ⟨5, _⟩ => (W10_v12_1 m c).symm
  | ⟨6, _⟩ => (W10_v12_2 m c).symm
def seg8 (m : (ℓ : Loc nD τ sig) → Buf (Elt F) ℓ) : RegionSeg (pcfgs (F := F)) adm (pd m) () defs₀ Variants.none noCells noLevel 8 :=
  segment (pd m) 8 launch8.win.to₀ (Pipeline.SharedIn.of_injective winFacts8.arr_inj) block_pos8 arr_whole8 stage_whole8
    (obl8 (W9 m)) (A8 (W9 m)) (end8 m) (W10_of m) (by decide)

/-- The host operations. -/
def host0 : Pipeline.HostSeg (Ix := Unit) (Name := ℕ) (U := UR sig nD τ) (Lvl := ℕ) (pcfgs (F := F)) defs₀ Variants.none noCells noLevel :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) clear

/-- The program's items. -/
abbrev items (_ : Dev nD) : List (Pipeline.Seg (pcfgs (F := F)) adm (pd m) () defs₀ Variants.none noCells noLevel) :=
  [.host (host0 m), .region (seg0 m), .region (seg1 m), .region (seg2 m), .region (seg3 m), .region (seg4 m), .region (seg5 m), .region (seg6 m), .region (seg7 m), .region (seg8 m)]

/-- An array that no item writes is at the end as at launch. -/
theorem kept (c : Dev nD) (r : Ref sig .tc) (h : r ∉ hostOps0_W ∧ r ∉ [main_v4] ∧ r ∉ [main_v5] ∧ r ∉ [main_v6] ∧ r ∉ [main_v7] ∧ r ∉ [main_v8_0, main_v8_1, main_v8_2] ∧ r ∉ [main_v9] ∧ r ∉ [main_v10] ∧ r ∉ [main_v11] ∧ r ∉ [main_v12_0, main_v12_1, main_v12_2]) : W10 m c r = m (c, r) :=
  (W10_of m c r h.2.2.2.2.2.2.2.2.2).trans <| (W9_of m c r h.2.2.2.2.2.2.2.2.1).trans <| (W8_of m c r h.2.2.2.2.2.2.2.1).trans <| (W7_of m c r h.2.2.2.2.2.2.1).trans <| (W6_of m c r h.2.2.2.2.2.1).trans <| (W5_of m c r h.2.2.2.2.1).trans <| (W4_of m c r h.2.2.2.1).trans <| (W3_of m c r h.2.2.1).trans <| (W2_of m c r h.2.1).trans <| W1_of m c r h.1

/-- The arguments on core `c` are as launched. -/
def Kept (m : (ℓ : Loc nD τ sig) → Buf (Elt F) ℓ) (c : Dev nD) (s : MemSt nD τ sig (Elt F)) : Prop :=
  Same m c s main_arg0 ∧ Same m c s main_arg1 ∧ Same m c s main_arg2 ∧ Same m c s main_arg3 ∧ Same m c s main_arg4 ∧ Same m c s main_arg5 ∧ Same m c s main_arg6

/-- What a run ends with on core `c`: the arguments as launched, the six results as the calls leave them. -/
def Ends (m : (ℓ : Loc nD τ sig) → Buf (Elt F) ℓ) (c : Dev nD) (s : MemSt nD τ sig (Elt F)) : Prop :=
  Kept m c s
  ∧ s.mem ((c.tc : Thread nD τ).loc main_v7) = (dat3 (W4 m) c).arrAt 4 cfg3.N
  ∧ s.mem ((c.tc : Thread nD τ).loc main_v12_0) = (dat8 (W9 m) c).arrAt 4 cfg8.N
  ∧ s.mem ((c.tc : Thread nD τ).loc main_v8_2) = (dat4 (W5 m) c).arrAt 6 cfg4.N
  ∧ s.mem ((c.tc : Thread nD τ).loc main_v12_2) = (dat8 (W9 m) c).arrAt 6 cfg8.N
  ∧ s.mem ((c.tc : Thread nD τ).loc main_v9) = (dat5 (W6 m) c).arrAt 2 cfg5.N
  ∧ s.mem ((c.tc : Thread nD τ).loc main_v10) = (dat6 (W7 m) c).arrAt 2 cfg6.N

set_option backward.isDefEq.respectTransparency.types false in
/-- Every run from zero counters terminates and ends so, with every counter at zero. -/
theorem run_ple : θ_run defs (onTc (τ := τ) (main (F := F))) ⟨m, fun _ => 0, ρ⟩ (fun r => (∀ c : Dev nD, Ends m c r.2) ∧ r.2.sem = fun _ => 0) :=
  launched (pd m) m ρ cellOf_inj main (items m) main_chain
    (fun c => by simp only [items, Pipeline.Seg.pipes_host, Pipeline.Seg.pipes_region, Pipeline.Seg.pipes_nil]; decide)
    (W10 m) (fun c => ⟨.rfl, .rfl, .rfl, .rfl, .rfl, .rfl, .rfl, .rfl, .rfl, .rfl, .rfl⟩) regions_no_unscoped fun c s rd =>
    have k := fun (b : Ref sig .tc) hb h => (rd b hb).trans (kept m c b h)
    ⟨⟨k _ rfl (by decide), k _ rfl (by decide), k _ rfl (by decide), k _ rfl (by decide), k _ rfl (by decide), k _ rfl (by decide), k _ rfl (by decide)⟩,
      (rd main_v7 rfl).trans <| (W10_of m c _ (by decide)).trans <| (W9_of m c _ (by decide)).trans <| (W8_of m c _ (by decide)).trans <| (W7_of m c _ (by decide)).trans <| (W6_of m c _ (by decide)).trans <| W5_v7 m c,
      (rd main_v12_0 rfl).trans <| W10_v12_0 m c,
      (rd main_v8_2 rfl).trans <| (W10_of m c _ (by decide)).trans <| (W9_of m c _ (by decide)).trans <| (W8_of m c _ (by decide)).trans <| (W7_of m c _ (by decide)).trans <| W6_v8_2 m c,
      (rd main_v12_2 rfl).trans <| W10_v12_2 m c,
      (rd main_v9 rfl).trans <| (W10_of m c _ (by decide)).trans <| (W9_of m c _ (by decide)).trans <| (W8_of m c _ (by decide)).trans <| W7_v9 m c,
      (rd main_v10 rfl).trans <| (W10_of m c _ (by decide)).trans <| (W9_of m c _ (by decide)).trans <| W8_v10 m c⟩

end Cert.Kernel3Ideal.Hand

end
-- ==== Proof.PlePay.lean ====
/-
  The bodies of the calls of the per-layer embedding, entry by entry: what each leaves in its output blocks from its input
  blocks.
-/
module

public import proofs.«01_k».proof.Proof.PleSpec
public import proofs.«01_k».proof.Proof.PleRun

@[expose] public section

set_option maxRecDepth 16384

noncomputable section

namespace Cert.Kernel3Ideal.Hand

open Idealize.ShloMosaic Idealize.ShloMosaic.TcCoe Idealize.SL.Sem Idealize.ShloMosaic.Pointwise
open Cert.Kernel3Ideal Cert.Kernel3Ideal.Gen Cert.Ffn Cert.Ple

theorem pay0_at (x0 : Vec Ideal S2048x256 .f32) (x1 : Vec Ideal S1x256x256 .bf16) (a : Fin 2048) (b : Fin 256) :
    (res0_0 x0 x1 (ix2 a b) : EReal) = ∑ k : Fin 256, (x0 (ix2 a k) * x1 (ix3 0 k b) : EReal) := by
  unfold res0_0 k0_pay1
  pointwise
theorem pay1_at (x0 : Vec Ideal S512x2048 .f32) (x1 : Vec Ideal S1x2048 .f32) (a : Fin 512) (b : Fin 2048) :
    (res1_0 x0 x1 (ix2 a b) : EReal) = x0 (ix2 a b) * rrt (fun d => x0 (ix2 a d)) * x1 (ix2 0 b) := by
  unfold res1_0 k1_pay1 rrt msq inv2048 epsN
  pointwise
theorem pay2_at (x0 : Vec Ideal S1024x2048 .bf16) (x1 : Vec Ideal S2048x1024 .bf16) (a b : Fin 1024) :
    (res2_0 x0 x1 (ix2 a b) : EReal) = ∑ k : Fin 2048, (x0 (ix2 a k) * x1 (ix2 k b) : EReal) := by
  unfold res2_0 k2_pay1
  pointwise
theorem pay3_at (x0 x1 x2 : Vec Ideal S256x2048 .f32) (x3 : Vec Ideal S1x2048 .f32) (a : Fin 256) (b : Fin 2048) :
    (res3_0 x0 x1 x2 x3 (ix2 a b) : EReal) = x0 (ix2 a b) + x1 (ix2 a b) * rrt (fun d => x1 (ix2 a d)) * x3 (ix2 0 b) * Ideal.logistic (x2 (ix2 a b)) := by
  unfold res3_0 k3_pay1 rrt msq inv2048 epsN
  pointwise

section Four
variable (x0 x1 x2 : Vec Ideal S256x2048 .f32) (x3 : Vec Ideal S1x2048 .f32) (a : Fin 256) (b : Fin 2048)
theorem same4_at : (k4_pay4 x0 (ix2 a b) : EReal) = x0 (ix2 a b) := by
  unfold k4_pay4
  pointwise
theorem ms4_at : (k4_pay5 x0 (ix2 a 0) : EReal) = msq (fun d => x0 (ix2 a d)) := by
  unfold k4_pay5 msq inv2048 epsN
  pointwise
  simp only [same4_at]
theorem rs4_at : (k4_pay6 x0 (ix2 a 0) : EReal) = rrt (fun d => x0 (ix2 a d)) := by
  unfold k4_pay6 rrt
  pointwise
  rw [ms4_at]
theorem sc4_at : (k4_pay7 x0 (ix2 a b) : EReal) = x0 (ix2 a b) * rrt (fun d => x0 (ix2 a d)) := by
  unfold k4_pay7
  pointwise
  rw [same4_at, rs4_at]
theorem sg4_at : (k4_pay8 x1 (ix2 a b) : EReal) = Ideal.logistic (x1 (ix2 a b)) := by
  unfold k4_pay8
  pointwise
theorem q4_at : (k4_pay9 x1 x2 (ix2 a b) : EReal) = x2 (ix2 a b) * Ideal.logistic (x1 (ix2 a b)) := by
  unfold k4_pay9
  pointwise
  rw [sg4_at]
theorem qs4_at : (k4_pay12 x1 x3 x2 (ix2 a b) : EReal) = x2 (ix2 a b) * Ideal.logistic (x1 (ix2 a b)) * x3 (ix2 0 b) := by
  unfold k4_pay12
  pointwise
  rw [q4_at]
theorem th4_at : (k4_pay14 x0 x1 x3 x2 (ix1 a) : EReal)
    = thru (fun d => x0 (ix2 a d)) (fun d => x2 (ix2 a d) * Ideal.logistic (x1 (ix2 a d)) * x3 (ix2 0 d)) := by
  unfold k4_pay14 thru mhalf inv2048
  pointwise
  simp only [same4_at, ms4_at, rs4_at, qs4_at, Fin.sum_univ_one]
theorem pay4a_at : (res4_0 x0 x1 x2 x3 (ix2 a b) : EReal)
    = back (fun d => x0 (ix2 a d)) (fun d => x2 (ix2 a d) * Ideal.logistic (x1 (ix2 a d)) * x3 (ix2 0 d)) b := by
  unfold res4_0 k4_pay1 k4_pay13 back
  pointwise
  simp only [same4_at, rs4_at, qs4_at, th4_at]
theorem pay4b_at : (res4_1 x0 x1 x2 x3 (ix2 a b) : EReal)
    = x0 (ix2 a b) * rrt (fun d => x0 (ix2 a d)) * x3 (ix2 0 b) * x2 (ix2 a b) * (Ideal.logistic (x1 (ix2 a b)) * (1 - Ideal.logistic (x1 (ix2 a b)))) := by
  unfold res4_1 k4_pay2 k4_pay10
  pointwise
  rw [sc4_at, sg4_at]
theorem step4_at : (step4 x0 x1 x2 x3 (ix2 0 b) : EReal)
    = ∑ t : Fin 256, (x0 (ix2 t b) * rrt (fun d => x0 (ix2 t d)) * (x2 (ix2 t b) * Ideal.logistic (x1 (ix2 t b))) : EReal) := by
  unfold step4 k4_pay11
  pointwise
  simp only [sc4_at, q4_at]
theorem add4_at (X Y : Vec Ideal S1x2048 .f32) : (k4_pay3 X Y (ix2 0 b) : EReal) = Y (ix2 0 b) + X (ix2 0 b) := by
  unfold k4_pay3
  pointwise
end Four

theorem pay5_at (x0 : Vec Ideal S2048x256 .f32) (x1 : Vec Ideal S2048x256 .bf16) (a b : Fin 256) :
    (res5_0 x0 x1 (ix3 0 a b) : EReal) = ∑ t : Fin 2048, (x0 (ix2 t a) * x1 (ix2 t b) : EReal) := by
  unfold res5_0 k5_pay1
  pointwise
theorem pay6_at (x0 : Vec Ideal S2048x512 .bf16) (x1 : Vec Ideal S2048x2048 .bf16) (a : Fin 512) (b : Fin 2048) :
    (res6_0 x0 x1 (ix2 a b) : EReal) = ∑ t : Fin 2048, (x0 (ix2 t a) * x1 (ix2 t b) : EReal) := by
  unfold res6_0 k6_pay1
  pointwise
theorem pay7_at (x0 x1 : Vec Ideal S1024x2048 .bf16) (a b : Fin 1024) :
    (res7_0 x0 x1 (ix2 a b) : EReal) = ∑ d : Fin 2048, (x0 (ix2 a d) * x1 (ix2 b d) : EReal) := by
  unfold res7_0 k7_pay1
  pointwise

section Eight
variable (x0 x1 x2 : Vec Ideal S256x2048 .f32) (x3 : Vec Ideal S1x2048 .f32) (a : Fin 256) (b : Fin 2048)
theorem ms8_at : (k8_pay3 x0 (ix2 a 0) : EReal) = msq (fun d => x0 (ix2 a d)) := by
  unfold k8_pay3 msq inv2048 epsN
  pointwise
theorem rs8_at : (k8_pay4 x0 (ix2 a 0) : EReal) = rrt (fun d => x0 (ix2 a d)) := by
  unfold k8_pay4 rrt
  pointwise
  rw [ms8_at]
theorem pay8_at : (res8_0 x0 x1 x2 x3 (ix2 a b) : EReal)
    = back (fun d => x0 (ix2 a d)) (fun d => x1 (ix2 a d) * x3 (ix2 0 d)) b + x2 (ix2 a b) := by
  unfold res8_0 k8_pay7 k8_pay5 back thru mhalf inv2048
  pointwise
  simp only [ms8_at, rs8_at, Fin.sum_univ_one]
theorem step8_at : (step8 x0 x1 x2 x3 (ix2 0 b) : EReal) = ∑ t : Fin 256, (x0 (ix2 t b) * rrt (fun d => x0 (ix2 t d)) * x1 (ix2 t b) : EReal) := by
  unfold step8 k8_pay6 k8_pay5
  pointwise
  simp only [rs8_at]
theorem add8_at (X Y : Vec Ideal S1x2048 .f32) : (k8_pay2 X Y (ix2 0 b) : EReal) = Y (ix2 0 b) + X (ix2 0 b) := by
  unfold k8_pay2
  pointwise
end Eight

end Cert.Kernel3Ideal.Hand

end
-- ==== Proof.PleArr.lean ====
/-
  The blocks of the calls of the per-layer embedding at every grid point, entry by entry, and each output array as what its blocks leave.
-/
module

public import proofs.«01_k».proof.Proof.PlePay
public import Idealize.ShloMosaic.Lib.Pipeline.ValueKit.Geometry

@[expose] public section

set_option maxRecDepth 16384
set_option maxHeartbeats 1000000

noncomputable section

namespace Cert.Kernel3Ideal.Hand

open Idealize.ShloMosaic Idealize.ShloMosaic.TcCoe Idealize.SL.Sem Idealize.ShloMosaic.Pointwise Idealize.ShloMosaic.Pipeline
open Cert.Kernel3Ideal Cert.Kernel3Ideal.Gen Cert.Ple

variable (W : Dev nD → Valuation τ sig (Elt Ideal)) (c : Dev nD)

theorem only3 {n1 n2 : ℕ} (y : (⟨3, ![1, n1, n2]⟩ : Shape).Idx) : y = ix3 (0 : Fin 1) (y 1) (y 2) := by
  funext a
  fin_cases a
  · exact Fin.ext (show (y 0).val = 0 by have : (y 0).val < 1 := (y 0).isLt; omega)
  · rfl
  · rfl
theorem only2 {n1 : ℕ} (y : (⟨2, ![1, n1]⟩ : Shape).Idx) : y = ix2 (0 : Fin 1) (y 1) := by
  funext a
  fin_cases a
  · exact Fin.ext (show (y 0).val = 0 by have : (y 0).val < 1 := (y 0).isLt; omega)
  · rfl

theorem at0_0 : ∀ t : Fin cfg0.N, win0_0.index t = ![0, 0] := by decide +kernel
theorem blk0_0 (t : Fin cfg0.N) (a : Fin 2048) (b : Fin 256) (i : Fin 2048) (j : Fin 256) (hi : i.val = a.val) (hj : j.val = b.val) : in0_0 W c t (ix2 a b) = W c main_arg1 (ix2 i j) :=
  congrArg (W c main_arg1) (by blk_ext [at0_0, hi, hj])

theorem at0_1 : ∀ t : Fin cfg0.N, win0_1.index t = ![t.val, 0, 0] := by decide +kernel
theorem blk0_1 (t : Fin cfg0.N) (b : Fin 256) (d : Fin 256) (i : Fin 8) (j : Fin 256) (k : Fin 256) (hi : i.val = t.val) (hj : j.val = b.val) (hk : k.val = d.val) : in0_1 W c t (ix3 0 b d) = W c main_v2 (ix3 i j k) :=
  congrArg (W c main_v2) (by blk_ext [at0_1, hi, hj, hk])

theorem at0_2 : ∀ t : Fin cfg0.N, win0_2.index t = ![0, t.val] := by decide +kernel
theorem out0_2 (V : S2048x2048.Idx → EReal)
    (hV : ∀ (t : Fin cfg0.N), ∀ (a : Fin 2048) (b : Fin 256) (i : Fin 2048) (j : Fin 2048), i.val = a.val → j.val = t.val * 256 + b.val → (res0_0 (in0_0 W c t) (in0_1 W c t) (ix2 a b) : EReal) = V (ix2 i j)) :
    ((dat0 W c).arrAt 2 cfg0.N : Vec Ideal S2048x2048 .f32) = V := by
  refine (dat0 W c).arrAt_eq_of_covers 2 _ (by decide +kernel) fun t hf y => ?_
  rw [left0_2]
  have hN : t.val < 8 := Nat.lt_of_lt_of_eq t.isLt N_0
  blk_simp
  idx_bounds y
  exact (congrArg (res0_0 (in0_0 W c t) (in0_1 W c t)) (eq_ix2 (n0 := 2048) (n1 := 256) y)).trans ((hV t (y 0) (y 1) ⟨(y 0).val, by omega⟩ ⟨t.val * 256 + (y 1).val, by omega⟩ rfl rfl).trans (congrArg V (by blk_ext [at0_2])))

theorem at1_0 : ∀ t : Fin cfg1.N, win1_0.index t = ![t.val, 0] := by decide +kernel
theorem blk1_0 (t : Fin cfg1.N) (a : Fin 512) (b : Fin 2048) (i : Fin 2048) (j : Fin 2048) (hi : i.val = t.val * 512 + a.val) (hj : j.val = b.val) : in1_0 W c t (ix2 a b) = W c main_arg0 (ix2 i j) :=
  congrArg (W c main_arg0) (by blk_ext [at1_0, hi, hj])

theorem at1_1 : ∀ t : Fin cfg1.N, win1_1.index t = ![0, 0] := by decide +kernel
theorem blk1_1 (t : Fin cfg1.N) (b : Fin 2048) (i : Fin 1) (j : Fin 2048) (hi : i.val = 0) (hj : j.val = b.val) : in1_1 W c t (ix2 0 b) = W c main_arg4 (ix2 i j) :=
  congrArg (W c main_arg4) (by blk_ext [at1_1, hi, hj])

theorem at1_2 : ∀ t : Fin cfg1.N, win1_2.index t = ![t.val, 0] := by decide +kernel
theorem out1_2 (V : S2048x2048.Idx → EReal)
    (hV : ∀ (t : Fin cfg1.N), ∀ (a : Fin 512) (b : Fin 2048) (i : Fin 2048) (j : Fin 2048), i.val = t.val * 512 + a.val → j.val = b.val → (res1_0 (in1_0 W c t) (in1_1 W c t) (ix2 a b) : EReal) = V (ix2 i j)) :
    ((dat1 W c).arrAt 2 cfg1.N : Vec Ideal S2048x2048 .bf16) = V := by
  refine (dat1 W c).arrAt_eq_of_covers 2 _ (by decide +kernel) fun t hf y => ?_
  rw [left1_2]
  have hN : t.val < 4 := Nat.lt_of_lt_of_eq t.isLt N_1
  blk_simp
  idx_bounds y
  exact (congrArg (res1_0 (in1_0 W c t) (in1_1 W c t)) (eq_ix2 (n0 := 512) (n1 := 2048) y)).trans ((hV t (y 0) (y 1) ⟨t.val * 512 + (y 0).val, by omega⟩ ⟨(y 1).val, by omega⟩ rfl rfl).trans (congrArg V (by blk_ext [at1_2])))

theorem at2_0 : ∀ t : Fin cfg2.N, win2_0.index t = ![t.val / 2, 0] := by decide +kernel
theorem blk2_0 (t : Fin cfg2.N) (a : Fin 1024) (b : Fin 2048) (i : Fin 2048) (j : Fin 2048) (hi : i.val = t.val / 2 * 1024 + a.val) (hj : j.val = b.val) : in2_0 W c t (ix2 a b) = W c main_v5 (ix2 i j) :=
  congrArg (W c main_v5) (by blk_ext [at2_0, hi, hj])

theorem at2_1 : ∀ t : Fin cfg2.N, win2_1.index t = ![0, t.val % 2] := by decide +kernel
theorem blk2_1 (t : Fin cfg2.N) (a : Fin 2048) (b : Fin 1024) (i : Fin 2048) (j : Fin 2048) (hi : i.val = a.val) (hj : j.val = t.val % 2 * 1024 + b.val) : in2_1 W c t (ix2 a b) = W c main_v3 (ix2 i j) :=
  congrArg (W c main_v3) (by blk_ext [at2_1, hi, hj])

theorem at2_2 : ∀ t : Fin cfg2.N, win2_2.index t = ![t.val / 2, t.val % 2] := by decide +kernel
theorem out2_2 (V : S2048x2048.Idx → EReal)
    (hV : ∀ (t : Fin cfg2.N), ∀ (a : Fin 1024) (b : Fin 1024) (i : Fin 2048) (j : Fin 2048), i.val = t.val / 2 * 1024 + a.val → j.val = t.val % 2 * 1024 + b.val → (res2_0 (in2_0 W c t) (in2_1 W c t) (ix2 a b) : EReal) = V (ix2 i j)) :
    ((dat2 W c).arrAt 2 cfg2.N : Vec Ideal S2048x2048 .f32) = V := by
  refine (dat2 W c).arrAt_eq_of_covers 2 _ (by decide +kernel) fun t hf y => ?_
  rw [left2_2]
  have hN : t.val < 4 := Nat.lt_of_lt_of_eq t.isLt N_2
  blk_simp
  idx_bounds y
  exact (congrArg (res2_0 (in2_0 W c t) (in2_1 W c t)) (eq_ix2 (n0 := 1024) (n1 := 1024) y)).trans ((hV t (y 0) (y 1) ⟨t.val / 2 * 1024 + (y 0).val, by omega⟩ ⟨t.val % 2 * 1024 + (y 1).val, by omega⟩ rfl rfl).trans (congrArg V (by blk_ext [at2_2])))

theorem at3_0 : ∀ t : Fin cfg3.N, win3_0.index t = ![t.val, 0] := by decide +kernel
theorem blk3_0 (t : Fin cfg3.N) (a : Fin 256) (b : Fin 2048) (i : Fin 2048) (j : Fin 2048) (hi : i.val = t.val * 256 + a.val) (hj : j.val = b.val) : in3_0 W c t (ix2 a b) = W c main_arg0 (ix2 i j) :=
  congrArg (W c main_arg0) (by blk_ext [at3_0, hi, hj])

theorem at3_1 : ∀ t : Fin cfg3.N, win3_1.index t = ![t.val, 0] := by decide +kernel
theorem blk3_1 (t : Fin cfg3.N) (a : Fin 256) (b : Fin 2048) (i : Fin 2048) (j : Fin 2048) (hi : i.val = t.val * 256 + a.val) (hj : j.val = b.val) : in3_1 W c t (ix2 a b) = W c main_v4 (ix2 i j) :=
  congrArg (W c main_v4) (by blk_ext [at3_1, hi, hj])

theorem at3_2 : ∀ t : Fin cfg3.N, win3_2.index t = ![t.val, 0] := by decide +kernel
theorem blk3_2 (t : Fin cfg3.N) (a : Fin 256) (b : Fin 2048) (i : Fin 2048) (j : Fin 2048) (hi : i.val = t.val * 256 + a.val) (hj : j.val = b.val) : in3_2 W c t (ix2 a b) = W c main_v6 (ix2 i j) :=
  congrArg (W c main_v6) (by blk_ext [at3_2, hi, hj])

theorem at3_3 : ∀ t : Fin cfg3.N, win3_3.index t = ![0, 0] := by decide +kernel
theorem blk3_3 (t : Fin cfg3.N) (b : Fin 2048) (i : Fin 1) (j : Fin 2048) (hi : i.val = 0) (hj : j.val = b.val) : in3_3 W c t (ix2 0 b) = W c main_arg3 (ix2 i j) :=
  congrArg (W c main_arg3) (by blk_ext [at3_3, hi, hj])

theorem at3_4 : ∀ t : Fin cfg3.N, win3_4.index t = ![t.val, 0] := by decide +kernel
theorem out3_4 (V : S2048x2048.Idx → EReal)
    (hV : ∀ (t : Fin cfg3.N), ∀ (a : Fin 256) (b : Fin 2048) (i : Fin 2048) (j : Fin 2048), i.val = t.val * 256 + a.val → j.val = b.val → (res3_0 (in3_0 W c t) (in3_1 W c t) (in3_2 W c t) (in3_3 W c t) (ix2 a b) : EReal) = V (ix2 i j)) :
    ((dat3 W c).arrAt 4 cfg3.N : Vec Ideal S2048x2048 .f32) = V := by
  refine (dat3 W c).arrAt_eq_of_covers 4 _ (by decide +kernel) fun t hf y => ?_
  rw [left3_4]
  have hN : t.val < 8 := Nat.lt_of_lt_of_eq t.isLt N_3
  blk_simp
  idx_bounds y
  exact (congrArg (res3_0 (in3_0 W c t) (in3_1 W c t) (in3_2 W c t) (in3_3 W c t)) (eq_ix2 (n0 := 256) (n1 := 2048) y)).trans ((hV t (y 0) (y 1) ⟨t.val * 256 + (y 0).val, by omega⟩ ⟨(y 1).val, by omega⟩ rfl rfl).trans (congrArg V (by blk_ext [at3_4])))

theorem at4_0 : ∀ t : Fin cfg4.N, win4_0.index t = ![t.val, 0] := by decide +kernel
theorem blk4_0 (t : Fin cfg4.N) (a : Fin 256) (b : Fin 2048) (i : Fin 2048) (j : Fin 2048) (hi : i.val = t.val * 256 + a.val) (hj : j.val = b.val) : in4_0 W c t (ix2 a b) = W c main_v4 (ix2 i j) :=
  congrArg (W c main_v4) (by blk_ext [at4_0, hi, hj])

theorem at4_1 : ∀ t : Fin cfg4.N, win4_1.index t = ![t.val, 0] := by decide +kernel
theorem blk4_1 (t : Fin cfg4.N) (a : Fin 256) (b : Fin 2048) (i : Fin 2048) (j : Fin 2048) (hi : i.val = t.val * 256 + a.val) (hj : j.val = b.val) : in4_1 W c t (ix2 a b) = W c main_v6 (ix2 i j) :=
  congrArg (W c main_v6) (by blk_ext [at4_1, hi, hj])

theorem at4_2 : ∀ t : Fin cfg4.N, win4_2.index t = ![t.val, 0] := by decide +kernel
theorem blk4_2 (t : Fin cfg4.N) (a : Fin 256) (b : Fin 2048) (i : Fin 2048) (j : Fin 2048) (hi : i.val = t.val * 256 + a.val) (hj : j.val = b.val) : in4_2 W c t (ix2 a b) = W c main_arg6 (ix2 i j) :=
  congrArg (W c main_arg6) (by blk_ext [at4_2, hi, hj])

theorem at4_3 : ∀ t : Fin cfg4.N, win4_3.index t = ![0, 0] := by decide +kernel
theorem blk4_3 (t : Fin cfg4.N) (b : Fin 2048) (i : Fin 1) (j : Fin 2048) (hi : i.val = 0) (hj : j.val = b.val) : in4_3 W c t (ix2 0 b) = W c main_arg3 (ix2 i j) :=
  congrArg (W c main_arg3) (by blk_ext [at4_3, hi, hj])

theorem at4_4 : ∀ t : Fin cfg4.N, win4_4.index t = ![t.val, 0] := by decide +kernel
theorem out4_4 (V : S2048x2048.Idx → EReal)
    (hV : ∀ (t : Fin cfg4.N), ∀ (a : Fin 256) (b : Fin 2048) (i : Fin 2048) (j : Fin 2048), i.val = t.val * 256 + a.val → j.val = b.val → (res4_0 (in4_0 W c t) (in4_1 W c t) (in4_2 W c t) (in4_3 W c t) (ix2 a b) : EReal) = V (ix2 i j)) :
    ((dat4 W c).arrAt 4 cfg4.N : Vec Ideal S2048x2048 .bf16) = V := by
  refine (dat4 W c).arrAt_eq_of_covers 4 _ (by decide +kernel) fun t hf y => ?_
  rw [left4_4]
  have hN : t.val < 8 := Nat.lt_of_lt_of_eq t.isLt N_4
  blk_simp
  idx_bounds y
  exact (congrArg (res4_0 (in4_0 W c t) (in4_1 W c t) (in4_2 W c t) (in4_3 W c t)) (eq_ix2 (n0 := 256) (n1 := 2048) y)).trans ((hV t (y 0) (y 1) ⟨t.val * 256 + (y 0).val, by omega⟩ ⟨(y 1).val, by omega⟩ rfl rfl).trans (congrArg V (by blk_ext [at4_4])))

theorem at4_5 : ∀ t : Fin cfg4.N, win4_5.index t = ![t.val, 0] := by decide +kernel
theorem out4_5 (V : S2048x2048.Idx → EReal)
    (hV : ∀ (t : Fin cfg4.N), ∀ (a : Fin 256) (b : Fin 2048) (i : Fin 2048) (j : Fin 2048), i.val = t.val * 256 + a.val → j.val = b.val → (res4_1 (in4_0 W c t) (in4_1 W c t) (in4_2 W c t) (in4_3 W c t) (ix2 a b) : EReal) = V (ix2 i j)) :
    ((dat4 W c).arrAt 5 cfg4.N : Vec Ideal S2048x2048 .bf16) = V := by
  refine (dat4 W c).arrAt_eq_of_covers 5 _ (by decide +kernel) fun t hf y => ?_
  rw [left4_5]
  have hN : t.val < 8 := Nat.lt_of_lt_of_eq t.isLt N_4
  blk_simp
  idx_bounds y
  exact (congrArg (res4_1 (in4_0 W c t) (in4_1 W c t) (in4_2 W c t) (in4_3 W c t)) (eq_ix2 (n0 := 256) (n1 := 2048) y)).trans ((hV t (y 0) (y 1) ⟨t.val * 256 + (y 0).val, by omega⟩ ⟨(y 1).val, by omega⟩ rfl rfl).trans (congrArg V (by blk_ext [at4_5])))

theorem at4_6 : ∀ t : Fin cfg4.N, win4_6.index t = ![0, 0] := by decide +kernel
theorem out4_6 (V : S1x2048.Idx → EReal)
    (hV : ∀ (t : Fin cfg4.N), t.val % 8 = 7 → ∀ (b : Fin 2048) (i : Fin 1) (j : Fin 2048), i.val = 0 → j.val = b.val → (sum4 W c t.val t.isLt (ix2 0 b) : EReal) = V (ix2 i j)) :
    ((dat4 W c).arrAt 6 cfg4.N : Vec Ideal S1x2048 .f32) = V := by
  refine (dat4 W c).arrAt_eq_of_covers 6 _ (by decide +kernel) fun t hf y => ?_
  rw [left4_6]
  have hN : t.val < 8 := Nat.lt_of_lt_of_eq t.isLt N_4
  blk_simp
  idx_bounds y
  exact (congrArg (sum4 W c t.val t.isLt) (only2 (n1 := 2048) y)).trans ((hV t ((flush4_6 t).mp hf) (y 1) ⟨0, by omega⟩ ⟨(y 1).val, by omega⟩ rfl rfl).trans (congrArg V (by blk_ext [at4_6])))

theorem at5_0 : ∀ t : Fin cfg5.N, win5_0.index t = ![0, 0] := by decide +kernel
theorem blk5_0 (t : Fin cfg5.N) (a : Fin 2048) (b : Fin 256) (i : Fin 2048) (j : Fin 256) (hi : i.val = a.val) (hj : j.val = b.val) : in5_0 W c t (ix2 a b) = W c main_arg1 (ix2 i j) :=
  congrArg (W c main_arg1) (by blk_ext [at5_0, hi, hj])

theorem at5_1 : ∀ t : Fin cfg5.N, win5_1.index t = ![0, t.val] := by decide +kernel
theorem blk5_1 (t : Fin cfg5.N) (a : Fin 2048) (b : Fin 256) (i : Fin 2048) (j : Fin 2048) (hi : i.val = a.val) (hj : j.val = t.val * 256 + b.val) : in5_1 W c t (ix2 a b) = W c main_v8_0 (ix2 i j) :=
  congrArg (W c main_v8_0) (by blk_ext [at5_1, hi, hj])

theorem at5_2 : ∀ t : Fin cfg5.N, win5_2.index t = ![t.val, 0, 0] := by decide +kernel
theorem out5_2 (V : S8x256x256.Idx → EReal)
    (hV : ∀ (t : Fin cfg5.N), ∀ (b : Fin 256) (d : Fin 256) (i : Fin 8) (j : Fin 256) (k : Fin 256), i.val = t.val → j.val = b.val → k.val = d.val → (res5_0 (in5_0 W c t) (in5_1 W c t) (ix3 0 b d) : EReal) = V (ix3 i j k)) :
    ((dat5 W c).arrAt 2 cfg5.N : Vec Ideal S8x256x256 .bf16) = V := by
  refine (dat5 W c).arrAt_eq_of_covers 2 _ (by decide +kernel) fun t hf y => ?_
  rw [left5_2]
  have hN : t.val < 8 := Nat.lt_of_lt_of_eq t.isLt N_5
  blk_simp
  idx_bounds y
  exact (congrArg (res5_0 (in5_0 W c t) (in5_1 W c t)) (only3 (n1 := 256) (n2 := 256) y)).trans ((hV t (y 1) (y 2) ⟨t.val, by omega⟩ ⟨(y 1).val, by omega⟩ ⟨(y 2).val, by omega⟩ rfl rfl rfl).trans (congrArg V (by blk_ext [at5_2])))

theorem at6_0 : ∀ t : Fin cfg6.N, win6_0.index t = ![0, t.val] := by decide +kernel
theorem blk6_0 (t : Fin cfg6.N) (a : Fin 2048) (b : Fin 512) (i : Fin 2048) (j : Fin 2048) (hi : i.val = a.val) (hj : j.val = t.val * 512 + b.val) : in6_0 W c t (ix2 a b) = W c main_v5 (ix2 i j) :=
  congrArg (W c main_v5) (by blk_ext [at6_0, hi, hj])

theorem at6_1 : ∀ t : Fin cfg6.N, win6_1.index t = ![0, 0] := by decide +kernel
theorem blk6_1 (t : Fin cfg6.N) (a : Fin 2048) (b : Fin 2048) (i : Fin 2048) (j : Fin 2048) (hi : i.val = a.val) (hj : j.val = b.val) : in6_1 W c t (ix2 a b) = W c main_v8_1 (ix2 i j) :=
  congrArg (W c main_v8_1) (by blk_ext [at6_1, hi, hj])

theorem at6_2 : ∀ t : Fin cfg6.N, win6_2.index t = ![t.val, 0] := by decide +kernel
theorem out6_2 (V : S2048x2048.Idx → EReal)
    (hV : ∀ (t : Fin cfg6.N), ∀ (a : Fin 512) (b : Fin 2048) (i : Fin 2048) (j : Fin 2048), i.val = t.val * 512 + a.val → j.val = b.val → (res6_0 (in6_0 W c t) (in6_1 W c t) (ix2 a b) : EReal) = V (ix2 i j)) :
    ((dat6 W c).arrAt 2 cfg6.N : Vec Ideal S2048x2048 .bf16) = V := by
  refine (dat6 W c).arrAt_eq_of_covers 2 _ (by decide +kernel) fun t hf y => ?_
  rw [left6_2]
  have hN : t.val < 4 := Nat.lt_of_lt_of_eq t.isLt N_6
  blk_simp
  idx_bounds y
  exact (congrArg (res6_0 (in6_0 W c t) (in6_1 W c t)) (eq_ix2 (n0 := 512) (n1 := 2048) y)).trans ((hV t (y 0) (y 1) ⟨t.val * 512 + (y 0).val, by omega⟩ ⟨(y 1).val, by omega⟩ rfl rfl).trans (congrArg V (by blk_ext [at6_2])))

theorem at7_0 : ∀ t : Fin cfg7.N, win7_0.index t = ![t.val / 2, 0] := by decide +kernel
theorem blk7_0 (t : Fin cfg7.N) (a : Fin 1024) (b : Fin 2048) (i : Fin 2048) (j : Fin 2048) (hi : i.val = t.val / 2 * 1024 + a.val) (hj : j.val = b.val) : in7_0 W c t (ix2 a b) = W c main_v8_1 (ix2 i j) :=
  congrArg (W c main_v8_1) (by blk_ext [at7_0, hi, hj])

theorem at7_1 : ∀ t : Fin cfg7.N, win7_1.index t = ![t.val % 2, 0] := by decide +kernel
theorem blk7_1 (t : Fin cfg7.N) (a : Fin 1024) (b : Fin 2048) (i : Fin 2048) (j : Fin 2048) (hi : i.val = t.val % 2 * 1024 + a.val) (hj : j.val = b.val) : in7_1 W c t (ix2 a b) = W c main_v3 (ix2 i j) :=
  congrArg (W c main_v3) (by blk_ext [at7_1, hi, hj])

theorem at7_2 : ∀ t : Fin cfg7.N, win7_2.index t = ![t.val / 2, t.val % 2] := by decide +kernel
theorem out7_2 (V : S2048x2048.Idx → EReal)
    (hV : ∀ (t : Fin cfg7.N), ∀ (a : Fin 1024) (b : Fin 1024) (i : Fin 2048) (j : Fin 2048), i.val = t.val / 2 * 1024 + a.val → j.val = t.val % 2 * 1024 + b.val → (res7_0 (in7_0 W c t) (in7_1 W c t) (ix2 a b) : EReal) = V (ix2 i j)) :
    ((dat7 W c).arrAt 2 cfg7.N : Vec Ideal S2048x2048 .f32) = V := by
  refine (dat7 W c).arrAt_eq_of_covers 2 _ (by decide +kernel) fun t hf y => ?_
  rw [left7_2]
  have hN : t.val < 4 := Nat.lt_of_lt_of_eq t.isLt N_7
  blk_simp
  idx_bounds y
  exact (congrArg (res7_0 (in7_0 W c t) (in7_1 W c t)) (eq_ix2 (n0 := 1024) (n1 := 1024) y)).trans ((hV t (y 0) (y 1) ⟨t.val / 2 * 1024 + (y 0).val, by omega⟩ ⟨t.val % 2 * 1024 + (y 1).val, by omega⟩ rfl rfl).trans (congrArg V (by blk_ext [at7_2])))

theorem at8_0 : ∀ t : Fin cfg8.N, win8_0.index t = ![t.val, 0] := by decide +kernel
theorem blk8_0 (t : Fin cfg8.N) (a : Fin 256) (b : Fin 2048) (i : Fin 2048) (j : Fin 2048) (hi : i.val = t.val * 256 + a.val) (hj : j.val = b.val) : in8_0 W c t (ix2 a b) = W c main_arg0 (ix2 i j) :=
  congrArg (W c main_arg0) (by blk_ext [at8_0, hi, hj])

theorem at8_1 : ∀ t : Fin cfg8.N, win8_1.index t = ![t.val, 0] := by decide +kernel
theorem blk8_1 (t : Fin cfg8.N) (a : Fin 256) (b : Fin 2048) (i : Fin 2048) (j : Fin 2048) (hi : i.val = t.val * 256 + a.val) (hj : j.val = b.val) : in8_1 W c t (ix2 a b) = W c main_v11 (ix2 i j) :=
  congrArg (W c main_v11) (by blk_ext [at8_1, hi, hj])

theorem at8_2 : ∀ t : Fin cfg8.N, win8_2.index t = ![t.val, 0] := by decide +kernel
theorem blk8_2 (t : Fin cfg8.N) (a : Fin 256) (b : Fin 2048) (i : Fin 2048) (j : Fin 2048) (hi : i.val = t.val * 256 + a.val) (hj : j.val = b.val) : in8_2 W c t (ix2 a b) = W c main_arg6 (ix2 i j) :=
  congrArg (W c main_arg6) (by blk_ext [at8_2, hi, hj])

theorem at8_3 : ∀ t : Fin cfg8.N, win8_3.index t = ![0, 0] := by decide +kernel
theorem blk8_3 (t : Fin cfg8.N) (b : Fin 2048) (i : Fin 1) (j : Fin 2048) (hi : i.val = 0) (hj : j.val = b.val) : in8_3 W c t (ix2 0 b) = W c main_arg4 (ix2 i j) :=
  congrArg (W c main_arg4) (by blk_ext [at8_3, hi, hj])

theorem at8_4 : ∀ t : Fin cfg8.N, win8_4.index t = ![t.val, 0] := by decide +kernel
theorem out8_4 (V : S2048x2048.Idx → EReal)
    (hV : ∀ (t : Fin cfg8.N), ∀ (a : Fin 256) (b : Fin 2048) (i : Fin 2048) (j : Fin 2048), i.val = t.val * 256 + a.val → j.val = b.val → (res8_0 (in8_0 W c t) (in8_1 W c t) (in8_2 W c t) (in8_3 W c t) (ix2 a b) : EReal) = V (ix2 i j)) :
    ((dat8 W c).arrAt 4 cfg8.N : Vec Ideal S2048x2048 .f32) = V := by
  refine (dat8 W c).arrAt_eq_of_covers 4 _ (by decide +kernel) fun t hf y => ?_
  rw [left8_4]
  have hN : t.val < 8 := Nat.lt_of_lt_of_eq t.isLt N_8
  blk_simp
  idx_bounds y
  exact (congrArg (res8_0 (in8_0 W c t) (in8_1 W c t) (in8_2 W c t) (in8_3 W c t)) (eq_ix2 (n0 := 256) (n1 := 2048) y)).trans ((hV t (y 0) (y 1) ⟨t.val * 256 + (y 0).val, by omega⟩ ⟨(y 1).val, by omega⟩ rfl rfl).trans (congrArg V (by blk_ext [at8_4])))

theorem at8_6 : ∀ t : Fin cfg8.N, win8_6.index t = ![0, 0] := by decide +kernel
theorem out8_6 (V : S1x2048.Idx → EReal)
    (hV : ∀ (t : Fin cfg8.N), t.val % 8 = 7 → ∀ (b : Fin 2048) (i : Fin 1) (j : Fin 2048), i.val = 0 → j.val = b.val → (sum8 W c t.val t.isLt (ix2 0 b) : EReal) = V (ix2 i j)) :
    ((dat8 W c).arrAt 6 cfg8.N : Vec Ideal S1x2048 .f32) = V := by
  refine (dat8 W c).arrAt_eq_of_covers 6 _ (by decide +kernel) fun t hf y => ?_
  rw [left8_6]
  have hN : t.val < 8 := Nat.lt_of_lt_of_eq t.isLt N_8
  blk_simp
  idx_bounds y
  exact (congrArg (sum8 W c t.val t.isLt) (only2 (n1 := 2048) y)).trans ((hV t ((flush8_6 t).mp hf) (y 1) ⟨0, by omega⟩ ⟨(y 1).val, by omega⟩ rfl rfl).trans (congrArg V (by blk_ext [at8_6])))

end Cert.Kernel3Ideal.Hand

end
-- ==== Proof.PleVal.lean ====
/-
  The arrays of the per-layer embedding, call by call: each is the plain sum it is named after.
-/
module

public import proofs.«01_k».proof.Proof.PleArr
public import Idealize.ShloMosaic.Lib.StableHlo.Run

@[expose] public section

set_option maxRecDepth 16384

noncomputable section

namespace Cert.Kernel3Ideal.Hand

open Idealize.ShloMosaic Idealize.ShloMosaic.TcCoe Idealize.SL.Sem Idealize.ShloMosaic.Pointwise Idealize.ShloMosaic.Pipeline
open Cert.Kernel3Ideal Cert.Kernel3Ideal.Gen Cert.Ple
open Cert.Ffn (hn one rrt)

variable (m : (ℓ : Loc nD τ sig) → Buf (Elt Ideal) ℓ) (c : Dev nD)

/-- The seven arguments at launch. -/
abbrev aH : (⟨2, ![2048, 2048]⟩ : Shape).Idx → EReal := m (c.tc.loc main_arg0)
abbrev aP : (⟨2, ![2048, 256]⟩ : Shape).Idx → EReal := m (c.tc.loc main_arg1)
abbrev aW : (⟨2, ![256, 2048]⟩ : Shape).Idx → EReal := m (c.tc.loc main_arg2)
abbrev aN : (⟨2, ![1, 2048]⟩ : Shape).Idx → EReal := m (c.tc.loc main_arg3)
abbrev aG : (⟨2, ![1, 2048]⟩ : Shape).Idx → EReal := m (c.tc.loc main_arg4)
abbrev aS : (⟨2, ![2048, 2048]⟩ : Shape).Idx → EReal := m (c.tc.loc main_arg5)
abbrev aD : (⟨2, ![2048, 2048]⟩ : Shape).Idx → EReal := m (c.tc.loc main_arg6)

/-- Column `f` of block `j` of the projection. -/
def col (j : Fin 8) (f : Fin 256) : Fin 2048 := ⟨256 * j.val + f.val, by omega⟩

/-! ## The arrays the host prepares -/

theorem v2_at (j : Fin 8) (k f : Fin 256) : (W1 m c main_v2 : Vec Ideal S8x256x256 .bf16) (ix3 j k f) = aW m c (ix2 k (col j f)) := by
  unfold W1
  after_results
  pointwise
  refine congrArg (aW m c) ?_
  rw [ix2_inj]
  refine ⟨rfl, Fin.ext ?_⟩
  show j.val * 256 + f.val = 256 * j.val + f.val
  omega
theorem v3_at (i d : Fin 2048) : (W1 m c main_v3 : Vec Ideal S2048x2048 .bf16) (ix2 i d) = aS m c (ix2 i d) := by
  unfold W1
  after_results
  pointwise
  rfl

/-! ## Where the arrays come from -/

theorem W3_v3_back : W3 m c main_v3 = W1 m c main_v3 :=
  (W3_of m c _ (by decide)).trans <| W2_of m c _ (by decide)
theorem W8_v3_back : W8 m c main_v3 = W1 m c main_v3 :=
  (W8_of m c _ (by decide)).trans <| (W7_of m c _ (by decide)).trans <| (W6_of m c _ (by decide)).trans <| (W5_of m c _ (by decide)).trans <| (W4_of m c _ (by decide)).trans <| (W3_of m c _ (by decide)).trans <| W2_of m c _ (by decide)
theorem W4_v4_back : W4 m c main_v4 = W2 m c main_v4 :=
  (W4_of m c _ (by decide)).trans <| W3_of m c _ (by decide)
theorem W5_v4_back : W5 m c main_v4 = W2 m c main_v4 :=
  (W5_of m c _ (by decide)).trans <| (W4_of m c _ (by decide)).trans <| W3_of m c _ (by decide)
theorem W7_v5_back : W7 m c main_v5 = W3 m c main_v5 :=
  (W7_of m c _ (by decide)).trans <| (W6_of m c _ (by decide)).trans <| (W5_of m c _ (by decide)).trans <| W4_of m c _ (by decide)
theorem W5_v6_back : W5 m c main_v6 = W4 m c main_v6 :=
  W5_of m c _ (by decide)
theorem W7_v8_1_back : W7 m c main_v8_1 = W6 m c main_v8_1 :=
  W7_of m c _ (by decide)
theorem W8_v8_1_back : W8 m c main_v8_1 = W6 m c main_v8_1 :=
  (W8_of m c _ (by decide)).trans <| W7_of m c _ (by decide)
theorem W1_a1 : (W1 m c main_arg1 : S2048x256.Idx → EReal) = aP m c := W1_of m c _ (by decide)
theorem W2_a0 : (W2 m c main_arg0 : S2048x2048.Idx → EReal) = aH m c := (W2_of m c _ (by decide)).trans <| W1_of m c _ (by decide)
theorem W2_a4 : (W2 m c main_arg4 : S1x2048.Idx → EReal) = aG m c := (W2_of m c _ (by decide)).trans <| W1_of m c _ (by decide)
theorem W4_a0 : (W4 m c main_arg0 : S2048x2048.Idx → EReal) = aH m c := (W4_of m c _ (by decide)).trans <| (W3_of m c _ (by decide)).trans <| (W2_of m c _ (by decide)).trans <| W1_of m c _ (by decide)
theorem W4_a3 : (W4 m c main_arg3 : S1x2048.Idx → EReal) = aN m c := (W4_of m c _ (by decide)).trans <| (W3_of m c _ (by decide)).trans <| (W2_of m c _ (by decide)).trans <| W1_of m c _ (by decide)
theorem W5_a3 : (W5 m c main_arg3 : S1x2048.Idx → EReal) = aN m c := (W5_of m c _ (by decide)).trans <| (W4_of m c _ (by decide)).trans <| (W3_of m c _ (by decide)).trans <| (W2_of m c _ (by decide)).trans <| W1_of m c _ (by decide)
theorem W5_a6 : (W5 m c main_arg6 : S2048x2048.Idx → EReal) = aD m c := (W5_of m c _ (by decide)).trans <| (W4_of m c _ (by decide)).trans <| (W3_of m c _ (by decide)).trans <| (W2_of m c _ (by decide)).trans <| W1_of m c _ (by decide)
theorem W6_a1 : (W6 m c main_arg1 : S2048x256.Idx → EReal) = aP m c := (W6_of m c _ (by decide)).trans <| (W5_of m c _ (by decide)).trans <| (W4_of m c _ (by decide)).trans <| (W3_of m c _ (by decide)).trans <| (W2_of m c _ (by decide)).trans <| W1_of m c _ (by decide)
theorem W9_a0 : (W9 m c main_arg0 : S2048x2048.Idx → EReal) = aH m c := (W10_of m c _ (by decide)).symm.trans (kept m c _ (by decide))
theorem W9_a6 : (W9 m c main_arg6 : S2048x2048.Idx → EReal) = aD m c := (W10_of m c _ (by decide)).symm.trans (kept m c _ (by decide))
theorem W9_a4 : (W9 m c main_arg4 : S1x2048.Idx → EReal) = aG m c := (W10_of m c _ (by decide)).symm.trans (kept m c _ (by decide))

/-! ## The forward calls -/

theorem lt0 (t : Fin cfg0.N) : t.val < 8 := Nat.lt_of_lt_of_eq t.isLt N_0
theorem v4_at (i d : Fin 2048) : (W2 m c main_v4 : Vec Ideal S2048x2048 .f32) (ix2 i d) = e (aP m c) (aW m c) i d := by
  refine congrFun ((W2_v4 m c).trans (out0_2 (W1 m) c (fun x => e (aP m c) (aW m c) (x 0) (x 1)) (fun t a b i j hi hj => ?_))) (ix2 i d)
  show _ = e (aP m c) (aW m c) i j
  have ht := lt0 t
  refine (pay0_at _ _ a b).trans ?_
  unfold e
  refine Finset.sum_congr rfl fun k _ => congrArg₂ (· * ·) ?_ ?_
  · exact (blk0_0 (W1 m) c t a k i k hi rfl).trans (congrFun (W1_a1 m c) _)
  · refine (blk0_1 (W1 m) c t k b ⟨t.val, ht⟩ k b rfl rfl rfl).trans ((v2_at m c _ k b).trans (congrArg (fun z => aW m c (ix2 k z)) (Fin.ext ?_)))
    show 256 * t.val + b.val = j.val
    omega
theorem v5_at (i d : Fin 2048) : (W3 m c main_v5 : Vec Ideal S2048x2048 .bf16) (ix2 i d) = hn (aH m c) (aG m c) i d := by
  refine congrFun ((W3_v5 m c).trans (out1_2 (W2 m) c (fun x => hn (aH m c) (aG m c) (x 0) (x 1)) (fun t a b i j hi hj => ?_))) (ix2 i d)
  show _ = hn (aH m c) (aG m c) i j
  obtain rfl : j = b := Fin.ext hj
  have e0 : ∀ d, (in1_0 (W2 m) c t (ix2 a d) : EReal) = aH m c (ix2 i d) := fun d => (blk1_0 (W2 m) c t a d i d hi rfl).trans (congrFun (W2_a0 m c) _)
  have e1 : (in1_1 (W2 m) c t (ix2 0 j) : EReal) = aG m c (ix2 0 j) := (blk1_1 (W2 m) c t j 0 j rfl rfl).trans (congrFun (W2_a4 m c) _)
  refine (pay1_at _ _ a j).trans ?_
  simp only [e0, e1]
  rfl
theorem v6_at (i d : Fin 2048) : (W4 m c main_v6 : Vec Ideal S2048x2048 .f32) (ix2 i d) = gr (aH m c) (aG m c) (aS m c) i d := by
  refine congrFun ((W4_v6 m c).trans (out2_2 (W3 m) c (fun x => gr (aH m c) (aG m c) (aS m c) (x 0) (x 1)) (fun t a b i j hi hj => ?_))) (ix2 i d)
  show _ = gr (aH m c) (aG m c) (aS m c) i j
  refine (pay2_at _ _ a b).trans ?_
  unfold gr
  refine Finset.sum_congr rfl fun k _ => congrArg₂ (· * ·) ?_ ?_
  · exact (blk2_0 (W3 m) c t a k i k hi rfl).trans (v5_at m c i k)
  · exact (blk2_1 (W3 m) c t k b k j rfl hj).trans ((congrFun (W3_v3_back m c) _).trans (v3_at m c k j))
/-- The block's output. -/
theorem v7_eq : ((dat3 (W4 m) c).arrAt 4 cfg3.N : Vec Ideal S2048x2048 .f32) = fun x => out (aH m c) (aP m c) (aW m c) (aN m c) (aG m c) (aS m c) (x 0) (x 1) := by
  refine out3_4 (W4 m) c _ fun t a b i j hi hj => ?_
  obtain rfl : j = b := Fin.ext hj
  show _ = out _ _ _ _ _ _ i j
  have e0 : ∀ d, (in3_0 (W4 m) c t (ix2 a d) : EReal) = aH m c (ix2 i d) := fun d => (blk3_0 (W4 m) c t a d i d hi rfl).trans (congrFun (W4_a0 m c) _)
  have e1 : ∀ d, (in3_1 (W4 m) c t (ix2 a d) : EReal) = e (aP m c) (aW m c) i d := fun d => (blk3_1 (W4 m) c t a d i d hi rfl).trans ((congrFun (W4_v4_back m c) _).trans (v4_at m c i d))
  have e2 : ∀ d, (in3_2 (W4 m) c t (ix2 a d) : EReal) = gr (aH m c) (aG m c) (aS m c) i d := fun d => (blk3_2 (W4 m) c t a d i d hi rfl).trans (v6_at m c i d)
  have e3 : (in3_3 (W4 m) c t (ix2 0 j) : EReal) = aN m c (ix2 0 j) := (blk3_3 (W4 m) c t j 0 j rfl rfl).trans (congrFun (W4_a3 m c) _)
  refine (pay3_at _ _ _ _ a j).trans ?_
  simp only [e0, e1, e2, e3]
  rfl

/-! ## The backward calls -/

theorem lt4 (t : Fin cfg4.N) : t.val < 8 := Nat.lt_of_lt_of_eq t.isLt N_4
section
variable (t : Fin cfg4.N) (a : Fin 256) (i : Fin 2048) (hi : i.val = t.val * 256 + a.val) (d : Fin 2048)
include hi
theorem i40_at : (in4_0 (W5 m) c t (ix2 a d) : EReal) = e (aP m c) (aW m c) i d :=
  (blk4_0 (W5 m) c t a d i d hi rfl).trans ((congrFun (W5_v4_back m c) _).trans (v4_at m c i d))
theorem i41_at : (in4_1 (W5 m) c t (ix2 a d) : EReal) = gr (aH m c) (aG m c) (aS m c) i d :=
  (blk4_1 (W5 m) c t a d i d hi rfl).trans ((congrFun (W5_v6_back m c) _).trans (v6_at m c i d))
theorem i42_at : (in4_2 (W5 m) c t (ix2 a d) : EReal) = aD m c (ix2 i d) :=
  (blk4_2 (W5 m) c t a d i d hi rfl).trans (congrFun (W5_a6 m c) _)
omit hi in
theorem i43_at : (in4_3 (W5 m) c t (ix2 0 d) : EReal) = aN m c (ix2 0 d) :=
  (blk4_3 (W5 m) c t d 0 d rfl rfl).trans (congrFun (W5_a3 m c) _)
end
theorem v80_at (i d : Fin 2048) : (W6 m c main_v8_0 : Vec Ideal S2048x2048 .bf16) (ix2 i d) = de (aH m c) (aP m c) (aW m c) (aN m c) (aG m c) (aS m c) (aD m c) i d := by
  refine congrFun ((W6_v8_0 m c).trans (out4_4 (W5 m) c (fun x => de (aH m c) (aP m c) (aW m c) (aN m c) (aG m c) (aS m c) (aD m c) (x 0) (x 1)) (fun t a b i j hi hj => ?_))) (ix2 i d)
  show _ = de (aH m c) (aP m c) (aW m c) (aN m c) (aG m c) (aS m c) (aD m c) i j
  obtain rfl : j = b := Fin.ext hj
  refine (pay4a_at _ _ _ _ a j).trans ?_
  simp only [i40_at m c t a i hi, i41_at m c t a i hi, i42_at m c t a i hi, i43_at m c t]
  rfl
theorem one_is : one = 1 := by
  unfold one
  show Ideal.ieee 8 23 (0x3F800000#32) = _
  unfold Ideal.ieee
  dsimp only
  rw [if_neg (by decide), if_neg (by decide), if_neg (by decide)]
  norm_num [Nat.shiftRight_eq_div_pow]
theorem v81_at (i d : Fin 2048) : (W6 m c main_v8_1 : Vec Ideal S2048x2048 .bf16) (ix2 i d) = dgate (aH m c) (aP m c) (aW m c) (aN m c) (aG m c) (aS m c) (aD m c) i d := by
  refine congrFun ((W6_v8_1 m c).trans (out4_5 (W5 m) c (fun x => dgate (aH m c) (aP m c) (aW m c) (aN m c) (aG m c) (aS m c) (aD m c) (x 0) (x 1)) (fun t a b i j hi hj => ?_))) (ix2 i d)
  show _ = dgate (aH m c) (aP m c) (aW m c) (aN m c) (aG m c) (aS m c) (aD m c) i j
  obtain rfl : j = b := Fin.ext hj
  refine (pay4b_at _ _ _ _ a j).trans ?_
  simp only [i40_at m c t a i hi, i41_at m c t a i hi, i42_at m c t a i hi, i43_at m c t]
  unfold dgate
  rw [show one = (1 : EReal) from one_is]
  rfl
/-- A row tile's share of the gradient of the projection's gain. -/
def tile4 (d : Fin 2048) (k : ℕ) : EReal := if hk : k < cfg4.N then (step4 (in4_0 (W5 m) c ⟨k, hk⟩) (in4_1 (W5 m) c ⟨k, hk⟩) (in4_2 (W5 m) c ⟨k, hk⟩) (in4_3 (W5 m) c ⟨k, hk⟩) (ix2 0 d) : EReal) else 0
theorem sum4_at (d : Fin 2048) : ∀ (n : ℕ) (h : n < cfg4.N), (sum4 (W5 m) c n h (ix2 0 d) : EReal) = ∑ k ∈ Finset.range (n + 1), tile4 m c d k := by
  intro n
  induction n with
  | zero =>
    intro h
    rw [Finset.sum_range_one]
    unfold tile4
    rw [dif_pos h]
    exact congrFun (sum4_first (W5 m) c ⟨0, h⟩ rfl) _
  | succ n ih =>
    intro h
    rw [Finset.sum_range_succ, ← ih (Nat.lt_of_succ_lt h)]
    unfold tile4
    rw [dif_pos h]
    exact (congrFun (sum4_later (W5 m) c ⟨n + 1, h⟩ (Nat.succ_ne_zero n)) _).trans (add4_at d _ _)
/-- It is the sum of the eight. -/
theorem v82_eq : ((dat4 (W5 m) c).arrAt 6 cfg4.N : Vec Ideal S1x2048 .f32) = fun x => gradPn (aH m c) (aP m c) (aW m c) (aG m c) (aS m c) (aD m c) (x 1) := by
  refine out4_6 (W5 m) c _ fun t hf b i j hi hj => ?_
  obtain rfl : j = b := Fin.ext hj
  show _ = gradPn (aH m c) (aP m c) (aW m c) (aG m c) (aS m c) (aD m c) j
  have ht := lt4 t
  refine (sum4_at m c j t.val t.isLt).trans ?_
  rw [show t.val + 1 = 8 by omega, Finset.sum_range]
  unfold gradPn
  rw [Fin.sum_univ_tiles 8 256 (by norm_num : 8 * 256 = 2048)]
  refine Finset.sum_congr rfl fun k _ => ?_
  unfold tile4
  have hk : k.val < cfg4.N := Nat.lt_of_lt_of_eq k.isLt N_4.symm
  rw [dif_pos hk]
  refine (step4_at _ _ _ _ j).trans (Finset.sum_congr rfl fun r _ => ?_)
  simp only [i40_at m c ⟨k.val, hk⟩ r ⟨k.val * 256 + r.val, by omega⟩ rfl, i41_at m c ⟨k.val, hk⟩ r ⟨k.val * 256 + r.val, by omega⟩ rfl, i42_at m c ⟨k.val, hk⟩ r ⟨k.val * 256 + r.val, by omega⟩ rfl]
  rfl

/-- The gradient of the projection, in blocks of columns. -/
theorem v9_eq : ((dat5 (W6 m) c).arrAt 2 cfg5.N : Vec Ideal S8x256x256 .bf16) = fun x => gradWp (aH m c) (aP m c) (aW m c) (aN m c) (aG m c) (aS m c) (aD m c) (x 1) (col (x 0) (x 2)) := by
  refine out5_2 (W6 m) c _ fun t b d i j k hi hj hk => ?_
  show _ = gradWp _ _ _ _ _ _ _ j (col i k)
  refine (pay5_at _ _ b d).trans ?_
  unfold gradWp
  refine Finset.sum_congr rfl fun r _ => congrArg₂ (· * ·) ?_ ?_
  · exact (blk5_0 (W6 m) c t r b r j rfl hj).trans (congrFun (W6_a1 m c) _)
  · refine (blk5_1 (W6 m) c t r d r (col i k) rfl ?_).trans (v80_at m c r (col i k))
    show 256 * i.val + k.val = t.val * 256 + d.val
    omega
/-- The gradient of the gate's weight. -/
theorem v10_eq : ((dat6 (W7 m) c).arrAt 2 cfg6.N : Vec Ideal S2048x2048 .bf16) = fun x => gradWg (aH m c) (aP m c) (aW m c) (aN m c) (aG m c) (aS m c) (aD m c) (x 0) (x 1) := by
  refine out6_2 (W7 m) c _ fun t a b i j hi hj => ?_
  show _ = gradWg _ _ _ _ _ _ _ i j
  refine (pay6_at _ _ a b).trans ?_
  unfold gradWg
  refine Finset.sum_congr rfl fun r _ => congrArg₂ (· * ·) ?_ ?_
  · exact (blk6_0 (W7 m) c t r a r i rfl hi).trans ((congrFun (W7_v5_back m c) _).trans (v5_at m c r i))
  · exact (blk6_1 (W7 m) c t r b r j rfl hj).trans ((congrFun (W7_v8_1_back m c) _).trans (v81_at m c r j))
theorem v11_at (i d : Fin 2048) : (W9 m c main_v11 : Vec Ideal S2048x2048 .f32) (ix2 i d) = dhn (aH m c) (aP m c) (aW m c) (aN m c) (aG m c) (aS m c) (aD m c) i d := by
  refine congrFun ((W9_v11 m c).trans (out7_2 (W8 m) c (fun x => dhn (aH m c) (aP m c) (aW m c) (aN m c) (aG m c) (aS m c) (aD m c) (x 0) (x 1)) (fun t a b i j hi hj => ?_))) (ix2 i d)
  show _ = dhn (aH m c) (aP m c) (aW m c) (aN m c) (aG m c) (aS m c) (aD m c) i j
  refine (pay7_at _ _ a b).trans ?_
  unfold dhn
  refine Finset.sum_congr rfl fun k _ => congrArg₂ (· * ·) ?_ ?_
  · exact (blk7_0 (W8 m) c t a k i k hi rfl).trans ((congrFun (W8_v8_1_back m c) _).trans (v81_at m c i k))
  · exact (blk7_1 (W8 m) c t b k j k hj rfl).trans ((congrFun (W8_v3_back m c) _).trans (v3_at m c j k))
theorem lt8 (t : Fin cfg8.N) : t.val < 8 := Nat.lt_of_lt_of_eq t.isLt N_8
section
variable (t : Fin cfg8.N) (a : Fin 256) (i : Fin 2048) (hi : i.val = t.val * 256 + a.val) (d : Fin 2048)
include hi
theorem i80_at : (in8_0 (W9 m) c t (ix2 a d) : EReal) = aH m c (ix2 i d) :=
  (blk8_0 (W9 m) c t a d i d hi rfl).trans (congrFun (W9_a0 m c) _)
theorem i81_at : (in8_1 (W9 m) c t (ix2 a d) : EReal) = dhn (aH m c) (aP m c) (aW m c) (aN m c) (aG m c) (aS m c) (aD m c) i d :=
  (blk8_1 (W9 m) c t a d i d hi rfl).trans (v11_at m c i d)
theorem i82_at : (in8_2 (W9 m) c t (ix2 a d) : EReal) = aD m c (ix2 i d) :=
  (blk8_2 (W9 m) c t a d i d hi rfl).trans (congrFun (W9_a6 m c) _)
omit hi in
theorem i83_at : (in8_3 (W9 m) c t (ix2 0 d) : EReal) = aG m c (ix2 0 d) :=
  (blk8_3 (W9 m) c t d 0 d rfl rfl).trans (congrFun (W9_a4 m c) _)
end
/-- The gradient of the hidden state. -/
theorem v120_eq : ((dat8 (W9 m) c).arrAt 4 cfg8.N : Vec Ideal S2048x2048 .f32) = fun x => gradH (aH m c) (aP m c) (aW m c) (aN m c) (aG m c) (aS m c) (aD m c) (x 0) (x 1) := by
  refine out8_4 (W9 m) c _ fun t a b i j hi hj => ?_
  obtain rfl : j = b := Fin.ext hj
  show _ = gradH _ _ _ _ _ _ _ i j
  refine (pay8_at _ _ _ _ a j).trans ?_
  simp only [i80_at m c t a i hi, i81_at m c t a i hi, i82_at m c t a i hi, i83_at m c t]
  rfl
/-- A row tile's share of the gradient of the hidden state's gain. -/
def tile8 (d : Fin 2048) (k : ℕ) : EReal := if hk : k < cfg8.N then (step8 (in8_0 (W9 m) c ⟨k, hk⟩) (in8_1 (W9 m) c ⟨k, hk⟩) (in8_2 (W9 m) c ⟨k, hk⟩) (in8_3 (W9 m) c ⟨k, hk⟩) (ix2 0 d) : EReal) else 0
theorem sum8_at (d : Fin 2048) : ∀ (n : ℕ) (h : n < cfg8.N), (sum8 (W9 m) c n h (ix2 0 d) : EReal) = ∑ k ∈ Finset.range (n + 1), tile8 m c d k := by
  intro n
  induction n with
  | zero =>
    intro h
    rw [Finset.sum_range_one]
    unfold tile8
    rw [dif_pos h]
    exact congrFun (sum8_first (W9 m) c ⟨0, h⟩ rfl) _
  | succ n ih =>
    intro h
    rw [Finset.sum_range_succ, ← ih (Nat.lt_of_succ_lt h)]
    unfold tile8
    rw [dif_pos h]
    exact (congrFun (sum8_later (W9 m) c ⟨n + 1, h⟩ (Nat.succ_ne_zero n)) _).trans (add8_at d _ _)
/-- It is the sum of the eight. -/
theorem v122_eq : ((dat8 (W9 m) c).arrAt 6 cfg8.N : Vec Ideal S1x2048 .f32) = fun x => gradGn (aH m c) (aP m c) (aW m c) (aN m c) (aG m c) (aS m c) (aD m c) (x 1) := by
  refine out8_6 (W9 m) c _ fun t hf b i j hi hj => ?_
  obtain rfl : j = b := Fin.ext hj
  show _ = gradGn (aH m c) (aP m c) (aW m c) (aN m c) (aG m c) (aS m c) (aD m c) j
  have ht := lt8 t
  refine (sum8_at m c j t.val t.isLt).trans ?_
  rw [show t.val + 1 = 8 by omega, Finset.sum_range]
  unfold gradGn
  rw [Fin.sum_univ_tiles 8 256 (by norm_num : 8 * 256 = 2048)]
  refine Finset.sum_congr rfl fun k _ => ?_
  unfold tile8
  have hk : k.val < cfg8.N := Nat.lt_of_lt_of_eq k.isLt N_8.symm
  rw [dif_pos hk]
  refine (step8_at _ _ _ _ j).trans (Finset.sum_congr rfl fun r _ => ?_)
  simp only [i80_at m c ⟨k.val, hk⟩ r ⟨k.val * 256 + r.val, by omega⟩ rfl, i81_at m c ⟨k.val, hk⟩ r ⟨k.val * 256 + r.val, by omega⟩ rfl, i82_at m c ⟨k.val, hk⟩ r ⟨k.val * 256 + r.val, by omega⟩ rfl]

end Cert.Kernel3Ideal.Hand

end
-- ==== Proof.PleRef.lean ====
/-
  The third reference program's six results, entry by entry: the gated per-layer embedding and its gradients as plain sums,
  whatever the arguments hold.
-/
module

public import proofs.«01_k».proof.Proof.PleSpec
public import proofs.«01_k».proof.Proof.FfnRef
public import proofs.«01_k».proof.Proof.Target
public import proofs.«01_k».proof.Proof.Gen.Reference3Ideal.Run
public import proofs.«01_k».proof.Proof.Gen.Reference3Ideal.Read

@[expose] public section

set_option maxRecDepth 16384

noncomputable section

namespace Cert.Reference3Ideal.Hand

open Idealize.ShloMosaic Idealize.ShloMosaic.TcCoe Idealize.SL.Sem Idealize.ShloMosaic.Pointwise
open Cert.Reference3Ideal Cert.Reference3Ideal.Gen Cert.Reference3Ideal.Read Cert.Ple
open Cert.Ffn (hn one rrt msq thru mhalf hrow div2048 one_eq)

variable (h : Vec Ideal S2048x2048 .f32) (p : Vec Ideal S2048x256 .f32) (wp : Vec Ideal S256x2048 .f32) (pn gn : Vec Ideal S1x2048 .f32)
  (wg dh : Vec Ideal S2048x2048 .f32)

theorem v0_at (i d : Fin 2048) : val_main_v0 (F := Ideal) p wp (ix2 i d) = e p wp i d := by
  unfold val_main_v0 e
  pointwise
theorem v8_at (i : Fin 2048) : val_main_v8 (F := Ideal) p wp (ix2 i 0) = msq (e p wp i) := by
  unfold val_main_v8 val_main_v7 val_main_cst_1 val_main_v6 val_main_v5 val_main_cst_0 val_main_v4 val_main_v3 val_main_v2 val_main_cst
  pointwise
  rw [div2048]
  simp only [v0_at]
  rfl
theorem v9_at (i : Fin 2048) : val_main_v9 (F := Ideal) p wp (ix2 i 0) = rrt (e p wp i) := by
  unfold val_main_v9
  pointwise
  rw [v8_at]
  rfl
theorem v12_at (i : Fin 2048) : val_main_v12 (F := Ideal) p wp (ix2 i 0) = mhalf * Ideal.div (rrt (e p wp i)) (msq (e p wp i)) := by
  unfold val_main_v12 val_main_v11 val_main_cst_2 val_main_v10
  pointwise
  rw [v8_at, v9_at]
  rfl
theorem v14_at (i d : Fin 2048) : val_main_v14 (F := Ideal) p wp (ix2 i d) = e p wp i d * rrt (e p wp i) := by
  unfold val_main_v14 val_main_v13
  pointwise
  rw [v0_at, v9_at]
theorem v17_at (i d : Fin 2048) : val_main_v17 (F := Ideal) p wp pn (ix2 i d) = eh p wp pn i d := by
  unfold val_main_v17 val_main_v16 val_main_v15 val_main_v1
  pointwise
  rw [v14_at]
  rfl
theorem v25_at (i : Fin 2048) : val_main_v25 (F := Ideal) h (ix2 i 0) = msq (hrow h i) := by
  unfold val_main_v25 val_main_v24 val_main_cst_5 val_main_v23 val_main_v22 val_main_cst_4 val_main_v21 val_main_v20 val_main_v19 val_main_cst_3
  pointwise
  rw [div2048]
  rfl
theorem v26_at (i : Fin 2048) : val_main_v26 (F := Ideal) h (ix2 i 0) = rrt (hrow h i) := by
  unfold val_main_v26
  pointwise
  rw [v25_at]
  rfl
theorem v29_at (i : Fin 2048) : val_main_v29 (F := Ideal) h (ix2 i 0) = mhalf * Ideal.div (rrt (hrow h i)) (msq (hrow h i)) := by
  unfold val_main_v29 val_main_v28 val_main_cst_6 val_main_v27
  pointwise
  rw [v25_at, v26_at]
  rfl
theorem v31_at (i d : Fin 2048) : val_main_v31 (F := Ideal) h (ix2 i d) = h (ix2 i d) * rrt (hrow h i) := by
  unfold val_main_v31 val_main_v30
  pointwise
  rw [v26_at]
theorem v34_at (i d : Fin 2048) : val_main_v34 (F := Ideal) h gn (ix2 i d) = hn h gn i d := by
  unfold val_main_v34 val_main_v33 val_main_v32 val_main_v18
  pointwise
  rw [v31_at]
  rfl
theorem v35_at (i d : Fin 2048) : val_main_v35 (F := Ideal) h gn wg (ix2 i d) = gr h gn wg i d := by
  unfold val_main_v35 gr
  pointwise
  simp only [v34_at]
theorem v41_at (i d : Fin 2048) : val_main_v41 (F := Ideal) h gn wg (ix2 i d) = sg h gn wg i d := by
  unfold val_main_v41 val_main_v40 val_main_cst_8 val_main_v39 val_main_v38 val_main_cst_7 val_main_v37 val_main_v36
  pointwise
  rw [v35_at]
  rfl
theorem v46_at (i d : Fin 2048) : val_main_v46 (F := Ideal) h p wp pn gn wg (ix2 i d) = out h p wp pn gn wg i d := by
  unfold val_main_v46 val_main_v45
  pointwise
  rw [v17_at, v41_at]
  rfl
theorem v49_at (i d : Fin 2048) : val_main_v49 (F := Ideal) h gn wg dh (ix2 i d) = q h gn wg dh i d := by
  unfold val_main_v49 val_main_v47
  pointwise
  rw [v41_at]
  rfl
theorem v50_at (i d : Fin 2048) : val_main_v50 (F := Ideal) h p wp pn gn wg dh (ix2 i d) = dgate h p wp pn gn wg dh i d := by
  unfold val_main_v50 val_main_v48 val_main_v47 val_main_v44 val_main_v43 val_main_v42 val_main_cst_9
  pointwise
  rw [v17_at, v41_at]
  unfold dgate
  rw [show one = 1 from one_eq]
/-- The gradient of the gate's weight. -/
theorem v102_at (c d : Fin 2048) : val_main_v102 (F := Ideal) h p wp pn gn wg dh (ix2 c d) = gradWg h p wp pn gn wg dh c d := by
  unfold val_main_v102 val_main_v52 val_main_v51 gradWg
  pointwise
  simp only [v50_at, v34_at]
  exact Finset.sum_congr rfl fun t _ => by rw [mul_comm]
theorem v53_at (i c : Fin 2048) : val_main_v53 (F := Ideal) h p wp pn gn wg dh (ix2 i c) = dhn h p wp pn gn wg dh i c := by
  unfold val_main_v53 dhn
  pointwise
  simp only [v50_at]
/-- The gradient of the hidden state's gain. -/
theorem v75_at (d : Fin 2048) : val_main_v75 (F := Ideal) h p wp pn gn wg dh (ix2 0 d) = gradGn h p wp pn gn wg dh d := by
  unfold val_main_v75 val_main_v59 val_main_cst_11 val_main_v56 val_main_v55 val_main_cst_10 val_main_v54
  pointwise
  simp only [v53_at, v31_at]
  rw [Fin.sum_univ_one]
  rfl
theorem v58_at (i d : Fin 2048) : val_main_v58 (F := Ideal) h p wp pn gn wg dh (ix2 i d) = dhn h p wp pn gn wg dh i d * gn (ix2 0 d) := by
  unfold val_main_v58 val_main_v57 val_main_v32 val_main_v18
  pointwise
  rw [v53_at]
theorem v70_at (i d : Fin 2048) : val_main_v70 (F := Ideal) h p wp pn gn wg dh (ix2 i d) = thru (hrow h i) (fun d => dhn h p wp pn gn wg dh i d * gn (ix2 0 d)) := by
  unfold val_main_v70 val_main_v69 val_main_cst_14 val_main_v68 val_main_v67 val_main_cst_13 val_main_v66 val_main_v62 val_main_v61 val_main_cst_12 val_main_v60
  pointwise
  rw [Fin.sum_univ_one]
  simp only [v58_at, v29_at, div2048]
  rfl
/-- The gradient of the hidden state. -/
theorem v74_at (i d : Fin 2048) : val_main_v74 (F := Ideal) h p wp pn gn wg dh (ix2 i d) = gradH h p wp pn gn wg dh i d := by
  unfold val_main_v74 val_main_v73 val_main_v72 val_main_v71 val_main_v65 val_main_v64 val_main_v63
  pointwise
  rw [v58_at, v70_at, v26_at]
  unfold gradH back
  generalize thru _ _ = T
  change _ = dhn h p wp pn gn wg dh i d * gn (ix2 0 d) * rrt (hrow h i) + h (ix2 i d) * T + T * h (ix2 i d) + dh (ix2 i d)
  rw [add_comm _ (dh (ix2 i d)), ← add_assoc, ← add_assoc]
/-- The gradient of the projection's gain. -/
theorem v96_at (d : Fin 2048) : val_main_v96 (F := Ideal) h p wp gn wg dh (ix2 0 d) = gradPn h p wp gn wg dh d := by
  unfold val_main_v96 val_main_v81 val_main_cst_16 val_main_v78 val_main_v77 val_main_cst_15 val_main_v76
  pointwise
  simp only [v49_at, v14_at]
  rw [Fin.sum_univ_one]
  rfl
theorem v80_at (i d : Fin 2048) : val_main_v80 (F := Ideal) h pn gn wg dh (ix2 i d) = q h gn wg dh i d * pn (ix2 0 d) := by
  unfold val_main_v80 val_main_v79 val_main_v15 val_main_v1
  pointwise
  rw [v49_at]
theorem v91_at (i d : Fin 2048) : val_main_v91 (F := Ideal) h p wp pn gn wg dh (ix2 i d) = thru (e p wp i) (fun d => q h gn wg dh i d * pn (ix2 0 d)) := by
  unfold val_main_v91 val_main_v90 val_main_cst_19 val_main_v89 val_main_v88 val_main_cst_18 val_main_v87 val_main_v84 val_main_v83 val_main_cst_17 val_main_v82
  pointwise
  rw [Fin.sum_univ_one]
  simp only [v80_at, v0_at, v12_at, div2048]
  rfl
theorem v95_at (i d : Fin 2048) : val_main_v95 (F := Ideal) h p wp pn gn wg dh (ix2 i d) = de h p wp pn gn wg dh i d := by
  unfold val_main_v95 val_main_v94 val_main_v93 val_main_v92 val_main_v86 val_main_v85
  pointwise
  rw [v80_at, v91_at, v9_at, v0_at]
  rfl
/-- The gradient of the projection, in blocks of columns. -/
theorem v101_at (j : Fin 8) (k f : Fin 256) : val_main_v101 (F := Ideal) h p wp pn gn wg dh (ix3 j k f)
    = gradWp h p wp pn gn wg dh k ⟨j.val * 256 + f.val, by omega⟩ := by
  unfold val_main_v101 val_main_v100 val_main_v99 val_main_v98 val_main_v97 gradWp
  pointwise
  simp only [v95_at]
  exact Finset.sum_congr rfl fun t _ => by rw [mul_comm]

end Cert.Reference3Ideal.Hand

end
-- ==== Proof.PleSame.lean ====
/-
  The calls of the per-layer embedding over the machine's floats and over the extended reals: one table of bodies.
-/
module

public import proofs.«01_k».proof.Proof.Gen.Kernel3
public import proofs.«01_k».proof.Proof.Gen.Kernel3Ideal
public import Idealize.ShloMosaic.PureOps.BitExact

@[expose] public section

set_option maxRecDepth 16384

noncomputable section

namespace Cert.Proof

open Idealize.ShloMosaic Idealize.SL.Sem

set_option maxHeartbeats 4000000 in
/-- The bodies of these calls are the same text in the two programs. -/
theorem bodies3_eq : (Cert.Kernel3.defs₀ (F := Bits)) = Cert.Kernel3Ideal.defs₀ (F := Bits) := by
  unfold Cert.Kernel3.defs₀ Cert.Kernel3Ideal.defs₀
  refine congrArg Defs.onTc ?_
  funext l a
  match l, a with
  | 0, (t, s) => rfl
  | 1, (t, s) => rfl
  | 2, (t, s) => rfl
  | 3, (t, s) => rfl
  | 4, (t, s) => rfl
  | 5, (t, s) => rfl
  | 6, (t, s) => rfl
  | 7, (t, s) => rfl
  | 8, (t, s) => rfl

set_option maxHeartbeats 16000000 in
/-- So are their tables of bodies. -/
theorem defs3_eq : (Cert.Kernel3.defs (F := Bits)) = Cert.Kernel3Ideal.defs (F := Bits) := by
  unfold Cert.Kernel3.defs Cert.Kernel3Ideal.defs
  rw [bodies3_eq]; rfl

end Cert.Proof

end
-- ==== Proof.MlaBase.lean ====
/-
  What the three calls of the attention's output product rest on.
-/
module

public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Regions
public import proofs.«01_k».proof.Proof.Common

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Kernel4Ideal Cert.Kernel4Ideal.Gen

variable {F : FTy → Type} [FloatOps F]

local notation "𝕄" => MT nD τ sig Unit (Elt F) ℕ (UR sig nD τ) ℕ

end Cert.Kernel4Ideal.Hand

end
-- ==== Proof.MlaCalls.lean ====
/-
  The three calls of the attention's output product: each body's run, its proof data, its triple at every point.
-/
module

public import proofs.«01_k».proof.Proof.MlaBase

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel4Ideal Cert.Kernel4Ideal.Gen

variable {F : FTy → Type} [FloatOps F]

local notation "𝕄" => MT nD τ sig Unit (Elt F) ℕ (UR sig nD τ) ℕ

/-! ## The product with its residual -/
section

/-- What the body leaves in its output number 0, from its input blocks. -/
def res0_0 (x0 : Vec F S1024x2048 .bf16) (x1 : Vec F S2048x1024 .bf16) (x2 : Vec F S1024x1024 .f32) : Vec F S1024x1024 .f32 := k0_pay1 x0 x1 x2

set_option maxHeartbeats 2000000 in
/-- The body's run. -/
theorem run0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole)
    (x0 : Vec F S1024x2048 .bf16) (x1 : Vec F S2048x1024 .bf16) (x2 : Vec F S1024x1024 .f32) (E : Set ℕ) (K : PUnit → sProp 𝕄) :
    iprop((owns (c : Thread nD τ) arg3 fullShare x0 ∗ owns (c : Thread nD τ) arg4 fullShare x1 ∗ owns (c : Thread nD τ) arg5 fullShare x2 ∗ (∃ d, owns (c : Thread nD τ) arg6 fullShare d))
        ∗ (iprop(owns (c : Thread nD τ) arg3 fullShare x0 ∗ owns (c : Thread nD τ) arg4 fullShare x1 ∗ owns (c : Thread nD τ) arg5 fullShare x2 ∗ owns (c : Thread nD τ) arg6 fullShare (res0_0 x0 x1 x2)) -∗ K ⟨⟩))
      ⊢ wp frame (wpE (defs₀ (F := F)) Variants.none c none) E (cc0_mla_out i arg3 harg3 arg4 harg4 arg5 harg5 arg6 harg6) K := by
  simp only [cc0_mla_out_eq_skeleton]; unfold cc0_mla_out_skel
  unfold owns
  iintro ⟨⟨⟨%f0, %hf0, H0⟩, ⟨%f1, %hf1, H1⟩, ⟨%f2, %hf2, H2⟩, ⟨%d3, %f3, -, H3⟩⟩, Hk⟩
  obtain rfl := harg3.eq_unread hf0; obtain rfl := harg4.eq_unread hf1; obtain rfl := harg5.eq_unread hf2
  sl_exec
  sl_step
  iapply Hk
  isplitl [H0]
  · iapply (whole harg3 _); iexact H0
  isplitl [H1]
  · iapply (whole harg4 _); iexact H1
  isplitl [H2]
  · iapply (whole harg5 _); iexact H2
  iexists _; isplitr; swap; · iexact H3
  ipureintro
  exact (View.read_writes_full arg6.view _ _ _ _).trans (congr (congr (congrArg k0_pay1 (ld_all arg3 harg3 x0 ![0, 0] inb_S1024x2048_S1024x2048_0_0)) (ld_all arg4 harg4 x1 ![0, 0] inb_S2048x1024_S2048x1024_0_0)) (ld_all arg5 harg5 x2 ![0, 0] inb_S1024x1024_S1024x1024_0_0))

variable (W : Dev nD → Valuation τ sig (Elt F))

/-- The block of input `w` at point `t`. -/
def in0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))
abbrev in0_0 (c : Dev nD) (t : Fin cfg0.N) : Vec F S1024x2048 .bf16 := in0 W c 0 t
abbrev in0_1 (c : Dev nD) (t : Fin cfg0.N) : Vec F S2048x1024 .bf16 := in0 W c 1 t
abbrev in0_2 (c : Dev nD) (t : Fin cfg0.N) : Vec F S1024x1024 .f32 := in0 W c 2 t

/-- The call's proof data: entered with its arrays at `W c`, each point leaves the inputs at their blocks and the outputs at the body's results. -/
def dat0 (c : Dev nD) : Dat τ (Elt F) Unit ℕ (UR sig nD τ) ℕ cfg0 c where
  A w := W c (Pipeline.arrRef spec0 w)
  after w t := match w with
    | ⟨0, _⟩ => in0 W c 0 t
    | ⟨1, _⟩ => in0 W c 1 t
    | ⟨2, _⟩ => in0 W c 2 t
    | ⟨3, _⟩ => res0_0 (in0_0 W c t) (in0_1 W c t) (in0_2 W c t)
  Φ _ := Pipeline.scopedRest spec0 c
  q w := Pipeline.shareOf spec0 w
  owed _ := 0

theorem A0 (c : Dev nD) (w : Fin cfg0.W) : (dat0 W c).A w = W c (Pipeline.arrRef spec0 w) := by dsimp only [dat0]
theorem left0_0 (c : Dev nD) (t : Fin cfg0.N) : (dat0 W c).after 0 t = in0 W c 0 t := by dsimp only [dat0]
theorem left0_1 (c : Dev nD) (t : Fin cfg0.N) : (dat0 W c).after 1 t = in0 W c 1 t := by dsimp only [dat0]
theorem left0_2 (c : Dev nD) (t : Fin cfg0.N) : (dat0 W c).after 2 t = in0 W c 2 t := by dsimp only [dat0]
theorem left0_3 (c : Dev nD) (t : Fin cfg0.N) : (dat0 W c).after 3 t = res0_0 (in0_0 W c t) (in0_1 W c t) (in0_2 W c t) := by dsimp only [dat0]
set_option maxHeartbeats 1600000 in
/-- The library's body obligation. -/
theorem obl0 (c : Dev nD) : BodyObligation (dat0 (F := F) W c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact obligation (dat0 W c) (run0 c (grid0.coords t) _ _ _ _ _ _ _ _ (in0_0 W c t) (in0_1 W c t) (in0_2 W c t) Set.univ)
    (pair (got (found (dat0 W c) 0 rfl (fun _ => rfl) (fun _ _ _ => rfl) (left0_0 W c) (fun t _ => (left0_0 W c t).symm) (left0_0 W c t))) (pair (got (found (dat0 W c) 1 rfl (fun _ => rfl) (fun _ _ _ => rfl) (left0_1 W c) (fun t _ => (left0_1 W c t).symm) (left0_1 W c t))) (pair (got (found (dat0 W c) 2 rfl (fun _ => rfl) (fun _ _ _ => rfl) (left0_2 W c) (fun t _ => (left0_2 W c t).symm) (left0_2 W c t))) anything)))
    (pair (back (left0_0 W c t)) (pair (back (left0_1 W c t)) (pair (back (left0_2 W c t)) (back (left0_3 W c t))))) rfl rfl
end

/-! ## The gradient of its input -/
section

/-- What the body leaves in its output number 0, from its input blocks. -/
def res1_0 (x0 : Vec F S1024x2048 .bf16) (x1 : Vec F S1024x2048 .bf16) : Vec F S1024x1024 .bf16 := k1_pay1 x0 x1

set_option maxHeartbeats 2000000 in
/-- The body's run. -/
theorem run1 (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole)
    (x0 : Vec F S1024x2048 .bf16) (x1 : Vec F S1024x2048 .bf16) (E : Set ℕ) (K : PUnit → sProp 𝕄) :
    iprop((owns (c : Thread nD τ) arg3 fullShare x0 ∗ owns (c : Thread nD τ) arg4 fullShare x1 ∗ (∃ d, owns (c : Thread nD τ) arg5 fullShare d))
        ∗ (iprop(owns (c : Thread nD τ) arg3 fullShare x0 ∗ owns (c : Thread nD τ) arg4 fullShare x1 ∗ owns (c : Thread nD τ) arg5 fullShare (res1_0 x0 x1)) -∗ K ⟨⟩))
      ⊢ wp frame (wpE (defs₀ (F := F)) Variants.none c none) E (cc1_mla_dO i arg3 harg3 arg4 harg4 arg5 harg5) K := by
  simp only [cc1_mla_dO_eq_skeleton]; unfold cc1_mla_dO_skel
  unfold owns
  iintro ⟨⟨⟨%f0, %hf0, H0⟩, ⟨%f1, %hf1, H1⟩, ⟨%d2, %f2, -, H2⟩⟩, Hk⟩
  obtain rfl := harg3.eq_unread hf0; obtain rfl := harg4.eq_unread hf1
  sl_exec
  sl_step
  iapply Hk
  isplitl [H0]
  · iapply (whole harg3 _); iexact H0
  isplitl [H1]
  · iapply (whole harg4 _); iexact H1
  iexists _; isplitr; swap; · iexact H2
  ipureintro
  exact (View.read_writes_full arg5.view _ _ _ _).trans (congr (congrArg k1_pay1 (ld_all arg3 harg3 x0 ![0, 0] inb_S1024x2048_S1024x2048_0_0)) (ld_all arg4 harg4 x1 ![0, 0] inb_S1024x2048_S1024x2048_0_0))

variable (W : Dev nD → Valuation τ sig (Elt F))

/-- The block of input `w` at point `t`. -/
def in1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))
abbrev in1_0 (c : Dev nD) (t : Fin cfg1.N) : Vec F S1024x2048 .bf16 := in1 W c 0 t
abbrev in1_1 (c : Dev nD) (t : Fin cfg1.N) : Vec F S1024x2048 .bf16 := in1 W c 1 t

/-- The call's proof data: entered with its arrays at `W c`, each point leaves the inputs at their blocks and the outputs at the body's results. -/
def dat1 (c : Dev nD) : Dat τ (Elt F) Unit ℕ (UR sig nD τ) ℕ cfg1 c where
  A w := W c (Pipeline.arrRef spec1 w)
  after w t := match w with
    | ⟨0, _⟩ => in1 W c 0 t
    | ⟨1, _⟩ => in1 W c 1 t
    | ⟨2, _⟩ => res1_0 (in1_0 W c t) (in1_1 W c t)
  Φ _ := Pipeline.scopedRest spec1 c
  q w := Pipeline.shareOf spec1 w
  owed _ := 0

theorem A1 (c : Dev nD) (w : Fin cfg1.W) : (dat1 W c).A w = W c (Pipeline.arrRef spec1 w) := by dsimp only [dat1]
theorem left1_0 (c : Dev nD) (t : Fin cfg1.N) : (dat1 W c).after 0 t = in1 W c 0 t := by dsimp only [dat1]
theorem left1_1 (c : Dev nD) (t : Fin cfg1.N) : (dat1 W c).after 1 t = in1 W c 1 t := by dsimp only [dat1]
theorem left1_2 (c : Dev nD) (t : Fin cfg1.N) : (dat1 W c).after 2 t = res1_0 (in1_0 W c t) (in1_1 W c t) := by dsimp only [dat1]
set_option maxHeartbeats 1600000 in
/-- The library's body obligation. -/
theorem obl1 (c : Dev nD) : BodyObligation (dat1 (F := F) W c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact obligation (dat1 W c) (run1 c (grid1.coords t) _ _ _ _ _ _ (in1_0 W c t) (in1_1 W c t) Set.univ)
    (pair (got (found (dat1 W c) 0 rfl (fun _ => rfl) (fun _ _ _ => rfl) (left1_0 W c) (fun t _ => (left1_0 W c t).symm) (left1_0 W c t))) (pair (got (found (dat1 W c) 1 rfl (fun _ => rfl) (fun _ _ _ => rfl) (left1_1 W c) (fun t _ => (left1_1 W c t).symm) (left1_1 W c t))) anything))
    (pair (back (left1_0 W c t)) (pair (back (left1_1 W c t)) (back (left1_2 W c t)))) rfl rfl
end

/-! ## The gradient of its weight -/
section

/-- What the body leaves in its output number 0, from its input blocks. -/
def res2_0 (x0 : Vec F S2048x512 .bf16) (x1 : Vec F S2048x2048 .bf16) : Vec F S512x2048 .bf16 := k2_pay1 x0 x1

set_option maxHeartbeats 2000000 in
/-- The body's run. -/
theorem run2 (c : Dev nD) (i : grid2.Coords) (arg3 : Memref sig .tc .vmem S2048x512 .bf16) (harg3 : arg3.IsWhole) (arg4 : Memref sig .tc .vmem S2048x2048 .bf16) (harg4 : arg4.IsWhole) (arg5 : Memref sig .tc .vmem S512x2048 .bf16) (harg5 : arg5.IsWhole)
    (x0 : Vec F S2048x512 .bf16) (x1 : Vec F S2048x2048 .bf16) (E : Set ℕ) (K : PUnit → sProp 𝕄) :
    iprop((owns (c : Thread nD τ) arg3 fullShare x0 ∗ owns (c : Thread nD τ) arg4 fullShare x1 ∗ (∃ d, owns (c : Thread nD τ) arg5 fullShare d))
        ∗ (iprop(owns (c : Thread nD τ) arg3 fullShare x0 ∗ owns (c : Thread nD τ) arg4 fullShare x1 ∗ owns (c : Thread nD τ) arg5 fullShare (res2_0 x0 x1)) -∗ K ⟨⟩))
      ⊢ wp frame (wpE (defs₀ (F := F)) Variants.none c none) E (cc2_mla_dwo i arg3 harg3 arg4 harg4 arg5 harg5) K := by
  simp only [cc2_mla_dwo_eq_skeleton]; unfold cc2_mla_dwo_skel
  unfold owns
  iintro ⟨⟨⟨%f0, %hf0, H0⟩, ⟨%f1, %hf1, H1⟩, ⟨%d2, %f2, -, H2⟩⟩, Hk⟩
  obtain rfl := harg3.eq_unread hf0; obtain rfl := harg4.eq_unread hf1
  sl_exec
  sl_step
  iapply Hk
  isplitl [H0]
  · iapply (whole harg3 _); iexact H0
  isplitl [H1]
  · iapply (whole harg4 _); iexact H1
  iexists _; isplitr; swap; · iexact H2
  ipureintro
  exact (View.read_writes_full arg5.view _ _ _ _).trans (congr (congrArg k2_pay1 (ld_all arg3 harg3 x0 ![0, 0] inb_S2048x512_S2048x512_0_0)) (ld_all arg4 harg4 x1 ![0, 0] inb_S2048x2048_S2048x2048_0_0))

variable (W : Dev nD → Valuation τ sig (Elt F))

/-- The block of input `w` at point `t`. -/
def in2 (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))
abbrev in2_0 (c : Dev nD) (t : Fin cfg2.N) : Vec F S2048x512 .bf16 := in2 W c 0 t
abbrev in2_1 (c : Dev nD) (t : Fin cfg2.N) : Vec F S2048x2048 .bf16 := in2 W c 1 t

/-- The call's proof data: entered with its arrays at `W c`, each point leaves the inputs at their blocks and the outputs at the body's results. -/
def dat2 (c : Dev nD) : Dat τ (Elt F) Unit ℕ (UR sig nD τ) ℕ cfg2 c where
  A w := W c (Pipeline.arrRef spec2 w)
  after w t := match w with
    | ⟨0, _⟩ => in2 W c 0 t
    | ⟨1, _⟩ => in2 W c 1 t
    | ⟨2, _⟩ => res2_0 (in2_0 W c t) (in2_1 W c t)
  Φ _ := Pipeline.scopedRest spec2 c
  q w := Pipeline.shareOf spec2 w
  owed _ := 0

theorem A2 (c : Dev nD) (w : Fin cfg2.W) : (dat2 W c).A w = W c (Pipeline.arrRef spec2 w) := by dsimp only [dat2]
theorem left2_0 (c : Dev nD) (t : Fin cfg2.N) : (dat2 W c).after 0 t = in2 W c 0 t := by dsimp only [dat2]
theorem left2_1 (c : Dev nD) (t : Fin cfg2.N) : (dat2 W c).after 1 t = in2 W c 1 t := by dsimp only [dat2]
theorem left2_2 (c : Dev nD) (t : Fin cfg2.N) : (dat2 W c).after 2 t = res2_0 (in2_0 W c t) (in2_1 W c t) := by dsimp only [dat2]
set_option maxHeartbeats 1600000 in
/-- The library's body obligation. -/
theorem obl2 (c : Dev nD) : BodyObligation (dat2 (F := F) W c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  exact obligation (dat2 W c) (run2 c (grid2.coords t) _ _ _ _ _ _ (in2_0 W c t) (in2_1 W c t) Set.univ)
    (pair (got (found (dat2 W c) 0 rfl (fun _ => rfl) (fun _ _ _ => rfl) (left2_0 W c) (fun t _ => (left2_0 W c t).symm) (left2_0 W c t))) (pair (got (found (dat2 W c) 1 rfl (fun _ => rfl) (fun _ _ _ => rfl) (left2_1 W c) (fun t _ => (left2_1 W c t).symm) (left2_1 W c t))) anything))
    (pair (back (left2_0 W c t)) (pair (back (left2_1 W c t)) (back (left2_2 W c t)))) rfl rfl
end

end Cert.Kernel4Ideal.Hand

end
-- ==== Proof.MlaRun.lean ====
/-
  The run of the whole output product: the contents of the program's arrays between its calls, each call as a
  segment between them, the launch; what the run leaves in the arguments and the results.
-/
module

public import proofs.«01_k».proof.Proof.MlaCalls
public import proofs.«01_k».proof.Proof.Segs

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays between the items -/

/-- At launch, and after the host operations before the first call. -/
def W0 (c : Dev nD) : Valuation τ sig (Elt F) := fun b => m (c, b)
def W1 (c : Dev nD) : Valuation τ sig (Elt F) := StableHlo.after hostOps0 (W0 m c)
theorem W1_of (c : Dev nD) (r : Ref sig .tc) (h : r ∉ hostOps0_W) : W1 m c r = W0 m c r :=
  StableHlo.after_of_writes_sub hostOps0 _ hostOps0_writes h

/-- After call 0. -/
def W2 (c : Dev nD) : Valuation τ sig (Elt F) := Function.update (W1 m c) main_v4 ((dat0 (W1 m) c).arrAt 3 cfg0.N)
theorem W2_of (c : Dev nD) (r : Ref sig .tc) (h : r ∉ [main_v4]) : W2 m c r = W1 m c r := of1 h
theorem W2_v4 (c : Dev nD) : W2 m c main_v4 = (dat0 (W1 m) c).arrAt 3 cfg0.N := Function.update_self _ _ _

/-- After call 1. -/
def W3 (c : Dev nD) : Valuation τ sig (Elt F) := Function.update (W2 m c) main_v5 ((dat1 (W2 m) c).arrAt 2 cfg1.N)
theorem W3_of (c : Dev nD) (r : Ref sig .tc) (h : r ∉ [main_v5]) : W3 m c r = W2 m c r := of1 h
theorem W3_v5 (c : Dev nD) : W3 m c main_v5 = (dat1 (W2 m) c).arrAt 2 cfg1.N := Function.update_self _ _ _

/-- After call 2. -/
def W4 (c : Dev nD) : Valuation τ sig (Elt F) := Function.update (W3 m c) main_v6 ((dat2 (W3 m) c).arrAt 2 cfg2.N)
theorem W4_of (c : Dev nD) (r : Ref sig .tc) (h : r ∉ [main_v6]) : W4 m c r = W3 m c r := of1 h
theorem W4_v6 (c : Dev nD) : W4 m c main_v6 = (dat2 (W3 m) c).arrAt 2 cfg2.N := Function.update_self _ _ _

/-! ## The calls as segments -/

/-- The calls' proof data, each entered with its arrays as the items before it leave them. -/
def pd (p : Fin 3) (c : Dev nD) : Dat τ (Elt F) Unit ℕ (UR sig nD τ) ℕ (cfgs p) c :=
  match p with
  | 0 => dat0 (W1 m) c
  | 1 => dat1 (W2 m) c
  | 2 => dat2 (W3 m) c

theorem end0 (c : Dev nD) (w : Fin cfg0.W) : (dat0 (W1 m) c).arrAt w cfg0.N = W2 m c (Pipeline.arrRef spec0 w) :=
  match w with
  | ⟨0, _⟩ => left _ 0 rfl (A0 (W1 m) c 0) (W2_of m c _ (by decide))
  | ⟨1, _⟩ => left _ 1 rfl (A0 (W1 m) c 1) (W2_of m c _ (by decide))
  | ⟨2, _⟩ => left _ 2 rfl (A0 (W1 m) c 2) (W2_of m c _ (by decide))
  | ⟨3, _⟩ => (W2_v4 m c).symm
def seg0 (m : (ℓ : Loc nD τ sig) → Buf (Elt F) ℓ) : RegionSeg (pcfgs (F := F)) adm (pd m) () defs₀ Variants.none noCells noLevel 0 :=
  segment (pd m) 0 launch0.win.to₀ (Pipeline.SharedIn.of_injective winFacts0.arr_inj) block_pos0 arr_whole0 stage_whole0
    (obl0 (W1 m)) (A0 (W1 m)) (end0 m) (W2_of m) (by decide)

theorem end1 (c : Dev nD) (w : Fin cfg1.W) : (dat1 (W2 m) c).arrAt w cfg1.N = W3 m c (Pipeline.arrRef spec1 w) :=
  match w with
  | ⟨0, _⟩ => left _ 0 rfl (A1 (W2 m) c 0) (W3_of m c _ (by decide))
  | ⟨1, _⟩ => left _ 1 rfl (A1 (W2 m) c 1) (W3_of m c _ (by decide))
  | ⟨2, _⟩ => (W3_v5 m c).symm
def seg1 (m : (ℓ : Loc nD τ sig) → Buf (Elt F) ℓ) : RegionSeg (pcfgs (F := F)) adm (pd m) () defs₀ Variants.none noCells noLevel 1 :=
  segment (pd m) 1 launch1.win.to₀ (Pipeline.SharedIn.of_injective winFacts1.arr_inj) block_pos1 arr_whole1 stage_whole1
    (obl1 (W2 m)) (A1 (W2 m)) (end1 m) (W3_of m) (by decide)

theorem end2 (c : Dev nD) (w : Fin cfg2.W) : (dat2 (W3 m) c).arrAt w cfg2.N = W4 m c (Pipeline.arrRef spec2 w) :=
  match w with
  | ⟨0, _⟩ => left _ 0 rfl (A2 (W3 m) c 0) (W4_of m c _ (by decide))
  | ⟨1, _⟩ => left _ 1 rfl (A2 (W3 m) c 1) (W4_of m c _ (by decide))
  | ⟨2, _⟩ => (W4_v6 m c).symm
def seg2 (m : (ℓ : Loc nD τ sig) → Buf (Elt F) ℓ) : RegionSeg (pcfgs (F := F)) adm (pd m) () defs₀ Variants.none noCells noLevel 2 :=
  segment (pd m) 2 launch2.win.to₀ (Pipeline.SharedIn.of_injective winFacts2.arr_inj) block_pos2 arr_whole2 stage_whole2
    (obl2 (W3 m)) (A2 (W3 m)) (end2 m) (W4_of m) (by decide)

/-- The host operations. -/
def host0 : Pipeline.HostSeg (Ix := Unit) (Name := ℕ) (U := UR sig nD τ) (Lvl := ℕ) (pcfgs (F := F)) defs₀ Variants.none noCells noLevel :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) clear

/-- The program's items. -/
abbrev items (_ : Dev nD) : List (Pipeline.Seg (pcfgs (F := F)) adm (pd m) () defs₀ Variants.none noCells noLevel) :=
  [.host (host0 m), .region (seg0 m), .region (seg1 m), .region (seg2 m)]

/-- An array that no item writes is at the end as at launch. -/
theorem kept (c : Dev nD) (r : Ref sig .tc) (h : r ∉ hostOps0_W ∧ r ∉ [main_v4] ∧ r ∉ [main_v5] ∧ r ∉ [main_v6]) : W4 m c r = m (c, r) :=
  (W4_of m c r h.2.2.2).trans <| (W3_of m c r h.2.2.1).trans <| (W2_of m c r h.2.1).trans <| W1_of m c r h.1

/-- The arguments on core `c` are as launched. -/
def Kept (m : (ℓ : Loc nD τ sig) → Buf (Elt F) ℓ) (c : Dev nD) (s : MemSt nD τ sig (Elt F)) : Prop :=
  Same m c s main_arg0 ∧ Same m c s main_arg1 ∧ Same m c s main_arg2 ∧ Same m c s main_arg3

/-- What a run ends with on core `c`: the arguments as launched, the three results as the calls leave them. -/
def Ends (m : (ℓ : Loc nD τ sig) → Buf (Elt F) ℓ) (c : Dev nD) (s : MemSt nD τ sig (Elt F)) : Prop :=
  Kept m c s
  ∧ s.mem ((c.tc : Thread nD τ).loc main_v4) = (dat0 (W1 m) c).arrAt 3 cfg0.N
  ∧ s.mem ((c.tc : Thread nD τ).loc main_v5) = (dat1 (W2 m) c).arrAt 2 cfg1.N
  ∧ s.mem ((c.tc : Thread nD τ).loc main_v6) = (dat2 (W3 m) c).arrAt 2 cfg2.N

set_option backward.isDefEq.respectTransparency.types false in
/-- Every run from zero counters terminates and ends so, with every counter at zero. -/
theorem run_mla : θ_run defs (onTc (τ := τ) (main (F := F))) ⟨m, fun _ => 0, ρ⟩ (fun r => (∀ c : Dev nD, Ends m c r.2) ∧ r.2.sem = fun _ => 0) :=
  launched (pd m) m ρ cellOf_inj main (items m) main_chain
    (fun c => by simp only [items, Pipeline.Seg.pipes_host, Pipeline.Seg.pipes_region, Pipeline.Seg.pipes_nil]; decide)
    (W4 m) (fun c => ⟨.rfl, .rfl, .rfl, .rfl, .rfl⟩) regions_no_unscoped fun c s rd =>
    have k := fun (b : Ref sig .tc) hb h => (rd b hb).trans (kept m c b h)
    ⟨⟨k _ rfl (by decide), k _ rfl (by decide), k _ rfl (by decide), k _ rfl (by decide)⟩,
      (rd main_v4 rfl).trans <| (W4_of m c _ (by decide)).trans <| (W3_of m c _ (by decide)).trans <| W2_v4 m c,
      (rd main_v5 rfl).trans <| (W4_of m c _ (by decide)).trans <| W3_v5 m c,
      (rd main_v6 rfl).trans <| W4_v6 m c⟩

end Cert.Kernel4Ideal.Hand

end
-- ==== Proof.MlaArr.lean ====
/-
  The blocks of the calls of the output product at every grid point, entry by entry, and each output array as what its blocks leave.
-/
module

public import proofs.«01_k».proof.Proof.MlaRun
public import Idealize.ShloMosaic.Lib.Pointwise
public import Idealize.ShloMosaic.Lib.Pipeline.ValueKit.Geometry

@[expose] public section

set_option maxRecDepth 16384
set_option maxHeartbeats 1000000

noncomputable section

namespace Cert.Kernel4Ideal.Hand

open Idealize.ShloMosaic Idealize.ShloMosaic.TcCoe Idealize.SL.Sem Idealize.ShloMosaic.Pointwise Idealize.ShloMosaic.Pipeline
open Cert.Kernel4Ideal Cert.Kernel4Ideal.Gen

variable (W : Dev nD → Valuation τ sig (Elt Ideal)) (c : Dev nD)

theorem pay0_at (x0 : Vec Ideal S1024x2048 .bf16) (x1 : Vec Ideal S2048x1024 .bf16) (x2 : Vec Ideal S1024x1024 .f32) (a b : Fin 1024) :
    (res0_0 x0 x1 x2 (ix2 a b) : EReal) = x2 (ix2 a b) + ∑ k : Fin 2048, (x0 (ix2 a k) * x1 (ix2 k b) : EReal) := by
  unfold res0_0 k0_pay1
  pointwise
theorem pay1_at (x0 x1 : Vec Ideal S1024x2048 .bf16) (a b : Fin 1024) :
    (res1_0 x0 x1 (ix2 a b) : EReal) = ∑ k : Fin 2048, (x0 (ix2 a k) * x1 (ix2 b k) : EReal) := by
  unfold res1_0 k1_pay1
  pointwise
theorem pay2_at (x0 : Vec Ideal S2048x512 .bf16) (x1 : Vec Ideal S2048x2048 .bf16) (a : Fin 512) (b : Fin 2048) :
    (res2_0 x0 x1 (ix2 a b) : EReal) = ∑ k : Fin 2048, (x0 (ix2 k a) * x1 (ix2 k b) : EReal) := by
  unfold res2_0 k2_pay1
  pointwise

theorem at0_0 : ∀ t : Fin cfg0.N, win0_0.index t = ![t.val / 2, 0] := by decide +kernel
theorem blk0_0 (t : Fin cfg0.N) (a : Fin 1024) (b : Fin 2048) (i : Fin 2048) (j : Fin 2048) (hi : i.val = t.val / 2 * 1024 + a.val) (hj : j.val = b.val) : in0_0 W c t (ix2 a b) = W c main_v1 (ix2 i j) :=
  congrArg (W c main_v1) (by blk_ext [at0_0, hi, hj])

theorem at0_1 : ∀ t : Fin cfg0.N, win0_1.index t = ![0, t.val % 2] := by decide +kernel
theorem blk0_1 (t : Fin cfg0.N) (a : Fin 2048) (b : Fin 1024) (i : Fin 2048) (j : Fin 2048) (hi : i.val = a.val) (hj : j.val = t.val % 2 * 1024 + b.val) : in0_1 W c t (ix2 a b) = W c main_v2 (ix2 i j) :=
  congrArg (W c main_v2) (by blk_ext [at0_1, hi, hj])

theorem at0_2 : ∀ t : Fin cfg0.N, win0_2.index t = ![t.val / 2, t.val % 2] := by decide +kernel
theorem blk0_2 (t : Fin cfg0.N) (a : Fin 1024) (b : Fin 1024) (i : Fin 2048) (j : Fin 2048) (hi : i.val = t.val / 2 * 1024 + a.val) (hj : j.val = t.val % 2 * 1024 + b.val) : in0_2 W c t (ix2 a b) = W c main_arg0 (ix2 i j) :=
  congrArg (W c main_arg0) (by blk_ext [at0_2, hi, hj])

theorem at0_3 : ∀ t : Fin cfg0.N, win0_3.index t = ![t.val / 2, t.val % 2] := by decide +kernel
theorem out0_3 (V : S2048x2048.Idx → EReal)
    (hV : ∀ (t : Fin cfg0.N), ∀ (a : Fin 1024) (b : Fin 1024) (i : Fin 2048) (j : Fin 2048), i.val = t.val / 2 * 1024 + a.val → j.val = t.val % 2 * 1024 + b.val → (res0_0 (in0_0 W c t) (in0_1 W c t) (in0_2 W c t) (ix2 a b) : EReal) = V (ix2 i j)) :
    ((dat0 W c).arrAt 3 cfg0.N : Vec Ideal S2048x2048 .f32) = V := by
  refine (dat0 W c).arrAt_eq_of_covers 3 _ (by decide +kernel) fun t hf y => ?_
  rw [left0_3]
  have hN : t.val < 4 := Nat.lt_of_lt_of_eq t.isLt N_0
  blk_simp
  idx_bounds y
  exact (congrArg (res0_0 (in0_0 W c t) (in0_1 W c t) (in0_2 W c t)) (eq_ix2 (n0 := 1024) (n1 := 1024) y)).trans ((hV t (y 0) (y 1) ⟨t.val / 2 * 1024 + (y 0).val, by omega⟩ ⟨t.val % 2 * 1024 + (y 1).val, by omega⟩ rfl rfl).trans (congrArg V (by blk_ext [at0_3])))

theorem at1_0 : ∀ t : Fin cfg1.N, win1_0.index t = ![t.val / 2, 0] := by decide +kernel
theorem blk1_0 (t : Fin cfg1.N) (a : Fin 1024) (b : Fin 2048) (i : Fin 2048) (j : Fin 2048) (hi : i.val = t.val / 2 * 1024 + a.val) (hj : j.val = b.val) : in1_0 W c t (ix2 a b) = W c main_v3 (ix2 i j) :=
  congrArg (W c main_v3) (by blk_ext [at1_0, hi, hj])

theorem at1_1 : ∀ t : Fin cfg1.N, win1_1.index t = ![t.val % 2, 0] := by decide +kernel
theorem blk1_1 (t : Fin cfg1.N) (a : Fin 1024) (b : Fin 2048) (i : Fin 2048) (j : Fin 2048) (hi : i.val = t.val % 2 * 1024 + a.val) (hj : j.val = b.val) : in1_1 W c t (ix2 a b) = W c main_v2 (ix2 i j) :=
  congrArg (W c main_v2) (by blk_ext [at1_1, hi, hj])

theorem at1_2 : ∀ t : Fin cfg1.N, win1_2.index t = ![t.val / 2, t.val % 2] := by decide +kernel
theorem out1_2 (V : S2048x2048.Idx → EReal)
    (hV : ∀ (t : Fin cfg1.N), ∀ (a : Fin 1024) (b : Fin 1024) (i : Fin 2048) (j : Fin 2048), i.val = t.val / 2 * 1024 + a.val → j.val = t.val % 2 * 1024 + b.val → (res1_0 (in1_0 W c t) (in1_1 W c t) (ix2 a b) : EReal) = V (ix2 i j)) :
    ((dat1 W c).arrAt 2 cfg1.N : Vec Ideal S2048x2048 .bf16) = V := by
  refine (dat1 W c).arrAt_eq_of_covers 2 _ (by decide +kernel) fun t hf y => ?_
  rw [left1_2]
  have hN : t.val < 4 := Nat.lt_of_lt_of_eq t.isLt N_1
  blk_simp
  idx_bounds y
  exact (congrArg (res1_0 (in1_0 W c t) (in1_1 W c t)) (eq_ix2 (n0 := 1024) (n1 := 1024) y)).trans ((hV t (y 0) (y 1) ⟨t.val / 2 * 1024 + (y 0).val, by omega⟩ ⟨t.val % 2 * 1024 + (y 1).val, by omega⟩ rfl rfl).trans (congrArg V (by blk_ext [at1_2])))

theorem at2_0 : ∀ t : Fin cfg2.N, win2_0.index t = ![0, t.val] := by decide +kernel
theorem blk2_0 (t : Fin cfg2.N) (a : Fin 2048) (b : Fin 512) (i : Fin 2048) (j : Fin 2048) (hi : i.val = a.val) (hj : j.val = t.val * 512 + b.val) : in2_0 W c t (ix2 a b) = W c main_v1 (ix2 i j) :=
  congrArg (W c main_v1) (by blk_ext [at2_0, hi, hj])

theorem at2_1 : ∀ t : Fin cfg2.N, win2_1.index t = ![0, 0] := by decide +kernel
theorem blk2_1 (t : Fin cfg2.N) (a : Fin 2048) (b : Fin 2048) (i : Fin 2048) (j : Fin 2048) (hi : i.val = a.val) (hj : j.val = b.val) : in2_1 W c t (ix2 a b) = W c main_v3 (ix2 i j) :=
  congrArg (W c main_v3) (by blk_ext [at2_1, hi, hj])

theorem at2_2 : ∀ t : Fin cfg2.N, win2_2.index t = ![t.val, 0] := by decide +kernel
theorem out2_2 (V : S2048x2048.Idx → EReal)
    (hV : ∀ (t : Fin cfg2.N), ∀ (a : Fin 512) (b : Fin 2048) (i : Fin 2048) (j : Fin 2048), i.val = t.val * 512 + a.val → j.val = b.val → (res2_0 (in2_0 W c t) (in2_1 W c t) (ix2 a b) : EReal) = V (ix2 i j)) :
    ((dat2 W c).arrAt 2 cfg2.N : Vec Ideal S2048x2048 .bf16) = V := by
  refine (dat2 W c).arrAt_eq_of_covers 2 _ (by decide +kernel) fun t hf y => ?_
  rw [left2_2]
  have hN : t.val < 4 := Nat.lt_of_lt_of_eq t.isLt N_2
  blk_simp
  idx_bounds y
  exact (congrArg (res2_0 (in2_0 W c t) (in2_1 W c t)) (eq_ix2 (n0 := 512) (n1 := 2048) y)).trans ((hV t (y 0) (y 1) ⟨t.val * 512 + (y 0).val, by omega⟩ ⟨(y 1).val, by omega⟩ rfl rfl).trans (congrArg V (by blk_ext [at2_2])))

end Cert.Kernel4Ideal.Hand

end
-- ==== Proof.MlaSpec.lean ====
/-
  The end of the latent attention layer and its gradients as plain sums over the extended reals: what both programs are
  shown to return.
-/
module

public import Idealize.ShloMosaic.Lib.Pointwise

@[expose] public section

noncomputable section

namespace Cert.Mla

open Idealize.ShloMosaic Idealize.ShloMosaic.Pointwise

variable (h : (⟨2, ![2048, 2048]⟩ : Shape).Idx → EReal) (o : (⟨3, ![2048, 16, 128]⟩ : Shape).Idx → EReal)
  (w dh : (⟨2, ![2048, 2048]⟩ : Shape).Idx → EReal)

/-- The heads of one position side by side. -/
def side (i k : Fin 2048) : EReal := o (ix3 i (⟨k.val / 128, by omega⟩ : Fin 16) (⟨k.val % 128, by omega⟩ : Fin 128))
/-- The layer's output. -/
def out (i d : Fin 2048) : EReal := h (ix2 i d) + ∑ k, side o i k * w (ix2 k d)
/-- The gradients of the attention's output and of the weight. -/
def gradO (i k : Fin 2048) : EReal := ∑ d, dh (ix2 i d) * w (ix2 k d)
def gradW (k d : Fin 2048) : EReal := ∑ t, side o t k * dh (ix2 t d)

end Cert.Mla

end
-- ==== Proof.MlaVal.lean ====
/-
  The arrays of the output product, call by call: each is the plain sum it is named after.
-/
module

public import proofs.«01_k».proof.Proof.MlaArr
public import proofs.«01_k».proof.Proof.MlaSpec
public import Idealize.ShloMosaic.Lib.StableHlo.Run

@[expose] public section

set_option maxRecDepth 16384

noncomputable section

namespace Cert.Kernel4Ideal.Hand

open Idealize.ShloMosaic Idealize.ShloMosaic.TcCoe Idealize.SL.Sem Idealize.ShloMosaic.Pointwise Idealize.ShloMosaic.Pipeline
open Cert.Kernel4Ideal Cert.Kernel4Ideal.Gen Cert.Mla

variable (m : (ℓ : Loc nD τ sig) → Buf (Elt Ideal) ℓ) (c : Dev nD)

/-- The four arguments at launch. -/
abbrev aH : (⟨2, ![2048, 2048]⟩ : Shape).Idx → EReal := m (c.tc.loc main_arg0)
abbrev aO : (⟨3, ![2048, 16, 128]⟩ : Shape).Idx → EReal := m (c.tc.loc main_arg1)
abbrev aW : (⟨2, ![2048, 2048]⟩ : Shape).Idx → EReal := m (c.tc.loc main_arg2)
abbrev aD : (⟨2, ![2048, 2048]⟩ : Shape).Idx → EReal := m (c.tc.loc main_arg3)

/-! ## The arrays the host prepares -/

theorem v1_at (i k : Fin 2048) : (W1 m c main_v1 : Vec Ideal S2048x2048 .bf16) (ix2 i k) = side (aO m c) i k := by
  unfold W1
  after_results
  pointwise
  unfold side
  refine congrArg (aO m c) ?_
  rw [ix3_inj]
  refine ⟨Fin.ext ?_, Fin.ext ?_, Fin.ext ?_⟩ <;> dsimp only <;> omega
theorem v2_at (k d : Fin 2048) : (W1 m c main_v2 : Vec Ideal S2048x2048 .bf16) (ix2 k d) = aW m c (ix2 k d) := by
  unfold W1
  after_results
  pointwise
  rfl
theorem v3_at (i d : Fin 2048) : (W1 m c main_v3 : Vec Ideal S2048x2048 .bf16) (ix2 i d) = aD m c (ix2 i d) := by
  unfold W1
  after_results
  pointwise
  rfl
theorem W1_a0 : (W1 m c main_arg0 : S2048x2048.Idx → EReal) = aH m c := W1_of m c _ (by decide)
theorem W2_v2 : W2 m c main_v2 = W1 m c main_v2 := W2_of m c _ (by decide)
theorem W2_v3 : W2 m c main_v3 = W1 m c main_v3 := W2_of m c _ (by decide)
theorem W3_v1 : W3 m c main_v1 = W1 m c main_v1 := (W3_of m c _ (by decide)).trans <| W2_of m c _ (by decide)
theorem W3_v3 : W3 m c main_v3 = W1 m c main_v3 := (W3_of m c _ (by decide)).trans <| W2_of m c _ (by decide)

/-! ## The three calls -/

/-- The layer's output. -/
theorem v4_eq : ((dat0 (W1 m) c).arrAt 3 cfg0.N : Vec Ideal S2048x2048 .f32) = fun x => out (aH m c) (aO m c) (aW m c) (x 0) (x 1) := by
  refine out0_3 (W1 m) c _ fun t a b i j hi hj => ?_
  show _ = out _ _ _ i j
  refine (pay0_at _ _ _ a b).trans ?_
  unfold out
  refine congrArg₂ (· + ·) ?_ (Finset.sum_congr rfl fun k _ => congrArg₂ (· * ·) ?_ ?_)
  · exact (blk0_2 (W1 m) c t a b i j hi hj).trans (congrFun (W1_a0 m c) _)
  · exact (blk0_0 (W1 m) c t a k i k hi rfl).trans (v1_at m c i k)
  · exact (blk0_1 (W1 m) c t k b k j rfl hj).trans (v2_at m c k j)
/-- The gradient of the attention's output. -/
theorem v5_eq : ((dat1 (W2 m) c).arrAt 2 cfg1.N : Vec Ideal S2048x2048 .bf16) = fun x => gradO (aW m c) (aD m c) (x 0) (x 1) := by
  refine out1_2 (W2 m) c _ fun t a b i j hi hj => ?_
  show _ = gradO _ _ i j
  refine (pay1_at _ _ a b).trans (Finset.sum_congr rfl fun k _ => congrArg₂ (· * ·) ?_ ?_)
  · exact (blk1_0 (W2 m) c t a k i k hi rfl).trans ((congrFun (W2_v3 m c) _).trans (v3_at m c i k))
  · exact (blk1_1 (W2 m) c t b k j k hj rfl).trans ((congrFun (W2_v2 m c) _).trans (v2_at m c j k))
/-- The gradient of the weight. -/
theorem v6_eq : ((dat2 (W3 m) c).arrAt 2 cfg2.N : Vec Ideal S2048x2048 .bf16) = fun x => gradW (aO m c) (aD m c) (x 0) (x 1) := by
  refine out2_2 (W3 m) c _ fun t a b i j hi hj => ?_
  show _ = gradW _ _ i j
  refine (pay2_at _ _ a b).trans (Finset.sum_congr rfl fun k _ => congrArg₂ (· * ·) ?_ ?_)
  · exact (blk2_0 (W3 m) c t k a k i rfl hi).trans ((congrFun (W3_v1 m c) _).trans (v1_at m c k i))
  · exact (blk2_1 (W3 m) c t k b k j rfl hj).trans ((congrFun (W3_v3 m c) _).trans (v3_at m c k j))

end Cert.Kernel4Ideal.Hand

end
-- ==== Proof.MlaRef.lean ====
/-
  The fourth reference program's three results, entry by entry, whatever the arguments hold.
-/
module

public import proofs.«01_k».proof.Proof.MlaSpec
public import proofs.«01_k».proof.Proof.Gen.Reference4Ideal.Run
public import proofs.«01_k».proof.Proof.Gen.Reference4Ideal.Read

@[expose] public section

set_option maxRecDepth 16384

noncomputable section

namespace Cert.Reference4Ideal.Hand

open Idealize.ShloMosaic Idealize.ShloMosaic.TcCoe Idealize.SL.Sem Idealize.ShloMosaic.Pointwise
open Cert.Reference4Ideal Cert.Reference4Ideal.Gen Cert.Reference4Ideal.Read Cert.Mla

variable (h : Vec Ideal S2048x2048 .f32) (o : Vec Ideal S2048x16x128 .f32) (w dh : Vec Ideal S2048x2048 .f32)

theorem v0_at (i k : Fin 2048) : val_main_v0 (F := Ideal) o (ix2 i k) = side o i k := by
  refine (val_main_v0_apply _ _).trans (congrArg o ?_)
  funext a
  fin_cases a <;> refine Fin.ext ?_
  · show (i.val * 2048 + k.val) / 2048 = i.val
    omega
  · show (i.val * 2048 + k.val) / 128 % 16 = k.val / 128
    omega
  · show (i.val * 2048 + k.val) % 128 = k.val % 128
    omega
/-- The layer's output. -/
theorem v2_at (i d : Fin 2048) : val_main_v2 (F := Ideal) h o w (ix2 i d) = out h o w i d := by
  unfold val_main_v2 val_main_v1 out
  pointwise
  simp only [v0_at]
theorem v6_at (i k : Fin 2048) : val_main_v6 (F := Ideal) w dh (ix2 i k) = gradO w dh i k := by
  unfold val_main_v6 val_main_v3 gradO
  pointwise
/-- The gradient of the attention's output. -/
theorem v9_at (i k : Fin 2048) : val_main_v9 (F := Ideal) w dh (ix2 i k) = gradO w dh i k := by
  refine Eq.trans ?_ (v6_at w dh i k)
  show val_main_v8 (F := Ideal) w dh (ix2 i k) = _
  refine (val_main_v8_apply _ _ _).trans ((val_main_v7_apply _ _ _).trans (congrArg _ ?_))
  funext a
  fin_cases a <;> refine Fin.ext ?_
  · show (((i.val * 2048 + k.val) / 2048 * 16 + (i.val * 2048 + k.val) / 128 % 16) * 128 + (i.val * 2048 + k.val) % 128) / 2048 = i.val
    omega
  · show (((i.val * 2048 + k.val) / 2048 * 16 + (i.val * 2048 + k.val) / 128 % 16) * 128 + (i.val * 2048 + k.val) % 128) % 2048 = k.val
    omega
theorem v3_at (i d : Fin 2048) : val_main_v3 (F := Ideal) dh (ix2 i d) = dh (ix2 i d) := by
  unfold val_main_v3
  pointwise
/-- The gradient of the weight. -/
theorem v10_at (k d : Fin 2048) : val_main_v10 (F := Ideal) o dh (ix2 k d) = gradW o dh k d := by
  unfold val_main_v10 val_main_v5 val_main_v4 gradW
  pointwise
  simp only [v0_at, v3_at]
  exact Finset.sum_congr rfl fun t _ => by rw [mul_comm]

end Cert.Reference4Ideal.Hand

end
-- ==== Proof.MlaSame.lean ====
/-
  The calls of the output product over the machine's floats and over the extended reals: one table of bodies.
-/
module

public import proofs.«01_k».proof.Proof.Gen.Kernel4
public import proofs.«01_k».proof.Proof.Gen.Kernel4Ideal
public import Idealize.ShloMosaic.PureOps.BitExact

@[expose] public section

set_option maxRecDepth 16384

noncomputable section

namespace Cert.Proof

open Idealize.ShloMosaic Idealize.SL.Sem

set_option maxHeartbeats 4000000 in
/-- The bodies of these calls are the same text in the two programs. -/
theorem bodies4_eq : (Cert.Kernel4.defs₀ (F := Bits)) = Cert.Kernel4Ideal.defs₀ (F := Bits) := by
  unfold Cert.Kernel4.defs₀ Cert.Kernel4Ideal.defs₀
  refine congrArg Defs.onTc ?_
  funext l a
  match l, a with
  | 0, (t, s) => rfl
  | 1, (t, s) => rfl
  | 2, (t, s) => rfl

set_option maxHeartbeats 16000000 in
/-- So are their tables of bodies. -/
theorem defs4_eq : (Cert.Kernel4.defs (F := Bits)) = Cert.Kernel4Ideal.defs (F := Bits) := by
  unfold Cert.Kernel4.defs Cert.Kernel4Ideal.defs
  rw [bodies4_eq]; rfl

end Cert.Proof

end
-- ==== Proof.ConvSpec.lean ====
/-
  The end of the convolution module and its gradients as plain sums over the extended reals: what both programs are shown to
  return.
-/
module

public import proofs.«01_k».proof.Proof.FfnSpec

@[expose] public section

noncomputable section

namespace Cert.Conv

open Idealize.ShloMosaic Idealize.ShloMosaic.Pointwise Cert.Ffn

/-! ## One row: its layer norm, the swish of that, and their gradients -/

section Row
variable (row gain bias ds q : Fin 2048 → EReal) (d : Fin 2048)
/-- The row's length, by which its means are taken. -/
def len : EReal := Ideal.ofBits .f32 0x45000000#32
/-- The row about its mean; its variance, with epsilon; the reciprocal root of that; the normalised row. -/
def cen : EReal := row d - Ideal.div (∑ e, row e) len
def vr : EReal := Ideal.div (∑ e, cen row e * cen row e) len + epsN
def rs : EReal := Ideal.rsqrt (vr row)
def nm : EReal := cen row d * rs row
/-- The layer norm's value and its swish. -/
def z : EReal := nm row d * gain d + bias d
def sw : EReal := z row gain bias d * Ideal.logistic (z row gain bias d)
/-- The gradient of the layer norm's value, where the swish's is `ds`. -/
def dz : EReal := ds d * Ideal.logistic (z row gain bias d)
  + z row gain bias d * ds d * (Ideal.logistic (z row gain bias d) * (1 - Ideal.logistic (z row gain bias d)))
/-- What reaches the row through its variance, where the gradient of the scaled row is `q`. -/
def thruV : EReal := Ideal.div ((∑ e, cen row e * q e) * (mhalf * Ideal.div (rs row) (vr row))) len
/-- The gradient of the row about its mean, and of the row. -/
def backC : EReal := q d * rs row + cen row d * thruV row q + thruV row q * cen row d
def backR : EReal := backC row q d + Ideal.div (∑ e, -backC row q e) len
end Row

/-! ## The module's end -/

variable (h y : (⟨2, ![2048, 2048]⟩ : Shape).Idx → EReal) (g b : (⟨2, ![1, 2048]⟩ : Shape).Idx → EReal)
  (w dh : (⟨2, ![2048, 2048]⟩ : Shape).Idx → EReal)

abbrev one2 (v : (⟨2, ![1, 2048]⟩ : Shape).Idx → EReal) (d : Fin 2048) : EReal := v (ix2 0 d)
/-- What the product takes in. -/
def s (i k : Fin 2048) : EReal := sw (hrow y i) (one2 g) (one2 b) k
/-- The output. -/
def out (i d : Fin 2048) : EReal := h (ix2 i d) + ∑ k, s y g b i k * w (ix2 k d)
/-- The gradient of what the product takes in, and of the layer norm's value. -/
def ds (i k : Fin 2048) : EReal := ∑ d, dh (ix2 i d) * w (ix2 k d)
def dzs (i k : Fin 2048) : EReal := dz (hrow y i) (one2 g) (one2 b) (ds w dh i) k
/-- The gradients of the input, the gain, the bias and the weight. -/
def gradY (i d : Fin 2048) : EReal := backR (hrow y i) (fun k => dzs y g b w dh i k * g (ix2 0 k)) d
def gradG (d : Fin 2048) : EReal := ∑ t, nm (hrow y t) d * dzs y g b w dh t d
def gradB (d : Fin 2048) : EReal := ∑ t, dzs y g b w dh t d
def gradW (k d : Fin 2048) : EReal := ∑ t, s y g b t k * dh (ix2 t d)

end Cert.Conv

end
-- ==== Proof.ConvBase.lean ====
/-
  What the five calls of the end of the conv module rest on.
-/
module

public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Regions
public import proofs.«01_k».proof.Proof.Common

@[expose] public section

set_option maxRecDepth 16384

noncomputable section

namespace Cert.Kernel5Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Kernel5Ideal Cert.Kernel5Ideal.Gen

variable {F : FTy → Type} [FloatOps F]

local notation "𝕄" => MT nD τ sig Unit (Elt F) ℕ (UR sig nD τ) ℕ

end Cert.Kernel5Ideal.Hand

end
-- ==== Proof.ConvCalls.lean ====
/-
  The first four calls of the end of the conv module: each body's run, its proof data, its triple at every point.
-/
module

public import proofs.«01_k».proof.Proof.ConvBase

@[expose] public section

set_option maxRecDepth 16384

noncomputable section

namespace Cert.Kernel5Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel5Ideal Cert.Kernel5Ideal.Gen

variable {F : FTy → Type} [FloatOps F]

local notation "𝕄" => MT nD τ sig Unit (Elt F) ℕ (UR sig nD τ) ℕ

/-! ## The layer norm and the swish -/
section

/-- What the body leaves in its output number 0, from its input blocks. -/
def res0_0 (x0 : Vec F S256x2048 .f32) (x1 : Vec F S1x2048 .f32) (x2 : Vec F S1x2048 .f32) : Vec F S256x2048 .bf16 := k0_pay1 x0 x1 x2

set_option maxHeartbeats 2000000 in
/-- The body's run. -/
theorem run0 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S256x2048 .bf16) (harg4 : arg4.IsWhole)
    (x0 : Vec F S256x2048 .f32) (x1 : Vec F S1x2048 .f32) (x2 : Vec F S1x2048 .f32) (E : Set ℕ) (K : PUnit → sProp 𝕄) :
    iprop((owns (c : Thread nD τ) arg1 fullShare x0 ∗ owns (c : Thread nD τ) arg2 fullShare x1 ∗ owns (c : Thread nD τ) arg3 fullShare x2 ∗ (∃ d, owns (c : Thread nD τ) arg4 fullShare d))
        ∗ (iprop(owns (c : Thread nD τ) arg1 fullShare x0 ∗ owns (c : Thread nD τ) arg2 fullShare x1 ∗ owns (c : Thread nD τ) arg3 fullShare x2 ∗ owns (c : Thread nD τ) arg4 fullShare (res0_0 x0 x1 x2)) -∗ K ⟨⟩))
      ⊢ wp frame (wpE (defs₀ (F := F)) Variants.none c none) E (cc0_conv_ln i arg1 harg1 arg2 harg2 arg3 harg3 arg4 harg4) K := by
  simp only [cc0_conv_ln_eq_skeleton]; unfold cc0_conv_ln_skel
  unfold owns
  iintro ⟨⟨⟨%f0, %hf0, H0⟩, ⟨%f1, %hf1, H1⟩, ⟨%f2, %hf2, H2⟩, ⟨%d3, %f3, -, H3⟩⟩, Hk⟩
  obtain rfl := harg1.eq_unread hf0; obtain rfl := harg2.eq_unread hf1; obtain rfl := harg3.eq_unread hf2
  sl_exec
  sl_step
  iapply Hk
  isplitl [H0]
  · iapply (whole harg1 _); iexact H0
  isplitl [H1]
  · iapply (whole harg2 _); iexact H1
  isplitl [H2]
  · iapply (whole harg3 _); iexact H2
  iexists _; isplitr; swap; · iexact H3
  ipureintro
  exact (View.read_writes_full arg4.view _ _ _ _).trans (congr (congr (congrArg k0_pay1 (ld_all arg1 harg1 x0 ![0, 0] inb_S256x2048_S256x2048_0_0)) (ld_all arg2 harg2 x1 ![0, 0] inb_S1x2048_S1x2048_0_0)) (ld_all arg3 harg3 x2 ![0, 0] inb_S1x2048_S1x2048_0_0))

variable (W : Dev nD → Valuation τ sig (Elt F))

/-- The block of input `w` at point `t`. -/
def in0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))
abbrev in0_0 (c : Dev nD) (t : Fin cfg0.N) : Vec F S256x2048 .f32 := in0 W c 0 t
abbrev in0_1 (c : Dev nD) (t : Fin cfg0.N) : Vec F S1x2048 .f32 := in0 W c 1 t
abbrev in0_2 (c : Dev nD) (t : Fin cfg0.N) : Vec F S1x2048 .f32 := in0 W c 2 t

/-- The call's proof data: entered with its arrays at `W c`, each point leaves the inputs at their blocks and the outputs at the body's results. -/
def dat0 (c : Dev nD) : Dat τ (Elt F) Unit ℕ (UR sig nD τ) ℕ cfg0 c where
  A w := W c (Pipeline.arrRef spec0 w)
  after w t := match w with
    | ⟨0, _⟩ => in0 W c 0 t
    | ⟨1, _⟩ => in0 W c 1 t
    | ⟨2, _⟩ => in0 W c 2 t
    | ⟨3, _⟩ => res0_0 (in0_0 W c t) (in0_1 W c t) (in0_2 W c t)
  Φ _ := Pipeline.scopedRest spec0 c
  q w := Pipeline.shareOf spec0 w
  owed _ := 0

theorem A0 (c : Dev nD) (w : Fin cfg0.W) : (dat0 W c).A w = W c (Pipeline.arrRef spec0 w) := by dsimp only [dat0]
theorem left0_0 (c : Dev nD) (t : Fin cfg0.N) : (dat0 W c).after 0 t = in0 W c 0 t := by dsimp only [dat0]
theorem left0_1 (c : Dev nD) (t : Fin cfg0.N) : (dat0 W c).after 1 t = in0 W c 1 t := by dsimp only [dat0]
theorem left0_2 (c : Dev nD) (t : Fin cfg0.N) : (dat0 W c).after 2 t = in0 W c 2 t := by dsimp only [dat0]
theorem left0_3 (c : Dev nD) (t : Fin cfg0.N) : (dat0 W c).after 3 t = res0_0 (in0_0 W c t) (in0_1 W c t) (in0_2 W c t) := by dsimp only [dat0]
set_option maxHeartbeats 1600000 in
/-- The library's body obligation. -/
theorem obl0 (c : Dev nD) : BodyObligation (dat0 (F := F) W c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact obligation (dat0 W c) (run0 c (grid0.coords t) _ _ _ _ _ _ _ _ (in0_0 W c t) (in0_1 W c t) (in0_2 W c t) Set.univ)
    (pair (got (found (dat0 W c) 0 rfl (fun _ => rfl) (fun _ _ _ => rfl) (left0_0 W c) (fun t _ => (left0_0 W c t).symm) (left0_0 W c t))) (pair (got (found (dat0 W c) 1 rfl (fun _ => rfl) (fun _ _ _ => rfl) (left0_1 W c) (fun t _ => (left0_1 W c t).symm) (left0_1 W c t))) (pair (got (found (dat0 W c) 2 rfl (fun _ => rfl) (fun _ _ _ => rfl) (left0_2 W c) (fun t _ => (left0_2 W c t).symm) (left0_2 W c t))) anything)))
    (pair (back (left0_0 W c t)) (pair (back (left0_1 W c t)) (pair (back (left0_2 W c t)) (back (left0_3 W c t))))) rfl rfl
end

/-! ## The second pointwise product with its residual -/
section

/-- What the body leaves in its output number 0, from its input blocks. -/
def res1_0 (x0 : Vec F S1024x2048 .bf16) (x1 : Vec F S2048x1024 .bf16) (x2 : Vec F S1024x1024 .f32) : Vec F S1024x1024 .f32 := k1_pay1 x0 x1 x2

set_option maxHeartbeats 2000000 in
/-- The body's run. -/
theorem run1 (c : Dev nD) (i : grid1.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole)
    (x0 : Vec F S1024x2048 .bf16) (x1 : Vec F S2048x1024 .bf16) (x2 : Vec F S1024x1024 .f32) (E : Set ℕ) (K : PUnit → sProp 𝕄) :
    iprop((owns (c : Thread nD τ) arg3 fullShare x0 ∗ owns (c : Thread nD τ) arg4 fullShare x1 ∗ owns (c : Thread nD τ) arg5 fullShare x2 ∗ (∃ d, owns (c : Thread nD τ) arg6 fullShare d))
        ∗ (iprop(owns (c : Thread nD τ) arg3 fullShare x0 ∗ owns (c : Thread nD τ) arg4 fullShare x1 ∗ owns (c : Thread nD τ) arg5 fullShare x2 ∗ owns (c : Thread nD τ) arg6 fullShare (res1_0 x0 x1 x2)) -∗ K ⟨⟩))
      ⊢ wp frame (wpE (defs₀ (F := F)) Variants.none c none) E (cc1_conv_pw2 i arg3 harg3 arg4 harg4 arg5 harg5 arg6 harg6) K := by
  simp only [cc1_conv_pw2_eq_skeleton]; unfold cc1_conv_pw2_skel
  unfold owns
  iintro ⟨⟨⟨%f0, %hf0, H0⟩, ⟨%f1, %hf1, H1⟩, ⟨%f2, %hf2, H2⟩, ⟨%d3, %f3, -, H3⟩⟩, Hk⟩
  obtain rfl := harg3.eq_unread hf0; obtain rfl := harg4.eq_unread hf1; obtain rfl := harg5.eq_unread hf2
  sl_exec
  sl_step
  iapply Hk
  isplitl [H0]
  · iapply (whole harg3 _); iexact H0
  isplitl [H1]
  · iapply (whole harg4 _); iexact H1
  isplitl [H2]
  · iapply (whole harg5 _); iexact H2
  iexists _; isplitr; swap; · iexact H3
  ipureintro
  exact (View.read_writes_full arg6.view _ _ _ _).trans (congr (congr (congrArg k1_pay1 (ld_all arg3 harg3 x0 ![0, 0] inb_S1024x2048_S1024x2048_0_0)) (ld_all arg4 harg4 x1 ![0, 0] inb_S2048x1024_S2048x1024_0_0)) (ld_all arg5 harg5 x2 ![0, 0] inb_S1024x1024_S1024x1024_0_0))

variable (W : Dev nD → Valuation τ sig (Elt F))

/-- The block of input `w` at point `t`. -/
def in1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))
abbrev in1_0 (c : Dev nD) (t : Fin cfg1.N) : Vec F S1024x2048 .bf16 := in1 W c 0 t
abbrev in1_1 (c : Dev nD) (t : Fin cfg1.N) : Vec F S2048x1024 .bf16 := in1 W c 1 t
abbrev in1_2 (c : Dev nD) (t : Fin cfg1.N) : Vec F S1024x1024 .f32 := in1 W c 2 t

/-- The call's proof data: entered with its arrays at `W c`, each point leaves the inputs at their blocks and the outputs at the body's results. -/
def dat1 (c : Dev nD) : Dat τ (Elt F) Unit ℕ (UR sig nD τ) ℕ cfg1 c where
  A w := W c (Pipeline.arrRef spec1 w)
  after w t := match w with
    | ⟨0, _⟩ => in1 W c 0 t
    | ⟨1, _⟩ => in1 W c 1 t
    | ⟨2, _⟩ => in1 W c 2 t
    | ⟨3, _⟩ => res1_0 (in1_0 W c t) (in1_1 W c t) (in1_2 W c t)
  Φ _ := Pipeline.scopedRest spec1 c
  q w := Pipeline.shareOf spec1 w
  owed _ := 0

theorem A1 (c : Dev nD) (w : Fin cfg1.W) : (dat1 W c).A w = W c (Pipeline.arrRef spec1 w) := by dsimp only [dat1]
theorem left1_0 (c : Dev nD) (t : Fin cfg1.N) : (dat1 W c).after 0 t = in1 W c 0 t := by dsimp only [dat1]
theorem left1_1 (c : Dev nD) (t : Fin cfg1.N) : (dat1 W c).after 1 t = in1 W c 1 t := by dsimp only [dat1]
theorem left1_2 (c : Dev nD) (t : Fin cfg1.N) : (dat1 W c).after 2 t = in1 W c 2 t := by dsimp only [dat1]
theorem left1_3 (c : Dev nD) (t : Fin cfg1.N) : (dat1 W c).after 3 t = res1_0 (in1_0 W c t) (in1_1 W c t) (in1_2 W c t) := by dsimp only [dat1]
set_option maxHeartbeats 1600000 in
/-- The library's body obligation. -/
theorem obl1 (c : Dev nD) : BodyObligation (dat1 (F := F) W c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact obligation (dat1 W c) (run1 c (grid1.coords t) _ _ _ _ _ _ _ _ (in1_0 W c t) (in1_1 W c t) (in1_2 W c t) Set.univ)
    (pair (got (found (dat1 W c) 0 rfl (fun _ => rfl) (fun _ _ _ => rfl) (left1_0 W c) (fun t _ => (left1_0 W c t).symm) (left1_0 W c t))) (pair (got (found (dat1 W c) 1 rfl (fun _ => rfl) (fun _ _ _ => rfl) (left1_1 W c) (fun t _ => (left1_1 W c t).symm) (left1_1 W c t))) (pair (got (found (dat1 W c) 2 rfl (fun _ => rfl) (fun _ _ _ => rfl) (left1_2 W c) (fun t _ => (left1_2 W c t).symm) (left1_2 W c t))) anything)))
    (pair (back (left1_0 W c t)) (pair (back (left1_1 W c t)) (pair (back (left1_2 W c t)) (back (left1_3 W c t))))) rfl rfl
end

/-! ## The gradient of its input -/
section

/-- What the body leaves in its output number 0, from its input blocks. -/
def res2_0 (x0 : Vec F S1024x2048 .bf16) (x1 : Vec F S1024x2048 .bf16) : Vec F S1024x1024 .f32 := k2_pay1 x0 x1

set_option maxHeartbeats 2000000 in
/-- The body's run. -/
theorem run2 (c : Dev nD) (i : grid2.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole)
    (x0 : Vec F S1024x2048 .bf16) (x1 : Vec F S1024x2048 .bf16) (E : Set ℕ) (K : PUnit → sProp 𝕄) :
    iprop((owns (c : Thread nD τ) arg3 fullShare x0 ∗ owns (c : Thread nD τ) arg4 fullShare x1 ∗ (∃ d, owns (c : Thread nD τ) arg5 fullShare d))
        ∗ (iprop(owns (c : Thread nD τ) arg3 fullShare x0 ∗ owns (c : Thread nD τ) arg4 fullShare x1 ∗ owns (c : Thread nD τ) arg5 fullShare (res2_0 x0 x1)) -∗ K ⟨⟩))
      ⊢ wp frame (wpE (defs₀ (F := F)) Variants.none c none) E (cc2_conv_ds i arg3 harg3 arg4 harg4 arg5 harg5) K := by
  simp only [cc2_conv_ds_eq_skeleton]; unfold cc2_conv_ds_skel
  unfold owns
  iintro ⟨⟨⟨%f0, %hf0, H0⟩, ⟨%f1, %hf1, H1⟩, ⟨%d2, %f2, -, H2⟩⟩, Hk⟩
  obtain rfl := harg3.eq_unread hf0; obtain rfl := harg4.eq_unread hf1
  sl_exec
  sl_step
  iapply Hk
  isplitl [H0]
  · iapply (whole harg3 _); iexact H0
  isplitl [H1]
  · iapply (whole harg4 _); iexact H1
  iexists _; isplitr; swap; · iexact H2
  ipureintro
  exact (View.read_writes_full arg5.view _ _ _ _).trans (congr (congrArg k2_pay1 (ld_all arg3 harg3 x0 ![0, 0] inb_S1024x2048_S1024x2048_0_0)) (ld_all arg4 harg4 x1 ![0, 0] inb_S1024x2048_S1024x2048_0_0))

variable (W : Dev nD → Valuation τ sig (Elt F))

/-- The block of input `w` at point `t`. -/
def in2 (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))
abbrev in2_0 (c : Dev nD) (t : Fin cfg2.N) : Vec F S1024x2048 .bf16 := in2 W c 0 t
abbrev in2_1 (c : Dev nD) (t : Fin cfg2.N) : Vec F S1024x2048 .bf16 := in2 W c 1 t

/-- The call's proof data: entered with its arrays at `W c`, each point leaves the inputs at their blocks and the outputs at the body's results. -/
def dat2 (c : Dev nD) : Dat τ (Elt F) Unit ℕ (UR sig nD τ) ℕ cfg2 c where
  A w := W c (Pipeline.arrRef spec2 w)
  after w t := match w with
    | ⟨0, _⟩ => in2 W c 0 t
    | ⟨1, _⟩ => in2 W c 1 t
    | ⟨2, _⟩ => res2_0 (in2_0 W c t) (in2_1 W c t)
  Φ _ := Pipeline.scopedRest spec2 c
  q w := Pipeline.shareOf spec2 w
  owed _ := 0

theorem A2 (c : Dev nD) (w : Fin cfg2.W) : (dat2 W c).A w = W c (Pipeline.arrRef spec2 w) := by dsimp only [dat2]
theorem left2_0 (c : Dev nD) (t : Fin cfg2.N) : (dat2 W c).after 0 t = in2 W c 0 t := by dsimp only [dat2]
theorem left2_1 (c : Dev nD) (t : Fin cfg2.N) : (dat2 W c).after 1 t = in2 W c 1 t := by dsimp only [dat2]
theorem left2_2 (c : Dev nD) (t : Fin cfg2.N) : (dat2 W c).after 2 t = res2_0 (in2_0 W c t) (in2_1 W c t) := by dsimp only [dat2]
set_option maxHeartbeats 1600000 in
/-- The library's body obligation. -/
theorem obl2 (c : Dev nD) : BodyObligation (dat2 (F := F) W c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  exact obligation (dat2 W c) (run2 c (grid2.coords t) _ _ _ _ _ _ (in2_0 W c t) (in2_1 W c t) Set.univ)
    (pair (got (found (dat2 W c) 0 rfl (fun _ => rfl) (fun _ _ _ => rfl) (left2_0 W c) (fun t _ => (left2_0 W c t).symm) (left2_0 W c t))) (pair (got (found (dat2 W c) 1 rfl (fun _ => rfl) (fun _ _ _ => rfl) (left2_1 W c) (fun t _ => (left2_1 W c t).symm) (left2_1 W c t))) anything))
    (pair (back (left2_0 W c t)) (pair (back (left2_1 W c t)) (back (left2_2 W c t)))) rfl rfl
end

/-! ## The gradient of its weight -/
section

/-- What the body leaves in its output number 0, from its input blocks. -/
def res3_0 (x0 : Vec F S2048x512 .bf16) (x1 : Vec F S2048x2048 .bf16) : Vec F S512x2048 .bf16 := k3_pay1 x0 x1

set_option maxHeartbeats 2000000 in
/-- The body's run. -/
theorem run3 (c : Dev nD) (i : grid3.Coords) (arg3 : Memref sig .tc .vmem S2048x512 .bf16) (harg3 : arg3.IsWhole) (arg4 : Memref sig .tc .vmem S2048x2048 .bf16) (harg4 : arg4.IsWhole) (arg5 : Memref sig .tc .vmem S512x2048 .bf16) (harg5 : arg5.IsWhole)
    (x0 : Vec F S2048x512 .bf16) (x1 : Vec F S2048x2048 .bf16) (E : Set ℕ) (K : PUnit → sProp 𝕄) :
    iprop((owns (c : Thread nD τ) arg3 fullShare x0 ∗ owns (c : Thread nD τ) arg4 fullShare x1 ∗ (∃ d, owns (c : Thread nD τ) arg5 fullShare d))
        ∗ (iprop(owns (c : Thread nD τ) arg3 fullShare x0 ∗ owns (c : Thread nD τ) arg4 fullShare x1 ∗ owns (c : Thread nD τ) arg5 fullShare (res3_0 x0 x1)) -∗ K ⟨⟩))
      ⊢ wp frame (wpE (defs₀ (F := F)) Variants.none c none) E (cc3_conv_dwpw2 i arg3 harg3 arg4 harg4 arg5 harg5) K := by
  simp only [cc3_conv_dwpw2_eq_skeleton]; unfold cc3_conv_dwpw2_skel
  unfold owns
  iintro ⟨⟨⟨%f0, %hf0, H0⟩, ⟨%f1, %hf1, H1⟩, ⟨%d2, %f2, -, H2⟩⟩, Hk⟩
  obtain rfl := harg3.eq_unread hf0; obtain rfl := harg4.eq_unread hf1
  sl_exec
  sl_step
  iapply Hk
  isplitl [H0]
  · iapply (whole harg3 _); iexact H0
  isplitl [H1]
  · iapply (whole harg4 _); iexact H1
  iexists _; isplitr; swap; · iexact H2
  ipureintro
  exact (View.read_writes_full arg5.view _ _ _ _).trans (congr (congrArg k3_pay1 (ld_all arg3 harg3 x0 ![0, 0] inb_S2048x512_S2048x512_0_0)) (ld_all arg4 harg4 x1 ![0, 0] inb_S2048x2048_S2048x2048_0_0))

variable (W : Dev nD → Valuation τ sig (Elt F))

/-- The block of input `w` at point `t`. -/
def in3 (c : Dev nD) (w : Fin cfg3.W) (t : Fin cfg3.N) : ((cfg3.win w).xblock (cfg3.grid.coords t)).Idx → Elt F (cfg3.win w).elt :=
  ((cfg3.win w).blk t).view.read (Elt F) (W c (Pipeline.arrRef spec3 w))
abbrev in3_0 (c : Dev nD) (t : Fin cfg3.N) : Vec F S2048x512 .bf16 := in3 W c 0 t
abbrev in3_1 (c : Dev nD) (t : Fin cfg3.N) : Vec F S2048x2048 .bf16 := in3 W c 1 t

/-- The call's proof data: entered with its arrays at `W c`, each point leaves the inputs at their blocks and the outputs at the body's results. -/
def dat3 (c : Dev nD) : Dat τ (Elt F) Unit ℕ (UR sig nD τ) ℕ cfg3 c where
  A w := W c (Pipeline.arrRef spec3 w)
  after w t := match w with
    | ⟨0, _⟩ => in3 W c 0 t
    | ⟨1, _⟩ => in3 W c 1 t
    | ⟨2, _⟩ => res3_0 (in3_0 W c t) (in3_1 W c t)
  Φ _ := Pipeline.scopedRest spec3 c
  q w := Pipeline.shareOf spec3 w
  owed _ := 0

theorem A3 (c : Dev nD) (w : Fin cfg3.W) : (dat3 W c).A w = W c (Pipeline.arrRef spec3 w) := by dsimp only [dat3]
theorem left3_0 (c : Dev nD) (t : Fin cfg3.N) : (dat3 W c).after 0 t = in3 W c 0 t := by dsimp only [dat3]
theorem left3_1 (c : Dev nD) (t : Fin cfg3.N) : (dat3 W c).after 1 t = in3 W c 1 t := by dsimp only [dat3]
theorem left3_2 (c : Dev nD) (t : Fin cfg3.N) : (dat3 W c).after 2 t = res3_0 (in3_0 W c t) (in3_1 W c t) := by dsimp only [dat3]
set_option maxHeartbeats 1600000 in
/-- The library's body obligation. -/
theorem obl3 (c : Dev nD) : BodyObligation (dat3 (F := F) W c) (defs₀ (F := F)) Variants.none () Set.univ := fun t => by
  rw [bigSep_W3, bigSep_W3, show defs₀ (F := F) .tc cfg3.body (cfg3.bodyArgs t (cfg3.slots t)) = bodyAt3 t from by unfold defs₀; rw [Defs.onTc_tc]]
  exact obligation (dat3 W c) (run3 c (grid3.coords t) _ _ _ _ _ _ (in3_0 W c t) (in3_1 W c t) Set.univ)
    (pair (got (found (dat3 W c) 0 rfl (fun _ => rfl) (fun _ _ _ => rfl) (left3_0 W c) (fun t _ => (left3_0 W c t).symm) (left3_0 W c t))) (pair (got (found (dat3 W c) 1 rfl (fun _ => rfl) (fun _ _ _ => rfl) (left3_1 W c) (fun t _ => (left3_1 W c t).symm) (left3_1 W c t))) anything))
    (pair (back (left3_0 W c t)) (pair (back (left3_1 W c t)) (back (left3_2 W c t)))) rfl rfl
end

end Cert.Kernel5Ideal.Hand

end
-- ==== Proof.ConvDln.lean ====
/-
  The last call of the end of the conv module, the layer norm's backward pass: a block of the input's gradient at every
  point, and the gradients of the gain and of the bias summed over the eight blocks of rows.
-/
module

public import Idealize.ShloMosaic.Lib.WordCmp
public import proofs.«01_k».proof.Proof.ConvBase

@[expose] public section

set_option maxRecDepth 16384

noncomputable section

namespace Cert.Kernel5Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel5Ideal Cert.Kernel5Ideal.Gen

variable {F : FTy → Type} [FloatOps F]

local notation "𝕄" => MT nD τ sig Unit (Elt F) ℕ (UR sig nD τ) ℕ

/-- The block of the input's gradient, from the blocks of the inputs. -/
def res4 (x0 x1 : Vec F S256x2048 .f32) (x2 x3 : Vec F S1x2048 .f32) : Vec F S256x2048 .f32 :=
  k4_pay11 (k4_pay2 x0) (k4_pay4 x0) (k4_pay5 x0) (k4_pay7 x0 x2 x3 x1) (k4_pay10 x2)
/-- What a block of rows adds to the gradients of the gain and of the bias. -/
def step4g (x0 x1 : Vec F S256x2048 .f32) (x2 x3 : Vec F S1x2048 .f32) : Vec F S1x2048 .f32 := k4_pay9 x0 x2 x3 x1
def step4b (x0 x1 : Vec F S256x2048 .f32) (x2 x3 : Vec F S1x2048 .f32) : Vec F S1x2048 .f32 := k4_pay8 x0 x2 x3 x1

set_option maxHeartbeats 4000000 in
/-- The body's run at the first block of rows. -/
theorem run4First (c : Dev nD) (i : grid4.Coords)
    (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole)
    (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole)
    (hc1 : k4_cond1 i = 1#1) (hc2 : ¬ k4_cond2 i = 1#1) (hc3 : k4_cond3 i = 1#1) (hc4 : ¬ k4_cond4 i = 1#1)
    (x0 x1 : Vec F S256x2048 .f32) (x2 x3 : Vec F S1x2048 .f32) (E : Set ℕ) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d))
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (res4 x0 x1 x2 x3) ∗ owns (c : Thread nD τ) arg6 fullShare (step4g x0 x1 x2 x3) ∗ owns (c : Thread nD τ) arg7 fullShare (step4b x0 x1 x2 x3)) -∗ K ⟨⟩))
      ⊢ wp frame (wpE (defs₀ (F := F)) Variants.none c none) E (cc4_conv_dln i arg1 harg1 arg2 harg2 arg3 harg3 arg4 harg4 arg5 harg5 arg6 harg6 arg7 harg7) K := by
  simp only [cc4_conv_dln_eq_skeleton]; unfold cc4_conv_dln_skel
  simp only [k4_part1_eq_skeleton, k4_part2_eq_skeleton]; unfold k4_part1_skel k4_part2_skel
  unfold owns
  iintro ⟨⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩⟩, Hk⟩
  obtain rfl := harg1.eq_unread hf0; obtain rfl := harg2.eq_unread hf1; obtain rfl := harg3.eq_unread hf2; obtain rfl := harg4.eq_unread hf3
  sl_exec (disch := first | sl_exact hc1 | sl_exact hc2 | sl_exact hc3 | sl_exact hc4)
  sl_step
  iapply Hk
  isplitl [H0]; · iapply (whole harg1 _); iexact H0
  isplitl [H1]; · iapply (whole harg2 _); iexact H1
  isplitl [H2]; · iapply (whole harg3 _); iexact H2
  isplitl [H3]; · iapply (whole harg4 _); iexact H3
  isplitl [H4]
  · iexists _; isplitr; swap; · iexact H4
    ipureintro
    have e := congr (congr (congr (congrArg res4 (ld_all arg1 harg1 x0 ![0, 0] inb_S256x2048_S256x2048_0_0)) (ld_all arg2 harg2 x1 ![0, 0] inb_S256x2048_S256x2048_0_0)) (ld_all arg3 harg3 x2 ![0, 0] inb_S1x2048_S1x2048_0_0)) (ld_all arg4 harg4 x3 ![0, 0] inb_S1x2048_S1x2048_0_0)
    exact (View.read_writes_full arg5.view _ _ _ _).trans e
  isplitl [H5]
  · iexists _; isplitr; swap; · iexact H5
    ipureintro
    have e := congr (congr (congr (congrArg step4g (ld_all arg1 harg1 x0 ![0, 0] inb_S256x2048_S256x2048_0_0)) (ld_all arg2 harg2 x1 ![0, 0] inb_S256x2048_S256x2048_0_0)) (ld_all arg3 harg3 x2 ![0, 0] inb_S1x2048_S1x2048_0_0)) (ld_all arg4 harg4 x3 ![0, 0] inb_S1x2048_S1x2048_0_0)
    exact (View.read_writes_full arg6.view _ _ _ _).trans e
  iexists _; isplitr; swap; · iexact H6
  ipureintro
  have e := congr (congr (congr (congrArg step4b (ld_all arg1 harg1 x0 ![0, 0] inb_S256x2048_S256x2048_0_0)) (ld_all arg2 harg2 x1 ![0, 0] inb_S256x2048_S256x2048_0_0)) (ld_all arg3 harg3 x2 ![0, 0] inb_S1x2048_S1x2048_0_0)) (ld_all arg4 harg4 x3 ![0, 0] inb_S1x2048_S1x2048_0_0)
  exact (View.read_writes_full arg7.view _ _ _ _).trans e

set_option maxHeartbeats 4000000 in
/-- The body's run at a later block of rows. -/
theorem run4Later (c : Dev nD) (i : grid4.Coords)
    (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole)
    (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole)
    (hc1 : ¬ k4_cond1 i = 1#1) (hc2 : k4_cond2 i = 1#1) (hc3 : ¬ k4_cond3 i = 1#1) (hc4 : k4_cond4 i = 1#1)
    (x0 x1 : Vec F S256x2048 .f32) (x2 x3 : Vec F S1x2048 .f32) (X Y : Vec F S1x2048 .f32) (E : Set ℕ) (K : PUnit → sProp 𝕄) :
    iprop((owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare X ∗ owns (c : Thread nD τ) arg7 fullShare Y)
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (res4 x0 x1 x2 x3) ∗ owns (c : Thread nD τ) arg6 fullShare (k4_pay12 (step4g x0 x1 x2 x3) X) ∗ owns (c : Thread nD τ) arg7 fullShare (k4_pay1 (step4b x0 x1 x2 x3) Y)) -∗ K ⟨⟩))
      ⊢ wp frame (wpE (defs₀ (F := F)) Variants.none c none) E (cc4_conv_dln i arg1 harg1 arg2 harg2 arg3 harg3 arg4 harg4 arg5 harg5 arg6 harg6 arg7 harg7) K := by
  simp only [cc4_conv_dln_eq_skeleton]; unfold cc4_conv_dln_skel
  simp only [k4_part1_eq_skeleton, k4_part2_eq_skeleton]; unfold k4_part1_skel k4_part2_skel
  unfold owns
  iintro ⟨⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩⟩, Hk⟩
  obtain rfl := harg1.eq_unread hf0; obtain rfl := harg2.eq_unread hf1; obtain rfl := harg3.eq_unread hf2; obtain rfl := harg4.eq_unread hf3; obtain rfl := harg6.eq_unread hf5; obtain rfl := harg7.eq_unread hf6
  sl_exec (disch := first | sl_exact hc1 | sl_exact hc2 | sl_exact hc3 | sl_exact hc4)
  sl_step
  iapply Hk
  isplitl [H0]; · iapply (whole harg1 _); iexact H0
  isplitl [H1]; · iapply (whole harg2 _); iexact H1
  isplitl [H2]; · iapply (whole harg3 _); iexact H2
  isplitl [H3]; · iapply (whole harg4 _); iexact H3
  isplitl [H4]
  · iexists _; isplitr; swap; · iexact H4
    ipureintro
    have e := congr (congr (congr (congrArg res4 (ld_all arg1 harg1 x0 ![0, 0] inb_S256x2048_S256x2048_0_0)) (ld_all arg2 harg2 x1 ![0, 0] inb_S256x2048_S256x2048_0_0)) (ld_all arg3 harg3 x2 ![0, 0] inb_S1x2048_S1x2048_0_0)) (ld_all arg4 harg4 x3 ![0, 0] inb_S1x2048_S1x2048_0_0)
    exact (View.read_writes_full arg5.view _ _ _ _).trans e
  isplitl [H5]
  · iexists _; isplitr; swap; · iexact H5
    ipureintro
    have e := congr (congrArg k4_pay12 (congr (congr (congr (congrArg step4g (ld_all arg1 harg1 x0 ![0, 0] inb_S256x2048_S256x2048_0_0)) (ld_all arg2 harg2 x1 ![0, 0] inb_S256x2048_S256x2048_0_0)) (ld_all arg3 harg3 x2 ![0, 0] inb_S1x2048_S1x2048_0_0)) (ld_all arg4 harg4 x3 ![0, 0] inb_S1x2048_S1x2048_0_0))) (ld_all arg6 harg6 X ![0, 0] inb_S1x2048_S1x2048_0_0)
    exact (View.read_writes_full arg6.view _ _ _ _).trans e
  iexists _; isplitr; swap; · iexact H6
  ipureintro
  have e := congr (congrArg k4_pay1 (congr (congr (congr (congrArg step4b (ld_all arg1 harg1 x0 ![0, 0] inb_S256x2048_S256x2048_0_0)) (ld_all arg2 harg2 x1 ![0, 0] inb_S256x2048_S256x2048_0_0)) (ld_all arg3 harg3 x2 ![0, 0] inb_S1x2048_S1x2048_0_0)) (ld_all arg4 harg4 x3 ![0, 0] inb_S1x2048_S1x2048_0_0))) (ld_all arg7 harg7 Y ![0, 0] inb_S1x2048_S1x2048_0_0)
  exact (View.read_writes_full arg7.view _ _ _ _).trans e
theorem cond4_1 (i : grid4.Coords) : k4_cond1 i = 1#1 ↔ (i 0).val = 0 := by
  have h : (i 0).val < 8 := (i 0).isLt
  simp only [k4_cond1]; word_cmp
theorem cond4_2 (i : grid4.Coords) : k4_cond2 i = 1#1 ↔ (i 0).val ≠ 0 := by
  have h : (i 0).val < 8 := (i 0).isLt
  simp only [k4_cond2]; word_cmp
theorem cond4_3 (i : grid4.Coords) : k4_cond3 i = 1#1 ↔ (i 0).val = 0 := by
  have h : (i 0).val < 8 := (i 0).isLt
  simp only [k4_cond3]; word_cmp
theorem cond4_4 (i : grid4.Coords) : k4_cond4 i = 1#1 ↔ (i 0).val ≠ 0 := by
  have h : (i 0).val < 8 := (i 0).isLt
  simp only [k4_cond4]; word_cmp
theorem coord4 (t : Fin cfg4.N) : (grid4.coords t 0).val = t.val := by
  have ht : t.val < 8 := Nat.lt_of_lt_of_eq t.isLt N_4
  have e : (grid4.coords t 0).val = t.val / 1 % 8 := Pipeline.Grid.coords_val t 0 (by decide) rfl
  rw [e]; omega
/-- The two sums are stored at every point, so no window is ever idle. -/
theorem live4 (w : Fin cfg4.W) (i : grid4.Coords) : cfg4.idle w i = false := by
  have h5 : (!(k4_cond1 i == 1#1) && !(k4_cond2 i == 1#1)) = false := by
    by_cases h : (i 0).val = 0
    · rw [(cond4_1 i).mpr h]; simp
    · rw [(cond4_2 i).mpr h]; simp
  have h6 : (!(k4_cond3 i == 1#1) && !(k4_cond4 i == 1#1)) = false := by
    by_cases h : (i 0).val = 0
    · rw [(cond4_3 i).mpr h]; simp
    · rw [(cond4_4 i).mpr h]; simp
  match w with
  | ⟨0, _⟩ | ⟨1, _⟩ | ⟨2, _⟩ | ⟨3, _⟩ | ⟨4, _⟩ => rfl
  | ⟨5, _⟩ => exact h5
  | ⟨6, _⟩ => exact h6

variable (W : Dev nD → Valuation τ sig (Elt F))

/-- The block of input `w` at point `t`. -/
def in4 (c : Dev nD) (w : Fin cfg4.W) (t : Fin cfg4.N) : ((cfg4.win w).xblock (cfg4.grid.coords t)).Idx → Elt F (cfg4.win w).elt :=
  ((cfg4.win w).blk t).view.read (Elt F) (W c (Pipeline.arrRef spec4 w))
abbrev in4_0 (c : Dev nD) (t : Fin cfg4.N) : Vec F S256x2048 .f32 := in4 W c 0 t
abbrev in4_1 (c : Dev nD) (t : Fin cfg4.N) : Vec F S256x2048 .f32 := in4 W c 1 t
abbrev in4_2 (c : Dev nD) (t : Fin cfg4.N) : Vec F S1x2048 .f32 := in4 W c 2 t
abbrev in4_3 (c : Dev nD) (t : Fin cfg4.N) : Vec F S1x2048 .f32 := in4 W c 3 t

/-- A sum over the blocks up to number `n`, each block's part added to what the blocks before it gave. -/
def upTo {α : Type} {N : ℕ} (step : Fin N → α) (add : α → α → α) : (n : ℕ) → n < N → α
  | 0, h => step ⟨0, h⟩
  | n + 1, h => add (step ⟨n + 1, h⟩) (upTo step add n (Nat.lt_of_succ_lt h))
theorem upTo_first {α : Type} {N : ℕ} (step : Fin N → α) (add : α → α → α) (t : Fin N) (h : t.val = 0) : upTo step add t.val t.isLt = step t := by
  obtain ⟨n, hn⟩ := t
  cases n with
  | zero => rfl
  | succ n => exact absurd h (Nat.succ_ne_zero n)
theorem upTo_later {α : Type} {N : ℕ} (step : Fin N → α) (add : α → α → α) (t : Fin N) (h : t.val ≠ 0) :
    upTo step add t.val t.isLt = add (step t) (upTo step add (t.val - 1) (Nat.lt_of_le_of_lt (Nat.sub_le _ _) t.isLt)) := by
  obtain ⟨n, hn⟩ := t
  cases n with
  | zero => exact absurd rfl h
  | succ n => rfl

/-- The gradients of the gain and of the bias after the blocks up to number `n`. -/
def sum4g (c : Dev nD) (n : ℕ) (h : n < cfg4.N) : Vec F S1x2048 .f32 := upTo (fun t => step4g (in4_0 W c t) (in4_1 W c t) (in4_2 W c t) (in4_3 W c t)) k4_pay12 n h
def sum4b (c : Dev nD) (n : ℕ) (h : n < cfg4.N) : Vec F S1x2048 .f32 := upTo (fun t => step4b (in4_0 W c t) (in4_1 W c t) (in4_2 W c t) (in4_3 W c t)) k4_pay1 n h

/-- The call's proof data: entered with its arrays at `W c`; each point leaves the inputs at their blocks, the block of the input's gradient, and the two gradients summed so far. -/
def dat4 (c : Dev nD) : Dat τ (Elt F) Unit ℕ (UR sig nD τ) ℕ cfg4 c where
  A w := W c (Pipeline.arrRef spec4 w)
  after w t := match w with
    | ⟨0, _⟩ => in4 W c 0 t
    | ⟨1, _⟩ => in4 W c 1 t
    | ⟨2, _⟩ => in4 W c 2 t
    | ⟨3, _⟩ => in4 W c 3 t
    | ⟨4, _⟩ => res4 (in4_0 W c t) (in4_1 W c t) (in4_2 W c t) (in4_3 W c t)
    | ⟨5, _⟩ => sum4g W c t.val t.isLt
    | ⟨6, _⟩ => sum4b W c t.val t.isLt
  Φ _ := Pipeline.scopedRest spec4 c
  q w := Pipeline.shareOf spec4 w
  owed _ := 0

theorem A4 (c : Dev nD) (w : Fin cfg4.W) : (dat4 W c).A w = W c (Pipeline.arrRef spec4 w) := by dsimp only [dat4]
theorem left4_0 (c : Dev nD) (t : Fin cfg4.N) : (dat4 W c).after 0 t = in4 W c 0 t := by dsimp only [dat4]
theorem left4_1 (c : Dev nD) (t : Fin cfg4.N) : (dat4 W c).after 1 t = in4 W c 1 t := by dsimp only [dat4]
theorem left4_2 (c : Dev nD) (t : Fin cfg4.N) : (dat4 W c).after 2 t = in4 W c 2 t := by dsimp only [dat4]
theorem left4_3 (c : Dev nD) (t : Fin cfg4.N) : (dat4 W c).after 3 t = in4 W c 3 t := by dsimp only [dat4]
theorem left4_4 (c : Dev nD) (t : Fin cfg4.N) : (dat4 W c).after 4 t = res4 (in4_0 W c t) (in4_1 W c t) (in4_2 W c t) (in4_3 W c t) := by dsimp only [dat4]
theorem left4_5 (c : Dev nD) (t : Fin cfg4.N) : (dat4 W c).after 5 t = sum4g W c t.val t.isLt := by dsimp only [dat4]
theorem left4_6 (c : Dev nD) (t : Fin cfg4.N) : (dat4 W c).after 6 t = sum4b W c t.val t.isLt := by dsimp only [dat4]
/-- The inputs' buffers hold their blocks at every point; the two sums' buffers hold, at a later point, what the point before left. -/
theorem found4_0 (c : Dev nD) (t : Fin cfg4.N) (d) : (dat4 W c).before 0 t d = in4 W c 0 t :=
  found (dat4 W c) 0 rfl (fun _ => rfl) (fun _ _ _ => rfl) (left4_0 W c) (fun t _ => (left4_0 W c t).symm) (left4_0 W c t) d
theorem found4_1 (c : Dev nD) (t : Fin cfg4.N) (d) : (dat4 W c).before 1 t d = in4 W c 1 t :=
  found (dat4 W c) 1 rfl (fun _ => rfl) (fun _ _ _ => rfl) (left4_1 W c) (fun t _ => (left4_1 W c t).symm) (left4_1 W c t) d
theorem found4_2 (c : Dev nD) (t : Fin cfg4.N) (d) : (dat4 W c).before 2 t d = in4 W c 2 t :=
  found (dat4 W c) 2 rfl (fun _ => rfl) (fun _ _ _ => rfl) (left4_2 W c) (fun t _ => (left4_2 W c t).symm) (left4_2 W c t) d
theorem found4_3 (c : Dev nD) (t : Fin cfg4.N) (d) : (dat4 W c).before 3 t d = in4 W c 3 t :=
  found (dat4 W c) 3 rfl (fun _ => rfl) (fun _ _ _ => rfl) (left4_3 W c) (fun t _ => (left4_3 W c t).symm) (left4_3 W c t) d
theorem found4_5 (c : Dev nD) (t : Fin cfg4.N) (h0 : t.val ≠ 0) (d) :
    (dat4 W c).before 5 t d = sum4g W c (t.val - 1) (Nat.lt_of_le_of_lt (Nat.sub_le _ _) t.isLt) :=
  ((dat4 W c).before_out_kept 5 rfl t h0
    (Bool.eq_false_iff.mpr fun hf => by
      have := (flush4_5 _).mp hf
      have ht : t.val < 8 := Nat.lt_of_lt_of_eq t.isLt N_4
      simp only at this; omega) (live4 5) (fun _ _ => rfl) d).trans (left4_5 W c _)
theorem found4_6 (c : Dev nD) (t : Fin cfg4.N) (h0 : t.val ≠ 0) (d) :
    (dat4 W c).before 6 t d = sum4b W c (t.val - 1) (Nat.lt_of_le_of_lt (Nat.sub_le _ _) t.isLt) :=
  ((dat4 W c).before_out_kept 6 rfl t h0
    (Bool.eq_false_iff.mpr fun hf => by
      have := (flush4_6 _).mp hf
      have ht : t.val < 8 := Nat.lt_of_lt_of_eq t.isLt N_4
      simp only at this; omega) (live4 6) (fun _ _ => rfl) d).trans (left4_6 W c _)

theorem hands4 (c : Dev nD) (w : Fin cfg4.W) (t : Fin cfg4.N) :
    (dat4 W c).leavesExact w t = owns (c : Thread nD τ) ((cfg4.win w).stage (cfg4.slots t w)) fullShare ((dat4 W c).after w t) := by
  unfold Dat.leavesExact; rw [live4 w (cfg4.grid.coords t)]

set_option maxHeartbeats 1600000 in
/-- The library's body obligation. -/
theorem obl4 (c : Dev nD) : BodyObligation (dat4 (F := F) W c) (defs₀ (F := F)) Variants.none () Set.univ := fun t => by
  rw [bigSep_W4, bigSep_W4, show defs₀ (F := F) .tc cfg4.body (cfg4.bodyArgs t (cfg4.slots t)) = bodyAt4 t from by unfold defs₀; rw [Defs.onTc_tc]]
  have hi := coord4 t
  by_cases hk : t.val = 0
  · exact obligation (dat4 W c) (run4First c (grid4.coords t) _ _ _ _ _ _ _ _ _ _ _ _ _ _ ((cond4_1 _).mpr (hi.trans hk)) (fun h => (cond4_2 _).mp h (hi.trans hk)) ((cond4_3 _).mpr (hi.trans hk)) (fun h => (cond4_4 _).mp h (hi.trans hk)) (in4_0 W c t) (in4_1 W c t) (in4_2 W c t) (in4_3 W c t) Set.univ)
      (pair (got (found4_0 W c t)) (pair (got (found4_1 W c t)) (pair (got (found4_2 W c t)) (pair (got (found4_3 W c t)) (pair anything (pair anything anything))))))
      (pair (handed (hands4 W c 0 t) (left4_0 W c t)) (pair (handed (hands4 W c 1 t) (left4_1 W c t)) (pair (handed (hands4 W c 2 t) (left4_2 W c t)) (pair (handed (hands4 W c 3 t) (left4_3 W c t)) (pair (handed (hands4 W c 4 t) (left4_4 W c t)) (pair (handed (hands4 W c 5 t) ((left4_5 W c t).trans (upTo_first _ _ t hk))) (handed (hands4 W c 6 t) ((left4_6 W c t).trans (upTo_first _ _ t hk))))))))) rfl rfl
  · exact obligation (dat4 W c) (run4Later c (grid4.coords t) _ _ _ _ _ _ _ _ _ _ _ _ _ _ (fun h => hk (hi.symm.trans ((cond4_1 _).mp h))) ((cond4_2 _).mpr fun h => hk (hi.symm.trans h)) (fun h => hk (hi.symm.trans ((cond4_3 _).mp h))) ((cond4_4 _).mpr fun h => hk (hi.symm.trans h)) (in4_0 W c t) (in4_1 W c t) (in4_2 W c t) (in4_3 W c t) _ _ Set.univ)
      (pair (got (found4_0 W c t)) (pair (got (found4_1 W c t)) (pair (got (found4_2 W c t)) (pair (got (found4_3 W c t)) (pair anything (pair (got (found4_5 W c t hk)) (got (found4_6 W c t hk))))))))
      (pair (handed (hands4 W c 0 t) (left4_0 W c t)) (pair (handed (hands4 W c 1 t) (left4_1 W c t)) (pair (handed (hands4 W c 2 t) (left4_2 W c t)) (pair (handed (hands4 W c 3 t) (left4_3 W c t)) (pair (handed (hands4 W c 4 t) (left4_4 W c t)) (pair (handed (hands4 W c 5 t) ((left4_5 W c t).trans (upTo_later _ _ t hk))) (handed (hands4 W c 6 t) ((left4_6 W c t).trans (upTo_later _ _ t hk))))))))) rfl rfl

end Cert.Kernel5Ideal.Hand

end
-- ==== Proof.ConvPay.lean ====
/-
  The bodies of the calls of the end of the convolution module, entry by entry: what each leaves in its output blocks from
  its input blocks.
-/
module

public import proofs.«01_k».proof.Proof.ConvSpec
public import proofs.«01_k».proof.Proof.ConvCalls
public import proofs.«01_k».proof.Proof.ConvDln

@[expose] public section

set_option maxRecDepth 16384

noncomputable section

namespace Cert.Kernel5Ideal.Hand

open Idealize.ShloMosaic Idealize.ShloMosaic.TcCoe Idealize.SL.Sem Idealize.ShloMosaic.Pointwise
open Cert.Kernel5Ideal Cert.Kernel5Ideal.Gen Cert.Ffn Cert.Conv

theorem pay1_at (x0 : Vec Ideal S1024x2048 .bf16) (x1 : Vec Ideal S2048x1024 .bf16) (x2 : Vec Ideal S1024x1024 .f32) (a b : Fin 1024) :
    (res1_0 x0 x1 x2 (ix2 a b) : EReal) = x2 (ix2 a b) + ∑ k : Fin 2048, (x0 (ix2 a k) * x1 (ix2 k b) : EReal) := by
  unfold res1_0 k1_pay1
  pointwise
theorem pay2_at (x0 x1 : Vec Ideal S1024x2048 .bf16) (a b : Fin 1024) :
    (res2_0 x0 x1 (ix2 a b) : EReal) = ∑ k : Fin 2048, (x0 (ix2 a k) * x1 (ix2 b k) : EReal) := by
  unfold res2_0 k2_pay1
  pointwise
theorem pay3_at (x0 : Vec Ideal S2048x512 .bf16) (x1 : Vec Ideal S2048x2048 .bf16) (a : Fin 512) (b : Fin 2048) :
    (res3_0 x0 x1 (ix2 a b) : EReal) = ∑ k : Fin 2048, (x0 (ix2 k a) * x1 (ix2 k b) : EReal) := by
  unfold res3_0 k3_pay1
  pointwise

variable (x0 x1 : Vec Ideal S256x2048 .f32) (x2 x3 : Vec Ideal S1x2048 .f32) (a : Fin 256) (b : Fin 2048)
/-- A row of a block. -/
abbrev brow (x : Vec Ideal S256x2048 .f32) (a : Fin 256) (d : Fin 2048) : EReal := x (ix2 a d)
theorem cen_at : (k4_pay2 x0 (ix2 a b) : EReal) = cen (brow x0 a) b := by
  unfold k4_pay2 cen len
  pointwise
theorem vr_at : (k4_pay3 x0 (ix2 a 0) : EReal) = vr (brow x0 a) := by
  unfold k4_pay3 vr len epsN
  pointwise
  simp only [cen_at]
theorem rs_at : (k4_pay4 x0 (ix2 a 0) : EReal) = rs (brow x0 a) := by
  unfold k4_pay4 rs
  pointwise
  rw [vr_at]
theorem slope_at : (k4_pay5 x0 (ix2 a 0) : EReal) = mhalf * Ideal.div (rs (brow x0 a)) (vr (brow x0 a)) := by
  unfold k4_pay5 mhalf
  pointwise
  rw [rs_at, vr_at]
theorem nm_at : (k4_pay6 x0 (ix2 a b) : EReal) = nm (brow x0 a) b := by
  unfold k4_pay6 nm
  pointwise
  rw [cen_at, rs_at]
theorem dz_at : (k4_pay7 x0 x2 x3 x1 (ix2 a b) : EReal) = dz (brow x0 a) (one2 x2) (one2 x3) (brow x1 a) b := by
  unfold k4_pay7 dz z
  pointwise
  simp only [nm_at]
theorem gain_at : (k4_pay10 x2 (ix2 a b) : EReal) = x2 (ix2 0 b) := by
  unfold k4_pay10
  pointwise
theorem pay4_at : (res4 x0 x1 x2 x3 (ix2 a b) : EReal)
    = backR (brow x0 a) (fun d => dz (brow x0 a) (one2 x2) (one2 x3) (brow x1 a) d * x2 (ix2 0 d)) b := by
  unfold res4 k4_pay11 backR backC thruV len
  pointwise
  simp only [Fin.sum_univ_one, cen_at, rs_at, slope_at, dz_at, gain_at, zero_sub]
theorem step4g_at : (step4g x0 x1 x2 x3 (ix2 0 b) : EReal)
    = ∑ t : Fin 256, nm (brow x0 t) b * dz (brow x0 t) (one2 x2) (one2 x3) (brow x1 t) b := by
  unfold step4g k4_pay9
  pointwise
  simp only [nm_at, dz_at]
theorem step4b_at : (step4b x0 x1 x2 x3 (ix2 0 b) : EReal) = ∑ t : Fin 256, dz (brow x0 t) (one2 x2) (one2 x3) (brow x1 t) b := by
  unfold step4b k4_pay8
  pointwise
  simp only [dz_at]
theorem add4g_at (X Y : Vec Ideal S1x2048 .f32) : (k4_pay12 X Y (ix2 0 b) : EReal) = Y (ix2 0 b) + X (ix2 0 b) := by
  unfold k4_pay12
  pointwise
theorem add4b_at (X Y : Vec Ideal S1x2048 .f32) : (k4_pay1 X Y (ix2 0 b) : EReal) = Y (ix2 0 b) + X (ix2 0 b) := by
  unfold k4_pay1
  pointwise
/-- Steps summed up to the last of them: an entry of the sum is the sum of the entries. -/
theorem upTo_sum {α : Type} {N : ℕ} (step : Fin N → α) (add : α → α → α) (ev : α → EReal) (hadd : ∀ X Y, ev (add X Y) = ev Y + ev X)
    (n : ℕ) (h : n < N) (hn : n + 1 = N) : ev (upTo step add n h) = ∑ k : Fin N, ev (step k) := by
  have go : ∀ (n : ℕ) (h : n < N), ev (upTo step add n h) = ∑ k : Fin (n + 1), ev (step ⟨k.val, by omega⟩) := by
    intro n
    induction n with
    | zero => intro h; exact (Fin.sum_univ_one (fun k : Fin 1 => ev (step ⟨k.val, by omega⟩))).symm
    | succ n ih =>
      intro h
      rw [Fin.sum_univ_castSucc]
      exact (hadd _ _).trans (congrArg (· + _) (ih (Nat.lt_of_succ_lt h)))
  subst hn
  exact go n h
/-- The forward call's row is the backward call's: the same norm, then the swish. -/
theorem pay0_at : (res0_0 x0 x2 x3 (ix2 a b) : EReal) = sw (brow x0 a) (one2 x2) (one2 x3) b := by
  unfold res0_0 k0_pay1 sw z nm rs vr cen len epsN
  pointwise

end Cert.Kernel5Ideal.Hand

end
-- ==== Proof.ConvArr.lean ====
/-
  The blocks of the calls of the end of the convolution module at every grid point, entry by entry, and each output array as what its blocks leave.
-/
module

public import proofs.«01_k».proof.Proof.ConvPay
public import Idealize.ShloMosaic.Lib.Pipeline.ValueKit.Geometry

@[expose] public section

set_option maxRecDepth 16384
set_option maxHeartbeats 1000000

noncomputable section

namespace Cert.Kernel5Ideal.Hand

open Idealize.ShloMosaic Idealize.ShloMosaic.TcCoe Idealize.SL.Sem Idealize.ShloMosaic.Pointwise Idealize.ShloMosaic.Pipeline
open Cert.Kernel5Ideal Cert.Kernel5Ideal.Gen Cert.Conv

variable (W : Dev nD → Valuation τ sig (Elt Ideal)) (c : Dev nD)

theorem only2 {n1 : ℕ} (y : (⟨2, ![1, n1]⟩ : Shape).Idx) : y = ix2 (0 : Fin 1) (y 1) := by
  funext a
  fin_cases a
  · exact Fin.ext (show (y 0).val = 0 by have : (y 0).val < 1 := (y 0).isLt; omega)
  · rfl

theorem at0_0 : ∀ t : Fin cfg0.N, win0_0.index t = ![t.val, 0] := by decide +kernel
theorem blk0_0 (t : Fin cfg0.N) (a : Fin 256) (b : Fin 2048) (i : Fin 2048) (j : Fin 2048) (hi : i.val = t.val * 256 + a.val) (hj : j.val = b.val) : in0_0 W c t (ix2 a b) = W c main_arg1 (ix2 i j) :=
  congrArg (W c main_arg1) (by blk_ext [at0_0, hi, hj])

theorem at0_1 : ∀ t : Fin cfg0.N, win0_1.index t = ![0, 0] := by decide +kernel
theorem blk0_1 (t : Fin cfg0.N) (b : Fin 2048) (i : Fin 1) (j : Fin 2048) (hi : i.val = 0) (hj : j.val = b.val) : in0_1 W c t (ix2 0 b) = W c main_arg2 (ix2 i j) :=
  congrArg (W c main_arg2) (by blk_ext [at0_1, hi, hj])

theorem at0_2 : ∀ t : Fin cfg0.N, win0_2.index t = ![0, 0] := by decide +kernel
theorem blk0_2 (t : Fin cfg0.N) (b : Fin 2048) (i : Fin 1) (j : Fin 2048) (hi : i.val = 0) (hj : j.val = b.val) : in0_2 W c t (ix2 0 b) = W c main_arg3 (ix2 i j) :=
  congrArg (W c main_arg3) (by blk_ext [at0_2, hi, hj])

theorem at0_3 : ∀ t : Fin cfg0.N, win0_3.index t = ![t.val, 0] := by decide +kernel
theorem out0_3 (V : S2048x2048.Idx → EReal)
    (hV : ∀ (t : Fin cfg0.N), ∀ (a : Fin 256) (b : Fin 2048) (i : Fin 2048) (j : Fin 2048), i.val = t.val * 256 + a.val → j.val = b.val → (res0_0 (in0_0 W c t) (in0_1 W c t) (in0_2 W c t) (ix2 a b) : EReal) = V (ix2 i j)) :
    ((dat0 W c).arrAt 3 cfg0.N : Vec Ideal S2048x2048 .bf16) = V := by
  refine (dat0 W c).arrAt_eq_of_covers 3 _ (by decide +kernel) fun t hf y => ?_
  rw [left0_3]
  have hN : t.val < 8 := Nat.lt_of_lt_of_eq t.isLt N_0
  blk_simp
  idx_bounds y
  exact (congrArg (res0_0 (in0_0 W c t) (in0_1 W c t) (in0_2 W c t)) (eq_ix2 (n0 := 256) (n1 := 2048) y)).trans ((hV t (y 0) (y 1) ⟨t.val * 256 + (y 0).val, by omega⟩ ⟨(y 1).val, by omega⟩ rfl rfl).trans (congrArg V (by blk_ext [at0_3])))

theorem at1_0 : ∀ t : Fin cfg1.N, win1_0.index t = ![t.val / 2, 0] := by decide +kernel
theorem blk1_0 (t : Fin cfg1.N) (a : Fin 1024) (b : Fin 2048) (i : Fin 2048) (j : Fin 2048) (hi : i.val = t.val / 2 * 1024 + a.val) (hj : j.val = b.val) : in1_0 W c t (ix2 a b) = W c main_v2 (ix2 i j) :=
  congrArg (W c main_v2) (by blk_ext [at1_0, hi, hj])

theorem at1_1 : ∀ t : Fin cfg1.N, win1_1.index t = ![0, t.val % 2] := by decide +kernel
theorem blk1_1 (t : Fin cfg1.N) (a : Fin 2048) (b : Fin 1024) (i : Fin 2048) (j : Fin 2048) (hi : i.val = a.val) (hj : j.val = t.val % 2 * 1024 + b.val) : in1_1 W c t (ix2 a b) = W c main_v0 (ix2 i j) :=
  congrArg (W c main_v0) (by blk_ext [at1_1, hi, hj])

theorem at1_2 : ∀ t : Fin cfg1.N, win1_2.index t = ![t.val / 2, t.val % 2] := by decide +kernel
theorem blk1_2 (t : Fin cfg1.N) (a : Fin 1024) (b : Fin 1024) (i : Fin 2048) (j : Fin 2048) (hi : i.val = t.val / 2 * 1024 + a.val) (hj : j.val = t.val % 2 * 1024 + b.val) : in1_2 W c t (ix2 a b) = W c main_arg0 (ix2 i j) :=
  congrArg (W c main_arg0) (by blk_ext [at1_2, hi, hj])

theorem at1_3 : ∀ t : Fin cfg1.N, win1_3.index t = ![t.val / 2, t.val % 2] := by decide +kernel
theorem out1_3 (V : S2048x2048.Idx → EReal)
    (hV : ∀ (t : Fin cfg1.N), ∀ (a : Fin 1024) (b : Fin 1024) (i : Fin 2048) (j : Fin 2048), i.val = t.val / 2 * 1024 + a.val → j.val = t.val % 2 * 1024 + b.val → (res1_0 (in1_0 W c t) (in1_1 W c t) (in1_2 W c t) (ix2 a b) : EReal) = V (ix2 i j)) :
    ((dat1 W c).arrAt 3 cfg1.N : Vec Ideal S2048x2048 .f32) = V := by
  refine (dat1 W c).arrAt_eq_of_covers 3 _ (by decide +kernel) fun t hf y => ?_
  rw [left1_3]
  have hN : t.val < 4 := Nat.lt_of_lt_of_eq t.isLt N_1
  blk_simp
  idx_bounds y
  exact (congrArg (res1_0 (in1_0 W c t) (in1_1 W c t) (in1_2 W c t)) (eq_ix2 (n0 := 1024) (n1 := 1024) y)).trans ((hV t (y 0) (y 1) ⟨t.val / 2 * 1024 + (y 0).val, by omega⟩ ⟨t.val % 2 * 1024 + (y 1).val, by omega⟩ rfl rfl).trans (congrArg V (by blk_ext [at1_3])))

theorem at2_0 : ∀ t : Fin cfg2.N, win2_0.index t = ![t.val / 2, 0] := by decide +kernel
theorem blk2_0 (t : Fin cfg2.N) (a : Fin 1024) (b : Fin 2048) (i : Fin 2048) (j : Fin 2048) (hi : i.val = t.val / 2 * 1024 + a.val) (hj : j.val = b.val) : in2_0 W c t (ix2 a b) = W c main_v1 (ix2 i j) :=
  congrArg (W c main_v1) (by blk_ext [at2_0, hi, hj])

theorem at2_1 : ∀ t : Fin cfg2.N, win2_1.index t = ![t.val % 2, 0] := by decide +kernel
theorem blk2_1 (t : Fin cfg2.N) (a : Fin 1024) (b : Fin 2048) (i : Fin 2048) (j : Fin 2048) (hi : i.val = t.val % 2 * 1024 + a.val) (hj : j.val = b.val) : in2_1 W c t (ix2 a b) = W c main_v0 (ix2 i j) :=
  congrArg (W c main_v0) (by blk_ext [at2_1, hi, hj])

theorem at2_2 : ∀ t : Fin cfg2.N, win2_2.index t = ![t.val / 2, t.val % 2] := by decide +kernel
theorem out2_2 (V : S2048x2048.Idx → EReal)
    (hV : ∀ (t : Fin cfg2.N), ∀ (a : Fin 1024) (b : Fin 1024) (i : Fin 2048) (j : Fin 2048), i.val = t.val / 2 * 1024 + a.val → j.val = t.val % 2 * 1024 + b.val → (res2_0 (in2_0 W c t) (in2_1 W c t) (ix2 a b) : EReal) = V (ix2 i j)) :
    ((dat2 W c).arrAt 2 cfg2.N : Vec Ideal S2048x2048 .f32) = V := by
  refine (dat2 W c).arrAt_eq_of_covers 2 _ (by decide +kernel) fun t hf y => ?_
  rw [left2_2]
  have hN : t.val < 4 := Nat.lt_of_lt_of_eq t.isLt N_2
  blk_simp
  idx_bounds y
  exact (congrArg (res2_0 (in2_0 W c t) (in2_1 W c t)) (eq_ix2 (n0 := 1024) (n1 := 1024) y)).trans ((hV t (y 0) (y 1) ⟨t.val / 2 * 1024 + (y 0).val, by omega⟩ ⟨t.val % 2 * 1024 + (y 1).val, by omega⟩ rfl rfl).trans (congrArg V (by blk_ext [at2_2])))

theorem at3_0 : ∀ t : Fin cfg3.N, win3_0.index t = ![0, t.val] := by decide +kernel
theorem blk3_0 (t : Fin cfg3.N) (a : Fin 2048) (b : Fin 512) (i : Fin 2048) (j : Fin 2048) (hi : i.val = a.val) (hj : j.val = t.val * 512 + b.val) : in3_0 W c t (ix2 a b) = W c main_v2 (ix2 i j) :=
  congrArg (W c main_v2) (by blk_ext [at3_0, hi, hj])

theorem at3_1 : ∀ t : Fin cfg3.N, win3_1.index t = ![0, 0] := by decide +kernel
theorem blk3_1 (t : Fin cfg3.N) (a : Fin 2048) (b : Fin 2048) (i : Fin 2048) (j : Fin 2048) (hi : i.val = a.val) (hj : j.val = b.val) : in3_1 W c t (ix2 a b) = W c main_v1 (ix2 i j) :=
  congrArg (W c main_v1) (by blk_ext [at3_1, hi, hj])

theorem at3_2 : ∀ t : Fin cfg3.N, win3_2.index t = ![t.val, 0] := by decide +kernel
theorem out3_2 (V : S2048x2048.Idx → EReal)
    (hV : ∀ (t : Fin cfg3.N), ∀ (a : Fin 512) (b : Fin 2048) (i : Fin 2048) (j : Fin 2048), i.val = t.val * 512 + a.val → j.val = b.val → (res3_0 (in3_0 W c t) (in3_1 W c t) (ix2 a b) : EReal) = V (ix2 i j)) :
    ((dat3 W c).arrAt 2 cfg3.N : Vec Ideal S2048x2048 .bf16) = V := by
  refine (dat3 W c).arrAt_eq_of_covers 2 _ (by decide +kernel) fun t hf y => ?_
  rw [left3_2]
  have hN : t.val < 4 := Nat.lt_of_lt_of_eq t.isLt N_3
  blk_simp
  idx_bounds y
  exact (congrArg (res3_0 (in3_0 W c t) (in3_1 W c t)) (eq_ix2 (n0 := 512) (n1 := 2048) y)).trans ((hV t (y 0) (y 1) ⟨t.val * 512 + (y 0).val, by omega⟩ ⟨(y 1).val, by omega⟩ rfl rfl).trans (congrArg V (by blk_ext [at3_2])))

theorem at4_0 : ∀ t : Fin cfg4.N, win4_0.index t = ![t.val, 0] := by decide +kernel
theorem blk4_0 (t : Fin cfg4.N) (a : Fin 256) (b : Fin 2048) (i : Fin 2048) (j : Fin 2048) (hi : i.val = t.val * 256 + a.val) (hj : j.val = b.val) : in4_0 W c t (ix2 a b) = W c main_arg1 (ix2 i j) :=
  congrArg (W c main_arg1) (by blk_ext [at4_0, hi, hj])

theorem at4_1 : ∀ t : Fin cfg4.N, win4_1.index t = ![t.val, 0] := by decide +kernel
theorem blk4_1 (t : Fin cfg4.N) (a : Fin 256) (b : Fin 2048) (i : Fin 2048) (j : Fin 2048) (hi : i.val = t.val * 256 + a.val) (hj : j.val = b.val) : in4_1 W c t (ix2 a b) = W c main_v4 (ix2 i j) :=
  congrArg (W c main_v4) (by blk_ext [at4_1, hi, hj])

theorem at4_2 : ∀ t : Fin cfg4.N, win4_2.index t = ![0, 0] := by decide +kernel
theorem blk4_2 (t : Fin cfg4.N) (b : Fin 2048) (i : Fin 1) (j : Fin 2048) (hi : i.val = 0) (hj : j.val = b.val) : in4_2 W c t (ix2 0 b) = W c main_arg2 (ix2 i j) :=
  congrArg (W c main_arg2) (by blk_ext [at4_2, hi, hj])

theorem at4_3 : ∀ t : Fin cfg4.N, win4_3.index t = ![0, 0] := by decide +kernel
theorem blk4_3 (t : Fin cfg4.N) (b : Fin 2048) (i : Fin 1) (j : Fin 2048) (hi : i.val = 0) (hj : j.val = b.val) : in4_3 W c t (ix2 0 b) = W c main_arg3 (ix2 i j) :=
  congrArg (W c main_arg3) (by blk_ext [at4_3, hi, hj])

theorem at4_4 : ∀ t : Fin cfg4.N, win4_4.index t = ![t.val, 0] := by decide +kernel
theorem out4_4 (V : S2048x2048.Idx → EReal)
    (hV : ∀ (t : Fin cfg4.N), ∀ (a : Fin 256) (b : Fin 2048) (i : Fin 2048) (j : Fin 2048), i.val = t.val * 256 + a.val → j.val = b.val → (res4 (in4_0 W c t) (in4_1 W c t) (in4_2 W c t) (in4_3 W c t) (ix2 a b) : EReal) = V (ix2 i j)) :
    ((dat4 W c).arrAt 4 cfg4.N : Vec Ideal S2048x2048 .f32) = V := by
  refine (dat4 W c).arrAt_eq_of_covers 4 _ (by decide +kernel) fun t hf y => ?_
  rw [left4_4]
  have hN : t.val < 8 := Nat.lt_of_lt_of_eq t.isLt N_4
  blk_simp
  idx_bounds y
  exact (congrArg (res4 (in4_0 W c t) (in4_1 W c t) (in4_2 W c t) (in4_3 W c t)) (eq_ix2 (n0 := 256) (n1 := 2048) y)).trans ((hV t (y 0) (y 1) ⟨t.val * 256 + (y 0).val, by omega⟩ ⟨(y 1).val, by omega⟩ rfl rfl).trans (congrArg V (by blk_ext [at4_4])))

theorem at4_5 : ∀ t : Fin cfg4.N, win4_5.index t = ![0, 0] := by decide +kernel
theorem out4_5 (V : S1x2048.Idx → EReal)
    (hV : ∀ (t : Fin cfg4.N), t.val % 8 = 7 → ∀ (b : Fin 2048) (i : Fin 1) (j : Fin 2048), i.val = 0 → j.val = b.val → (sum4g W c t.val t.isLt (ix2 0 b) : EReal) = V (ix2 i j)) :
    ((dat4 W c).arrAt 5 cfg4.N : Vec Ideal S1x2048 .f32) = V := by
  refine (dat4 W c).arrAt_eq_of_covers 5 _ (by decide +kernel) fun t hf y => ?_
  rw [left4_5]
  have hN : t.val < 8 := Nat.lt_of_lt_of_eq t.isLt N_4
  blk_simp
  idx_bounds y
  exact (congrArg (sum4g W c t.val t.isLt) (only2 (n1 := 2048) y)).trans ((hV t ((flush4_5 t).mp hf) (y 1) ⟨0, by omega⟩ ⟨(y 1).val, by omega⟩ rfl rfl).trans (congrArg V (by blk_ext [at4_5])))

theorem at4_6 : ∀ t : Fin cfg4.N, win4_6.index t = ![0, 0] := by decide +kernel
theorem out4_6 (V : S1x2048.Idx → EReal)
    (hV : ∀ (t : Fin cfg4.N), t.val % 8 = 7 → ∀ (b : Fin 2048) (i : Fin 1) (j : Fin 2048), i.val = 0 → j.val = b.val → (sum4b W c t.val t.isLt (ix2 0 b) : EReal) = V (ix2 i j)) :
    ((dat4 W c).arrAt 6 cfg4.N : Vec Ideal S1x2048 .f32) = V := by
  refine (dat4 W c).arrAt_eq_of_covers 6 _ (by decide +kernel) fun t hf y => ?_
  rw [left4_6]
  have hN : t.val < 8 := Nat.lt_of_lt_of_eq t.isLt N_4
  blk_simp
  idx_bounds y
  exact (congrArg (sum4b W c t.val t.isLt) (only2 (n1 := 2048) y)).trans ((hV t ((flush4_6 t).mp hf) (y 1) ⟨0, by omega⟩ ⟨(y 1).val, by omega⟩ rfl rfl).trans (congrArg V (by blk_ext [at4_6])))

end Cert.Kernel5Ideal.Hand

end
-- ==== Proof.ConvRun.lean ====
/-
  The run of the end of the convolution module: the contents of the program's arrays between its calls, each call as a
  segment between them, the launch; what the run leaves in the arguments and the results.
-/
module

public import proofs.«01_k».proof.Proof.ConvCalls
public import proofs.«01_k».proof.Proof.ConvDln
public import proofs.«01_k».proof.Proof.Segs

@[expose] public section

set_option maxRecDepth 16384

noncomputable section

namespace Cert.Kernel5Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)
open Cert.Calls
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays between the items -/

/-- At launch, and after the host operations before the first call. -/
def W0 (c : Dev nD) : Valuation τ sig (Elt F) := fun b => m (c, b)
def W1 (c : Dev nD) : Valuation τ sig (Elt F) := StableHlo.after hostOps0 (W0 m c)
theorem W1_of (c : Dev nD) (r : Ref sig .tc) (h : r ∉ hostOps0_W) : W1 m c r = W0 m c r :=
  StableHlo.after_of_writes_sub hostOps0 _ hostOps0_writes h

/-- After call 0. -/
def W2 (c : Dev nD) : Valuation τ sig (Elt F) := Function.update (W1 m c) main_v2 ((dat0 (W1 m) c).arrAt 3 cfg0.N)
theorem W2_of (c : Dev nD) (r : Ref sig .tc) (h : r ∉ [main_v2]) : W2 m c r = W1 m c r := of1 h
theorem W2_v2 (c : Dev nD) : W2 m c main_v2 = (dat0 (W1 m) c).arrAt 3 cfg0.N := Function.update_self _ _ _

/-- After call 1. -/
def W3 (c : Dev nD) : Valuation τ sig (Elt F) := Function.update (W2 m c) main_v3 ((dat1 (W2 m) c).arrAt 3 cfg1.N)
theorem W3_of (c : Dev nD) (r : Ref sig .tc) (h : r ∉ [main_v3]) : W3 m c r = W2 m c r := of1 h
theorem W3_v3 (c : Dev nD) : W3 m c main_v3 = (dat1 (W2 m) c).arrAt 3 cfg1.N := Function.update_self _ _ _

/-- After call 2. -/
def W4 (c : Dev nD) : Valuation τ sig (Elt F) := Function.update (W3 m c) main_v4 ((dat2 (W3 m) c).arrAt 2 cfg2.N)
theorem W4_of (c : Dev nD) (r : Ref sig .tc) (h : r ∉ [main_v4]) : W4 m c r = W3 m c r := of1 h
theorem W4_v4 (c : Dev nD) : W4 m c main_v4 = (dat2 (W3 m) c).arrAt 2 cfg2.N := Function.update_self _ _ _

/-- After call 3. -/
def W5 (c : Dev nD) : Valuation τ sig (Elt F) := Function.update (W4 m c) main_v5 ((dat3 (W4 m) c).arrAt 2 cfg3.N)
theorem W5_of (c : Dev nD) (r : Ref sig .tc) (h : r ∉ [main_v5]) : W5 m c r = W4 m c r := of1 h
theorem W5_v5 (c : Dev nD) : W5 m c main_v5 = (dat3 (W4 m) c).arrAt 2 cfg3.N := Function.update_self _ _ _

/-- After call 4. -/
def W6 (c : Dev nD) : Valuation τ sig (Elt F) := Function.update (Function.update (Function.update (W5 m c) main_v6_0 ((dat4 (W5 m) c).arrAt 4 cfg4.N)) main_v6_1 ((dat4 (W5 m) c).arrAt 5 cfg4.N)) main_v6_2 ((dat4 (W5 m) c).arrAt 6 cfg4.N)
theorem W6_of (c : Dev nD) (r : Ref sig .tc) (h : r ∉ [main_v6_0, main_v6_1, main_v6_2]) : W6 m c r = W5 m c r := of3 h
theorem W6_v6_0 (c : Dev nD) : W6 m c main_v6_0 = (dat4 (W5 m) c).arrAt 4 cfg4.N := (of2 (by decide)).trans (Function.update_self _ _ _)
theorem W6_v6_1 (c : Dev nD) : W6 m c main_v6_1 = (dat4 (W5 m) c).arrAt 5 cfg4.N := (of1 (by decide)).trans (Function.update_self _ _ _)
theorem W6_v6_2 (c : Dev nD) : W6 m c main_v6_2 = (dat4 (W5 m) c).arrAt 6 cfg4.N := Function.update_self _ _ _

/-! ## The calls as segments -/

/-- The calls' proof data, each entered with its arrays as the items before it leave them. -/
def pd (p : Fin 5) (c : Dev nD) : Dat τ (Elt F) Unit ℕ (UR sig nD τ) ℕ (cfgs p) c :=
  match p with
  | 0 => dat0 (W1 m) c
  | 1 => dat1 (W2 m) c
  | 2 => dat2 (W3 m) c
  | 3 => dat3 (W4 m) c
  | 4 => dat4 (W5 m) c

theorem end0 (c : Dev nD) (w : Fin cfg0.W) : (dat0 (W1 m) c).arrAt w cfg0.N = W2 m c (Pipeline.arrRef spec0 w) :=
  match w with
  | ⟨0, _⟩ => left _ 0 rfl (A0 (W1 m) c 0) (W2_of m c _ (by decide))
  | ⟨1, _⟩ => left _ 1 rfl (A0 (W1 m) c 1) (W2_of m c _ (by decide))
  | ⟨2, _⟩ => left _ 2 rfl (A0 (W1 m) c 2) (W2_of m c _ (by decide))
  | ⟨3, _⟩ => (W2_v2 m c).symm
def seg0 (m : (ℓ : Loc nD τ sig) → Buf (Elt F) ℓ) : RegionSeg (pcfgs (F := F)) adm (pd m) () defs₀ Variants.none noCells noLevel 0 :=
  segment (pd m) 0 launch0.win.to₀ (Pipeline.SharedIn.of_injective winFacts0.arr_inj) block_pos0 arr_whole0 stage_whole0
    (obl0 (W1 m)) (A0 (W1 m)) (end0 m) (W2_of m) (by decide)

theorem end1 (c : Dev nD) (w : Fin cfg1.W) : (dat1 (W2 m) c).arrAt w cfg1.N = W3 m c (Pipeline.arrRef spec1 w) :=
  match w with
  | ⟨0, _⟩ => left _ 0 rfl (A1 (W2 m) c 0) (W3_of m c _ (by decide))
  | ⟨1, _⟩ => left _ 1 rfl (A1 (W2 m) c 1) (W3_of m c _ (by decide))
  | ⟨2, _⟩ => left _ 2 rfl (A1 (W2 m) c 2) (W3_of m c _ (by decide))
  | ⟨3, _⟩ => (W3_v3 m c).symm
def seg1 (m : (ℓ : Loc nD τ sig) → Buf (Elt F) ℓ) : RegionSeg (pcfgs (F := F)) adm (pd m) () defs₀ Variants.none noCells noLevel 1 :=
  segment (pd m) 1 launch1.win.to₀ (Pipeline.SharedIn.of_injective winFacts1.arr_inj) block_pos1 arr_whole1 stage_whole1
    (obl1 (W2 m)) (A1 (W2 m)) (end1 m) (W3_of m) (by decide)

theorem end2 (c : Dev nD) (w : Fin cfg2.W) : (dat2 (W3 m) c).arrAt w cfg2.N = W4 m c (Pipeline.arrRef spec2 w) :=
  match w with
  | ⟨0, _⟩ => left _ 0 rfl (A2 (W3 m) c 0) (W4_of m c _ (by decide))
  | ⟨1, _⟩ => left _ 1 rfl (A2 (W3 m) c 1) (W4_of m c _ (by decide))
  | ⟨2, _⟩ => (W4_v4 m c).symm
def seg2 (m : (ℓ : Loc nD τ sig) → Buf (Elt F) ℓ) : RegionSeg (pcfgs (F := F)) adm (pd m) () defs₀ Variants.none noCells noLevel 2 :=
  segment (pd m) 2 launch2.win.to₀ (Pipeline.SharedIn.of_injective winFacts2.arr_inj) block_pos2 arr_whole2 stage_whole2
    (obl2 (W3 m)) (A2 (W3 m)) (end2 m) (W4_of m) (by decide)

theorem end3 (c : Dev nD) (w : Fin cfg3.W) : (dat3 (W4 m) c).arrAt w cfg3.N = W5 m c (Pipeline.arrRef spec3 w) :=
  match w with
  | ⟨0, _⟩ => left _ 0 rfl (A3 (W4 m) c 0) (W5_of m c _ (by decide))
  | ⟨1, _⟩ => left _ 1 rfl (A3 (W4 m) c 1) (W5_of m c _ (by decide))
  | ⟨2, _⟩ => (W5_v5 m c).symm
def seg3 (m : (ℓ : Loc nD τ sig) → Buf (Elt F) ℓ) : RegionSeg (pcfgs (F := F)) adm (pd m) () defs₀ Variants.none noCells noLevel 3 :=
  segment (pd m) 3 launch3.win.to₀ (Pipeline.SharedIn.of_injective winFacts3.arr_inj) block_pos3 arr_whole3 stage_whole3
    (obl3 (W4 m)) (A3 (W4 m)) (end3 m) (W5_of m) (by decide)

theorem end4 (c : Dev nD) (w : Fin cfg4.W) : (dat4 (W5 m) c).arrAt w cfg4.N = W6 m c (Pipeline.arrRef spec4 w) :=
  match w with
  | ⟨0, _⟩ => left _ 0 rfl (A4 (W5 m) c 0) (W6_of m c _ (by decide))
  | ⟨1, _⟩ => left _ 1 rfl (A4 (W5 m) c 1) (W6_of m c _ (by decide))
  | ⟨2, _⟩ => left _ 2 rfl (A4 (W5 m) c 2) (W6_of m c _ (by decide))
  | ⟨3, _⟩ => left _ 3 rfl (A4 (W5 m) c 3) (W6_of m c _ (by decide))
  | ⟨4, _⟩ => (W6_v6_0 m c).symm
  | ⟨5, _⟩ => (W6_v6_1 m c).symm
  | ⟨6, _⟩ => (W6_v6_2 m c).symm
def seg4 (m : (ℓ : Loc nD τ sig) → Buf (Elt F) ℓ) : RegionSeg (pcfgs (F := F)) adm (pd m) () defs₀ Variants.none noCells noLevel 4 :=
  segment (pd m) 4 launch4.win.to₀ (Pipeline.SharedIn.of_injective winFacts4.arr_inj) block_pos4 arr_whole4 stage_whole4
    (obl4 (W5 m)) (A4 (W5 m)) (end4 m) (W6_of m) (by decide)

/-- The host operations. -/
def host0 : Pipeline.HostSeg (Ix := Unit) (Name := ℕ) (U := UR sig nD τ) (Lvl := ℕ) (pcfgs (F := F)) defs₀ Variants.none noCells noLevel :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) clear

/-- The program's items. -/
abbrev items (_ : Dev nD) : List (Pipeline.Seg (pcfgs (F := F)) adm (pd m) () defs₀ Variants.none noCells noLevel) :=
  [.host (host0 m), .region (seg0 m), .region (seg1 m), .region (seg2 m), .region (seg3 m), .region (seg4 m)]

/-- An array that no item writes is at the end as at launch. -/
theorem kept (c : Dev nD) (r : Ref sig .tc) (h : r ∉ hostOps0_W ∧ r ∉ [main_v2] ∧ r ∉ [main_v3] ∧ r ∉ [main_v4] ∧ r ∉ [main_v5] ∧ r ∉ [main_v6_0, main_v6_1, main_v6_2]) : W6 m c r = m (c, r) :=
  (W6_of m c r h.2.2.2.2.2).trans <| (W5_of m c r h.2.2.2.2.1).trans <| (W4_of m c r h.2.2.2.1).trans <| (W3_of m c r h.2.2.1).trans <| (W2_of m c r h.2.1).trans <| W1_of m c r h.1

/-- The arguments on core `c` are as launched. -/
def Kept (m : (ℓ : Loc nD τ sig) → Buf (Elt F) ℓ) (c : Dev nD) (s : MemSt nD τ sig (Elt F)) : Prop :=
  Same m c s main_arg0 ∧ Same m c s main_arg1 ∧ Same m c s main_arg2 ∧ Same m c s main_arg3 ∧ Same m c s main_arg4 ∧ Same m c s main_arg5

/-- What a run ends with on core `c`: the arguments as launched, the five results as the calls leave them. -/
def Ends (m : (ℓ : Loc nD τ sig) → Buf (Elt F) ℓ) (c : Dev nD) (s : MemSt nD τ sig (Elt F)) : Prop :=
  Kept m c s
  ∧ s.mem ((c.tc : Thread nD τ).loc main_v3) = (dat1 (W2 m) c).arrAt 3 cfg1.N
  ∧ s.mem ((c.tc : Thread nD τ).loc main_v6_0) = (dat4 (W5 m) c).arrAt 4 cfg4.N
  ∧ s.mem ((c.tc : Thread nD τ).loc main_v6_1) = (dat4 (W5 m) c).arrAt 5 cfg4.N
  ∧ s.mem ((c.tc : Thread nD τ).loc main_v6_2) = (dat4 (W5 m) c).arrAt 6 cfg4.N
  ∧ s.mem ((c.tc : Thread nD τ).loc main_v5) = (dat3 (W4 m) c).arrAt 2 cfg3.N

set_option backward.isDefEq.respectTransparency.types false in
/-- Every run from zero counters terminates and ends so, with every counter at zero. -/
theorem run_tail : θ_run defs (onTc (τ := τ) (main (F := F))) ⟨m, fun _ => 0, ρ⟩ (fun r => (∀ c : Dev nD, Ends m c r.2) ∧ r.2.sem = fun _ => 0) :=
  launched (pd m) m ρ cellOf_inj main (items m) main_chain
    (fun c => by simp only [items, Pipeline.Seg.pipes_host, Pipeline.Seg.pipes_region, Pipeline.Seg.pipes_nil]; decide)
    (W6 m) (fun c => ⟨.rfl, .rfl, .rfl, .rfl, .rfl, .rfl, .rfl⟩) regions_no_unscoped fun c s rd =>
    have k := fun (b : Ref sig .tc) hb h => (rd b hb).trans (kept m c b h)
    ⟨⟨k _ rfl (by decide), k _ rfl (by decide), k _ rfl (by decide), k _ rfl (by decide), k _ rfl (by decide), k _ rfl (by decide)⟩,
      (rd main_v3 rfl).trans <| (W6_of m c _ (by decide)).trans <| (W5_of m c _ (by decide)).trans <| (W4_of m c _ (by decide)).trans <| W3_v3 m c,
      (rd main_v6_0 rfl).trans <| W6_v6_0 m c,
      (rd main_v6_1 rfl).trans <| W6_v6_1 m c,
      (rd main_v6_2 rfl).trans <| W6_v6_2 m c,
      (rd main_v5 rfl).trans <| (W6_of m c _ (by decide)).trans <| W5_v5 m c⟩

end Cert.Kernel5Ideal.Hand

end
-- ==== Proof.ConvVal.lean ====
/-
  The arrays of the end of the convolution module, call by call: each is the plain sum it is named after.
-/
module

public import proofs.«01_k».proof.Proof.ConvArr
public import proofs.«01_k».proof.Proof.ConvRun
public import proofs.«01_k».proof.Proof.Target
public import Idealize.ShloMosaic.Lib.StableHlo.Run

@[expose] public section

set_option maxRecDepth 16384

noncomputable section

namespace Cert.Kernel5Ideal.Hand

open Idealize.ShloMosaic Idealize.ShloMosaic.TcCoe Idealize.SL.Sem Idealize.ShloMosaic.Pointwise Idealize.ShloMosaic.Pipeline
open Cert.Kernel5Ideal Cert.Kernel5Ideal.Gen Cert.Conv
open Cert.Ffn (hrow)

variable (m : (ℓ : Loc nD τ sig) → Buf (Elt Ideal) ℓ) (c : Dev nD)

/-- The six arguments at launch. -/
abbrev aH : (⟨2, ![2048, 2048]⟩ : Shape).Idx → EReal := m (c.tc.loc main_arg0)
abbrev aY : (⟨2, ![2048, 2048]⟩ : Shape).Idx → EReal := m (c.tc.loc main_arg1)
abbrev aG : (⟨2, ![1, 2048]⟩ : Shape).Idx → EReal := m (c.tc.loc main_arg2)
abbrev aB : (⟨2, ![1, 2048]⟩ : Shape).Idx → EReal := m (c.tc.loc main_arg3)
abbrev aW : (⟨2, ![2048, 2048]⟩ : Shape).Idx → EReal := m (c.tc.loc main_arg4)
abbrev aD : (⟨2, ![2048, 2048]⟩ : Shape).Idx → EReal := m (c.tc.loc main_arg5)

/-! ## The arrays the host prepares, and where the calls find theirs -/

theorem v0_at (i d : Fin 2048) : (W1 m c main_v0 : Vec Ideal S2048x2048 .bf16) (ix2 i d) = aW m c (ix2 i d) := by
  unfold W1
  after_results
  pointwise
  rfl
theorem v1_at (i d : Fin 2048) : (W1 m c main_v1 : Vec Ideal S2048x2048 .bf16) (ix2 i d) = aD m c (ix2 i d) := by
  unfold W1
  after_results
  pointwise
  rfl
theorem W1_a1 : (W1 m c main_arg1 : S2048x2048.Idx → EReal) = aY m c := W1_of m c _ (by decide)
theorem W1_a2 : (W1 m c main_arg2 : S1x2048.Idx → EReal) = aG m c := W1_of m c _ (by decide)
theorem W1_a3 : (W1 m c main_arg3 : S1x2048.Idx → EReal) = aB m c := W1_of m c _ (by decide)
theorem W2_a0 : (W2 m c main_arg0 : S2048x2048.Idx → EReal) = aH m c := (W2_of m c _ (by decide)).trans <| W1_of m c _ (by decide)
theorem W2_v0 : W2 m c main_v0 = W1 m c main_v0 := W2_of m c _ (by decide)
theorem W3_v0 : W3 m c main_v0 = W1 m c main_v0 := (W3_of m c _ (by decide)).trans <| W2_v0 m c
theorem W3_v1 : W3 m c main_v1 = W1 m c main_v1 := (W3_of m c _ (by decide)).trans <| W2_of m c _ (by decide)
theorem W4_v1 : W4 m c main_v1 = W1 m c main_v1 := (W4_of m c _ (by decide)).trans <| W3_v1 m c
theorem W4_v2 : W4 m c main_v2 = W2 m c main_v2 := (W4_of m c _ (by decide)).trans <| W3_of m c _ (by decide)
theorem W5_v4 : W5 m c main_v4 = W4 m c main_v4 := W5_of m c _ (by decide)
theorem W5_arg (r : Ref sig .tc) (h2 : r ∉ ([main_v2] : List (Ref sig .tc))) (h3 : r ∉ ([main_v3] : List (Ref sig .tc)))
    (h4 : r ∉ ([main_v4] : List (Ref sig .tc))) (h5 : r ∉ ([main_v5] : List (Ref sig .tc))) : W5 m c r = W1 m c r :=
  (W5_of m c r h5).trans <| (W4_of m c r h4).trans <| (W3_of m c r h3).trans <| W2_of m c r h2
theorem W5_a1 : (W5 m c main_arg1 : S2048x2048.Idx → EReal) = aY m c := (W5_arg m c main_arg1 (by decide) (by decide) (by decide) (by decide)).trans (W1_a1 m c)
theorem W5_a2 : (W5 m c main_arg2 : S1x2048.Idx → EReal) = aG m c := (W5_arg m c main_arg2 (by decide) (by decide) (by decide) (by decide)).trans (W1_a2 m c)
theorem W5_a3 : (W5 m c main_arg3 : S1x2048.Idx → EReal) = aB m c := (W5_arg m c main_arg3 (by decide) (by decide) (by decide) (by decide)).trans (W1_a3 m c)

/-! ## The calls -/

/-- What the product takes in. -/
theorem v2_at (i d : Fin 2048) : (W2 m c main_v2 : Vec Ideal S2048x2048 .bf16) (ix2 i d) = s (aY m c) (aG m c) (aB m c) i d := by
  refine congrFun ((W2_v2 m c).trans (out0_3 (W1 m) c (fun x => s (aY m c) (aG m c) (aB m c) (x 0) (x 1)) (fun t a b i j hi hj => ?_))) (ix2 i d)
  show _ = s (aY m c) (aG m c) (aB m c) i j
  obtain rfl : j = b := Fin.ext hj
  have e0 : brow (in0_0 (W1 m) c t) a = hrow (aY m c) i := funext fun d => (blk0_0 (W1 m) c t a d i d hi rfl).trans (congrFun (W1_a1 m c) _)
  have e1 : one2 (in0_1 (W1 m) c t) = one2 (aG m c) := funext fun d => (blk0_1 (W1 m) c t d 0 d rfl rfl).trans (congrFun (W1_a2 m c) _)
  have e2 : one2 (in0_2 (W1 m) c t) = one2 (aB m c) := funext fun d => (blk0_2 (W1 m) c t d 0 d rfl rfl).trans (congrFun (W1_a3 m c) _)
  refine (pay0_at _ _ _ a j).trans ?_
  rw [e0, e1, e2]
  rfl
/-- The output. -/
theorem v3_eq : ((dat1 (W2 m) c).arrAt 3 cfg1.N : Vec Ideal S2048x2048 .f32) = fun x => out (aH m c) (aY m c) (aG m c) (aB m c) (aW m c) (x 0) (x 1) := by
  refine out1_3 (W2 m) c _ fun t a b i j hi hj => ?_
  show _ = out _ _ _ _ _ i j
  refine (pay1_at _ _ _ a b).trans ?_
  unfold out
  refine congrArg₂ (· + ·) ?_ (Finset.sum_congr rfl fun k _ => congrArg₂ (· * ·) ?_ ?_)
  · exact (blk1_2 (W2 m) c t a b i j hi hj).trans (congrFun (W2_a0 m c) _)
  · exact (blk1_0 (W2 m) c t a k i k hi rfl).trans (v2_at m c i k)
  · exact (blk1_1 (W2 m) c t k b k j rfl hj).trans ((congrFun (W2_v0 m c) _).trans (v0_at m c k j))
theorem v4_at (i k : Fin 2048) : (W4 m c main_v4 : Vec Ideal S2048x2048 .f32) (ix2 i k) = ds (aW m c) (aD m c) i k := by
  refine congrFun ((W4_v4 m c).trans (out2_2 (W3 m) c (fun x => ds (aW m c) (aD m c) (x 0) (x 1)) (fun t a b i j hi hj => ?_))) (ix2 i k)
  refine (pay2_at _ _ a b).trans (Finset.sum_congr rfl fun k _ => congrArg₂ (· * ·) ?_ ?_)
  · exact (blk2_0 (W3 m) c t a k i k hi rfl).trans ((congrFun (W3_v1 m c) _).trans (v1_at m c i k))
  · exact (blk2_1 (W3 m) c t b k j k hj rfl).trans ((congrFun (W3_v0 m c) _).trans (v0_at m c j k))
/-- The gradient of the weight. -/
theorem v5_eq : ((dat3 (W4 m) c).arrAt 2 cfg3.N : Vec Ideal S2048x2048 .bf16) = fun x => gradW (aY m c) (aG m c) (aB m c) (aD m c) (x 0) (x 1) := by
  refine out3_2 (W4 m) c _ fun t a b i j hi hj => ?_
  show _ = gradW _ _ _ _ i j
  refine (pay3_at _ _ a b).trans (Finset.sum_congr rfl fun k _ => congrArg₂ (· * ·) ?_ ?_)
  · exact (blk3_0 (W4 m) c t k a k i rfl hi).trans ((congrFun (W4_v2 m c) _).trans (v2_at m c k i))
  · exact (blk3_1 (W4 m) c t k b k j rfl hj).trans ((congrFun (W4_v1 m c) _).trans (v1_at m c k j))

section
variable (t : Fin cfg4.N)
theorem i40_at (a : Fin 256) (i : Fin 2048) (hi : i.val = t.val * 256 + a.val) : brow (in4_0 (W5 m) c t) a = hrow (aY m c) i :=
  funext fun d => (blk4_0 (W5 m) c t a d i d hi rfl).trans (congrFun (W5_a1 m c) _)
theorem i41_at (a : Fin 256) (i : Fin 2048) (hi : i.val = t.val * 256 + a.val) : brow (in4_1 (W5 m) c t) a = ds (aW m c) (aD m c) i :=
  funext fun d => (blk4_1 (W5 m) c t a d i d hi rfl).trans ((congrFun (W5_v4 m c) _).trans (v4_at m c i d))
theorem i42_at : one2 (in4_2 (W5 m) c t) = one2 (aG m c) :=
  funext fun d => (blk4_2 (W5 m) c t d 0 d rfl rfl).trans (congrFun (W5_a2 m c) _)
theorem i43_at : one2 (in4_3 (W5 m) c t) = one2 (aB m c) :=
  funext fun d => (blk4_3 (W5 m) c t d 0 d rfl rfl).trans (congrFun (W5_a3 m c) _)
end
/-- The gradient of the input. -/
theorem v60_eq : ((dat4 (W5 m) c).arrAt 4 cfg4.N : Vec Ideal S2048x2048 .f32) = fun x => gradY (aY m c) (aG m c) (aB m c) (aW m c) (aD m c) (x 0) (x 1) := by
  refine out4_4 (W5 m) c _ fun t a b i j hi hj => ?_
  obtain rfl : j = b := Fin.ext hj
  show _ = gradY _ _ _ _ _ i j
  have eg : ∀ d, (in4_2 (W5 m) c t (ix2 0 d) : EReal) = aG m c (ix2 0 d) := fun d => congrFun (i42_at m c t) d
  refine (pay4_at _ _ _ _ a j).trans ?_
  simp only [i40_at m c t a i hi, i41_at m c t a i hi, i42_at m c t, i43_at m c t, eg]
  rfl
/-- The gradients of the gain and of the bias: what the eight blocks of rows add up to. -/
theorem v61_eq : ((dat4 (W5 m) c).arrAt 5 cfg4.N : Vec Ideal S1x2048 .f32) = fun x => gradG (aY m c) (aG m c) (aB m c) (aW m c) (aD m c) (x 1) := by
  refine out4_5 (W5 m) c _ fun t hf b i j hi hj => ?_
  obtain rfl : j = b := Fin.ext hj
  show _ = gradG _ _ _ _ _ j
  have ht := Nat.lt_of_lt_of_eq t.isLt N_4
  refine (upTo_sum _ _ (fun v => (v (ix2 0 j) : EReal)) (fun X Y => add4g_at j X Y) t.val t.isLt (Eq.trans (by omega : t.val + 1 = 8) N_4.symm)).trans ?_
  unfold gradG
  rw [Fin.sum_univ_tiles cfg4.N 256 (by rw [show cfg4.N = 8 from N_4] : cfg4.N * 256 = 2048)]
  refine Finset.sum_congr rfl fun k _ => (step4g_at _ _ _ _ j).trans (Finset.sum_congr rfl fun r _ => ?_)
  have hk := Nat.lt_of_lt_of_eq k.isLt N_4
  rw [i40_at m c k r ⟨k.val * 256 + r.val, by omega⟩ rfl, i41_at m c k r ⟨k.val * 256 + r.val, by omega⟩ rfl, i42_at m c k, i43_at m c k]
  rfl
theorem v62_eq : ((dat4 (W5 m) c).arrAt 6 cfg4.N : Vec Ideal S1x2048 .f32) = fun x => gradB (aY m c) (aG m c) (aB m c) (aW m c) (aD m c) (x 1) := by
  refine out4_6 (W5 m) c _ fun t hf b i j hi hj => ?_
  obtain rfl : j = b := Fin.ext hj
  show _ = gradB _ _ _ _ _ j
  have ht := Nat.lt_of_lt_of_eq t.isLt N_4
  refine (upTo_sum _ _ (fun v => (v (ix2 0 j) : EReal)) (fun X Y => add4b_at j X Y) t.val t.isLt (Eq.trans (by omega : t.val + 1 = 8) N_4.symm)).trans ?_
  unfold gradB
  rw [Fin.sum_univ_tiles cfg4.N 256 (by rw [show cfg4.N = 8 from N_4] : cfg4.N * 256 = 2048)]
  refine Finset.sum_congr rfl fun k _ => (step4b_at _ _ _ _ j).trans (Finset.sum_congr rfl fun r _ => ?_)
  have hk := Nat.lt_of_lt_of_eq k.isLt N_4
  rw [i40_at m c k r ⟨k.val * 256 + r.val, by omega⟩ rfl, i41_at m c k r ⟨k.val * 256 + r.val, by omega⟩ rfl, i42_at m c k, i43_at m c k]
  rfl

end Cert.Kernel5Ideal.Hand

end
-- ==== Proof.ConvRef.lean ====
/-
  The fifth reference program's five results, entry by entry: the end of the convolution module and its gradients as plain
  sums, whatever the arguments hold.
-/
module

public import proofs.«01_k».proof.Proof.ConvSpec
public import proofs.«01_k».proof.Proof.Gen.Reference5Ideal.Run
public import proofs.«01_k».proof.Proof.Gen.Reference5Ideal.Read

@[expose] public section

set_option maxRecDepth 16384

noncomputable section

namespace Cert.Reference5Ideal.Hand

open Idealize.ShloMosaic Idealize.ShloMosaic.TcCoe Idealize.SL.Sem Idealize.ShloMosaic.Pointwise
open Cert.Reference5Ideal Cert.Reference5Ideal.Gen Cert.Reference5Ideal.Read Cert.Conv
open Cert.Ffn (hrow mhalf epsN)

variable (h y : Vec Ideal S2048x2048 .f32) (g b : Vec Ideal S1x2048 .f32) (w dh : Vec Ideal S2048x2048 .f32)

theorem v5_at (i d : Fin 2048) : val_main_v5 (F := Ideal) y (ix2 i d) = cen (hrow y i) d := by
  unfold val_main_v5 val_main_v4 val_main_v3 val_main_v2 val_main_cst_0 val_main_v1 val_main_v0 val_main_cst
  pointwise
  rfl
theorem v12_at (i : Fin 2048) : val_main_v12 (F := Ideal) y (ix2 i 0) = vr (hrow y i) := by
  unfold val_main_v12 val_main_v11 val_main_cst_3 val_main_v10 val_main_v9 val_main_cst_2 val_main_v8 val_main_v7 val_main_cst_1 val_main_v6
  pointwise
  simp only [v5_at]
  rfl
theorem v13_at (i : Fin 2048) : val_main_v13 (F := Ideal) y (ix2 i 0) = rs (hrow y i) := by
  unfold val_main_v13
  pointwise
  rw [v12_at]
  rfl
theorem v16_at (i : Fin 2048) : val_main_v16 (F := Ideal) y (ix2 i 0) = mhalf * Ideal.div (rs (hrow y i)) (vr (hrow y i)) := by
  unfold val_main_v16 val_main_v15 val_main_cst_4 val_main_v14
  pointwise
  rw [v12_at, v13_at]
  rfl
theorem v18_at (i d : Fin 2048) : val_main_v18 (F := Ideal) y (ix2 i d) = nm (hrow y i) d := by
  unfold val_main_v18 val_main_v17
  pointwise
  rw [v5_at, v13_at]
  rfl
theorem v22_at (i d : Fin 2048) : val_main_v22 (F := Ideal) y g b (ix2 i d) = z (hrow y i) (one2 g) (one2 b) d := by
  unfold val_main_v22 val_main_v21 val_main_v20 val_main_v19
  pointwise
  rw [v18_at]
  rfl
theorem v232_at (i d : Fin 2048) : val_main_v23_2 (F := Ideal) y g b (ix2 i d) = Ideal.logistic (z (hrow y i) (one2 g) (one2 b) d) := by
  unfold val_main_v23_2 val_main_call0_v4 val_main_call0_cst_0 val_main_call0_v3 val_main_call0_v2 val_main_call0_cst val_main_call0_v1 val_main_call0_v0
  pointwise
  rw [v22_at]
  rfl
theorem v230_at (i d : Fin 2048) : val_main_v23_0 (F := Ideal) y g b (ix2 i d) = s y g b i d := by
  unfold val_main_v23_0
  pointwise
  rw [v22_at, v232_at]
  rfl
/-- The output. -/
theorem v25_at (i d : Fin 2048) : val_main_v25 (F := Ideal) h y g b w (ix2 i d) = out h y g b w i d := by
  unfold val_main_v25 val_main_v24 out
  pointwise
  simp only [v230_at]
theorem v26_at (i d : Fin 2048) : val_main_v26 (F := Ideal) dh (ix2 i d) = dh (ix2 i d) := by
  unfold val_main_v26
  pointwise
theorem v29_at (i k : Fin 2048) : val_main_v29 (F := Ideal) w dh (ix2 i k) = ds w dh i k := by
  unfold val_main_v29 ds
  pointwise
  simp only [v26_at]
theorem v30_at (i k : Fin 2048) : val_main_v30 (F := Ideal) y g b w dh (ix2 i k) = dzs y g b w dh i k := by
  unfold val_main_v30 val_main_call1_v2 val_main_call1_v1 val_main_call1_v0 val_main_v23_1 val_main_call0_v7 val_main_call0_v6 val_main_call0_cst_1
  pointwise
  rw [v22_at, v29_at, v232_at]
  rfl
/-- The gradients of the bias and of the gain. -/
theorem v32_at (d : Fin 2048) : val_main_v32 (F := Ideal) y g b w dh (ix2 0 d) = gradB y g b w dh d := by
  unfold val_main_v32 val_main_v31 val_main_cst_5 gradB
  pointwise
  simp only [v30_at]
theorem v35_at (d : Fin 2048) : val_main_v35 (F := Ideal) y g b w dh (ix2 0 d) = gradG y g b w dh d := by
  unfold val_main_v35 val_main_v34 val_main_cst_6 val_main_v33 gradG
  pointwise
  simp only [v18_at, v30_at]
theorem v37_at (i d : Fin 2048) : val_main_v37 (F := Ideal) y g b w dh (ix2 i d) = dzs y g b w dh i d * g (ix2 0 d) := by
  unfold val_main_v37 val_main_v36
  pointwise
  rw [v30_at]
theorem v47_at (i d : Fin 2048) : val_main_v47 (F := Ideal) y g b w dh (ix2 i d)
    = thruV (hrow y i) (fun k => dzs y g b w dh i k * g (ix2 0 k)) := by
  unfold val_main_v47 val_main_v46 val_main_cst_9 val_main_v45 val_main_v44 val_main_cst_8 val_main_v43 val_main_v40 val_main_v39 val_main_cst_7 val_main_v38
  pointwise
  rw [Fin.sum_univ_one]
  simp only [v5_at, v37_at, v16_at]
  rfl
theorem v51_at (i d : Fin 2048) : val_main_v51 (F := Ideal) y g b w dh (ix2 i d)
    = backC (hrow y i) (fun k => dzs y g b w dh i k * g (ix2 0 k)) d := by
  unfold val_main_v51 val_main_v50 val_main_v49 val_main_v48 val_main_v42 val_main_v41
  pointwise
  rw [v37_at, v47_at, v13_at, v5_at]
  rfl
/-- The gradient of the input. -/
theorem v59_at (i d : Fin 2048) : val_main_v59 (F := Ideal) y g b w dh (ix2 i d) = gradY y g b w dh i d := by
  unfold val_main_v59 val_main_v58 val_main_v57 val_main_cst_12 val_main_v56 val_main_v55 val_main_cst_11 val_main_v54 val_main_v53 val_main_cst_10 val_main_v52
  pointwise
  rw [Fin.sum_univ_one]
  simp only [v51_at]
  rfl
/-- The gradient of the weight. -/
theorem v60_at (k d : Fin 2048) : val_main_v60 (F := Ideal) y g b dh (ix2 k d) = gradW y g b dh k d := by
  unfold val_main_v60 val_main_v28 val_main_v27 gradW
  pointwise
  simp only [v26_at, v230_at]
  exact Finset.sum_congr rfl fun t _ => by rw [mul_comm]

end Cert.Reference5Ideal.Hand

end
-- ==== Proof.ConvSame.lean ====
/-
  The calls of the end of the convolution module over the machine's floats and over the extended reals: one table of bodies.
-/
module

public import proofs.«01_k».proof.Proof.Gen.Kernel5
public import proofs.«01_k».proof.Proof.Gen.Kernel5Ideal
public import Idealize.ShloMosaic.PureOps.BitExact

@[expose] public section

set_option maxRecDepth 16384

noncomputable section

namespace Cert.Proof

open Idealize.ShloMosaic Idealize.SL.Sem

set_option maxHeartbeats 4000000 in
/-- The bodies of these calls are the same text in the two programs. -/
theorem bodies5_eq : (Cert.Kernel5.defs₀ (F := Bits)) = Cert.Kernel5Ideal.defs₀ (F := Bits) := by
  unfold Cert.Kernel5.defs₀ Cert.Kernel5Ideal.defs₀
  refine congrArg Defs.onTc ?_
  funext l a
  match l, a with
  | 0, (t, s) => rfl
  | 1, (t, s) => rfl
  | 2, (t, s) => rfl
  | 3, (t, s) => rfl
  | 4, (t, s) => rfl

set_option maxHeartbeats 16000000 in
/-- So are their tables of bodies. -/
theorem defs5_eq : (Cert.Kernel5.defs (F := Bits)) = Cert.Kernel5Ideal.defs (F := Bits) := by
  unfold Cert.Kernel5.defs Cert.Kernel5Ideal.defs
  rw [bodies5_eq]; rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_qk
public import proofs.«01_k».proof.Proof.Arrays
public import proofs.«01_k».proof.Proof.Ref
public import proofs.«01_k».proof.Proof.Gen.Kernel2
public import proofs.«01_k».proof.Proof.Gen.Kernel2.Skeleton
public import proofs.«01_k».proof.Proof.Gen.Kernel2.Launch
public import proofs.«01_k».proof.Proof.Gen.Kernel2.Regions
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Regions
public import proofs.«01_k».proof.Proof.Gen.Kernel2Ideal.Points
public import proofs.«01_k».proof.Proof.Gen.Reference2Ideal
public import proofs.«01_k».proof.Proof.Gen.Pre_finite_ffn
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Regions
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Regions
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Regions
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Regions
public import proofs.«01_k».proof.Proof.Gen.Kernel4Ideal.Points
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Regions
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Regions
public import proofs.«01_k».proof.Proof.Gen.Kernel5Ideal.Points
public import proofs.«01_k».proof.Proof.Gen.Reference5Ideal
public import proofs.«01_k».proof.Proof.Gen.Reference5Ideal.Run
public import proofs.«01_k».proof.Proof.Gen.Reference5Ideal.Read
public import proofs.«01_k».proof.Proof.FfnVal
public import proofs.«01_k».proof.Proof.FfnRef
public import proofs.«01_k».proof.Proof.FfnSame
public import proofs.«01_k».proof.Proof.PleVal
public import proofs.«01_k».proof.Proof.PleRef
public import proofs.«01_k».proof.Proof.PleSame
public import proofs.«01_k».proof.Proof.MlaVal
public import proofs.«01_k».proof.Proof.MlaRef
public import proofs.«01_k».proof.Proof.MlaSame
public import proofs.«01_k».proof.Proof.ConvVal
public import proofs.«01_k».proof.Proof.ConvRef
public import proofs.«01_k».proof.Proof.ConvSame
public import Idealize.ShloMosaic.Adequacy
public import Idealize.ShloMosaic.Init

@[expose] public section

set_option maxRecDepth 16384

noncomputable section

namespace Cert.Proof

open Idealize.ShloMosaic Idealize.SL.Sem Idealize.ShloMosaic.Pointwise Idealize.ShloMosaic.TcCoe

/-- An index of a single row. -/
theorem row (i : (⟨2, ![1, 2048]⟩ : Shape).Idx) : i = ix2 0 (i 1) := Cert.Kernel5Ideal.Hand.only2 (n1 := 2048) i

/-- A number whose absolute value is below plus infinity is a real number. -/
theorem real_of_abs {x : EReal} (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have h' : max x (-x) < ⊤ := by
    by_contra hn
    have : Ideal.cmp .olt (max x (-x)) ⊤ = 0#1 := by
      unfold Ideal.cmp
      dsimp only
      rw [decide_eq_false hn]; rfl
    rw [this] at h
    exact absurd h (by decide)
  rw [max_lt_iff] at h'
  refine ⟨x.toReal, (EReal.coe_toReal h'.1.ne ?_).symm⟩
  rintro rfl
  exact absurd h'.2 (by simp)

section
variable [Cert.Pre_finite_qk.Facts]
open Cert.Pre_finite_qk.Facts

/-- The stated precondition: queries and keys are real numbers. -/
theorem real_of_pre (q k : Vec Ideal ⟨3, ![2048, 16, 192]⟩ .f32) (v o : Vec Ideal ⟨3, ![2048, 16, 128]⟩ .f32)
    (h : (Cert.Pre_finite_qk.fn (F := Ideal) q k v o).1 = (fun _ => 1#1) ∧ (Cert.Pre_finite_qk.fn (F := Ideal) q k v o).2 = (fun _ => 1#1)) :
    Cert.Attn.AllReal q ∧ Cert.Attn.AllReal k :=
  ⟨fun i => real_of_abs (congrFun h.1 i), fun i => real_of_abs (congrFun h.2 i)⟩
end

section
variable [Cert.Pre_finite_ffn.Facts]
open Cert.Pre_finite_ffn.Facts

/-- The second stated precondition: gain, weights and cotangent are real numbers. -/
theorem real_of_pre2 (h : Vec Ideal ⟨2, ![2048, 2048]⟩ .f32) (gain : Vec Ideal ⟨2, ![1, 2048]⟩ .f32) (wi : Vec Ideal ⟨2, ![2048, 11264]⟩ .f32)
    (wo : Vec Ideal ⟨2, ![5632, 2048]⟩ .f32) (dh : Vec Ideal ⟨2, ![2048, 2048]⟩ .f32)
    (e : (Cert.Pre_finite_ffn.fn (F := Ideal) h gain wi wo dh).1 = (fun _ => 1#1) ∧ (Cert.Pre_finite_ffn.fn (F := Ideal) h gain wi wo dh).2.1 = (fun _ => 1#1)
      ∧ (Cert.Pre_finite_ffn.fn (F := Ideal) h gain wi wo dh).2.2.1 = (fun _ => 1#1) ∧ (Cert.Pre_finite_ffn.fn (F := Ideal) h gain wi wo dh).2.2.2 = (fun _ => 1#1)) :
    Cert.Attn.AllReal gain ∧ Cert.Attn.AllReal wi ∧ Cert.Attn.AllReal wo ∧ Cert.Attn.AllReal dh :=
  ⟨fun i => real_of_abs (congrFun e.1 i), fun i => real_of_abs (congrFun e.2.1 i), fun i => real_of_abs (congrFun e.2.2.1 i), fun i => real_of_abs (congrFun e.2.2.2 i)⟩
end

open Cert.KernelIdeal.Hand Cert.Attn

/-- The reference leaves its arguments as they were; it has no semaphores. -/
theorem refFrame : Cert.quiescent_ReferenceIdeal := fun m ρ _ =>
  (θ_run _ _ _).mono (fun r h => ⟨fun c => (h c).2.2.2, sem_eq_zero_of_no_sems (by decide) r.2⟩) (Cert.ReferenceIdeal.Value.run m ρ)

/-- The kernel's body is the same text in the two programs. -/
theorem bodies_eq : (Cert.Kernel.defs₀ (F := Bits)) = Cert.KernelIdeal.defs₀ (F := Bits) := by
  unfold Cert.Kernel.defs₀ Cert.KernelIdeal.defs₀
  refine congrArg Defs.onTc ?_
  funext l a
  match l, a with
  | 0, (t, s) => rfl

/-- So are their tables of bodies. -/
theorem defs_eq : (Cert.Kernel.defs (F := Bits)) = Cert.KernelIdeal.defs (F := Bits) := by
  unfold Cert.Kernel.defs Cert.KernelIdeal.defs
  rw [bodies_eq]; rfl

/-- The kernel over the machine's floats: the same program text as its idealization, whose run is proved over any floats. -/
theorem frameKernel : Cert.quiescent_Kernel := by
  intro m ρ _
  rw [defs_eq]
  exact Cert.KernelIdeal.Hand.frame (F := Bits) m ρ

set_option maxHeartbeats 4000000 in
/-- The second reference leaves its arguments as they were; it has no semaphores. -/
theorem refFrame2 : Cert.quiescent_Reference2Ideal := fun m ρ _ =>
  (θ_run _ _ _).mono (fun r h => ⟨fun c => (h c).2.2.2.2.2, sem_eq_zero_of_no_sems (by decide) r.2⟩) (Cert.Reference2Ideal.Value.run m ρ)

/-- The feed-forward calls over any floats: they end with their arguments as launched. -/
theorem frame2 {F : FTy → Type} [FloatOps F] (m : (ℓ : Loc Cert.Kernel2Ideal.nD Cert.Kernel2Ideal.τ Cert.Kernel2Ideal.sig) → Buf (Elt F) ℓ)
    (ρ : Dev Cert.Kernel2Ideal.nD → PrngReg) : θ_run (Cert.Kernel2Ideal.defs (F := F)) (onTc (τ := Cert.Kernel2Ideal.τ) (Cert.Kernel2Ideal.main (F := F))) ⟨m, fun _ => 0, ρ⟩
      (fun r => (∀ c : Dev Cert.Kernel2Ideal.nD, Cert.Kernel2Ideal.Hand.Kept m c r.2) ∧ r.2.sem = fun _ => 0) :=
  (θ_run _ _ _).mono (fun r h => ⟨fun c => (h.1 c).1, h.2⟩) (Cert.Kernel2Ideal.Hand.run_ffn m ρ)

set_option maxHeartbeats 16000000 in
/-- The machine's floats included. -/
theorem frameKernel2 : Cert.quiescent_Kernel2 := by
  intro m ρ _
  rw [defs2_eq]
  exact frame2 (F := Bits) m ρ

open Cert.Kernel2Ideal.Hand Cert.Ffn in
/-- The feed-forward block's output and gradients: the two programs return the same. -/
theorem algebraic2 : Cert.algebraic_Kernel2Ideal_Reference2Ideal_pre_finite_ffn := by
  intro m g m' g' hpre harg
  have hr := fun c => real_of_pre2 _ _ _ _ _ (hpre c)
  refine ⟨fun c x => outH (aH m c) (aG m c) (aI m c) (aO m c) (x 0) (x 1),
    fun c x => gradH (aH m c) (aG m c) (aI m c) (aO m c) (aD m c) (x 0) (x 1), fun c x => gradGain (aH m c) (aG m c) (aI m c) (aO m c) (aD m c) (x 1),
    fun c x => gradWi (aH m c) (aG m c) (aI m c) (aO m c) (aD m c) (x 1) (col (x 0) (x 2)), fun c x => gradWo (aH m c) (aG m c) (aI m c) (aD m c) (x 0) (x 1), ?_, ?_⟩
  · refine (θ_run _ _ _).mono (fun r h c => ?_) (run_ffn m g)
    obtain ⟨ha, hz, h0, h1, h2, h3⟩ := h.1 c
    exact ⟨hz.trans (v12_eq m c), h0.trans (v110_eq m c), h1.trans (v112_eq m c), h2.trans (v9_eq m c), h3.trans (v8_eq m c), ha⟩
  · refine (θ_run _ _ _).mono (fun r h c => ?_) (Cert.Reference2Ideal.Value.run m' g')
    obtain ⟨hz, h0, h1, h2, h3, h4⟩ := h c
    obtain ⟨a0, a1, a2, a3, a4⟩ := harg c
    obtain ⟨r1, r2, r3, r4⟩ := hr c
    refine ⟨hz.trans ?_, h0.trans ?_, h1.trans ?_, h2.trans ?_, h3.trans ?_, h4⟩
    · rw [a0, a1, a2, a3]
      refine (Cert.Reference2Ideal.Read.val_main_v25_eq _ _ _ _).trans ?_
      funext i
      refine (congrArg _ (eq_ix2 (n0 := 2048) (n1 := 2048) i)).trans ?_
      exact Cert.Reference2Ideal.Hand.v25_at _ _ _ _ (i 0) (i 1)
    · rw [Cert.Reference2Ideal.Read.val_main_v59_eq, a0, a1, a2, a3, a4]
      funext i
      refine (congrArg _ (eq_ix2 (n0 := 2048) (n1 := 2048) i)).trans ?_
      exact Cert.Reference2Ideal.Hand.v59_at _ _ _ _ _ r1 r2 r3 r4 (i 0) (i 1)
    · rw [Cert.Reference2Ideal.Read.val_main_v60_eq, a0, a1, a2, a3, a4]
      funext i
      refine (congrArg _ (row i)).trans ?_
      exact Cert.Reference2Ideal.Hand.v60_at _ _ _ _ _ r1 r2 r3 r4 (i 1)
    · rw [Cert.Reference2Ideal.Read.val_main_v63_eq, a0, a1, a2, a3, a4]
      funext i
      refine (congrArg _ (eq_ix3 (n0 := 8) (n1 := 2048) (n2 := 1408) i)).trans ?_
      refine (Cert.Reference2Ideal.Hand.v63_at _ _ _ _ _ r1 r2 r3 r4 (i 0) (i 1) (i 2)).trans ?_
      refine congrArg (gradWi _ _ _ _ _ _) (Fin.ext ?_)
      show _ * 1408 + _ = 1408 * _ + _
      rw [Nat.mul_comm]
    · rw [Cert.Reference2Ideal.Read.val_main_v64_eq, a0, a1, a2, a4]
      funext i
      refine (congrArg _ (eq_ix2 (n0 := 5632) (n1 := 2048) i)).trans ?_
      exact Cert.Reference2Ideal.Hand.v64_at _ _ _ _ (i 0) (i 1)

set_option maxHeartbeats 4000000 in
/-- The third reference leaves its arguments as they were; it has no semaphores. -/
theorem refFrame3 : Cert.quiescent_Reference3Ideal := fun m ρ _ =>
  (θ_run _ _ _).mono (fun r h => ⟨fun c => (h c).2.2.2.2.2.2, sem_eq_zero_of_no_sems (by decide) r.2⟩) (Cert.Reference3Ideal.Value.run m ρ)

/-- The calls of the per-layer embedding over any floats: they end with their arguments as launched. -/
theorem frame3 {F : FTy → Type} [FloatOps F] (m : (ℓ : Loc Cert.Kernel3Ideal.nD Cert.Kernel3Ideal.τ Cert.Kernel3Ideal.sig) → Buf (Elt F) ℓ)
    (ρ : Dev Cert.Kernel3Ideal.nD → PrngReg) : θ_run (Cert.Kernel3Ideal.defs (F := F)) (onTc (τ := Cert.Kernel3Ideal.τ) (Cert.Kernel3Ideal.main (F := F))) ⟨m, fun _ => 0, ρ⟩
      (fun r => (∀ c : Dev Cert.Kernel3Ideal.nD, Cert.Kernel3Ideal.Hand.Kept m c r.2) ∧ r.2.sem = fun _ => 0) :=
  (θ_run _ _ _).mono (fun r h => ⟨fun c => (h.1 c).1, h.2⟩) (Cert.Kernel3Ideal.Hand.run_ple m ρ)

set_option maxHeartbeats 16000000 in
/-- The machine's floats included. -/
theorem frameKernel3 : Cert.quiescent_Kernel3 := by
  intro m ρ _
  rw [defs3_eq]
  exact frame3 (F := Bits) m ρ

open Cert.Kernel3Ideal.Hand Cert.Ple in
/-- The per-layer embedding's output and gradients: the two programs return the same. -/
theorem algebraic3 : Cert.algebraic_Kernel3Ideal_Reference3Ideal := by
  intro m g m' g' _ harg
  refine ⟨fun c x => out (aH m c) (aP m c) (aW m c) (aN m c) (aG m c) (aS m c) (x 0) (x 1),
    fun c x => gradH (aH m c) (aP m c) (aW m c) (aN m c) (aG m c) (aS m c) (aD m c) (x 0) (x 1),
    fun c x => gradPn (aH m c) (aP m c) (aW m c) (aG m c) (aS m c) (aD m c) (x 1),
    fun c x => gradGn (aH m c) (aP m c) (aW m c) (aN m c) (aG m c) (aS m c) (aD m c) (x 1),
    fun c x => gradWp (aH m c) (aP m c) (aW m c) (aN m c) (aG m c) (aS m c) (aD m c) (x 1) (col (x 0) (x 2)),
    fun c x => gradWg (aH m c) (aP m c) (aW m c) (aN m c) (aG m c) (aS m c) (aD m c) (x 0) (x 1), ?_, ?_⟩
  · refine (θ_run _ _ _).mono (fun r h c => ?_) (run_ple m g)
    obtain ⟨ha, h0, h1, h2, h3, h4, h5⟩ := h.1 c
    exact ⟨h0.trans (v7_eq m c), h1.trans (v120_eq m c), h2.trans (v82_eq m c), h3.trans (v122_eq m c), h4.trans (v9_eq m c), h5.trans (v10_eq m c), ha⟩
  · refine (θ_run _ _ _).mono (fun r h c => ?_) (Cert.Reference3Ideal.Value.run m' g')
    obtain ⟨h0, h1, h2, h3, h4, h5, h6⟩ := h c
    obtain ⟨a0, a1, a2, a3, a4, a5, a6⟩ := harg c
    refine ⟨h0.trans ?_, h1.trans ?_, h2.trans ?_, h3.trans ?_, h4.trans ?_, h5.trans ?_, h6⟩
    · rw [a0, a1, a2, a3, a4, a5]
      refine (Cert.Reference3Ideal.Read.val_main_v46_eq _ _ _ _ _ _).trans ?_
      funext i
      refine (congrArg _ (eq_ix2 (n0 := 2048) (n1 := 2048) i)).trans ?_
      exact Cert.Reference3Ideal.Hand.v46_at _ _ _ _ _ _ (i 0) (i 1)
    · rw [Cert.Reference3Ideal.Read.val_main_v74_eq, a0, a1, a2, a3, a4, a5, a6]
      funext i
      refine (congrArg _ (eq_ix2 (n0 := 2048) (n1 := 2048) i)).trans ?_
      exact Cert.Reference3Ideal.Hand.v74_at _ _ _ _ _ _ _ (i 0) (i 1)
    · rw [a0, a1, a2, a4, a5, a6]
      refine (Cert.Reference3Ideal.Read.val_main_v96_eq _ _ _ _ _ _).trans ?_
      funext i
      refine (congrArg _ (row i)).trans ?_
      exact Cert.Reference3Ideal.Hand.v96_at _ _ _ _ _ _ (i 1)
    · rw [Cert.Reference3Ideal.Read.val_main_v75_eq, a0, a1, a2, a3, a4, a5, a6]
      funext i
      refine (congrArg _ (row i)).trans ?_
      exact Cert.Reference3Ideal.Hand.v75_at _ _ _ _ _ _ _ (i 1)
    · rw [Cert.Reference3Ideal.Read.val_main_v101_eq, a0, a1, a2, a3, a4, a5, a6]
      funext i
      refine (congrArg _ (eq_ix3 (n0 := 8) (n1 := 256) (n2 := 256) i)).trans ?_
      refine (Cert.Reference3Ideal.Hand.v101_at _ _ _ _ _ _ _ (i 0) (i 1) (i 2)).trans ?_
      refine congrArg (gradWp _ _ _ _ _ _ _ _) (Fin.ext ?_)
      show _ * 256 + _ = 256 * _ + _
      rw [Nat.mul_comm]
    · rw [Cert.Reference3Ideal.Read.val_main_v102_eq, a0, a1, a2, a3, a4, a5, a6]
      funext i
      refine (congrArg _ (eq_ix2 (n0 := 2048) (n1 := 2048) i)).trans ?_
      exact Cert.Reference3Ideal.Hand.v102_at _ _ _ _ _ _ _ (i 0) (i 1)

set_option maxHeartbeats 4000000 in
/-- The fourth reference leaves its arguments as they were; it has no semaphores. -/
theorem refFrame4 : Cert.quiescent_Reference4Ideal := fun m ρ _ =>
  (θ_run _ _ _).mono (fun r h => ⟨fun c => (h c).2.2.2, sem_eq_zero_of_no_sems (by decide) r.2⟩) (Cert.Reference4Ideal.Value.run m ρ)

/-- The calls of the output product over any floats: they end with their arguments as launched. -/
theorem frame4 {F : FTy → Type} [FloatOps F] (m : (ℓ : Loc Cert.Kernel4Ideal.nD Cert.Kernel4Ideal.τ Cert.Kernel4Ideal.sig) → Buf (Elt F) ℓ)
    (ρ : Dev Cert.Kernel4Ideal.nD → PrngReg) : θ_run (Cert.Kernel4Ideal.defs (F := F)) (onTc (τ := Cert.Kernel4Ideal.τ) (Cert.Kernel4Ideal.main (F := F))) ⟨m, fun _ => 0, ρ⟩
      (fun r => (∀ c : Dev Cert.Kernel4Ideal.nD, Cert.Kernel4Ideal.Hand.Kept m c r.2) ∧ r.2.sem = fun _ => 0) :=
  (θ_run _ _ _).mono (fun r h => ⟨fun c => (h.1 c).1, h.2⟩) (Cert.Kernel4Ideal.Hand.run_mla m ρ)

set_option maxHeartbeats 16000000 in
/-- The machine's floats included. -/
theorem frameKernel4 : Cert.quiescent_Kernel4 := by
  intro m ρ _
  rw [defs4_eq]
  exact frame4 (F := Bits) m ρ

open Cert.Kernel4Ideal.Hand Cert.Mla in
/-- The output product and its gradients: the two programs return the same. -/
theorem algebraic4 : Cert.algebraic_Kernel4Ideal_Reference4Ideal := by
  intro m g m' g' _ harg
  refine ⟨fun c x => out (aH m c) (aO m c) (aW m c) (x 0) (x 1), fun c x => gradO (aW m c) (aD m c) (x 0) (x 1),
    fun c x => gradW (aO m c) (aD m c) (x 0) (x 1), ?_, ?_⟩
  · refine (θ_run _ _ _).mono (fun r h c => ?_) (run_mla m g)
    obtain ⟨ha, h0, h1, h2⟩ := h.1 c
    exact ⟨h0.trans (v4_eq m c), h1.trans (v5_eq m c), h2.trans (v6_eq m c), ha⟩
  · refine (θ_run _ _ _).mono (fun r h c => ?_) (Cert.Reference4Ideal.Value.run m' g')
    obtain ⟨h0, h1, h2, h3⟩ := h c
    obtain ⟨a0, a1, a2, a3⟩ := harg c
    refine ⟨h0.trans ?_, h1.trans ?_, h2.trans ?_, h3⟩
    · rw [Cert.Reference4Ideal.Read.val_main_v2_eq, a0, a1, a2]
      funext i
      exact (congrArg _ (eq_ix2 (n0 := 2048) (n1 := 2048) i)).trans (Cert.Reference4Ideal.Hand.v2_at _ _ _ (i 0) (i 1))
    · rw [Cert.Reference4Ideal.Read.val_main_v9_eq, a2, a3]
      funext i
      exact (congrArg _ (eq_ix2 (n0 := 2048) (n1 := 2048) i)).trans (Cert.Reference4Ideal.Hand.v9_at _ _ (i 0) (i 1))
    · rw [Cert.Reference4Ideal.Read.val_main_v10_eq, a1, a3]
      funext i
      exact (congrArg _ (eq_ix2 (n0 := 2048) (n1 := 2048) i)).trans (Cert.Reference4Ideal.Hand.v10_at _ _ (i 0) (i 1))

set_option maxHeartbeats 4000000 in
/-- The fifth reference leaves its arguments as they were; it has no semaphores. -/
theorem refFrame5 : Cert.quiescent_Reference5Ideal := fun m ρ _ =>
  (θ_run _ _ _).mono (fun r h => ⟨fun c => (h c).2.2.2.2.2, sem_eq_zero_of_no_sems (by decide) r.2⟩) (Cert.Reference5Ideal.Value.run m ρ)

/-- The calls of the end of the convolution module over any floats: they end with their arguments as launched. -/
theorem frame5 {F : FTy → Type} [FloatOps F] (m : (ℓ : Loc Cert.Kernel5Ideal.nD Cert.Kernel5Ideal.τ Cert.Kernel5Ideal.sig) → Buf (Elt F) ℓ)
    (ρ : Dev Cert.Kernel5Ideal.nD → PrngReg) : θ_run (Cert.Kernel5Ideal.defs (F := F)) (onTc (τ := Cert.Kernel5Ideal.τ) (Cert.Kernel5Ideal.main (F := F))) ⟨m, fun _ => 0, ρ⟩
      (fun r => (∀ c : Dev Cert.Kernel5Ideal.nD, Cert.Kernel5Ideal.Hand.Kept m c r.2) ∧ r.2.sem = fun _ => 0) :=
  (θ_run _ _ _).mono (fun r h => ⟨fun c => (h.1 c).1, h.2⟩) (Cert.Kernel5Ideal.Hand.run_tail m ρ)

set_option maxHeartbeats 16000000 in
/-- The machine's floats included. -/
theorem frameKernel5 : Cert.quiescent_Kernel5 := by
  intro m ρ _
  rw [defs5_eq]
  exact frame5 (F := Bits) m ρ

open Cert.Kernel5Ideal.Hand Cert.Conv in
/-- The end of the convolution module and its gradients: the two programs return the same. -/
theorem algebraic5 : Cert.algebraic_Kernel5Ideal_Reference5Ideal := by
  intro m g m' g' _ harg
  refine ⟨fun c x => out (aH m c) (aY m c) (aG m c) (aB m c) (aW m c) (x 0) (x 1),
    fun c x => gradY (aY m c) (aG m c) (aB m c) (aW m c) (aD m c) (x 0) (x 1),
    fun c x => gradG (aY m c) (aG m c) (aB m c) (aW m c) (aD m c) (x 1), fun c x => gradB (aY m c) (aG m c) (aB m c) (aW m c) (aD m c) (x 1),
    fun c x => gradW (aY m c) (aG m c) (aB m c) (aD m c) (x 0) (x 1), ?_, ?_⟩
  · refine (θ_run _ _ _).mono (fun r h c => ?_) (run_tail m g)
    obtain ⟨ha, h0, h1, h2, h3, h4⟩ := h.1 c
    exact ⟨h0.trans (v3_eq m c), h1.trans (v60_eq m c), h2.trans (v61_eq m c), h3.trans (v62_eq m c), h4.trans (v5_eq m c), ha⟩
  · refine (θ_run _ _ _).mono (fun r h c => ?_) (Cert.Reference5Ideal.Value.run m' g')
    obtain ⟨h0, h1, h2, h3, h4, h5⟩ := h c
    obtain ⟨a0, a1, a2, a3, a4, a5⟩ := harg c
    refine ⟨h0.trans ?_, h1.trans ?_, h2.trans ?_, h3.trans ?_, h4.trans ?_, h5⟩
    · rw [Cert.Reference5Ideal.Read.val_main_v25_eq, a0, a1, a2, a3, a4]
      funext i
      exact (congrArg _ (eq_ix2 (n0 := 2048) (n1 := 2048) i)).trans (Cert.Reference5Ideal.Hand.v25_at _ _ _ _ _ (i 0) (i 1))
    · rw [Cert.Reference5Ideal.Read.val_main_v59_eq, a1, a2, a3, a4, a5]
      funext i
      exact (congrArg _ (eq_ix2 (n0 := 2048) (n1 := 2048) i)).trans (Cert.Reference5Ideal.Hand.v59_at _ _ _ _ _ (i 0) (i 1))
    · rw [Cert.Reference5Ideal.Read.val_main_v35_eq, a1, a2, a3, a4, a5]
      funext i
      exact (congrArg _ (row i)).trans (Cert.Reference5Ideal.Hand.v35_at _ _ _ _ _ (i 1))
    · rw [Cert.Reference5Ideal.Read.val_main_v32_eq, a1, a2, a3, a4, a5]
      funext i
      exact (congrArg _ (row i)).trans (Cert.Reference5Ideal.Hand.v32_at _ _ _ _ _ (i 1))
    · rw [Cert.Reference5Ideal.Read.val_main_v60_eq, a1, a2, a3, a5]
      funext i
      exact (congrArg _ (eq_ix2 (n0 := 2048) (n1 := 2048) i)).trans (Cert.Reference5Ideal.Hand.v60_at _ _ _ _ (i 0) (i 1))

/-- Every claim of this certificate. -/
theorem claim : Cert.Claim := by
  refine ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite_qk.Gen.facts, Cert.Pre_finite_ffn.Gen.facts,
    frameKernel, fun m ρ _ => Cert.KernelIdeal.Hand.frame m ρ, fun m ρ _ => Cert.KernelIdeal.Hand.frame m ρ,
    refFrame, fun m ρ _ => refFrame m ρ trivial, frameKernel2, fun m ρ _ => frame2 m ρ, fun m ρ _ => frame2 m ρ,
    refFrame2, fun m ρ _ => refFrame2 m ρ trivial,
    frameKernel3, fun m ρ _ => frame3 m ρ, refFrame3,
    frameKernel4, fun m ρ _ => frame4 m ρ, refFrame4,
    frameKernel5, fun m ρ _ => frame5 m ρ, refFrame5, trivial, ?_, trivial, algebraic2, trivial, algebraic3, trivial, algebraic4, trivial, algebraic5⟩
  · intro m g m' g' hpre harg
    have hr := fun c => real_of_pre _ _ _ _ (hpre c)
    refine ⟨fun c i => gradQ (aQ m c) (aK m c) (aV m c) (aO m c) (i 0) (i 1) (i 2),
      fun c i => gradK (aQ m c) (aK m c) (aV m c) (aO m c) (i 0) (i 1) (i 2), fun c i => gradV (aQ m c) (aK m c) (aO m c) (i 0) (i 1) (i 2), ?_, ?_⟩
    · refine (θ_run _ _ _).mono (fun r h c => ?_) (θ_run_and (run_main m g) (Cert.KernelIdeal.Hand.frame m g))
      exact ⟨((h.1.1 c).1 4).trans (final4 m c (hr c).1 (hr c).2), ((h.1.1 c).1 5).trans (final5 m c (hr c).1 (hr c).2),
        ((h.1.1 c).1 6).trans (final6 m c (hr c).1 (hr c).2), h.2.1 c⟩
    · refine (θ_run _ _ _).mono (fun r h c => ?_) (Cert.ReferenceIdeal.Value.run m' g')
      obtain ⟨h0, h1, h2, h3⟩ := h c
      obtain ⟨a0, a1, a2, a3⟩ := harg c
      refine ⟨h0.trans ?_, h1.trans ?_, h2.trans ?_, h3⟩
      · rw [Cert.ReferenceIdeal.Read.val_main_v65_eq, a0, a1, a2, a3]
        funext i
        refine (congrArg _ (eq_ix3 (n0 := 16) (n1 := 2048) (n2 := 256) i)).trans ?_
        exact Cert.ReferenceIdeal.Hand.v65_at _ _ _ _ (hr c).1 (hr c).2 (i 0) (i 1) (i 2)
      · rw [Cert.ReferenceIdeal.Read.val_main_v67_eq, a0, a1, a2, a3]
        funext i
        refine (congrArg _ (eq_ix3 (n0 := 16) (n1 := 2048) (n2 := 256) i)).trans ?_
        exact Cert.ReferenceIdeal.Hand.v67_at _ _ _ _ (hr c).1 (hr c).2 (i 0) (i 1) (i 2)
      · rw [Cert.ReferenceIdeal.Read.val_main_v68_eq, a0, a1, a3]
        funext i
        refine (congrArg _ (eq_ix3 (n0 := 16) (n1 := 2048) (n2 := 128) i)).trans ?_
        exact Cert.ReferenceIdeal.Hand.v68_at _ _ _ (i 0) (i 1) (i 2)

end Cert.Proof

end
